-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v17) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v28_0)) (v1 : (c : Dev Cert.Kernel12Ideal.nD) → Buf (Elt Ideal) ((c.tc : Thread Cert.Kernel12Ideal.nD Cert.Kernel12Ideal.τ).loc Cert.Kernel12Ideal.main_v28_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v28_0) = v0 c
          ∧ r.2.mem ((c.tc : Thread Cert.Kernel12Ideal.nD Cert.Kernel12Ideal.τ).loc Cert.Kernel12Ideal.main_v28_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v42) = v0 c
          ∧ r.2.mem ((c.tc : Thread Cert.Reference12Ideal.nD Cert.Reference12Ideal.τ).loc Cert.Reference12Ideal.main_v43) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v28_0)) (v1 : (c : Dev Cert.Kernel5Ideal.nD) → Buf (Elt Ideal) ((c.tc : Thread Cert.Kernel5Ideal.nD Cert.Kernel5Ideal.τ).loc Cert.Kernel5Ideal.main_v28_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28_0) = v0 c
          ∧ r.2.mem ((c.tc : Thread Cert.Kernel5Ideal.nD Cert.Kernel5Ideal.τ).loc Cert.Kernel5Ideal.main_v28_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v12) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v28)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v28) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v30_0)) (v1 : (c : Dev Cert.Kernel6Ideal.nD) → Buf (Elt Ideal) ((c.tc : Thread Cert.Kernel6Ideal.nD Cert.Kernel6Ideal.τ).loc Cert.Kernel6Ideal.main_v30_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v30_0) = v0 c
          ∧ r.2.mem ((c.tc : Thread Cert.Kernel6Ideal.nD Cert.Kernel6Ideal.τ).loc Cert.Kernel6Ideal.main_v30_3) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_v45) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v30_0)) (v1 : (c : Dev Cert.Kernel14Ideal.nD) → Buf (Elt Ideal) ((c.tc : Thread Cert.Kernel14Ideal.nD Cert.Kernel14Ideal.τ).loc Cert.Kernel14Ideal.main_v30_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v30_0) = v0 c
          ∧ r.2.mem ((c.tc : Thread Cert.Kernel14Ideal.nD Cert.Kernel14Ideal.τ).loc Cert.Kernel14Ideal.main_v30_3) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v45) = v0 c
          ∧ r.2.mem ((c.tc : Thread Cert.Reference14Ideal.nD Cert.Reference14Ideal.τ).loc Cert.Reference14Ideal.main_v46) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v28)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v28) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v42) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v28)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v28) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v43) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v9_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v9_0)) (v1 : (c : Dev Cert.Kernel17Ideal.nD) → Buf (Elt Ideal) ((c.tc : Thread Cert.Kernel17Ideal.nD Cert.Kernel17Ideal.τ).loc Cert.Kernel17Ideal.main_v9_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v9_0) = v0 c
          ∧ r.2.mem ((c.tc : Thread Cert.Kernel17Ideal.nD Cert.Kernel17Ideal.τ).loc Cert.Kernel17Ideal.main_v9_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v26) = v0 c
          ∧ r.2.mem ((c.tc : Thread Cert.Reference17Ideal.nD Cert.Reference17Ideal.τ).loc Cert.Reference17Ideal.main_v28) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v29_0)) (v1 : (c : Dev Cert.Kernel8Ideal.nD) → Buf (Elt Ideal) ((c.tc : Thread Cert.Kernel8Ideal.nD Cert.Kernel8Ideal.τ).loc Cert.Kernel8Ideal.main_v29_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v29_0) = v0 c
          ∧ r.2.mem ((c.tc : Thread Cert.Kernel8Ideal.nD Cert.Kernel8Ideal.τ).loc Cert.Kernel8Ideal.main_v29_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v64) = v0 c
          ∧ r.2.mem ((c.tc : Thread Cert.Reference8Ideal.nD Cert.Reference8Ideal.τ).loc Cert.Reference8Ideal.main_v66) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v29_0)) (v1 : (c : Dev Cert.Kernel16Ideal.nD) → Buf (Elt Ideal) ((c.tc : Thread Cert.Kernel16Ideal.nD Cert.Kernel16Ideal.τ).loc Cert.Kernel16Ideal.main_v29_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v29_0) = v0 c
          ∧ r.2.mem ((c.tc : Thread Cert.Kernel16Ideal.nD Cert.Kernel16Ideal.τ).loc Cert.Kernel16Ideal.main_v29_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v65) = v0 c
          ∧ r.2.mem ((c.tc : Thread Cert.Reference16Ideal.nD Cert.Reference16Ideal.τ).loc Cert.Reference16Ideal.main_v67) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v10)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v10) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v253) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v7)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v7) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v252) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel15 : Cert.Kernel15.Facts) (hKernel15Ideal : Cert.Kernel15Ideal.Facts) (hReference15Ideal : Cert.Reference15Ideal.Facts) (hKernel4 : Cert.Kernel4.Facts) (hKernel4Ideal : Cert.Kernel4Ideal.Facts) (hReference4Ideal : Cert.Reference4Ideal.Facts) (hKernel12 : Cert.Kernel12.Facts) (hKernel12Ideal : Cert.Kernel12Ideal.Facts) (hReference12Ideal : Cert.Reference12Ideal.Facts) (hKernel5 : Cert.Kernel5.Facts) (hKernel5Ideal : Cert.Kernel5Ideal.Facts) (hReference5Ideal : Cert.Reference5Ideal.Facts) (hKernel13 : Cert.Kernel13.Facts) (hKernel13Ideal : Cert.Kernel13Ideal.Facts) (hReference13Ideal : Cert.Reference13Ideal.Facts) (hKernel6 : Cert.Kernel6.Facts) (hKernel6Ideal : Cert.Kernel6Ideal.Facts) (hReference6Ideal : Cert.Reference6Ideal.Facts) (hKernel14 : Cert.Kernel14.Facts) (hKernel14Ideal : Cert.Kernel14Ideal.Facts) (hReference14Ideal : Cert.Reference14Ideal.Facts) (hKernel10 : Cert.Kernel10.Facts) (hKernel10Ideal : Cert.Kernel10Ideal.Facts) (hReference10Ideal : Cert.Reference10Ideal.Facts) (hKernel18 : Cert.Kernel18.Facts) (hKernel18Ideal : Cert.Kernel18Ideal.Facts) (hReference18Ideal : Cert.Reference18Ideal.Facts) (hKernel9 : Cert.Kernel9.Facts) (hKernel9Ideal : Cert.Kernel9Ideal.Facts) (hReference9Ideal : Cert.Reference9Ideal.Facts) (hKernel17 : Cert.Kernel17.Facts) (hKernel17Ideal : Cert.Kernel17Ideal.Facts) (hReference17Ideal : Cert.Reference17Ideal.Facts) (hKernel11 : Cert.Kernel11.Facts) (hKernel11Ideal : Cert.Kernel11Ideal.Facts) (hReference11Ideal : Cert.Reference11Ideal.Facts) (hKernel8 : Cert.Kernel8.Facts) (hKernel8Ideal : Cert.Kernel8Ideal.Facts) (hReference8Ideal : Cert.Reference8Ideal.Facts) (hKernel16 : Cert.Kernel16.Facts) (hKernel16Ideal : Cert.Kernel16Ideal.Facts) (hReference16Ideal : Cert.Reference16Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel7 : Cert.Kernel7.Facts) (hKernel7Ideal : Cert.Kernel7Ideal.Facts) (hReference7Ideal : Cert.Reference7Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel15_Kernel15Ideal
    ∧ algebraic_Kernel15Ideal_Reference15Ideal (hKernel15Ideal := hKernel15Ideal) (hReference15Ideal := hReference15Ideal)
    ∧ preserves_Kernel4_Kernel4Ideal
    ∧ algebraic_Kernel4Ideal_Reference4Ideal (hKernel4Ideal := hKernel4Ideal) (hReference4Ideal := hReference4Ideal)
    ∧ preserves_Kernel12_Kernel12Ideal
    ∧ algebraic_Kernel12Ideal_Reference12Ideal (hKernel12Ideal := hKernel12Ideal) (hReference12Ideal := hReference12Ideal)
    ∧ preserves_Kernel5_Kernel5Ideal
    ∧ algebraic_Kernel5Ideal_Reference5Ideal (hKernel5Ideal := hKernel5Ideal) (hReference5Ideal := hReference5Ideal)
    ∧ preserves_Kernel13_Kernel13Ideal
    ∧ algebraic_Kernel13Ideal_Reference13Ideal (hKernel13Ideal := hKernel13Ideal) (hReference13Ideal := hReference13Ideal)
    ∧ preserves_Kernel6_Kernel6Ideal
    ∧ algebraic_Kernel6Ideal_Reference6Ideal (hKernel6Ideal := hKernel6Ideal) (hReference6Ideal := hReference6Ideal)
    ∧ preserves_Kernel14_Kernel14Ideal
    ∧ algebraic_Kernel14Ideal_Reference14Ideal (hKernel14Ideal := hKernel14Ideal) (hReference14Ideal := hReference14Ideal)
    ∧ preserves_Kernel10_Kernel10Ideal
    ∧ algebraic_Kernel10Ideal_Reference10Ideal (hKernel10Ideal := hKernel10Ideal) (hReference10Ideal := hReference10Ideal)
    ∧ preserves_Kernel18_Kernel18Ideal
    ∧ algebraic_Kernel18Ideal_Reference18Ideal (hKernel18Ideal := hKernel18Ideal) (hReference18Ideal := hReference18Ideal)
    ∧ preserves_Kernel9_Kernel9Ideal
    ∧ algebraic_Kernel9Ideal_Reference9Ideal (hKernel9Ideal := hKernel9Ideal) (hReference9Ideal := hReference9Ideal)
    ∧ preserves_Kernel17_Kernel17Ideal
    ∧ algebraic_Kernel17Ideal_Reference17Ideal (hKernel17Ideal := hKernel17Ideal) (hReference17Ideal := hReference17Ideal)
    ∧ preserves_Kernel11_Kernel11Ideal
    ∧ algebraic_Kernel11Ideal_Reference11Ideal (hKernel11Ideal := hKernel11Ideal) (hReference11Ideal := hReference11Ideal)
    ∧ preserves_Kernel8_Kernel8Ideal
    ∧ algebraic_Kernel8Ideal_Reference8Ideal (hKernel8Ideal := hKernel8Ideal) (hReference8Ideal := hReference8Ideal)
    ∧ preserves_Kernel16_Kernel16Ideal
    ∧ algebraic_Kernel16Ideal_Reference16Ideal (hKernel16Ideal := hKernel16Ideal) (hReference16Ideal := hReference16Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel7_Kernel7Ideal
    ∧ algebraic_Kernel7Ideal_Reference7Ideal (hKernel7Ideal := hKernel7Ideal) (hReference7Ideal := hReference7Ideal)
-- ==== Kernel2.lean ====
abbrev S2x4096x2048 : Shape := ⟨3, ![2, 4096, 2048]⟩
abbrev S1x2048x8192 : Shape := ⟨3, ![1, 2048, 8192]⟩
abbrev S1x8192x2048 : Shape := ⟨3, ![1, 8192, 2048]⟩
abbrev S2x1x2048 : Shape := ⟨3, ![2, 1, 2048]⟩
abbrev S2048 : Shape := ⟨1, ![2048]⟩
abbrev S8192x2048 : Shape := ⟨2, ![8192, 2048]⟩
abbrev S2048x8192 : Shape := ⟨2, ![2048, 8192]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S1x1x2048 : Shape := ⟨3, ![1, 1, 2048]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S1x2048x8192, .f32⟩
  | .hbm, ⟨2, _⟩ => ⟨S1x8192x2048, .f32⟩
  | .hbm, ⟨3, _⟩ => ⟨S2x4096x2048, .f32⟩
  | .hbm, ⟨4, _⟩ => ⟨S2x1x2048, .f32⟩
  | .hbm, ⟨5, _⟩ => ⟨S2048, .f32⟩
  | .hbm, ⟨6, _⟩ => ⟨S8192x2048, .f32⟩
  | .hbm, ⟨7, _⟩ => ⟨S8192x2048, .bf16⟩
  | .hbm, ⟨8, _⟩ => ⟨S2048x8192, .f32⟩
  | .hbm, ⟨9, _⟩ => ⟨S2048x8192, .bf16⟩
  | .hbm, ⟨10, _⟩ => ⟨S8192x2048, .f32⟩
  | .hbm, ⟨11, _⟩ => ⟨S8192x2048, .bf16⟩
  | .hbm, ⟨12, _⟩ => ⟨S8192x2048, .f32⟩
  | .hbm, ⟨13, _⟩ => ⟨S1x2048, .f32⟩
  | .hbm, ⟨14, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S2x4096x2048 : Shape := ⟨3, ![2, 4096, 2048]⟩
abbrev S1x2048x8192 : Shape := ⟨3, ![1, 2048, 8192]⟩
abbrev S1x8192x2048 : Shape := ⟨3, ![1, 8192, 2048]⟩
abbrev S2x1x2048 : Shape := ⟨3, ![2, 1, 2048]⟩
abbrev S2048 : Shape := ⟨1, ![2048]⟩
abbrev S2048x8192 : Shape := ⟨2, ![2048, 8192]⟩
abbrev S2x4096x8192 : Shape := ⟨3, ![2, 4096, 8192]⟩
abbrev S_ : Shape := ⟨0, ![]⟩
abbrev S8192x2048 : Shape := ⟨2, ![8192, 2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x8192, .f32⟩
  | .hbm, ⟨2, _⟩ => ⟨S1x8192x2048, .f32⟩
  | .hbm, ⟨3, _⟩ => ⟨S2x4096x2048, .f32⟩
  | .hbm, ⟨4, _⟩ => ⟨S2x1x2048, .f32⟩
  | .hbm, ⟨5, _⟩ => ⟨S2048, .f32⟩
  | .hbm, ⟨6, _⟩ => ⟨S2048x8192, .f32⟩
  | .hbm, ⟨7, _⟩ => ⟨S2x4096x8192, .f32⟩
  | .hbm, ⟨8, _⟩ => ⟨S_, .f32⟩
  | .hbm, ⟨9, _⟩ => ⟨S2x4096x8192, .f32⟩
  | .hbm, ⟨10, _⟩ => ⟨S2x4096x8192, .f32⟩
  | .hbm, ⟨11, _⟩ => ⟨S2x4096x8192, .f32⟩
  | .hbm, ⟨12, _⟩ => ⟨S8192x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S_, .f32⟩
  | .hbm, ⟨19, _⟩ => ⟨S2x4096, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S2x4096x2048, .f32⟩
  | .hbm, ⟨29, _⟩ => ⟨S2x4096x2048, .f32⟩
  | .hbm, ⟨30, _⟩ => ⟨S1x1x2048, .f32⟩
  | .hbm, ⟨31, _⟩ => ⟨S2x4096x2048, .f32⟩
  | .hbm, ⟨32, _⟩ => ⟨S2x4096x2048, .f32⟩
  | .hbm, ⟨33, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel3.lean ====
abbrev S2x4096x2048 : Shape := ⟨3, ![2, 4096, 2048]⟩
abbrev S1x2048x6224 : Shape := ⟨3, ![1, 2048, 6224]⟩
abbrev S2048x6224 : Shape := ⟨2, ![2048, 6224]⟩
abbrev S6224x2048 : Shape := ⟨2, ![6224, 2048]⟩
abbrev S8192x2048 : Shape := ⟨2, ![8192, 2048]⟩
abbrev S8192x1024 : Shape := ⟨2, ![8192, 1024]⟩
abbrev S512x2048 : Shape := ⟨2, ![512, 2048]⟩
abbrev S512x512 : Shape := ⟨2, ![512, 512]⟩
abbrev S2048x512 : Shape := ⟨2, ![2048, 512]⟩

abbrev nBuf : Space → Nat
  | .hbm => 7
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6224, .f32⟩
  | .hbm, ⟨2, _⟩ => ⟨S2048x6224, .f32⟩
  | .hbm, ⟨3, _⟩ => ⟨S6224x2048, .f32⟩
  | .hbm, ⟨4, _⟩ => ⟨S8192x2048, .f32⟩
  | .hbm, ⟨5, _⟩ => ⟨S8192x2048, .bf16⟩
  | .hbm, ⟨6, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x512, .f32⟩
  | .local _ .vmem, ⟨7, _⟩ => ⟨S512x512, .f32⟩
  | .local _ .vmem, ⟨8, _⟩ => ⟨S2048x512, .bf16⟩
  | .local _ .vmem, ⟨9, _⟩ => ⟨S2048x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x4096x2048 : Shape := ⟨3, ![2, 4096, 2048]⟩
abbrev S1x2048x6224 : Shape := ⟨3, ![1, 2048, 6224]⟩
abbrev S2048x6224 : Shape := ⟨2, ![2048, 6224]⟩
abbrev S2x4096x6224 : Shape := ⟨3, ![2, 4096, 6224]⟩
abbrev S2x4096x1024 : Shape := ⟨3, ![2, 4096, 1024]⟩
abbrev S2x4096x64 : Shape := ⟨3, ![2, 4096, 64]⟩
abbrev S2x4096x16 : Shape := ⟨3, ![2, 4096, 16]⟩
abbrev S_ : Shape := ⟨0, ![]⟩
abbrev S8192x1024 : Shape := ⟨2, ![8192, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6224, .f32⟩
  | .hbm, ⟨2, _⟩ => ⟨S2048x6224, .f32⟩
  | .hbm, ⟨3, _⟩ => ⟨S2x4096x6224, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x64, .f32⟩
  | .hbm, ⟨11, _⟩ => ⟨S2x4096x16, .f32⟩
  | .hbm, ⟨12, _⟩ => ⟨S2x4096x1024, .f32⟩
  | .hbm, ⟨13, _⟩ => ⟨S2x4096x1024, .f32⟩
  | .hbm, ⟨14, _⟩ => ⟨S_, .f32⟩
  | .hbm, ⟨15, _⟩ => ⟨S2x4096x1024, .f32⟩
  | .hbm, ⟨16, _⟩ => ⟨S2x4096x1024, .f32⟩
  | .hbm, ⟨17, _⟩ => ⟨S_, .f32⟩
  | .hbm, ⟨18, _⟩ => ⟨S2x4096x1024, .f32⟩
  | .hbm, ⟨19, _⟩ => ⟨S2x4096x1024, .f32⟩
  | .hbm, ⟨20, _⟩ => ⟨S2x4096x1024, .f32⟩
  | .hbm, ⟨21, _⟩ => ⟨S8192x1024, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel15.lean ====
abbrev S32x1x2048 : Shape := ⟨3, ![32, 1, 2048]⟩
abbrev S1x2048x6224 : Shape := ⟨3, ![1, 2048, 6224]⟩
abbrev S2048x6224 : Shape := ⟨2, ![2048, 6224]⟩
abbrev S6224x2048 : Shape := ⟨2, ![6224, 2048]⟩
abbrev S32x2048 : Shape := ⟨2, ![32, 2048]⟩
abbrev S32x1024 : Shape := ⟨2, ![32, 1024]⟩
abbrev S512x2048 : Shape := ⟨2, ![512, 2048]⟩
abbrev S32x512 : Shape := ⟨2, ![32, 512]⟩
abbrev S2048x512 : Shape := ⟨2, ![2048, 512]⟩

abbrev nBuf : Space → Nat
  | .hbm => 7
  | .vmem => 9
  | .smem => 0
  | _ => 0

abbrev bufTy : (tb : Table) → Fin (tcTables nBuf tb) → BufTy
  | .hbm, ⟨0, _⟩ => ⟨S32x1x2048, .f32⟩
  | .hbm, ⟨1, _⟩ => ⟨S1x2048x6224, .f32⟩
  | .hbm, ⟨2, _⟩ => ⟨S2048x6224, .f32⟩
  | .hbm, ⟨3, _⟩ => ⟨S6224x2048, .f32⟩
  | .hbm, ⟨4, _⟩ => ⟨S32x2048, .f32⟩
  | .hbm, ⟨5, _⟩ => ⟨S32x2048, .bf16⟩
  | .hbm, ⟨6, _⟩ => ⟨S32x1024, .f32⟩
  | .local _ .vmem, ⟨0, _⟩ => ⟨S32x2048, .bf16⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S32x512, .f32⟩
  | .local _ .vmem, ⟨6, _⟩ => ⟨S32x512, .f32⟩
  | .local _ .vmem, ⟨7, _⟩ => ⟨S2048x512, .bf16⟩
  | .local _ .vmem, ⟨8, _⟩ => ⟨S2048x512, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S32x1x2048 : Shape := ⟨3, ![32, 1, 2048]⟩
abbrev S1x2048x6224 : Shape := ⟨3, ![1, 2048, 6224]⟩
abbrev S2048x6224 : Shape := ⟨2, ![2048, 6224]⟩
abbrev S32x1x6224 : Shape := ⟨3, ![32, 1, 6224]⟩
abbrev S32x1x1024 : Shape := ⟨3, ![32, 1, 1024]⟩
abbrev S32x1x64 : Shape := ⟨3, ![32, 1, 64]⟩
abbrev S32x1x16 : Shape := ⟨3, ![32, 1, 16]⟩
abbrev S_ : Shape := ⟨0, ![]⟩
abbrev S32x1024 : Shape := ⟨2, ![32, 1024]⟩

abbrev nBuf : Space → Nat
  | .hbm => 22
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048x6224, .f32⟩
  | .hbm, ⟨2, _⟩ => ⟨S2048x6224, .f32⟩
  | .hbm, ⟨3, _⟩ => ⟨S32x1x6224, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x64, .f32⟩
  | .hbm, ⟨11, _⟩ => ⟨S32x1x16, .f32⟩
  | .hbm, ⟨12, _⟩ => ⟨S32x1x1024, .f32⟩
  | .hbm, ⟨13, _⟩ => ⟨S32x1x1024, .f32⟩
  | .hbm, ⟨14, _⟩ => ⟨S_, .f32⟩
  | .hbm, ⟨15, _⟩ => ⟨S32x1x1024, .f32⟩
  | .hbm, ⟨16, _⟩ => ⟨S32x1x1024, .f32⟩
  | .hbm, ⟨17, _⟩ => ⟨S_, .f32⟩
  | .hbm, ⟨18, _⟩ => ⟨S32x1x1024, .f32⟩
  | .hbm, ⟨19, _⟩ => ⟨S32x1x1024, .f32⟩
  | .hbm, ⟨20, _⟩ => ⟨S32x1x1024, .f32⟩
  | .hbm, ⟨21, _⟩ => ⟨S32x1024, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel4.lean ====
abbrev S2x4096x2048 : Shape := ⟨3, ![2, 4096, 2048]⟩
abbrev S1x2048x6224 : Shape := ⟨3, ![1, 2048, 6224]⟩
abbrev S2048x6224 : Shape := ⟨2, ![2048, 6224]⟩
abbrev S6224x2048 : Shape := ⟨2, ![6224, 2048]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S8192x2048 : Shape := ⟨2, ![8192, 2048]⟩
abbrev S8192x1024 : Shape := ⟨2, ![8192, 1024]⟩
abbrev S512x2048 : Shape := ⟨2, ![512, 2048]⟩
abbrev S1024x2048 : Shape := ⟨2, ![1024, 2048]⟩
abbrev S512x128 : Shape := ⟨2, ![512, 128]⟩
abbrev S512x1024 : Shape := ⟨2, ![512, 1024]⟩
abbrev S2048x1024 : Shape := ⟨2, ![2048, 1024]⟩

abbrev nBuf : Space → Nat
  | .hbm => 34
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6224, .f32⟩
  | .hbm, ⟨2, _⟩ => ⟨S2048x6224, .f32⟩
  | .hbm, ⟨3, _⟩ => ⟨S6224x2048, .f32⟩
  | .hbm, ⟨4, _⟩ => ⟨S4096, .i32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S4096, .f32⟩
  | .hbm, ⟨14, _⟩ => ⟨S4096x1, .f32⟩
  | .hbm, ⟨15, _⟩ => ⟨S1x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x128, .f32⟩
  | .hbm, ⟨22, _⟩ => ⟨S1x4096x1x128, .f32⟩
  | .hbm, ⟨23, _⟩ => ⟨S1x4096x1x128, .f32⟩
  | .hbm, ⟨24, _⟩ => ⟨S4096x128, .f32⟩
  | .hbm, ⟨25, _⟩ => ⟨S4096x64, .f32⟩
  | .hbm, ⟨26, _⟩ => ⟨S4096x128, .f32⟩
  | .hbm, ⟨27, _⟩ => ⟨S1x4096x1x128, .f32⟩
  | .hbm, ⟨28, _⟩ => ⟨S1x4096x1x128, .f32⟩
  | .hbm, ⟨29, _⟩ => ⟨S4096x128, .f32⟩
  | .hbm, ⟨30, _⟩ => ⟨S8192x2048, .f32⟩
  | .hbm, ⟨31, _⟩ => ⟨S8192x2048, .bf16⟩
  | .hbm, ⟨32, _⟩ => ⟨S8192x1024, .f32⟩
  | .hbm, ⟨33, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S2048x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28_0 : Ref sig .tc := ⟨.hbm, 32, rfl⟩
abbrev main_v28_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2x4096x2048 : Shape := ⟨3, ![2, 4096, 2048]⟩
abbrev S1x2048x6224 : Shape := ⟨3, ![1, 2048, 6224]⟩
abbrev S2048x6224 : Shape := ⟨2, ![2048, 6224]⟩
abbrev S2x4096x6224 : Shape := ⟨3, ![2, 4096, 6224]⟩
abbrev S2x4096x1024 : Shape := ⟨3, ![2, 4096, 1024]⟩
abbrev S2x4096x64 : Shape := ⟨3, ![2, 4096, 64]⟩
abbrev S2x4096x16 : Shape := ⟨3, ![2, 4096, 16]⟩
abbrev S2x4096x8x128 : Shape := ⟨4, ![2, 4096, 8, 128]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S2x4096x8x64 : Shape := ⟨4, ![2, 4096, 8, 64]⟩
abbrev S8192x1024 : Shape := ⟨2, ![8192, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6224, .f32⟩
  | .hbm, ⟨2, _⟩ => ⟨S2048x6224, .f32⟩
  | .hbm, ⟨3, _⟩ => ⟨S2x4096x6224, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x64, .f32⟩
  | .hbm, ⟨11, _⟩ => ⟨S2x4096x16, .f32⟩
  | .hbm, ⟨12, _⟩ => ⟨S2x4096x8x128, .f32⟩
  | .hbm, ⟨13, _⟩ => ⟨S4096, .i32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S4096, .f32⟩
  | .hbm, ⟨23, _⟩ => ⟨S4096x1, .f32⟩
  | .hbm, ⟨24, _⟩ => ⟨S1x64, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S1x4096x1x64, .f32⟩
  | .hbm, ⟨30, _⟩ => ⟨S4096x64, .f32⟩
  | .hbm, ⟨31, _⟩ => ⟨S1x4096x1x64, .f32⟩
  | .hbm, ⟨32, _⟩ => ⟨S2x4096x8x64, .f32⟩
  | .hbm, ⟨33, _⟩ => ⟨S2x4096x8x64, .f32⟩
  | .hbm, ⟨34, _⟩ => ⟨S2x4096x8x64, .f32⟩
  | .hbm, ⟨35, _⟩ => ⟨S2x4096x8x64, .f32⟩
  | .hbm, ⟨36, _⟩ => ⟨S2x4096x8x64, .f32⟩
  | .hbm, ⟨37, _⟩ => ⟨S2x4096x8x64, .f32⟩
  | .hbm, ⟨38, _⟩ => ⟨S2x4096x8x64, .f32⟩
  | .hbm, ⟨39, _⟩ => ⟨S2x4096x8x64, .f32⟩
  | .hbm, ⟨40, _⟩ => ⟨S2x4096x8x64, .f32⟩
  | .hbm, ⟨41, _⟩ => ⟨S2x4096x8x64, .f32⟩
  | .hbm, ⟨42, _⟩ => ⟨S2x4096x8x64, .f32⟩
  | .hbm, ⟨43, _⟩ => ⟨S2x4096x8x64, .f32⟩
  | .hbm, ⟨44, _⟩ => ⟨S2x4096x8x128, .f32⟩
  | .hbm, ⟨45, _⟩ => ⟨S8192x1024, .f32⟩
  | .hbm, ⟨46, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩

abbrev nD : Nat := 1
abbrev τ : Topo := Topo.v7x

variable {F : FTy → Type} [FloatOps F]
-- ==== Kernel12.lean ====
abbrev S32x1x2048 : Shape := ⟨3, ![32, 1, 2048]⟩
abbrev S1x2048x6224 : Shape := ⟨3, ![1, 2048, 6224]⟩
abbrev S2048x6224 : Shape := ⟨2, ![2048, 6224]⟩
abbrev S6224x2048 : Shape := ⟨2, ![6224, 2048]⟩
abbrev S_ : Shape := ⟨0, ![]⟩
abbrev S32 : Shape := ⟨1, ![32]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S32x128 : Shape := ⟨2, ![32, 128]⟩
abbrev S1x32x1x128 : Shape := ⟨4, ![1, 32, 1, 128]⟩
abbrev S32x2048 : Shape := ⟨2, ![32, 2048]⟩
abbrev S32x1024 : Shape := ⟨2, ![32, 1024]⟩
abbrev S1024x2048 : Shape := ⟨2, ![1024, 2048]⟩
abbrev S2048x1024 : Shape := ⟨2, ![2048, 1024]⟩

abbrev nBuf : Space → Nat
  | .hbm => 35
  | .vmem => 7
  | .smem => 0
  | _ => 0

abbrev bufTy : (tb : Table) → Fin (tcTables nBuf tb) → BufTy
  | .hbm, ⟨0, _⟩ => ⟨S32x1x2048, .f32⟩
  | .hbm, ⟨1, _⟩ => ⟨S1x2048x6224, .f32⟩
  | .hbm, ⟨2, _⟩ => ⟨S2048x6224, .f32⟩
  | .hbm, ⟨3, _⟩ => ⟨S6224x2048, .f32⟩
  | .hbm, ⟨4, _⟩ => ⟨S_, .i32⟩
  | .hbm, ⟨5, _⟩ => ⟨S32, .i32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S32, .f32⟩
  | .hbm, ⟨15, _⟩ => ⟨S32x1, .f32⟩
  | .hbm, ⟨16, _⟩ => ⟨S1x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x128, .f32⟩
  | .hbm, ⟨23, _⟩ => ⟨S1x32x1x128, .f32⟩
  | .hbm, ⟨24, _⟩ => ⟨S1x32x1x128, .f32⟩
  | .hbm, ⟨25, _⟩ => ⟨S32x128, .f32⟩
  | .hbm, ⟨26, _⟩ => ⟨S32x64, .f32⟩
  | .hbm, ⟨27, _⟩ => ⟨S32x128, .f32⟩
  | .hbm, ⟨28, _⟩ => ⟨S1x32x1x128, .f32⟩
  | .hbm, ⟨29, _⟩ => ⟨S1x32x1x128, .f32⟩
  | .hbm, ⟨30, _⟩ => ⟨S32x128, .f32⟩
  | .hbm, ⟨31, _⟩ => ⟨S32x2048, .f32⟩
  | .hbm, ⟨32, _⟩ => ⟨S32x2048, .bf16⟩
  | .hbm, ⟨33, _⟩ => ⟨S32x1024, .f32⟩
  | .hbm, ⟨34, _⟩ => ⟨S32x1024, .bf16⟩
  | .local _ .vmem, ⟨0, _⟩ => ⟨S32x2048, .bf16⟩
  | .local _ .vmem, ⟨1, _⟩ => ⟨S1024x2048, .f32⟩
  | .local _ .vmem, ⟨2, _⟩ => ⟨S32x128, .f32⟩
  | .local _ .vmem, ⟨3, _⟩ => ⟨S32x128, .f32⟩
  | .local _ .vmem, ⟨4, _⟩ => ⟨S32x1024, .f32⟩
  | .local _ .vmem, ⟨5, _⟩ => ⟨S32x1024, .bf16⟩
  | .local _ .vmem, ⟨6, _⟩ => ⟨S2048x1024, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28_0 : Ref sig .tc := ⟨.hbm, 33, rfl⟩
abbrev main_v28_1 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference12Ideal.lean ====
abbrev S32x1x2048 : Shape := ⟨3, ![32, 1, 2048]⟩
abbrev S1x2048x6224 : Shape := ⟨3, ![1, 2048, 6224]⟩
abbrev S2048x6224 : Shape := ⟨2, ![2048, 6224]⟩
abbrev S32x1x6224 : Shape := ⟨3, ![32, 1, 6224]⟩
abbrev S32x1x1024 : Shape := ⟨3, ![32, 1, 1024]⟩
abbrev S32x1x64 : Shape := ⟨3, ![32, 1, 64]⟩
abbrev S32x1x16 : Shape := ⟨3, ![32, 1, 16]⟩
abbrev S32x1x8x128 : Shape := ⟨4, ![32, 1, 8, 128]⟩
abbrev S1 : Shape := ⟨1, ![1]⟩
abbrev S_ : Shape := ⟨0, ![]⟩
abbrev S64 : Shape := ⟨1, ![64]⟩
abbrev S1x1 : Shape := ⟨2, ![1, 1]⟩
abbrev S1x64 : Shape := ⟨2, ![1, 64]⟩
abbrev S1x1x1x64 : Shape := ⟨4, ![1, 1, 1, 64]⟩
abbrev S32x1x8x64 : Shape := ⟨4, ![32, 1, 8, 64]⟩
abbrev S32x1024 : Shape := ⟨2, ![32, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048x6224, .f32⟩
  | .hbm, ⟨2, _⟩ => ⟨S2048x6224, .f32⟩
  | .hbm, ⟨3, _⟩ => ⟨S32x1x6224, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x64, .f32⟩
  | .hbm, ⟨11, _⟩ => ⟨S32x1x16, .f32⟩
  | .hbm, ⟨12, _⟩ => ⟨S32x1x8x128, .f32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S1, .f32⟩
  | .hbm, ⟨26, _⟩ => ⟨S1x1, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x1x1x64, .f32⟩
  | .hbm, ⟨32, _⟩ => ⟨S1x64, .f32⟩
  | .hbm, ⟨33, _⟩ => ⟨S1x1x1x64, .f32⟩
  | .hbm, ⟨34, _⟩ => ⟨S32x1x8x64, .f32⟩
  | .hbm, ⟨35, _⟩ => ⟨S32x1x8x64, .f32⟩
  | .hbm, ⟨36, _⟩ => ⟨S32x1x8x64, .f32⟩
  | .hbm, ⟨37, _⟩ => ⟨S32x1x8x64, .f32⟩
  | .hbm, ⟨38, _⟩ => ⟨S32x1x8x64, .f32⟩
  | .hbm, ⟨39, _⟩ => ⟨S32x1x8x64, .f32⟩
  | .hbm, ⟨40, _⟩ => ⟨S32x1x8x64, .f32⟩
  | .hbm, ⟨41, _⟩ => ⟨S32x1x8x64, .f32⟩
  | .hbm, ⟨42, _⟩ => ⟨S32x1x8x64, .f32⟩
  | .hbm, ⟨43, _⟩ => ⟨S32x1x8x64, .f32⟩
  | .hbm, ⟨44, _⟩ => ⟨S32x1x8x64, .f32⟩
  | .hbm, ⟨45, _⟩ => ⟨S32x1x8x64, .f32⟩
  | .hbm, ⟨46, _⟩ => ⟨S32x1x8x128, .f32⟩
  | .hbm, ⟨47, _⟩ => ⟨S32x1024, .f32⟩
  | .hbm, ⟨48, _⟩ => ⟨S32x1024, .bf16⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩

abbrev nD : Nat := 1
abbrev τ : Topo := Topo.v7x

variable {F : FTy → Type} [FloatOps F]
-- ==== Kernel5.lean ====
abbrev S2x4096x2048 : Shape := ⟨3, ![2, 4096, 2048]⟩
abbrev S1x2048x6224 : Shape := ⟨3, ![1, 2048, 6224]⟩
abbrev S2048x6224 : Shape := ⟨2, ![2048, 6224]⟩
abbrev S6224x2048 : Shape := ⟨2, ![6224, 2048]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S8192x2048 : Shape := ⟨2, ![8192, 2048]⟩
abbrev S8192x1024 : Shape := ⟨2, ![8192, 1024]⟩
abbrev S2x1024x4096 : Shape := ⟨3, ![2, 1024, 4096]⟩
abbrev S512x2048 : Shape := ⟨2, ![512, 2048]⟩
abbrev S1024x2048 : Shape := ⟨2, ![1024, 2048]⟩
abbrev S512x128 : Shape := ⟨2, ![512, 128]⟩
abbrev S512x1024 : Shape := ⟨2, ![512, 1024]⟩
abbrev S1x1024x512 : Shape := ⟨3, ![1, 1024, 512]⟩
abbrev S2048x1024 : Shape := ⟨2, ![2048, 1024]⟩
abbrev S128x512 : Shape := ⟨2, ![128, 512]⟩
abbrev S1x128x512 : Shape := ⟨3, ![1, 128, 512]⟩

abbrev nBuf : Space → Nat
  | .hbm => 34
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6224, .f32⟩
  | .hbm, ⟨2, _⟩ => ⟨S2048x6224, .f32⟩
  | .hbm, ⟨3, _⟩ => ⟨S6224x2048, .f32⟩
  | .hbm, ⟨4, _⟩ => ⟨S4096, .i32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S4096, .f32⟩
  | .hbm, ⟨14, _⟩ => ⟨S4096x1, .f32⟩
  | .hbm, ⟨15, _⟩ => ⟨S1x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x128, .f32⟩
  | .hbm, ⟨22, _⟩ => ⟨S1x4096x1x128, .f32⟩
  | .hbm, ⟨23, _⟩ => ⟨S1x4096x1x128, .f32⟩
  | .hbm, ⟨24, _⟩ => ⟨S4096x128, .f32⟩
  | .hbm, ⟨25, _⟩ => ⟨S4096x64, .f32⟩
  | .hbm, ⟨26, _⟩ => ⟨S4096x128, .f32⟩
  | .hbm, ⟨27, _⟩ => ⟨S1x4096x1x128, .f32⟩
  | .hbm, ⟨28, _⟩ => ⟨S1x4096x1x128, .f32⟩
  | .hbm, ⟨29, _⟩ => ⟨S4096x128, .f32⟩
  | .hbm, ⟨30, _⟩ => ⟨S8192x2048, .f32⟩
  | .hbm, ⟨31, _⟩ => ⟨S8192x2048, .bf16⟩
  | .hbm, ⟨32, _⟩ => ⟨S8192x1024, .f32⟩
  | .hbm, ⟨33, _⟩ => ⟨S2x1024x4096, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x1024, .f32⟩
  | .local _ .vmem, ⟨8, _⟩ => ⟨S512x1024, .f32⟩
  | .local _ .vmem, ⟨9, _⟩ => ⟨S1x1024x512, .bf16⟩
  | .local _ .vmem, ⟨10, _⟩ => ⟨S1x1024x512, .bf16⟩
  | .local _ .vmem, ⟨11, _⟩ => ⟨S2048x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28_0 : Ref sig .tc := ⟨.hbm, 32, rfl⟩
abbrev main_v28_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S2x4096x2048 : Shape := ⟨3, ![2, 4096, 2048]⟩
abbrev S1x2048x6224 : Shape := ⟨3, ![1, 2048, 6224]⟩
abbrev S2048x6224 : Shape := ⟨2, ![2048, 6224]⟩
abbrev S2x4096x6224 : Shape := ⟨3, ![2, 4096, 6224]⟩
abbrev S2x4096x1024 : Shape := ⟨3, ![2, 4096, 1024]⟩
abbrev S2x4096x64 : Shape := ⟨3, ![2, 4096, 64]⟩
abbrev S2x4096x16 : Shape := ⟨3, ![2, 4096, 16]⟩
abbrev S8192x1024 : Shape := ⟨2, ![8192, 1024]⟩
abbrev S2x1024x4096 : Shape := ⟨3, ![2, 1024, 4096]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6224, .f32⟩
  | .hbm, ⟨2, _⟩ => ⟨S2048x6224, .f32⟩
  | .hbm, ⟨3, _⟩ => ⟨S2x4096x6224, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x64, .f32⟩
  | .hbm, ⟨11, _⟩ => ⟨S2x4096x16, .f32⟩
  | .hbm, ⟨12, _⟩ => ⟨S8192x1024, .f32⟩
  | .hbm, ⟨13, _⟩ => ⟨S2x1024x4096, .f32⟩
  | .hbm, ⟨14, _⟩ => ⟨S2x1024x4096, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel13.lean ====
abbrev S32x1x2048 : Shape := ⟨3, ![32, 1, 2048]⟩
abbrev S1x2048x6224 : Shape := ⟨3, ![1, 2048, 6224]⟩
abbrev S2048x6224 : Shape := ⟨2, ![2048, 6224]⟩
abbrev S6224x2048 : Shape := ⟨2, ![6224, 2048]⟩
abbrev S_ : Shape := ⟨0, ![]⟩
abbrev S32 : Shape := ⟨1, ![32]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S32x128 : Shape := ⟨2, ![32, 128]⟩
abbrev S1x32x1x128 : Shape := ⟨4, ![1, 32, 1, 128]⟩
abbrev S32x2048 : Shape := ⟨2, ![32, 2048]⟩
abbrev S32x1024 : Shape := ⟨2, ![32, 1024]⟩
abbrev S1024x2048 : Shape := ⟨2, ![1024, 2048]⟩
abbrev S2048x1024 : Shape := ⟨2, ![2048, 1024]⟩

abbrev nBuf : Space → Nat
  | .hbm => 34
  | .vmem => 6
  | .smem => 0
  | _ => 0

abbrev bufTy : (tb : Table) → Fin (tcTables nBuf tb) → BufTy
  | .hbm, ⟨0, _⟩ => ⟨S32x1x2048, .f32⟩
  | .hbm, ⟨1, _⟩ => ⟨S1x2048x6224, .f32⟩
  | .hbm, ⟨2, _⟩ => ⟨S2048x6224, .f32⟩
  | .hbm, ⟨3, _⟩ => ⟨S6224x2048, .f32⟩
  | .hbm, ⟨4, _⟩ => ⟨S_, .i32⟩
  | .hbm, ⟨5, _⟩ => ⟨S32, .i32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S32, .f32⟩
  | .hbm, ⟨15, _⟩ => ⟨S32x1, .f32⟩
  | .hbm, ⟨16, _⟩ => ⟨S1x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x128, .f32⟩
  | .hbm, ⟨23, _⟩ => ⟨S1x32x1x128, .f32⟩
  | .hbm, ⟨24, _⟩ => ⟨S1x32x1x128, .f32⟩
  | .hbm, ⟨25, _⟩ => ⟨S32x128, .f32⟩
  | .hbm, ⟨26, _⟩ => ⟨S32x64, .f32⟩
  | .hbm, ⟨27, _⟩ => ⟨S32x128, .f32⟩
  | .hbm, ⟨28, _⟩ => ⟨S1x32x1x128, .f32⟩
  | .hbm, ⟨29, _⟩ => ⟨S1x32x1x128, .f32⟩
  | .hbm, ⟨30, _⟩ => ⟨S32x128, .f32⟩
  | .hbm, ⟨31, _⟩ => ⟨S32x2048, .f32⟩
  | .hbm, ⟨32, _⟩ => ⟨S32x2048, .bf16⟩
  | .hbm, ⟨33, _⟩ => ⟨S32x1024, .f32⟩
  | .local _ .vmem, ⟨0, _⟩ => ⟨S32x2048, .bf16⟩
  | .local _ .vmem, ⟨1, _⟩ => ⟨S1024x2048, .f32⟩
  | .local _ .vmem, ⟨2, _⟩ => ⟨S32x128, .f32⟩
  | .local _ .vmem, ⟨3, _⟩ => ⟨S32x128, .f32⟩
  | .local _ .vmem, ⟨4, _⟩ => ⟨S32x1024, .f32⟩
  | .local _ .vmem, ⟨5, _⟩ => ⟨S2048x1024, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference13Ideal.lean ====
abbrev S32x1x2048 : Shape := ⟨3, ![32, 1, 2048]⟩
abbrev S1x2048x6224 : Shape := ⟨3, ![1, 2048, 6224]⟩
abbrev S2048x6224 : Shape := ⟨2, ![2048, 6224]⟩
abbrev S32x1x6224 : Shape := ⟨3, ![32, 1, 6224]⟩
abbrev S32x1x1024 : Shape := ⟨3, ![32, 1, 1024]⟩
abbrev S32x1x64 : Shape := ⟨3, ![32, 1, 64]⟩
abbrev S32x1x16 : Shape := ⟨3, ![32, 1, 16]⟩
abbrev S32x1024 : Shape := ⟨2, ![32, 1024]⟩

abbrev nBuf : Space → Nat
  | .hbm => 13
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048x6224, .f32⟩
  | .hbm, ⟨2, _⟩ => ⟨S2048x6224, .f32⟩
  | .hbm, ⟨3, _⟩ => ⟨S32x1x6224, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x64, .f32⟩
  | .hbm, ⟨11, _⟩ => ⟨S32x1x16, .f32⟩
  | .hbm, ⟨12, _⟩ => ⟨S32x1024, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel6.lean ====
abbrev S2x4096x2048 : Shape := ⟨3, ![2, 4096, 2048]⟩
abbrev S1x2048x6224 : Shape := ⟨3, ![1, 2048, 6224]⟩
abbrev S2048x6224 : Shape := ⟨2, ![2048, 6224]⟩
abbrev S6224x2048 : Shape := ⟨2, ![6224, 2048]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S80x2048 : Shape := ⟨2, ![80, 2048]⟩
abbrev S128x2048 : Shape := ⟨2, ![128, 2048]⟩
abbrev S8192x2048 : Shape := ⟨2, ![8192, 2048]⟩
abbrev S8192x64 : Shape := ⟨2, ![8192, 64]⟩
abbrev S8192x128 : Shape := ⟨2, ![8192, 128]⟩
abbrev S8192x16 : Shape := ⟨2, ![8192, 16]⟩
abbrev S2x16x4096 : Shape := ⟨3, ![2, 16, 4096]⟩
abbrev S512x2048 : Shape := ⟨2, ![512, 2048]⟩
abbrev S512x128 : Shape := ⟨2, ![512, 128]⟩
abbrev S512x64 : Shape := ⟨2, ![512, 64]⟩
abbrev S512x16 : Shape := ⟨2, ![512, 16]⟩
abbrev S1x16x512 : Shape := ⟨3, ![1, 16, 512]⟩
abbrev S2048x128 : Shape := ⟨2, ![2048, 128]⟩
abbrev S128x512 : Shape := ⟨2, ![128, 512]⟩
abbrev S16x512 : Shape := ⟨2, ![16, 512]⟩

abbrev nBuf : Space → Nat
  | .hbm => 41
  | .vmem => 17
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6224, .f32⟩
  | .hbm, ⟨2, _⟩ => ⟨S2048x6224, .f32⟩
  | .hbm, ⟨3, _⟩ => ⟨S6224x2048, .f32⟩
  | .hbm, ⟨4, _⟩ => ⟨S4096, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x64, .f32⟩
  | .hbm, ⟨22, _⟩ => ⟨S1x4096x1x64, .f32⟩
  | .hbm, ⟨23, _⟩ => ⟨S1x4096x2x64, .f32⟩
  | .hbm, ⟨24, _⟩ => ⟨S4096x128, .f32⟩
  | .hbm, ⟨25, _⟩ => ⟨S4096x32, .f32⟩
  | .hbm, ⟨26, _⟩ => ⟨S4096x64, .f32⟩
  | .hbm, ⟨27, _⟩ => ⟨S1x4096x1x64, .f32⟩
  | .hbm, ⟨28, _⟩ => ⟨S1x4096x2x64, .f32⟩
  | .hbm, ⟨29, _⟩ => ⟨S4096x128, .f32⟩
  | .hbm, ⟨30, _⟩ => ⟨S80x2048, .f32⟩
  | .hbm, ⟨31, _⟩ => ⟨S_, .i32⟩
  | .hbm, ⟨32, _⟩ => ⟨S_, .f32⟩
  | .hbm, ⟨33, _⟩ => ⟨S128x2048, .f32⟩
  | .hbm, ⟨34, _⟩ => ⟨S8192x2048, .f32⟩
  | .hbm, ⟨35, _⟩ => ⟨S8192x2048, .bf16⟩
  | .hbm, ⟨36, _⟩ => ⟨S8192x64, .f32⟩
  | .hbm, ⟨37, _⟩ => ⟨S8192x128, .bf16⟩
  | .hbm, ⟨38, _⟩ => ⟨S8192x128, .bf16⟩
  | .hbm, ⟨39, _⟩ => ⟨S8192x16, .f32⟩
  | .hbm, ⟨40, _⟩ => ⟨S2x16x4096, .f32⟩
  | .local _ .vmem, ⟨0, _⟩ => ⟨S512x2048, .bf16⟩
  | .local _ .vmem, ⟨1, _⟩ => ⟨S512x2048, .bf16⟩
  | .local _ .vmem, ⟨2, _⟩ => ⟨S128x2048, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x64, .f32⟩
  | .local _ .vmem, ⟨8, _⟩ => ⟨S512x64, .f32⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x16, .f32⟩
  | .local _ .vmem, ⟨14, _⟩ => ⟨S512x16, .f32⟩
  | .local _ .vmem, ⟨15, _⟩ => ⟨S1x16x512, .f32⟩
  | .local _ .vmem, ⟨16, _⟩ => ⟨S1x16x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_c : Ref sig .tc := ⟨.hbm, 31, rfl⟩
abbrev main_call0_v0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30_0 : Ref sig .tc := ⟨.hbm, 36, rfl⟩
abbrev main_v30_1 : Ref sig .tc := ⟨.hbm, 37, rfl⟩
abbrev main_v30_2 : Ref sig .tc := ⟨.hbm, 38, rfl⟩
abbrev main_v30_3 : Ref sig .tc := ⟨.hbm, 39, rfl⟩
abbrev main_v30_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S2x4096x2048 : Shape := ⟨3, ![2, 4096, 2048]⟩
abbrev S1x2048x6224 : Shape := ⟨3, ![1, 2048, 6224]⟩
abbrev S2048x6224 : Shape := ⟨2, ![2048, 6224]⟩
abbrev S2x4096x6224 : Shape := ⟨3, ![2, 4096, 6224]⟩
abbrev S2x4096x1024 : Shape := ⟨3, ![2, 4096, 1024]⟩
abbrev S2x4096x64 : Shape := ⟨3, ![2, 4096, 64]⟩
abbrev S2x4096x16 : Shape := ⟨3, ![2, 4096, 16]⟩
abbrev S2x4096x1x64 : Shape := ⟨4, ![2, 4096, 1, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S2x4096x1x32 : Shape := ⟨4, ![2, 4096, 1, 32]⟩
abbrev S8192x64 : Shape := ⟨2, ![8192, 64]⟩
abbrev S8192x16 : Shape := ⟨2, ![8192, 16]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6224, .f32⟩
  | .hbm, ⟨2, _⟩ => ⟨S2048x6224, .f32⟩
  | .hbm, ⟨3, _⟩ => ⟨S2x4096x6224, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x64, .f32⟩
  | .hbm, ⟨11, _⟩ => ⟨S2x4096x16, .f32⟩
  | .hbm, ⟨12, _⟩ => ⟨S2x4096x1x64, .f32⟩
  | .hbm, ⟨13, _⟩ => ⟨S4096, .i32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S1x4096x1x32, .f32⟩
  | .hbm, ⟨30, _⟩ => ⟨S4096x32, .f32⟩
  | .hbm, ⟨31, _⟩ => ⟨S1x4096x1x32, .f32⟩
  | .hbm, ⟨32, _⟩ => ⟨S2x4096x1x32, .f32⟩
  | .hbm, ⟨33, _⟩ => ⟨S2x4096x1x32, .f32⟩
  | .hbm, ⟨34, _⟩ => ⟨S2x4096x1x32, .f32⟩
  | .hbm, ⟨35, _⟩ => ⟨S2x4096x1x32, .f32⟩
  | .hbm, ⟨36, _⟩ => ⟨S2x4096x1x32, .f32⟩
  | .hbm, ⟨37, _⟩ => ⟨S2x4096x1x32, .f32⟩
  | .hbm, ⟨38, _⟩ => ⟨S2x4096x1x32, .f32⟩
  | .hbm, ⟨39, _⟩ => ⟨S2x4096x1x32, .f32⟩
  | .hbm, ⟨40, _⟩ => ⟨S2x4096x1x32, .f32⟩
  | .hbm, ⟨41, _⟩ => ⟨S2x4096x1x32, .f32⟩
  | .hbm, ⟨42, _⟩ => ⟨S2x4096x1x32, .f32⟩
  | .hbm, ⟨43, _⟩ => ⟨S2x4096x1x32, .f32⟩
  | .hbm, ⟨44, _⟩ => ⟨S2x4096x1x64, .f32⟩
  | .hbm, ⟨45, _⟩ => ⟨S2x4096x64, .f32⟩
  | .hbm, ⟨46, _⟩ => ⟨S_, .f32⟩
  | .hbm, ⟨47, _⟩ => ⟨S2x4096x16, .f32⟩
  | .hbm, ⟨48, _⟩ => ⟨S2x4096x16, .f32⟩
  | .hbm, ⟨49, _⟩ => ⟨S8192x64, .f32⟩
  | .hbm, ⟨50, _⟩ => ⟨S8192x16, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩

abbrev nD : Nat := 1
abbrev τ : Topo := Topo.v7x

variable {F : FTy → Type} [FloatOps F]
-- ==== Kernel14.lean ====
abbrev S32x1x2048 : Shape := ⟨3, ![32, 1, 2048]⟩
abbrev S1x2048x6224 : Shape := ⟨3, ![1, 2048, 6224]⟩
abbrev S2048x6224 : Shape := ⟨2, ![2048, 6224]⟩
abbrev S6224x2048 : Shape := ⟨2, ![6224, 2048]⟩
abbrev S_ : Shape := ⟨0, ![]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S80x2048 : Shape := ⟨2, ![80, 2048]⟩
abbrev S128x2048 : Shape := ⟨2, ![128, 2048]⟩
abbrev S32x2048 : Shape := ⟨2, ![32, 2048]⟩
abbrev S32x16 : Shape := ⟨2, ![32, 16]⟩
abbrev S2048x128 : Shape := ⟨2, ![2048, 128]⟩

abbrev nBuf : Space → Nat
  | .hbm => 41
  | .vmem => 8
  | .smem => 0
  | _ => 0

abbrev bufTy : (tb : Table) → Fin (tcTables nBuf tb) → BufTy
  | .hbm, ⟨0, _⟩ => ⟨S32x1x2048, .f32⟩
  | .hbm, ⟨1, _⟩ => ⟨S1x2048x6224, .f32⟩
  | .hbm, ⟨2, _⟩ => ⟨S2048x6224, .f32⟩
  | .hbm, ⟨3, _⟩ => ⟨S6224x2048, .f32⟩
  | .hbm, ⟨4, _⟩ => ⟨S_, .i32⟩
  | .hbm, ⟨5, _⟩ => ⟨S32, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32x1, .f32⟩
  | .hbm, ⟨16, _⟩ => ⟨S1x32, .f32⟩
  | .hbm, ⟨17, _⟩ => ⟨S32x32, .f32⟩
  | .hbm, ⟨18, _⟩ => ⟨S32x32, .f32⟩
  | .hbm, ⟨19, _⟩ => ⟨S32x32, .f32⟩
  | .hbm, ⟨20, _⟩ => ⟨S32x32, .f32⟩
  | .hbm, ⟨21, _⟩ => ⟨S32x32, .f32⟩
  | .hbm, ⟨22, _⟩ => ⟨S32x64, .f32⟩
  | .hbm, ⟨23, _⟩ => ⟨S1x32x1x64, .f32⟩
  | .hbm, ⟨24, _⟩ => ⟨S1x32x2x64, .f32⟩
  | .hbm, ⟨25, _⟩ => ⟨S32x128, .f32⟩
  | .hbm, ⟨26, _⟩ => ⟨S32x32, .f32⟩
  | .hbm, ⟨27, _⟩ => ⟨S32x64, .f32⟩
  | .hbm, ⟨28, _⟩ => ⟨S1x32x1x64, .f32⟩
  | .hbm, ⟨29, _⟩ => ⟨S1x32x2x64, .f32⟩
  | .hbm, ⟨30, _⟩ => ⟨S32x128, .f32⟩
  | .hbm, ⟨31, _⟩ => ⟨S80x2048, .f32⟩
  | .hbm, ⟨32, _⟩ => ⟨S_, .i32⟩
  | .hbm, ⟨33, _⟩ => ⟨S_, .f32⟩
  | .hbm, ⟨34, _⟩ => ⟨S128x2048, .f32⟩
  | .hbm, ⟨35, _⟩ => ⟨S32x2048, .f32⟩
  | .hbm, ⟨36, _⟩ => ⟨S32x2048, .bf16⟩
  | .hbm, ⟨37, _⟩ => ⟨S32x64, .f32⟩
  | .hbm, ⟨38, _⟩ => ⟨S32x128, .bf16⟩
  | .hbm, ⟨39, _⟩ => ⟨S32x128, .bf16⟩
  | .hbm, ⟨40, _⟩ => ⟨S32x16, .f32⟩
  | .local _ .vmem, ⟨0, _⟩ => ⟨S32x2048, .bf16⟩
  | .local _ .vmem, ⟨1, _⟩ => ⟨S128x2048, .f32⟩
  | .local _ .vmem, ⟨2, _⟩ => ⟨S32x128, .f32⟩
  | .local _ .vmem, ⟨3, _⟩ => ⟨S32x128, .f32⟩
  | .local _ .vmem, ⟨4, _⟩ => ⟨S32x64, .f32⟩
  | .local _ .vmem, ⟨5, _⟩ => ⟨S32x128, .bf16⟩
  | .local _ .vmem, ⟨6, _⟩ => ⟨S32x128, .bf16⟩
  | .local _ .vmem, ⟨7, _⟩ => ⟨S32x16, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c_1 : Ref sig .tc := ⟨.hbm, 32, rfl⟩
abbrev main_call0_v0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev main_v30_2 : Ref sig .tc := ⟨.hbm, 39, rfl⟩
abbrev main_v30_3 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S32x1x2048 : Shape := ⟨3, ![32, 1, 2048]⟩
abbrev S1x2048x6224 : Shape := ⟨3, ![1, 2048, 6224]⟩
abbrev S2048x6224 : Shape := ⟨2, ![2048, 6224]⟩
abbrev S32x1x6224 : Shape := ⟨3, ![32, 1, 6224]⟩
abbrev S32x1x1024 : Shape := ⟨3, ![32, 1, 1024]⟩
abbrev S32x1x64 : Shape := ⟨3, ![32, 1, 64]⟩
abbrev S32x1x16 : Shape := ⟨3, ![32, 1, 16]⟩
abbrev S32x1x1x64 : Shape := ⟨4, ![32, 1, 1, 64]⟩
abbrev S1 : Shape := ⟨1, ![1]⟩
abbrev S_ : Shape := ⟨0, ![]⟩
abbrev S32 : Shape := ⟨1, ![32]⟩
abbrev S1x1 : Shape := ⟨2, ![1, 1]⟩
abbrev S1x32 : Shape := ⟨2, ![1, 32]⟩
abbrev S1x1x1x32 : Shape := ⟨4, ![1, 1, 1, 32]⟩
abbrev S32x1x1x32 : Shape := ⟨4, ![32, 1, 1, 32]⟩
abbrev S32x64 : Shape := ⟨2, ![32, 64]⟩
abbrev S32x16 : Shape := ⟨2, ![32, 16]⟩

abbrev nBuf : Space → Nat
  | .hbm => 53
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048x6224, .f32⟩
  | .hbm, ⟨2, _⟩ => ⟨S2048x6224, .f32⟩
  | .hbm, ⟨3, _⟩ => ⟨S32x1x6224, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x64, .f32⟩
  | .hbm, ⟨11, _⟩ => ⟨S32x1x16, .f32⟩
  | .hbm, ⟨12, _⟩ => ⟨S32x1x1x64, .f32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S1, .f32⟩
  | .hbm, ⟨26, _⟩ => ⟨S1x1, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S1x32, .f32⟩
  | .hbm, ⟨31, _⟩ => ⟨S1x1x1x32, .f32⟩
  | .hbm, ⟨32, _⟩ => ⟨S1x32, .f32⟩
  | .hbm, ⟨33, _⟩ => ⟨S1x1x1x32, .f32⟩
  | .hbm, ⟨34, _⟩ => ⟨S32x1x1x32, .f32⟩
  | .hbm, ⟨35, _⟩ => ⟨S32x1x1x32, .f32⟩
  | .hbm, ⟨36, _⟩ => ⟨S32x1x1x32, .f32⟩
  | .hbm, ⟨37, _⟩ => ⟨S32x1x1x32, .f32⟩
  | .hbm, ⟨38, _⟩ => ⟨S32x1x1x32, .f32⟩
  | .hbm, ⟨39, _⟩ => ⟨S32x1x1x32, .f32⟩
  | .hbm, ⟨40, _⟩ => ⟨S32x1x1x32, .f32⟩
  | .hbm, ⟨41, _⟩ => ⟨S32x1x1x32, .f32⟩
  | .hbm, ⟨42, _⟩ => ⟨S32x1x1x32, .f32⟩
  | .hbm, ⟨43, _⟩ => ⟨S32x1x1x32, .f32⟩
  | .hbm, ⟨44, _⟩ => ⟨S32x1x1x32, .f32⟩
  | .hbm, ⟨45, _⟩ => ⟨S32x1x1x32, .f32⟩
  | .hbm, ⟨46, _⟩ => ⟨S32x1x1x64, .f32⟩
  | .hbm, ⟨47, _⟩ => ⟨S32x1x64, .f32⟩
  | .hbm, ⟨48, _⟩ => ⟨S_, .f32⟩
  | .hbm, ⟨49, _⟩ => ⟨S32x1x16, .f32⟩
  | .hbm, ⟨50, _⟩ => ⟨S32x1x16, .f32⟩
  | .hbm, ⟨51, _⟩ => ⟨S32x64, .f32⟩
  | .hbm, ⟨52, _⟩ => ⟨S32x16, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_1 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩

abbrev nD : Nat := 1
abbrev τ : Topo := Topo.v7x

variable {F : FTy → Type} [FloatOps F]
-- ==== Kernel10.lean ====
abbrev S2x4096x2048 : Shape := ⟨3, ![2, 4096, 2048]⟩
abbrev S1x2048x6224 : Shape := ⟨3, ![1, 2048, 6224]⟩
abbrev S2048x6224 : Shape := ⟨2, ![2048, 6224]⟩
abbrev S6224x2048 : Shape := ⟨2, ![6224, 2048]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8192x2048 : Shape := ⟨2, ![8192, 2048]⟩
abbrev S8192x1024 : Shape := ⟨2, ![8192, 1024]⟩
abbrev S512x2048 : Shape := ⟨2, ![512, 2048]⟩
abbrev S1024x2048 : Shape := ⟨2, ![1024, 2048]⟩
abbrev S512x128 : Shape := ⟨2, ![512, 128]⟩
abbrev S512x1024 : Shape := ⟨2, ![512, 1024]⟩
abbrev S2048x1024 : Shape := ⟨2, ![2048, 1024]⟩

abbrev nBuf : Space → Nat
  | .hbm => 33
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6224, .f32⟩
  | .hbm, ⟨2, _⟩ => ⟨S2048x6224, .f32⟩
  | .hbm, ⟨3, _⟩ => ⟨S6224x2048, .f32⟩
  | .hbm, ⟨4, _⟩ => ⟨S4096, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x64, .f32⟩
  | .hbm, ⟨22, _⟩ => ⟨S1x4096x1x64, .f32⟩
  | .hbm, ⟨23, _⟩ => ⟨S1x4096x2x64, .f32⟩
  | .hbm, ⟨24, _⟩ => ⟨S4096x128, .f32⟩
  | .hbm, ⟨25, _⟩ => ⟨S4096x32, .f32⟩
  | .hbm, ⟨26, _⟩ => ⟨S4096x64, .f32⟩
  | .hbm, ⟨27, _⟩ => ⟨S1x4096x1x64, .f32⟩
  | .hbm, ⟨28, _⟩ => ⟨S1x4096x2x64, .f32⟩
  | .hbm, ⟨29, _⟩ => ⟨S4096x128, .f32⟩
  | .hbm, ⟨30, _⟩ => ⟨S8192x2048, .f32⟩
  | .hbm, ⟨31, _⟩ => ⟨S8192x2048, .bf16⟩
  | .hbm, ⟨32, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x1024, .bf16⟩
  | .local _ .vmem, ⟨8, _⟩ => ⟨S512x1024, .bf16⟩
  | .local _ .vmem, ⟨9, _⟩ => ⟨S2048x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S2x4096x2048 : Shape := ⟨3, ![2, 4096, 2048]⟩
abbrev S1x2048x6224 : Shape := ⟨3, ![1, 2048, 6224]⟩
abbrev S2048x6224 : Shape := ⟨2, ![2048, 6224]⟩
abbrev S2x4096x6224 : Shape := ⟨3, ![2, 4096, 6224]⟩
abbrev S2x4096x1024 : Shape := ⟨3, ![2, 4096, 1024]⟩
abbrev S2x4096x64 : Shape := ⟨3, ![2, 4096, 64]⟩
abbrev S2x4096x16 : Shape := ⟨3, ![2, 4096, 16]⟩
abbrev S2x4096x16x64 : Shape := ⟨4, ![2, 4096, 16, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S2x4096x16x32 : Shape := ⟨4, ![2, 4096, 16, 32]⟩
abbrev S8192x1024 : Shape := ⟨2, ![8192, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x6224, .f32⟩
  | .hbm, ⟨2, _⟩ => ⟨S2048x6224, .f32⟩
  | .hbm, ⟨3, _⟩ => ⟨S2x4096x6224, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x64, .f32⟩
  | .hbm, ⟨11, _⟩ => ⟨S2x4096x16, .f32⟩
  | .hbm, ⟨12, _⟩ => ⟨S2x4096x16x64, .f32⟩
  | .hbm, ⟨13, _⟩ => ⟨S4096, .i32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S1x4096x1x32, .f32⟩
  | .hbm, ⟨30, _⟩ => ⟨S4096x32, .f32⟩
  | .hbm, ⟨31, _⟩ => ⟨S1x4096x1x32, .f32⟩
  | .hbm, ⟨32, _⟩ => ⟨S2x4096x16x32, .f32⟩
  | .hbm, ⟨33, _⟩ => ⟨S2x4096x16x32, .f32⟩
  | .hbm, ⟨34, _⟩ => ⟨S2x4096x16x32, .f32⟩
  | .hbm, ⟨35, _⟩ => ⟨S2x4096x16x32, .f32⟩
  | .hbm, ⟨36, _⟩ => ⟨S2x4096x16x32, .f32⟩
  | .hbm, ⟨37, _⟩ => ⟨S2x4096x16x32, .f32⟩
  | .hbm, ⟨38, _⟩ => ⟨S2x4096x16x32, .f32⟩
  | .hbm, ⟨39, _⟩ => ⟨S2x4096x16x32, .f32⟩
  | .hbm, ⟨40, _⟩ => ⟨S2x4096x16x32, .f32⟩
  | .hbm, ⟨41, _⟩ => ⟨S2x4096x16x32, .f32⟩
  | .hbm, ⟨42, _⟩ => ⟨S2x4096x16x32, .f32⟩
  | .hbm, ⟨43, _⟩ => ⟨S2x4096x16x32, .f32⟩
  | .hbm, ⟨44, _⟩ => ⟨S2x4096x16x64, .f32⟩
  | .hbm, ⟨45, _⟩ => ⟨S8192x1024, .f32⟩
  | .hbm, ⟨46, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩

abbrev nD : Nat := 1
abbrev τ : Topo := Topo.v7x

variable {F : FTy → Type} [FloatOps F]
-- ==== Kernel18.lean ====
abbrev S32x1x2048 : Shape := ⟨3, ![32, 1, 2048]⟩
abbrev S1x2048x6224 : Shape := ⟨3, ![1, 2048, 6224]⟩
abbrev S2048x6224 : Shape := ⟨2, ![2048, 6224]⟩
abbrev S6224x2048 : Shape := ⟨2, ![6224, 2048]⟩
abbrev S_ : Shape := ⟨0, ![]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S32x2048 : Shape := ⟨2, ![32, 2048]⟩
abbrev S32x1024 : Shape := ⟨2, ![32, 1024]⟩
abbrev S1024x2048 : Shape := ⟨2, ![1024, 2048]⟩
abbrev S2048x1024 : Shape := ⟨2, ![2048, 1024]⟩

abbrev nBuf : Space → Nat
  | .hbm => 34
  | .vmem => 6
  | .smem => 0
  | _ => 0

abbrev bufTy : (tb : Table) → Fin (tcTables nBuf tb) → BufTy
  | .hbm, ⟨0, _⟩ => ⟨S32x1x2048, .f32⟩
  | .hbm, ⟨1, _⟩ => ⟨S1x2048x6224, .f32⟩
  | .hbm, ⟨2, _⟩ => ⟨S2048x6224, .f32⟩
  | .hbm, ⟨3, _⟩ => ⟨S6224x2048, .f32⟩
  | .hbm, ⟨4, _⟩ => ⟨S_, .i32⟩
  | .hbm, ⟨5, _⟩ => ⟨S32, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32x1, .f32⟩
  | .hbm, ⟨16, _⟩ => ⟨S1x32, .f32⟩
  | .hbm, ⟨17, _⟩ => ⟨S32x32, .f32⟩
  | .hbm, ⟨18, _⟩ => ⟨S32x32, .f32⟩
  | .hbm, ⟨19, _⟩ => ⟨S32x32, .f32⟩
  | .hbm, ⟨20, _⟩ => ⟨S32x32, .f32⟩
  | .hbm, ⟨21, _⟩ => ⟨S32x32, .f32⟩
  | .hbm, ⟨22, _⟩ => ⟨S32x64, .f32⟩
  | .hbm, ⟨23, _⟩ => ⟨S1x32x1x64, .f32⟩
  | .hbm, ⟨24, _⟩ => ⟨S1x32x2x64, .f32⟩
  | .hbm, ⟨25, _⟩ => ⟨S32x128, .f32⟩
  | .hbm, ⟨26, _⟩ => ⟨S32x32, .f32⟩
  | .hbm, ⟨27, _⟩ => ⟨S32x64, .f32⟩
  | .hbm, ⟨28, _⟩ => ⟨S1x32x1x64, .f32⟩
  | .hbm, ⟨29, _⟩ => ⟨S1x32x2x64, .f32⟩
  | .hbm, ⟨30, _⟩ => ⟨S32x128, .f32⟩
  | .hbm, ⟨31, _⟩ => ⟨S32x2048, .f32⟩
  | .hbm, ⟨32, _⟩ => ⟨S32x2048, .bf16⟩
  | .hbm, ⟨33, _⟩ => ⟨S32x1024, .bf16⟩
  | .local _ .vmem, ⟨0, _⟩ => ⟨S32x2048, .bf16⟩
  | .local _ .vmem, ⟨1, _⟩ => ⟨S1024x2048, .f32⟩
  | .local _ .vmem, ⟨2, _⟩ => ⟨S32x128, .f32⟩
  | .local _ .vmem, ⟨3, _⟩ => ⟨S32x128, .f32⟩
  | .local _ .vmem, ⟨4, _⟩ => ⟨S32x1024, .bf16⟩
  | .local _ .vmem, ⟨5, _⟩ => ⟨S2048x1024, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference18Ideal.lean ====
abbrev S32x1x2048 : Shape := ⟨3, ![32, 1, 2048]⟩
abbrev S1x2048x6224 : Shape := ⟨3, ![1, 2048, 6224]⟩
abbrev S2048x6224 : Shape := ⟨2, ![2048, 6224]⟩
abbrev S32x1x6224 : Shape := ⟨3, ![32, 1, 6224]⟩
abbrev S32x1x1024 : Shape := ⟨3, ![32, 1, 1024]⟩
abbrev S32x1x64 : Shape := ⟨3, ![32, 1, 64]⟩
abbrev S32x1x16 : Shape := ⟨3, ![32, 1, 16]⟩
abbrev S32x1x16x64 : Shape := ⟨4, ![32, 1, 16, 64]⟩
abbrev S1 : Shape := ⟨1, ![1]⟩
abbrev S_ : Shape := ⟨0, ![]⟩
abbrev S32 : Shape := ⟨1, ![32]⟩
abbrev S1x1 : Shape := ⟨2, ![1, 1]⟩
abbrev S1x32 : Shape := ⟨2, ![1, 32]⟩
abbrev S1x1x1x32 : Shape := ⟨4, ![1, 1, 1, 32]⟩
abbrev S32x1x16x32 : Shape := ⟨4, ![32, 1, 16, 32]⟩
abbrev S32x1024 : Shape := ⟨2, ![32, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048x6224, .f32⟩
  | .hbm, ⟨2, _⟩ => ⟨S2048x6224, .f32⟩
  | .hbm, ⟨3, _⟩ => ⟨S32x1x6224, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x64, .f32⟩
  | .hbm, ⟨11, _⟩ => ⟨S32x1x16, .f32⟩
  | .hbm, ⟨12, _⟩ => ⟨S32x1x16x64, .f32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S1, .f32⟩
  | .hbm, ⟨26, _⟩ => ⟨S1x1, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S1x32, .f32⟩
  | .hbm, ⟨31, _⟩ => ⟨S1x1x1x32, .f32⟩
  | .hbm, ⟨32, _⟩ => ⟨S1x32, .f32⟩
  | .hbm, ⟨33, _⟩ => ⟨S1x1x1x32, .f32⟩
  | .hbm, ⟨34, _⟩ => ⟨S32x1x16x32, .f32⟩
  | .hbm, ⟨35, _⟩ => ⟨S32x1x16x32, .f32⟩
  | .hbm, ⟨36, _⟩ => ⟨S32x1x16x32, .f32⟩
  | .hbm, ⟨37, _⟩ => ⟨S32x1x16x32, .f32⟩
  | .hbm, ⟨38, _⟩ => ⟨S32x1x16x32, .f32⟩
  | .hbm, ⟨39, _⟩ => ⟨S32x1x16x32, .f32⟩
  | .hbm, ⟨40, _⟩ => ⟨S32x1x16x32, .f32⟩
  | .hbm, ⟨41, _⟩ => ⟨S32x1x16x32, .f32⟩
  | .hbm, ⟨42, _⟩ => ⟨S32x1x16x32, .f32⟩
  | .hbm, ⟨43, _⟩ => ⟨S32x1x16x32, .f32⟩
  | .hbm, ⟨44, _⟩ => ⟨S32x1x16x32, .f32⟩
  | .hbm, ⟨45, _⟩ => ⟨S32x1x16x32, .f32⟩
  | .hbm, ⟨46, _⟩ => ⟨S32x1x16x64, .f32⟩
  | .hbm, ⟨47, _⟩ => ⟨S32x1024, .f32⟩
  | .hbm, ⟨48, _⟩ => ⟨S32x1024, .bf16⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩

abbrev nD : Nat := 1
abbrev τ : Topo := Topo.v7x

variable {F : FTy → Type} [FloatOps F]
-- ==== Kernel9.lean ====
abbrev S2x4096x1024 : Shape := ⟨3, ![2, 4096, 1024]⟩
abbrev S1x2048x2048 : Shape := ⟨3, ![1, 2048, 2048]⟩
abbrev S2x4096x2048 : Shape := ⟨3, ![2, 4096, 2048]⟩
abbrev S2x1x2048 : Shape := ⟨3, ![2, 1, 2048]⟩
abbrev S1x2048 : Shape := ⟨2, ![1, 2048]⟩
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S512x1024 : Shape := ⟨2, ![512, 1024]⟩
abbrev S512x2048 : Shape := ⟨2, ![512, 2048]⟩
abbrev S1x1x2048 : Shape := ⟨3, ![1, 1, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 19
  | .vmem => 18
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1x2048x2048, .f32⟩
  | .hbm, ⟨3, _⟩ => ⟨S2x4096x2048, .f32⟩
  | .hbm, ⟨4, _⟩ => ⟨S2x1x2048, .f32⟩
  | .hbm, ⟨5, _⟩ => ⟨S1x2048, .f32⟩
  | .hbm, ⟨6, _⟩ => ⟨S2x1x2048, .f32⟩
  | .hbm, ⟨7, _⟩ => ⟨S2x1x2048, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S2048x2048, .f32⟩
  | .hbm, ⟨13, _⟩ => ⟨S2048x2048, .bf16⟩
  | .hbm, ⟨14, _⟩ => ⟨S8192x2048, .f32⟩
  | .hbm, ⟨15, _⟩ => ⟨S2048, .f32⟩
  | .hbm, ⟨16, _⟩ => ⟨S1x2048, .f32⟩
  | .hbm, ⟨17, _⟩ => ⟨S8192x2048, .f32⟩
  | .hbm, ⟨18, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S2x4096x1024 : Shape := ⟨3, ![2, 4096, 1024]⟩
abbrev S1x2048x2048 : Shape := ⟨3, ![1, 2048, 2048]⟩
abbrev S2x4096x2048 : Shape := ⟨3, ![2, 4096, 2048]⟩
abbrev S2x1x2048 : Shape := ⟨3, ![2, 1, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1x2048x2048, .f32⟩
  | .hbm, ⟨3, _⟩ => ⟨S2x4096x2048, .f32⟩
  | .hbm, ⟨4, _⟩ => ⟨S2x1x2048, .f32⟩
  | .hbm, ⟨5, _⟩ => ⟨S1x2048, .f32⟩
  | .hbm, ⟨6, _⟩ => ⟨S2x1x2048, .f32⟩
  | .hbm, ⟨7, _⟩ => ⟨S2x1x2048, .f32⟩
  | .hbm, ⟨8, _⟩ => ⟨S2x4096x2048, .f32⟩
  | .hbm, ⟨9, _⟩ => ⟨S2048x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S2048, .f32⟩
  | .hbm, ⟨15, _⟩ => ⟨S2x4096x2048, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1, .f32⟩
  | .hbm, ⟨26, _⟩ => ⟨S2x4096x2048, .f32⟩
  | .hbm, ⟨27, _⟩ => ⟨S2x4096x2048, .f32⟩
  | .hbm, ⟨28, _⟩ => ⟨S1x1x2048, .f32⟩
  | .hbm, ⟨29, _⟩ => ⟨S2x4096x2048, .f32⟩
  | .hbm, ⟨30, _⟩ => ⟨S2x4096x2048, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2x4096x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel17.lean ====
abbrev S32x1x1024 : Shape := ⟨3, ![32, 1, 1024]⟩
abbrev S1x2048x2048 : Shape := ⟨3, ![1, 2048, 2048]⟩
abbrev S32x1x2048 : Shape := ⟨3, ![32, 1, 2048]⟩
abbrev S32x2048 : Shape := ⟨2, ![32, 2048]⟩
abbrev S1x2048 : Shape := ⟨2, ![1, 2048]⟩
abbrev S32x1024 : Shape := ⟨2, ![32, 1024]⟩
abbrev S2048x2048 : Shape := ⟨2, ![2048, 2048]⟩
abbrev S2048 : Shape := ⟨1, ![2048]⟩
abbrev S1024x2048 : Shape := ⟨2, ![1024, 2048]⟩
abbrev S32 : Shape := ⟨1, ![32]⟩
abbrev S32x1 : Shape := ⟨2, ![32, 1]⟩

abbrev nBuf : Space → Nat
  | .hbm => 19
  | .vmem => 10
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S1x2048x2048, .f32⟩
  | .hbm, ⟨3, _⟩ => ⟨S32x1x2048, .f32⟩
  | .hbm, ⟨4, _⟩ => ⟨S32x2048, .f32⟩
  | .hbm, ⟨5, _⟩ => ⟨S1x2048, .f32⟩
  | .hbm, ⟨6, _⟩ => ⟨S32x2048, .f32⟩
  | .hbm, ⟨7, _⟩ => ⟨S32x2048, .f32⟩
  | .hbm, ⟨8, _⟩ => ⟨S32x1024, .f32⟩
  | .hbm, ⟨9, _⟩ => ⟨S32x1024, .bf16⟩
  | .hbm, ⟨10, _⟩ => ⟨S32x1024, .f32⟩
  | .hbm, ⟨11, _⟩ => ⟨S32x1024, .bf16⟩
  | .hbm, ⟨12, _⟩ => ⟨S2048x2048, .f32⟩
  | .hbm, ⟨13, _⟩ => ⟨S2048x2048, .bf16⟩
  | .hbm, ⟨14, _⟩ => ⟨S32x2048, .f32⟩
  | .hbm, ⟨15, _⟩ => ⟨S2048, .f32⟩
  | .hbm, ⟨16, _⟩ => ⟨S1x2048, .f32⟩
  | .hbm, ⟨17, _⟩ => ⟨S32x2048, .f32⟩
  | .hbm, ⟨18, _⟩ => ⟨S32x2048, .bf16⟩
  | .local _ .vmem, ⟨0, _⟩ => ⟨S32x1024, .bf16⟩
  | .local _ .vmem, ⟨1, _⟩ => ⟨S32x1024, .bf16⟩
  | .local _ .vmem, ⟨2, _⟩ => ⟨S2048x2048, .bf16⟩
  | .local _ .vmem, ⟨3, _⟩ => ⟨S32x2048, .f32⟩
  | .local _ .vmem, ⟨4, _⟩ => ⟨S32x2048, .f32⟩
  | .local _ .vmem, ⟨5, _⟩ => ⟨S1x2048, .f32⟩
  | .local _ .vmem, ⟨6, _⟩ => ⟨S32x2048, .f32⟩
  | .local _ .vmem, ⟨7, _⟩ => ⟨S32x2048, .f32⟩
  | .local _ .vmem, ⟨8, _⟩ => ⟨S32x2048, .f32⟩
  | .local _ .vmem, ⟨9, _⟩ => ⟨S32x2048, .bf16⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference17Ideal.lean ====
abbrev S32x1x1024 : Shape := ⟨3, ![32, 1, 1024]⟩
abbrev S1x2048x2048 : Shape := ⟨3, ![1, 2048, 2048]⟩
abbrev S32x1x2048 : Shape := ⟨3, ![32, 1, 2048]⟩
abbrev S32x2048 : Shape := ⟨2, ![32, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S1x2048x2048, .f32⟩
  | .hbm, ⟨3, _⟩ => ⟨S32x1x2048, .f32⟩
  | .hbm, ⟨4, _⟩ => ⟨S32x2048, .f32⟩
  | .hbm, ⟨5, _⟩ => ⟨S1x2048, .f32⟩
  | .hbm, ⟨6, _⟩ => ⟨S32x2048, .f32⟩
  | .hbm, ⟨7, _⟩ => ⟨S32x2048, .f32⟩
  | .hbm, ⟨8, _⟩ => ⟨S32x1x2048, .f32⟩
  | .hbm, ⟨9, _⟩ => ⟨S32x1x2048, .f32⟩
  | .hbm, ⟨10, _⟩ => ⟨S2048x2048, .f32⟩
  | .hbm, ⟨11, _⟩ => ⟨S32x1x2048, .f32⟩
  | .hbm, ⟨12, _⟩ => ⟨S32x1x2048, .f32⟩
  | .hbm, ⟨13, _⟩ => ⟨S32x1x2048, .f32⟩
  | .hbm, ⟨14, _⟩ => ⟨S2048, .f32⟩
  | .hbm, ⟨15, _⟩ => ⟨S32x1x2048, .f32⟩
  | .hbm, ⟨16, _⟩ => ⟨S_, .f32⟩
  | .hbm, ⟨17, _⟩ => ⟨S32x1, .f32⟩
  | .hbm, ⟨18, _⟩ => ⟨S32x1x1, .f32⟩
  | .hbm, ⟨19, _⟩ => ⟨S_, .f32⟩
  | .hbm, ⟨20, _⟩ => ⟨S32x1x1, .f32⟩
  | .hbm, ⟨21, _⟩ => ⟨S32x1x1, .f32⟩
  | .hbm, ⟨22, _⟩ => ⟨S_, .f32⟩
  | .hbm, ⟨23, _⟩ => ⟨S32x1x1, .f32⟩
  | .hbm, ⟨24, _⟩ => ⟨S32x1x1, .f32⟩
  | .hbm, ⟨25, _⟩ => ⟨S32x1x1, .f32⟩
  | .hbm, ⟨26, _⟩ => ⟨S32x1x2048, .f32⟩
  | .hbm, ⟨27, _⟩ => ⟨S32x1x2048, .f32⟩
  | .hbm, ⟨28, _⟩ => ⟨S1x1x2048, .f32⟩
  | .hbm, ⟨29, _⟩ => ⟨S32x1x2048, .f32⟩
  | .hbm, ⟨30, _⟩ => ⟨S32x1x2048, .f32⟩
  | .hbm, ⟨31, _⟩ => ⟨S32x1x2048, .f32⟩
  | .hbm, ⟨32, _⟩ => ⟨S_, .f32⟩
  | .hbm, ⟨33, _⟩ => ⟨S32x1x2048, .f32⟩
  | .hbm, ⟨34, _⟩ => ⟨S32x1x2048, .f32⟩
  | .hbm, ⟨35, _⟩ => ⟨S32x1x2048, .f32⟩
  | .hbm, ⟨36, _⟩ => ⟨S32x1x2048, .f32⟩
  | .hbm, ⟨37, _⟩ => ⟨S32x1x2048, .f32⟩
  | .hbm, ⟨38, _⟩ => ⟨S32x2048, .f32⟩
  | .hbm, ⟨39, _⟩ => ⟨S32x2048, .f32⟩
  | .hbm, ⟨40, _⟩ => ⟨S32x2048, .bf16⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel11.lean ====
abbrev S32x1x2048 : Shape := ⟨3, ![32, 1, 2048]⟩
abbrev S1x2048x8192 : Shape := ⟨3, ![1, 2048, 8192]⟩
abbrev S1x8192x2048 : Shape := ⟨3, ![1, 8192, 2048]⟩
abbrev S32x2048 : Shape := ⟨2, ![32, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S2048x1024 : Shape := ⟨2, ![2048, 1024]⟩
abbrev S1024x2048 : Shape := ⟨2, ![1024, 2048]⟩
abbrev S32x1024 : Shape := ⟨2, ![32, 1024]⟩
abbrev S32 : Shape := ⟨1, ![32]⟩
abbrev S32x1 : Shape := ⟨2, ![32, 1]⟩

abbrev nBuf : Space → Nat
  | .hbm => 15
  | .vmem => 9
  | .smem => 0
  | _ => 0

abbrev bufTy : (tb : Table) → Fin (tcTables nBuf tb) → BufTy
  | .hbm, ⟨0, _⟩ => ⟨S32x1x2048, .f32⟩
  | .hbm, ⟨1, _⟩ => ⟨S1x2048x8192, .f32⟩
  | .hbm, ⟨2, _⟩ => ⟨S1x8192x2048, .f32⟩
  | .hbm, ⟨3, _⟩ => ⟨S32x1x2048, .f32⟩
  | .hbm, ⟨4, _⟩ => ⟨S32x2048, .f32⟩
  | .hbm, ⟨5, _⟩ => ⟨S2048, .f32⟩
  | .hbm, ⟨6, _⟩ => ⟨S32x2048, .f32⟩
  | .hbm, ⟨7, _⟩ => ⟨S32x2048, .bf16⟩
  | .hbm, ⟨8, _⟩ => ⟨S2048x8192, .f32⟩
  | .hbm, ⟨9, _⟩ => ⟨S2048x8192, .bf16⟩
  | .hbm, ⟨10, _⟩ => ⟨S8192x2048, .f32⟩
  | .hbm, ⟨11, _⟩ => ⟨S8192x2048, .bf16⟩
  | .hbm, ⟨12, _⟩ => ⟨S32x2048, .f32⟩
  | .hbm, ⟨13, _⟩ => ⟨S1x2048, .f32⟩
  | .hbm, ⟨14, _⟩ => ⟨S32x2048, .f32⟩
  | .local _ .vmem, ⟨0, _⟩ => ⟨S32x2048, .bf16⟩
  | .local _ .vmem, ⟨1, _⟩ => ⟨S2048x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | .local _ .vmem, ⟨5, _⟩ => ⟨S32x2048, .f32⟩
  | .local _ .vmem, ⟨6, _⟩ => ⟨S32x2048, .f32⟩
  | .local _ .vmem, ⟨7, _⟩ => ⟨S1x2048, .f32⟩
  | .local _ .vmem, ⟨8, _⟩ => ⟨S32x2048, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference11Ideal.lean ====
abbrev S32x1x2048 : Shape := ⟨3, ![32, 1, 2048]⟩
abbrev S1x2048x8192 : Shape := ⟨3, ![1, 2048, 8192]⟩
abbrev S1x8192x2048 : Shape := ⟨3, ![1, 8192, 2048]⟩
abbrev S32x2048 : Shape := ⟨2, ![32, 2048]⟩
abbrev S2048 : Shape := ⟨1, ![2048]⟩
abbrev S2048x8192 : Shape := ⟨2, ![2048, 8192]⟩
abbrev S32x1x8192 : Shape := ⟨3, ![32, 1, 8192]⟩
abbrev S_ : Shape := ⟨0, ![]⟩
abbrev S8192x2048 : Shape := ⟨2, ![8192, 2048]⟩
abbrev S32x1 : Shape := ⟨2, ![32, 1]⟩
abbrev S32x1x1 : Shape := ⟨3, ![32, 1, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048x8192, .f32⟩
  | .hbm, ⟨2, _⟩ => ⟨S1x8192x2048, .f32⟩
  | .hbm, ⟨3, _⟩ => ⟨S32x1x2048, .f32⟩
  | .hbm, ⟨4, _⟩ => ⟨S32x2048, .f32⟩
  | .hbm, ⟨5, _⟩ => ⟨S2048, .f32⟩
  | .hbm, ⟨6, _⟩ => ⟨S32x1x2048, .f32⟩
  | .hbm, ⟨7, _⟩ => ⟨S2048x8192, .f32⟩
  | .hbm, ⟨8, _⟩ => ⟨S32x1x8192, .f32⟩
  | .hbm, ⟨9, _⟩ => ⟨S_, .f32⟩
  | .hbm, ⟨10, _⟩ => ⟨S32x1x8192, .f32⟩
  | .hbm, ⟨11, _⟩ => ⟨S32x1x8192, .f32⟩
  | .hbm, ⟨12, _⟩ => ⟨S32x1x8192, .f32⟩
  | .hbm, ⟨13, _⟩ => ⟨S8192x2048, .f32⟩
  | .hbm, ⟨14, _⟩ => ⟨S32x1x2048, .f32⟩
  | .hbm, ⟨15, _⟩ => ⟨S32x1x2048, .f32⟩
  | .hbm, ⟨16, _⟩ => ⟨S32x1x2048, .f32⟩
  | .hbm, ⟨17, _⟩ => ⟨S32x1x2048, .f32⟩
  | .hbm, ⟨18, _⟩ => ⟨S_, .f32⟩
  | .hbm, ⟨19, _⟩ => ⟨S32x1, .f32⟩
  | .hbm, ⟨20, _⟩ => ⟨S32x1x1, .f32⟩
  | .hbm, ⟨21, _⟩ => ⟨S_, .f32⟩
  | .hbm, ⟨22, _⟩ => ⟨S32x1x1, .f32⟩
  | .hbm, ⟨23, _⟩ => ⟨S32x1x1, .f32⟩
  | .hbm, ⟨24, _⟩ => ⟨S_, .f32⟩
  | .hbm, ⟨25, _⟩ => ⟨S32x1x1, .f32⟩
  | .hbm, ⟨26, _⟩ => ⟨S32x1x1, .f32⟩
  | .hbm, ⟨27, _⟩ => ⟨S32x1x1, .f32⟩
  | .hbm, ⟨28, _⟩ => ⟨S32x1x2048, .f32⟩
  | .hbm, ⟨29, _⟩ => ⟨S32x1x2048, .f32⟩
  | .hbm, ⟨30, _⟩ => ⟨S1x1x2048, .f32⟩
  | .hbm, ⟨31, _⟩ => ⟨S32x1x2048, .f32⟩
  | .hbm, ⟨32, _⟩ => ⟨S32x1x2048, .f32⟩
  | .hbm, ⟨33, _⟩ => ⟨S32x2048, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel8.lean ====
abbrev S2x4096x2048 : Shape := ⟨3, ![2, 4096, 2048]⟩
abbrev S1x2048 : Shape := ⟨2, ![1, 2048]⟩
abbrev S2x1x2048 : Shape := ⟨3, ![2, 1, 2048]⟩
abbrev S1x2048x6224 : Shape := ⟨3, ![1, 2048, 6224]⟩
abbrev S2048x6224 : Shape := ⟨2, ![2048, 6224]⟩
abbrev S6224x2048 : Shape := ⟨2, ![6224, 2048]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S8192x2048 : Shape := ⟨2, ![8192, 2048]⟩
abbrev S2048 : Shape := ⟨1, ![2048]⟩
abbrev S8192x1024 : Shape := ⟨2, ![8192, 1024]⟩
abbrev S512x2048 : Shape := ⟨2, ![512, 2048]⟩
abbrev S1x1x2048 : Shape := ⟨3, ![1, 1, 2048]⟩
abbrev S1024x2048 : Shape := ⟨2, ![1024, 2048]⟩
abbrev S512x128 : Shape := ⟨2, ![512, 128]⟩
abbrev S512x1024 : Shape := ⟨2, ![512, 1024]⟩
abbrev S2048x1024 : Shape := ⟨2, ![2048, 1024]⟩
abbrev S512 : Shape := ⟨1, ![512]⟩
abbrev S512x1 : Shape := ⟨2, ![512, 1]⟩

abbrev nBuf : Space → Nat
  | .hbm => 38
  | .vmem => 17
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S1x2048x6224, .f32⟩
  | .hbm, ⟨5, _⟩ => ⟨S2048x6224, .f32⟩
  | .hbm, ⟨6, _⟩ => ⟨S6224x2048, .f32⟩
  | .hbm, ⟨7, _⟩ => ⟨S4096, .i32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S4096, .f32⟩
  | .hbm, ⟨17, _⟩ => ⟨S4096x1, .f32⟩
  | .hbm, ⟨18, _⟩ => ⟨S1x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x128, .f32⟩
  | .hbm, ⟨25, _⟩ => ⟨S1x4096x1x128, .f32⟩
  | .hbm, ⟨26, _⟩ => ⟨S1x4096x1x128, .f32⟩
  | .hbm, ⟨27, _⟩ => ⟨S4096x128, .f32⟩
  | .hbm, ⟨28, _⟩ => ⟨S4096x64, .f32⟩
  | .hbm, ⟨29, _⟩ => ⟨S4096x128, .f32⟩
  | .hbm, ⟨30, _⟩ => ⟨S1x4096x1x128, .f32⟩
  | .hbm, ⟨31, _⟩ => ⟨S1x4096x1x128, .f32⟩
  | .hbm, ⟨32, _⟩ => ⟨S4096x128, .f32⟩
  | .hbm, ⟨33, _⟩ => ⟨S8192x2048, .f32⟩
  | .hbm, ⟨34, _⟩ => ⟨S2048, .f32⟩
  | .hbm, ⟨35, _⟩ => ⟨S1x2048, .f32⟩
  | .hbm, ⟨36, _⟩ => ⟨S8192x2048, .bf16⟩
  | .hbm, ⟨37, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1024x2048, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S2048x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S2x4096x2048 : Shape := ⟨3, ![2, 4096, 2048]⟩
abbrev S1x2048 : Shape := ⟨2, ![1, 2048]⟩
abbrev S2x1x2048 : Shape := ⟨3, ![2, 1, 2048]⟩
abbrev S1x2048x6224 : Shape := ⟨3, ![1, 2048, 6224]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x6224 : Shape := ⟨2, ![2048, 6224]⟩
abbrev S2x4096x6224 : Shape := ⟨3, ![2, 4096, 6224]⟩
abbrev S2x4096x1024 : Shape := ⟨3, ![2, 4096, 1024]⟩
abbrev S2x4096x64 : Shape := ⟨3, ![2, 4096, 64]⟩
abbrev S2x4096x16 : Shape := ⟨3, ![2, 4096, 16]⟩
abbrev S2x4096x8x128 : Shape := ⟨4, ![2, 4096, 8, 128]⟩
abbrev S4096 : Shape := ⟨1, ![4096]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S2x4096x8x64 : Shape := ⟨4, ![2, 4096, 8, 64]⟩
abbrev S8192x2048 : Shape := ⟨2, ![8192, 2048]⟩
abbrev S8192x1024 : Shape := ⟨2, ![8192, 1024]⟩

abbrev nBuf : Space → Nat
  | .hbm => 79
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S1x2048x6224, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S2048x6224, .f32⟩
  | .hbm, ⟨30, _⟩ => ⟨S2x4096x6224, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S2x4096x64, .f32⟩
  | .hbm, ⟨38, _⟩ => ⟨S2x4096x16, .f32⟩
  | .hbm, ⟨39, _⟩ => ⟨S2x4096x8x128, .f32⟩
  | .hbm, ⟨40, _⟩ => ⟨S4096, .i32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S4096, .f32⟩
  | .hbm, ⟨50, _⟩ => ⟨S4096x1, .f32⟩
  | .hbm, ⟨51, _⟩ => ⟨S1x64, .f32⟩
  | .hbm, ⟨52, _⟩ => ⟨S4096x64, .f32⟩
  | .hbm, ⟨53, _⟩ => ⟨S4096x64, .f32⟩
  | .hbm, ⟨54, _⟩ => ⟨S4096x64, .f32⟩
  | .hbm, ⟨55, _⟩ => ⟨S4096x64, .f32⟩
  | .hbm, ⟨56, _⟩ => ⟨S1x4096x1x64, .f32⟩
  | .hbm, ⟨57, _⟩ => ⟨S4096x64, .f32⟩
  | .hbm, ⟨58, _⟩ => ⟨S1x4096x1x64, .f32⟩
  | .hbm, ⟨59, _⟩ => ⟨S2x4096x8x64, .f32⟩
  | .hbm, ⟨60, _⟩ => ⟨S2x4096x8x64, .f32⟩
  | .hbm, ⟨61, _⟩ => ⟨S2x4096x8x64, .f32⟩
  | .hbm, ⟨62, _⟩ => ⟨S2x4096x8x64, .f32⟩
  | .hbm, ⟨63, _⟩ => ⟨S2x4096x8x64, .f32⟩
  | .hbm, ⟨64, _⟩ => ⟨S2x4096x8x64, .f32⟩
  | .hbm, ⟨65, _⟩ => ⟨S2x4096x8x64, .f32⟩
  | .hbm, ⟨66, _⟩ => ⟨S2x4096x8x64, .f32⟩
  | .hbm, ⟨67, _⟩ => ⟨S2x4096x8x64, .f32⟩
  | .hbm, ⟨68, _⟩ => ⟨S2x4096x8x64, .f32⟩
  | .hbm, ⟨69, _⟩ => ⟨S2x4096x8x64, .f32⟩
  | .hbm, ⟨70, _⟩ => ⟨S2x4096x8x64, .f32⟩
  | .hbm, ⟨71, _⟩ => ⟨S2x4096x8x128, .f32⟩
  | .hbm, ⟨72, _⟩ => ⟨S_, .f32⟩
  | .hbm, ⟨73, _⟩ => ⟨S2x4096x8x128, .f32⟩
  | .hbm, ⟨74, _⟩ => ⟨S2x4096x8x128, .f32⟩
  | .hbm, ⟨75, _⟩ => ⟨S8192x2048, .f32⟩
  | .hbm, ⟨76, _⟩ => ⟨S8192x2048, .bf16⟩
  | .hbm, ⟨77, _⟩ => ⟨S8192x1024, .f32⟩
  | .hbm, ⟨78, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_5 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩

abbrev nD : Nat := 1
abbrev τ : Topo := Topo.v7x

variable {F : FTy → Type} [FloatOps F]
-- ==== Kernel16.lean ====
abbrev S32x1x2048 : Shape := ⟨3, ![32, 1, 2048]⟩
abbrev S1x2048 : Shape := ⟨2, ![1, 2048]⟩
abbrev S32x2048 : Shape := ⟨2, ![32, 2048]⟩
abbrev S1x2048x6224 : Shape := ⟨3, ![1, 2048, 6224]⟩
abbrev S2048x6224 : Shape := ⟨2, ![2048, 6224]⟩
abbrev S6224x2048 : Shape := ⟨2, ![6224, 2048]⟩
abbrev S_ : Shape := ⟨0, ![]⟩
abbrev S32 : Shape := ⟨1, ![32]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S32x128 : Shape := ⟨2, ![32, 128]⟩
abbrev S1x32x1x128 : Shape := ⟨4, ![1, 32, 1, 128]⟩
abbrev S2048 : Shape := ⟨1, ![2048]⟩
abbrev S32x1024 : Shape := ⟨2, ![32, 1024]⟩
abbrev S1024x2048 : Shape := ⟨2, ![1024, 2048]⟩
abbrev S2048x1024 : Shape := ⟨2, ![2048, 1024]⟩

abbrev nBuf : Space → Nat
  | .hbm => 39
  | .vmem => 10
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S32x2048, .f32⟩
  | .hbm, ⟨3, _⟩ => ⟨S32x2048, .f32⟩
  | .hbm, ⟨4, _⟩ => ⟨S1x2048x6224, .f32⟩
  | .hbm, ⟨5, _⟩ => ⟨S2048x6224, .f32⟩
  | .hbm, ⟨6, _⟩ => ⟨S6224x2048, .f32⟩
  | .hbm, ⟨7, _⟩ => ⟨S_, .i32⟩
  | .hbm, ⟨8, _⟩ => ⟨S32, .i32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S32, .f32⟩
  | .hbm, ⟨18, _⟩ => ⟨S32x1, .f32⟩
  | .hbm, ⟨19, _⟩ => ⟨S1x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x128, .f32⟩
  | .hbm, ⟨26, _⟩ => ⟨S1x32x1x128, .f32⟩
  | .hbm, ⟨27, _⟩ => ⟨S1x32x1x128, .f32⟩
  | .hbm, ⟨28, _⟩ => ⟨S32x128, .f32⟩
  | .hbm, ⟨29, _⟩ => ⟨S32x64, .f32⟩
  | .hbm, ⟨30, _⟩ => ⟨S32x128, .f32⟩
  | .hbm, ⟨31, _⟩ => ⟨S1x32x1x128, .f32⟩
  | .hbm, ⟨32, _⟩ => ⟨S1x32x1x128, .f32⟩
  | .hbm, ⟨33, _⟩ => ⟨S32x128, .f32⟩
  | .hbm, ⟨34, _⟩ => ⟨S32x2048, .f32⟩
  | .hbm, ⟨35, _⟩ => ⟨S2048, .f32⟩
  | .hbm, ⟨36, _⟩ => ⟨S1x2048, .f32⟩
  | .hbm, ⟨37, _⟩ => ⟨S32x2048, .bf16⟩
  | .hbm, ⟨38, _⟩ => ⟨S32x1024, .bf16⟩
  | .local _ .vmem, ⟨0, _⟩ => ⟨S32x2048, .f32⟩
  | .local _ .vmem, ⟨1, _⟩ => ⟨S1x2048, .f32⟩
  | .local _ .vmem, ⟨2, _⟩ => ⟨S32x2048, .f32⟩
  | .local _ .vmem, ⟨3, _⟩ => ⟨S32x2048, .f32⟩
  | .local _ .vmem, ⟨4, _⟩ => ⟨S1024x2048, .f32⟩
  | .local _ .vmem, ⟨5, _⟩ => ⟨S32x128, .f32⟩
  | .local _ .vmem, ⟨6, _⟩ => ⟨S32x128, .f32⟩
  | .local _ .vmem, ⟨7, _⟩ => ⟨S32x2048, .bf16⟩
  | .local _ .vmem, ⟨8, _⟩ => ⟨S32x1024, .bf16⟩
  | .local _ .vmem, ⟨9, _⟩ => ⟨S2048x1024, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29_0 : Ref sig .tc := ⟨.hbm, 37, rfl⟩
abbrev main_v29_1 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference16Ideal.lean ====
abbrev S32x1x2048 : Shape := ⟨3, ![32, 1, 2048]⟩
abbrev S1x2048 : Shape := ⟨2, ![1, 2048]⟩
abbrev S32x2048 : Shape := ⟨2, ![32, 2048]⟩
abbrev S1x2048x6224 : Shape := ⟨3, ![1, 2048, 6224]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S2048x6224 : Shape := ⟨2, ![2048, 6224]⟩
abbrev S32x1x6224 : Shape := ⟨3, ![32, 1, 6224]⟩
abbrev S32x1x1024 : Shape := ⟨3, ![32, 1, 1024]⟩
abbrev S32x1x64 : Shape := ⟨3, ![32, 1, 64]⟩
abbrev S32x1x16 : Shape := ⟨3, ![32, 1, 16]⟩
abbrev S32x1x8x128 : Shape := ⟨4, ![32, 1, 8, 128]⟩
abbrev S1 : Shape := ⟨1, ![1]⟩
abbrev S64 : Shape := ⟨1, ![64]⟩
abbrev S1x1 : Shape := ⟨2, ![1, 1]⟩
abbrev S1x64 : Shape := ⟨2, ![1, 64]⟩
abbrev S1x1x1x64 : Shape := ⟨4, ![1, 1, 1, 64]⟩
abbrev S32x1x8x64 : Shape := ⟨4, ![32, 1, 8, 64]⟩
abbrev S32x1024 : Shape := ⟨2, ![32, 1024]⟩

abbrev nBuf : Space → Nat
  | .hbm => 81
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S32x2048, .f32⟩
  | .hbm, ⟨3, _⟩ => ⟨S32x2048, .f32⟩
  | .hbm, ⟨4, _⟩ => ⟨S1x2048x6224, .f32⟩
  | .hbm, ⟨5, _⟩ => ⟨S2048, .f32⟩
  | .hbm, ⟨6, _⟩ => ⟨S32x1x2048, .f32⟩
  | .hbm, ⟨7, _⟩ => ⟨S_, .f32⟩
  | .hbm, ⟨8, _⟩ => ⟨S32x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S_, .f32⟩
  | .hbm, ⟨14, _⟩ => ⟨S32x1x1, .f32⟩
  | .hbm, ⟨15, _⟩ => ⟨S32x1x1, .f32⟩
  | .hbm, ⟨16, _⟩ => ⟨S32x1x1, .f32⟩
  | .hbm, ⟨17, _⟩ => ⟨S32x1x2048, .f32⟩
  | .hbm, ⟨18, _⟩ => ⟨S32x1x2048, .f32⟩
  | .hbm, ⟨19, _⟩ => ⟨S1x1x2048, .f32⟩
  | .hbm, ⟨20, _⟩ => ⟨S32x1x2048, .f32⟩
  | .hbm, ⟨21, _⟩ => ⟨S32x1x2048, .f32⟩
  | .hbm, ⟨22, _⟩ => ⟨S32x1x2048, .f32⟩
  | .hbm, ⟨23, _⟩ => ⟨S_, .f32⟩
  | .hbm, ⟨24, _⟩ => ⟨S32x1x2048, .f32⟩
  | .hbm, ⟨25, _⟩ => ⟨S32x1x2048, .f32⟩
  | .hbm, ⟨26, _⟩ => ⟨S32x1x2048, .f32⟩
  | .hbm, ⟨27, _⟩ => ⟨S32x1x2048, .f32⟩
  | .hbm, ⟨28, _⟩ => ⟨S32x1x2048, .f32⟩
  | .hbm, ⟨29, _⟩ => ⟨S2048x6224, .f32⟩
  | .hbm, ⟨30, _⟩ => ⟨S32x1x6224, .f32⟩
  | .hbm, ⟨31, _⟩ => ⟨S32x1x1024, .f32⟩
  | .hbm, ⟨32, _⟩ => ⟨S32x1x1024, .f32⟩
  | .hbm, ⟨33, _⟩ => ⟨S32x1x1024, .f32⟩
  | .hbm, ⟨34, _⟩ => ⟨S32x1x1024, .f32⟩
  | .hbm, ⟨35, _⟩ => ⟨S32x1x1024, .f32⟩
  | .hbm, ⟨36, _⟩ => ⟨S32x1x1024, .f32⟩
  | .hbm, ⟨37, _⟩ => ⟨S32x1x64, .f32⟩
  | .hbm, ⟨38, _⟩ => ⟨S32x1x16, .f32⟩
  | .hbm, ⟨39, _⟩ => ⟨S32x1x8x128, .f32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S1, .i32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S1, .f32⟩
  | .hbm, ⟨53, _⟩ => ⟨S1x1, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x1x1x64, .f32⟩
  | .hbm, ⟨59, _⟩ => ⟨S1x64, .f32⟩
  | .hbm, ⟨60, _⟩ => ⟨S1x1x1x64, .f32⟩
  | .hbm, ⟨61, _⟩ => ⟨S32x1x8x64, .f32⟩
  | .hbm, ⟨62, _⟩ => ⟨S32x1x8x64, .f32⟩
  | .hbm, ⟨63, _⟩ => ⟨S32x1x8x64, .f32⟩
  | .hbm, ⟨64, _⟩ => ⟨S32x1x8x64, .f32⟩
  | .hbm, ⟨65, _⟩ => ⟨S32x1x8x64, .f32⟩
  | .hbm, ⟨66, _⟩ => ⟨S32x1x8x64, .f32⟩
  | .hbm, ⟨67, _⟩ => ⟨S32x1x8x64, .f32⟩
  | .hbm, ⟨68, _⟩ => ⟨S32x1x8x64, .f32⟩
  | .hbm, ⟨69, _⟩ => ⟨S32x1x8x64, .f32⟩
  | .hbm, ⟨70, _⟩ => ⟨S32x1x8x64, .f32⟩
  | .hbm, ⟨71, _⟩ => ⟨S32x1x8x64, .f32⟩
  | .hbm, ⟨72, _⟩ => ⟨S32x1x8x64, .f32⟩
  | .hbm, ⟨73, _⟩ => ⟨S32x1x8x128, .f32⟩
  | .hbm, ⟨74, _⟩ => ⟨S_, .f32⟩
  | .hbm, ⟨75, _⟩ => ⟨S32x1x8x128, .f32⟩
  | .hbm, ⟨76, _⟩ => ⟨S32x1x8x128, .f32⟩
  | .hbm, ⟨77, _⟩ => ⟨S32x2048, .f32⟩
  | .hbm, ⟨78, _⟩ => ⟨S32x2048, .bf16⟩
  | .hbm, ⟨79, _⟩ => ⟨S32x1024, .f32⟩
  | .hbm, ⟨80, _⟩ => ⟨S32x1024, .bf16⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_5 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩

abbrev nD : Nat := 1
abbrev τ : Topo := Topo.v7x

variable {F : FTy → Type} [FloatOps F]
-- ==== Kernel19.lean ====
abbrev S1x32x30x1024 : Shape := ⟨4, ![1, 32, 30, 1024]⟩
abbrev S32x1x1024 : Shape := ⟨3, ![32, 1, 1024]⟩
abbrev S1x31x1024 : Shape := ⟨3, ![1, 31, 1024]⟩
abbrev S1x1024 : Shape := ⟨2, ![1, 1024]⟩
abbrev S32x30x1024 : Shape := ⟨3, ![32, 30, 1024]⟩
abbrev S30x32x1024 : Shape := ⟨3, ![30, 32, 1024]⟩
abbrev S32x1024 : Shape := ⟨2, ![32, 1024]⟩
abbrev S31x1024 : Shape := ⟨2, ![31, 1024]⟩
abbrev S1024 : Shape := ⟨1, ![1024]⟩
abbrev S1x32x1024 : Shape := ⟨3, ![1, 32, 1024]⟩
abbrev S32 : Shape := ⟨1, ![32]⟩
abbrev S32x1 : Shape := ⟨2, ![32, 1]⟩

abbrev nBuf : Space → Nat
  | .hbm => 17
  | .vmem => 7
  | .smem => 0
  | _ => 0

abbrev bufTy : (tb : Table) → Fin (tcTables nBuf tb) → BufTy
  | .hbm, ⟨0, _⟩ => ⟨S1x32x30x1024, .f32⟩
  | .hbm, ⟨1, _⟩ => ⟨S32x1x1024, .f32⟩
  | .hbm, ⟨2, _⟩ => ⟨S1x31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S32x30x1024, .f32⟩
  | .hbm, ⟨7, _⟩ => ⟨S30x32x1024, .f32⟩
  | .hbm, ⟨8, _⟩ => ⟨S32x1024, .f32⟩
  | .hbm, ⟨9, _⟩ => ⟨S31x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S32x1024, .bf16⟩
  | .local _ .vmem, ⟨0, _⟩ => ⟨S30x32x1024, .f32⟩
  | .local _ .vmem, ⟨1, _⟩ => ⟨S32x1024, .f32⟩
  | .local _ .vmem, ⟨2, _⟩ => ⟨S31x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S32x1024, .bf16⟩
  | _, _ => ⟨S1x32x30x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S30x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference19Ideal.lean ====
abbrev S1x32x30x1024 : Shape := ⟨4, ![1, 32, 30, 1024]⟩
abbrev S32x1x1024 : Shape := ⟨3, ![32, 1, 1024]⟩
abbrev S1x31x1024 : Shape := ⟨3, ![1, 31, 1024]⟩
abbrev S1x1024 : Shape := ⟨2, ![1, 1024]⟩
abbrev S32x30x1024 : Shape := ⟨3, ![32, 30, 1024]⟩
abbrev S32x31x1024 : Shape := ⟨3, ![32, 31, 1024]⟩
abbrev S31x1024 : Shape := ⟨2, ![31, 1024]⟩
abbrev S1024 : Shape := ⟨1, ![1024]⟩
abbrev S1x1x1024 : Shape := ⟨3, ![1, 1, 1024]⟩
abbrev S_ : Shape := ⟨0, ![]⟩
abbrev S32x1 : Shape := ⟨2, ![32, 1]⟩
abbrev S32x1x1 : Shape := ⟨3, ![32, 1, 1]⟩
abbrev S32x1024 : Shape := ⟨2, ![32, 1024]⟩

abbrev nBuf : Space → Nat
  | .hbm => 274
  | .vmem => 0
  | .smem => 0
  | _ => 0

abbrev hbmTy0_0 (i : Nat) : BufTy := match i % 128 with
  | 0 => ⟨S1x32x30x1024, .f32⟩
  | 1 => ⟨S32x1x1024, .f32⟩
  | 2 => ⟨S1x31x1024, .f32⟩
  | 3 => ⟨S1x1024, .f32⟩
  | 4 => ⟨S1x1024, .f32⟩
  | 5 => ⟨S1x1024, .f32⟩
  | 6 => ⟨S32x30x1024, .f32⟩
  | 7 => ⟨S32x31x1024, .f32⟩
  | 8 => ⟨S31x1024, .f32⟩
  | 9 => ⟨S1024, .f32⟩
  | 10 => ⟨S32x1x1024, .f32⟩
  | 11 => ⟨S1x1024, .f32⟩
  | 12 => ⟨S1024, .f32⟩
  | 13 => ⟨S1x1x1024, .f32⟩
  | 14 => ⟨S32x1x1024, .f32⟩
  | 15 => ⟨S32x1x1024, .f32⟩
  | 16 => ⟨S_, .f32⟩
  | 17 => ⟨S32x1x1024, .f32⟩
  | 18 => ⟨S32x1x1024, .f32⟩
  | 19 => ⟨S32x1x1024, .f32⟩
  | 20 => ⟨S1x1024, .f32⟩
  | 21 => ⟨S1024, .f32⟩
  | 22 => ⟨S1x1x1024, .f32⟩
  | 23 => ⟨S32x1x1024, .f32⟩
  | 24 => ⟨S32x1x1024, .f32⟩
  | 25 => ⟨S32x1x1024, .f32⟩
  | 26 => ⟨S32x1x1024, .f32⟩
  | 27 => ⟨S1x1024, .f32⟩
  | 28 => ⟨S1024, .f32⟩
  | 29 => ⟨S1x1x1024, .f32⟩
  | 30 => ⟨S32x1x1024, .f32⟩
  | 31 => ⟨S32x1x1024, .f32⟩
  | 32 => ⟨S32x1x1024, .f32⟩
  | 33 => ⟨S32x1x1024, .f32⟩
  | 34 => ⟨S1x1024, .f32⟩
  | 35 => ⟨S1024, .f32⟩
  | 36 => ⟨S1x1x1024, .f32⟩
  | 37 => ⟨S32x1x1024, .f32⟩
  | 38 => ⟨S32x1x1024, .f32⟩
  | 39 => ⟨S32x1x1024, .f32⟩
  | 40 => ⟨S32x1x1024, .f32⟩
  | 41 => ⟨S1x1024, .f32⟩
  | 42 => ⟨S1024, .f32⟩
  | 43 => ⟨S1x1x1024, .f32⟩
  | 44 => ⟨S32x1x1024, .f32⟩
  | 45 => ⟨S32x1x1024, .f32⟩
  | 46 => ⟨S32x1x1024, .f32⟩
  | 47 => ⟨S32x1x1024, .f32⟩
  | 48 => ⟨S1x1024, .f32⟩
  | 49 => ⟨S1024, .f32⟩
  | 50 => ⟨S1x1x1024, .f32⟩
  | 51 => ⟨S32x1x1024, .f32⟩
  | 52 => ⟨S32x1x1024, .f32⟩
  | 53 => ⟨S32x1x1024, .f32⟩
  | 54 => ⟨S32x1x1024, .f32⟩
  | 55 => ⟨S1x1024, .f32⟩
  | 56 => ⟨S1024, .f32⟩
  | 57 => ⟨S1x1x1024, .f32⟩
  | 58 => ⟨S32x1x1024, .f32⟩
  | 59 => ⟨S32x1x1024, .f32⟩
  | 60 => ⟨S32x1x1024, .f32⟩
  | 61 => ⟨S32x1x1024, .f32⟩
  | 62 => ⟨S1x1024, .f32⟩
  | 63 => ⟨S1024, .f32⟩
  | 64 => ⟨S1x1x1024, .f32⟩
  | 65 => ⟨S32x1x1024, .f32⟩
  | 66 => ⟨S32x1x1024, .f32⟩
  | 67 => ⟨S32x1x1024, .f32⟩
  | 68 => ⟨S32x1x1024, .f32⟩
  | 69 => ⟨S1x1024, .f32⟩
  | 70 => ⟨S1024, .f32⟩
  | 71 => ⟨S1x1x1024, .f32⟩
  | 72 => ⟨S32x1x1024, .f32⟩
  | 73 => ⟨S32x1x1024, .f32⟩
  | 74 => ⟨S32x1x1024, .f32⟩
  | 75 => ⟨S32x1x1024, .f32⟩
  | 76 => ⟨S1x1024, .f32⟩
  | 77 => ⟨S1024, .f32⟩
  | 78 => ⟨S1x1x1024, .f32⟩
  | 79 => ⟨S32x1x1024, .f32⟩
  | 80 => ⟨S32x1x1024, .f32⟩
  | 81 => ⟨S32x1x1024, .f32⟩
  | 82 => ⟨S32x1x1024, .f32⟩
  | 83 => ⟨S1x1024, .f32⟩
  | 84 => ⟨S1024, .f32⟩
  | 85 => ⟨S1x1x1024, .f32⟩
  | 86 => ⟨S32x1x1024, .f32⟩
  | 87 => ⟨S32x1x1024, .f32⟩
  | 88 => ⟨S32x1x1024, .f32⟩
  | 89 => ⟨S32x1x1024, .f32⟩
  | 90 => ⟨S1x1024, .f32⟩
  | 91 => ⟨S1024, .f32⟩
  | 92 => ⟨S1x1x1024, .f32⟩
  | 93 => ⟨S32x1x1024, .f32⟩
  | 94 => ⟨S32x1x1024, .f32⟩
  | 95 => ⟨S32x1x1024, .f32⟩
  | 96 => ⟨S32x1x1024, .f32⟩
  | 97 => ⟨S1x1024, .f32⟩
  | 98 => ⟨S1024, .f32⟩
  | 99 => ⟨S1x1x1024, .f32⟩
  | 100 => ⟨S32x1x1024, .f32⟩
  | 101 => ⟨S32x1x1024, .f32⟩
  | 102 => ⟨S32x1x1024, .f32⟩
  | 103 => ⟨S32x1x1024, .f32⟩
  | 104 => ⟨S1x1024, .f32⟩
  | 105 => ⟨S1024, .f32⟩
  | 106 => ⟨S1x1x1024, .f32⟩
  | 107 => ⟨S32x1x1024, .f32⟩
  | 108 => ⟨S32x1x1024, .f32⟩
  | 109 => ⟨S32x1x1024, .f32⟩
  | 110 => ⟨S32x1x1024, .f32⟩
  | 111 => ⟨S1x1024, .f32⟩
  | 112 => ⟨S1024, .f32⟩
  | 113 => ⟨S1x1x1024, .f32⟩
  | 114 => ⟨S32x1x1024, .f32⟩
  | 115 => ⟨S32x1x1024, .f32⟩
  | 116 => ⟨S32x1x1024, .f32⟩
  | 117 => ⟨S32x1x1024, .f32⟩
  | 118 => ⟨S1x1024, .f32⟩
  | 119 => ⟨S1024, .f32⟩
  | 120 => ⟨S1x1x1024, .f32⟩
  | 121 => ⟨S32x1x1024, .f32⟩
  | 122 => ⟨S32x1x1024, .f32⟩
  | 123 => ⟨S32x1x1024, .f32⟩
  | 124 => ⟨S32x1x1024, .f32⟩
  | 125 => ⟨S1x1024, .f32⟩
  | 126 => ⟨S1024, .f32⟩
  | 127 => ⟨S1x1x1024, .f32⟩
  | _ => ⟨S1x32x30x1024, .f32⟩

abbrev hbmTy0_1 (i : Nat) : BufTy := match i % 128 with
  | 0 => ⟨S32x1x1024, .f32⟩
  | 1 => ⟨S32x1x1024, .f32⟩
  | 2 => ⟨S32x1x1024, .f32⟩
  | 3 => ⟨S32x1x1024, .f32⟩
  | 4 => ⟨S1x1024, .f32⟩
  | 5 => ⟨S1024, .f32⟩
  | 6 => ⟨S1x1x1024, .f32⟩
  | 7 => ⟨S32x1x1024, .f32⟩
  | 8 => ⟨S32x1x1024, .f32⟩
  | 9 => ⟨S32x1x1024, .f32⟩
  | 10 => ⟨S32x1x1024, .f32⟩
  | 11 => ⟨S1x1024, .f32⟩
  | 12 => ⟨S1024, .f32⟩
  | 13 => ⟨S1x1x1024, .f32⟩
  | 14 => ⟨S32x1x1024, .f32⟩
  | 15 => ⟨S32x1x1024, .f32⟩
  | 16 => ⟨S32x1x1024, .f32⟩
  | 17 => ⟨S32x1x1024, .f32⟩
  | 18 => ⟨S1x1024, .f32⟩
  | 19 => ⟨S1024, .f32⟩
  | 20 => ⟨S1x1x1024, .f32⟩
  | 21 => ⟨S32x1x1024, .f32⟩
  | 22 => ⟨S32x1x1024, .f32⟩
  | 23 => ⟨S32x1x1024, .f32⟩
  | 24 => ⟨S32x1x1024, .f32⟩
  | 25 => ⟨S1x1024, .f32⟩
  | 26 => ⟨S1024, .f32⟩
  | 27 => ⟨S1x1x1024, .f32⟩
  | 28 => ⟨S32x1x1024, .f32⟩
  | 29 => ⟨S32x1x1024, .f32⟩
  | 30 => ⟨S32x1x1024, .f32⟩
  | 31 => ⟨S32x1x1024, .f32⟩
  | 32 => ⟨S1x1024, .f32⟩
  | 33 => ⟨S1024, .f32⟩
  | 34 => ⟨S1x1x1024, .f32⟩
  | 35 => ⟨S32x1x1024, .f32⟩
  | 36 => ⟨S32x1x1024, .f32⟩
  | 37 => ⟨S32x1x1024, .f32⟩
  | 38 => ⟨S32x1x1024, .f32⟩
  | 39 => ⟨S1x1024, .f32⟩
  | 40 => ⟨S1024, .f32⟩
  | 41 => ⟨S1x1x1024, .f32⟩
  | 42 => ⟨S32x1x1024, .f32⟩
  | 43 => ⟨S32x1x1024, .f32⟩
  | 44 => ⟨S32x1x1024, .f32⟩
  | 45 => ⟨S32x1x1024, .f32⟩
  | 46 => ⟨S1x1024, .f32⟩
  | 47 => ⟨S1024, .f32⟩
  | 48 => ⟨S1x1x1024, .f32⟩
  | 49 => ⟨S32x1x1024, .f32⟩
  | 50 => ⟨S32x1x1024, .f32⟩
  | 51 => ⟨S32x1x1024, .f32⟩
  | 52 => ⟨S32x1x1024, .f32⟩
  | 53 => ⟨S1x1024, .f32⟩
  | 54 => ⟨S1024, .f32⟩
  | 55 => ⟨S1x1x1024, .f32⟩
  | 56 => ⟨S32x1x1024, .f32⟩
  | 57 => ⟨S32x1x1024, .f32⟩
  | 58 => ⟨S32x1x1024, .f32⟩
  | 59 => ⟨S32x1x1024, .f32⟩
  | 60 => ⟨S1x1024, .f32⟩
  | 61 => ⟨S1024, .f32⟩
  | 62 => ⟨S1x1x1024, .f32⟩
  | 63 => ⟨S32x1x1024, .f32⟩
  | 64 => ⟨S32x1x1024, .f32⟩
  | 65 => ⟨S32x1x1024, .f32⟩
  | 66 => ⟨S32x1x1024, .f32⟩
  | 67 => ⟨S1x1024, .f32⟩
  | 68 => ⟨S1024, .f32⟩
  | 69 => ⟨S1x1x1024, .f32⟩
  | 70 => ⟨S32x1x1024, .f32⟩
  | 71 => ⟨S32x1x1024, .f32⟩
  | 72 => ⟨S32x1x1024, .f32⟩
  | 73 => ⟨S32x1x1024, .f32⟩
  | 74 => ⟨S1x1024, .f32⟩
  | 75 => ⟨S1024, .f32⟩
  | 76 => ⟨S1x1x1024, .f32⟩
  | 77 => ⟨S32x1x1024, .f32⟩
  | 78 => ⟨S32x1x1024, .f32⟩
  | 79 => ⟨S32x1x1024, .f32⟩
  | 80 => ⟨S32x1x1024, .f32⟩
  | 81 => ⟨S1x1024, .f32⟩
  | 82 => ⟨S1024, .f32⟩
  | 83 => ⟨S1x1x1024, .f32⟩
  | 84 => ⟨S32x1x1024, .f32⟩
  | 85 => ⟨S32x1x1024, .f32⟩
  | 86 => ⟨S32x1x1024, .f32⟩
  | 87 => ⟨S32x1x1024, .f32⟩
  | 88 => ⟨S1x1024, .f32⟩
  | 89 => ⟨S1024, .f32⟩
  | 90 => ⟨S1x1x1024, .f32⟩
  | 91 => ⟨S32x1x1024, .f32⟩
  | 92 => ⟨S32x1x1024, .f32⟩
  | 93 => ⟨S32x1x1024, .f32⟩
  | 94 => ⟨S32x1x1024, .f32⟩
  | 95 => ⟨S1x1024, .f32⟩
  | 96 => ⟨S1024, .f32⟩
  | 97 => ⟨S1x1x1024, .f32⟩
  | 98 => ⟨S32x1x1024, .f32⟩
  | 99 => ⟨S32x1x1024, .f32⟩
  | 100 => ⟨S32x1x1024, .f32⟩
  | 101 => ⟨S1x1x1024, .f32⟩
  | 102 => ⟨S32x1x1024, .f32⟩
  | 103 => ⟨S32x1x1024, .f32⟩
  | 104 => ⟨S1024, .f32⟩
  | 105 => ⟨S1024, .f32⟩
  | 106 => ⟨S_, .f32⟩
  | 107 => ⟨S32x1, .f32⟩
  | 108 => ⟨S32x1x1, .f32⟩
  | 109 => ⟨S_, .f32⟩
  | 110 => ⟨S32x1x1, .f32⟩
  | 111 => ⟨S32x1x1, .f32⟩
  | 112 => ⟨S32x1x1024, .f32⟩
  | 113 => ⟨S32x1x1024, .f32⟩
  | 114 => ⟨S32x1x1024, .f32⟩
  | 115 => ⟨S_, .f32⟩
  | 116 => ⟨S32x1, .f32⟩
  | 117 => ⟨S32x1x1, .f32⟩
  | 118 => ⟨S_, .f32⟩
  | 119 => ⟨S32x1x1, .f32⟩
  | 120 => ⟨S32x1x1, .f32⟩
  | 121 => ⟨S32x1x1024, .f32⟩
  | 122 => ⟨S32x1x1024, .f32⟩
  | 123 => ⟨S_, .f32⟩
  | 124 => ⟨S32x1x1, .f32⟩
  | 125 => ⟨S32x1x1, .f32⟩
  | 126 => ⟨S32x1x1, .f32⟩
  | 127 => ⟨S32x1x1024, .f32⟩
  | _ => ⟨S1x32x30x1024, .f32⟩

abbrev hbmTy0_2 (i : Nat) : BufTy := match i % 128 with
  | 0 => ⟨S32x1x1024, .f32⟩
  | 1 => ⟨S1x1x1024, .f32⟩
  | 2 => ⟨S32x1x1024, .f32⟩
  | 3 => ⟨S32x1x1024, .f32⟩
  | 4 => ⟨S1x1x1024, .f32⟩
  | 5 => ⟨S32x1x1024, .f32⟩
  | 6 => ⟨S32x1x1024, .f32⟩
  | 7 => ⟨S32x1x1024, .f32⟩
  | 8 => ⟨S32x1x1024, .f32⟩
  | 9 => ⟨S_, .f32⟩
  | 10 => ⟨S32x1x1024, .f32⟩
  | 11 => ⟨S32x1x1024, .f32⟩
  | 12 => ⟨S_, .f32⟩
  | 13 => ⟨S32x1x1024, .f32⟩
  | 14 => ⟨S32x1x1024, .f32⟩
  | 15 => ⟨S32x1x1024, .f32⟩
  | 16 => ⟨S32x1024, .f32⟩
  | 17 => ⟨S32x1024, .bf16⟩
  | _ => ⟨S1x32x30x1024, .f32⟩

abbrev hbmTy (i : Nat) : BufTy := match i / 128 with
  | 0 => hbmTy0_0 i
  | 1 => hbmTy0_1 i
  | 2 => hbmTy0_2 i
  | _ => ⟨S1x32x30x1024, .f32⟩

abbrev bufTy : (tb : Table) → Fin (tcTables nBuf tb) → BufTy
  | .hbm, ⟨i, _⟩ => hbmTy i
  | _, _ => ⟨S1x32x30x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_cst_0 : Ref sig .tc := ⟨.hbm, 234, rfl⟩
abbrev main_v227 : Ref sig .tc := ⟨.hbm, 235, rfl⟩
abbrev main_v228 : Ref sig .tc := ⟨.hbm, 236, rfl⟩
abbrev main_cst_1 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_cst_2 : Ref sig .tc := ⟨.hbm, 243, rfl⟩
abbrev main_v234 : Ref sig .tc := ⟨.hbm, 244, rfl⟩
abbrev main_v235 : Ref sig .tc := ⟨.hbm, 245, rfl⟩
abbrev main_cst_3 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_4 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_call0_v0 : Ref sig .tc := ⟨.hbm, 263, rfl⟩
abbrev main_call0_v1 : Ref sig .tc := ⟨.hbm, 264, rfl⟩
abbrev main_call0_cst : Ref sig .tc := ⟨.hbm, 265, rfl⟩
abbrev main_call0_v2 : Ref sig .tc := ⟨.hbm, 266, rfl⟩
abbrev main_call0_v3 : Ref sig .tc := ⟨.hbm, 267, rfl⟩
abbrev main_call0_cst_0 : Ref sig .tc := ⟨.hbm, 268, rfl⟩
abbrev main_call0_v4 : Ref sig .tc := ⟨.hbm, 269, rfl⟩
abbrev main_call0_v5 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩

abbrev nD : Nat := 1
abbrev τ : Topo := Topo.v7x

variable {F : FTy → Type} [FloatOps F]
-- ==== Kernel20.lean ====
abbrev S2x4096x1024 : Shape := ⟨3, ![2, 4096, 1024]⟩
abbrev S1x31x1024 : Shape := ⟨3, ![1, 31, 1024]⟩
abbrev S1x1024 : Shape := ⟨2, ![1, 1024]⟩
abbrev S31x1024 : Shape := ⟨2, ![31, 1024]⟩
abbrev S1024 : Shape := ⟨1, ![1024]⟩
abbrev S1x256x1024 : Shape := ⟨3, ![1, 256, 1024]⟩
abbrev S296x1024 : Shape := ⟨2, ![296, 1024]⟩
abbrev S256x1024 : Shape := ⟨2, ![256, 1024]⟩
abbrev S1x32x1024 : Shape := ⟨3, ![1, 32, 1024]⟩
abbrev S32x1024 : Shape := ⟨2, ![32, 1024]⟩
abbrev S8x1024 : Shape := ⟨2, ![8, 1024]⟩
abbrev S1x128 : Shape := ⟨2, ![1, 128]⟩
abbrev S128x128 : Shape := ⟨2, ![128, 128]⟩
abbrev S144x128 : Shape := ⟨2, ![144, 128]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S2x4096x1024, .f32⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S31x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S2x4096x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S296x1024, .f32⟩
  | .local _ .vmem, ⟨11, _⟩ => ⟨S256x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_9 : BitVec 32 := 0#32
  let c8_i32 : BitVec 32 := 8#32
  let v17 : BitVec 32 := Scalar.addi c0_i32_9 c8_i32
  let c1_i32 : BitVec 32 := 1#32
  ⟨c0_i32_9, v17, c1_i32⟩
def k0_mult1 (k0_t1 : Fin k0_t1_loop.trips) : BitVec 32 :=
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  v49
def k0_off1 (k0_t1 : Fin k0_t1_loop.trips) : Fin 2 → Nat :=
  let c0_25 : Index := 0#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v51 : Index := Scalar.indexCast v50
  ![0, v51.toNat]
def k0_off2 (k0_t1 : Fin k0_t1_loop.trips) : Fin 2 → Nat :=
  let c0_26 : Index := 0#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v56 : Index := Scalar.indexCast v50
  ![0, v56.toNat]
def k0_off3 (k0_t1 : Fin k0_t1_loop.trips) : Fin 2 → Nat :=
  let c0_27 : Index := 0#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v59 : Index := Scalar.indexCast v50
  ![0, v59.toNat]
def k0_off4 (k0_t1 : Fin k0_t1_loop.trips) : Fin 2 → Nat :=
  let c8 : Index := 8#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v63 : Index := Scalar.indexCast v50
  ![8, v63.toNat]
def k0_off5 (k0_t1 : Fin k0_t1_loop.trips) : Fin 2 → Nat :=
  let c8_28 : Index := 8#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v66 : Index := Scalar.indexCast v50
  ![8, v66.toNat]
def k0_off6 (k0_t1 : Fin k0_t1_loop.trips) : Fin 2 → Nat :=
  let c16 : Index := 16#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v71 : Index := Scalar.indexCast v50
  ![16, v71.toNat]
def k0_off7 (k0_t1 : Fin k0_t1_loop.trips) : Fin 2 → Nat :=
  let c16_29 : Index := 16#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v74 : Index := Scalar.indexCast v50
  ![16, v74.toNat]
def k0_off8 (k0_t1 : Fin k0_t1_loop.trips) : Fin 2 → Nat :=
  let c24 : Index := 24#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v79 : Index := Scalar.indexCast v50
  ![24, v79.toNat]
def k0_off9 (k0_t1 : Fin k0_t1_loop.trips) : Fin 2 → Nat :=
  let c24_30 : Index := 24#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v82 : Index := Scalar.indexCast v50
  ![24, v82.toNat]
def k0_off10 (k0_t1 : Fin k0_t1_loop.trips) : Fin 2 → Nat :=
  let c1 : Index := 1#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v90 : Index := Scalar.indexCast v50
  ![1, v90.toNat]
def k0_off11 (k0_t1 : Fin k0_t1_loop.trips) : Fin 2 → Nat :=
  let c9 : Index := 9#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v97 : Index := Scalar.indexCast v50
  ![9, v97.toNat]
def k0_off12 (k0_t1 : Fin k0_t1_loop.trips) : Fin 2 → Nat :=
  let c17 : Index := 17#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v105 : Index := Scalar.indexCast v50
  ![17, v105.toNat]
def k0_off13 (k0_t1 : Fin k0_t1_loop.trips) : Fin 2 → Nat :=
  let c25 : Index := 25#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v113 : Index := Scalar.indexCast v50
  ![25, v113.toNat]
def k0_off14 (k0_t1 : Fin k0_t1_loop.trips) : Fin 2 → Nat :=
  let c2 : Index := 2#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v124 : Index := Scalar.indexCast v50
  ![2, v124.toNat]
def k0_off15 (k0_t1 : Fin k0_t1_loop.trips) : Fin 2 → Nat :=
  let c10 : Index := 10#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v131 : Index := Scalar.indexCast v50
  ![10, v131.toNat]
def k0_off16 (k0_t1 : Fin k0_t1_loop.trips) : Fin 2 → Nat :=
  let c18 : Index := 18#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v139 : Index := Scalar.indexCast v50
  ![18, v139.toNat]
def k0_off17 (k0_t1 : Fin k0_t1_loop.trips) : Fin 2 → Nat :=
  let c26 : Index := 26#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v147 : Index := Scalar.indexCast v50
  ![26, v147.toNat]
def k0_off18 (k0_t1 : Fin k0_t1_loop.trips) : Fin 2 → Nat :=
  let c3 : Index := 3#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v158 : Index := Scalar.indexCast v50
  ![3, v158.toNat]
def k0_off19 (k0_t1 : Fin k0_t1_loop.trips) : Fin 2 → Nat :=
  let c11 : Index := 11#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v165 : Index := Scalar.indexCast v50
  ![11, v165.toNat]
def k0_off20 (k0_t1 : Fin k0_t1_loop.trips) : Fin 2 → Nat :=
  let c19 : Index := 19#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v173 : Index := Scalar.indexCast v50
  ![19, v173.toNat]
def k0_off21 (k0_t1 : Fin k0_t1_loop.trips) : Fin 2 → Nat :=
  let c27 : Index := 27#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v181 : Index := Scalar.indexCast v50
  ![27, v181.toNat]
def k0_off22 (k0_t1 : Fin k0_t1_loop.trips) : Fin 2 → Nat :=
  let c4 : Index := 4#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v192 : Index := Scalar.indexCast v50
  ![4, v192.toNat]
def k0_off23 (k0_t1 : Fin k0_t1_loop.trips) : Fin 2 → Nat :=
  let c12 : Index := 12#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v199 : Index := Scalar.indexCast v50
  ![12, v199.toNat]
def k0_off24 (k0_t1 : Fin k0_t1_loop.trips) : Fin 2 → Nat :=
  let c20 : Index := 20#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v207 : Index := Scalar.indexCast v50
  ![20, v207.toNat]
def k0_off25 (k0_t1 : Fin k0_t1_loop.trips) : Fin 2 → Nat :=
  let c28 : Index := 28#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v215 : Index := Scalar.indexCast v50
  ![28, v215.toNat]
def k0_off26 (k0_t1 : Fin k0_t1_loop.trips) : Fin 2 → Nat :=
  let c5 : Index := 5#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v226 : Index := Scalar.indexCast v50
  ![5, v226.toNat]
def k0_off27 (k0_t1 : Fin k0_t1_loop.trips) : Fin 2 → Nat :=
  let c13 : Index := 13#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v233 : Index := Scalar.indexCast v50
  ![13, v233.toNat]
def k0_off28 (k0_t1 : Fin k0_t1_loop.trips) : Fin 2 → Nat :=
  let c21 : Index := 21#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v241 : Index := Scalar.indexCast v50
  ![21, v241.toNat]
def k0_off29 (k0_t1 : Fin k0_t1_loop.trips) : Fin 2 → Nat :=
  let c29 : Index := 29#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v249 : Index := Scalar.indexCast v50
  ![29, v249.toNat]
def k0_off30 (k0_t1 : Fin k0_t1_loop.trips) : Fin 2 → Nat :=
  let c6 : Index := 6#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v260 : Index := Scalar.indexCast v50
  ![6, v260.toNat]
def k0_off31 (k0_t1 : Fin k0_t1_loop.trips) : Fin 2 → Nat :=
  let c14 : Index := 14#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v267 : Index := Scalar.indexCast v50
  ![14, v267.toNat]
def k0_off32 (k0_t1 : Fin k0_t1_loop.trips) : Fin 2 → Nat :=
  let c22 : Index := 22#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v275 : Index := Scalar.indexCast v50
  ![22, v275.toNat]
def k0_off33 (k0_t1 : Fin k0_t1_loop.trips) : Fin 2 → Nat :=
  let c30 : Index := 30#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v283 : Index := Scalar.indexCast v50
  ![30, v283.toNat]
def k0_off34 (k0_t1 : Fin k0_t1_loop.trips) : Fin 2 → Nat :=
  let c7 : Index := 7#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v293 : Index := Scalar.indexCast v50
  ![7, v293.toNat]
def k0_off35 (k0_t1 : Fin k0_t1_loop.trips) : Fin 2 → Nat :=
  let c15 : Index := 15#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v300 : Index := Scalar.indexCast v50
  ![15, v300.toNat]
def k0_off36 (k0_t1 : Fin k0_t1_loop.trips) : Fin 2 → Nat :=
  let c23 : Index := 23#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v308 : Index := Scalar.indexCast v50
  ![23, v308.toNat]
def k0_off37 (k0_t1 : Fin k0_t1_loop.trips) : Fin 2 → Nat :=
  let c0_58 : Index := 0#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v319 : Index := Scalar.indexCast v50
  ![0, v319.toNat]
def k0_off38 (k0_t1 : Fin k0_t1_loop.trips) : Fin 2 → Nat :=
  let c128 : Index := 128#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v331 : Index := Scalar.indexCast v50
  ![128, v331.toNat]
def k0_off39 (k0_t1 : Fin k0_t1_loop.trips) : Fin 2 → Nat :=
  let c136 : Index := 136#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v338 : Index := Scalar.indexCast v50
  ![136, v338.toNat]
def k0_off40 (k0_t1 : Fin k0_t1_loop.trips) : Fin 2 → Nat :=
  let c144 : Index := 144#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v346 : Index := Scalar.indexCast v50
  ![144, v346.toNat]
def k0_off41 (k0_t1 : Fin k0_t1_loop.trips) : Fin 2 → Nat :=
  let c152 : Index := 152#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v354 : Index := Scalar.indexCast v50
  ![152, v354.toNat]
def k0_off42 (k0_t1 : Fin k0_t1_loop.trips) : Fin 2 → Nat :=
  let c128_125 : Index := 128#32
  let c0_i32_9 : BitVec 32 := 0#32
  let c1_i32 : BitVec 32 := 1#32
  let arg11 : BitVec 32 := Scf.iv c0_i32_9 c1_i32 k0_t1
  let c128_i32 : BitVec 32 := 128#32
  let v49 : BitVec 32 := Scalar.muli arg11 c128_i32
  let v50 : BitVec 32 := v49
  let v591 : Index := Scalar.indexCast v50
  ![128, v591.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S2x4096x1024 : Shape := ⟨3, ![2, 4096, 1024]⟩
abbrev S1x31x1024 : Shape := ⟨3, ![1, 31, 1024]⟩
abbrev S1x1024 : Shape := ⟨2, ![1, 1024]⟩
abbrev S_ : Shape := ⟨0, ![]⟩
abbrev S2x30x1024 : Shape := ⟨3, ![2, 30, 1024]⟩
abbrev S2x4126x1024 : Shape := ⟨3, ![2, 4126, 1024]⟩
abbrev S31x1024 : Shape := ⟨2, ![31, 1024]⟩
abbrev S1024 : Shape := ⟨1, ![1024]⟩
abbrev S1x1x1024 : Shape := ⟨3, ![1, 1, 1024]⟩
abbrev S2x4096 : Shape := ⟨2, ![2, 4096]⟩
abbrev S2x4096x1 : Shape := ⟨3, ![2, 4096, 1]⟩

abbrev nBuf : Space → Nat
  | .hbm => 273
  | .vmem => 0
  | .smem => 0
  | _ => 0

abbrev hbmTy0_0 (i : Nat) : BufTy := match i % 128 with
  | 0 => ⟨S2x4096x1024, .f32⟩
  | 1 => ⟨S1x31x1024, .f32⟩
  | 2 => ⟨S1x1024, .f32⟩
  | 3 => ⟨S1x1024, .f32⟩
  | 4 => ⟨S1x1024, .f32⟩
  | 5 => ⟨S_, .f32⟩
  | 6 => ⟨S2x30x1024, .f32⟩
  | 7 => ⟨S2x4126x1024, .f32⟩
  | 8 => ⟨S31x1024, .f32⟩
  | 9 => ⟨S1024, .f32⟩
  | 10 => ⟨S2x4096x1024, .f32⟩
  | 11 => ⟨S1x1024, .f32⟩
  | 12 => ⟨S1024, .f32⟩
  | 13 => ⟨S1x1x1024, .f32⟩
  | 14 => ⟨S2x4096x1024, .f32⟩
  | 15 => ⟨S2x4096x1024, .f32⟩
  | 16 => ⟨S_, .f32⟩
  | 17 => ⟨S2x4096x1024, .f32⟩
  | 18 => ⟨S2x4096x1024, .f32⟩
  | 19 => ⟨S2x4096x1024, .f32⟩
  | 20 => ⟨S1x1024, .f32⟩
  | 21 => ⟨S1024, .f32⟩
  | 22 => ⟨S1x1x1024, .f32⟩
  | 23 => ⟨S2x4096x1024, .f32⟩
  | 24 => ⟨S2x4096x1024, .f32⟩
  | 25 => ⟨S2x4096x1024, .f32⟩
  | 26 => ⟨S2x4096x1024, .f32⟩
  | 27 => ⟨S1x1024, .f32⟩
  | 28 => ⟨S1024, .f32⟩
  | 29 => ⟨S1x1x1024, .f32⟩
  | 30 => ⟨S2x4096x1024, .f32⟩
  | 31 => ⟨S2x4096x1024, .f32⟩
  | 32 => ⟨S2x4096x1024, .f32⟩
  | 33 => ⟨S2x4096x1024, .f32⟩
  | 34 => ⟨S1x1024, .f32⟩
  | 35 => ⟨S1024, .f32⟩
  | 36 => ⟨S1x1x1024, .f32⟩
  | 37 => ⟨S2x4096x1024, .f32⟩
  | 38 => ⟨S2x4096x1024, .f32⟩
  | 39 => ⟨S2x4096x1024, .f32⟩
  | 40 => ⟨S2x4096x1024, .f32⟩
  | 41 => ⟨S1x1024, .f32⟩
  | 42 => ⟨S1024, .f32⟩
  | 43 => ⟨S1x1x1024, .f32⟩
  | 44 => ⟨S2x4096x1024, .f32⟩
  | 45 => ⟨S2x4096x1024, .f32⟩
  | 46 => ⟨S2x4096x1024, .f32⟩
  | 47 => ⟨S2x4096x1024, .f32⟩
  | 48 => ⟨S1x1024, .f32⟩
  | 49 => ⟨S1024, .f32⟩
  | 50 => ⟨S1x1x1024, .f32⟩
  | 51 => ⟨S2x4096x1024, .f32⟩
  | 52 => ⟨S2x4096x1024, .f32⟩
  | 53 => ⟨S2x4096x1024, .f32⟩
  | 54 => ⟨S2x4096x1024, .f32⟩
  | 55 => ⟨S1x1024, .f32⟩
  | 56 => ⟨S1024, .f32⟩
  | 57 => ⟨S1x1x1024, .f32⟩
  | 58 => ⟨S2x4096x1024, .f32⟩
  | 59 => ⟨S2x4096x1024, .f32⟩
  | 60 => ⟨S2x4096x1024, .f32⟩
  | 61 => ⟨S2x4096x1024, .f32⟩
  | 62 => ⟨S1x1024, .f32⟩
  | 63 => ⟨S1024, .f32⟩
  | 64 => ⟨S1x1x1024, .f32⟩
  | 65 => ⟨S2x4096x1024, .f32⟩
  | 66 => ⟨S2x4096x1024, .f32⟩
  | 67 => ⟨S2x4096x1024, .f32⟩
  | 68 => ⟨S2x4096x1024, .f32⟩
  | 69 => ⟨S1x1024, .f32⟩
  | 70 => ⟨S1024, .f32⟩
  | 71 => ⟨S1x1x1024, .f32⟩
  | 72 => ⟨S2x4096x1024, .f32⟩
  | 73 => ⟨S2x4096x1024, .f32⟩
  | 74 => ⟨S2x4096x1024, .f32⟩
  | 75 => ⟨S2x4096x1024, .f32⟩
  | 76 => ⟨S1x1024, .f32⟩
  | 77 => ⟨S1024, .f32⟩
  | 78 => ⟨S1x1x1024, .f32⟩
  | 79 => ⟨S2x4096x1024, .f32⟩
  | 80 => ⟨S2x4096x1024, .f32⟩
  | 81 => ⟨S2x4096x1024, .f32⟩
  | 82 => ⟨S2x4096x1024, .f32⟩
  | 83 => ⟨S1x1024, .f32⟩
  | 84 => ⟨S1024, .f32⟩
  | 85 => ⟨S1x1x1024, .f32⟩
  | 86 => ⟨S2x4096x1024, .f32⟩
  | 87 => ⟨S2x4096x1024, .f32⟩
  | 88 => ⟨S2x4096x1024, .f32⟩
  | 89 => ⟨S2x4096x1024, .f32⟩
  | 90 => ⟨S1x1024, .f32⟩
  | 91 => ⟨S1024, .f32⟩
  | 92 => ⟨S1x1x1024, .f32⟩
  | 93 => ⟨S2x4096x1024, .f32⟩
  | 94 => ⟨S2x4096x1024, .f32⟩
  | 95 => ⟨S2x4096x1024, .f32⟩
  | 96 => ⟨S2x4096x1024, .f32⟩
  | 97 => ⟨S1x1024, .f32⟩
  | 98 => ⟨S1024, .f32⟩
  | 99 => ⟨S1x1x1024, .f32⟩
  | 100 => ⟨S2x4096x1024, .f32⟩
  | 101 => ⟨S2x4096x1024, .f32⟩
  | 102 => ⟨S2x4096x1024, .f32⟩
  | 103 => ⟨S2x4096x1024, .f32⟩
  | 104 => ⟨S1x1024, .f32⟩
  | 105 => ⟨S1024, .f32⟩
  | 106 => ⟨S1x1x1024, .f32⟩
  | 107 => ⟨S2x4096x1024, .f32⟩
  | 108 => ⟨S2x4096x1024, .f32⟩
  | 109 => ⟨S2x4096x1024, .f32⟩
  | 110 => ⟨S2x4096x1024, .f32⟩
  | 111 => ⟨S1x1024, .f32⟩
  | 112 => ⟨S1024, .f32⟩
  | 113 => ⟨S1x1x1024, .f32⟩
  | 114 => ⟨S2x4096x1024, .f32⟩
  | 115 => ⟨S2x4096x1024, .f32⟩
  | 116 => ⟨S2x4096x1024, .f32⟩
  | 117 => ⟨S2x4096x1024, .f32⟩
  | 118 => ⟨S1x1024, .f32⟩
  | 119 => ⟨S1024, .f32⟩
  | 120 => ⟨S1x1x1024, .f32⟩
  | 121 => ⟨S2x4096x1024, .f32⟩
  | 122 => ⟨S2x4096x1024, .f32⟩
  | 123 => ⟨S2x4096x1024, .f32⟩
  | 124 => ⟨S2x4096x1024, .f32⟩
  | 125 => ⟨S1x1024, .f32⟩
  | 126 => ⟨S1024, .f32⟩
  | 127 => ⟨S1x1x1024, .f32⟩
  | _ => ⟨S2x4096x1024, .f32⟩

abbrev hbmTy0_1 (i : Nat) : BufTy := match i % 128 with
  | 0 => ⟨S2x4096x1024, .f32⟩
  | 1 => ⟨S2x4096x1024, .f32⟩
  | 2 => ⟨S2x4096x1024, .f32⟩
  | 3 => ⟨S2x4096x1024, .f32⟩
  | 4 => ⟨S1x1024, .f32⟩
  | 5 => ⟨S1024, .f32⟩
  | 6 => ⟨S1x1x1024, .f32⟩
  | 7 => ⟨S2x4096x1024, .f32⟩
  | 8 => ⟨S2x4096x1024, .f32⟩
  | 9 => ⟨S2x4096x1024, .f32⟩
  | 10 => ⟨S2x4096x1024, .f32⟩
  | 11 => ⟨S1x1024, .f32⟩
  | 12 => ⟨S1024, .f32⟩
  | 13 => ⟨S1x1x1024, .f32⟩
  | 14 => ⟨S2x4096x1024, .f32⟩
  | 15 => ⟨S2x4096x1024, .f32⟩
  | 16 => ⟨S2x4096x1024, .f32⟩
  | 17 => ⟨S2x4096x1024, .f32⟩
  | 18 => ⟨S1x1024, .f32⟩
  | 19 => ⟨S1024, .f32⟩
  | 20 => ⟨S1x1x1024, .f32⟩
  | 21 => ⟨S2x4096x1024, .f32⟩
  | 22 => ⟨S2x4096x1024, .f32⟩
  | 23 => ⟨S2x4096x1024, .f32⟩
  | 24 => ⟨S2x4096x1024, .f32⟩
  | 25 => ⟨S1x1024, .f32⟩
  | 26 => ⟨S1024, .f32⟩
  | 27 => ⟨S1x1x1024, .f32⟩
  | 28 => ⟨S2x4096x1024, .f32⟩
  | 29 => ⟨S2x4096x1024, .f32⟩
  | 30 => ⟨S2x4096x1024, .f32⟩
  | 31 => ⟨S2x4096x1024, .f32⟩
  | 32 => ⟨S1x1024, .f32⟩
  | 33 => ⟨S1024, .f32⟩
  | 34 => ⟨S1x1x1024, .f32⟩
  | 35 => ⟨S2x4096x1024, .f32⟩
  | 36 => ⟨S2x4096x1024, .f32⟩
  | 37 => ⟨S2x4096x1024, .f32⟩
  | 38 => ⟨S2x4096x1024, .f32⟩
  | 39 => ⟨S1x1024, .f32⟩
  | 40 => ⟨S1024, .f32⟩
  | 41 => ⟨S1x1x1024, .f32⟩
  | 42 => ⟨S2x4096x1024, .f32⟩
  | 43 => ⟨S2x4096x1024, .f32⟩
  | 44 => ⟨S2x4096x1024, .f32⟩
  | 45 => ⟨S2x4096x1024, .f32⟩
  | 46 => ⟨S1x1024, .f32⟩
  | 47 => ⟨S1024, .f32⟩
  | 48 => ⟨S1x1x1024, .f32⟩
  | 49 => ⟨S2x4096x1024, .f32⟩
  | 50 => ⟨S2x4096x1024, .f32⟩
  | 51 => ⟨S2x4096x1024, .f32⟩
  | 52 => ⟨S2x4096x1024, .f32⟩
  | 53 => ⟨S1x1024, .f32⟩
  | 54 => ⟨S1024, .f32⟩
  | 55 => ⟨S1x1x1024, .f32⟩
  | 56 => ⟨S2x4096x1024, .f32⟩
  | 57 => ⟨S2x4096x1024, .f32⟩
  | 58 => ⟨S2x4096x1024, .f32⟩
  | 59 => ⟨S2x4096x1024, .f32⟩
  | 60 => ⟨S1x1024, .f32⟩
  | 61 => ⟨S1024, .f32⟩
  | 62 => ⟨S1x1x1024, .f32⟩
  | 63 => ⟨S2x4096x1024, .f32⟩
  | 64 => ⟨S2x4096x1024, .f32⟩
  | 65 => ⟨S2x4096x1024, .f32⟩
  | 66 => ⟨S2x4096x1024, .f32⟩
  | 67 => ⟨S1x1024, .f32⟩
  | 68 => ⟨S1024, .f32⟩
  | 69 => ⟨S1x1x1024, .f32⟩
  | 70 => ⟨S2x4096x1024, .f32⟩
  | 71 => ⟨S2x4096x1024, .f32⟩
  | 72 => ⟨S2x4096x1024, .f32⟩
  | 73 => ⟨S2x4096x1024, .f32⟩
  | 74 => ⟨S1x1024, .f32⟩
  | 75 => ⟨S1024, .f32⟩
  | 76 => ⟨S1x1x1024, .f32⟩
  | 77 => ⟨S2x4096x1024, .f32⟩
  | 78 => ⟨S2x4096x1024, .f32⟩
  | 79 => ⟨S2x4096x1024, .f32⟩
  | 80 => ⟨S2x4096x1024, .f32⟩
  | 81 => ⟨S1x1024, .f32⟩
  | 82 => ⟨S1024, .f32⟩
  | 83 => ⟨S1x1x1024, .f32⟩
  | 84 => ⟨S2x4096x1024, .f32⟩
  | 85 => ⟨S2x4096x1024, .f32⟩
  | 86 => ⟨S2x4096x1024, .f32⟩
  | 87 => ⟨S2x4096x1024, .f32⟩
  | 88 => ⟨S1x1024, .f32⟩
  | 89 => ⟨S1024, .f32⟩
  | 90 => ⟨S1x1x1024, .f32⟩
  | 91 => ⟨S2x4096x1024, .f32⟩
  | 92 => ⟨S2x4096x1024, .f32⟩
  | 93 => ⟨S2x4096x1024, .f32⟩
  | 94 => ⟨S2x4096x1024, .f32⟩
  | 95 => ⟨S1x1024, .f32⟩
  | 96 => ⟨S1024, .f32⟩
  | 97 => ⟨S1x1x1024, .f32⟩
  | 98 => ⟨S2x4096x1024, .f32⟩
  | 99 => ⟨S2x4096x1024, .f32⟩
  | 100 => ⟨S2x4096x1024, .f32⟩
  | 101 => ⟨S1x1x1024, .f32⟩
  | 102 => ⟨S2x4096x1024, .f32⟩
  | 103 => ⟨S2x4096x1024, .f32⟩
  | 104 => ⟨S1024, .f32⟩
  | 105 => ⟨S1024, .f32⟩
  | 106 => ⟨S_, .f32⟩
  | 107 => ⟨S2x4096, .f32⟩
  | 108 => ⟨S2x4096x1, .f32⟩
  | 109 => ⟨S_, .f32⟩
  | 110 => ⟨S2x4096x1, .f32⟩
  | 111 => ⟨S2x4096x1, .f32⟩
  | 112 => ⟨S2x4096x1024, .f32⟩
  | 113 => ⟨S2x4096x1024, .f32⟩
  | 114 => ⟨S2x4096x1024, .f32⟩
  | 115 => ⟨S_, .f32⟩
  | 116 => ⟨S2x4096, .f32⟩
  | 117 => ⟨S2x4096x1, .f32⟩
  | 118 => ⟨S_, .f32⟩
  | 119 => ⟨S2x4096x1, .f32⟩
  | 120 => ⟨S2x4096x1, .f32⟩
  | 121 => ⟨S2x4096x1024, .f32⟩
  | 122 => ⟨S2x4096x1024, .f32⟩
  | 123 => ⟨S_, .f32⟩
  | 124 => ⟨S2x4096x1, .f32⟩
  | 125 => ⟨S2x4096x1, .f32⟩
  | 126 => ⟨S2x4096x1, .f32⟩
  | 127 => ⟨S2x4096x1024, .f32⟩
  | _ => ⟨S2x4096x1024, .f32⟩

abbrev hbmTy0_2 (i : Nat) : BufTy := match i % 128 with
  | 0 => ⟨S2x4096x1024, .f32⟩
  | 1 => ⟨S1x1x1024, .f32⟩
  | 2 => ⟨S2x4096x1024, .f32⟩
  | 3 => ⟨S2x4096x1024, .f32⟩
  | 4 => ⟨S1x1x1024, .f32⟩
  | 5 => ⟨S2x4096x1024, .f32⟩
  | 6 => ⟨S2x4096x1024, .f32⟩
  | 7 => ⟨S2x4096x1024, .f32⟩
  | 8 => ⟨S2x4096x1024, .f32⟩
  | 9 => ⟨S_, .f32⟩
  | 10 => ⟨S2x4096x1024, .f32⟩
  | 11 => ⟨S2x4096x1024, .f32⟩
  | 12 => ⟨S_, .f32⟩
  | 13 => ⟨S2x4096x1024, .f32⟩
  | 14 => ⟨S2x4096x1024, .f32⟩
  | 15 => ⟨S2x4096x1024, .f32⟩
  | 16 => ⟨S2x4096x1024, .bf16⟩
  | _ => ⟨S2x4096x1024, .f32⟩

abbrev hbmTy (i : Nat) : BufTy := match i / 128 with
  | 0 => hbmTy0_0 i
  | 1 => hbmTy0_1 i
  | 2 => hbmTy0_2 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_cst_1 : Ref sig .tc := ⟨.hbm, 234, rfl⟩
abbrev main_v227 : Ref sig .tc := ⟨.hbm, 235, rfl⟩
abbrev main_v228 : Ref sig .tc := ⟨.hbm, 236, rfl⟩
abbrev main_cst_2 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_cst_3 : Ref sig .tc := ⟨.hbm, 243, rfl⟩
abbrev main_v234 : Ref sig .tc := ⟨.hbm, 244, rfl⟩
abbrev main_v235 : Ref sig .tc := ⟨.hbm, 245, rfl⟩
abbrev main_cst_4 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_5 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_call0_v0 : Ref sig .tc := ⟨.hbm, 263, rfl⟩
abbrev main_call0_v1 : Ref sig .tc := ⟨.hbm, 264, rfl⟩
abbrev main_call0_cst : Ref sig .tc := ⟨.hbm, 265, rfl⟩
abbrev main_call0_v2 : Ref sig .tc := ⟨.hbm, 266, rfl⟩
abbrev main_call0_v3 : Ref sig .tc := ⟨.hbm, 267, rfl⟩
abbrev main_call0_cst_0 : Ref sig .tc := ⟨.hbm, 268, rfl⟩
abbrev main_call0_v4 : Ref sig .tc := ⟨.hbm, 269, rfl⟩
abbrev main_call0_v5 : Ref sig .tc := ⟨.hbm, 270, rfl⟩
abbrev main_v251 : Ref sig .tc := ⟨.hbm, 271, rfl⟩
abbrev main_v252 : Ref sig .tc := ⟨.hbm, 272, rfl⟩

abbrev nD : Nat := 1
abbrev τ : Topo := Topo.v7x

variable {F : FTy → Type} [FloatOps F]
-- ==== Kernel7.lean ====
abbrev S2x2048 : Shape := ⟨2, ![2, 2048]⟩
abbrev S32x2048 : Shape := ⟨2, ![32, 2048]⟩
abbrev S1x2048x12288 : Shape := ⟨3, ![1, 2048, 12288]⟩
abbrev S1x12288 : Shape := ⟨2, ![1, 12288]⟩
abbrev S34x2048 : Shape := ⟨2, ![34, 2048]⟩
abbrev S_ : Shape := ⟨0, ![]⟩
abbrev S40x2048 : Shape := ⟨2, ![40, 2048]⟩
abbrev S2048x12288 : Shape := ⟨2, ![2048, 12288]⟩
abbrev S12288 : Shape := ⟨1, ![12288]⟩
abbrev S40x12288 : Shape := ⟨2, ![40, 12288]⟩
abbrev S2048x1024 : Shape := ⟨2, ![2048, 1024]⟩
abbrev S1x1024 : Shape := ⟨2, ![1, 1024]⟩
abbrev S40x1024 : Shape := ⟨2, ![40, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S32x2048, .f32⟩
  | .hbm, ⟨2, _⟩ => ⟨S1x2048x12288, .f32⟩
  | .hbm, ⟨3, _⟩ => ⟨S1x12288, .f32⟩
  | .hbm, ⟨4, _⟩ => ⟨S34x2048, .f32⟩
  | .hbm, ⟨5, _⟩ => ⟨S_, .i32⟩
  | .hbm, ⟨6, _⟩ => ⟨S_, .f32⟩
  | .hbm, ⟨7, _⟩ => ⟨S40x2048, .f32⟩
  | .hbm, ⟨8, _⟩ => ⟨S2048x12288, .f32⟩
  | .hbm, ⟨9, _⟩ => ⟨S12288, .f32⟩
  | .hbm, ⟨10, _⟩ => ⟨S1x12288, .f32⟩
  | .hbm, ⟨11, _⟩ => ⟨S40x12288, .f32⟩
  | .local _ .vmem, ⟨0, _⟩ => ⟨S40x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S2x2048 : Shape := ⟨2, ![2, 2048]⟩
abbrev S32x2048 : Shape := ⟨2, ![32, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S2x12288 : Shape := ⟨2, ![2, 12288]⟩
abbrev S12288 : Shape := ⟨1, ![12288]⟩
abbrev S32x12288 : Shape := ⟨2, ![32, 12288]⟩
abbrev S6x12288 : Shape := ⟨2, ![6, 12288]⟩
abbrev S40x12288 : Shape := ⟨2, ![40, 12288]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S32x2048, .f32⟩
  | .hbm, ⟨2, _⟩ => ⟨S1x2048x12288, .f32⟩
  | .hbm, ⟨3, _⟩ => ⟨S1x12288, .f32⟩
  | .hbm, ⟨4, _⟩ => ⟨S2x2048, .f32⟩
  | .hbm, ⟨5, _⟩ => ⟨S2x2048, .f32⟩
  | .hbm, ⟨6, _⟩ => ⟨S_, .f32⟩
  | .hbm, ⟨7, _⟩ => ⟨S2x2048, .f32⟩
  | .hbm, ⟨8, _⟩ => ⟨S2x2048, .f32⟩
  | .hbm, ⟨9, _⟩ => ⟨S_, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2048x12288, .f32⟩
  | .hbm, ⟨14, _⟩ => ⟨S2x12288, .f32⟩
  | .hbm, ⟨15, _⟩ => ⟨S12288, .f32⟩
  | .hbm, ⟨16, _⟩ => ⟨S1x12288, .f32⟩
  | .hbm, ⟨17, _⟩ => ⟨S2x12288, .f32⟩
  | .hbm, ⟨18, _⟩ => ⟨S2x12288, .f32⟩
  | .hbm, ⟨19, _⟩ => ⟨S32x2048, .f32⟩
  | .hbm, ⟨20, _⟩ => ⟨S32x2048, .f32⟩
  | .hbm, ⟨21, _⟩ => ⟨S_, .f32⟩
  | .hbm, ⟨22, _⟩ => ⟨S32x2048, .f32⟩
  | .hbm, ⟨23, _⟩ => ⟨S32x2048, .f32⟩
  | .hbm, ⟨24, _⟩ => ⟨S_, .f32⟩
  | .hbm, ⟨25, _⟩ => ⟨S32x2048, .f32⟩
  | .hbm, ⟨26, _⟩ => ⟨S32x2048, .f32⟩
  | .hbm, ⟨27, _⟩ => ⟨S32x2048, .f32⟩
  | .hbm, ⟨28, _⟩ => ⟨S2048x12288, .f32⟩
  | .hbm, ⟨29, _⟩ => ⟨S32x12288, .f32⟩
  | .hbm, ⟨30, _⟩ => ⟨S12288, .f32⟩
  | .hbm, ⟨31, _⟩ => ⟨S1x12288, .f32⟩
  | .hbm, ⟨32, _⟩ => ⟨S32x12288, .f32⟩
  | .hbm, ⟨33, _⟩ => ⟨S32x12288, .f32⟩
  | .hbm, ⟨34, _⟩ => ⟨S12288, .f32⟩
  | .hbm, ⟨35, _⟩ => ⟨S6x12288, .f32⟩
  | .hbm, ⟨36, _⟩ => ⟨S40x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== Proof.MlpSpec.lean ====
/-
  The arithmetic of the feed-forward block with its residual and the final RMS norm, over the extended reals, as plain
  functions of the coordinates: what both the tiled kernel and the reference compute.
-/
module

public import Idealize.ShloMosaic.Lib.Pointwise

@[expose] public section

noncomputable section

namespace Cert.MlpSpec

open Idealize.ShloMosaic

/-- The squared rectifier. -/
def reluSq (x : EReal) : EReal := max x 0 * max x 0

variable {B P D H : ℕ}

/-- One hidden unit's share of output feature `j` at row `(b, p)`: the squared rectifier of the row's product with the
    unit's column of the first matrix, times the unit's entry of the second. -/
def unit (h : Fin B → Fin P → Fin D → EReal) (w1 : Fin D → Fin H → EReal) (w2 : Fin H → Fin D → EReal)
    (b : Fin B) (p : Fin P) (j : Fin D) (k : Fin H) : EReal :=
  reluSq (∑ d, h b p d * w1 d k) * w2 k j

/-- The feed-forward block: the sum of every hidden unit's share. -/
def ffn (h : Fin B → Fin P → Fin D → EReal) (w1 : Fin D → Fin H → EReal) (w2 : Fin H → Fin D → EReal)
    (b : Fin B) (p : Fin P) (j : Fin D) : EReal :=
  ∑ k, unit h w1 w2 b p j k

/-- RMS norm of a row `y` of `D` features at feature `j`: `y j` times the inverse root of the mean square plus the
    stabiliser, times the norm's gain. `n` and `eps` are the words for the number of features and the stabiliser. -/
def rms (n eps : EReal) (y : Fin D → EReal) (g : Fin D → EReal) (j : Fin D) : EReal :=
  y j * Ideal.rsqrt (Ideal.div (∑ d, y d * y d) n + eps) * g j

end Cert.MlpSpec

end
-- ==== Proof.MlpKernel.lean ====
/-
  The feed-forward kernel read at an index. The grid runs over 16 tiles of 512 rows and, inside a row tile, over 8 tiles
  of 1024 hidden units; the output block of a row tile accumulates the hidden tiles' shares, and the last one adds the
  gated sum to the residual and normalises.
-/
module

public import proofs.«01_k».proof.Proof.MlpSpec
public import proofs.«01_k».proof.Proof.Gen.Kernel2Ideal.Value
public import Idealize.ShloMosaic.Lib.Pipeline.ValueKit

@[expose] public section

set_option maxRecDepth 16384

noncomputable section

namespace Cert.Kernel2Ideal.Mlp

open Cert.Kernel2Ideal Cert.Kernel2Ideal.Gen Cert.Kernel2Ideal.Value Cert.MlpSpec
open Idealize.ShloMosaic Idealize.ShloMosaic.TcCoe Idealize.SL.Sem

variable (m : (ℓ : Loc nD τ sig) → Buf (Elt Ideal) ℓ)

/-! ## The arguments by coordinates -/

def h2 (c : Dev nD) (b : Fin 2) (p : Fin 4096) (d : Fin 2048) : EReal := m ((c.tc : Thread nD τ).loc main_arg0) (ix3 b p d)
def w1 (c : Dev nD) (d : Fin 2048) (k : Fin 8192) : EReal := m ((c.tc : Thread nD τ).loc main_arg1) (ix3 0 d k)
def w2 (c : Dev nD) (k : Fin 8192) (j : Fin 2048) : EReal := m ((c.tc : Thread nD τ).loc main_arg2) (ix3 0 k j)
def x (c : Dev nD) (b : Fin 2) (p : Fin 4096) (d : Fin 2048) : EReal := m ((c.tc : Thread nD τ).loc main_arg3) (ix3 b p d)
def gate (c : Dev nD) (b : Fin 2) (d : Fin 2048) : EReal := m ((c.tc : Thread nD τ).loc main_arg4) (ix3 b 0 d)
def gain (c : Dev nD) (d : Fin 2048) : EReal := m ((c.tc : Thread nD τ).loc main_arg5) (ix1 d)

/-- The batch and the position of array row `512 q + r`. -/
def batch (q : Fin 16) (r : Fin 512) : Fin 2 := ⟨(512 * q.val + r.val) / 4096, by omega⟩
def pos (q : Fin 16) (r : Fin 512) : Fin 4096 := ⟨(512 * q.val + r.val) % 4096, by omega⟩

/-! ## The three payloads -/

theorem pay1_apply (r : Fin 512) (j : Fin 2048) : k0_pay1 (F := Ideal) (ix2 r j) = 0 := by
  pointwise [k0_pay1]

theorem pay2_apply (x : Vec Ideal S512x2048 .bf16) (w1 : Vec Ideal S2048x1024 .bf16) (acc : Vec Ideal S512x2048 .f32)
    (w2 : Vec Ideal S1024x2048 .bf16) (r : Fin 512) (j : Fin 2048) :
    k0_pay2 x w1 acc w2 (ix2 r j) = acc (ix2 r j) + ∑ k : Fin 1024,
      reluSq (∑ d : Fin 2048, x (ix2 r d) * w1 (ix2 d k)) * w2 (ix2 k j) := by
  pointwise [k0_pay2, reluSq]

theorem pay3_apply (x : Vec Ideal S512x2048 .f32) (g : Vec Ideal S1x1x2048 .f32) (acc : Vec Ideal S512x2048 .f32)
    (n : Vec Ideal S1x2048 .f32) (r : Fin 512) (j : Fin 2048) :
    k0_pay3 x g acc n (ix2 r j) = rms (Ideal.ofBits .f32 0x45000000#32) (Ideal.ofBits .f32 0x358637BD#32)
      (fun d => x (ix2 r d) + g (ix3 0 0 d) * acc (ix2 r d)) (fun d => n (ix2 0 d)) j := by
  pointwise [k0_pay3, rms]

/-! ## The blocks -/

theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 8 :=
  (by decide +kernel : ∀ t : Fin grid0.N, _)
theorem idx2 : ∀ t : Fin cfg0.N, win0_2.index t (0 : Fin 2) = t.val % 8 ∧ win0_2.index t (1 : Fin 2) = 0 :=
  (by decide +kernel : ∀ t : Fin grid0.N, _)
theorem idx3 : ∀ t : Fin cfg0.N, win0_3.index t (0 : Fin 2) = t.val / 8 ∧ win0_3.index t (1 : Fin 2) = 0 :=
  (by decide +kernel : ∀ t : Fin grid0.N, _)
theorem idx4 : ∀ t : Fin cfg0.N, win0_4.index t (0 : Fin 3) = t.val / 64 ∧ win0_4.index t (1 : Fin 3) = 0
    ∧ win0_4.index t (2 : Fin 3) = 0 := (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

theorem blk0 (c : Dev nD) (t : Fin cfg0.N) (q : Fin 16) (hq : t.val / 8 = q.val) (r : Fin 512) (d : Fin 2048) :
    iblk m c 0 t (ix2 r d) = h2 m c (batch q r) (pos q r) d := by
  obtain ⟨e0, e1⟩ := idx0 t
  blk_simp [iblk]
  entry_read
  refine shapeCast_apply _ shapeCasts_S2x4096x2048_S8192x2048 _ (ix3 (batch q r) (pos q r) d) ?_
  rw [Shape.rowMajor_val_three, Shape.rowMajor_val_two]
  show ((batch q r).val * 4096 + (pos q r).val) * 2048 + d.val
    = (win0_0.index t (0 : Fin 2) * 512 + 1 * r.val) * 2048 + (win0_0.index t (1 : Fin 2) * 2048 + 1 * d.val)
  rw [e0, e1, hq]; simp only [batch, pos]; omega

theorem blk1 (c : Dev nD) (t : Fin cfg0.N) (d : Fin 2048) (k : Fin 1024) :
    iblk m c 1 t (ix2 d k) = w1 m c d ⟨t.val % 8 * 1024 + k.val, by omega⟩ := by
  obtain ⟨e0, e1⟩ := idx1 t
  blk_simp [iblk]
  entry_read
  refine shapeCast_apply _ shapeCasts_S1x2048x8192_S2048x8192 _ (ix3 0 d ⟨t.val % 8 * 1024 + k.val, by omega⟩) ?_
  rw [Shape.rowMajor_val_three, Shape.rowMajor_val_two]
  show (0 * 2048 + d.val) * 8192 + (t.val % 8 * 1024 + k.val)
    = (win0_1.index t (0 : Fin 2) * 2048 + 1 * d.val) * 8192 + (win0_1.index t (1 : Fin 2) * 1024 + 1 * k.val)
  rw [e0, e1]; omega

theorem blk2 (c : Dev nD) (t : Fin cfg0.N) (k : Fin 1024) (j : Fin 2048) :
    iblk m c 2 t (ix2 k j) = w2 m c ⟨t.val % 8 * 1024 + k.val, by omega⟩ j := by
  obtain ⟨e0, e1⟩ := idx2 t
  blk_simp [iblk]
  entry_read
  refine shapeCast_apply _ shapeCasts_S1x8192x2048_S8192x2048 _ (ix3 0 ⟨t.val % 8 * 1024 + k.val, by omega⟩ j) ?_
  rw [Shape.rowMajor_val_three, Shape.rowMajor_val_two]
  show (0 * 8192 + (t.val % 8 * 1024 + k.val)) * 2048 + j.val
    = (win0_2.index t (0 : Fin 2) * 1024 + 1 * k.val) * 2048 + (win0_2.index t (1 : Fin 2) * 2048 + 1 * j.val)
  rw [e0, e1]; omega

theorem blk3 (c : Dev nD) (t : Fin cfg0.N) (q : Fin 16) (hq : t.val / 8 = q.val) (r : Fin 512) (d : Fin 2048) :
    iblk m c 3 t (ix2 r d) = x m c (batch q r) (pos q r) d := by
  obtain ⟨e0, e1⟩ := idx3 t
  blk_simp [iblk]
  entry_read
  refine shapeCast_apply _ shapeCasts_S2x4096x2048_S8192x2048 _ (ix3 (batch q r) (pos q r) d) ?_
  rw [Shape.rowMajor_val_three, Shape.rowMajor_val_two]
  show ((batch q r).val * 4096 + (pos q r).val) * 2048 + d.val
    = (win0_3.index t (0 : Fin 2) * 512 + 1 * r.val) * 2048 + (win0_3.index t (1 : Fin 2) * 2048 + 1 * d.val)
  rw [e0, e1, hq]; simp only [batch, pos]; omega

theorem blk4 (c : Dev nD) (t : Fin cfg0.N) (q : Fin 16) (hq : t.val / 8 = q.val) (r : Fin 512) (d : Fin 2048) :
    iblk m c 4 t (ix3 0 0 d) = gate m c (batch q r) d := by
  obtain ⟨e0, e1, e2⟩ := idx4 t
  blk_simp [iblk]
  refine (congrFun (V_main_arg4 m c) _).trans (congrArg (m ((c.tc : Thread nD τ).loc main_arg4)) ?_)
  funext a; apply Fin.ext
  match a with
  | ⟨0, _⟩ =>
    show win0_4.index t (0 : Fin 3) * 1 + 1 * 0 = (batch q r).val
    rw [e0]; simp only [batch]; omega
  | ⟨1, _⟩ => show win0_4.index t (1 : Fin 3) * 1 + 1 * 0 = 0; rw [e1]
  | ⟨2, _⟩ => show win0_4.index t (2 : Fin 3) * 2048 + 1 * d.val = d.val; rw [e2]; omega

theorem blk5 (c : Dev nD) (t : Fin cfg0.N) (d : Fin 2048) : iblk m c 5 t (ix2 0 d) = gain m c d := by
  obtain ⟨e0, e1⟩ := idx5 t
  blk_simp [iblk]
  entry_read
  refine shapeCast_apply _ shapeCasts_S2048_S1x2048 _ (ix1 d) ?_
  rw [Shape.rowMajor_val_one, Shape.rowMajor_val_two]
  show d.val = (win0_5.index t (0 : Fin 2) * 1 + 1 * 0) * 2048 + (win0_5.index t (1 : Fin 2) * 2048 + 1 * d.val)
  rw [e0, e1]; omega

/-! ## The accumulation over the hidden tiles -/

/-- The share of hidden tile `s` of output feature `j` at row `r` of row tile `q`. -/
def tile (c : Dev nD) (q : Fin 16) (n : ℕ) (i : S512x2048.Idx) : EReal :=
  ∑ k : Fin 1024, unit (h2 m c) (w1 m c) (w2 m c) (batch q (i 0)) (pos q (i 0)) (i 1) ⟨n % 8 * 1024 + k.val, by omega⟩

theorem pay2_blk (c : Dev nD) (t : Fin cfg0.N) (q : Fin 16) (hq : t.val / 8 = q.val) (acc : Vec Ideal S512x2048 .f32)
    (i : S512x2048.Idx) :
    k0_pay2 (iblk m c 0 t) (iblk m c 1 t) acc (iblk m c 2 t) i = acc i + tile m c q t.val i := by
  idx_vars i
  rw [pay2_apply]
  refine congrArg _ (Finset.sum_congr rfl fun k _ => ?_)
  rw [blk2]
  simp only [blk0 m c t q hq, blk1]
  rfl

theorem fold_apply (c : Dev nD) (q : Fin 16) (j : ℕ) (hj : j ≤ 6) (h : 8 * q.val + j < cfg0.N) (i : S512x2048.Idx) :
    Pipeline.accAt (reset6 m c) (step6 m c) (8 * q.val) j h i
      = 0 + ∑ s ∈ Finset.range (j + 1), tile m c q (8 * q.val + s) i := by
  refine Pipeline.accAt_add_apply (reset6 m c) (step6 m c) (fun _ => (0 : EReal)) (tile m c q) (8 * q.val) 6 ?_ ?_ j hj h i
  · intro h i
    refine (pay2_blk m c ⟨8 * q.val, h⟩ q (by show 8 * q.val / 8 = _; omega) _ i).trans ?_
    idx_vars i
    rw [pay1_apply]
  · intro n h acc i h1 h2
    unfold step6
    rw [if_pos (by omega)]
    exact pay2_blk m c ⟨n, h⟩ q (by show n / 8 = _; omega) acc i

/-- The eight hidden tiles' shares make up the feed-forward block. -/
theorem tiles_sum (c : Dev nD) (q : Fin 16) (i : S512x2048.Idx) :
    ∑ s ∈ Finset.range 8, tile m c q (8 * q.val + s) i
      = ffn (h2 m c) (w1 m c) (w2 m c) (batch q (i 0)) (pos q (i 0)) (i 1) := by
  unfold ffn
  rw [Fin.sum_univ_tiles 8 1024 rfl, Finset.sum_range]
  refine Finset.sum_congr rfl fun s _ => Finset.sum_congr rfl fun k _ => ?_
  congr 1; apply Fin.ext
  show (8 * q.val + s.val) % 8 * 1024 + k.val = s.val * 1024 + k.val
  omega

/-- What the run of row tile `q` leaves in the output block. -/
theorem run_apply (c : Dev nD) (q : Fin 16) (h : 8 * q.val + 7 < cfg0.N) (r : Fin 512) (j : Fin 2048) :
    Pipeline.accAt (reset6 m c) (step6 m c) (8 * q.val) 7 h (ix2 r j)
      = rms (Ideal.ofBits .f32 0x45000000#32) (Ideal.ofBits .f32 0x358637BD#32)
          (fun d => x m c (batch q r) (pos q r) d
            + gate m c (batch q r) d * ffn (h2 m c) (w1 m c) (w2 m c) (batch q r) (pos q r) d) (gain m c) j := by
  have hq : (8 * q.val + (6 + 1)) / 8 = q.val := by omega
  rw [Pipeline.accAt_succ]
  unfold step6
  rw [if_neg (by omega), if_pos (by omega), pay3_apply]
  have key : ∀ d : Fin 2048, Pipeline.accAt (reset6 m c) (step6 m c) (8 * q.val) 6 (Nat.lt_of_succ_lt h) (ix2 r d)
      + tile m c q (8 * q.val + (6 + 1)) (ix2 r d) = ffn (h2 m c) (w1 m c) (w2 m c) (batch q r) (pos q r) d := fun d => by
    rw [fold_apply m c q 6 le_rfl, zero_add, ← Finset.sum_range_succ (fun s => tile m c q (8 * q.val + s) (ix2 r d)) 7,
      tiles_sum]
    rfl
  have hg : (fun d : Fin 2048 => (iblk m c 5 ⟨8 * q.val + (6 + 1), h⟩ : Vec Ideal S1x2048 .f32) (ix2 0 d)) = gain m c :=
    funext fun d => blk5 m c _ d
  refine (congrArg₂ (fun y g => rms _ _ y g j) (funext fun d => ?_) hg)
  exact congrArg₂ (· + ·) (blk3 m c _ q hq r d)
    (congrArg₂ (· * ·) (blk4 m c _ q hq r d) ((pay2_blk m c _ q hq _ (ix2 r d)).trans (key d)))

/-- The result array at row `R = 4096 b + p`, feature `j`. -/
theorem G6_apply (c : Dev nD) (b : Fin 2) (p : Fin 4096) (R : Fin 8192) (hR : R.val = 4096 * b.val + p.val) (j : Fin 2048) :
    G6 m c (ix2 R j)
      = rms (Ideal.ofBits .f32 0x45000000#32) (Ideal.ofBits .f32 0x358637BD#32)
          (fun d => x m c b p d + gate m c b d * ffn (h2 m c) (w1 m c) (w2 m c) b p d) (gain m c) j := by
  have hrun : run6Of (ix2 R j) = R.val / 512 := by
    show 1 * (R.val / 512 - 0) + 1 * (j.val / 2048 - 0) = _
    omega
  have hN : cfg0.N = 128 := N_0
  have hb : batch ⟨R.val / 512, by omega⟩ ⟨R.val % 512, by omega⟩ = b := Fin.ext (by
    show (512 * (R.val / 512) + R.val % 512) / 4096 = b.val; omega)
  have hp : pos ⟨R.val / 512, by omega⟩ ⟨R.val % 512, by omega⟩ = p := Fin.ext (by
    show (512 * (R.val / 512) + R.val % 512) % 4096 = p.val; omega)
  have hl : loc6Of (ix2 R j) = ix2 ⟨R.val % 512, by omega⟩ j := by
    funext a; apply Fin.ext
    match a with
    | ⟨0, _⟩ => rfl
    | ⟨1, _⟩ => show j.val % 2048 = j.val; omega
  have key := run_apply m c ⟨R.val / 512, by omega⟩ (by show 8 * (R.val / 512) + 7 < cfg0.N; omega) ⟨R.val % 512, by omega⟩ j
  rw [hb, hp] at key
  unfold G6
  rw [dif_pos (by rw [hrun]; omega), hl]
  rw [← key]
  have e : ∀ (u v : ℕ) (hu : 8 * u + 7 < cfg0.N) (hv : 8 * v + 7 < cfg0.N), u = v →
      Pipeline.accAt (reset6 m c) (step6 m c) (8 * u) 7 hu = Pipeline.accAt (reset6 m c) (step6 m c) (8 * v) 7 hv := by
    intro u v hu hv huv; subst huv; rfl
  exact congrFun (e _ _ _ _ hrun) _

end Cert.Kernel2Ideal.Mlp

end
-- ==== Proof.MlpReference.lean ====
/-
  The feed-forward block's reference read at an index.
-/
module

public import proofs.«01_k».proof.Proof.MlpSpec
public import proofs.«01_k».proof.Proof.Gen.Reference2Ideal.Read

@[expose] public section

set_option maxRecDepth 16384

noncomputable section

namespace Cert.Reference2Ideal.Mlp

open Cert.Reference2Ideal Cert.Reference2Ideal.Gen Cert.Reference2Ideal.Read Cert.MlpSpec
open Idealize.ShloMosaic Idealize.ShloMosaic.TcCoe Idealize.SL.Sem

variable (a0 : (⟨S2x4096x2048, .f32⟩ : BufTy).Contents (Elt Ideal)) (a1 : (⟨S1x2048x8192, .f32⟩ : BufTy).Contents (Elt Ideal))
  (a2 : (⟨S1x8192x2048, .f32⟩ : BufTy).Contents (Elt Ideal)) (a3 : (⟨S2x4096x2048, .f32⟩ : BufTy).Contents (Elt Ideal))
  (a4 : (⟨S2x1x2048, .f32⟩ : BufTy).Contents (Elt Ideal)) (a5 : (⟨S2048, .f32⟩ : BufTy).Contents (Elt Ideal))

theorem v8_apply (b : Fin 2) (p : Fin 4096) (j : Fin 2048) :
    val_main_v8 (F := Ideal) a0 a1 a2 a3 a4 (ix3 b p j) = a3 (ix3 b p j) + a4 (ix3 b 0 j)
      * ffn (fun b p d => a0 (ix3 b p d)) (fun d k => a1 (ix3 0 d k)) (fun k j => a2 (ix3 0 k j)) b p j := by
  pointwise [val_main_v8, val_main_v7, val_main_v6, val_main_v5, val_main_v4, val_main_v3, val_main_v2, val_main_v1,
    val_main_v0, val_main_call0_v0, val_main_call0_cst, ffn, unit, reluSq]

theorem v21_apply (b : Fin 2) (p : Fin 4096) (j : Fin 2048) :
    val_main_v21 (F := Ideal) a0 a1 a2 a3 a4 a5 (ix3 b p j)
      = rms (Ideal.ofBits .f32 0x45000000#32) (Ideal.ofBits .f32 0x358637BD#32)
          (fun d => val_main_v8 (F := Ideal) a0 a1 a2 a3 a4 (ix3 b p d)) (fun d => a5 (ix1 d)) j := by
  unfold val_main_v21 val_main_v18 val_main_v17 val_main_v16 val_main_v15 val_main_v13 val_main_v11 val_main_v10 val_main_v9
  generalize val_main_v8 (F := Ideal) a0 a1 a2 a3 a4 = y
  pointwise [val_main_v20, val_main_v19, val_main_v14, val_main_v12, val_main_cst, val_main_cst_0, val_main_cst_1, rms]

theorem v22_apply (b : Fin 2) (p : Fin 4096) (R : Fin 8192) (hR : R.val = 4096 * b.val + p.val) (j : Fin 2048) :
    val_main_v22 (F := Ideal) a0 a1 a2 a3 a4 a5 (ix2 R j) = val_main_v21 (F := Ideal) a0 a1 a2 a3 a4 a5 (ix3 b p j) := by
  unfold val_main_v22
  refine shapeCast_apply _ shapeCasts_S2x4096x2048_S8192x2048 _ (ix3 b p j) ?_
  rw [Shape.rowMajor_val_three, Shape.rowMajor_val_two]
  show (b.val * 4096 + p.val) * 2048 + j.val = R.val * 2048 + j.val
  omega

/-- The reference's result at row `R`, feature `j`: the batch is `R / 4096` and the position `R % 4096`. -/
theorem ref_apply (R : Fin 8192) (j : Fin 2048) :
    val_main_v22 (F := Ideal) a0 a1 a2 a3 a4 a5 (ix2 R j)
      = rms (Ideal.ofBits .f32 0x45000000#32) (Ideal.ofBits .f32 0x358637BD#32)
          (fun d => a3 (ix3 ⟨R.val / 4096, by omega⟩ ⟨R.val % 4096, by omega⟩ d) + a4 (ix3 ⟨R.val / 4096, by omega⟩ 0 d)
            * ffn (fun b p d => a0 (ix3 b p d)) (fun d k => a1 (ix3 0 d k)) (fun k j => a2 (ix3 0 k j))
              ⟨R.val / 4096, by omega⟩ ⟨R.val % 4096, by omega⟩ d) (fun d => a5 (ix1 d)) j := by
  rw [v22_apply a0 a1 a2 a3 a4 a5 ⟨R.val / 4096, by omega⟩ ⟨R.val % 4096, by omega⟩ R (by dsimp only; omega) j, v21_apply]
  simp only [v8_apply]

end Cert.Reference2Ideal.Mlp

end
-- ==== Proof.ProjSpec.lean ====
/-
  The layer's projections over the extended reals, as plain functions of the coordinates.
-/
module

public import Idealize.ShloMosaic.Lib.Pointwise

@[expose] public section

noncomputable section

namespace Cert.ProjSpec

open Idealize.ShloMosaic

variable {M D N : ℕ}

/-- Entry `(R, j)` of the product of the rows `h` with the columns `w`. -/
def proj (h : Fin M → Fin D → EReal) (w : Fin D → Fin N → EReal) (R : Fin M) (j : Fin N) : EReal :=
  ∑ d, h R d * w d j

/-- The gated linear unit: `a` times the logistic of `g`. -/
def glu (a g : EReal) : EReal := a * Ideal.logistic g

/-- Entry `(R, n)` of the product of the rows `h` with the columns `w`, the columns numbered by naturals. -/
def row (h : Fin M → Fin D → EReal) (w : Fin D → ℕ → EReal) (R : Fin M) (n : ℕ) : EReal := ∑ d, h R d * w d n

/-- The rotary angle of position `p` at frequency `i`: `p` times `10000 ^ (- i / half)`, `half` the word for half the head's
    width and `p` and `i` the words of the two numbers. -/
def angle (half : BitVec 32) (p : BitVec 32) (i : ℕ) : EReal :=
  FloatOps.sitofp (F := Ideal) FTy.f32 p * Ideal.pow (Ideal.ofBits .f32 0x461C4000#32)
    (Ideal.div (-(FloatOps.sitofp (F := Ideal) FTy.f32 (BitVec.ofNat 32 i))) (Ideal.ofBits .f32 half))

/-- The rotary embedding of a row `f` made of heads of `2 H` features, at feature `j`: inside a head, feature `i` of the first
    half turns with feature `i` of the second by the angle `ang i`. -/
def rope (H : ℕ) (f : ℕ → EReal) (ang : ℕ → EReal) (j : ℕ) : EReal :=
  if j % (2 * H) < H then f j * Ideal.cos (ang (j % H)) - f (j + H) * Ideal.sin (ang (j % H))
  else f j * Ideal.cos (ang (j % H)) + f (j - H) * Ideal.sin (ang (j % H))

/-- One lane of the rotation done with two tables: the entry times the first table plus its partner, a half head away, times
    the second, where the second table is the sine with its sign. -/
theorem rope_lane64 (f : ℕ → EReal) (ang : ℕ → EReal) (j p : ℕ) (hp : p = j / 128 * 128 + (j % 128 + 128 - 64) % 128) :
    f j * Ideal.cos (ang (j % 64)) + f p * (if j % 128 < 64 then -Ideal.sin (ang (j % 64)) else Ideal.sin (ang (j % 64)))
      = rope 64 f ang j := by
  subst hp
  unfold rope
  have e : j % (2 * 64) = j % 128 := rfl
  rw [e]
  by_cases h : j % 128 < 64
  · rw [if_pos h, if_pos h, mul_neg, ← sub_eq_add_neg]
    have e : j / 128 * 128 + (j % 128 + 128 - 64) % 128 = j + 64 := by omega
    rw [e]
  · rw [if_neg h, if_neg h]
    have e : j / 128 * 128 + (j % 128 + 128 - 64) % 128 = j - 64 := by omega
    rw [e]

/-- The same for heads of 64 features, two of them in 128 lanes. -/
theorem rope_lane32 (f : ℕ → EReal) (ang : ℕ → EReal) (j p : ℕ)
    (hp : p = if j % 64 < 32 then j / 128 * 128 + (j % 128 + 128 - 96) % 128 else j / 128 * 128 + (j % 128 + 128 - 32) % 128) :
    f j * Ideal.cos (ang (j % 32)) + f p * (if j % 64 < 32 then -Ideal.sin (ang (j % 32)) else Ideal.sin (ang (j % 32)))
      = rope 32 f ang j := by
  subst hp
  unfold rope
  have e : j % (2 * 32) = j % 64 := rfl
  rw [e]
  by_cases h : j % 64 < 32
  · rw [if_pos h, if_pos h, if_pos h, mul_neg, ← sub_eq_add_neg]
    have e : j / 128 * 128 + (j % 128 + 128 - 96) % 128 = j + 32 := by omega
    rw [e]
  · rw [if_neg h, if_neg h, if_neg h]
    have e : j / 128 * 128 + (j % 128 + 128 - 32) % 128 = j - 32 := by omega
    rw [e]

end Cert.ProjSpec

end
-- ==== Proof.GluPromptKernel.lean ====
/-
  The gated linear unit's kernel read at an index. The grid runs over 2 tiles of 512 channels and, inside a channel tile,
  over 16 tiles of 512 rows; the first row tile of a channel tile stores the transposed weights in scratch, and the others
  find them there.
-/
module

public import proofs.«01_k».proof.Proof.ProjSpec
public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

namespace Cert.Kernel3Ideal.Glu

open Cert.Kernel3Ideal Cert.Kernel3Ideal.Gen Cert.Kernel3Ideal.Value Cert.ProjSpec
open Idealize.ShloMosaic Idealize.ShloMosaic.TcCoe Idealize.SL.Sem

variable (m : (ℓ : Loc nD τ sig) → Buf (Elt Ideal) ℓ)

/-- The normalised rows, row `R` being position `R % 4096` of batch `R / 4096`, and the input projection's columns. -/
def h (c : Dev nD) (R : Fin 8192) (d : Fin 2048) : EReal :=
  m ((c.tc : Thread nD τ).loc main_arg0) (ix3 ⟨R.val / 4096, by omega⟩ ⟨R.val % 4096, by omega⟩ d)
def w (c : Dev nD) (d : Fin 2048) (j : Fin 6224) : EReal := m ((c.tc : Thread nD τ).loc main_arg1) (ix3 0 d j)

theorem pay1_apply (x : Vec Ideal S512x2048 .f32) (d : Fin 2048) (k : Fin 512) :
    k0_pay1 x (ix2 d k) = x (ix2 k d) := by
  pointwise [k0_pay1]

theorem pay2_apply (x : Vec Ideal S512x2048 .f32) (d : Fin 2048) (k : Fin 512) :
    k0_pay2 x (ix2 d k) = x (ix2 k d) := by
  pointwise [k0_pay2]

theorem pay3_apply (x : Vec Ideal S512x2048 .bf16) (a g : Vec Ideal S2048x512 .bf16) (r : Fin 512) (k : Fin 512) :
    k0_pay3 x a g (ix2 r k) = glu (∑ d : Fin 2048, x (ix2 r d) * a (ix2 d k)) (∑ d : Fin 2048, x (ix2 r d) * g (ix2 d k)) := by
  pointwise [k0_pay3, glu]

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = t.val / 16 ∧ win0_1.index t (1 : Fin 2) = 0 :=
  (by decide +kernel : ∀ t : Fin grid0.N, _)
theorem idx2 : ∀ t : Fin cfg0.N, win0_2.index t (0 : Fin 2) = 2 + t.val / 16 ∧ win0_2.index t (1 : Fin 2) = 0 :=
  (by decide +kernel : ∀ t : Fin grid0.N, _)

theorem blk0 (c : Dev nD) (t : Fin cfg0.N) (r : Fin 512) (d : Fin 2048) :
    iblk m c 0 t (ix2 r d) = h m c ⟨t.val % 16 * 512 + r.val, by omega⟩ d := by
  obtain ⟨e0, e1⟩ := idx0 t
  blk_simp [iblk]
  entry_read
  refine shapeCast_apply _ shapeCasts_S2x4096x2048_S8192x2048 _
    (ix3 ⟨(t.val % 16 * 512 + r.val) / 4096, by omega⟩ ⟨(t.val % 16 * 512 + r.val) % 4096, by omega⟩ d) ?_
  rw [Shape.rowMajor_val_three, Shape.rowMajor_val_two]
  show ((t.val % 16 * 512 + r.val) / 4096 * 4096 + (t.val % 16 * 512 + r.val) % 4096) * 2048 + d.val
    = (win0_0.index t (0 : Fin 2) * 512 + 1 * r.val) * 2048 + (win0_0.index t (1 : Fin 2) * 2048 + 1 * d.val)
  rw [e0, e1]; omega

theorem blk1 (c : Dev nD) (t : Fin cfg0.N) (k : Fin 512) (d : Fin 2048) :
    X0_1 m c t (ix2 k d) = w m c d ⟨t.val / 16 * 512 + k.val, by have := lt_of_lt_of_eq t.isLt N_0; omega⟩ := by
  obtain ⟨e0, e1⟩ := idx1 t
  have hN := lt_of_lt_of_eq t.isLt N_0
  unfold X0_1 Pipeline.Window.fill
  rw [dif_pos (moved0_1 t _)]
  blk_simp [iblk]
  entry_read
  refine (transpose_apply _ _ transposes_S2048x6224_S6224x2048_1_0 _ (ix2 d ⟨t.val / 16 * 512 + k.val, by omega⟩) ?_).trans ?_
  · intro a
    match a with
    | ⟨0, _⟩ => show t.val / 16 * 512 + k.val = win0_1.index t (0 : Fin 2) * 512 + 1 * k.val; rw [e0]; omega
    | ⟨1, _⟩ => show d.val = win0_1.index t (1 : Fin 2) * 2048 + 1 * d.val; rw [e1]; omega
  · refine shapeCast_apply _ shapeCasts_S1x2048x6224_S2048x6224 _ (ix3 0 d ⟨t.val / 16 * 512 + k.val, by omega⟩) ?_
    rw [Shape.rowMajor_val_three, Shape.rowMajor_val_two]
    show (0 * 2048 + d.val) * 6224 + (t.val / 16 * 512 + k.val) = d.val * 6224 + (t.val / 16 * 512 + k.val)
    omega

theorem blk2 (c : Dev nD) (t : Fin cfg0.N) (k : Fin 512) (d : Fin 2048) :
    X0_2 m c t (ix2 k d) = w m c d ⟨1024 + (t.val / 16 * 512 + k.val), by have := lt_of_lt_of_eq t.isLt N_0; omega⟩ := by
  obtain ⟨e0, e1⟩ := idx2 t
  have hN := lt_of_lt_of_eq t.isLt N_0
  unfold X0_2 Pipeline.Window.fill
  rw [dif_pos (moved0_2 t _)]
  blk_simp [iblk]
  entry_read
  refine (transpose_apply _ _ transposes_S2048x6224_S6224x2048_1_0 _ (ix2 d ⟨1024 + (t.val / 16 * 512 + k.val), by omega⟩) ?_).trans ?_
  · intro a
    match a with
    | ⟨0, _⟩ => show 1024 + (t.val / 16 * 512 + k.val) = win0_2.index t (0 : Fin 2) * 512 + 1 * k.val; rw [e0]; omega
    | ⟨1, _⟩ => show d.val = win0_2.index t (1 : Fin 2) * 2048 + 1 * d.val; rw [e1]; omega
  · refine shapeCast_apply _ shapeCasts_S1x2048x6224_S2048x6224 _ (ix3 0 d ⟨1024 + (t.val / 16 * 512 + k.val), by omega⟩) ?_
    rw [Shape.rowMajor_val_three, Shape.rowMajor_val_two]
    show (0 * 2048 + d.val) * 6224 + (1024 + (t.val / 16 * 512 + k.val)) = d.val * 6224 + (1024 + (t.val / 16 * 512 + k.val))
    omega

/-! ## What each point leaves -/

theorem first_a (c : Dev nD) (t : Fin cfg0.N) (h0 : t.val % 16 = 0) : (outsAt0 m c t.val t.isLt).2.1 = k0_pay1 (X0_1 m c t) := by
  rw [outsAt0_A m c t h0]
  frame_out

theorem first_g (c : Dev nD) (t : Fin cfg0.N) (h0 : t.val % 16 = 0) : (outsAt0 m c t.val t.isLt).2.2 = k0_pay2 (X0_2 m c t) := by
  rw [outsAt0_A m c t h0]
  frame_out

/-- Every point of a channel tile holds that tile's transposed weights in the two scratches. -/
theorem held (c : Dev nD) : ∀ (n : ℕ) (hn : n < cfg0.N) (d : Fin 2048) (k : Fin 512),
    (outsAt0 m c n hn).2.1 (ix2 d k) = w m c d ⟨n / 16 * 512 + k.val, by have := lt_of_lt_of_eq hn N_0; omega⟩
    ∧ (outsAt0 m c n hn).2.2 (ix2 d k) = w m c d ⟨1024 + (n / 16 * 512 + k.val), by have := lt_of_lt_of_eq hn N_0; omega⟩ := by
  intro n
  induction n with
  | zero =>
    intro hn d k
    exact ⟨(congrFun (first_a m c ⟨0, hn⟩ rfl) _).trans ((pay1_apply ..).trans (blk1 ..)),
      (congrFun (first_g m c ⟨0, hn⟩ rfl) _).trans ((pay2_apply ..).trans (blk2 ..))⟩
  | succ n ih =>
    intro hn d k
    by_cases h0 : (n + 1) % 16 = 0
    · exact ⟨(congrFun (first_a m c ⟨n + 1, hn⟩ h0) _).trans ((pay1_apply ..).trans (blk1 ..)),
        (congrFun (first_g m c ⟨n + 1, hn⟩ h0) _).trans ((pay2_apply ..).trans (blk2 ..))⟩
    · have e : outsAt0 m c (n + 1) hn = _ := outsAt0_B m c ⟨n + 1, hn⟩ h0
      have ea : (outsAt0 m c (n + 1) hn).2.1 = (outsAt0 m c n (Nat.lt_of_succ_lt hn)).2.1 := by rw [e]; rfl
      have eg : (outsAt0 m c (n + 1) hn).2.2 = (outsAt0 m c n (Nat.lt_of_succ_lt hn)).2.2 := by rw [e]; rfl
      have hd : n / 16 = (n + 1) / 16 := by omega
      rw [ea, eg]
      refine ⟨(ih (Nat.lt_of_succ_lt hn) d k).1.trans ?_, (ih (Nat.lt_of_succ_lt hn) d k).2.trans ?_⟩
      all_goals exact congrArg (w m c d) (Fin.ext (by simp only [hd]))

theorem out_at (c : Dev nD) (t : Fin cfg0.N) :
    (outsAt0 m c t.val t.isLt).1 = k0_pay3 (iblk m c 0 t) (outsAt0 m c t.val t.isLt).2.1 (outsAt0 m c t.val t.isLt).2.2 := by
  by_cases h0 : t.val % 16 = 0
  · rw [first_a m c t h0, first_g m c t h0, outsAt0_A m c t h0]
    frame_out
  · rw [outsAt0_B m c t h0]
    frame_out
    simp only [read_unread_whole]
    rfl

/-- The output block a point leaves, at row `r` and channel `k` of the block. -/
theorem out_apply (c : Dev nD) (t : Fin cfg0.N) (r k : Fin 512) :
    (outsAt0 m c t.val t.isLt).1 (ix2 r k)
      = glu (proj (h m c) (w m c) ⟨t.val % 16 * 512 + r.val, by omega⟩ ⟨t.val / 16 * 512 + k.val, by have := lt_of_lt_of_eq t.isLt N_0; omega⟩)
          (proj (h m c) (w m c) ⟨t.val % 16 * 512 + r.val, by omega⟩ ⟨1024 + (t.val / 16 * 512 + k.val), by have := lt_of_lt_of_eq t.isLt N_0; omega⟩) := by
  rw [out_at, pay3_apply]
  refine congrArg₂ glu (Finset.sum_congr rfl fun d _ => ?_) (Finset.sum_congr rfl fun d _ => ?_)
  · exact congrArg₂ (· * ·) (blk0 m c t r d) (held m c t.val t.isLt d k).1
  · exact congrArg₂ (· * ·) (blk0 m c t r d) (held m c t.val t.isLt d k).2

theorem idx3 : ∀ t : Fin cfg0.N, win0_3.index t (0 : Fin 2) = t.val % 16 ∧ win0_3.index t (1 : Fin 2) = t.val / 16 :=
  (by decide +kernel : ∀ t : Fin grid0.N, _)

/-- The result array at row `R`, channel `j`. -/
def G (c : Dev nD) : Buf (Elt Ideal) ((c.tc : Thread nD τ).loc main_v4) := fun i =>
  glu (proj (h m c) (w m c) (i 0) ⟨(i 1).val, by have : (i 1).val < 1024 := (i 1).isLt; omega⟩)
    (proj (h m c) (w m c) (i 0) ⟨1024 + (i 1).val, by have : (i 1).val < 1024 := (i 1).isLt; omega⟩)

theorem final (c : Dev nD) : (dats m 0 c).arrAt 3 cfg0.N = G m c := by
  refine (dats m 0 c).arrAt_eq_of_covers 3 _ (by decide +kernel) fun t hf y => ?_
  blk_simp
  rw [after0_3]
  obtain ⟨e0, e1⟩ := idx3 t
  idx_vars y
  refine (out_apply m c t y0 y1).trans ?_
  have h0 : y0.val + t.val % 16 * 512 = (win0_3.index t (0 : Fin 2) * 512 + 1 * y0.val) := by rw [e0]; omega
  have h1 : y1.val + t.val / 16 * 512 = (win0_3.index t (1 : Fin 2) * 512 + 1 * y1.val) := by rw [e1]; omega
  refine congrArg₂ glu (congrArg₂ (proj _ _) (Fin.ext ?_) (Fin.ext ?_)) (congrArg₂ (proj _ _) (Fin.ext ?_) (Fin.ext ?_))
  · show t.val % 16 * 512 + y0.val = win0_3.index t (0 : Fin 2) * 512 + 1 * y0.val; omega
  · show t.val / 16 * 512 + y1.val = win0_3.index t (1 : Fin 2) * 512 + 1 * y1.val; omega
  · show t.val % 16 * 512 + y0.val = win0_3.index t (0 : Fin 2) * 512 + 1 * y0.val; omega
  · show 1024 + (t.val / 16 * 512 + y1.val) = 1024 + (win0_3.index t (1 : Fin 2) * 512 + 1 * y1.val); omega

theorem value (c : Dev nD) : G3 m c = G m c := (final3 m c).symm.trans (final m c)

end Cert.Kernel3Ideal.Glu

end
-- ==== Proof.GluPromptReference.lean ====
/-
  The gated linear unit's reference read at an index.
-/
module

public import proofs.«01_k».proof.Proof.ProjSpec
public import proofs.«01_k».proof.Proof.Gen.Reference3Ideal.Read

@[expose] public section

set_option maxRecDepth 16384

noncomputable section

namespace Cert.Reference3Ideal.Glu

open Cert.Reference3Ideal Cert.Reference3Ideal.Gen Cert.Reference3Ideal.Read Cert.ProjSpec
open Idealize.ShloMosaic Idealize.ShloMosaic.TcCoe Idealize.SL.Sem

variable (a0 : (⟨S2x4096x2048, .f32⟩ : BufTy).Contents (Elt Ideal)) (a1 : (⟨S1x2048x6224, .f32⟩ : BufTy).Contents (Elt Ideal))

theorem v16_apply (b : Fin 2) (p : Fin 4096) (j : Fin 1024) :
    val_main_v16 (F := Ideal) a0 a1 (ix3 b p j)
      = glu (∑ d : Fin 2048, a0 (ix3 b p d) * a1 (ix3 0 d ⟨j.val, by omega⟩))
          (∑ d : Fin 2048, a0 (ix3 b p d) * a1 (ix3 0 d ⟨1024 + j.val, by omega⟩)) := by
  pointwise [val_main_v16, val_main_v15, val_main_v14, val_main_v13, val_main_v12, val_main_v11, val_main_v10, val_main_v3,
    val_main_v2, val_main_v1, val_main_v0, val_main_cst, val_main_cst_0, glu, Ideal.logistic]

theorem ref_apply (R : Fin 8192) (j : Fin 1024) :
    val_main_v17 (F := Ideal) a0 a1 (ix2 R j)
      = glu (proj (fun R d => a0 (ix3 ⟨R.val / 4096, by omega⟩ ⟨R.val % 4096, by omega⟩ d)) (fun d j => a1 (ix3 0 d j)) R ⟨j.val, by omega⟩)
          (proj (fun R d => a0 (ix3 ⟨R.val / 4096, by omega⟩ ⟨R.val % 4096, by omega⟩ d)) (fun d j => a1 (ix3 0 d j)) R ⟨1024 + j.val, by omega⟩) := by
  unfold val_main_v17
  refine (shapeCast_apply _ shapeCasts_S2x4096x1024_S8192x1024 _ (ix3 ⟨R.val / 4096, by omega⟩ ⟨R.val % 4096, by omega⟩ j) ?_).trans ?_
  · rw [Shape.rowMajor_val_three, Shape.rowMajor_val_two]
    show (R.val / 4096 * 4096 + R.val % 4096) * 1024 + j.val = R.val * 1024 + j.val
    omega
  · exact v16_apply a0 a1 _ _ j

end Cert.Reference3Ideal.Glu

end
-- ==== Proof.GluSampleKernel.lean ====
/-
  The samples' gated linear unit's kernel read at an index. The grid runs over 2 tiles of 512 channels of the 32 rows.
-/
module

public import proofs.«01_k».proof.Proof.ProjSpec
public import proofs.«01_k».proof.Proof.Gen.Kernel15Ideal.Value
public import Idealize.ShloMosaic.Lib.Pipeline.ValueKit
public import Idealize.ShloMosaic.Lib.Pipeline.ReadBack

@[expose] public section

set_option maxRecDepth 16384

noncomputable section

namespace Cert.Kernel15Ideal.Glu

open Cert.Kernel15Ideal Cert.Kernel15Ideal.Gen Cert.Kernel15Ideal.Value Cert.ProjSpec
open Idealize.ShloMosaic Idealize.ShloMosaic.TcCoe Idealize.SL.Sem

variable (m : (ℓ : Loc nD τ sig) → Buf (Elt Ideal) ℓ)

/-- The normalised rows, one per sequence, and the input projection's columns. -/
def h (c : Dev nD) (R : Fin 32) (d : Fin 2048) : EReal := m ((c.tc : Thread nD τ).loc main_arg0) (ix3 R 0 d)
def w (c : Dev nD) (d : Fin 2048) (j : Fin 6224) : EReal := m ((c.tc : Thread nD τ).loc main_arg1) (ix3 0 d j)

theorem pay1_apply (x : Vec Ideal S512x2048 .f32) (d : Fin 2048) (k : Fin 512) :
    k0_pay1 x (ix2 d k) = x (ix2 k d) := by
  pointwise [k0_pay1]

theorem pay2_apply (x : Vec Ideal S512x2048 .f32) (d : Fin 2048) (k : Fin 512) :
    k0_pay2 x (ix2 d k) = x (ix2 k d) := by
  pointwise [k0_pay2]

theorem pay3_apply (x : Vec Ideal S32x2048 .bf16) (a g : Vec Ideal S2048x512 .bf16) (r : Fin 32) (k : Fin 512) :
    k0_pay3 x a g (ix2 r k) = glu (∑ d : Fin 2048, x (ix2 r d) * a (ix2 d k)) (∑ d : Fin 2048, x (ix2 r d) * g (ix2 d k)) := by
  pointwise [k0_pay3, glu]

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 2 + t.val ∧ win0_2.index t (1 : Fin 2) = 0 :=
  (by decide +kernel : ∀ t : Fin grid0.N, _)

theorem blk0 (c : Dev nD) (t : Fin cfg0.N) (r : Fin 32) (d : Fin 2048) :
    iblk m c 0 t (ix2 r d) = h m c r d := by
  obtain ⟨e0, e1⟩ := idx0 t
  blk_simp [iblk]
  entry_read
  refine shapeCast_apply _ shapeCasts_S32x1x2048_S32x2048 _
    (ix3 r 0 d) ?_
  rw [Shape.rowMajor_val_three, Shape.rowMajor_val_two]
  show (r.val * 1 + 0) * 2048 + d.val
    = (win0_0.index t (0 : Fin 2) * 32 + 1 * r.val) * 2048 + (win0_0.index t (1 : Fin 2) * 2048 + 1 * d.val)
  rw [e0, e1]; omega

theorem blk1 (c : Dev nD) (t : Fin cfg0.N) (k : Fin 512) (d : Fin 2048) :
    X0_1 m c t (ix2 k d) = w m c d ⟨t.val * 512 + k.val, by have := lt_of_lt_of_eq t.isLt N_0; omega⟩ := by
  obtain ⟨e0, e1⟩ := idx1 t
  have hN := lt_of_lt_of_eq t.isLt N_0
  unfold X0_1 Pipeline.Window.fill
  rw [dif_pos (moved0_1 t _)]
  blk_simp [iblk]
  entry_read
  refine (transpose_apply _ _ transposes_S2048x6224_S6224x2048_1_0 _ (ix2 d ⟨t.val * 512 + k.val, by omega⟩) ?_).trans ?_
  · intro a
    match a with
    | ⟨0, _⟩ => show t.val * 512 + k.val = win0_1.index t (0 : Fin 2) * 512 + 1 * k.val; rw [e0]; omega
    | ⟨1, _⟩ => show d.val = win0_1.index t (1 : Fin 2) * 2048 + 1 * d.val; rw [e1]; omega
  · refine shapeCast_apply _ shapeCasts_S1x2048x6224_S2048x6224 _ (ix3 0 d ⟨t.val * 512 + k.val, by omega⟩) ?_
    rw [Shape.rowMajor_val_three, Shape.rowMajor_val_two]
    show (0 * 2048 + d.val) * 6224 + (t.val * 512 + k.val) = d.val * 6224 + (t.val * 512 + k.val)
    omega

theorem blk2 (c : Dev nD) (t : Fin cfg0.N) (k : Fin 512) (d : Fin 2048) :
    X0_2 m c t (ix2 k d) = w m c d ⟨1024 + (t.val * 512 + k.val), by have := lt_of_lt_of_eq t.isLt N_0; omega⟩ := by
  obtain ⟨e0, e1⟩ := idx2 t
  have hN := lt_of_lt_of_eq t.isLt N_0
  unfold X0_2 Pipeline.Window.fill
  rw [dif_pos (moved0_2 t _)]
  blk_simp [iblk]
  entry_read
  refine (transpose_apply _ _ transposes_S2048x6224_S6224x2048_1_0 _ (ix2 d ⟨1024 + (t.val * 512 + k.val), by omega⟩) ?_).trans ?_
  · intro a
    match a with
    | ⟨0, _⟩ => show 1024 + (t.val * 512 + k.val) = win0_2.index t (0 : Fin 2) * 512 + 1 * k.val; rw [e0]; omega
    | ⟨1, _⟩ => show d.val = win0_2.index t (1 : Fin 2) * 2048 + 1 * d.val; rw [e1]; omega
  · refine shapeCast_apply _ shapeCasts_S1x2048x6224_S2048x6224 _ (ix3 0 d ⟨1024 + (t.val * 512 + k.val), by omega⟩) ?_
    rw [Shape.rowMajor_val_three, Shape.rowMajor_val_two]
    show (0 * 2048 + d.val) * 6224 + (1024 + (t.val * 512 + k.val)) = d.val * 6224 + (1024 + (t.val * 512 + k.val))
    omega

theorem out_at (c : Dev nD) (t : Fin cfg0.N) :
    outsAt0 m c t = k0_pay3 (iblk m c 0 t) (k0_pay1 (X0_1 m c t)) (k0_pay2 (X0_2 m c t)) := by
  unfold outsAt0
  frame_out

/-- The output block a point leaves, at row `r` and channel `k` of the block. -/
theorem out_apply (c : Dev nD) (t : Fin cfg0.N) (r : Fin 32) (k : Fin 512) :
    outsAt0 m c t (ix2 r k)
      = glu (proj (h m c) (w m c) r ⟨t.val * 512 + k.val, by have := lt_of_lt_of_eq t.isLt N_0; omega⟩)
          (proj (h m c) (w m c) r ⟨1024 + (t.val * 512 + k.val), by have := lt_of_lt_of_eq t.isLt N_0; omega⟩) := by
  rw [out_at, pay3_apply]
  refine congrArg₂ glu (Finset.sum_congr rfl fun d _ => ?_) (Finset.sum_congr rfl fun d _ => ?_)
  · exact congrArg₂ (· * ·) (blk0 m c t r d) ((pay1_apply ..).trans (blk1 m c t k d))
  · exact congrArg₂ (· * ·) (blk0 m c t r d) ((pay2_apply ..).trans (blk2 m c t k d))

theorem idx3 : ∀ t : Fin cfg0.N, win0_3.index t (0 : Fin 2) = 0 ∧ win0_3.index t (1 : Fin 2) = t.val :=
  (by decide +kernel : ∀ t : Fin grid0.N, _)

/-- The result array at row `R`, channel `j`. -/
def G (c : Dev nD) : Buf (Elt Ideal) ((c.tc : Thread nD τ).loc main_v4) := fun i =>
  glu (proj (h m c) (w m c) (i 0) ⟨(i 1).val, by have : (i 1).val < 1024 := (i 1).isLt; omega⟩)
    (proj (h m c) (w m c) (i 0) ⟨1024 + (i 1).val, by have : (i 1).val < 1024 := (i 1).isLt; omega⟩)

theorem final (c : Dev nD) : (dats m 0 c).arrAt 3 cfg0.N = G m c := by
  refine (dats m 0 c).arrAt_eq_of_covers 3 _ (by decide +kernel) fun t hf y => ?_
  blk_simp
  rw [after0_3]
  obtain ⟨e0, e1⟩ := idx3 t
  idx_vars y
  refine (out_apply m c t y0 y1).trans ?_
  have h0 : y0.val = (win0_3.index t (0 : Fin 2) * 32 + 1 * y0.val) := by rw [e0]; omega
  have h1 : y1.val + t.val * 512 = (win0_3.index t (1 : Fin 2) * 512 + 1 * y1.val) := by rw [e1]; omega
  refine congrArg₂ glu (congrArg₂ (proj _ _) (Fin.ext ?_) (Fin.ext ?_)) (congrArg₂ (proj _ _) (Fin.ext ?_) (Fin.ext ?_))
  · show y0.val = win0_3.index t (0 : Fin 2) * 32 + 1 * y0.val; omega
  · show t.val * 512 + y1.val = win0_3.index t (1 : Fin 2) * 512 + 1 * y1.val; omega
  · show y0.val = win0_3.index t (0 : Fin 2) * 32 + 1 * y0.val; omega
  · show 1024 + (t.val * 512 + y1.val) = 1024 + (win0_3.index t (1 : Fin 2) * 512 + 1 * y1.val); omega

end Cert.Kernel15Ideal.Glu

end
-- ==== Proof.GluSampleReference.lean ====
/-
  The gated linear unit's reference read at an index.
-/
module

public import proofs.«01_k».proof.Proof.ProjSpec
public import proofs.«01_k».proof.Proof.Gen.Reference15Ideal.Read

@[expose] public section

set_option maxRecDepth 16384

noncomputable section

namespace Cert.Reference15Ideal.Glu

open Cert.Reference15Ideal Cert.Reference15Ideal.Gen Cert.Reference15Ideal.Read Cert.ProjSpec
open Idealize.ShloMosaic Idealize.ShloMosaic.TcCoe Idealize.SL.Sem

variable (a0 : (⟨S32x1x2048, .f32⟩ : BufTy).Contents (Elt Ideal)) (a1 : (⟨S1x2048x6224, .f32⟩ : BufTy).Contents (Elt Ideal))

theorem v16_apply (b : Fin 32) (p : Fin 1) (j : Fin 1024) :
    val_main_v16 (F := Ideal) a0 a1 (ix3 b p j)
      = glu (∑ d : Fin 2048, a0 (ix3 b p d) * a1 (ix3 0 d ⟨j.val, by omega⟩))
          (∑ d : Fin 2048, a0 (ix3 b p d) * a1 (ix3 0 d ⟨1024 + j.val, by omega⟩)) := by
  obtain rfl : p = 0 := Subsingleton.elim _ _
  pointwise [val_main_v16, val_main_v15, val_main_v14, val_main_v13, val_main_v12, val_main_v11, val_main_v10, val_main_v3,
    val_main_v2, val_main_v1, val_main_v0, val_main_cst, val_main_cst_0, glu, Ideal.logistic]

theorem ref_apply (R : Fin 32) (j : Fin 1024) :
    val_main_v17 (F := Ideal) a0 a1 (ix2 R j)
      = glu (proj (fun R d => a0 (ix3 R 0 d)) (fun d j => a1 (ix3 0 d j)) R ⟨j.val, by omega⟩)
          (proj (fun R d => a0 (ix3 R 0 d)) (fun d j => a1 (ix3 0 d j)) R ⟨1024 + j.val, by omega⟩) := by
  unfold val_main_v17
  refine (shapeCast_apply _ shapeCasts_S32x1x1024_S32x1024 _ (ix3 R 0 j) ?_).trans ?_
  · rw [Shape.rowMajor_val_three, Shape.rowMajor_val_two]
    show (R.val * 1 + 0) * 1024 + j.val = R.val * 1024 + j.val
    omega
  · exact v16_apply a0 a1 _ _ j

end Cert.Reference15Ideal.Glu

end
-- ==== Proof.KPromptKernel.lean ====
/-
  The prompt's keys (the input projection and the rotary embedding) read at an index. The grid runs over 16 tiles of 512 rows; the first stores the transposed weights in
  scratch, and the others find them there. Every tile is written in strips of 128 lanes.
-/
module

public import proofs.«01_k».proof.Proof.ProjSpec
public import proofs.«01_k».proof.Proof.Gen.Kernel4Ideal.Value
public import Idealize.ShloMosaic.Lib.Pipeline.ValueKit
public import Idealize.ShloMosaic.Lib.Pipeline.ReadBack

@[expose] public section

set_option maxRecDepth 16384

noncomputable section

namespace Cert.Kernel4Ideal.K

open Cert.Kernel4Ideal Cert.Kernel4Ideal.Gen Cert.Kernel4Ideal.Value Cert.ProjSpec
open Idealize.ShloMosaic Idealize.ShloMosaic.TcCoe Idealize.SL.Sem

variable (m : (ℓ : Loc nD τ sig) → Buf (Elt Ideal) ℓ)

/-- The normalised rows, row `R` being position `R % 4096` of batch `R / 4096`. -/
def h (c : Dev nD) (R : Fin 8192) (d : Fin 2048) : EReal :=
  m ((c.tc : Thread nD τ).loc main_arg0) (ix3 ⟨R.val / 4096, by omega⟩ ⟨R.val % 4096, by omega⟩ d)
/-- The input projection's columns. -/
def w (c : Dev nD) (d : Fin 2048) (n : ℕ) : EReal := m ((c.tc : Thread nD τ).loc main_arg1) (ix3 0 d (Fin.ofNat 6224 n))

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = 3 ∧ win0_1.index t (1 : Fin 2) = 0 :=
  (by decide +kernel : ∀ t : Fin grid0.N, _)
theorem idx2 : ∀ t : Fin cfg0.N, win0_2.index t (0 : Fin 2) = t.val % 8 ∧ win0_2.index t (1 : Fin 2) = 0 :=
  (by decide +kernel : ∀ t : Fin grid0.N, _)
theorem idx3 : ∀ t : Fin cfg0.N, win0_3.index t (0 : Fin 2) = t.val % 8 ∧ win0_3.index t (1 : Fin 2) = 0 :=
  (by decide +kernel : ∀ t : Fin grid0.N, _)
theorem idx4 : ∀ t : Fin cfg0.N, win0_4.index t (0 : Fin 2) = t.val % 16 ∧ win0_4.index t (1 : Fin 2) = 0 :=
  (by decide +kernel : ∀ t : Fin grid0.N, _)
theorem idx5 : ∀ t : Fin cfg0.N, win0_5.index t (0 : Fin 2) = t.val % 16 ∧ win0_5.index t (1 : Fin 2) = 0 :=
  (by decide +kernel : ∀ t : Fin grid0.N, _)

/-- One lane of the rotation by the two tables: the partner stands half a head away in the lane's strip of 128. -/
def lane (f : Fin 1024 → EReal) (c s : Fin 128 → EReal) (j : Fin 1024) : EReal :=
  f j * c ⟨j.val % 128, by omega⟩ + f ⟨j.val / 128 * 128 + (j.val % 128 + 128 - 64) % 128, by omega⟩ * s ⟨j.val % 128, by omega⟩

/-- One strip of 128 lanes as the kernel writes it. -/
theorem strip_f32 (P : FVec Ideal S512x1024 .f32) (C S : Vec Ideal S512x128 .f32) (o : ℕ) (hs : S512x1024.Slices ![0, o] S512x128)
    (x : S512x128.Idx) (r : Fin 512) (j : Fin 1024) (h0 : r.val = (x 0).val) (h1 : j.val = o + (x 1).val) (ho : o % 128 = 0) :
    addf (mulf (extractStridedSlice S512x128 ![0, o] P hs) (shapeCast S512x128 C shapeCasts_S512x128_S512x128))
      (mulf (dynamicRotate 1 64#32 none (extractStridedSlice S512x128 ![0, o] P hs) rotates_S512x128_d1)
        (shapeCast S512x128 S shapeCasts_S512x128_S512x128)) x
      = lane (fun j => P (ix2 r j)) (fun l => C (ix2 r l)) (fun l => S (ix2 r l)) j := by
  idx_vars x
  have hb := j.isLt
  have e0 : r = x0 := Fin.ext h0
  have e1 : j.val = o + x1.val := h1
  have hb1 := x1.isLt
  subst e0
  refine (show _ = P (ix2 r ⟨o + x1.val, by omega⟩) * C (ix2 r x1)
    + P (ix2 r ⟨o + (x1.val + 128 - 64) % 128, by omega⟩) * S (ix2 r x1) from by pointwise []).trans ?_
  have el : (⟨j.val % 128, by omega⟩ : Fin 128) = x1 := Fin.ext (by show j.val % 128 = x1.val; omega)
  unfold lane
  rw [el]
  refine congrArg₂ (· + ·) (congrArg₂ (· * ·) (congrArg P (congrArg _ (Fin.ext ?_))) rfl)
    (congrArg₂ (· * ·) (congrArg P (congrArg _ (Fin.ext ?_))) rfl)
  · show o + x1.val = j.val; omega
  · show o + (x1.val + 128 - 64) % 128 = j.val / 128 * 128 + (j.val % 128 + 128 - 64) % 128; omega

/-- The same strip scaled by a constant and stored in the narrow format. -/
theorem strip_bf16 (P : FVec Ideal S512x1024 .f32) (C S : Vec Ideal S512x128 .f32) (o : ℕ) (hs : S512x1024.Slices ![0, o] S512x128)
    (x : S512x128.Idx) (k : BitVec 32) (r : Fin 512) (j : Fin 1024) (h0 : r.val = (x 0).val) (h1 : j.val = o + (x 1).val) (ho : o % 128 = 0) :
    truncf .bf16 (mulf (addf (mulf (extractStridedSlice S512x128 ![0, o] P hs) (shapeCast S512x128 C shapeCasts_S512x128_S512x128))
      (mulf (dynamicRotate 1 64#32 none (extractStridedSlice S512x128 ![0, o] P hs) rotates_S512x128_d1)
        (shapeCast S512x128 S shapeCasts_S512x128_S512x128))) (broadcast S512x128 (Scalar.ofBits .f32 k))) bitsLt_bf16_f32 x
      = lane (fun j => P (ix2 r j)) (fun l => C (ix2 r l)) (fun l => S (ix2 r l)) j * Ideal.ofBits .f32 k :=
  congrArg (· * Ideal.ofBits .f32 k) (strip_f32 P C S o hs x r j h0 h1 ho)

/-- A table of the rotation at position `p` and lane `l`: two halves side by side. -/
theorem table_apply (a b : FVec Ideal S4096x64 .f32) (p : Fin 4096) (l : Fin 128) :
    shapeCast S4096x128 (broadcastInDim S1x4096x1x128 ![0, 1, 2, 3] bcast_S1x4096x1x128_S1x4096x1x128_0_1_2_3 fun i =>
        shapeCast S1x4096x1x128 (concatenate S4096x128 1 [⟨S4096x64, a⟩, ⟨S4096x64, b⟩] concatenates_S4096x64_S4096x64_S4096x128_d1)
          shapeCasts_S4096x128_S1x4096x1x128 i)
      shapeCasts_S1x4096x1x128_S4096x128 (ix2 p l)
      = if h : l.val < 64 then a (ix2 p ⟨l.val, h⟩) else b (ix2 p ⟨l.val - 64, by omega⟩) := by
  refine (shapeCast_apply _ shapeCasts_S1x4096x1x128_S4096x128 _ (ix4 0 p 0 l) ?_).trans ?_
  · rw [Shape.rowMajor_val_four, Shape.rowMajor_val_two]
    show ((0 * 4096 + p.val) * 1 + 0) * 128 + l.val = p.val * 128 + l.val
    omega
  refine (show _ = shapeCast S1x4096x1x128 (concatenate S4096x128 1 [⟨S4096x64, a⟩, ⟨S4096x64, b⟩] concatenates_S4096x64_S4096x64_S4096x128_d1)
          shapeCasts_S4096x128_S1x4096x1x128 (ix4 0 p 0 l) from by pointwise []).trans ?_
  refine (shapeCast_apply _ shapeCasts_S4096x128_S1x4096x1x128 _ (ix2 p l) ?_).trans ?_
  · rw [Shape.rowMajor_val_four, Shape.rowMajor_val_two]
    show p.val * 128 + l.val = ((0 * 4096 + p.val) * 1 + 0) * 128 + l.val
    omega
  pointwise []

theorem cos_at (c : Dev nD) (t : Fin cfg0.N) (r : Fin 512) (l : Fin 128) :
    iblk m c 2 t (ix2 r l)
      = Ideal.cos (angle 0x42800000#32 (BitVec.ofNat 32 (t.val % 8 * 512 + r.val)) (l.val % 64)) := by
  obtain ⟨e0, e1⟩ := idx2 t
  blk_simp [iblk]
  entry_read
  have e : ((View.whole main_v20).slice (win0_2.rect t)).emb (ix2 r l) = ix2 (⟨t.val % 8 * 512 + r.val, by omega⟩ : Fin 4096) l := by
    funext a; apply Fin.ext
    match a with
    | ⟨0, _⟩ => show win0_2.index t (0 : Fin 2) * 512 + 1 * r.val = t.val % 8 * 512 + r.val; rw [e0]; omega
    | ⟨1, _⟩ => show win0_2.index t (1 : Fin 2) * 128 + 1 * l.val = l.val; rw [e1]; omega
  rw [e]
  refine (table_apply _ _ _ l).trans ?_
  by_cases hl : l.val < 64
  · rw [dif_pos hl, Nat.mod_eq_of_lt hl]
    pointwise [angle]
  · rw [dif_neg hl, show l.val % 64 = l.val - 64 by omega]
    pointwise [angle]

theorem sin_at (c : Dev nD) (t : Fin cfg0.N) (r : Fin 512) (l : Fin 128) :
    iblk m c 3 t (ix2 r l)
      = if l.val < 64 then -Ideal.sin (angle 0x42800000#32 (BitVec.ofNat 32 (t.val % 8 * 512 + r.val)) (l.val % 64))
        else Ideal.sin (angle 0x42800000#32 (BitVec.ofNat 32 (t.val % 8 * 512 + r.val)) (l.val % 64)) := by
  obtain ⟨e0, e1⟩ := idx3 t
  blk_simp [iblk]
  entry_read
  have e : ((View.whole main_v25).slice (win0_3.rect t)).emb (ix2 r l) = ix2 (⟨t.val % 8 * 512 + r.val, by omega⟩ : Fin 4096) l := by
    funext a; apply Fin.ext
    match a with
    | ⟨0, _⟩ => show win0_3.index t (0 : Fin 2) * 512 + 1 * r.val = t.val % 8 * 512 + r.val; rw [e0]; omega
    | ⟨1, _⟩ => show win0_3.index t (1 : Fin 2) * 128 + 1 * l.val = l.val; rw [e1]; omega
  rw [e]
  refine (table_apply _ _ _ l).trans ?_
  by_cases hl : l.val < 64
  · rw [dif_pos hl, if_pos hl, Nat.mod_eq_of_lt hl]
    pointwise [angle]
  · rw [dif_neg hl, if_neg hl, show l.val % 64 = l.val - 64 by omega]
    pointwise [angle]

theorem blk0 (c : Dev nD) (t : Fin cfg0.N) (r : Fin 512) (d : Fin 2048) : iblk m c 0 t (ix2 r d) = h m c ⟨t.val % 16 * 512 + r.val, by omega⟩ d := by
  obtain ⟨e0, e1⟩ := idx0 t
  blk_simp [iblk]
  entry_read
  refine shapeCast_apply _ shapeCasts_S2x4096x2048_S8192x2048 _ (ix3 ⟨(t.val % 16 * 512 + r.val) / 4096, by omega⟩ ⟨(t.val % 16 * 512 + r.val) % 4096, by omega⟩ d) ?_
  rw [Shape.rowMajor_val_three, Shape.rowMajor_val_two]
  show ((t.val % 16 * 512 + r.val) / 4096 * 4096 + (t.val % 16 * 512 + r.val) % 4096) * 2048 + d.val
    = (win0_0.index t (0 : Fin 2) * 512 + 1 * r.val) * 2048 + (win0_0.index t (1 : Fin 2) * 2048 + 1 * d.val)
  rw [e0, e1]; omega

theorem blkW (c : Dev nD) (t : Fin cfg0.N) (k : Fin 1024) (d : Fin 2048) : X0_1 m c t (ix2 k d) = w m c d (3072 + k.val) := by
  obtain ⟨e0, e1⟩ := idx1 t
  unfold X0_1 Pipeline.Window.fill
  rw [dif_pos (moved0_1 t _)]
  blk_simp [iblk]
  entry_read
  refine (transpose_apply _ _ transposes_S2048x6224_S6224x2048_1_0 _ (ix2 d ⟨3072 + k.val, by omega⟩) ?_).trans ?_
  · intro a
    match a with
    | ⟨0, _⟩ => show 3072 + k.val = win0_1.index t (0 : Fin 2) * 1024 + 1 * k.val; rw [e0]; omega
    | ⟨1, _⟩ => show d.val = win0_1.index t (1 : Fin 2) * 2048 + 1 * d.val; rw [e1]; omega
  · refine (shapeCast_apply _ shapeCasts_S1x2048x6224_S2048x6224 _ (ix3 0 d ⟨3072 + k.val, by omega⟩) ?_).trans ?_
    · rw [Shape.rowMajor_val_three, Shape.rowMajor_val_two]
      show (0 * 2048 + d.val) * 6224 + (3072 + k.val) = d.val * 6224 + (3072 + k.val)
      omega
    · exact congrArg (fun i => m ((c.tc : Thread nD τ).loc main_arg1) (ix3 0 d i))
        (Fin.ext (Nat.mod_eq_of_lt (show 3072 + k.val < 6224 by omega)).symm)

theorem payW_apply (x : Vec Ideal S1024x2048 .f32) (d : Fin 2048) (k : Fin 1024) : k0_pay5 x (ix2 d k) = x (ix2 k d) := by
  pointwise [k0_pay5]

theorem payM_apply (x : Vec Ideal S512x2048 .bf16) (y : Vec Ideal S2048x1024 .bf16) (r : Fin 512) (k : Fin 1024) :
    k0_pay6 x y (ix2 r k) = ∑ d : Fin 2048, x (ix2 r d) * y (ix2 d k) := by
  pointwise [k0_pay6]

/-! ## What each point leaves -/

theorem first_w (c : Dev nD) (t : Fin cfg0.N) (h0 : t.val % 16 = 0) : (outsAt0 m c t.val t.isLt).2.2 = k0_pay5 (X0_1 m c t) := by
  rw [outsAt0_A m c t h0]
  frame_out

theorem next_w (c : Dev nD) (t : Fin cfg0.N) (h0 : ¬t.val % 16 = 0) :
    (outsAt0 m c t.val t.isLt).2.2 = (outsAt0 m c (t.val - 1) (Nat.lt_of_le_of_lt (Nat.sub_le _ _) t.isLt)).2.2 := by
  rw [outsAt0_B m c t h0]
  rfl

/-- Every point holds the transposed weights in the scratch: the first stores them, the others find them. -/
theorem held (c : Dev nD) : ∀ (n : ℕ) (hn : n < cfg0.N) (d : Fin 2048) (k : Fin 1024),
    (outsAt0 m c n hn).2.2 (ix2 d k) = w m c d (3072 + k.val) := by
  intro n
  induction n with
  | zero => exact fun hn d k => (congrFun (first_w m c ⟨0, hn⟩ rfl) _).trans ((payW_apply ..).trans (blkW ..))
  | succ n ih =>
    intro hn d k
    by_cases h0 : (n + 1) % 16 = 0
    · exact (congrFun (first_w m c ⟨n + 1, hn⟩ h0) _).trans ((payW_apply ..).trans (blkW ..))
    · exact (congrFun (next_w m c ⟨n + 1, hn⟩ h0) _).trans (ih (Nat.lt_of_succ_lt hn) d k)

/-- The product a point forms: its rows with the segment's columns. -/
def prod (c : Dev nD) (t : Fin cfg0.N) : FVec Ideal S512x1024 .f32 := k0_pay6 (iblk m c 0 t) (outsAt0 m c t.val t.isLt).2.2

theorem prod_apply (c : Dev nD) (t : Fin cfg0.N) (r : Fin 512) (j : Fin 1024) :
    prod m c t (ix2 r j) = row (h m c) (w m c) ⟨t.val % 16 * 512 + r.val, by omega⟩ (3072 + j.val) := by
  unfold prod
  rw [payM_apply]
  exact Finset.sum_congr rfl fun d _ => congrArg₂ (· * ·) (blk0 m c t r d) (held m c t.val t.isLt d j)

theorem out4_at (c : Dev nD) (t : Fin cfg0.N) (r : Fin 512) (j : Fin 1024) :
    (outsAt0 m c t.val t.isLt).1 (ix2 r j)
      = lane (fun j => prod m c t (ix2 r j)) (fun l => iblk m c 2 t (ix2 r l))
          (fun l => iblk m c 3 t (ix2 r l)) j := by
  unfold prod
  by_cases h0 : t.val % 16 = 0
  · rw [first_w m c t h0, outsAt0_A m c t h0]
    frame_out
    canon_tiles x h
    all_goals open_payloads
    all_goals refine strip_f32 _ _ _ _ _ x r j h0 ?_ (by decide)
    all_goals first | exact h1 | exact h1.trans (Nat.zero_add _).symm
  · rw [next_w m c t h0, outsAt0_B m c t h0]
    frame_out
    simp only [read_unread_whole]
    canon_tiles x h
    all_goals open_payloads
    all_goals refine strip_f32 _ _ _ _ _ x r j h0 ?_ (by decide)
    all_goals first | exact h1 | exact h1.trans (Nat.zero_add _).symm

theorem out5_at (c : Dev nD) (t : Fin cfg0.N) (r : Fin 512) (j : Fin 1024) :
    (outsAt0 m c t.val t.isLt).2.1 (ix2 r j)
      = lane (fun j => prod m c t (ix2 r j)) (fun l => iblk m c 2 t (ix2 r l))
          (fun l => iblk m c 3 t (ix2 r l)) j * Ideal.ofBits .f32 0x3F800000#32 := by
  unfold prod
  by_cases h0 : t.val % 16 = 0
  · rw [first_w m c t h0, outsAt0_A m c t h0]
    frame_out
    canon_tiles x h
    all_goals open_payloads
    all_goals refine strip_bf16 _ _ _ _ _ x _ r j h0 ?_ (by decide)
    all_goals first | exact h1 | exact h1.trans (Nat.zero_add _).symm
  · rw [next_w m c t h0, outsAt0_B m c t h0]
    frame_out
    simp only [read_unread_whole]
    canon_tiles x h
    all_goals open_payloads
    all_goals refine strip_bf16 _ _ _ _ _ x _ r j h0 ?_ (by decide)
    all_goals first | exact h1 | exact h1.trans (Nat.zero_add _).symm

/-- The lane of the rotation on a point's product is the rotary embedding of the row. -/
theorem lane_apply (c : Dev nD) (t : Fin cfg0.N) (r : Fin 512) (j : Fin 1024) :
    lane (fun j => prod m c t (ix2 r j)) (fun l => iblk m c 2 t (ix2 r l)) (fun l => iblk m c 3 t (ix2 r l)) j
      = rope 64 (fun n => row (h m c) (w m c) ⟨t.val % 16 * 512 + r.val, by omega⟩ (3072 + n)) (angle 0x42800000#32 (BitVec.ofNat 32 ((t.val % 16 * 512 + r.val) % 4096))) j.val := by
  unfold lane
  beta_reduce
  rw [prod_apply, prod_apply, cos_at, sin_at]
  dsimp only
  have e1 : j.val % 128 % 64 = j.val % 64 := by omega
  have e2 : (BitVec.ofNat 32 (t.val % 8 * 512 + r.val)) = ((BitVec.ofNat 32 ((t.val % 16 * 512 + r.val) % 4096))) := congrArg _ (by omega)
  rw [e1, e2]
  exact rope_lane64 (fun n => row (h m c) (w m c) ⟨t.val % 16 * 512 + r.val, by omega⟩ (3072 + n)) _ j.val _ rfl

/-- The result of window 4 at row `R`, column `j`. -/
def Out4 (c : Dev nD) : Buf (Elt Ideal) ((c.tc : Thread nD τ).loc main_v28_0) := fun i =>
  rope 64 (fun n => row (h m c) (w m c) (i 0) (3072 + n)) (angle 0x42800000#32 (BitVec.ofNat 32 ((i 0).val % 4096))) (i 1).val

theorem arr4 (c : Dev nD) : (dats m 0 c).arrAt 4 cfg0.N = Out4 m c := by
  refine (dats m 0 c).arrAt_eq_of_covers 4 _ (by decide +kernel) fun t hf y => ?_
  blk_simp
  rw [after0_4]
  obtain ⟨e0, e1⟩ := idx4 t
  idx_vars y
  refine (out4_at m c t y0 y1).trans ((lane_apply m c t y0 y1).trans ?_)
  refine congrArg₂ (fun (R : Fin 8192) (n : ℕ) => rope 64 (fun n => row (h m c) (w m c) R (3072 + n)) (angle 0x42800000#32 (BitVec.ofNat 32 (R.val % 4096))) n) (Fin.ext ?_) ?_
  · show t.val % 16 * 512 + y0.val = win0_4.index t (0 : Fin 2) * 512 + 1 * y0.val; rw [e0]; omega
  · show y1.val = win0_4.index t (1 : Fin 2) * 1024 + 1 * y1.val; rw [e1]; omega

/-- The result of window 5 at row `R`, column `j`. -/
def Out5 (c : Dev nD) : Buf (Elt Ideal) ((c.tc : Thread nD τ).loc main_v28_1) := fun i =>
  rope 64 (fun n => row (h m c) (w m c) (i 0) (3072 + n)) (angle 0x42800000#32 (BitVec.ofNat 32 ((i 0).val % 4096))) (i 1).val

theorem arr5 (c : Dev nD) : (dats m 0 c).arrAt 5 cfg0.N = Out5 m c := by
  refine (dats m 0 c).arrAt_eq_of_covers 5 _ (by decide +kernel) fun t hf y => ?_
  blk_simp
  rw [after0_5]
  obtain ⟨e0, e1⟩ := idx5 t
  idx_vars y
  refine (out5_at m c t y0 y1).trans ((congrArg (· * _) (lane_apply m c t y0 y1)).trans ((congrArg (_ * ·) Ideal.ofBits_one_f32).trans ((mul_one _).trans ?_)))
  refine congrArg₂ (fun (R : Fin 8192) (n : ℕ) => rope 64 (fun n => row (h m c) (w m c) R (3072 + n)) (angle 0x42800000#32 (BitVec.ofNat 32 (R.val % 4096))) n) (Fin.ext ?_) ?_
  · show t.val % 16 * 512 + y0.val = win0_5.index t (0 : Fin 2) * 512 + 1 * y0.val; rw [e0]; omega
  · show y1.val = win0_5.index t (1 : Fin 2) * 1024 + 1 * y1.val; rw [e1]; omega

end Cert.Kernel4Ideal.K

end
-- ==== Proof.KPromptReference.lean ====
/-
  The reference's prompt keys read at an index.
-/
module

public import proofs.«01_k».proof.Proof.ProjSpec
public import proofs.«01_k».proof.Proof.Gen.Reference4Ideal.Read

@[expose] public section

set_option maxRecDepth 16384

noncomputable section

namespace Cert.Reference4Ideal.K

open Cert.Reference4Ideal Cert.Reference4Ideal.Gen Cert.Reference4Ideal.Read Cert.ProjSpec
open Idealize.ShloMosaic Idealize.ShloMosaic.TcCoe Idealize.SL.Sem

variable (a0 : (⟨S2x4096x2048, .f32⟩ : BufTy).Contents (Elt Ideal)) (a1 : (⟨S1x2048x6224, .f32⟩ : BufTy).Contents (Elt Ideal))

/-- The rotary angles. -/
theorem ang_apply (p : Fin 4096) (i : Fin 64) : val_main_v23 (F := Ideal) (ix2 p i) = angle 0x42800000#32 (BitVec.ofNat 32 p.val) i.val := by
  pointwise [val_main_v23, val_main_v22, val_main_v21, val_main_v20, val_main_v19, val_main_v18, val_main_v17, val_main_v16, val_main_v15, val_main_v14, val_main_v13, val_main_v12, val_main_v11, val_main_cst, val_main_cst_0, angle]

/-- A row's feature `n` of the segment. -/
def feat (b : Fin 2) (p : Fin 4096) (n : ℕ) : EReal := ∑ d : Fin 2048, a0 (ix3 b p d) * a1 (ix3 0 d (Fin.ofNat 6224 (3072 + n)))

theorem heads_apply (b : Fin 2) (p : Fin 4096) (g : Fin 8) (l : Fin 128) :
    val_main_v10 (F := Ideal) a0 a1 (ix4 b p g l) = feat a0 a1 b p (g.val * 128 + l.val) := by
  unfold val_main_v10 feat
  refine (shapeCast_apply _ shapeCasts_S2x4096x1024_S2x4096x8x128 _ (ix3 b p ⟨g.val * 128 + l.val, by omega⟩) ?_).trans ?_
  · rw [Shape.rowMajor_val_three, Shape.rowMajor_val_four]
    show (b.val * 4096 + p.val) * 1024 + (g.val * 128 + l.val) = ((b.val * 4096 + p.val) * 8 + g.val) * 128 + l.val
    omega
  · refine (show _ = ∑ d : Fin 2048, a0 (ix3 b p d) * a1 (ix3 0 d ⟨3072 + (g.val * 128 + l.val), by omega⟩) from by
      pointwise [val_main_v5, val_main_v1, val_main_v0]).trans ?_
    refine Finset.sum_congr rfl fun d _ => congrArg (fun n => a0 (ix3 b p d) * a1 (ix3 0 d n)) (Fin.ext ?_)
    exact (Nat.mod_eq_of_lt (show 3072 + (g.val * 128 + l.val) < 6224 by omega)).symm

theorem rope_apply (b : Fin 2) (p : Fin 4096) (g : Fin 8) (l : Fin 128) :
    val_main_v40 (F := Ideal) a0 a1 (ix4 b p g l) = rope 64 (feat a0 a1 b p) (angle 0x42800000#32 (BitVec.ofNat 32 p.val)) (g.val * 128 + l.val) := by
  have hy := heads_apply a0 a1 b p g
  unfold val_main_v40 val_main_v39 val_main_v38 val_main_v36 val_main_v34 val_main_v33 val_main_v31 val_main_v29 val_main_v28
  generalize val_main_v10 (F := Ideal) a0 a1 = y at hy ⊢
  refine (show _ = (if hl : l.val < 64 then
      y (ix4 b p g ⟨l.val, by omega⟩) * Ideal.cos (val_main_v23 (F := Ideal) (ix2 p ⟨l.val, hl⟩))
        - y (ix4 b p g ⟨64 + l.val, by omega⟩) * Ideal.sin (val_main_v23 (F := Ideal) (ix2 p ⟨l.val, hl⟩))
    else y (ix4 b p g ⟨64 + (l.val - 64), by omega⟩) * Ideal.cos (val_main_v23 (F := Ideal) (ix2 p ⟨l.val - 64, by omega⟩))
        + y (ix4 b p g ⟨l.val - 64, by omega⟩) * Ideal.sin (val_main_v23 (F := Ideal) (ix2 p ⟨l.val - 64, by omega⟩)))
    from by pointwise [val_main_v37, val_main_v35, val_main_v32, val_main_v30, val_main_v27, val_main_v26, val_main_v25, val_main_v24]).trans ?_
  have hb := l.isLt
  unfold rope
  have e1 : (g.val * 128 + l.val) % (2 * 64) = l.val := by omega
  by_cases hl : l.val < 64
  · have e2 : (g.val * 128 + l.val) % 64 = l.val := by omega
    rw [dif_pos hl, if_pos (by omega), hy, hy, ang_apply, e2]
    dsimp only
    rw [show g.val * 128 + (64 + l.val) = g.val * 128 + l.val + 64 by omega]
  · have e2 : (g.val * 128 + l.val) % 64 = l.val - 64 := by omega
    rw [dif_neg hl, if_neg (by omega), hy, hy, ang_apply, e2]
    dsimp only
    rw [show g.val * 128 + (64 + (l.val - 64)) = g.val * 128 + l.val by omega,
      show g.val * 128 + (l.val - 64) = g.val * 128 + l.val - 64 by omega]

/-- The result at row `R`, column `j`. -/
theorem ref_apply (R : Fin 8192) (j : Fin 1024) :
    val_main_v41 (F := Ideal) a0 a1 (ix2 R j)
      = rope 64 (fun n => row (fun R d => a0 (ix3 ⟨R.val / 4096, by omega⟩ ⟨R.val % 4096, by omega⟩ d)) (fun d n => a1 (ix3 0 d (Fin.ofNat 6224 n))) R (3072 + n))
          (angle 0x42800000#32 (BitVec.ofNat 32 (R.val % 4096))) j.val := by
  unfold val_main_v41
  refine (shapeCast_apply _ shapeCasts_S2x4096x8x128_S8192x1024 _ (ix4 ⟨R.val / 4096, by omega⟩ ⟨R.val % 4096, by omega⟩ ⟨j.val / 128, by omega⟩ ⟨j.val % 128, by omega⟩) ?_).trans ?_
  · rw [Shape.rowMajor_val_four, Shape.rowMajor_val_two]
    show ((R.val / 4096 * 4096 + R.val % 4096) * 8 + j.val / 128) * 128 + j.val % 128 = R.val * 1024 + j.val
    omega
  · refine (rope_apply ..).trans ?_
    show rope 64 _ _ (j.val / 128 * 128 + j.val % 128) = _
    rw [show j.val / 128 * 128 + j.val % 128 = j.val by omega]
    rfl

theorem narrow_apply (R : Fin 8192) (j : Fin 1024) : val_main_v42 (F := Ideal) a0 a1 (ix2 R j) = val_main_v41 (F := Ideal) a0 a1 (ix2 R j) := by
  unfold val_main_v42
  rfl

end Cert.Reference4Ideal.K

end
-- ==== Proof.KSampleKernel.lean ====
/-
  The samples' keys (the input projection and the rotary embedding) read at an index. One point of the grid holds the 32 rows. Every tile is written in strips of 128 lanes.
-/
module

public import proofs.«01_k».proof.Proof.ProjSpec
public import proofs.«01_k».proof.Proof.Gen.Kernel12Ideal.Value
public import Idealize.ShloMosaic.Lib.Pipeline.ValueKit
public import Idealize.ShloMosaic.Lib.Pipeline.ReadBack

@[expose] public section

set_option maxRecDepth 16384

noncomputable section

namespace Cert.Kernel12Ideal.K

open Cert.Kernel12Ideal Cert.Kernel12Ideal.Gen Cert.Kernel12Ideal.Value Cert.ProjSpec
open Idealize.ShloMosaic Idealize.ShloMosaic.TcCoe Idealize.SL.Sem

variable (m : (ℓ : Loc nD τ sig) → Buf (Elt Ideal) ℓ)

/-- The normalised rows, one per sequence. -/
def h (c : Dev nD) (R : Fin 32) (d : Fin 2048) : EReal := m ((c.tc : Thread nD τ).loc main_arg0) (ix3 R 0 d)
/-- The input projection's columns. -/
def w (c : Dev nD) (d : Fin 2048) (n : ℕ) : EReal := m ((c.tc : Thread nD τ).loc main_arg1) (ix3 0 d (Fin.ofNat 6224 n))

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 3 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- One lane of the rotation by the two tables: the partner stands half a head away in the lane's strip of 128. -/
def lane (f : Fin 1024 → EReal) (c s : Fin 128 → EReal) (j : Fin 1024) : EReal :=
  f j * c ⟨j.val % 128, by omega⟩ + f ⟨j.val / 128 * 128 + (j.val % 128 + 128 - 64) % 128, by omega⟩ * s ⟨j.val % 128, by omega⟩

/-- One strip of 128 lanes as the kernel writes it. -/
theorem strip_f32 (P : FVec Ideal S32x1024 .f32) (C S : Vec Ideal S32x128 .f32) (o : ℕ) (hs : S32x1024.Slices ![0, o] S32x128)
    (x : S32x128.Idx) (r : Fin 32) (j : Fin 1024) (h0 : r.val = (x 0).val) (h1 : j.val = o + (x 1).val) (ho : o % 128 = 0) :
    addf (mulf (extractStridedSlice S32x128 ![0, o] P hs) (shapeCast S32x128 C shapeCasts_S32x128_S32x128))
      (mulf (dynamicRotate 1 64#32 none (extractStridedSlice S32x128 ![0, o] P hs) rotates_S32x128_d1)
        (shapeCast S32x128 S shapeCasts_S32x128_S32x128)) x
      = lane (fun j => P (ix2 r j)) (fun l => C (ix2 r l)) (fun l => S (ix2 r l)) j := by
  idx_vars x
  have hb := j.isLt
  have e0 : r = x0 := Fin.ext h0
  have e1 : j.val = o + x1.val := h1
  have hb1 := x1.isLt
  subst e0
  refine (show _ = P (ix2 r ⟨o + x1.val, by omega⟩) * C (ix2 r x1)
    + P (ix2 r ⟨o + (x1.val + 128 - 64) % 128, by omega⟩) * S (ix2 r x1) from by pointwise []).trans ?_
  have el : (⟨j.val % 128, by omega⟩ : Fin 128) = x1 := Fin.ext (by show j.val % 128 = x1.val; omega)
  unfold lane
  rw [el]
  refine congrArg₂ (· + ·) (congrArg₂ (· * ·) (congrArg P (congrArg _ (Fin.ext ?_))) rfl)
    (congrArg₂ (· * ·) (congrArg P (congrArg _ (Fin.ext ?_))) rfl)
  · show o + x1.val = j.val; omega
  · show o + (x1.val + 128 - 64) % 128 = j.val / 128 * 128 + (j.val % 128 + 128 - 64) % 128; omega

/-- The same strip scaled by a constant and stored in the narrow format. -/
theorem strip_bf16 (P : FVec Ideal S32x1024 .f32) (C S : Vec Ideal S32x128 .f32) (o : ℕ) (hs : S32x1024.Slices ![0, o] S32x128)
    (x : S32x128.Idx) (k : BitVec 32) (r : Fin 32) (j : Fin 1024) (h0 : r.val = (x 0).val) (h1 : j.val = o + (x 1).val) (ho : o % 128 = 0) :
    truncf .bf16 (mulf (addf (mulf (extractStridedSlice S32x128 ![0, o] P hs) (shapeCast S32x128 C shapeCasts_S32x128_S32x128))
      (mulf (dynamicRotate 1 64#32 none (extractStridedSlice S32x128 ![0, o] P hs) rotates_S32x128_d1)
        (shapeCast S32x128 S shapeCasts_S32x128_S32x128))) (broadcast S32x128 (Scalar.ofBits .f32 k))) bitsLt_bf16_f32 x
      = lane (fun j => P (ix2 r j)) (fun l => C (ix2 r l)) (fun l => S (ix2 r l)) j * Ideal.ofBits .f32 k :=
  congrArg (· * Ideal.ofBits .f32 k) (strip_f32 P C S o hs x r j h0 h1 ho)

/-- A table of the rotation at position `p` and lane `l`: two halves side by side. -/
theorem table_apply (a b : FVec Ideal S32x64 .f32) (p : Fin 32) (l : Fin 128) :
    shapeCast S32x128 (broadcastInDim S1x32x1x128 ![0, 1, 2, 3] bcast_S1x32x1x128_S1x32x1x128_0_1_2_3 fun i =>
        shapeCast S1x32x1x128 (concatenate S32x128 1 [⟨S32x64, a⟩, ⟨S32x64, b⟩] concatenates_S32x64_S32x64_S32x128_d1)
          shapeCasts_S32x128_S1x32x1x128 i)
      shapeCasts_S1x32x1x128_S32x128 (ix2 p l)
      = if h : l.val < 64 then a (ix2 p ⟨l.val, h⟩) else b (ix2 p ⟨l.val - 64, by omega⟩) := by
  refine (shapeCast_apply _ shapeCasts_S1x32x1x128_S32x128 _ (ix4 0 p 0 l) ?_).trans ?_
  · rw [Shape.rowMajor_val_four, Shape.rowMajor_val_two]
    show ((0 * 32 + p.val) * 1 + 0) * 128 + l.val = p.val * 128 + l.val
    omega
  refine (show _ = shapeCast S1x32x1x128 (concatenate S32x128 1 [⟨S32x64, a⟩, ⟨S32x64, b⟩] concatenates_S32x64_S32x64_S32x128_d1)
          shapeCasts_S32x128_S1x32x1x128 (ix4 0 p 0 l) from by pointwise []).trans ?_
  refine (shapeCast_apply _ shapeCasts_S32x128_S1x32x1x128 _ (ix2 p l) ?_).trans ?_
  · rw [Shape.rowMajor_val_four, Shape.rowMajor_val_two]
    show p.val * 128 + l.val = ((0 * 32 + p.val) * 1 + 0) * 128 + l.val
    omega
  pointwise []

theorem cos_at (c : Dev nD) (t : Fin cfg0.N) (r : Fin 32) (l : Fin 128) :
    iblk m c 2 t (ix2 r l)
      = Ideal.cos (angle 0x42800000#32 8192#32 (l.val % 64)) := by
  obtain ⟨e0, e1⟩ := idx2 t
  blk_simp [iblk]
  entry_read
  have e : ((View.whole main_v20).slice (win0_2.rect t)).emb (ix2 r l) = ix2 r l := by
    funext a; apply Fin.ext
    match a with
    | ⟨0, _⟩ => show win0_2.index t (0 : Fin 2) * 32 + 1 * r.val = r.val; rw [e0]; omega
    | ⟨1, _⟩ => show win0_2.index t (1 : Fin 2) * 128 + 1 * l.val = l.val; rw [e1]; omega
  rw [e]
  refine (table_apply _ _ _ l).trans ?_
  by_cases hl : l.val < 64
  · rw [dif_pos hl, Nat.mod_eq_of_lt hl]
    pointwise [angle]
  · rw [dif_neg hl, show l.val % 64 = l.val - 64 by omega]
    pointwise [angle]

theorem sin_at (c : Dev nD) (t : Fin cfg0.N) (r : Fin 32) (l : Fin 128) :
    iblk m c 3 t (ix2 r l)
      = if l.val < 64 then -Ideal.sin (angle 0x42800000#32 8192#32 (l.val % 64))
        else Ideal.sin (angle 0x42800000#32 8192#32 (l.val % 64)) := by
  obtain ⟨e0, e1⟩ := idx3 t
  blk_simp [iblk]
  entry_read
  have e : ((View.whole main_v25).slice (win0_3.rect t)).emb (ix2 r l) = ix2 r l := by
    funext a; apply Fin.ext
    match a with
    | ⟨0, _⟩ => show win0_3.index t (0 : Fin 2) * 32 + 1 * r.val = r.val; rw [e0]; omega
    | ⟨1, _⟩ => show win0_3.index t (1 : Fin 2) * 128 + 1 * l.val = l.val; rw [e1]; omega
  rw [e]
  refine (table_apply _ _ _ l).trans ?_
  by_cases hl : l.val < 64
  · rw [dif_pos hl, if_pos hl, Nat.mod_eq_of_lt hl]
    pointwise [angle]
  · rw [dif_neg hl, if_neg hl, show l.val % 64 = l.val - 64 by omega]
    pointwise [angle]

theorem blk0 (c : Dev nD) (t : Fin cfg0.N) (r : Fin 32) (d : Fin 2048) : iblk m c 0 t (ix2 r d) = h m c r d := by
  obtain ⟨e0, e1⟩ := idx0 t
  blk_simp [iblk]
  entry_read
  refine shapeCast_apply _ shapeCasts_S32x1x2048_S32x2048 _ (ix3 r 0 d) ?_
  rw [Shape.rowMajor_val_three, Shape.rowMajor_val_two]
  show (r.val * 1 + 0) * 2048 + d.val
    = (win0_0.index t (0 : Fin 2) * 32 + 1 * r.val) * 2048 + (win0_0.index t (1 : Fin 2) * 2048 + 1 * d.val)
  rw [e0, e1]; omega

theorem blkW (c : Dev nD) (t : Fin cfg0.N) (k : Fin 1024) (d : Fin 2048) : X0_1 m c t (ix2 k d) = w m c d (3072 + k.val) := by
  obtain ⟨e0, e1⟩ := idx1 t
  unfold X0_1 Pipeline.Window.fill
  rw [dif_pos (moved0_1 t _)]
  blk_simp [iblk]
  entry_read
  refine (transpose_apply _ _ transposes_S2048x6224_S6224x2048_1_0 _ (ix2 d ⟨3072 + k.val, by omega⟩) ?_).trans ?_
  · intro a
    match a with
    | ⟨0, _⟩ => show 3072 + k.val = win0_1.index t (0 : Fin 2) * 1024 + 1 * k.val; rw [e0]; omega
    | ⟨1, _⟩ => show d.val = win0_1.index t (1 : Fin 2) * 2048 + 1 * d.val; rw [e1]; omega
  · refine (shapeCast_apply _ shapeCasts_S1x2048x6224_S2048x6224 _ (ix3 0 d ⟨3072 + k.val, by omega⟩) ?_).trans ?_
    · rw [Shape.rowMajor_val_three, Shape.rowMajor_val_two]
      show (0 * 2048 + d.val) * 6224 + (3072 + k.val) = d.val * 6224 + (3072 + k.val)
      omega
    · exact congrArg (fun i => m ((c.tc : Thread nD τ).loc main_arg1) (ix3 0 d i))
        (Fin.ext (Nat.mod_eq_of_lt (show 3072 + k.val < 6224 by omega)).symm)

theorem payW_apply (x : Vec Ideal S1024x2048 .f32) (d : Fin 2048) (k : Fin 1024) : k0_pay5 x (ix2 d k) = x (ix2 k d) := by
  pointwise [k0_pay5]

theorem payM_apply (x : Vec Ideal S32x2048 .bf16) (y : Vec Ideal S2048x1024 .bf16) (r : Fin 32) (k : Fin 1024) :
    k0_pay6 x y (ix2 r k) = ∑ d : Fin 2048, x (ix2 r d) * y (ix2 d k) := by
  pointwise [k0_pay6]

/-- The product a point forms: its rows with the segment's columns. -/
def prod (c : Dev nD) (t : Fin cfg0.N) : FVec Ideal S32x1024 .f32 := k0_pay6 (iblk m c 0 t) (k0_pay5 (X0_1 m c t))

theorem prod_apply (c : Dev nD) (t : Fin cfg0.N) (r : Fin 32) (j : Fin 1024) :
    prod m c t (ix2 r j) = row (h m c) (w m c) r (3072 + j.val) := by
  unfold prod
  rw [payM_apply]
  exact Finset.sum_congr rfl fun d _ => congrArg₂ (· * ·) (blk0 m c t r d) ((payW_apply ..).trans (blkW m c t j d))

theorem out4_at (c : Dev nD) (t : Fin cfg0.N) (r : Fin 32) (j : Fin 1024) :
    (outsAt0 m c t).1 (ix2 r j)
      = lane (fun j => prod m c t (ix2 r j)) (fun l => iblk m c 2 t (ix2 r l))
          (fun l => iblk m c 3 t (ix2 r l)) j := by
  unfold prod outsAt0
  frame_out
  canon_tiles x h
  all_goals open_payloads
  all_goals refine strip_f32 _ _ _ _ _ x r j h0 ?_ (by decide)
  all_goals first | exact h1 | exact h1.trans (Nat.zero_add _).symm

theorem out5_at (c : Dev nD) (t : Fin cfg0.N) (r : Fin 32) (j : Fin 1024) :
    (outsAt0 m c t).2 (ix2 r j)
      = lane (fun j => prod m c t (ix2 r j)) (fun l => iblk m c 2 t (ix2 r l))
          (fun l => iblk m c 3 t (ix2 r l)) j * Ideal.ofBits .f32 0x3F800000#32 := by
  unfold prod outsAt0
  frame_out
  canon_tiles x h
  all_goals open_payloads
  all_goals refine strip_bf16 _ _ _ _ _ x _ r j h0 ?_ (by decide)
  all_goals first | exact h1 | exact h1.trans (Nat.zero_add _).symm

/-- The lane of the rotation on a point's product is the rotary embedding of the row. -/
theorem lane_apply (c : Dev nD) (t : Fin cfg0.N) (r : Fin 32) (j : Fin 1024) :
    lane (fun j => prod m c t (ix2 r j)) (fun l => iblk m c 2 t (ix2 r l)) (fun l => iblk m c 3 t (ix2 r l)) j
      = rope 64 (fun n => row (h m c) (w m c) r (3072 + n)) (angle 0x42800000#32 8192#32) j.val := by
  unfold lane
  beta_reduce
  rw [prod_apply, prod_apply, cos_at, sin_at]
  dsimp only
  have e1 : j.val % 128 % 64 = j.val % 64 := by omega
  have e2 : (8192#32) = (8192#32) := rfl
  rw [e1, e2]
  exact rope_lane64 (fun n => row (h m c) (w m c) r (3072 + n)) _ j.val _ rfl

/-- The result of window 4 at row `R`, column `j`. -/
def Out4 (c : Dev nD) : Buf (Elt Ideal) ((c.tc : Thread nD τ).loc main_v28_0) := fun i =>
  rope 64 (fun n => row (h m c) (w m c) (i 0) (3072 + n)) (angle 0x42800000#32 8192#32) (i 1).val

theorem arr4 (c : Dev nD) : (dats m 0 c).arrAt 4 cfg0.N = Out4 m c := by
  refine (dats m 0 c).arrAt_eq_of_covers 4 _ (by decide +kernel) fun t hf y => ?_
  blk_simp
  rw [after0_4]
  obtain ⟨e0, e1⟩ := idx4 t
  idx_vars y
  refine (out4_at m c t y0 y1).trans ((lane_apply m c t y0 y1).trans ?_)
  refine congrArg₂ (fun (R : Fin 32) (n : ℕ) => rope 64 (fun n => row (h m c) (w m c) R (3072 + n)) (angle 0x42800000#32 8192#32) n) (Fin.ext ?_) ?_
  · show y0.val = win0_4.index t (0 : Fin 2) * 32 + 1 * y0.val; rw [e0]; omega
  · show y1.val = win0_4.index t (1 : Fin 2) * 1024 + 1 * y1.val; rw [e1]; omega

/-- The result of window 5 at row `R`, column `j`. -/
def Out5 (c : Dev nD) : Buf (Elt Ideal) ((c.tc : Thread nD τ).loc main_v28_1) := fun i =>
  rope 64 (fun n => row (h m c) (w m c) (i 0) (3072 + n)) (angle 0x42800000#32 8192#32) (i 1).val

theorem arr5 (c : Dev nD) : (dats m 0 c).arrAt 5 cfg0.N = Out5 m c := by
  refine (dats m 0 c).arrAt_eq_of_covers 5 _ (by decide +kernel) fun t hf y => ?_
  blk_simp
  rw [after0_5]
  obtain ⟨e0, e1⟩ := idx5 t
  idx_vars y
  refine (out5_at m c t y0 y1).trans ((congrArg (· * _) (lane_apply m c t y0 y1)).trans ((congrArg (_ * ·) Ideal.ofBits_one_f32).trans ((mul_one _).trans ?_)))
  refine congrArg₂ (fun (R : Fin 32) (n : ℕ) => rope 64 (fun n => row (h m c) (w m c) R (3072 + n)) (angle 0x42800000#32 8192#32) n) (Fin.ext ?_) ?_
  · show y0.val = win0_5.index t (0 : Fin 2) * 32 + 1 * y0.val; rw [e0]; omega
  · show y1.val = win0_5.index t (1 : Fin 2) * 1024 + 1 * y1.val; rw [e1]; omega

end Cert.Kernel12Ideal.K

end
-- ==== Proof.KSampleReference.lean ====
/-
  The reference's sample keys read at an index.
-/
module

public import proofs.«01_k».proof.Proof.ProjSpec
public import proofs.«01_k».proof.Proof.Gen.Reference12Ideal.Read

@[expose] public section

set_option maxRecDepth 16384

noncomputable section

namespace Cert.Reference12Ideal.K

open Cert.Reference12Ideal Cert.Reference12Ideal.Gen Cert.Reference12Ideal.Read Cert.ProjSpec
open Idealize.ShloMosaic Idealize.ShloMosaic.TcCoe Idealize.SL.Sem

variable (a0 : (⟨S32x1x2048, .f32⟩ : BufTy).Contents (Elt Ideal)) (a1 : (⟨S1x2048x6224, .f32⟩ : BufTy).Contents (Elt Ideal))

/-- The rotary angles. -/
theorem ang_apply (p : Fin 1) (i : Fin 64) : val_main_v24 (F := Ideal) (ix2 p i) = angle 0x42800000#32 8192#32 i.val := by
  obtain rfl : p = 0 := Subsingleton.elim _ _
  pointwise [val_main_v24, val_main_v23, val_main_v22, val_main_v21, val_main_v20, val_main_v19, val_main_v18, val_main_v17, val_main_v16, val_main_v15, val_main_v14, val_main_v13, val_main_v12, val_main_v11, val_main_cst, val_main_cst_0, val_main_c, angle]
  rfl

/-- A row's feature `n` of the segment. -/
def feat (b : Fin 32) (p : Fin 1) (n : ℕ) : EReal := ∑ d : Fin 2048, a0 (ix3 b p d) * a1 (ix3 0 d (Fin.ofNat 6224 (3072 + n)))

theorem heads_apply (b : Fin 32) (p : Fin 1) (g : Fin 8) (l : Fin 128) :
    val_main_v10 (F := Ideal) a0 a1 (ix4 b p g l) = feat a0 a1 b p (g.val * 128 + l.val) := by
  obtain rfl : p = 0 := Subsingleton.elim _ _
  unfold val_main_v10 feat
  refine (shapeCast_apply _ shapeCasts_S32x1x1024_S32x1x8x128 _ (ix3 b 0 ⟨g.val * 128 + l.val, by omega⟩) ?_).trans ?_
  · rw [Shape.rowMajor_val_three, Shape.rowMajor_val_four]
    show (b.val * 1 + 0) * 1024 + (g.val * 128 + l.val) = ((b.val * 1 + 0) * 8 + g.val) * 128 + l.val
    omega
  · refine (show _ = ∑ d : Fin 2048, a0 (ix3 b 0 d) * a1 (ix3 0 d ⟨3072 + (g.val * 128 + l.val), by omega⟩) from by
      pointwise [val_main_v5, val_main_v1, val_main_v0]).trans ?_
    refine Finset.sum_congr rfl fun d _ => congrArg (fun n => a0 (ix3 b 0 d) * a1 (ix3 0 d n)) (Fin.ext ?_)
    exact (Nat.mod_eq_of_lt (show 3072 + (g.val * 128 + l.val) < 6224 by omega)).symm

theorem rope_apply (b : Fin 32) (p : Fin 1) (g : Fin 8) (l : Fin 128) :
    val_main_v41 (F := Ideal) a0 a1 (ix4 b p g l) = rope 64 (feat a0 a1 b p) (angle 0x42800000#32 8192#32) (g.val * 128 + l.val) := by
  obtain rfl : p = 0 := Subsingleton.elim _ _
  have hy := heads_apply a0 a1 b 0 g
  unfold val_main_v41 val_main_v40 val_main_v39 val_main_v37 val_main_v35 val_main_v34 val_main_v32 val_main_v30 val_main_v29
  generalize val_main_v10 (F := Ideal) a0 a1 = y at hy ⊢
  refine (show _ = (if hl : l.val < 64 then
      y (ix4 b 0 g ⟨l.val, by omega⟩) * Ideal.cos (val_main_v24 (F := Ideal) (ix2 0 ⟨l.val, hl⟩))
        - y (ix4 b 0 g ⟨64 + l.val, by omega⟩) * Ideal.sin (val_main_v24 (F := Ideal) (ix2 0 ⟨l.val, hl⟩))
    else y (ix4 b 0 g ⟨64 + (l.val - 64), by omega⟩) * Ideal.cos (val_main_v24 (F := Ideal) (ix2 0 ⟨l.val - 64, by omega⟩))
        + y (ix4 b 0 g ⟨l.val - 64, by omega⟩) * Ideal.sin (val_main_v24 (F := Ideal) (ix2 0 ⟨l.val - 64, by omega⟩)))
    from by pointwise [val_main_v38, val_main_v36, val_main_v33, val_main_v31, val_main_v28, val_main_v27, val_main_v26, val_main_v25]).trans ?_
  have hb := l.isLt
  unfold rope
  have e1 : (g.val * 128 + l.val) % (2 * 64) = l.val := by omega
  by_cases hl : l.val < 64
  · have e2 : (g.val * 128 + l.val) % 64 = l.val := by omega
    rw [dif_pos hl, if_pos (by omega), hy, hy, ang_apply, e2]
    dsimp only
    rw [show g.val * 128 + (64 + l.val) = g.val * 128 + l.val + 64 by omega]
  · have e2 : (g.val * 128 + l.val) % 64 = l.val - 64 := by omega
    rw [dif_neg hl, if_neg (by omega), hy, hy, ang_apply, e2]
    dsimp only
    rw [show g.val * 128 + (64 + (l.val - 64)) = g.val * 128 + l.val by omega,
      show g.val * 128 + (l.val - 64) = g.val * 128 + l.val - 64 by omega]

/-- The result at row `R`, column `j`. -/
theorem ref_apply (R : Fin 32) (j : Fin 1024) :
    val_main_v42 (F := Ideal) a0 a1 (ix2 R j)
      = rope 64 (fun n => row (fun R d => a0 (ix3 R 0 d)) (fun d n => a1 (ix3 0 d (Fin.ofNat 6224 n))) R (3072 + n))
          (angle 0x42800000#32 8192#32) j.val := by
  unfold val_main_v42
  refine (shapeCast_apply _ shapeCasts_S32x1x8x128_S32x1024 _ (ix4 R 0 ⟨j.val / 128, by omega⟩ ⟨j.val % 128, by omega⟩) ?_).trans ?_
  · rw [Shape.rowMajor_val_four, Shape.rowMajor_val_two]
    show ((R.val * 1 + 0) * 8 + j.val / 128) * 128 + j.val % 128 = R.val * 1024 + j.val
    omega
  · refine (rope_apply ..).trans ?_
    show rope 64 _ _ (j.val / 128 * 128 + j.val % 128) = _
    rw [show j.val / 128 * 128 + j.val % 128 = j.val by omega]
    rfl

theorem narrow_apply (R : Fin 32) (j : Fin 1024) : val_main_v43 (F := Ideal) a0 a1 (ix2 R j) = val_main_v42 (F := Ideal) a0 a1 (ix2 R j) := by
  unfold val_main_v43
  rfl

end Cert.Reference12Ideal.K

end
-- ==== Proof.VPromptKernel.lean ====
/-
  The prompt's values (the input projection) read at an index. The grid runs over 16 tiles of 512 rows; the first stores the transposed weights in
  scratch, and the others find them there. Every tile is written in strips of 128 lanes.
-/
module

public import proofs.«01_k».proof.Proof.ProjSpec
public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

namespace Cert.Kernel5Ideal.V

open Cert.Kernel5Ideal Cert.Kernel5Ideal.Gen Cert.Kernel5Ideal.Value Cert.ProjSpec
open Idealize.ShloMosaic Idealize.ShloMosaic.TcCoe Idealize.SL.Sem

variable (m : (ℓ : Loc nD τ sig) → Buf (Elt Ideal) ℓ)

/-- The normalised rows, row `R` being position `R % 4096` of batch `R / 4096`. -/
def h (c : Dev nD) (R : Fin 8192) (d : Fin 2048) : EReal :=
  m ((c.tc : Thread nD τ).loc main_arg0) (ix3 ⟨R.val / 4096, by omega⟩ ⟨R.val % 4096, by omega⟩ d)
/-- The input projection's columns. -/
def w (c : Dev nD) (d : Fin 2048) (n : ℕ) : EReal := m ((c.tc : Thread nD τ).loc main_arg1) (ix3 0 d (Fin.ofNat 6224 n))

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = 4 ∧ win0_1.index t (1 : Fin 2) = 0 :=
  (by decide +kernel : ∀ t : Fin grid0.N, _)
theorem idx4 : ∀ t : Fin cfg0.N, win0_4.index t (0 : Fin 2) = t.val % 16 ∧ win0_4.index t (1 : Fin 2) = 0 :=
  (by decide +kernel : ∀ t : Fin grid0.N, _)

/-- One strip of 128 lanes as the kernel writes it. -/
theorem strip (P : FVec Ideal S512x1024 .f32) (o : ℕ) (hs : S512x1024.Slices ![0, o] S512x128)
    (x : S512x128.Idx) (r : Fin 512) (j : Fin 1024) (h0 : r.val = (x 0).val) (h1 : j.val = o + (x 1).val) :
    extractStridedSlice S512x128 ![0, o] P hs x = P (ix2 r j) := by
  idx_vars x
  have hb := j.isLt
  have e0 : r = x0 := Fin.ext h0
  have e1 : j.val = o + x1.val := h1
  subst e0
  refine (show _ = P (ix2 r ⟨o + x1.val, by omega⟩) from by pointwise []).trans (congrArg P (congrArg _ (Fin.ext ?_)))
  show o + x1.val = j.val
  omega

/-- The same strip turned and stored in the narrow format. -/
theorem strip_t (P : FVec Ideal S512x1024 .f32) (o : ℕ) (hs : S512x1024.Slices ![0, o] S512x128)
    (x : S1x128x512.Idx) (r : Fin 512) (j : Fin 1024) (h2 : r.val = (x 2).val) (h1 : j.val = o + (x 1).val) :
    shapeCast S1x128x512 (truncf .bf16 (transpose S128x512 [1, 0] (extractStridedSlice S512x128 ![0, o] P hs)
      transposes_S512x128_p1_0_S128x512) bitsLt_bf16_f32) shapeCasts_S128x512_S1x128x512 x = P (ix2 r j) := by
  idx_vars x
  have hb := j.isLt
  have e0 : r = x2 := Fin.ext h2
  have e1 : j.val = o + x1.val := h1
  subst e0
  refine (show _ = P (ix2 r ⟨o + x1.val, by omega⟩) from by pointwise []).trans (congrArg P (congrArg _ (Fin.ext ?_)))
  show o + x1.val = j.val
  omega

theorem blk0 (c : Dev nD) (t : Fin cfg0.N) (r : Fin 512) (d : Fin 2048) : iblk m c 0 t (ix2 r d) = h m c ⟨t.val % 16 * 512 + r.val, by omega⟩ d := by
  obtain ⟨e0, e1⟩ := idx0 t
  blk_simp [iblk]
  entry_read
  refine shapeCast_apply _ shapeCasts_S2x4096x2048_S8192x2048 _ (ix3 ⟨(t.val % 16 * 512 + r.val) / 4096, by omega⟩ ⟨(t.val % 16 * 512 + r.val) % 4096, by omega⟩ d) ?_
  rw [Shape.rowMajor_val_three, Shape.rowMajor_val_two]
  show ((t.val % 16 * 512 + r.val) / 4096 * 4096 + (t.val % 16 * 512 + r.val) % 4096) * 2048 + d.val
    = (win0_0.index t (0 : Fin 2) * 512 + 1 * r.val) * 2048 + (win0_0.index t (1 : Fin 2) * 2048 + 1 * d.val)
  rw [e0, e1]; omega

theorem blkW (c : Dev nD) (t : Fin cfg0.N) (k : Fin 1024) (d : Fin 2048) : X0_1 m c t (ix2 k d) = w m c d (4096 + k.val) := by
  obtain ⟨e0, e1⟩ := idx1 t
  unfold X0_1 Pipeline.Window.fill
  rw [dif_pos (moved0_1 t _)]
  blk_simp [iblk]
  entry_read
  refine (transpose_apply _ _ transposes_S2048x6224_S6224x2048_1_0 _ (ix2 d ⟨4096 + k.val, by omega⟩) ?_).trans ?_
  · intro a
    match a with
    | ⟨0, _⟩ => show 4096 + k.val = win0_1.index t (0 : Fin 2) * 1024 + 1 * k.val; rw [e0]; omega
    | ⟨1, _⟩ => show d.val = win0_1.index t (1 : Fin 2) * 2048 + 1 * d.val; rw [e1]; omega
  · refine (shapeCast_apply _ shapeCasts_S1x2048x6224_S2048x6224 _ (ix3 0 d ⟨4096 + k.val, by omega⟩) ?_).trans ?_
    · rw [Shape.rowMajor_val_three, Shape.rowMajor_val_two]
      show (0 * 2048 + d.val) * 6224 + (4096 + k.val) = d.val * 6224 + (4096 + k.val)
      omega
    · exact congrArg (fun i => m ((c.tc : Thread nD τ).loc main_arg1) (ix3 0 d i))
        (Fin.ext (Nat.mod_eq_of_lt (show 4096 + k.val < 6224 by omega)).symm)

theorem payW_apply (x : Vec Ideal S1024x2048 .f32) (d : Fin 2048) (k : Fin 1024) : k0_pay2 x (ix2 d k) = x (ix2 k d) := by
  pointwise [k0_pay2]

theorem payM_apply (x : Vec Ideal S512x2048 .bf16) (y : Vec Ideal S2048x1024 .bf16) (r : Fin 512) (k : Fin 1024) :
    k0_pay3 x y (ix2 r k) = ∑ d : Fin 2048, x (ix2 r d) * y (ix2 d k) := by
  pointwise [k0_pay3]

/-! ## What each point leaves -/

theorem first_w (c : Dev nD) (t : Fin cfg0.N) (h0 : t.val % 16 = 0) : (outsAt0 m c t.val t.isLt).2.2 = k0_pay2 (X0_1 m c t) := by
  rw [outsAt0_A m c t h0]
  frame_out

theorem next_w (c : Dev nD) (t : Fin cfg0.N) (h0 : ¬t.val % 16 = 0) :
    (outsAt0 m c t.val t.isLt).2.2 = (outsAt0 m c (t.val - 1) (Nat.lt_of_le_of_lt (Nat.sub_le _ _) t.isLt)).2.2 := by
  rw [outsAt0_B m c t h0]
  rfl

/-- Every point holds the transposed weights in the scratch: the first stores them, the others find them. -/
theorem held (c : Dev nD) : ∀ (n : ℕ) (hn : n < cfg0.N) (d : Fin 2048) (k : Fin 1024),
    (outsAt0 m c n hn).2.2 (ix2 d k) = w m c d (4096 + k.val) := by
  intro n
  induction n with
  | zero => exact fun hn d k => (congrFun (first_w m c ⟨0, hn⟩ rfl) _).trans ((payW_apply ..).trans (blkW ..))
  | succ n ih =>
    intro hn d k
    by_cases h0 : (n + 1) % 16 = 0
    · exact (congrFun (first_w m c ⟨n + 1, hn⟩ h0) _).trans ((payW_apply ..).trans (blkW ..))
    · exact (congrFun (next_w m c ⟨n + 1, hn⟩ h0) _).trans (ih (Nat.lt_of_succ_lt hn) d k)

/-- The product a point forms: its rows with the segment's columns. -/
def prod (c : Dev nD) (t : Fin cfg0.N) : FVec Ideal S512x1024 .f32 := k0_pay3 (iblk m c 0 t) (outsAt0 m c t.val t.isLt).2.2

theorem prod_apply (c : Dev nD) (t : Fin cfg0.N) (r : Fin 512) (j : Fin 1024) :
    prod m c t (ix2 r j) = row (h m c) (w m c) ⟨t.val % 16 * 512 + r.val, by omega⟩ (4096 + j.val) := by
  unfold prod
  rw [payM_apply]
  exact Finset.sum_congr rfl fun d _ => congrArg₂ (· * ·) (blk0 m c t r d) (held m c t.val t.isLt d j)

theorem out4_at (c : Dev nD) (t : Fin cfg0.N) (r : Fin 512) (j : Fin 1024) :
    (outsAt0 m c t.val t.isLt).1 (ix2 r j) = prod m c t (ix2 r j) := by
  unfold prod
  by_cases h0 : t.val % 16 = 0
  · rw [first_w m c t h0, outsAt0_A m c t h0]
    frame_out
    canon_tiles x h
    all_goals open_payloads
    all_goals refine strip _ _ _ x r j h0 ?_
    all_goals first | exact h1 | exact h1.trans (Nat.zero_add _).symm
  · rw [next_w m c t h0, outsAt0_B m c t h0]
    frame_out
    simp only [read_unread_whole]
    canon_tiles x h
    all_goals open_payloads
    all_goals refine strip _ _ _ x r j h0 ?_
    all_goals first | exact h1 | exact h1.trans (Nat.zero_add _).symm

theorem out5_at (c : Dev nD) (t : Fin cfg0.N) (r : Fin 512) (j : Fin 1024) :
    (outsAt0 m c t.val t.isLt).2.1 (ix3 0 j r) = prod m c t (ix2 r j) := by
  unfold prod
  by_cases h0 : t.val % 16 = 0
  · rw [first_w m c t h0, outsAt0_A m c t h0]
    frame_out
    canon_tiles x h
    all_goals open_payloads
    all_goals refine strip_t _ _ _ x r j h2 ?_
    all_goals first | exact h1 | exact h1.trans (Nat.zero_add _).symm
  · rw [next_w m c t h0, outsAt0_B m c t h0]
    frame_out
    simp only [read_unread_whole]
    canon_tiles x h
    all_goals open_payloads
    all_goals refine strip_t _ _ _ x r j h2 ?_
    all_goals first | exact h1 | exact h1.trans (Nat.zero_add _).symm

/-- The result at row `R`, column `j`. -/
def Out4 (c : Dev nD) : Buf (Elt Ideal) ((c.tc : Thread nD τ).loc main_v28_0) := fun i =>
  row (h m c) (w m c) (i 0) (4096 + (i 1).val)

theorem arr4 (c : Dev nD) : (dats m 0 c).arrAt 4 cfg0.N = Out4 m c := by
  refine (dats m 0 c).arrAt_eq_of_covers 4 _ (by decide +kernel) fun t hf y => ?_
  blk_simp
  rw [after0_4]
  obtain ⟨e0, e1⟩ := idx4 t
  idx_vars y
  refine (out4_at m c t y0 y1).trans ((prod_apply m c t y0 y1).trans ?_)
  refine congrArg₂ (fun (R : Fin 8192) (n : ℕ) => row (h m c) (w m c) R (4096 + n)) (Fin.ext ?_) ?_
  · show t.val % 16 * 512 + y0.val = win0_4.index t (0 : Fin 2) * 512 + 1 * y0.val; rw [e0]; omega
  · show y1.val = win0_4.index t (1 : Fin 2) * 1024 + 1 * y1.val; rw [e1]; omega

theorem idx5 : ∀ t : Fin cfg0.N, win0_5.index t (0 : Fin 3) = t.val / 8 ∧ win0_5.index t (1 : Fin 3) = 0 ∧ win0_5.index t (2 : Fin 3) = t.val % 8 :=
  (by decide +kernel : ∀ t : Fin grid0.N, _)

/-- The turned result: batch, feature, position. -/
def Out5 (c : Dev nD) : Buf (Elt Ideal) ((c.tc : Thread nD τ).loc main_v28_1) := fun i =>
  row (h m c) (w m c) ⟨(i 0).val * 4096 + (i 2).val, by have h0 : (i 0).val < 2 := (i 0).isLt; have h2 : (i 2).val < 4096 := (i 2).isLt; omega⟩
    (4096 + (i 1).val)

theorem arr5 (c : Dev nD) : (dats m 0 c).arrAt 5 cfg0.N = Out5 m c := by
  refine (dats m 0 c).arrAt_eq_of_covers 5 _ (by decide +kernel) fun t hf y => ?_
  blk_simp
  rw [after0_5]
  obtain ⟨e0, e1, e2⟩ := idx5 t
  have hN := lt_of_lt_of_eq t.isLt N_0
  idx_vars y
  obtain rfl : y0 = 0 := Subsingleton.elim _ _
  refine (out5_at m c t y2 y1).trans ((prod_apply m c t y2 y1).trans ?_)
  refine congrArg₂ (fun (R : Fin 8192) (n : ℕ) => row (h m c) (w m c) R (4096 + n)) (Fin.ext ?_) ?_
  · show t.val % 16 * 512 + y2.val = (win0_5.index t (0 : Fin 3) * 1 + 1 * 0) * 4096 + (win0_5.index t (2 : Fin 3) * 512 + 1 * y2.val)
    rw [e0, e2]; omega
  · show y1.val = win0_5.index t (1 : Fin 3) * 1024 + 1 * y1.val; rw [e1]; omega

end Cert.Kernel5Ideal.V

end
-- ==== Proof.VPromptReference.lean ====
/-
  The reference's prompt values read at an index.
-/
module

public import proofs.«01_k».proof.Proof.ProjSpec
public import proofs.«01_k».proof.Proof.Gen.Reference5Ideal.Read

@[expose] public section

set_option maxRecDepth 16384

noncomputable section

namespace Cert.Reference5Ideal.V

open Cert.Reference5Ideal Cert.Reference5Ideal.Gen Cert.Reference5Ideal.Read Cert.ProjSpec
open Idealize.ShloMosaic Idealize.ShloMosaic.TcCoe Idealize.SL.Sem

variable (a0 : (⟨S2x4096x2048, .f32⟩ : BufTy).Contents (Elt Ideal)) (a1 : (⟨S1x2048x6224, .f32⟩ : BufTy).Contents (Elt Ideal))

/-- The values at a position. -/
theorem v6_apply (b : Fin 2) (p : Fin 4096) (j : Fin 1024) :
    val_main_v6 (F := Ideal) a0 a1 (ix3 b p j) = ∑ d : Fin 2048, a0 (ix3 b p d) * a1 (ix3 0 d (Fin.ofNat 6224 (4096 + j.val))) := by
  refine (show _ = ∑ d : Fin 2048, a0 (ix3 b p d) * a1 (ix3 0 d ⟨4096 + j.val, by omega⟩) from by
    pointwise [val_main_v6, val_main_v1, val_main_v0]).trans ?_
  refine Finset.sum_congr rfl fun d _ => congrArg (fun n => a0 (ix3 b p d) * a1 (ix3 0 d n)) (Fin.ext ?_)
  exact (Nat.mod_eq_of_lt (show 4096 + j.val < 6224 by omega)).symm

/-- The result at row `R`, column `j`. -/
theorem ref_apply (R : Fin 8192) (j : Fin 1024) :
    val_main_v10 (F := Ideal) a0 a1 (ix2 R j)
      = row (fun R d => a0 (ix3 ⟨R.val / 4096, by omega⟩ ⟨R.val % 4096, by omega⟩ d)) (fun d n => a1 (ix3 0 d (Fin.ofNat 6224 n))) R (4096 + j.val) := by
  unfold val_main_v10
  refine (shapeCast_apply _ shapeCasts_S2x4096x1024_S8192x1024 _ (ix3 ⟨R.val / 4096, by omega⟩ ⟨R.val % 4096, by omega⟩ j) ?_).trans ?_
  · rw [Shape.rowMajor_val_three, Shape.rowMajor_val_two]
    show (R.val / 4096 * 4096 + R.val % 4096) * 1024 + j.val = R.val * 1024 + j.val
    omega
  · exact v6_apply ..

/-- The turned result. -/
theorem turned_apply (b : Fin 2) (j : Fin 1024) (p : Fin 4096) :
    val_main_v12 (F := Ideal) a0 a1 (ix3 b j p)
      = row (fun R d => a0 (ix3 ⟨R.val / 4096, by omega⟩ ⟨R.val % 4096, by omega⟩ d)) (fun d n => a1 (ix3 0 d (Fin.ofNat 6224 n)))
          (⟨b.val * 4096 + p.val, by omega⟩ : Fin 8192) (4096 + j.val) := by
  refine (show _ = val_main_v6 (F := Ideal) a0 a1 (ix3 b p j) from by
    unfold val_main_v12 val_main_v11; generalize val_main_v6 (F := Ideal) a0 a1 = y; pointwise []).trans ?_
  rw [v6_apply]
  refine Finset.sum_congr rfl fun d _ => congrArg₂ (· * ·) (congrArg a0 (congrArg₂ (fun x y => ix3 x y d) (Fin.ext ?_) (Fin.ext ?_))) rfl
  · show b.val = (b.val * 4096 + p.val) / 4096; omega
  · show p.val = (b.val * 4096 + p.val) % 4096; omega

end Cert.Reference5Ideal.V

end
-- ==== Proof.VSampleKernel.lean ====
/-
  The samples' values (the input projection) read at an index. One point of the grid holds the 32 rows. Every tile is written in strips of 128 lanes.
-/
module

public import proofs.«01_k».proof.Proof.ProjSpec
public import proofs.«01_k».proof.Proof.Gen.Kernel13Ideal.Value
public import Idealize.ShloMosaic.Lib.Pipeline.ValueKit
public import Idealize.ShloMosaic.Lib.Pipeline.ReadBack

@[expose] public section

set_option maxRecDepth 16384

noncomputable section

namespace Cert.Kernel13Ideal.V

open Cert.Kernel13Ideal Cert.Kernel13Ideal.Gen Cert.Kernel13Ideal.Value Cert.ProjSpec
open Idealize.ShloMosaic Idealize.ShloMosaic.TcCoe Idealize.SL.Sem

variable (m : (ℓ : Loc nD τ sig) → Buf (Elt Ideal) ℓ)

/-- The normalised rows, one per sequence. -/
def h (c : Dev nD) (R : Fin 32) (d : Fin 2048) : EReal := m ((c.tc : Thread nD τ).loc main_arg0) (ix3 R 0 d)
/-- The input projection's columns. -/
def w (c : Dev nD) (d : Fin 2048) (n : ℕ) : EReal := m ((c.tc : Thread nD τ).loc main_arg1) (ix3 0 d (Fin.ofNat 6224 n))

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 4 ∧ win0_1.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

/-- One strip of 128 lanes as the kernel writes it. -/
theorem strip (P : FVec Ideal S32x1024 .f32) (o : ℕ) (hs : S32x1024.Slices ![0, o] S32x128)
    (x : S32x128.Idx) (r : Fin 32) (j : Fin 1024) (h0 : r.val = (x 0).val) (h1 : j.val = o + (x 1).val) :
    extractStridedSlice S32x128 ![0, o] P hs x = P (ix2 r j) := by
  idx_vars x
  have hb := j.isLt
  have e0 : r = x0 := Fin.ext h0
  have e1 : j.val = o + x1.val := h1
  subst e0
  refine (show _ = P (ix2 r ⟨o + x1.val, by omega⟩) from by pointwise []).trans (congrArg P (congrArg _ (Fin.ext ?_)))
  show o + x1.val = j.val
  omega

theorem blk0 (c : Dev nD) (t : Fin cfg0.N) (r : Fin 32) (d : Fin 2048) : iblk m c 0 t (ix2 r d) = h m c r d := by
  obtain ⟨e0, e1⟩ := idx0 t
  blk_simp [iblk]
  entry_read
  refine shapeCast_apply _ shapeCasts_S32x1x2048_S32x2048 _ (ix3 r 0 d) ?_
  rw [Shape.rowMajor_val_three, Shape.rowMajor_val_two]
  show (r.val * 1 + 0) * 2048 + d.val
    = (win0_0.index t (0 : Fin 2) * 32 + 1 * r.val) * 2048 + (win0_0.index t (1 : Fin 2) * 2048 + 1 * d.val)
  rw [e0, e1]; omega

theorem blkW (c : Dev nD) (t : Fin cfg0.N) (k : Fin 1024) (d : Fin 2048) : X0_1 m c t (ix2 k d) = w m c d (4096 + k.val) := by
  obtain ⟨e0, e1⟩ := idx1 t
  unfold X0_1 Pipeline.Window.fill
  rw [dif_pos (moved0_1 t _)]
  blk_simp [iblk]
  entry_read
  refine (transpose_apply _ _ transposes_S2048x6224_S6224x2048_1_0 _ (ix2 d ⟨4096 + k.val, by omega⟩) ?_).trans ?_
  · intro a
    match a with
    | ⟨0, _⟩ => show 4096 + k.val = win0_1.index t (0 : Fin 2) * 1024 + 1 * k.val; rw [e0]; omega
    | ⟨1, _⟩ => show d.val = win0_1.index t (1 : Fin 2) * 2048 + 1 * d.val; rw [e1]; omega
  · refine (shapeCast_apply _ shapeCasts_S1x2048x6224_S2048x6224 _ (ix3 0 d ⟨4096 + k.val, by omega⟩) ?_).trans ?_
    · rw [Shape.rowMajor_val_three, Shape.rowMajor_val_two]
      show (0 * 2048 + d.val) * 6224 + (4096 + k.val) = d.val * 6224 + (4096 + k.val)
      omega
    · exact congrArg (fun i => m ((c.tc : Thread nD τ).loc main_arg1) (ix3 0 d i))
        (Fin.ext (Nat.mod_eq_of_lt (show 4096 + k.val < 6224 by omega)).symm)

theorem payW_apply (x : Vec Ideal S1024x2048 .f32) (d : Fin 2048) (k : Fin 1024) : k0_pay1 x (ix2 d k) = x (ix2 k d) := by
  pointwise [k0_pay1]

theorem payM_apply (x : Vec Ideal S32x2048 .bf16) (y : Vec Ideal S2048x1024 .bf16) (r : Fin 32) (k : Fin 1024) :
    k0_pay2 x y (ix2 r k) = ∑ d : Fin 2048, x (ix2 r d) * y (ix2 d k) := by
  pointwise [k0_pay2]

/-- The product a point forms: its rows with the segment's columns. -/
def prod (c : Dev nD) (t : Fin cfg0.N) : FVec Ideal S32x1024 .f32 := k0_pay2 (iblk m c 0 t) (k0_pay1 (X0_1 m c t))

theorem prod_apply (c : Dev nD) (t : Fin cfg0.N) (r : Fin 32) (j : Fin 1024) :
    prod m c t (ix2 r j) = row (h m c) (w m c) r (4096 + j.val) := by
  unfold prod
  rw [payM_apply]
  exact Finset.sum_congr rfl fun d _ => congrArg₂ (· * ·) (blk0 m c t r d) ((payW_apply ..).trans (blkW m c t j d))

theorem out4_at (c : Dev nD) (t : Fin cfg0.N) (r : Fin 32) (j : Fin 1024) : outsAt0 m c t (ix2 r j) = prod m c t (ix2 r j) := by
  unfold prod outsAt0
  frame_out
  canon_tiles x h
  all_goals open_payloads
  all_goals refine strip _ _ _ x r j h0 ?_
  all_goals first | exact h1 | exact h1.trans (Nat.zero_add _).symm

/-- The result at row `R`, column `j`. -/
def Out4 (c : Dev nD) : Buf (Elt Ideal) ((c.tc : Thread nD τ).loc main_v28) := fun i =>
  row (h m c) (w m c) (i 0) (4096 + (i 1).val)

theorem arr4 (c : Dev nD) : (dats m 0 c).arrAt 4 cfg0.N = Out4 m c := by
  refine (dats m 0 c).arrAt_eq_of_covers 4 _ (by decide +kernel) fun t hf y => ?_
  blk_simp
  rw [after0_4]
  obtain ⟨e0, e1⟩ := idx4 t
  idx_vars y
  refine (out4_at m c t y0 y1).trans ((prod_apply m c t y0 y1).trans ?_)
  refine congrArg₂ (fun (R : Fin 32) (n : ℕ) => row (h m c) (w m c) R (4096 + n)) (Fin.ext ?_) ?_
  · show y0.val = win0_4.index t (0 : Fin 2) * 32 + 1 * y0.val; rw [e0]; omega
  · show y1.val = win0_4.index t (1 : Fin 2) * 1024 + 1 * y1.val; rw [e1]; omega

end Cert.Kernel13Ideal.V

end
-- ==== Proof.VSampleReference.lean ====
/-
  The reference's sample values read at an index.
-/
module

public import proofs.«01_k».proof.Proof.ProjSpec
public import proofs.«01_k».proof.Proof.Gen.Reference13Ideal.Read

@[expose] public section

set_option maxRecDepth 16384

noncomputable section

namespace Cert.Reference13Ideal.V

open Cert.Reference13Ideal Cert.Reference13Ideal.Gen Cert.Reference13Ideal.Read Cert.ProjSpec
open Idealize.ShloMosaic Idealize.ShloMosaic.TcCoe Idealize.SL.Sem

variable (a0 : (⟨S32x1x2048, .f32⟩ : BufTy).Contents (Elt Ideal)) (a1 : (⟨S1x2048x6224, .f32⟩ : BufTy).Contents (Elt Ideal))

/-- The values at a position. -/
theorem v6_apply (b : Fin 32) (p : Fin 1) (j : Fin 1024) :
    val_main_v6 (F := Ideal) a0 a1 (ix3 b p j) = ∑ d : Fin 2048, a0 (ix3 b p d) * a1 (ix3 0 d (Fin.ofNat 6224 (4096 + j.val))) := by
  obtain rfl : p = 0 := Subsingleton.elim _ _
  refine (show _ = ∑ d : Fin 2048, a0 (ix3 b 0 d) * a1 (ix3 0 d ⟨4096 + j.val, by omega⟩) from by
    pointwise [val_main_v6, val_main_v1, val_main_v0]).trans ?_
  refine Finset.sum_congr rfl fun d _ => congrArg (fun n => a0 (ix3 b 0 d) * a1 (ix3 0 d n)) (Fin.ext ?_)
  exact (Nat.mod_eq_of_lt (show 4096 + j.val < 6224 by omega)).symm

/-- The result at row `R`, column `j`. -/
theorem ref_apply (R : Fin 32) (j : Fin 1024) :
    val_main_v10 (F := Ideal) a0 a1 (ix2 R j)
      = row (fun R d => a0 (ix3 R 0 d)) (fun d n => a1 (ix3 0 d (Fin.ofNat 6224 n))) R (4096 + j.val) := by
  unfold val_main_v10
  refine (shapeCast_apply _ shapeCasts_S32x1x1024_S32x1024 _ (ix3 R 0 j) ?_).trans ?_
  · rw [Shape.rowMajor_val_three, Shape.rowMajor_val_two]
    show (R.val * 1 + 0) * 1024 + j.val = R.val * 1024 + j.val
    omega
  · exact v6_apply ..

end Cert.Reference13Ideal.V

end
-- ==== Proof.KiwiPromptKernel.lean ====
/-
  The prompt's indexer key and head weights (the input projection's last 80 columns) read at an index. A tile multiplies its rows
  with the columns, padded to 128; the first 64 are rotated into the key, the next 16 scaled into the weights.
-/
module

public import proofs.«01_k».proof.Proof.ProjSpec
public import proofs.«01_k».proof.Proof.Gen.Kernel6Ideal.Value
public import Idealize.ShloMosaic.Lib.Pipeline.ValueKit
public import Idealize.ShloMosaic.Lib.Pipeline.ReadBack
public import Idealize.ShloMosaic.Lib.KernelVsHost

@[expose] public section

set_option maxRecDepth 16384

noncomputable section

namespace Cert.Kernel6Ideal.Kiwi

open Cert.Kernel6Ideal Cert.Kernel6Ideal.Gen Cert.Kernel6Ideal.Value Cert.ProjSpec
open Idealize.ShloMosaic Idealize.ShloMosaic.TcCoe Idealize.SL.Sem

variable (m : (ℓ : Loc nD τ sig) → Buf (Elt Ideal) ℓ)

/-- The normalised rows, row `R` being position `R % 4096` of batch `R / 4096`. -/
def h (c : Dev nD) (R : Fin 8192) (d : Fin 2048) : EReal :=
  m ((c.tc : Thread nD τ).loc main_arg0) (ix3 ⟨R.val / 4096, by omega⟩ ⟨R.val % 4096, by omega⟩ d)
/-- The input projection's columns. -/
def w (c : Dev nD) (d : Fin 2048) (n : ℕ) : EReal := m ((c.tc : Thread nD τ).loc main_arg1) (ix3 0 d (Fin.ofNat 6224 n))

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val % 8 ∧ win0_2.index t (1 : Fin 2) = 0 :=
  (by decide +kernel : ∀ t : Fin grid0.N, _)
theorem idx3 : ∀ t : Fin cfg0.N, win0_3.index t (0 : Fin 2) = t.val % 8 ∧ win0_3.index t (1 : Fin 2) = 0 :=
  (by decide +kernel : ∀ t : Fin grid0.N, _)
theorem idx4 : ∀ t : Fin cfg0.N, win0_4.index t (0 : Fin 2) = t.val % 16 ∧ win0_4.index t (1 : Fin 2) = 0 :=
  (by decide +kernel : ∀ t : Fin grid0.N, _)
theorem idx7 : ∀ t : Fin cfg0.N, win0_7.index t (0 : Fin 2) = t.val % 16 ∧ win0_7.index t (1 : Fin 2) = 0 :=
  (by decide +kernel : ∀ t : Fin grid0.N, _)

/-- The lanes of a strip that lie in the first half of their head of 64, by the remainder of the lane's number. -/
def low : IVec S512x128 1 :=
  let d : BitVec 32 := Scalar.select (Scalar.cmpi .eq 64#32 0#32) 1#32 64#32
  let e : IVec S512x128 32 := remsi (iota .tc S512x128 32 [1] iota_S512x128_d1_w32) (broadcast S512x128 d)
  cmpi .slt (select (andi (xori (cmpi .slt e (broadcast S512x128 0#32))
      (broadcastTo S512x128 (broadcast S512x128 (Scalar.cmpi .slt d 0#32)) broadcasts_S512x128_S512x128))
    (cmpi .ne e (broadcast S512x128 0#32))) (addi e (broadcast S512x128 d)) e) (broadcast S512x128 32#32)

theorem low_apply (r : Fin 512) (l : Fin 128) : low (ix2 r l) = if l.val % 64 < 32 then 1#1 else 0#1 := by
  show low (ix2 0 l) = _
  revert l
  decide +kernel

/-- A table of the rotation at position `p` and lane `l`: two halves side by side, twice. -/
theorem table_apply (a b : FVec Ideal S4096x32 .f32) (p : Fin 4096) (l : Fin 128) :
    shapeCast S4096x128 (broadcastInDim S1x4096x2x64 ![0, 1, 2, 3] bcast_S1x4096x1x64_S1x4096x2x64_0_1_2_3 fun i =>
        shapeCast S1x4096x1x64 (concatenate S4096x64 1 [⟨S4096x32, a⟩, ⟨S4096x32, b⟩] concatenates_S4096x32_S4096x32_S4096x64_d1)
          shapeCasts_S4096x64_S1x4096x1x64 i)
      shapeCasts_S1x4096x2x64_S4096x128 (ix2 p l)
      = if h : l.val % 64 < 32 then a (ix2 p ⟨l.val % 64, h⟩) else b (ix2 p ⟨l.val % 64 - 32, by omega⟩) := by
  refine (shapeCast_apply _ shapeCasts_S1x4096x2x64_S4096x128 _ (ix4 0 p ⟨l.val / 64, by omega⟩ ⟨l.val % 64, by omega⟩) ?_).trans ?_
  · rw [Shape.rowMajor_val_four, Shape.rowMajor_val_two]
    show ((0 * 4096 + p.val) * 2 + l.val / 64) * 64 + l.val % 64 = p.val * 128 + l.val
    omega
  refine (show _ = shapeCast S1x4096x1x64 (concatenate S4096x64 1 [⟨S4096x32, a⟩, ⟨S4096x32, b⟩] concatenates_S4096x32_S4096x32_S4096x64_d1)
          shapeCasts_S4096x64_S1x4096x1x64 (ix4 0 p 0 ⟨l.val % 64, by omega⟩) from by pointwise []).trans ?_
  refine (shapeCast_apply _ shapeCasts_S4096x64_S1x4096x1x64 _ (ix2 p ⟨l.val % 64, by omega⟩) ?_).trans ?_
  · rw [Shape.rowMajor_val_four, Shape.rowMajor_val_two]
    show p.val * 64 + l.val % 64 = ((0 * 4096 + p.val) * 1 + 0) * 64 + l.val % 64
    omega
  pointwise []

theorem cos_at (c : Dev nD) (t : Fin cfg0.N) (r : Fin 512) (l : Fin 128) :
    iblk m c 2 t (ix2 r l)
      = Ideal.cos (angle 0x42000000#32 (BitVec.ofNat 32 (t.val % 8 * 512 + r.val)) (l.val % 32)) := by
  obtain ⟨e0, e1⟩ := idx2 t
  blk_simp [iblk]
  entry_read
  have e : ((View.whole main_v20).slice (win0_2.rect t)).emb (ix2 r l) = ix2 (⟨t.val % 8 * 512 + r.val, by omega⟩ : Fin 4096) l := by
    funext a; apply Fin.ext
    match a with
    | ⟨0, _⟩ => show win0_2.index t (0 : Fin 2) * 512 + 1 * r.val = t.val % 8 * 512 + r.val; rw [e0]; omega
    | ⟨1, _⟩ => show win0_2.index t (1 : Fin 2) * 128 + 1 * l.val = l.val; rw [e1]; omega
  rw [e]
  refine (table_apply _ _ _ l).trans ?_
  by_cases hl : l.val % 64 < 32
  · rw [dif_pos hl, show l.val % 32 = l.val % 64 by omega]
    after_results_simp
    pointwise [angle]
  · rw [dif_neg hl, show l.val % 32 = l.val % 64 - 32 by omega]
    after_results_simp
    pointwise [angle]

theorem sin_at (c : Dev nD) (t : Fin cfg0.N) (r : Fin 512) (l : Fin 128) :
    iblk m c 3 t (ix2 r l)
      = if l.val % 64 < 32 then -Ideal.sin (angle 0x42000000#32 (BitVec.ofNat 32 (t.val % 8 * 512 + r.val)) (l.val % 32))
        else Ideal.sin (angle 0x42000000#32 (BitVec.ofNat 32 (t.val % 8 * 512 + r.val)) (l.val % 32)) := by
  obtain ⟨e0, e1⟩ := idx3 t
  blk_simp [iblk]
  entry_read
  have e : ((View.whole main_v25).slice (win0_3.rect t)).emb (ix2 r l) = ix2 (⟨t.val % 8 * 512 + r.val, by omega⟩ : Fin 4096) l := by
    funext a; apply Fin.ext
    match a with
    | ⟨0, _⟩ => show win0_3.index t (0 : Fin 2) * 512 + 1 * r.val = t.val % 8 * 512 + r.val; rw [e0]; omega
    | ⟨1, _⟩ => show win0_3.index t (1 : Fin 2) * 128 + 1 * l.val = l.val; rw [e1]; omega
  rw [e]
  refine (table_apply _ _ _ l).trans ?_
  by_cases hl : l.val % 64 < 32
  · rw [dif_pos hl, if_pos hl, show l.val % 32 = l.val % 64 by omega]
    after_results_simp
    pointwise [angle]
  · rw [dif_neg hl, if_neg hl, show l.val % 32 = l.val % 64 - 32 by omega]
    after_results_simp
    pointwise [angle]

theorem blk0 (c : Dev nD) (t : Fin cfg0.N) (r : Fin 512) (d : Fin 2048) : iblk m c 0 t (ix2 r d) = h m c ⟨t.val % 16 * 512 + r.val, by omega⟩ d := by
  obtain ⟨e0, e1⟩ := idx0 t
  blk_simp [iblk]
  entry_read
  refine shapeCast_apply _ shapeCasts_S2x4096x2048_S8192x2048 _ (ix3 ⟨(t.val % 16 * 512 + r.val) / 4096, by omega⟩ ⟨(t.val % 16 * 512 + r.val) % 4096, by omega⟩ d) ?_
  rw [Shape.rowMajor_val_three, Shape.rowMajor_val_two]
  show ((t.val % 16 * 512 + r.val) / 4096 * 4096 + (t.val % 16 * 512 + r.val) % 4096) * 2048 + d.val
    = (win0_0.index t (0 : Fin 2) * 512 + 1 * r.val) * 2048 + (win0_0.index t (1 : Fin 2) * 2048 + 1 * d.val)
  rw [e0, e1]; omega

/-- The last 80 columns, turned and padded with rows of a value `v` to 128. -/
theorem padded (c : Dev nD) : ∃ v : (⟨S_, .f32⟩ : BufTy).Contents (Elt Ideal), V m c main_v27
    = pad S128x2048 ![0, 0] ![48, 0] ![0, 0] (extractStridedSlice S80x2048 ![6144, 0] (transpose S6224x2048 [1, 0]
        (shapeCast S2048x6224 (m ((c.tc : Thread nD τ).loc main_arg1)) shapeCasts_S1x2048x6224_S2048x6224) transposes_S2048x6224_S6224x2048_1_0)
        slices_S6224x2048_S80x2048_6144_0) v pads_S80x2048_S128x2048_0480_000 h_S_ := ⟨_, rfl⟩

theorem blkW (c : Dev nD) (t : Fin cfg0.N) (k : Fin 128) (hk : k.val < 80) (d : Fin 2048) :
    iblk m c 1 t (ix2 k d) = w m c d (6144 + k.val) := by
  obtain ⟨e0, e1⟩ := idx1 t
  blk_simp [iblk]
  obtain ⟨v, hv⟩ := padded m c
  rw [hv]
  refine (pad_apply_of_inside ![0, 0] ![48, 0] ![0, 0] _ _ pads_S80x2048_S128x2048_0480_000 h_S_ _ (ix2 (⟨k.val, hk⟩ : Fin 80) d) ?_).trans ?_
  · intro a
    match a with
    | ⟨0, _⟩ => show win0_1.index t (0 : Fin 2) * 128 + 1 * k.val = 0 + k.val * (0 + 1); rw [e0]; omega
    | ⟨1, _⟩ => show win0_1.index t (1 : Fin 2) * 2048 + 1 * d.val = 0 + d.val * (0 + 1); rw [e1]; omega
  refine (extractStridedSlice_apply ![6144, 0] _ _ _ (ix2 (⟨6144 + k.val, by omega⟩ : Fin 6224) d) ?_).trans ?_
  · intro a
    match a with
    | ⟨0, _⟩ => rfl
    | ⟨1, _⟩ => exact (Nat.zero_add _).symm
  refine (transpose_apply _ _ transposes_S2048x6224_S6224x2048_1_0 _ (ix2 d ⟨6144 + k.val, by omega⟩) ?_).trans ?_
  · intro a
    match a with
    | ⟨0, _⟩ => rfl
    | ⟨1, _⟩ => rfl
  · refine (shapeCast_apply _ shapeCasts_S1x2048x6224_S2048x6224 _ (ix3 0 d ⟨6144 + k.val, by omega⟩) ?_).trans ?_
    · rw [Shape.rowMajor_val_three, Shape.rowMajor_val_two]
      show (0 * 2048 + d.val) * 6224 + (6144 + k.val) = d.val * 6224 + (6144 + k.val)
      omega
    · exact congrArg (fun i => m ((c.tc : Thread nD τ).loc main_arg1) (ix3 0 d i))
        (Fin.ext (Nat.mod_eq_of_lt (show 6144 + k.val < 6224 by omega)).symm)

theorem payM_apply (x : Vec Ideal S512x2048 .bf16) (y : Vec Ideal S128x2048 .f32) (r : Fin 512) (k : Fin 128) :
    k0_pay6 x y (ix2 r k) = ∑ d : Fin 2048, x (ix2 r d) * y (ix2 k d) := by
  pointwise [k0_pay6]

/-- A row of a tile with one of the segment's columns. -/
theorem prod_apply (c : Dev nD) (t : Fin cfg0.N) (r : Fin 512) (k : Fin 128) (hk : k.val < 80) :
    k0_pay6 (iblk m c 0 t) (iblk m c 1 t) (ix2 r k) = row (h m c) (w m c) ⟨t.val % 16 * 512 + r.val, by omega⟩ (6144 + k.val) := by
  rw [payM_apply]
  exact Finset.sum_congr rfl fun d _ => congrArg₂ (· * ·) (blk0 m c t r d) (blkW m c t k hk d)

/-- The rotation by the two tables, on the key's lanes. -/
theorem payR_apply (x : Vec Ideal S512x2048 .bf16) (y : Vec Ideal S128x2048 .f32) (C S : Vec Ideal S512x128 .f32) (r : Fin 512) (j : Fin 64) :
    k0_pay7 x y C S (ix2 r ⟨j.val, by omega⟩)
      = k0_pay6 x y (ix2 r ⟨j.val, by omega⟩) * C (ix2 r ⟨j.val, by omega⟩)
        + k0_pay6 x y (ix2 r ⟨if j.val < 32 then j.val + 32 else j.val - 32, by split <;> omega⟩) * S (ix2 r ⟨j.val, by omega⟩) := by
  have hl := low_apply r ⟨j.val, by omega⟩
  refine (show _ = addf (mulf (k0_pay6 x y) (shapeCast S512x128 C shapeCasts_S512x128_S512x128))
    (mulf (select low (dynamicRotate 1 96#32 none (k0_pay6 x y) rotates_S512x128_d1) (dynamicRotate 1 32#32 none (k0_pay6 x y) rotates_S512x128_d1))
      (shapeCast S512x128 S shapeCasts_S512x128_S512x128)) (ix2 r ⟨j.val, by omega⟩) from rfl).trans ?_
  generalize k0_pay6 x y = P
  generalize low = b at hl ⊢
  refine (show _ = P (ix2 r ⟨j.val, by omega⟩) * C (ix2 r ⟨j.val, by omega⟩)
    + Scalar.select (b (ix2 r ⟨j.val, by omega⟩)) (P (ix2 r ⟨(j.val + 128 - 96) % 128, by omega⟩))
        (P (ix2 r ⟨(j.val + 128 - 32) % 128, by omega⟩)) * S (ix2 r ⟨j.val, by omega⟩) from by pointwise []).trans ?_
  rw [hl]
  have hj := j.isLt
  refine congrArg₂ (· + ·) rfl (congrArg₂ (· * ·) ?_ rfl)
  by_cases hx : j.val % 64 < 32
  · rw [if_pos (show (⟨j.val, by omega⟩ : Fin 128).val % 64 < 32 from hx)]
    refine congrArg P (congrArg _ (Fin.ext ?_))
    show (j.val + 128 - 96) % 128 = if j.val < 32 then j.val + 32 else j.val - 32
    rw [if_pos (by omega)]; omega
  · rw [if_neg (show ¬(⟨j.val, by omega⟩ : Fin 128).val % 64 < 32 from hx)]
    refine congrArg P (congrArg _ (Fin.ext ?_))
    show (j.val + 128 - 32) % 128 = if j.val < 32 then j.val + 32 else j.val - 32
    rw [if_neg (by omega)]; omega

theorem payK_apply (x : Vec Ideal S512x2048 .bf16) (y : Vec Ideal S128x2048 .f32) (C S : Vec Ideal S512x128 .f32) (r : Fin 512) (j : Fin 64) :
    k0_pay8 x y C S (ix2 r j) = k0_pay7 x y C S (ix2 r ⟨j.val, by omega⟩) := by
  unfold k0_pay8
  generalize k0_pay7 x y C S = P
  pointwise []

theorem payS_apply (P : FVec Ideal S512x128 .f32) (r : Fin 512) (j : Fin 16) :
    k0_pay4 P (ix2 r j) = P (ix2 r ⟨64 + j.val, by omega⟩) * Ideal.ofBits .f32 0x3D000000#32 := by
  pointwise [k0_pay4]

/-- A tile's key at row `r`, feature `j`. -/
theorem key_at (c : Dev nD) (t : Fin cfg0.N) (r : Fin 512) (j : Fin 64) :
    out0_4 (iblk m c 0 t) (iblk m c 1 t) (iblk m c 2 t) (iblk m c 3 t) (ix2 r j)
      = rope 32 (fun n => row (h m c) (w m c) ⟨t.val % 16 * 512 + r.val, by omega⟩ (6144 + n)) (angle 0x42000000#32 (BitVec.ofNat 32 ((t.val % 16 * 512 + r.val) % 4096))) j.val := by
  frame_out
  rw [payK_apply, payR_apply, prod_apply m c t r _ (by dsimp only; omega), prod_apply m c t r _ (by dsimp only; split <;> omega), cos_at, sin_at]
  have hj := j.isLt
  dsimp only
  have e2 : (BitVec.ofNat 32 (t.val % 8 * 512 + r.val)) = (BitVec.ofNat 32 ((t.val % 16 * 512 + r.val) % 4096)) := congrArg _ (by omega)
  rw [e2]
  refine (congrArg₂ (· + ·) rfl (congrArg₂ (· * ·) (congrArg (fun n => row (h m c) (w m c) ⟨t.val % 16 * 512 + r.val, by omega⟩ (6144 + n)) ?_) rfl)).trans
    (rope_lane32 (fun n => row (h m c) (w m c) ⟨t.val % 16 * 512 + r.val, by omega⟩ (6144 + n)) _ j.val _ rfl)
  by_cases hx : j.val < 32
  · rw [if_pos hx, if_pos (by omega)]; omega
  · rw [if_neg hx, if_neg (by omega)]; omega

/-- A tile's head weights at row `r`, head `j`. -/
theorem weight_at (c : Dev nD) (t : Fin cfg0.N) (r : Fin 512) (j : Fin 16) :
    out0_7 (iblk m c 0 t) (iblk m c 1 t) (iblk m c 2 t) (iblk m c 3 t) (ix2 r j)
      = row (h m c) (w m c) ⟨t.val % 16 * 512 + r.val, by omega⟩ (6208 + j.val) * Ideal.ofBits .f32 0x3D000000#32 := by
  have hj := j.isLt
  frame_out
  have e9 : k0_pay9 (iblk m c 0 t) (iblk m c 1 t) (iblk m c 2 t) (iblk m c 3 t) = k0_pay6 (iblk m c 0 t) (iblk m c 1 t) := by
    unfold k0_pay9
    simp (disch := decide) only [View.ld_unit_lit']
  rw [e9]
  refine (payS_apply _ r j).trans ?_
  rw [prod_apply m c t r _ (by dsimp only; omega)]
  exact congrArg (fun n => row (h m c) (w m c) ⟨t.val % 16 * 512 + r.val, by omega⟩ n * Ideal.ofBits .f32 0x3D000000#32) (show 6144 + (64 + j.val) = 6208 + j.val by omega)

/-- The key at row `R`, feature `j`. -/
def Out4 (c : Dev nD) : Buf (Elt Ideal) ((c.tc : Thread nD τ).loc main_v30_0) := fun i =>
  rope 32 (fun n => row (h m c) (w m c) (i 0) (6144 + n)) (angle 0x42000000#32 (BitVec.ofNat 32 ((i 0).val % 4096))) (i 1).val

theorem arr4 (c : Dev nD) : (dats m 0 c).arrAt 4 cfg0.N = Out4 m c := by
  refine (dats m 0 c).arrAt_eq_of_covers 4 _ (by decide +kernel) fun t hf y => ?_
  blk_simp
  rw [after0_4]
  obtain ⟨e0, e1⟩ := idx4 t
  idx_vars y
  refine (key_at m c t y0 y1).trans ?_
  refine congrArg₂ (fun (R : Fin 8192) (n : ℕ) => rope 32 (fun n => row (h m c) (w m c) R (6144 + n)) (angle 0x42000000#32 (BitVec.ofNat 32 (R.val % 4096))) n) (Fin.ext ?_) ?_
  · show t.val % 16 * 512 + y0.val = win0_4.index t (0 : Fin 2) * 512 + 1 * y0.val; rw [e0]; omega
  · show y1.val = win0_4.index t (1 : Fin 2) * 64 + 1 * y1.val; rw [e1]; omega

/-- The head weights at row `R`, head `j`. -/
def Out7 (c : Dev nD) : Buf (Elt Ideal) ((c.tc : Thread nD τ).loc main_v30_3) := fun i =>
  row (h m c) (w m c) (i 0) (6208 + (i 1).val) * Ideal.ofBits .f32 0x3D000000#32

theorem arr7 (c : Dev nD) : (dats m 0 c).arrAt 7 cfg0.N = Out7 m c := by
  refine (dats m 0 c).arrAt_eq_of_covers 7 _ (by decide +kernel) fun t hf y => ?_
  blk_simp
  rw [after0_7]
  obtain ⟨e0, e1⟩ := idx7 t
  idx_vars y
  refine (weight_at m c t y0 y1).trans ?_
  refine congrArg₂ (fun (R : Fin 8192) (n : ℕ) => row (h m c) (w m c) R (6208 + n) * Ideal.ofBits .f32 0x3D000000#32) (Fin.ext ?_) ?_
  · show t.val % 16 * 512 + y0.val = win0_7.index t (0 : Fin 2) * 512 + 1 * y0.val; rw [e0]; omega
  · show y1.val = win0_7.index t (1 : Fin 2) * 16 + 1 * y1.val; rw [e1]; omega

end Cert.Kernel6Ideal.Kiwi

end
-- ==== Proof.KiwiPromptReference.lean ====
/-
  The reference's prompt indexer key and head weights read at an index.
-/
module

public import proofs.«01_k».proof.Proof.ProjSpec
public import proofs.«01_k».proof.Proof.Gen.Reference6Ideal.Read

@[expose] public section

set_option maxRecDepth 16384

noncomputable section

namespace Cert.Reference6Ideal.Kiwi

open Cert.Reference6Ideal Cert.Reference6Ideal.Gen Cert.Reference6Ideal.Read Cert.ProjSpec
open Idealize.ShloMosaic Idealize.ShloMosaic.TcCoe Idealize.SL.Sem

variable (a0 : (⟨S2x4096x2048, .f32⟩ : BufTy).Contents (Elt Ideal)) (a1 : (⟨S1x2048x6224, .f32⟩ : BufTy).Contents (Elt Ideal))

/-- The rotary angles. -/
theorem ang_apply (p : Fin 4096) (i : Fin 32) : val_main_v23 (F := Ideal) (ix2 p i) = angle 0x42000000#32 (BitVec.ofNat 32 p.val) i.val := by
  pointwise [val_main_v23, val_main_v22, val_main_v21, val_main_v20, val_main_v19, val_main_v18, val_main_v17, val_main_v16, val_main_v15, val_main_v14, val_main_v13, val_main_v12, val_main_v11, val_main_cst, val_main_cst_0, angle]

/-- A row's feature `n` of the segment. -/
def feat (b : Fin 2) (p : Fin 4096) (n : ℕ) : EReal := ∑ d : Fin 2048, a0 (ix3 b p d) * a1 (ix3 0 d (Fin.ofNat 6224 (6144 + n)))

theorem heads_apply (b : Fin 2) (p : Fin 4096) (l : Fin 64) :
    val_main_v10 (F := Ideal) a0 a1 (ix4 b p 0 l) = feat a0 a1 b p (l.val) := by
  unfold feat
  refine (show _ = ∑ d : Fin 2048, a0 (ix3 b p d) * a1 (ix3 0 d ⟨6144 + l.val, by omega⟩) from by
    pointwise [val_main_v10, val_main_v8, val_main_v1, val_main_v0]).trans ?_
  refine Finset.sum_congr rfl fun d _ => congrArg (fun n => a0 (ix3 b p d) * a1 (ix3 0 d n)) (Fin.ext ?_)
  exact (Nat.mod_eq_of_lt (show 6144 + (l.val) < 6224 by omega)).symm

theorem rope_apply (b : Fin 2) (p : Fin 4096) (l : Fin 64) :
    val_main_v40 (F := Ideal) a0 a1 (ix4 b p 0 l) = rope 32 (feat a0 a1 b p) (angle 0x42000000#32 (BitVec.ofNat 32 p.val)) (l.val) := by
  have hy := heads_apply a0 a1 b p
  unfold val_main_v40 val_main_v39 val_main_v38 val_main_v36 val_main_v34 val_main_v33 val_main_v31 val_main_v29 val_main_v28
  generalize val_main_v10 (F := Ideal) a0 a1 = y at hy ⊢
  refine (show _ = (if hl : l.val < 32 then
      y (ix4 b p 0 ⟨l.val, by omega⟩) * Ideal.cos (val_main_v23 (F := Ideal) (ix2 p ⟨l.val, hl⟩))
        - y (ix4 b p 0 ⟨32 + l.val, by omega⟩) * Ideal.sin (val_main_v23 (F := Ideal) (ix2 p ⟨l.val, hl⟩))
    else y (ix4 b p 0 ⟨32 + (l.val - 32), by omega⟩) * Ideal.cos (val_main_v23 (F := Ideal) (ix2 p ⟨l.val - 32, by omega⟩))
        + y (ix4 b p 0 ⟨l.val - 32, by omega⟩) * Ideal.sin (val_main_v23 (F := Ideal) (ix2 p ⟨l.val - 32, by omega⟩)))
    from by pointwise [val_main_v37, val_main_v35, val_main_v32, val_main_v30, val_main_v27, val_main_v26, val_main_v25, val_main_v24]).trans ?_
  have hb := l.isLt
  unfold rope
  have e1 : (l.val) % (2 * 32) = l.val := by omega
  by_cases hl : l.val < 32
  · have e2 : (l.val) % 32 = l.val := by omega
    rw [dif_pos hl, if_pos (by omega), hy, hy, ang_apply, e2]
    dsimp only
    rw [show (32 + l.val) = l.val + 32 by omega]
  · have e2 : (l.val) % 32 = l.val - 32 := by omega
    rw [dif_neg hl, if_neg (by omega), hy, hy, ang_apply, e2]
    dsimp only
    rw [show (32 + (l.val - 32)) = l.val by omega,
      show (l.val - 32) = l.val - 32 by omega]

/-- The key at row `R`, feature `j`. -/
theorem ref_apply (R : Fin 8192) (j : Fin 64) :
    val_main_v44 (F := Ideal) a0 a1 (ix2 R j)
      = rope 32 (fun n => row (fun R d => a0 (ix3 ⟨R.val / 4096, by omega⟩ ⟨R.val % 4096, by omega⟩ d)) (fun d n => a1 (ix3 0 d (Fin.ofNat 6224 n))) R (6144 + n)) (angle 0x42000000#32 (BitVec.ofNat 32 (R.val % 4096))) j.val := by
  unfold val_main_v44
  refine (shapeCast_apply _ shapeCasts_S2x4096x64_S8192x64 _ (ix3 ⟨R.val / 4096, by omega⟩ ⟨R.val % 4096, by omega⟩ j) ?_).trans ?_
  · rw [Shape.rowMajor_val_three, Shape.rowMajor_val_two]
    show (R.val / 4096 * 4096 + R.val % 4096) * 64 + j.val = R.val * 64 + j.val
    omega
  · unfold val_main_v41
    refine (shapeCast_apply _ shapeCasts_S2x4096x1x64_S2x4096x64 _ (ix4 ⟨R.val / 4096, by omega⟩ ⟨R.val % 4096, by omega⟩ 0 j) ?_).trans ?_
    · rw [Shape.rowMajor_val_four, Shape.rowMajor_val_three]
      show ((R.val / 4096 * 4096 + R.val % 4096) * 1 + 0) * 64 + j.val = (R.val / 4096 * 4096 + R.val % 4096) * 64 + j.val
      omega
    · refine (rope_apply ..).trans ?_
      rfl

/-- The head weights at row `R`, head `j`. -/
theorem weight_apply (R : Fin 8192) (j : Fin 16) :
    val_main_v45 (F := Ideal) a0 a1 (ix2 R j)
      = row (fun R d => a0 (ix3 ⟨R.val / 4096, by omega⟩ ⟨R.val % 4096, by omega⟩ d)) (fun d n => a1 (ix3 0 d (Fin.ofNat 6224 n))) R (6208 + j.val) * Ideal.ofBits .f32 0x3D000000#32 := by
  unfold val_main_v45
  refine (shapeCast_apply _ shapeCasts_S2x4096x16_S8192x16 _ (ix3 ⟨R.val / 4096, by omega⟩ ⟨R.val % 4096, by omega⟩ j) ?_).trans ?_
  · rw [Shape.rowMajor_val_three, Shape.rowMajor_val_two]
    show (R.val / 4096 * 4096 + R.val % 4096) * 16 + j.val = R.val * 16 + j.val
    omega
  · refine (show _ = (∑ d : Fin 2048, a0 (ix3 ⟨R.val / 4096, by omega⟩ ⟨R.val % 4096, by omega⟩ d) * a1 (ix3 0 d ⟨6208 + j.val, by omega⟩)) * Ideal.ofBits .f32 0x3D000000#32 from by
      pointwise [val_main_v43, val_main_v42, val_main_v9, val_main_v1, val_main_v0, val_main_cst_1]).trans ?_
    refine congrArg (· * _) (Finset.sum_congr rfl fun d _ => congrArg (fun n => a0 (ix3 ⟨R.val / 4096, by omega⟩ ⟨R.val % 4096, by omega⟩ d) * a1 (ix3 0 d n)) (Fin.ext ?_))
    exact (Nat.mod_eq_of_lt (show 6208 + j.val < 6224 by omega)).symm

end Cert.Reference6Ideal.Kiwi

end
-- ==== Proof.KiwiSampleKernel.lean ====
/-
  The sample's indexer key and head weights (the input projection's last 80 columns) read at an index. A tile multiplies its rows
  with the columns, padded to 128; the first 64 are rotated into the key, the next 16 scaled into the weights.
-/
module

public import proofs.«01_k».proof.Proof.ProjSpec
public import proofs.«01_k».proof.Proof.Gen.Kernel14Ideal.Value
public import Idealize.ShloMosaic.Lib.Pipeline.ValueKit
public import Idealize.ShloMosaic.Lib.Pipeline.ReadBack
public import Idealize.ShloMosaic.Lib.KernelVsHost

@[expose] public section

set_option maxRecDepth 16384

noncomputable section

namespace Cert.Kernel14Ideal.Kiwi

open Cert.Kernel14Ideal Cert.Kernel14Ideal.Gen Cert.Kernel14Ideal.Value Cert.ProjSpec
open Idealize.ShloMosaic Idealize.ShloMosaic.TcCoe Idealize.SL.Sem

variable (m : (ℓ : Loc nD τ sig) → Buf (Elt Ideal) ℓ)

/-- The normalised rows, one per sequence. -/
def h (c : Dev nD) (R : Fin 32) (d : Fin 2048) : EReal := m ((c.tc : Thread nD τ).loc main_arg0) (ix3 R 0 d)
/-- The input projection's columns. -/
def w (c : Dev nD) (d : Fin 2048) (n : ℕ) : EReal := m ((c.tc : Thread nD τ).loc main_arg1) (ix3 0 d (Fin.ofNat 6224 n))

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

/-- The lanes of a strip that lie in the first half of their head of 64, by the remainder of the lane's number. -/
def low : IVec S32x128 1 :=
  let d : BitVec 32 := Scalar.select (Scalar.cmpi .eq 64#32 0#32) 1#32 64#32
  let e : IVec S32x128 32 := remsi (iota .tc S32x128 32 [1] iota_S32x128_d1_w32) (broadcast S32x128 d)
  cmpi .slt (select (andi (xori (cmpi .slt e (broadcast S32x128 0#32))
      (broadcastTo S32x128 (broadcast S32x128 (Scalar.cmpi .slt d 0#32)) broadcasts_S32x128_S32x128))
    (cmpi .ne e (broadcast S32x128 0#32))) (addi e (broadcast S32x128 d)) e) (broadcast S32x128 32#32)

theorem low_apply (r : Fin 32) (l : Fin 128) : low (ix2 r l) = if l.val % 64 < 32 then 1#1 else 0#1 := by
  show low (ix2 0 l) = _
  revert l
  decide +kernel

/-- A table of the rotation at position `p` and lane `l`: two halves side by side, twice. -/
theorem table_apply (a b : FVec Ideal S32x32 .f32) (p : Fin 32) (l : Fin 128) :
    shapeCast S32x128 (broadcastInDim S1x32x2x64 ![0, 1, 2, 3] bcast_S1x32x1x64_S1x32x2x64_0_1_2_3 fun i =>
        shapeCast S1x32x1x64 (concatenate S32x64 1 [⟨S32x32, a⟩, ⟨S32x32, b⟩] concatenates_S32x32_S32x32_S32x64_d1)
          shapeCasts_S32x64_S1x32x1x64 i)
      shapeCasts_S1x32x2x64_S32x128 (ix2 p l)
      = if h : l.val % 64 < 32 then a (ix2 p ⟨l.val % 64, h⟩) else b (ix2 p ⟨l.val % 64 - 32, by omega⟩) := by
  refine (shapeCast_apply _ shapeCasts_S1x32x2x64_S32x128 _ (ix4 0 p ⟨l.val / 64, by omega⟩ ⟨l.val % 64, by omega⟩) ?_).trans ?_
  · rw [Shape.rowMajor_val_four, Shape.rowMajor_val_two]
    show ((0 * 32 + p.val) * 2 + l.val / 64) * 64 + l.val % 64 = p.val * 128 + l.val
    omega
  refine (show _ = shapeCast S1x32x1x64 (concatenate S32x64 1 [⟨S32x32, a⟩, ⟨S32x32, b⟩] concatenates_S32x32_S32x32_S32x64_d1)
          shapeCasts_S32x64_S1x32x1x64 (ix4 0 p 0 ⟨l.val % 64, by omega⟩) from by pointwise []).trans ?_
  refine (shapeCast_apply _ shapeCasts_S32x64_S1x32x1x64 _ (ix2 p ⟨l.val % 64, by omega⟩) ?_).trans ?_
  · rw [Shape.rowMajor_val_four, Shape.rowMajor_val_two]
    show p.val * 64 + l.val % 64 = ((0 * 32 + p.val) * 1 + 0) * 64 + l.val % 64
    omega
  pointwise []

theorem cos_at (c : Dev nD) (t : Fin cfg0.N) (r : Fin 32) (l : Fin 128) :
    iblk m c 2 t (ix2 r l)
      = Ideal.cos (angle 0x42000000#32 8192#32 (l.val % 32)) := by
  obtain ⟨e0, e1⟩ := idx2 t
  blk_simp [iblk]
  entry_read
  have e : ((View.whole main_v20).slice (win0_2.rect t)).emb (ix2 r l) = ix2 r l := by
    funext a; apply Fin.ext
    match a with
    | ⟨0, _⟩ => show win0_2.index t (0 : Fin 2) * 32 + 1 * r.val = r.val; rw [e0]; omega
    | ⟨1, _⟩ => show win0_2.index t (1 : Fin 2) * 128 + 1 * l.val = l.val; rw [e1]; omega
  rw [e]
  refine (table_apply _ _ _ l).trans ?_
  by_cases hl : l.val % 64 < 32
  · rw [dif_pos hl, show l.val % 32 = l.val % 64 by omega]
    after_results_simp
    pointwise [angle]
  · rw [dif_neg hl, show l.val % 32 = l.val % 64 - 32 by omega]
    after_results_simp
    pointwise [angle]

theorem sin_at (c : Dev nD) (t : Fin cfg0.N) (r : Fin 32) (l : Fin 128) :
    iblk m c 3 t (ix2 r l)
      = if l.val % 64 < 32 then -Ideal.sin (angle 0x42000000#32 8192#32 (l.val % 32))
        else Ideal.sin (angle 0x42000000#32 8192#32 (l.val % 32)) := by
  obtain ⟨e0, e1⟩ := idx3 t
  blk_simp [iblk]
  entry_read
  have e : ((View.whole main_v25).slice (win0_3.rect t)).emb (ix2 r l) = ix2 r l := by
    funext a; apply Fin.ext
    match a with
    | ⟨0, _⟩ => show win0_3.index t (0 : Fin 2) * 32 + 1 * r.val = r.val; rw [e0]; omega
    | ⟨1, _⟩ => show win0_3.index t (1 : Fin 2) * 128 + 1 * l.val = l.val; rw [e1]; omega
  rw [e]
  refine (table_apply _ _ _ l).trans ?_
  by_cases hl : l.val % 64 < 32
  · rw [dif_pos hl, if_pos hl, show l.val % 32 = l.val % 64 by omega]
    after_results_simp
    pointwise [angle]
  · rw [dif_neg hl, if_neg hl, show l.val % 32 = l.val % 64 - 32 by omega]
    after_results_simp
    pointwise [angle]

theorem blk0 (c : Dev nD) (t : Fin cfg0.N) (r : Fin 32) (d : Fin 2048) : iblk m c 0 t (ix2 r d) = h m c r d := by
  obtain ⟨e0, e1⟩ := idx0 t
  blk_simp [iblk]
  entry_read
  refine shapeCast_apply _ shapeCasts_S32x1x2048_S32x2048 _ (ix3 r 0 d) ?_
  rw [Shape.rowMajor_val_three, Shape.rowMajor_val_two]
  show (r.val * 1 + 0) * 2048 + d.val
    = (win0_0.index t (0 : Fin 2) * 32 + 1 * r.val) * 2048 + (win0_0.index t (1 : Fin 2) * 2048 + 1 * d.val)
  rw [e0, e1]; omega

/-- The last 80 columns, turned and padded with rows of a value `v` to 128. -/
theorem padded (c : Dev nD) : ∃ v : (⟨S_, .f32⟩ : BufTy).Contents (Elt Ideal), V m c main_v27
    = pad S128x2048 ![0, 0] ![48, 0] ![0, 0] (extractStridedSlice S80x2048 ![6144, 0] (transpose S6224x2048 [1, 0]
        (shapeCast S2048x6224 (m ((c.tc : Thread nD τ).loc main_arg1)) shapeCasts_S1x2048x6224_S2048x6224) transposes_S2048x6224_S6224x2048_1_0)
        slices_S6224x2048_S80x2048_6144_0) v pads_S80x2048_S128x2048_0480_000 h_S_ := ⟨_, rfl⟩

theorem blkW (c : Dev nD) (t : Fin cfg0.N) (k : Fin 128) (hk : k.val < 80) (d : Fin 2048) :
    iblk m c 1 t (ix2 k d) = w m c d (6144 + k.val) := by
  obtain ⟨e0, e1⟩ := idx1 t
  blk_simp [iblk]
  obtain ⟨v, hv⟩ := padded m c
  rw [hv]
  refine (pad_apply_of_inside ![0, 0] ![48, 0] ![0, 0] _ _ pads_S80x2048_S128x2048_0480_000 h_S_ _ (ix2 (⟨k.val, hk⟩ : Fin 80) d) ?_).trans ?_
  · intro a
    match a with
    | ⟨0, _⟩ => show win0_1.index t (0 : Fin 2) * 128 + 1 * k.val = 0 + k.val * (0 + 1); rw [e0]; omega
    | ⟨1, _⟩ => show win0_1.index t (1 : Fin 2) * 2048 + 1 * d.val = 0 + d.val * (0 + 1); rw [e1]; omega
  refine (extractStridedSlice_apply ![6144, 0] _ _ _ (ix2 (⟨6144 + k.val, by omega⟩ : Fin 6224) d) ?_).trans ?_
  · intro a
    match a with
    | ⟨0, _⟩ => rfl
    | ⟨1, _⟩ => exact (Nat.zero_add _).symm
  refine (transpose_apply _ _ transposes_S2048x6224_S6224x2048_1_0 _ (ix2 d ⟨6144 + k.val, by omega⟩) ?_).trans ?_
  · intro a
    match a with
    | ⟨0, _⟩ => rfl
    | ⟨1, _⟩ => rfl
  · refine (shapeCast_apply _ shapeCasts_S1x2048x6224_S2048x6224 _ (ix3 0 d ⟨6144 + k.val, by omega⟩) ?_).trans ?_
    · rw [Shape.rowMajor_val_three, Shape.rowMajor_val_two]
      show (0 * 2048 + d.val) * 6224 + (6144 + k.val) = d.val * 6224 + (6144 + k.val)
      omega
    · exact congrArg (fun i => m ((c.tc : Thread nD τ).loc main_arg1) (ix3 0 d i))
        (Fin.ext (Nat.mod_eq_of_lt (show 6144 + k.val < 6224 by omega)).symm)

theorem payM_apply (x : Vec Ideal S32x2048 .bf16) (y : Vec Ideal S128x2048 .f32) (r : Fin 32) (k : Fin 128) :
    k0_pay5 x y (ix2 r k) = ∑ d : Fin 2048, x (ix2 r d) * y (ix2 k d) := by
  pointwise [k0_pay5]

/-- A row of a tile with one of the segment's columns. -/
theorem prod_apply (c : Dev nD) (t : Fin cfg0.N) (r : Fin 32) (k : Fin 128) (hk : k.val < 80) :
    k0_pay5 (iblk m c 0 t) (iblk m c 1 t) (ix2 r k) = row (h m c) (w m c) r (6144 + k.val) := by
  rw [payM_apply]
  exact Finset.sum_congr rfl fun d _ => congrArg₂ (· * ·) (blk0 m c t r d) (blkW m c t k hk d)

/-- The rotation by the two tables, on the key's lanes. -/
theorem payR_apply (x : Vec Ideal S32x2048 .bf16) (y : Vec Ideal S128x2048 .f32) (C S : Vec Ideal S32x128 .f32) (r : Fin 32) (j : Fin 64) :
    k0_pay6 x y C S (ix2 r ⟨j.val, by omega⟩)
      = k0_pay5 x y (ix2 r ⟨j.val, by omega⟩) * C (ix2 r ⟨j.val, by omega⟩)
        + k0_pay5 x y (ix2 r ⟨if j.val < 32 then j.val + 32 else j.val - 32, by split <;> omega⟩) * S (ix2 r ⟨j.val, by omega⟩) := by
  have hl := low_apply r ⟨j.val, by omega⟩
  refine (show _ = addf (mulf (k0_pay5 x y) (shapeCast S32x128 C shapeCasts_S32x128_S32x128))
    (mulf (select low (dynamicRotate 1 96#32 none (k0_pay5 x y) rotates_S32x128_d1) (dynamicRotate 1 32#32 none (k0_pay5 x y) rotates_S32x128_d1))
      (shapeCast S32x128 S shapeCasts_S32x128_S32x128)) (ix2 r ⟨j.val, by omega⟩) from rfl).trans ?_
  generalize k0_pay5 x y = P
  generalize low = b at hl ⊢
  refine (show _ = P (ix2 r ⟨j.val, by omega⟩) * C (ix2 r ⟨j.val, by omega⟩)
    + Scalar.select (b (ix2 r ⟨j.val, by omega⟩)) (P (ix2 r ⟨(j.val + 128 - 96) % 128, by omega⟩))
        (P (ix2 r ⟨(j.val + 128 - 32) % 128, by omega⟩)) * S (ix2 r ⟨j.val, by omega⟩) from by pointwise []).trans ?_
  rw [hl]
  have hj := j.isLt
  refine congrArg₂ (· + ·) rfl (congrArg₂ (· * ·) ?_ rfl)
  by_cases hx : j.val % 64 < 32
  · rw [if_pos (show (⟨j.val, by omega⟩ : Fin 128).val % 64 < 32 from hx)]
    refine congrArg P (congrArg _ (Fin.ext ?_))
    show (j.val + 128 - 96) % 128 = if j.val < 32 then j.val + 32 else j.val - 32
    rw [if_pos (by omega)]; omega
  · rw [if_neg (show ¬(⟨j.val, by omega⟩ : Fin 128).val % 64 < 32 from hx)]
    refine congrArg P (congrArg _ (Fin.ext ?_))
    show (j.val + 128 - 32) % 128 = if j.val < 32 then j.val + 32 else j.val - 32
    rw [if_neg (by omega)]; omega

theorem payK_apply (x : Vec Ideal S32x2048 .bf16) (y : Vec Ideal S128x2048 .f32) (C S : Vec Ideal S32x128 .f32) (r : Fin 32) (j : Fin 64) :
    k0_pay7 x y C S (ix2 r j) = k0_pay6 x y C S (ix2 r ⟨j.val, by omega⟩) := by
  unfold k0_pay7
  generalize k0_pay6 x y C S = P
  pointwise []

theorem payS_apply (P : FVec Ideal S32x128 .f32) (r : Fin 32) (j : Fin 16) :
    k0_pay4 P (ix2 r j) = P (ix2 r ⟨64 + j.val, by omega⟩) * Ideal.ofBits .f32 0x3D000000#32 := by
  pointwise [k0_pay4]

/-- A tile's key at row `r`, feature `j`. -/
theorem key_at (c : Dev nD) (t : Fin cfg0.N) (r : Fin 32) (j : Fin 64) :
    out0_4 (iblk m c 0 t) (iblk m c 1 t) (iblk m c 2 t) (iblk m c 3 t) (ix2 r j)
      = rope 32 (fun n => row (h m c) (w m c) r (6144 + n)) (angle 0x42000000#32 8192#32) j.val := by
  frame_out
  rw [payK_apply, payR_apply, prod_apply m c t r _ (by dsimp only; omega), prod_apply m c t r _ (by dsimp only; split <;> omega), cos_at, sin_at]
  have hj := j.isLt
  dsimp only
  refine (congrArg₂ (· + ·) rfl (congrArg₂ (· * ·) (congrArg (fun n => row (h m c) (w m c) r (6144 + n)) ?_) rfl)).trans
    (rope_lane32 (fun n => row (h m c) (w m c) r (6144 + n)) _ j.val _ rfl)
  by_cases hx : j.val < 32
  · rw [if_pos hx, if_pos (by omega)]; omega
  · rw [if_neg hx, if_neg (by omega)]; omega

/-- A tile's head weights at row `r`, head `j`. -/
theorem weight_at (c : Dev nD) (t : Fin cfg0.N) (r : Fin 32) (j : Fin 16) :
    out0_7 (iblk m c 0 t) (iblk m c 1 t) (iblk m c 2 t) (iblk m c 3 t) (ix2 r j)
      = row (h m c) (w m c) r (6208 + j.val) * Ideal.ofBits .f32 0x3D000000#32 := by
  have hj := j.isLt
  frame_out
  refine (payS_apply _ r j).trans ?_
  rw [prod_apply m c t r _ (by dsimp only; omega)]
  exact congrArg (fun n => row (h m c) (w m c) r n * Ideal.ofBits .f32 0x3D000000#32) (show 6144 + (64 + j.val) = 6208 + j.val by omega)

/-- The key at row `R`, feature `j`. -/
def Out4 (c : Dev nD) : Buf (Elt Ideal) ((c.tc : Thread nD τ).loc main_v30_0) := fun i =>
  rope 32 (fun n => row (h m c) (w m c) (i 0) (6144 + n)) (angle 0x42000000#32 8192#32) (i 1).val

theorem arr4 (c : Dev nD) : (dats m 0 c).arrAt 4 cfg0.N = Out4 m c := by
  refine (dats m 0 c).arrAt_eq_of_covers 4 _ (by decide +kernel) fun t hf y => ?_
  blk_simp
  rw [after0_4]
  obtain ⟨e0, e1⟩ := idx4 t
  idx_vars y
  refine (key_at m c t y0 y1).trans ?_
  refine congrArg₂ (fun (R : Fin 32) (n : ℕ) => rope 32 (fun n => row (h m c) (w m c) R (6144 + n)) (angle 0x42000000#32 8192#32) n) (Fin.ext ?_) ?_
  · show y0.val = win0_4.index t (0 : Fin 2) * 32 + 1 * y0.val; rw [e0]; omega
  · show y1.val = win0_4.index t (1 : Fin 2) * 64 + 1 * y1.val; rw [e1]; omega

/-- The head weights at row `R`, head `j`. -/
def Out7 (c : Dev nD) : Buf (Elt Ideal) ((c.tc : Thread nD τ).loc main_v30_3) := fun i =>
  row (h m c) (w m c) (i 0) (6208 + (i 1).val) * Ideal.ofBits .f32 0x3D000000#32

theorem arr7 (c : Dev nD) : (dats m 0 c).arrAt 7 cfg0.N = Out7 m c := by
  refine (dats m 0 c).arrAt_eq_of_covers 7 _ (by decide +kernel) fun t hf y => ?_
  blk_simp
  rw [after0_7]
  obtain ⟨e0, e1⟩ := idx7 t
  idx_vars y
  refine (weight_at m c t y0 y1).trans ?_
  refine congrArg₂ (fun (R : Fin 32) (n : ℕ) => row (h m c) (w m c) R (6208 + n) * Ideal.ofBits .f32 0x3D000000#32) (Fin.ext ?_) ?_
  · show y0.val = win0_7.index t (0 : Fin 2) * 32 + 1 * y0.val; rw [e0]; omega
  · show y1.val = win0_7.index t (1 : Fin 2) * 16 + 1 * y1.val; rw [e1]; omega

end Cert.Kernel14Ideal.Kiwi

end
-- ==== Proof.KiwiSampleReference.lean ====
/-
  The reference's sample indexer key and head weights read at an index.
-/
module

public import proofs.«01_k».proof.Proof.ProjSpec
public import proofs.«01_k».proof.Proof.Gen.Reference14Ideal.Read

@[expose] public section

set_option maxRecDepth 16384

noncomputable section

namespace Cert.Reference14Ideal.Kiwi

open Cert.Reference14Ideal Cert.Reference14Ideal.Gen Cert.Reference14Ideal.Read Cert.ProjSpec
open Idealize.ShloMosaic Idealize.ShloMosaic.TcCoe Idealize.SL.Sem

variable (a0 : (⟨S32x1x2048, .f32⟩ : BufTy).Contents (Elt Ideal)) (a1 : (⟨S1x2048x6224, .f32⟩ : BufTy).Contents (Elt Ideal))

/-- The rotary angles. -/
theorem ang_apply (p : Fin 1) (i : Fin 32) : val_main_v24 (F := Ideal) (ix2 p i) = angle 0x42000000#32 8192#32 i.val := by
  obtain rfl : p = 0 := Subsingleton.elim _ _
  pointwise [val_main_v24, val_main_v23, val_main_v22, val_main_v21, val_main_v20, val_main_v19, val_main_v18, val_main_v17, val_main_v16, val_main_v15, val_main_v14, val_main_v13, val_main_v12, val_main_v11, val_main_cst, val_main_cst_0, val_main_c, angle]
  rfl

/-- A row's feature `n` of the segment. -/
def feat (b : Fin 32) (p : Fin 1) (n : ℕ) : EReal := ∑ d : Fin 2048, a0 (ix3 b p d) * a1 (ix3 0 d (Fin.ofNat 6224 (6144 + n)))

theorem heads_apply (b : Fin 32) (p : Fin 1) (l : Fin 64) :
    val_main_v10 (F := Ideal) a0 a1 (ix4 b p 0 l) = feat a0 a1 b p (l.val) := by
  obtain rfl : p = 0 := Subsingleton.elim _ _
  unfold feat
  refine (show _ = ∑ d : Fin 2048, a0 (ix3 b 0 d) * a1 (ix3 0 d ⟨6144 + l.val, by omega⟩) from by
    pointwise [val_main_v10, val_main_v8, val_main_v1, val_main_v0]).trans ?_
  refine Finset.sum_congr rfl fun d _ => congrArg (fun n => a0 (ix3 b 0 d) * a1 (ix3 0 d n)) (Fin.ext ?_)
  exact (Nat.mod_eq_of_lt (show 6144 + (l.val) < 6224 by omega)).symm

theorem rope_apply (b : Fin 32) (p : Fin 1) (l : Fin 64) :
    val_main_v41 (F := Ideal) a0 a1 (ix4 b p 0 l) = rope 32 (feat a0 a1 b p) (angle 0x42000000#32 8192#32) (l.val) := by
  obtain rfl : p = 0 := Subsingleton.elim _ _
  have hy := heads_apply a0 a1 b 0
  unfold val_main_v41 val_main_v40 val_main_v39 val_main_v37 val_main_v35 val_main_v34 val_main_v32 val_main_v30 val_main_v29
  generalize val_main_v10 (F := Ideal) a0 a1 = y at hy ⊢
  refine (show _ = (if hl : l.val < 32 then
      y (ix4 b 0 0 ⟨l.val, by omega⟩) * Ideal.cos (val_main_v24 (F := Ideal) (ix2 0 ⟨l.val, hl⟩))
        - y (ix4 b 0 0 ⟨32 + l.val, by omega⟩) * Ideal.sin (val_main_v24 (F := Ideal) (ix2 0 ⟨l.val, hl⟩))
    else y (ix4 b 0 0 ⟨32 + (l.val - 32), by omega⟩) * Ideal.cos (val_main_v24 (F := Ideal) (ix2 0 ⟨l.val - 32, by omega⟩))
        + y (ix4 b 0 0 ⟨l.val - 32, by omega⟩) * Ideal.sin (val_main_v24 (F := Ideal) (ix2 0 ⟨l.val - 32, by omega⟩)))
    from by pointwise [val_main_v38, val_main_v36, val_main_v33, val_main_v31, val_main_v28, val_main_v27, val_main_v26, val_main_v25]).trans ?_
  have hb := l.isLt
  unfold rope
  have e1 : (l.val) % (2 * 32) = l.val := by omega
  by_cases hl : l.val < 32
  · have e2 : (l.val) % 32 = l.val := by omega
    rw [dif_pos hl, if_pos (by omega), hy, hy, ang_apply, e2]
    dsimp only
    rw [show (32 + l.val) = l.val + 32 by omega]
  · have e2 : (l.val) % 32 = l.val - 32 := by omega
    rw [dif_neg hl, if_neg (by omega), hy, hy, ang_apply, e2]
    dsimp only
    rw [show (32 + (l.val - 32)) = l.val by omega,
      show (l.val - 32) = l.val - 32 by omega]

/-- The key at row `R`, feature `j`. -/
theorem ref_apply (R : Fin 32) (j : Fin 64) :
    val_main_v45 (F := Ideal) a0 a1 (ix2 R j)
      = rope 32 (fun n => row (fun R d => a0 (ix3 R 0 d)) (fun d n => a1 (ix3 0 d (Fin.ofNat 6224 n))) R (6144 + n)) (angle 0x42000000#32 8192#32) j.val := by
  unfold val_main_v45
  refine (shapeCast_apply _ shapeCasts_S32x1x64_S32x64 _ (ix3 R 0 j) ?_).trans ?_
  · rw [Shape.rowMajor_val_three, Shape.rowMajor_val_two]
    show (R.val * 1 + 0) * 64 + j.val = R.val * 64 + j.val
    omega
  · unfold val_main_v42
    refine (shapeCast_apply _ shapeCasts_S32x1x1x64_S32x1x64 _ (ix4 R 0 0 j) ?_).trans ?_
    · rw [Shape.rowMajor_val_four, Shape.rowMajor_val_three]
      show ((R.val * 1 + 0) * 1 + 0) * 64 + j.val = (R.val * 1 + 0) * 64 + j.val
      omega
    · refine (rope_apply ..).trans ?_
      rfl

/-- The head weights at row `R`, head `j`. -/
theorem weight_apply (R : Fin 32) (j : Fin 16) :
    val_main_v46 (F := Ideal) a0 a1 (ix2 R j)
      = row (fun R d => a0 (ix3 R 0 d)) (fun d n => a1 (ix3 0 d (Fin.ofNat 6224 n))) R (6208 + j.val) * Ideal.ofBits .f32 0x3D000000#32 := by
  unfold val_main_v46
  refine (shapeCast_apply _ shapeCasts_S32x1x16_S32x16 _ (ix3 R 0 j) ?_).trans ?_
  · rw [Shape.rowMajor_val_three, Shape.rowMajor_val_two]
    show (R.val * 1 + 0) * 16 + j.val = R.val * 16 + j.val
    omega
  · refine (show _ = (∑ d : Fin 2048, a0 (ix3 R 0 d) * a1 (ix3 0 d ⟨6208 + j.val, by omega⟩)) * Ideal.ofBits .f32 0x3D000000#32 from by
      pointwise [val_main_v44, val_main_v43, val_main_v9, val_main_v1, val_main_v0, val_main_cst_1]).trans ?_
    refine congrArg (· * _) (Finset.sum_congr rfl fun d _ => congrArg (fun n => a0 (ix3 R 0 d) * a1 (ix3 0 d n)) (Fin.ext ?_))
    exact (Nat.mod_eq_of_lt (show 6208 + j.val < 6224 by omega)).symm

end Cert.Reference14Ideal.Kiwi

end
-- ==== Proof.QiPromptKernel.lean ====
/-
  The prompt's indexer queries (the input projection and the rotary embedding) read at an index. The grid runs over 16 tiles of 512 rows; the first stores the transposed weights in
  scratch, and the others find them there. Every tile is written in strips of 128 lanes.
-/
module

public import proofs.«01_k».proof.Proof.ProjSpec
public import proofs.«01_k».proof.Proof.Gen.Kernel10Ideal.Value
public import Idealize.ShloMosaic.Lib.Pipeline.ValueKit
public import Idealize.ShloMosaic.Lib.Pipeline.ReadBack

@[expose] public section

set_option maxRecDepth 16384

noncomputable section

namespace Cert.Kernel10Ideal.Qi

open Cert.Kernel10Ideal Cert.Kernel10Ideal.Gen Cert.Kernel10Ideal.Value Cert.ProjSpec
open Idealize.ShloMosaic Idealize.ShloMosaic.TcCoe Idealize.SL.Sem

variable (m : (ℓ : Loc nD τ sig) → Buf (Elt Ideal) ℓ)

/-- The normalised rows, row `R` being position `R % 4096` of batch `R / 4096`. -/
def h (c : Dev nD) (R : Fin 8192) (d : Fin 2048) : EReal :=
  m ((c.tc : Thread nD τ).loc main_arg0) (ix3 ⟨R.val / 4096, by omega⟩ ⟨R.val % 4096, by omega⟩ d)
/-- The input projection's columns. -/
def w (c : Dev nD) (d : Fin 2048) (n : ℕ) : EReal := m ((c.tc : Thread nD τ).loc main_arg1) (ix3 0 d (Fin.ofNat 6224 n))

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = 5 ∧ win0_1.index t (1 : Fin 2) = 0 :=
  (by decide +kernel : ∀ t : Fin grid0.N, _)
theorem idx2 : ∀ t : Fin cfg0.N, win0_2.index t (0 : Fin 2) = t.val % 8 ∧ win0_2.index t (1 : Fin 2) = 0 :=
  (by decide +kernel : ∀ t : Fin grid0.N, _)
theorem idx3 : ∀ t : Fin cfg0.N, win0_3.index t (0 : Fin 2) = t.val % 8 ∧ win0_3.index t (1 : Fin 2) = 0 :=
  (by decide +kernel : ∀ t : Fin grid0.N, _)
theorem idx4 : ∀ t : Fin cfg0.N, win0_4.index t (0 : Fin 2) = t.val % 16 ∧ win0_4.index t (1 : Fin 2) = 0 :=
  (by decide +kernel : ∀ t : Fin grid0.N, _)

/-- Where a lane's partner stands: half a head away in the lane's head, reached by a rotation of the strip of 128. -/
def partner (j : ℕ) : ℕ :=
  if j % 64 < 32 then j / 128 * 128 + (j % 128 + 128 - 96) % 128 else j / 128 * 128 + (j % 128 + 128 - 32) % 128

theorem partner_lt (j : Fin 1024) : partner j.val < 1024 := by
  have := j.isLt
  unfold partner
  split <;> omega

/-- One lane of the rotation by the two tables. -/
def lane (f : Fin 1024 → EReal) (c s : Fin 128 → EReal) (j : Fin 1024) : EReal :=
  f j * c ⟨j.val % 128, by omega⟩ + f ⟨partner j.val, partner_lt j⟩ * s ⟨j.val % 128, by omega⟩

/-- The lanes of a strip that lie in the first half of their head of 64, by the remainder of the lane's number. -/
def low : IVec S512x128 1 :=
  let d : BitVec 32 := Scalar.select (Scalar.cmpi .eq 64#32 0#32) 1#32 64#32
  let e : IVec S512x128 32 := remsi (iota .tc S512x128 32 [1] iota_S512x128_d1_w32) (broadcast S512x128 d)
  cmpi .slt (select (andi (xori (cmpi .slt e (broadcast S512x128 0#32))
      (broadcastTo S512x128 (broadcast S512x128 (Scalar.cmpi .slt d 0#32)) broadcasts_S512x128_S512x128))
    (cmpi .ne e (broadcast S512x128 0#32))) (addi e (broadcast S512x128 d)) e) (broadcast S512x128 32#32)

theorem low_apply (r : Fin 512) (l : Fin 128) : low (ix2 r l) = if l.val % 64 < 32 then 1#1 else 0#1 := by
  show low (ix2 0 l) = _
  revert l
  decide +kernel

/-- One strip of 128 lanes as the kernel writes it. -/
theorem strip (P : FVec Ideal S512x1024 .f32) (C S : Vec Ideal S512x128 .f32) (o : ℕ) (hs : S512x1024.Slices ![0, o] S512x128)
    (x : S512x128.Idx) (r : Fin 512) (j : Fin 1024) (h0 : r.val = (x 0).val) (h1 : j.val = o + (x 1).val) (ho : o % 128 = 0) :
    addf (mulf (extractStridedSlice S512x128 ![0, o] P hs) (shapeCast S512x128 C shapeCasts_S512x128_S512x128))
      (mulf (select low (dynamicRotate 1 96#32 none (extractStridedSlice S512x128 ![0, o] P hs) rotates_S512x128_d1)
          (dynamicRotate 1 32#32 none (extractStridedSlice S512x128 ![0, o] P hs) rotates_S512x128_d1))
        (shapeCast S512x128 S shapeCasts_S512x128_S512x128)) x
      = lane (fun j => P (ix2 r j)) (fun l => C (ix2 r l)) (fun l => S (ix2 r l)) j := by
  idx_vars x
  have hb := j.isLt
  have e0 : r = x0 := Fin.ext h0
  have e1 : j.val = o + x1.val := h1
  have hb1 := x1.isLt
  subst e0
  have hl := low_apply r x1
  generalize low = b at hl ⊢
  refine (show _ = P (ix2 r ⟨o + x1.val, by omega⟩) * C (ix2 r x1)
    + Scalar.select (b (ix2 r x1)) (P (ix2 r ⟨o + (x1.val + 128 - 96) % 128, by omega⟩))
        (P (ix2 r ⟨o + (x1.val + 128 - 32) % 128, by omega⟩)) * S (ix2 r x1) from by pointwise []).trans ?_
  have el : (⟨j.val % 128, by omega⟩ : Fin 128) = x1 := Fin.ext (by show j.val % 128 = x1.val; omega)
  unfold lane
  rw [el, hl]
  refine congrArg₂ (· + ·) (congrArg₂ (· * ·) (congrArg P (congrArg _ (Fin.ext ?_))) rfl) (congrArg₂ (· * ·) ?_ rfl)
  · show o + x1.val = j.val; omega
  · by_cases hx : x1.val % 64 < 32
    · rw [if_pos hx]
      refine congrArg P (congrArg _ (Fin.ext ?_))
      show o + (x1.val + 128 - 96) % 128 = partner j.val
      unfold partner
      rw [if_pos (by omega)]; omega
    · rw [if_neg hx]
      refine congrArg P (congrArg _ (Fin.ext ?_))
      show o + (x1.val + 128 - 32) % 128 = partner j.val
      unfold partner
      rw [if_neg (by omega)]; omega

/-- The same strip scaled by a constant and stored in the narrow format. -/
theorem strip_bf16 (P : FVec Ideal S512x1024 .f32) (C S : Vec Ideal S512x128 .f32) (o : ℕ) (hs : S512x1024.Slices ![0, o] S512x128)
    (x : S512x128.Idx) (k : BitVec 32) (r : Fin 512) (j : Fin 1024) (h0 : r.val = (x 0).val) (h1 : j.val = o + (x 1).val) (ho : o % 128 = 0) :
    truncf .bf16 (mulf (addf (mulf (extractStridedSlice S512x128 ![0, o] P hs) (shapeCast S512x128 C shapeCasts_S512x128_S512x128))
      (mulf (select low (dynamicRotate 1 96#32 none (extractStridedSlice S512x128 ![0, o] P hs) rotates_S512x128_d1)
          (dynamicRotate 1 32#32 none (extractStridedSlice S512x128 ![0, o] P hs) rotates_S512x128_d1))
        (shapeCast S512x128 S shapeCasts_S512x128_S512x128))) (broadcast S512x128 (Scalar.ofBits .f32 k))) bitsLt_bf16_f32 x
      = lane (fun j => P (ix2 r j)) (fun l => C (ix2 r l)) (fun l => S (ix2 r l)) j * Ideal.ofBits .f32 k :=
  congrArg (· * Ideal.ofBits .f32 k) (strip P C S o hs x r j h0 h1 ho)

/-- A table of the rotation at position `p` and lane `l`: two halves side by side, twice. -/
theorem table_apply (a b : FVec Ideal S4096x32 .f32) (p : Fin 4096) (l : Fin 128) :
    shapeCast S4096x128 (broadcastInDim S1x4096x2x64 ![0, 1, 2, 3] bcast_S1x4096x1x64_S1x4096x2x64_0_1_2_3 fun i =>
        shapeCast S1x4096x1x64 (concatenate S4096x64 1 [⟨S4096x32, a⟩, ⟨S4096x32, b⟩] concatenates_S4096x32_S4096x32_S4096x64_d1)
          shapeCasts_S4096x64_S1x4096x1x64 i)
      shapeCasts_S1x4096x2x64_S4096x128 (ix2 p l)
      = if h : l.val % 64 < 32 then a (ix2 p ⟨l.val % 64, h⟩) else b (ix2 p ⟨l.val % 64 - 32, by omega⟩) := by
  refine (shapeCast_apply _ shapeCasts_S1x4096x2x64_S4096x128 _ (ix4 0 p ⟨l.val / 64, by omega⟩ ⟨l.val % 64, by omega⟩) ?_).trans ?_
  · rw [Shape.rowMajor_val_four, Shape.rowMajor_val_two]
    show ((0 * 4096 + p.val) * 2 + l.val / 64) * 64 + l.val % 64 = p.val * 128 + l.val
    omega
  refine (show _ = shapeCast S1x4096x1x64 (concatenate S4096x64 1 [⟨S4096x32, a⟩, ⟨S4096x32, b⟩] concatenates_S4096x32_S4096x32_S4096x64_d1)
          shapeCasts_S4096x64_S1x4096x1x64 (ix4 0 p 0 ⟨l.val % 64, by omega⟩) from by pointwise []).trans ?_
  refine (shapeCast_apply _ shapeCasts_S4096x64_S1x4096x1x64 _ (ix2 p ⟨l.val % 64, by omega⟩) ?_).trans ?_
  · rw [Shape.rowMajor_val_four, Shape.rowMajor_val_two]
    show p.val * 64 + l.val % 64 = ((0 * 4096 + p.val) * 1 + 0) * 64 + l.val % 64
    omega
  pointwise []

theorem cos_at (c : Dev nD) (t : Fin cfg0.N) (r : Fin 512) (l : Fin 128) :
    iblk m c 2 t (ix2 r l)
      = Ideal.cos (angle 0x42000000#32 (BitVec.ofNat 32 (t.val % 8 * 512 + r.val)) (l.val % 32)) := by
  obtain ⟨e0, e1⟩ := idx2 t
  blk_simp [iblk]
  entry_read
  have e : ((View.whole main_v20).slice (win0_2.rect t)).emb (ix2 r l) = ix2 (⟨t.val % 8 * 512 + r.val, by omega⟩ : Fin 4096) l := by
    funext a; apply Fin.ext
    match a with
    | ⟨0, _⟩ => show win0_2.index t (0 : Fin 2) * 512 + 1 * r.val = t.val % 8 * 512 + r.val; rw [e0]; omega
    | ⟨1, _⟩ => show win0_2.index t (1 : Fin 2) * 128 + 1 * l.val = l.val; rw [e1]; omega
  rw [e]
  refine (table_apply _ _ _ l).trans ?_
  by_cases hl : l.val % 64 < 32
  · rw [dif_pos hl, show l.val % 32 = l.val % 64 by omega]
    pointwise [angle]
  · rw [dif_neg hl, show l.val % 32 = l.val % 64 - 32 by omega]
    pointwise [angle]

theorem sin_at (c : Dev nD) (t : Fin cfg0.N) (r : Fin 512) (l : Fin 128) :
    iblk m c 3 t (ix2 r l)
      = if l.val % 64 < 32 then -Ideal.sin (angle 0x42000000#32 (BitVec.ofNat 32 (t.val % 8 * 512 + r.val)) (l.val % 32))
        else Ideal.sin (angle 0x42000000#32 (BitVec.ofNat 32 (t.val % 8 * 512 + r.val)) (l.val % 32)) := by
  obtain ⟨e0, e1⟩ := idx3 t
  blk_simp [iblk]
  entry_read
  have e : ((View.whole main_v25).slice (win0_3.rect t)).emb (ix2 r l) = ix2 (⟨t.val % 8 * 512 + r.val, by omega⟩ : Fin 4096) l := by
    funext a; apply Fin.ext
    match a with
    | ⟨0, _⟩ => show win0_3.index t (0 : Fin 2) * 512 + 1 * r.val = t.val % 8 * 512 + r.val; rw [e0]; omega
    | ⟨1, _⟩ => show win0_3.index t (1 : Fin 2) * 128 + 1 * l.val = l.val; rw [e1]; omega
  rw [e]
  refine (table_apply _ _ _ l).trans ?_
  by_cases hl : l.val % 64 < 32
  · rw [dif_pos hl, if_pos hl, show l.val % 32 = l.val % 64 by omega]
    pointwise [angle]
  · rw [dif_neg hl, if_neg hl, show l.val % 32 = l.val % 64 - 32 by omega]
    pointwise [angle]

theorem blk0 (c : Dev nD) (t : Fin cfg0.N) (r : Fin 512) (d : Fin 2048) : iblk m c 0 t (ix2 r d) = h m c ⟨t.val % 16 * 512 + r.val, by omega⟩ d := by
  obtain ⟨e0, e1⟩ := idx0 t
  blk_simp [iblk]
  entry_read
  refine shapeCast_apply _ shapeCasts_S2x4096x2048_S8192x2048 _ (ix3 ⟨(t.val % 16 * 512 + r.val) / 4096, by omega⟩ ⟨(t.val % 16 * 512 + r.val) % 4096, by omega⟩ d) ?_
  rw [Shape.rowMajor_val_three, Shape.rowMajor_val_two]
  show ((t.val % 16 * 512 + r.val) / 4096 * 4096 + (t.val % 16 * 512 + r.val) % 4096) * 2048 + d.val
    = (win0_0.index t (0 : Fin 2) * 512 + 1 * r.val) * 2048 + (win0_0.index t (1 : Fin 2) * 2048 + 1 * d.val)
  rw [e0, e1]; omega

theorem blkW (c : Dev nD) (t : Fin cfg0.N) (k : Fin 1024) (d : Fin 2048) : X0_1 m c t (ix2 k d) = w m c d (5120 + k.val) := by
  obtain ⟨e0, e1⟩ := idx1 t
  unfold X0_1 Pipeline.Window.fill
  rw [dif_pos (moved0_1 t _)]
  blk_simp [iblk]
  entry_read
  refine (transpose_apply _ _ transposes_S2048x6224_S6224x2048_1_0 _ (ix2 d ⟨5120 + k.val, by omega⟩) ?_).trans ?_
  · intro a
    match a with
    | ⟨0, _⟩ => show 5120 + k.val = win0_1.index t (0 : Fin 2) * 1024 + 1 * k.val; rw [e0]; omega
    | ⟨1, _⟩ => show d.val = win0_1.index t (1 : Fin 2) * 2048 + 1 * d.val; rw [e1]; omega
  · refine (shapeCast_apply _ shapeCasts_S1x2048x6224_S2048x6224 _ (ix3 0 d ⟨5120 + k.val, by omega⟩) ?_).trans ?_
    · rw [Shape.rowMajor_val_three, Shape.rowMajor_val_two]
      show (0 * 2048 + d.val) * 6224 + (5120 + k.val) = d.val * 6224 + (5120 + k.val)
      omega
    · exact congrArg (fun i => m ((c.tc : Thread nD τ).loc main_arg1) (ix3 0 d i))
        (Fin.ext (Nat.mod_eq_of_lt (show 5120 + k.val < 6224 by omega)).symm)

theorem payW_apply (x : Vec Ideal S1024x2048 .f32) (d : Fin 2048) (k : Fin 1024) : k0_pay1 x (ix2 d k) = x (ix2 k d) := by
  pointwise [k0_pay1]

theorem payM_apply (x : Vec Ideal S512x2048 .bf16) (y : Vec Ideal S2048x1024 .bf16) (r : Fin 512) (k : Fin 1024) :
    k0_pay2 x y (ix2 r k) = ∑ d : Fin 2048, x (ix2 r d) * y (ix2 d k) := by
  pointwise [k0_pay2]

/-! ## What each point leaves -/

theorem first_w (c : Dev nD) (t : Fin cfg0.N) (h0 : t.val % 16 = 0) : (outsAt0 m c t.val t.isLt).2 = k0_pay1 (X0_1 m c t) := by
  rw [outsAt0_A m c t h0]
  frame_out

theorem next_w (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  rfl

/-- Every point holds the transposed weights in the scratch: the first stores them, the others find them. -/
theorem held (c : Dev nD) : ∀ (n : ℕ) (hn : n < cfg0.N) (d : Fin 2048) (k : Fin 1024),
    (outsAt0 m c n hn).2 (ix2 d k) = w m c d (5120 + k.val) := by
  intro n
  induction n with
  | zero => exact fun hn d k => (congrFun (first_w m c ⟨0, hn⟩ rfl) _).trans ((payW_apply ..).trans (blkW ..))
  | succ n ih =>
    intro hn d k
    by_cases h0 : (n + 1) % 16 = 0
    · exact (congrFun (first_w m c ⟨n + 1, hn⟩ h0) _).trans ((payW_apply ..).trans (blkW ..))
    · exact (congrFun (next_w m c ⟨n + 1, hn⟩ h0) _).trans (ih (Nat.lt_of_succ_lt hn) d k)

/-- The product a point forms: its rows with the segment's columns. -/
def prod (c : Dev nD) (t : Fin cfg0.N) : FVec Ideal S512x1024 .f32 := k0_pay2 (iblk m c 0 t) (outsAt0 m c t.val t.isLt).2

theorem prod_apply (c : Dev nD) (t : Fin cfg0.N) (r : Fin 512) (j : Fin 1024) :
    prod m c t (ix2 r j) = row (h m c) (w m c) ⟨t.val % 16 * 512 + r.val, by omega⟩ (5120 + j.val) := by
  unfold prod
  rw [payM_apply]
  exact Finset.sum_congr rfl fun d _ => congrArg₂ (· * ·) (blk0 m c t r d) (held m c t.val t.isLt d j)

theorem out4_at (c : Dev nD) (t : Fin cfg0.N) (r : Fin 512) (j : Fin 1024) :
    (outsAt0 m c t.val t.isLt).1 (ix2 r j)
      = lane (fun j => prod m c t (ix2 r j)) (fun l => iblk m c 2 t (ix2 r l))
          (fun l => iblk m c 3 t (ix2 r l)) j * Ideal.ofBits .f32 0x3F800000#32 := by
  unfold prod
  by_cases h0 : t.val % 16 = 0
  · rw [first_w m c t h0, outsAt0_A m c t h0]
    frame_out
    canon_tiles x h
    all_goals open_payloads
    all_goals refine strip_bf16 _ _ _ _ _ x _ r j h0 ?_ (by decide)
    all_goals first | exact h1 | exact h1.trans (Nat.zero_add _).symm
  · rw [next_w m c t h0, outsAt0_B m c t h0]
    frame_out
    simp only [read_unread_whole]
    canon_tiles x h
    all_goals open_payloads
    all_goals refine strip_bf16 _ _ _ _ _ x _ r j h0 ?_ (by decide)
    all_goals first | exact h1 | exact h1.trans (Nat.zero_add _).symm

/-- The lane of the rotation on a point's product is the rotary embedding of the row. -/
theorem lane_apply (c : Dev nD) (t : Fin cfg0.N) (r : Fin 512) (j : Fin 1024) :
    lane (fun j => prod m c t (ix2 r j)) (fun l => iblk m c 2 t (ix2 r l)) (fun l => iblk m c 3 t (ix2 r l)) j
      = rope 32 (fun n => row (h m c) (w m c) ⟨t.val % 16 * 512 + r.val, by omega⟩ (5120 + n)) (angle 0x42000000#32 (BitVec.ofNat 32 ((t.val % 16 * 512 + r.val) % 4096))) j.val := by
  unfold lane
  beta_reduce
  rw [prod_apply, prod_apply, cos_at, sin_at]
  dsimp only
  have e1 : j.val % 128 % 32 = j.val % 32 := by omega
  have e3 : j.val % 128 % 64 = j.val % 64 := by omega
  have e2 : (BitVec.ofNat 32 (t.val % 8 * 512 + r.val)) = ((BitVec.ofNat 32 ((t.val % 16 * 512 + r.val) % 4096))) := congrArg _ (by omega)
  rw [e1, e2, e3]
  exact rope_lane32 (fun n => row (h m c) (w m c) ⟨t.val % 16 * 512 + r.val, by omega⟩ (5120 + n)) _ j.val _ rfl

/-- The result of window 4 at row `R`, column `j`. -/
def Out4 (c : Dev nD) : Buf (Elt Ideal) ((c.tc : Thread nD τ).loc main_v28) := fun i =>
  rope 32 (fun n => row (h m c) (w m c) (i 0) (5120 + n)) (angle 0x42000000#32 (BitVec.ofNat 32 ((i 0).val % 4096))) (i 1).val

theorem arr4 (c : Dev nD) : (dats m 0 c).arrAt 4 cfg0.N = Out4 m c := by
  refine (dats m 0 c).arrAt_eq_of_covers 4 _ (by decide +kernel) fun t hf y => ?_
  blk_simp
  rw [after0_4]
  obtain ⟨e0, e1⟩ := idx4 t
  idx_vars y
  refine (out4_at m c t y0 y1).trans ((congrArg (· * _) (lane_apply m c t y0 y1)).trans ((congrArg (_ * ·) Ideal.ofBits_one_f32).trans ((mul_one _).trans ?_)))
  refine congrArg₂ (fun (R : Fin 8192) (n : ℕ) => rope 32 (fun n => row (h m c) (w m c) R (5120 + n)) (angle 0x42000000#32 (BitVec.ofNat 32 (R.val % 4096))) n) (Fin.ext ?_) ?_
  · show t.val % 16 * 512 + y0.val = win0_4.index t (0 : Fin 2) * 512 + 1 * y0.val; rw [e0]; omega
  · show y1.val = win0_4.index t (1 : Fin 2) * 1024 + 1 * y1.val; rw [e1]; omega

end Cert.Kernel10Ideal.Qi

end
-- ==== Proof.QiPromptReference.lean ====
/-
  The reference's prompt indexer queries read at an index.
-/
module

public import proofs.«01_k».proof.Proof.ProjSpec
public import proofs.«01_k».proof.Proof.Gen.Reference10Ideal.Read

@[expose] public section

set_option maxRecDepth 16384

noncomputable section

namespace Cert.Reference10Ideal.Qi

open Cert.Reference10Ideal Cert.Reference10Ideal.Gen Cert.Reference10Ideal.Read Cert.ProjSpec
open Idealize.ShloMosaic Idealize.ShloMosaic.TcCoe Idealize.SL.Sem

variable (a0 : (⟨S2x4096x2048, .f32⟩ : BufTy).Contents (Elt Ideal)) (a1 : (⟨S1x2048x6224, .f32⟩ : BufTy).Contents (Elt Ideal))

/-- The rotary angles. -/
theorem ang_apply (p : Fin 4096) (i : Fin 32) : val_main_v23 (F := Ideal) (ix2 p i) = angle 0x42000000#32 (BitVec.ofNat 32 p.val) i.val := by
  pointwise [val_main_v23, val_main_v22, val_main_v21, val_main_v20, val_main_v19, val_main_v18, val_main_v17, val_main_v16, val_main_v15, val_main_v14, val_main_v13, val_main_v12, val_main_v11, val_main_cst, val_main_cst_0, angle]

/-- A row's feature `n` of the segment. -/
def feat (b : Fin 2) (p : Fin 4096) (n : ℕ) : EReal := ∑ d : Fin 2048, a0 (ix3 b p d) * a1 (ix3 0 d (Fin.ofNat 6224 (5120 + n)))

theorem heads_apply (b : Fin 2) (p : Fin 4096) (g : Fin 16) (l : Fin 64) :
    val_main_v10 (F := Ideal) a0 a1 (ix4 b p g l) = feat a0 a1 b p (g.val * 64 + l.val) := by
  unfold val_main_v10 feat
  refine (shapeCast_apply _ shapeCasts_S2x4096x1024_S2x4096x16x64 _ (ix3 b p ⟨g.val * 64 + l.val, by omega⟩) ?_).trans ?_
  · rw [Shape.rowMajor_val_three, Shape.rowMajor_val_four]
    show (b.val * 4096 + p.val) * 1024 + (g.val * 64 + l.val) = ((b.val * 4096 + p.val) * 16 + g.val) * 64 + l.val
    omega
  · refine (show _ = ∑ d : Fin 2048, a0 (ix3 b p d) * a1 (ix3 0 d ⟨5120 + (g.val * 64 + l.val), by omega⟩) from by
      pointwise [val_main_v7, val_main_v1, val_main_v0]).trans ?_
    refine Finset.sum_congr rfl fun d _ => congrArg (fun n => a0 (ix3 b p d) * a1 (ix3 0 d n)) (Fin.ext ?_)
    exact (Nat.mod_eq_of_lt (show 5120 + (g.val * 64 + l.val) < 6224 by omega)).symm

theorem rope_apply (b : Fin 2) (p : Fin 4096) (g : Fin 16) (l : Fin 64) :
    val_main_v40 (F := Ideal) a0 a1 (ix4 b p g l) = rope 32 (feat a0 a1 b p) (angle 0x42000000#32 (BitVec.ofNat 32 p.val)) (g.val * 64 + l.val) := by
  have hy := heads_apply a0 a1 b p g
  unfold val_main_v40 val_main_v39 val_main_v38 val_main_v36 val_main_v34 val_main_v33 val_main_v31 val_main_v29 val_main_v28
  generalize val_main_v10 (F := Ideal) a0 a1 = y at hy ⊢
  refine (show _ = (if hl : l.val < 32 then
      y (ix4 b p g ⟨l.val, by omega⟩) * Ideal.cos (val_main_v23 (F := Ideal) (ix2 p ⟨l.val, hl⟩))
        - y (ix4 b p g ⟨32 + l.val, by omega⟩) * Ideal.sin (val_main_v23 (F := Ideal) (ix2 p ⟨l.val, hl⟩))
    else y (ix4 b p g ⟨32 + (l.val - 32), by omega⟩) * Ideal.cos (val_main_v23 (F := Ideal) (ix2 p ⟨l.val - 32, by omega⟩))
        + y (ix4 b p g ⟨l.val - 32, by omega⟩) * Ideal.sin (val_main_v23 (F := Ideal) (ix2 p ⟨l.val - 32, by omega⟩)))
    from by pointwise [val_main_v37, val_main_v35, val_main_v32, val_main_v30, val_main_v27, val_main_v26, val_main_v25, val_main_v24]).trans ?_
  have hb := l.isLt
  unfold rope
  have e1 : (g.val * 64 + l.val) % (2 * 32) = l.val := by omega
  by_cases hl : l.val < 32
  · have e2 : (g.val * 64 + l.val) % 32 = l.val := by omega
    rw [dif_pos hl, if_pos (by omega), hy, hy, ang_apply, e2]
    dsimp only
    rw [show g.val * 64 + (32 + l.val) = g.val * 64 + l.val + 32 by omega]
  · have e2 : (g.val * 64 + l.val) % 32 = l.val - 32 := by omega
    rw [dif_neg hl, if_neg (by omega), hy, hy, ang_apply, e2]
    dsimp only
    rw [show g.val * 64 + (32 + (l.val - 32)) = g.val * 64 + l.val by omega,
      show g.val * 64 + (l.val - 32) = g.val * 64 + l.val - 32 by omega]

/-- The result at row `R`, column `j`. -/
theorem ref_apply (R : Fin 8192) (j : Fin 1024) :
    val_main_v41 (F := Ideal) a0 a1 (ix2 R j)
      = rope 32 (fun n => row (fun R d => a0 (ix3 ⟨R.val / 4096, by omega⟩ ⟨R.val % 4096, by omega⟩ d)) (fun d n => a1 (ix3 0 d (Fin.ofNat 6224 n))) R (5120 + n))
          (angle 0x42000000#32 (BitVec.ofNat 32 (R.val % 4096))) j.val := by
  unfold val_main_v41
  refine (shapeCast_apply _ shapeCasts_S2x4096x16x64_S8192x1024 _ (ix4 ⟨R.val / 4096, by omega⟩ ⟨R.val % 4096, by omega⟩ ⟨j.val / 64, by omega⟩ ⟨j.val % 64, by omega⟩) ?_).trans ?_
  · rw [Shape.rowMajor_val_four, Shape.rowMajor_val_two]
    show ((R.val / 4096 * 4096 + R.val % 4096) * 16 + j.val / 64) * 64 + j.val % 64 = R.val * 1024 + j.val
    omega
  · refine (rope_apply ..).trans ?_
    show rope 32 _ _ (j.val / 64 * 64 + j.val % 64) = _
    rw [show j.val / 64 * 64 + j.val % 64 = j.val by omega]
    rfl

theorem narrow_apply (R : Fin 8192) (j : Fin 1024) : val_main_v42 (F := Ideal) a0 a1 (ix2 R j) = val_main_v41 (F := Ideal) a0 a1 (ix2 R j) := by
  unfold val_main_v42
  rfl

end Cert.Reference10Ideal.Qi

end
-- ==== Proof.QiSampleKernel.lean ====
/-
  The samples' indexer queries (the input projection and the rotary embedding) read at an index. One point of the grid holds the 32 rows. Every tile is written in strips of 128 lanes.
-/
module

public import proofs.«01_k».proof.Proof.ProjSpec
public import proofs.«01_k».proof.Proof.Gen.Kernel18Ideal.Value
public import Idealize.ShloMosaic.Lib.Pipeline.ValueKit
public import Idealize.ShloMosaic.Lib.Pipeline.ReadBack

@[expose] public section

set_option maxRecDepth 16384

noncomputable section

namespace Cert.Kernel18Ideal.Qi

open Cert.Kernel18Ideal Cert.Kernel18Ideal.Gen Cert.Kernel18Ideal.Value Cert.ProjSpec
open Idealize.ShloMosaic Idealize.ShloMosaic.TcCoe Idealize.SL.Sem

variable (m : (ℓ : Loc nD τ sig) → Buf (Elt Ideal) ℓ)

/-- The normalised rows, one per sequence. -/
def h (c : Dev nD) (R : Fin 32) (d : Fin 2048) : EReal := m ((c.tc : Thread nD τ).loc main_arg0) (ix3 R 0 d)
/-- The input projection's columns. -/
def w (c : Dev nD) (d : Fin 2048) (n : ℕ) : EReal := m ((c.tc : Thread nD τ).loc main_arg1) (ix3 0 d (Fin.ofNat 6224 n))

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 5 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

/-- Where a lane's partner stands: half a head away in the lane's head, reached by a rotation of the strip of 128. -/
def partner (j : ℕ) : ℕ :=
  if j % 64 < 32 then j / 128 * 128 + (j % 128 + 128 - 96) % 128 else j / 128 * 128 + (j % 128 + 128 - 32) % 128

theorem partner_lt (j : Fin 1024) : partner j.val < 1024 := by
  have := j.isLt
  unfold partner
  split <;> omega

/-- One lane of the rotation by the two tables. -/
def lane (f : Fin 1024 → EReal) (c s : Fin 128 → EReal) (j : Fin 1024) : EReal :=
  f j * c ⟨j.val % 128, by omega⟩ + f ⟨partner j.val, partner_lt j⟩ * s ⟨j.val % 128, by omega⟩

/-- The lanes of a strip that lie in the first half of their head of 64, by the remainder of the lane's number. -/
def low : IVec S32x128 1 :=
  let d : BitVec 32 := Scalar.select (Scalar.cmpi .eq 64#32 0#32) 1#32 64#32
  let e : IVec S32x128 32 := remsi (iota .tc S32x128 32 [1] iota_S32x128_d1_w32) (broadcast S32x128 d)
  cmpi .slt (select (andi (xori (cmpi .slt e (broadcast S32x128 0#32))
      (broadcastTo S32x128 (broadcast S32x128 (Scalar.cmpi .slt d 0#32)) broadcasts_S32x128_S32x128))
    (cmpi .ne e (broadcast S32x128 0#32))) (addi e (broadcast S32x128 d)) e) (broadcast S32x128 32#32)

theorem low_apply (r : Fin 32) (l : Fin 128) : low (ix2 r l) = if l.val % 64 < 32 then 1#1 else 0#1 := by
  show low (ix2 0 l) = _
  revert l
  decide +kernel

/-- One strip of 128 lanes as the kernel writes it. -/
theorem strip (P : FVec Ideal S32x1024 .f32) (C S : Vec Ideal S32x128 .f32) (o : ℕ) (hs : S32x1024.Slices ![0, o] S32x128)
    (x : S32x128.Idx) (r : Fin 32) (j : Fin 1024) (h0 : r.val = (x 0).val) (h1 : j.val = o + (x 1).val) (ho : o % 128 = 0) :
    addf (mulf (extractStridedSlice S32x128 ![0, o] P hs) (shapeCast S32x128 C shapeCasts_S32x128_S32x128))
      (mulf (select low (dynamicRotate 1 96#32 none (extractStridedSlice S32x128 ![0, o] P hs) rotates_S32x128_d1)
          (dynamicRotate 1 32#32 none (extractStridedSlice S32x128 ![0, o] P hs) rotates_S32x128_d1))
        (shapeCast S32x128 S shapeCasts_S32x128_S32x128)) x
      = lane (fun j => P (ix2 r j)) (fun l => C (ix2 r l)) (fun l => S (ix2 r l)) j := by
  idx_vars x
  have hb := j.isLt
  have e0 : r = x0 := Fin.ext h0
  have e1 : j.val = o + x1.val := h1
  have hb1 := x1.isLt
  subst e0
  have hl := low_apply r x1
  generalize low = b at hl ⊢
  refine (show _ = P (ix2 r ⟨o + x1.val, by omega⟩) * C (ix2 r x1)
    + Scalar.select (b (ix2 r x1)) (P (ix2 r ⟨o + (x1.val + 128 - 96) % 128, by omega⟩))
        (P (ix2 r ⟨o + (x1.val + 128 - 32) % 128, by omega⟩)) * S (ix2 r x1) from by pointwise []).trans ?_
  have el : (⟨j.val % 128, by omega⟩ : Fin 128) = x1 := Fin.ext (by show j.val % 128 = x1.val; omega)
  unfold lane
  rw [el, hl]
  refine congrArg₂ (· + ·) (congrArg₂ (· * ·) (congrArg P (congrArg _ (Fin.ext ?_))) rfl) (congrArg₂ (· * ·) ?_ rfl)
  · show o + x1.val = j.val; omega
  · by_cases hx : x1.val % 64 < 32
    · rw [if_pos hx]
      refine congrArg P (congrArg _ (Fin.ext ?_))
      show o + (x1.val + 128 - 96) % 128 = partner j.val
      unfold partner
      rw [if_pos (by omega)]; omega
    · rw [if_neg hx]
      refine congrArg P (congrArg _ (Fin.ext ?_))
      show o + (x1.val + 128 - 32) % 128 = partner j.val
      unfold partner
      rw [if_neg (by omega)]; omega

/-- The same strip scaled by a constant and stored in the narrow format. -/
theorem strip_bf16 (P : FVec Ideal S32x1024 .f32) (C S : Vec Ideal S32x128 .f32) (o : ℕ) (hs : S32x1024.Slices ![0, o] S32x128)
    (x : S32x128.Idx) (k : BitVec 32) (r : Fin 32) (j : Fin 1024) (h0 : r.val = (x 0).val) (h1 : j.val = o + (x 1).val) (ho : o % 128 = 0) :
    truncf .bf16 (mulf (addf (mulf (extractStridedSlice S32x128 ![0, o] P hs) (shapeCast S32x128 C shapeCasts_S32x128_S32x128))
      (mulf (select low (dynamicRotate 1 96#32 none (extractStridedSlice S32x128 ![0, o] P hs) rotates_S32x128_d1)
          (dynamicRotate 1 32#32 none (extractStridedSlice S32x128 ![0, o] P hs) rotates_S32x128_d1))
        (shapeCast S32x128 S shapeCasts_S32x128_S32x128))) (broadcast S32x128 (Scalar.ofBits .f32 k))) bitsLt_bf16_f32 x
      = lane (fun j => P (ix2 r j)) (fun l => C (ix2 r l)) (fun l => S (ix2 r l)) j * Ideal.ofBits .f32 k :=
  congrArg (· * Ideal.ofBits .f32 k) (strip P C S o hs x r j h0 h1 ho)

/-- A table of the rotation at position `p` and lane `l`: two halves side by side, twice. -/
theorem table_apply (a b : FVec Ideal S32x32 .f32) (p : Fin 32) (l : Fin 128) :
    shapeCast S32x128 (broadcastInDim S1x32x2x64 ![0, 1, 2, 3] bcast_S1x32x1x64_S1x32x2x64_0_1_2_3 fun i =>
        shapeCast S1x32x1x64 (concatenate S32x64 1 [⟨S32x32, a⟩, ⟨S32x32, b⟩] concatenates_S32x32_S32x32_S32x64_d1)
          shapeCasts_S32x64_S1x32x1x64 i)
      shapeCasts_S1x32x2x64_S32x128 (ix2 p l)
      = if h : l.val % 64 < 32 then a (ix2 p ⟨l.val % 64, h⟩) else b (ix2 p ⟨l.val % 64 - 32, by omega⟩) := by
  refine (shapeCast_apply _ shapeCasts_S1x32x2x64_S32x128 _ (ix4 0 p ⟨l.val / 64, by omega⟩ ⟨l.val % 64, by omega⟩) ?_).trans ?_
  · rw [Shape.rowMajor_val_four, Shape.rowMajor_val_two]
    show ((0 * 32 + p.val) * 2 + l.val / 64) * 64 + l.val % 64 = p.val * 128 + l.val
    omega
  refine (show _ = shapeCast S1x32x1x64 (concatenate S32x64 1 [⟨S32x32, a⟩, ⟨S32x32, b⟩] concatenates_S32x32_S32x32_S32x64_d1)
          shapeCasts_S32x64_S1x32x1x64 (ix4 0 p 0 ⟨l.val % 64, by omega⟩) from by pointwise []).trans ?_
  refine (shapeCast_apply _ shapeCasts_S32x64_S1x32x1x64 _ (ix2 p ⟨l.val % 64, by omega⟩) ?_).trans ?_
  · rw [Shape.rowMajor_val_four, Shape.rowMajor_val_two]
    show p.val * 64 + l.val % 64 = ((0 * 32 + p.val) * 1 + 0) * 64 + l.val % 64
    omega
  pointwise []

theorem cos_at (c : Dev nD) (t : Fin cfg0.N) (r : Fin 32) (l : Fin 128) :
    iblk m c 2 t (ix2 r l)
      = Ideal.cos (angle 0x42000000#32 8192#32 (l.val % 32)) := by
  obtain ⟨e0, e1⟩ := idx2 t
  blk_simp [iblk]
  entry_read
  have e : ((View.whole main_v20).slice (win0_2.rect t)).emb (ix2 r l) = ix2 r l := by
    funext a; apply Fin.ext
    match a with
    | ⟨0, _⟩ => show win0_2.index t (0 : Fin 2) * 32 + 1 * r.val = r.val; rw [e0]; omega
    | ⟨1, _⟩ => show win0_2.index t (1 : Fin 2) * 128 + 1 * l.val = l.val; rw [e1]; omega
  rw [e]
  refine (table_apply _ _ _ l).trans ?_
  by_cases hl : l.val % 64 < 32
  · rw [dif_pos hl, show l.val % 32 = l.val % 64 by omega]
    pointwise [angle]
  · rw [dif_neg hl, show l.val % 32 = l.val % 64 - 32 by omega]
    pointwise [angle]

theorem sin_at (c : Dev nD) (t : Fin cfg0.N) (r : Fin 32) (l : Fin 128) :
    iblk m c 3 t (ix2 r l)
      = if l.val % 64 < 32 then -Ideal.sin (angle 0x42000000#32 8192#32 (l.val % 32))
        else Ideal.sin (angle 0x42000000#32 8192#32 (l.val % 32)) := by
  obtain ⟨e0, e1⟩ := idx3 t
  blk_simp [iblk]
  entry_read
  have e : ((View.whole main_v25).slice (win0_3.rect t)).emb (ix2 r l) = ix2 r l := by
    funext a; apply Fin.ext
    match a with
    | ⟨0, _⟩ => show win0_3.index t (0 : Fin 2) * 32 + 1 * r.val = r.val; rw [e0]; omega
    | ⟨1, _⟩ => show win0_3.index t (1 : Fin 2) * 128 + 1 * l.val = l.val; rw [e1]; omega
  rw [e]
  refine (table_apply _ _ _ l).trans ?_
  by_cases hl : l.val % 64 < 32
  · rw [dif_pos hl, if_pos hl, show l.val % 32 = l.val % 64 by omega]
    pointwise [angle]
  · rw [dif_neg hl, if_neg hl, show l.val % 32 = l.val % 64 - 32 by omega]
    pointwise [angle]

theorem blk0 (c : Dev nD) (t : Fin cfg0.N) (r : Fin 32) (d : Fin 2048) : iblk m c 0 t (ix2 r d) = h m c r d := by
  obtain ⟨e0, e1⟩ := idx0 t
  blk_simp [iblk]
  entry_read
  refine shapeCast_apply _ shapeCasts_S32x1x2048_S32x2048 _ (ix3 r 0 d) ?_
  rw [Shape.rowMajor_val_three, Shape.rowMajor_val_two]
  show (r.val * 1 + 0) * 2048 + d.val
    = (win0_0.index t (0 : Fin 2) * 32 + 1 * r.val) * 2048 + (win0_0.index t (1 : Fin 2) * 2048 + 1 * d.val)
  rw [e0, e1]; omega

theorem blkW (c : Dev nD) (t : Fin cfg0.N) (k : Fin 1024) (d : Fin 2048) : X0_1 m c t (ix2 k d) = w m c d (5120 + k.val) := by
  obtain ⟨e0, e1⟩ := idx1 t
  unfold X0_1 Pipeline.Window.fill
  rw [dif_pos (moved0_1 t _)]
  blk_simp [iblk]
  entry_read
  refine (transpose_apply _ _ transposes_S2048x6224_S6224x2048_1_0 _ (ix2 d ⟨5120 + k.val, by omega⟩) ?_).trans ?_
  · intro a
    match a with
    | ⟨0, _⟩ => show 5120 + k.val = win0_1.index t (0 : Fin 2) * 1024 + 1 * k.val; rw [e0]; omega
    | ⟨1, _⟩ => show d.val = win0_1.index t (1 : Fin 2) * 2048 + 1 * d.val; rw [e1]; omega
  · refine (shapeCast_apply _ shapeCasts_S1x2048x6224_S2048x6224 _ (ix3 0 d ⟨5120 + k.val, by omega⟩) ?_).trans ?_
    · rw [Shape.rowMajor_val_three, Shape.rowMajor_val_two]
      show (0 * 2048 + d.val) * 6224 + (5120 + k.val) = d.val * 6224 + (5120 + k.val)
      omega
    · exact congrArg (fun i => m ((c.tc : Thread nD τ).loc main_arg1) (ix3 0 d i))
        (Fin.ext (Nat.mod_eq_of_lt (show 5120 + k.val < 6224 by omega)).symm)

theorem payW_apply (x : Vec Ideal S1024x2048 .f32) (d : Fin 2048) (k : Fin 1024) : k0_pay1 x (ix2 d k) = x (ix2 k d) := by
  pointwise [k0_pay1]

theorem payM_apply (x : Vec Ideal S32x2048 .bf16) (y : Vec Ideal S2048x1024 .bf16) (r : Fin 32) (k : Fin 1024) :
    k0_pay2 x y (ix2 r k) = ∑ d : Fin 2048, x (ix2 r d) * y (ix2 d k) := by
  pointwise [k0_pay2]

/-- The product a point forms: its rows with the segment's columns. -/
def prod (c : Dev nD) (t : Fin cfg0.N) : FVec Ideal S32x1024 .f32 := k0_pay2 (iblk m c 0 t) (k0_pay1 (X0_1 m c t))

theorem prod_apply (c : Dev nD) (t : Fin cfg0.N) (r : Fin 32) (j : Fin 1024) :
    prod m c t (ix2 r j) = row (h m c) (w m c) r (5120 + j.val) := by
  unfold prod
  rw [payM_apply]
  exact Finset.sum_congr rfl fun d _ => congrArg₂ (· * ·) (blk0 m c t r d) ((payW_apply ..).trans (blkW m c t j d))

theorem out4_at (c : Dev nD) (t : Fin cfg0.N) (r : Fin 32) (j : Fin 1024) :
    (outsAt0 m c t) (ix2 r j)
      = lane (fun j => prod m c t (ix2 r j)) (fun l => iblk m c 2 t (ix2 r l))
          (fun l => iblk m c 3 t (ix2 r l)) j * Ideal.ofBits .f32 0x3F800000#32 := by
  unfold prod outsAt0
  frame_out
  canon_tiles x h
  all_goals open_payloads
  all_goals refine strip_bf16 _ _ _ _ _ x _ r j h0 ?_ (by decide)
  all_goals first | exact h1 | exact h1.trans (Nat.zero_add _).symm

/-- The lane of the rotation on a point's product is the rotary embedding of the row. -/
theorem lane_apply (c : Dev nD) (t : Fin cfg0.N) (r : Fin 32) (j : Fin 1024) :
    lane (fun j => prod m c t (ix2 r j)) (fun l => iblk m c 2 t (ix2 r l)) (fun l => iblk m c 3 t (ix2 r l)) j
      = rope 32 (fun n => row (h m c) (w m c) r (5120 + n)) (angle 0x42000000#32 8192#32) j.val := by
  unfold lane
  beta_reduce
  rw [prod_apply, prod_apply, cos_at, sin_at]
  dsimp only
  have e1 : j.val % 128 % 32 = j.val % 32 := by omega
  have e3 : j.val % 128 % 64 = j.val % 64 := by omega
  have e2 : (8192#32) = (8192#32) := rfl
  rw [e1, e2, e3]
  exact rope_lane32 (fun n => row (h m c) (w m c) r (5120 + n)) _ j.val _ rfl

/-- The result of window 4 at row `R`, column `j`. -/
def Out4 (c : Dev nD) : Buf (Elt Ideal) ((c.tc : Thread nD τ).loc main_v28) := fun i =>
  rope 32 (fun n => row (h m c) (w m c) (i 0) (5120 + n)) (angle 0x42000000#32 8192#32) (i 1).val

theorem arr4 (c : Dev nD) : (dats m 0 c).arrAt 4 cfg0.N = Out4 m c := by
  refine (dats m 0 c).arrAt_eq_of_covers 4 _ (by decide +kernel) fun t hf y => ?_
  blk_simp
  rw [after0_4]
  obtain ⟨e0, e1⟩ := idx4 t
  idx_vars y
  refine (out4_at m c t y0 y1).trans ((congrArg (· * _) (lane_apply m c t y0 y1)).trans ((congrArg (_ * ·) Ideal.ofBits_one_f32).trans ((mul_one _).trans ?_)))
  refine congrArg₂ (fun (R : Fin 32) (n : ℕ) => rope 32 (fun n => row (h m c) (w m c) R (5120 + n)) (angle 0x42000000#32 8192#32) n) (Fin.ext ?_) ?_
  · show y0.val = win0_4.index t (0 : Fin 2) * 32 + 1 * y0.val; rw [e0]; omega
  · show y1.val = win0_4.index t (1 : Fin 2) * 1024 + 1 * y1.val; rw [e1]; omega

end Cert.Kernel18Ideal.Qi

end
-- ==== Proof.QiSampleReference.lean ====
/-
  The reference's sample indexer queries read at an index.
-/
module

public import proofs.«01_k».proof.Proof.ProjSpec
public import proofs.«01_k».proof.Proof.Gen.Reference18Ideal.Read

@[expose] public section

set_option maxRecDepth 16384

noncomputable section

namespace Cert.Reference18Ideal.Qi

open Cert.Reference18Ideal Cert.Reference18Ideal.Gen Cert.Reference18Ideal.Read Cert.ProjSpec
open Idealize.ShloMosaic Idealize.ShloMosaic.TcCoe Idealize.SL.Sem

variable (a0 : (⟨S32x1x2048, .f32⟩ : BufTy).Contents (Elt Ideal)) (a1 : (⟨S1x2048x6224, .f32⟩ : BufTy).Contents (Elt Ideal))

/-- The rotary angles. -/
theorem ang_apply (p : Fin 1) (i : Fin 32) : val_main_v24 (F := Ideal) (ix2 p i) = angle 0x42000000#32 8192#32 i.val := by
  obtain rfl : p = 0 := Subsingleton.elim _ _
  pointwise [val_main_v24, val_main_v23, val_main_v22, val_main_v21, val_main_v20, val_main_v19, val_main_v18, val_main_v17, val_main_v16, val_main_v15, val_main_v14, val_main_v13, val_main_v12, val_main_v11, val_main_cst, val_main_cst_0, val_main_c, angle]
  rfl

/-- A row's feature `n` of the segment. -/
def feat (b : Fin 32) (p : Fin 1) (n : ℕ) : EReal := ∑ d : Fin 2048, a0 (ix3 b p d) * a1 (ix3 0 d (Fin.ofNat 6224 (5120 + n)))

theorem heads_apply (b : Fin 32) (p : Fin 1) (g : Fin 16) (l : Fin 64) :
    val_main_v10 (F := Ideal) a0 a1 (ix4 b p g l) = feat a0 a1 b p (g.val * 64 + l.val) := by
  obtain rfl : p = 0 := Subsingleton.elim _ _
  unfold val_main_v10 feat
  refine (shapeCast_apply _ shapeCasts_S32x1x1024_S32x1x16x64 _ (ix3 b 0 ⟨g.val * 64 + l.val, by omega⟩) ?_).trans ?_
  · rw [Shape.rowMajor_val_three, Shape.rowMajor_val_four]
    show (b.val * 1 + 0) * 1024 + (g.val * 64 + l.val) = ((b.val * 1 + 0) * 16 + g.val) * 64 + l.val
    omega
  · refine (show _ = ∑ d : Fin 2048, a0 (ix3 b 0 d) * a1 (ix3 0 d ⟨5120 + (g.val * 64 + l.val), by omega⟩) from by
      pointwise [val_main_v7, val_main_v1, val_main_v0]).trans ?_
    refine Finset.sum_congr rfl fun d _ => congrArg (fun n => a0 (ix3 b 0 d) * a1 (ix3 0 d n)) (Fin.ext ?_)
    exact (Nat.mod_eq_of_lt (show 5120 + (g.val * 64 + l.val) < 6224 by omega)).symm

theorem rope_apply (b : Fin 32) (p : Fin 1) (g : Fin 16) (l : Fin 64) :
    val_main_v41 (F := Ideal) a0 a1 (ix4 b p g l) = rope 32 (feat a0 a1 b p) (angle 0x42000000#32 8192#32) (g.val * 64 + l.val) := by
  obtain rfl : p = 0 := Subsingleton.elim _ _
  have hy := heads_apply a0 a1 b 0 g
  unfold val_main_v41 val_main_v40 val_main_v39 val_main_v37 val_main_v35 val_main_v34 val_main_v32 val_main_v30 val_main_v29
  generalize val_main_v10 (F := Ideal) a0 a1 = y at hy ⊢
  refine (show _ = (if hl : l.val < 32 then
      y (ix4 b 0 g ⟨l.val, by omega⟩) * Ideal.cos (val_main_v24 (F := Ideal) (ix2 0 ⟨l.val, hl⟩))
        - y (ix4 b 0 g ⟨32 + l.val, by omega⟩) * Ideal.sin (val_main_v24 (F := Ideal) (ix2 0 ⟨l.val, hl⟩))
    else y (ix4 b 0 g ⟨32 + (l.val - 32), by omega⟩) * Ideal.cos (val_main_v24 (F := Ideal) (ix2 0 ⟨l.val - 32, by omega⟩))
        + y (ix4 b 0 g ⟨l.val - 32, by omega⟩) * Ideal.sin (val_main_v24 (F := Ideal) (ix2 0 ⟨l.val - 32, by omega⟩)))
    from by pointwise [val_main_v38, val_main_v36, val_main_v33, val_main_v31, val_main_v28, val_main_v27, val_main_v26, val_main_v25]).trans ?_
  have hb := l.isLt
  unfold rope
  have e1 : (g.val * 64 + l.val) % (2 * 32) = l.val := by omega
  by_cases hl : l.val < 32
  · have e2 : (g.val * 64 + l.val) % 32 = l.val := by omega
    rw [dif_pos hl, if_pos (by omega), hy, hy, ang_apply, e2]
    dsimp only
    rw [show g.val * 64 + (32 + l.val) = g.val * 64 + l.val + 32 by omega]
  · have e2 : (g.val * 64 + l.val) % 32 = l.val - 32 := by omega
    rw [dif_neg hl, if_neg (by omega), hy, hy, ang_apply, e2]
    dsimp only
    rw [show g.val * 64 + (32 + (l.val - 32)) = g.val * 64 + l.val by omega,
      show g.val * 64 + (l.val - 32) = g.val * 64 + l.val - 32 by omega]

/-- The result at row `R`, column `j`. -/
theorem ref_apply (R : Fin 32) (j : Fin 1024) :
    val_main_v42 (F := Ideal) a0 a1 (ix2 R j)
      = rope 32 (fun n => row (fun R d => a0 (ix3 R 0 d)) (fun d n => a1 (ix3 0 d (Fin.ofNat 6224 n))) R (5120 + n))
          (angle 0x42000000#32 8192#32) j.val := by
  unfold val_main_v42
  refine (shapeCast_apply _ shapeCasts_S32x1x16x64_S32x1024 _ (ix4 R 0 ⟨j.val / 64, by omega⟩ ⟨j.val % 64, by omega⟩) ?_).trans ?_
  · rw [Shape.rowMajor_val_four, Shape.rowMajor_val_two]
    show ((R.val * 1 + 0) * 16 + j.val / 64) * 64 + j.val % 64 = R.val * 1024 + j.val
    omega
  · refine (rope_apply ..).trans ?_
    show rope 32 _ _ (j.val / 64 * 64 + j.val % 64) = _
    rw [show j.val / 64 * 64 + j.val % 64 = j.val by omega]
    rfl

theorem narrow_apply (R : Fin 32) (j : Fin 1024) : val_main_v43 (F := Ideal) a0 a1 (ix2 R j) = val_main_v42 (F := Ideal) a0 a1 (ix2 R j) := by
  unfold val_main_v43
  rfl

end Cert.Reference18Ideal.Qi

end
-- ==== Proof.OutSpec.lean ====
/-
  The output projection with its residual and the norm before the feed-forward block, over the extended reals, as plain
  functions of the coordinates.
-/
module

public import proofs.«01_k».proof.Proof.MlpSpec

@[expose] public section

noncomputable section

namespace Cert.OutSpec

open Idealize.ShloMosaic Cert.MlpSpec

variable {M : ℕ}

/-- Entry `(R, j)` of the product of the rows `a` and `b`, laid side by side, with `w`: `a` meets the first half of `w`'s
    rows and `b` the second. -/
def both (a b : Fin M → Fin 1024 → EReal) (w : Fin 2048 → Fin 2048 → EReal) (R : Fin M) (j : Fin 2048) : EReal :=
  (∑ d : Fin 1024, a R d * w ⟨d.val, by omega⟩ j) + ∑ d : Fin 1024, b R d * w ⟨1024 + d.val, by omega⟩ j

/-- A sum over both halves is the sum of the two sums. -/
theorem sum_halves (f : Fin 2048 → EReal) :
    ∑ d : Fin 2048, f d = (∑ d : Fin 1024, f ⟨d.val, by omega⟩) + ∑ d : Fin 1024, f ⟨1024 + d.val, by omega⟩ :=
  Fin.sum_univ_add (M := EReal) (a := 1024) (b := 1024) f

/-- The residual row: `x` plus the gated product. -/
def mid (a b : Fin M → Fin 1024 → EReal) (w : Fin 2048 → Fin 2048 → EReal) (x gate : Fin M → Fin 2048 → EReal)
    (R : Fin M) (j : Fin 2048) : EReal := x R j + gate R j * both a b w R j

/-- The norm of a row `y`, scaled by one plus `scale` and shifted. -/
def normed (y gain scale shift : Fin 2048 → EReal) (j : Fin 2048) : EReal :=
  rms (Ideal.ofBits .f32 0x45000000#32) (Ideal.ofBits .f32 0x358637BD#32) y gain j * (1 + scale j) + shift j

end Cert.OutSpec

end
-- ==== Proof.OutPromptKernel.lean ====
/-
  The output projection's kernel (the prompt) read at an index. The grid runs over 16 tiles of 512 rows. A tile's residual rows are stored and
  read back for the norm.
-/
module

public import proofs.«01_k».proof.Proof.OutSpec
public import proofs.«01_k».proof.Proof.Gen.Kernel9Ideal.Value
public import Idealize.ShloMosaic.Lib.Pipeline.ValueKit
public import Idealize.ShloMosaic.Lib.Pipeline.ReadBack

@[expose] public section

set_option maxRecDepth 16384

noncomputable section

namespace Cert.Kernel9Ideal.Out

open Cert.Kernel9Ideal Cert.Kernel9Ideal.Gen Cert.Kernel9Ideal.Value Cert.OutSpec Cert.MlpSpec
open Idealize.ShloMosaic Idealize.ShloMosaic.TcCoe Idealize.SL.Sem

variable (m : (ℓ : Loc nD τ sig) → Buf (Elt Ideal) ℓ)

/-! ## The arguments by coordinates, row `R` being position `R % 4096` of batch `R / 4096` -/

def a (c : Dev nD) (R : Fin 8192) (d : Fin 1024) : EReal := m ((c.tc : Thread nD τ).loc main_arg0) (ix3 ⟨R.val / 4096, by omega⟩ ⟨R.val % 4096, by omega⟩ d)
def b (c : Dev nD) (R : Fin 8192) (d : Fin 1024) : EReal := m ((c.tc : Thread nD τ).loc main_arg1) (ix3 ⟨R.val / 4096, by omega⟩ ⟨R.val % 4096, by omega⟩ d)
def w (c : Dev nD) (d : Fin 2048) (j : Fin 2048) : EReal := m ((c.tc : Thread nD τ).loc main_arg2) (ix3 0 d j)
def x (c : Dev nD) (R : Fin 8192) (d : Fin 2048) : EReal := m ((c.tc : Thread nD τ).loc main_arg3) (ix3 ⟨R.val / 4096, by omega⟩ ⟨R.val % 4096, by omega⟩ d)
def gate (c : Dev nD) (R : Fin 8192) (d : Fin 2048) : EReal := m ((c.tc : Thread nD τ).loc main_arg4) (ix3 ⟨R.val / 4096, by omega⟩ 0 d)
def gain (c : Dev nD) (d : Fin 2048) : EReal := m ((c.tc : Thread nD τ).loc main_arg5) (ix2 0 d)
def shift (c : Dev nD) (R : Fin 8192) (d : Fin 2048) : EReal := m ((c.tc : Thread nD τ).loc main_arg6) (ix3 ⟨R.val / 4096, by omega⟩ 0 d)
def scale (c : Dev nD) (R : Fin 8192) (d : Fin 2048) : EReal := m ((c.tc : Thread nD τ).loc main_arg7) (ix3 ⟨R.val / 4096, by omega⟩ 0 d)

/-! ## The blocks -/

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = t.val % 16 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val % 16 ∧ win0_3.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx8 : ∀ t : Fin cfg0.N, win0_8.index t (0 : Fin 2) = t.val % 16 ∧ win0_8.index t (1 : Fin 2) = 0 :=
  (by decide +kernel : ∀ t : Fin grid0.N, _)
theorem idx9 : ∀ t : Fin cfg0.N, win0_9.index t (0 : Fin 2) = t.val % 16 ∧ win0_9.index t (1 : Fin 2) = 0 :=
  (by decide +kernel : ∀ t : Fin grid0.N, _)
theorem idx4 : ∀ t : Fin cfg0.N, win0_4.index t (0 : Fin 3) = t.val % 16 / 8 ∧ win0_4.index t (1 : Fin 3) = 0 ∧ win0_4.index t (2 : Fin 3) = 0 :=
  (by decide +kernel : ∀ t : Fin grid0.N, _)
theorem idx6 : ∀ t : Fin cfg0.N, win0_6.index t (0 : Fin 3) = t.val % 16 / 8 ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val % 16 / 8 ∧ win0_7.index t (1 : Fin 3) = 0 ∧ win0_7.index t (2 : Fin 3) = 0 :=
  (by decide +kernel : ∀ t : Fin grid0.N, _)

theorem blk0 (c : Dev nD) (t : Fin cfg0.N) (r : Fin 512) (d : Fin 1024) :
    iblk m c 0 t (ix2 r d) = a m c ⟨t.val % 16 * 512 + r.val, by omega⟩ d := by
  obtain ⟨e0, e1⟩ := idx0 t
  blk_simp [iblk]
  entry_read
  refine shapeCast_apply _ shapeCasts_S2x4096x1024_S8192x1024 _ (ix3 ⟨(t.val % 16 * 512 + r.val) / 4096, by omega⟩ ⟨(t.val % 16 * 512 + r.val) % 4096, by omega⟩ d) ?_
  rw [Shape.rowMajor_val_three, Shape.rowMajor_val_two]
  show ((t.val % 16 * 512 + r.val) / 4096 * 4096 + (t.val % 16 * 512 + r.val) % 4096) * 1024 + d.val
    = (win0_0.index t (0 : Fin 2) * 512 + 1 * r.val) * 1024 + (win0_0.index t (1 : Fin 2) * 1024 + 1 * d.val)
  rw [e0, e1]; omega

theorem blk1 (c : Dev nD) (t : Fin cfg0.N) (r : Fin 512) (d : Fin 1024) :
    iblk m c 1 t (ix2 r d) = b m c ⟨t.val % 16 * 512 + r.val, by omega⟩ d := by
  obtain ⟨e0, e1⟩ := idx1 t
  blk_simp [iblk]
  entry_read
  refine shapeCast_apply _ shapeCasts_S2x4096x1024_S8192x1024 _ (ix3 ⟨(t.val % 16 * 512 + r.val) / 4096, by omega⟩ ⟨(t.val % 16 * 512 + r.val) % 4096, by omega⟩ d) ?_
  rw [Shape.rowMajor_val_three, Shape.rowMajor_val_two]
  show ((t.val % 16 * 512 + r.val) / 4096 * 4096 + (t.val % 16 * 512 + r.val) % 4096) * 1024 + d.val
    = (win0_1.index t (0 : Fin 2) * 512 + 1 * r.val) * 1024 + (win0_1.index t (1 : Fin 2) * 1024 + 1 * d.val)
  rw [e0, e1]; omega

theorem blk3 (c : Dev nD) (t : Fin cfg0.N) (r : Fin 512) (d : Fin 2048) :
    iblk m c 3 t (ix2 r d) = x m c ⟨t.val % 16 * 512 + r.val, by omega⟩ d := by
  obtain ⟨e0, e1⟩ := idx3 t
  blk_simp [iblk]
  entry_read
  refine shapeCast_apply _ shapeCasts_S2x4096x2048_S8192x2048 _ (ix3 ⟨(t.val % 16 * 512 + r.val) / 4096, by omega⟩ ⟨(t.val % 16 * 512 + r.val) % 4096, by omega⟩ d) ?_
  rw [Shape.rowMajor_val_three, Shape.rowMajor_val_two]
  show ((t.val % 16 * 512 + r.val) / 4096 * 4096 + (t.val % 16 * 512 + r.val) % 4096) * 2048 + d.val
    = (win0_3.index t (0 : Fin 2) * 512 + 1 * r.val) * 2048 + (win0_3.index t (1 : Fin 2) * 2048 + 1 * d.val)
  rw [e0, e1]; omega

theorem blk4 (c : Dev nD) (t : Fin cfg0.N) (r : Fin 512) (d : Fin 2048) :
    iblk m c 4 t (ix3 0 0 d) = gate m c ⟨t.val % 16 * 512 + r.val, by omega⟩ d := by
  obtain ⟨e0, e1, e2⟩ := idx4 t
  blk_simp [iblk]
  refine (congrFun (V_main_arg4 m c) _).trans (congrArg (m ((c.tc : Thread nD τ).loc main_arg4)) ?_)
  funext a; apply Fin.ext
  match a with
  | ⟨0, _⟩ => show win0_4.index t (0 : Fin 3) * 1 + 1 * 0 = (t.val % 16 * 512 + r.val) / 4096; rw [e0]; omega
  | ⟨1, _⟩ => show win0_4.index t (1 : Fin 3) * 1 + 1 * 0 = 0; rw [e1]
  | ⟨2, _⟩ => show win0_4.index t (2 : Fin 3) * 2048 + 1 * d.val = d.val; rw [e2]; omega

theorem blk6 (c : Dev nD) (t : Fin cfg0.N) (r : Fin 512) (d : Fin 2048) :
    iblk m c 6 t (ix3 0 0 d) = shift m c ⟨t.val % 16 * 512 + r.val, by omega⟩ d := by
  obtain ⟨e0, e1, e2⟩ := idx6 t
  blk_simp [iblk]
  refine (congrFun (V_main_arg6 m c) _).trans (congrArg (m ((c.tc : Thread nD τ).loc main_arg6)) ?_)
  funext a; apply Fin.ext
  match a with
  | ⟨0, _⟩ => show win0_6.index t (0 : Fin 3) * 1 + 1 * 0 = (t.val % 16 * 512 + r.val) / 4096; rw [e0]; omega
  | ⟨1, _⟩ => show win0_6.index t (1 : Fin 3) * 1 + 1 * 0 = 0; rw [e1]
  | ⟨2, _⟩ => show win0_6.index t (2 : Fin 3) * 2048 + 1 * d.val = d.val; rw [e2]; omega

theorem blk7 (c : Dev nD) (t : Fin cfg0.N) (r : Fin 512) (d : Fin 2048) :
    iblk m c 7 t (ix3 0 0 d) = scale m c ⟨t.val % 16 * 512 + r.val, by omega⟩ d := by
  obtain ⟨e0, e1, e2⟩ := idx7 t
  blk_simp [iblk]
  refine (congrFun (V_main_arg7 m c) _).trans (congrArg (m ((c.tc : Thread nD τ).loc main_arg7)) ?_)
  funext a; apply Fin.ext
  match a with
  | ⟨0, _⟩ => show win0_7.index t (0 : Fin 3) * 1 + 1 * 0 = (t.val % 16 * 512 + r.val) / 4096; rw [e0]; omega
  | ⟨1, _⟩ => show win0_7.index t (1 : Fin 3) * 1 + 1 * 0 = 0; rw [e1]
  | ⟨2, _⟩ => show win0_7.index t (2 : Fin 3) * 2048 + 1 * d.val = d.val; rw [e2]; omega

theorem blk2 (c : Dev nD) (t : Fin cfg0.N) (d : Fin 2048) (j : Fin 2048) : iblk m c 2 t (ix2 d j) = w m c d j := by
  obtain ⟨e0, e1⟩ := idx2 t
  blk_simp [iblk]
  entry_read
  refine shapeCast_apply _ shapeCasts_S1x2048x2048_S2048x2048 _ (ix3 0 d j) ?_
  rw [Shape.rowMajor_val_three, Shape.rowMajor_val_two]
  show (0 * 2048 + d.val) * 2048 + j.val
    = (win0_2.index t (0 : Fin 2) * 2048 + 1 * d.val) * 2048 + (win0_2.index t (1 : Fin 2) * 2048 + 1 * j.val)
  rw [e0, e1]; omega

theorem blk5 (c : Dev nD) (t : Fin cfg0.N) (d : Fin 2048) : iblk m c 5 t (ix2 0 d) = gain m c d := by
  obtain ⟨e0, e1⟩ := idx5 t
  blk_simp [iblk]
  entry_read
  refine (shapeCast_apply _ shapeCasts_S2048_S1x2048 _ (ix1 d) ?_).trans (shapeCast_apply _ shapeCasts_S1x2048_S2048 _ (ix2 0 d) ?_)
  · rw [Shape.rowMajor_val_one, Shape.rowMajor_val_two]
    show d.val = (win0_5.index t (0 : Fin 2) * 1 + 1 * 0) * 2048 + (win0_5.index t (1 : Fin 2) * 2048 + 1 * d.val)
    rw [e0, e1]; omega
  · rw [Shape.rowMajor_val_one, Shape.rowMajor_val_two]
    show 0 * 2048 + d.val = d.val
    omega

/-! ## The payloads -/

theorem pay2_apply (a b : Vec Ideal S512x1024 .bf16) (u v : Vec Ideal S1024x2048 .bf16) (x : Vec Ideal S512x2048 .f32) (g : Vec Ideal S1x1x2048 .f32)
    (r : Fin 512) (j : Fin 2048) :
    k0_pay2 a u b v x g (ix2 r j)
      = x (ix2 r j) + g (ix3 0 0 j) * ((∑ d : Fin 1024, a (ix2 r d) * u (ix2 d j)) + ∑ d : Fin 1024, b (ix2 r d) * v (ix2 d j)) := by
  pointwise [k0_pay2]

theorem payN_apply (y : Vec Ideal S512x2048 .f32) (n : Vec Ideal S1x2048 .f32) (s t : Vec Ideal S1x1x2048 .f32) (r : Fin 512) (j : Fin 2048) :
    k0_pay1 (k0_pay3 y) (k0_pay4 n) s t (ix2 r j)
      = normed (fun d => y (ix2 r d)) (fun d => n (ix2 0 d)) (fun d => s (ix3 0 0 d)) (fun d => t (ix3 0 0 d)) j := by
  pointwise [k0_pay1, k0_pay3, k0_pay4, normed, rms]

/-! ## What each point leaves -/

/-- The first half of the weights' rows. -/
theorem lo (W : Vec Ideal S2048x2048 .bf16) (d : Fin 1024) (j : Fin 2048) :
    View.ld W (Rect.unit ![0, 0] ![1024, 2048] inb_S2048x2048_S1024x2048_0_0) (ix2 d j) = W (ix2 ⟨d.val, by omega⟩ j) := by
  refine (View.ld_apply W _ _).trans (congrArg W ?_)
  funext a; apply Fin.ext
  match a with
  | ⟨0, _⟩ => show 0 + 1 * d.val = d.val; omega
  | ⟨1, _⟩ => show 0 + 1 * j.val = j.val; omega

/-- The second half. -/
theorem hi (W : Vec Ideal S2048x2048 .bf16) (d : Fin 1024) (j : Fin 2048) :
    View.ld W (Rect.unit ![1024, 0] ![1024, 2048] inb_S2048x2048_S1024x2048_1024_0) (ix2 d j) = W (ix2 ⟨1024 + d.val, by omega⟩ j) := by
  refine (View.ld_apply W _ _).trans (congrArg W ?_)
  funext a; apply Fin.ext
  match a with
  | ⟨0, _⟩ => show 1024 + 1 * d.val = 1024 + d.val; omega
  | ⟨1, _⟩ => show 0 + 1 * j.val = j.val; omega

/-- The residual rows a point forms. -/
def res (c : Dev nD) (t : Fin cfg0.N) : FVec Ideal S512x2048 .f32 :=
  k0_pay2 (iblk m c 0 t) (View.ld (iblk m c 2 t) (Rect.unit ![0, 0] ![1024, 2048] inb_S2048x2048_S1024x2048_0_0))
    (iblk m c 1 t) (View.ld (iblk m c 2 t) (Rect.unit ![1024, 0] ![1024, 2048] inb_S2048x2048_S1024x2048_1024_0))
    (iblk m c 3 t) (iblk m c 4 t)

theorem res_apply (c : Dev nD) (t : Fin cfg0.N) (r : Fin 512) (j : Fin 2048) :
    res m c t (ix2 r j) = mid (a m c) (b m c) (w m c) (x m c) (gate m c) ⟨t.val % 16 * 512 + r.val, by omega⟩ j := by
  unfold res
  refine (pay2_apply ..).trans ?_
  unfold mid both
  refine congrArg₂ (· + ·) (blk3 m c t r j) (congrArg₂ (· * ·) (blk4 m c t r j) (congrArg₂ (· + ·) ?_ ?_))
  · exact Finset.sum_congr rfl fun d _ => congrArg₂ (· * ·) (blk0 m c t r d) ((lo ..).trans (blk2 ..))
  · exact Finset.sum_congr rfl fun d _ => congrArg₂ (· * ·) (blk1 m c t r d) ((hi ..).trans (blk2 ..))

theorem out8_at (c : Dev nD) (t : Fin cfg0.N) (r : Fin 512) (j : Fin 2048) :
    (outsAt0 m c t).1 (ix2 r j) = mid (a m c) (b m c) (w m c) (x m c) (gate m c) ⟨t.val % 16 * 512 + r.val, by omega⟩ j := by
  refine Eq.trans ?_ (res_apply m c t r j)
  unfold res outsAt0
  dsimp only
  frame_out
  rfl

theorem out9_at (c : Dev nD) (t : Fin cfg0.N) (r : Fin 512) (j : Fin 2048) :
    (outsAt0 m c t).2 (ix2 r j)
      = normed (mid (a m c) (b m c) (w m c) (x m c) (gate m c) ⟨t.val % 16 * 512 + r.val, by omega⟩) (gain m c) (scale m c ⟨t.val % 16 * 512 + r.val, by omega⟩) (shift m c ⟨t.val % 16 * 512 + r.val, by omega⟩) j := by
  refine (show _ = k0_pay1 (k0_pay3 (res m c t)) (k0_pay4 (iblk m c 5 t)) (iblk m c 7 t) (iblk m c 6 t) (ix2 r j) from by
    unfold res outsAt0
    dsimp only
    frame_out
    rfl).trans ((payN_apply ..).trans ?_)
  simp only [res_apply, blk5]
  have es : (fun d => iblk m c 7 t (ix3 0 0 d)) = scale m c ⟨t.val % 16 * 512 + r.val, by omega⟩ := funext fun d => blk7 m c t r d
  have et : (fun d => iblk m c 6 t (ix3 0 0 d)) = shift m c ⟨t.val % 16 * 512 + r.val, by omega⟩ := funext fun d => blk6 m c t r d
  rw [es, et]

/-- The residual rows. -/
def Out8 (c : Dev nD) : Buf (Elt Ideal) ((c.tc : Thread nD τ).loc main_v9_0) := fun i =>
  mid (a m c) (b m c) (w m c) (x m c) (gate m c) (i 0) (i 1)

/-- The normalised rows. -/
def Out9 (c : Dev nD) : Buf (Elt Ideal) ((c.tc : Thread nD τ).loc main_v9_1) := fun i =>
  normed (mid (a m c) (b m c) (w m c) (x m c) (gate m c) (i 0)) (gain m c) (scale m c (i 0)) (shift m c (i 0)) (i 1)

theorem arr8 (c : Dev nD) : (dats m 0 c).arrAt 8 cfg0.N = Out8 m c := by
  refine (dats m 0 c).arrAt_eq_of_covers 8 _ (by decide +kernel) fun t hf y => ?_
  blk_simp
  rw [after0_8]
  obtain ⟨e0, e1⟩ := idx8 t
  idx_vars y
  refine (out8_at m c t y0 y1).trans ?_
  refine congrArg₂ (fun (R : Fin 8192) (n : Fin 2048) => mid (a m c) (b m c) (w m c) (x m c) (gate m c) R n) (Fin.ext ?_) (Fin.ext ?_)
  · show t.val % 16 * 512 + y0.val = win0_8.index t (0 : Fin 2) * 512 + 1 * y0.val; rw [e0]; omega
  · show y1.val = win0_8.index t (1 : Fin 2) * 2048 + 1 * y1.val; rw [e1]; omega

theorem arr9 (c : Dev nD) : (dats m 0 c).arrAt 9 cfg0.N = Out9 m c := by
  refine (dats m 0 c).arrAt_eq_of_covers 9 _ (by decide +kernel) fun t hf y => ?_
  blk_simp
  rw [after0_9]
  obtain ⟨e0, e1⟩ := idx9 t
  idx_vars y
  refine (out9_at m c t y0 y1).trans ?_
  refine congrArg₂ (fun (R : Fin 8192) (n : Fin 2048) =>
    normed (mid (a m c) (b m c) (w m c) (x m c) (gate m c) R) (gain m c) (scale m c R) (shift m c R) n) (Fin.ext ?_) (Fin.ext ?_)
  · show t.val % 16 * 512 + y0.val = win0_9.index t (0 : Fin 2) * 512 + 1 * y0.val; rw [e0]; omega
  · show y1.val = win0_9.index t (1 : Fin 2) * 2048 + 1 * y1.val; rw [e1]; omega

end Cert.Kernel9Ideal.Out

end
-- ==== Proof.OutPromptReference.lean ====
/-
  The reference's output projection (the prompt) read at an index.
-/
module

public import proofs.«01_k».proof.Proof.OutSpec
public import proofs.«01_k».proof.Proof.Gen.Reference9Ideal.Read

@[expose] public section

set_option maxRecDepth 16384

noncomputable section

namespace Cert.Reference9Ideal.Out

open Cert.Reference9Ideal Cert.Reference9Ideal.Gen Cert.Reference9Ideal.Read Cert.OutSpec Cert.MlpSpec
open Idealize.ShloMosaic Idealize.ShloMosaic.TcCoe Idealize.SL.Sem

variable (a0 a1 : (⟨S2x4096x1024, .f32⟩ : BufTy).Contents (Elt Ideal)) (a2 : (⟨S1x2048x2048, .f32⟩ : BufTy).Contents (Elt Ideal))
  (a3 : (⟨S2x4096x2048, .f32⟩ : BufTy).Contents (Elt Ideal)) (a4 : (⟨S2x1x2048, .f32⟩ : BufTy).Contents (Elt Ideal))
  (a5 : (⟨S1x2048, .f32⟩ : BufTy).Contents (Elt Ideal)) (a6 a7 : (⟨S2x1x2048, .f32⟩ : BufTy).Contents (Elt Ideal))

/-- The first half of the rows laid side by side. -/
theorem cat_lo (b : Fin 2) (p : Fin 4096) (d : Fin 1024) : val_main_v0 (F := Ideal) a0 a1 (ix3 b p ⟨d.val, by omega⟩) = a0 (ix3 b p d) := by
  pointwise [val_main_v0]

/-- The second half. -/
theorem cat_hi (b : Fin 2) (p : Fin 4096) (d : Fin 1024) : val_main_v0 (F := Ideal) a0 a1 (ix3 b p ⟨1024 + d.val, by omega⟩) = a1 (ix3 b p d) := by
  pointwise [val_main_v0]

/-- The product of the rows laid side by side. -/
theorem dot_apply (b : Fin 2) (p : Fin 4096) (j : Fin 2048) :
    val_main_v2 (F := Ideal) a0 a1 a2 (ix3 b p j)
      = (∑ d : Fin 1024, a0 (ix3 b p d) * a2 (ix3 0 ⟨d.val, by omega⟩ j)) + ∑ d : Fin 1024, a1 (ix3 b p d) * a2 (ix3 0 ⟨1024 + d.val, by omega⟩ j) := by
  refine (show _ = ∑ d : Fin 2048, val_main_v0 (F := Ideal) a0 a1 (ix3 b p d) * a2 (ix3 0 d j) from by
    unfold val_main_v2; generalize val_main_v0 (F := Ideal) a0 a1 = y; pointwise [val_main_v1]).trans ?_
  rw [sum_halves]
  simp only [cat_lo, cat_hi]

/-- The residual rows at a position. -/
theorem v5_apply (b : Fin 2) (p : Fin 4096) (j : Fin 2048) :
    val_main_v5 (F := Ideal) a0 a1 a2 a3 a4 (ix3 b p j) = a3 (ix3 b p j) + a4 (ix3 b 0 j)
      * ((∑ d : Fin 1024, a0 (ix3 b p d) * a2 (ix3 0 ⟨d.val, by omega⟩ j)) + ∑ d : Fin 1024, a1 (ix3 b p d) * a2 (ix3 0 ⟨1024 + d.val, by omega⟩ j)) := by
  rw [← dot_apply]
  unfold val_main_v5 val_main_v4
  generalize val_main_v2 (F := Ideal) a0 a1 a2 = y
  pointwise [val_main_v3]

/-- The normalised rows at a position. -/
theorem v25_apply (b : Fin 2) (p : Fin 4096) (j : Fin 2048) :
    val_main_v25 (F := Ideal) a0 a1 a2 a3 a4 a5 a6 a7 (ix3 b p j)
      = normed (fun d => val_main_v5 (F := Ideal) a0 a1 a2 a3 a4 (ix3 b p d)) (fun d => a5 (ix2 0 d)) (fun d => a7 (ix3 b 0 d)) (fun d => a6 (ix3 b 0 d)) j := by
  unfold val_main_v25 val_main_v23 val_main_v19 val_main_v16 val_main_v15 val_main_v14 val_main_v13 val_main_v11 val_main_v9 val_main_v8 val_main_v7
  generalize val_main_v5 (F := Ideal) a0 a1 a2 a3 a4 = y
  pointwise [val_main_v18, val_main_v17, val_main_v6, val_main_v10, val_main_v12, val_main_v22, val_main_v21, val_main_v20, val_main_v24, val_main_cst_2, val_main_cst, val_main_cst_0, val_main_cst_1, normed, rms]

/-- The residual rows: row `R`, feature `j`. -/
theorem ref_apply (R : Fin 8192) (j : Fin 2048) :
    val_main_v26 (F := Ideal) a0 a1 a2 a3 a4 (ix2 R j)
      = mid (fun R d => a0 (ix3 ⟨R.val / 4096, by omega⟩ ⟨R.val % 4096, by omega⟩ d)) (fun R d => a1 (ix3 ⟨R.val / 4096, by omega⟩ ⟨R.val % 4096, by omega⟩ d)) (fun d j => a2 (ix3 0 d j)) (fun R d => a3 (ix3 ⟨R.val / 4096, by omega⟩ ⟨R.val % 4096, by omega⟩ d)) (fun R d => a4 (ix3 ⟨R.val / 4096, by omega⟩ 0 d)) R j := by
  unfold val_main_v26
  refine (shapeCast_apply _ shapeCasts_S2x4096x2048_S8192x2048 _ (ix3 ⟨R.val / 4096, by omega⟩ ⟨R.val % 4096, by omega⟩ j) ?_).trans ?_
  · rw [Shape.rowMajor_val_three, Shape.rowMajor_val_two]
    show (R.val / 4096 * 4096 + R.val % 4096) * 2048 + j.val = R.val * 2048 + j.val
    omega
  · exact v5_apply ..

/-- The normalised rows: row `R`, feature `j`. -/
theorem norm_apply (R : Fin 8192) (j : Fin 2048) :
    val_main_v28 (F := Ideal) a0 a1 a2 a3 a4 a5 a6 a7 (ix2 R j)
      = normed (mid (fun R d => a0 (ix3 ⟨R.val / 4096, by omega⟩ ⟨R.val % 4096, by omega⟩ d)) (fun R d => a1 (ix3 ⟨R.val / 4096, by omega⟩ ⟨R.val % 4096, by omega⟩ d)) (fun d j => a2 (ix3 0 d j)) (fun R d => a3 (ix3 ⟨R.val / 4096, by omega⟩ ⟨R.val % 4096, by omega⟩ d)) (fun R d => a4 (ix3 ⟨R.val / 4096, by omega⟩ 0 d)) R) (fun d => a5 (ix2 0 d)) (fun d => a7 (ix3 ⟨R.val / 4096, by omega⟩ 0 d)) (fun d => a6 (ix3 ⟨R.val / 4096, by omega⟩ 0 d)) j := by
  refine (show _ = val_main_v27 (F := Ideal) a0 a1 a2 a3 a4 a5 a6 a7 (ix2 R j) from rfl).trans ?_
  unfold val_main_v27
  refine (shapeCast_apply _ shapeCasts_S2x4096x2048_S8192x2048 _ (ix3 ⟨R.val / 4096, by omega⟩ ⟨R.val % 4096, by omega⟩ j) ?_).trans ?_
  · rw [Shape.rowMajor_val_three, Shape.rowMajor_val_two]
    show (R.val / 4096 * 4096 + R.val % 4096) * 2048 + j.val = R.val * 2048 + j.val
    omega
  · rw [v25_apply]
    simp only [v5_apply]
    rfl

end Cert.Reference9Ideal.Out

end
-- ==== Proof.OutSampleKernel.lean ====
/-
  The output projection's kernel (the sample) read at an index. One point does all 32 rows. A tile's residual rows are stored and
  read back for the norm.
-/
module

public import proofs.«01_k».proof.Proof.OutSpec
public import proofs.«01_k».proof.Proof.Gen.Kernel17Ideal.Value
public import Idealize.ShloMosaic.Lib.Pipeline.ValueKit
public import Idealize.ShloMosaic.Lib.Pipeline.ReadBack

@[expose] public section

set_option maxRecDepth 16384

noncomputable section

namespace Cert.Kernel17Ideal.Out

open Cert.Kernel17Ideal Cert.Kernel17Ideal.Gen Cert.Kernel17Ideal.Value Cert.OutSpec Cert.MlpSpec
open Idealize.ShloMosaic Idealize.ShloMosaic.TcCoe Idealize.SL.Sem

variable (m : (ℓ : Loc nD τ sig) → Buf (Elt Ideal) ℓ)

/-! ## The arguments by coordinates -/

def a (c : Dev nD) (R : Fin 32) (d : Fin 1024) : EReal := m ((c.tc : Thread nD τ).loc main_arg0) (ix3 R 0 d)
def b (c : Dev nD) (R : Fin 32) (d : Fin 1024) : EReal := m ((c.tc : Thread nD τ).loc main_arg1) (ix3 R 0 d)
def w (c : Dev nD) (d : Fin 2048) (j : Fin 2048) : EReal := m ((c.tc : Thread nD τ).loc main_arg2) (ix3 0 d j)
def x (c : Dev nD) (R : Fin 32) (d : Fin 2048) : EReal := m ((c.tc : Thread nD τ).loc main_arg3) (ix3 R 0 d)
def gate (c : Dev nD) (R : Fin 32) (d : Fin 2048) : EReal := m ((c.tc : Thread nD τ).loc main_arg4) (ix2 R d)
def gain (c : Dev nD) (d : Fin 2048) : EReal := m ((c.tc : Thread nD τ).loc main_arg5) (ix2 0 d)
def shift (c : Dev nD) (R : Fin 32) (d : Fin 2048) : EReal := m ((c.tc : Thread nD τ).loc main_arg6) (ix2 R d)
def scale (c : Dev nD) (R : Fin 32) (d : Fin 2048) : EReal := m ((c.tc : Thread nD τ).loc main_arg7) (ix2 R d)

/-! ## The blocks -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

theorem blk0 (c : Dev nD) (t : Fin cfg0.N) (r : Fin 32) (d : Fin 1024) : iblk m c 0 t (ix2 r d) = a m c r d := by
  obtain ⟨e0, e1⟩ := idx0 t
  blk_simp [iblk]
  entry_read
  refine shapeCast_apply _ shapeCasts_S32x1x1024_S32x1024 _ (ix3 r 0 d) ?_
  rw [Shape.rowMajor_val_three, Shape.rowMajor_val_two]
  show (r.val * 1 + 0) * 1024 + d.val
    = (win0_0.index t (0 : Fin 2) * 32 + 1 * r.val) * 1024 + (win0_0.index t (1 : Fin 2) * 1024 + 1 * d.val)
  rw [e0, e1]; omega

theorem blk1 (c : Dev nD) (t : Fin cfg0.N) (r : Fin 32) (d : Fin 1024) : iblk m c 1 t (ix2 r d) = b m c r d := by
  obtain ⟨e0, e1⟩ := idx1 t
  blk_simp [iblk]
  entry_read
  refine shapeCast_apply _ shapeCasts_S32x1x1024_S32x1024 _ (ix3 r 0 d) ?_
  rw [Shape.rowMajor_val_three, Shape.rowMajor_val_two]
  show (r.val * 1 + 0) * 1024 + d.val
    = (win0_1.index t (0 : Fin 2) * 32 + 1 * r.val) * 1024 + (win0_1.index t (1 : Fin 2) * 1024 + 1 * d.val)
  rw [e0, e1]; omega

theorem blk3 (c : Dev nD) (t : Fin cfg0.N) (r : Fin 32) (d : Fin 2048) : iblk m c 3 t (ix2 r d) = x m c r d := by
  obtain ⟨e0, e1⟩ := idx3 t
  blk_simp [iblk]
  entry_read
  refine shapeCast_apply _ shapeCasts_S32x1x2048_S32x2048 _ (ix3 r 0 d) ?_
  rw [Shape.rowMajor_val_three, Shape.rowMajor_val_two]
  show (r.val * 1 + 0) * 2048 + d.val
    = (win0_3.index t (0 : Fin 2) * 32 + 1 * r.val) * 2048 + (win0_3.index t (1 : Fin 2) * 2048 + 1 * d.val)
  rw [e0, e1]; omega

theorem blk4 (c : Dev nD) (t : Fin cfg0.N) (r : Fin 32) (d : Fin 2048) : iblk m c 4 t (ix2 r d) = gate m c r d := by
  obtain ⟨e0, e1⟩ := idx4 t
  blk_simp [iblk]
  refine (congrFun (V_main_arg4 m c) _).trans (congrArg (m ((c.tc : Thread nD τ).loc main_arg4)) ?_)
  funext a; apply Fin.ext
  match a with
  | ⟨0, _⟩ => show win0_4.index t (0 : Fin 2) * 32 + 1 * r.val = r.val; rw [e0]; omega
  | ⟨1, _⟩ => show win0_4.index t (1 : Fin 2) * 2048 + 1 * d.val = d.val; rw [e1]; omega

theorem blk6 (c : Dev nD) (t : Fin cfg0.N) (r : Fin 32) (d : Fin 2048) : iblk m c 6 t (ix2 r d) = shift m c r d := by
  obtain ⟨e0, e1⟩ := idx6 t
  blk_simp [iblk]
  refine (congrFun (V_main_arg6 m c) _).trans (congrArg (m ((c.tc : Thread nD τ).loc main_arg6)) ?_)
  funext a; apply Fin.ext
  match a with
  | ⟨0, _⟩ => show win0_6.index t (0 : Fin 2) * 32 + 1 * r.val = r.val; rw [e0]; omega
  | ⟨1, _⟩ => show win0_6.index t (1 : Fin 2) * 2048 + 1 * d.val = d.val; rw [e1]; omega

theorem blk7 (c : Dev nD) (t : Fin cfg0.N) (r : Fin 32) (d : Fin 2048) : iblk m c 7 t (ix2 r d) = scale m c r d := by
  obtain ⟨e0, e1⟩ := idx7 t
  blk_simp [iblk]
  refine (congrFun (V_main_arg7 m c) _).trans (congrArg (m ((c.tc : Thread nD τ).loc main_arg7)) ?_)
  funext a; apply Fin.ext
  match a with
  | ⟨0, _⟩ => show win0_7.index t (0 : Fin 2) * 32 + 1 * r.val = r.val; rw [e0]; omega
  | ⟨1, _⟩ => show win0_7.index t (1 : Fin 2) * 2048 + 1 * d.val = d.val; rw [e1]; omega

theorem blk2 (c : Dev nD) (t : Fin cfg0.N) (d : Fin 2048) (j : Fin 2048) : iblk m c 2 t (ix2 d j) = w m c d j := by
  obtain ⟨e0, e1⟩ := idx2 t
  blk_simp [iblk]
  entry_read
  refine shapeCast_apply _ shapeCasts_S1x2048x2048_S2048x2048 _ (ix3 0 d j) ?_
  rw [Shape.rowMajor_val_three, Shape.rowMajor_val_two]
  show (0 * 2048 + d.val) * 2048 + j.val
    = (win0_2.index t (0 : Fin 2) * 2048 + 1 * d.val) * 2048 + (win0_2.index t (1 : Fin 2) * 2048 + 1 * j.val)
  rw [e0, e1]; omega

theorem blk5 (c : Dev nD) (t : Fin cfg0.N) (d : Fin 2048) : iblk m c 5 t (ix2 0 d) = gain m c d := by
  obtain ⟨e0, e1⟩ := idx5 t
  blk_simp [iblk]
  entry_read
  refine (shapeCast_apply _ shapeCasts_S2048_S1x2048 _ (ix1 d) ?_).trans (shapeCast_apply _ shapeCasts_S1x2048_S2048 _ (ix2 0 d) ?_)
  · rw [Shape.rowMajor_val_one, Shape.rowMajor_val_two]
    show d.val = (win0_5.index t (0 : Fin 2) * 1 + 1 * 0) * 2048 + (win0_5.index t (1 : Fin 2) * 2048 + 1 * d.val)
    rw [e0, e1]; omega
  · rw [Shape.rowMajor_val_one, Shape.rowMajor_val_two]
    show 0 * 2048 + d.val = d.val
    omega

/-! ## The payloads -/

theorem pay2_apply (a b : Vec Ideal S32x1024 .bf16) (u v : Vec Ideal S1024x2048 .bf16) (x : Vec Ideal S32x2048 .f32) (g : Vec Ideal S32x2048 .f32)
    (r : Fin 32) (j : Fin 2048) :
    k0_pay2 a u b v x g (ix2 r j)
      = x (ix2 r j) + g (ix2 r j) * ((∑ d : Fin 1024, a (ix2 r d) * u (ix2 d j)) + ∑ d : Fin 1024, b (ix2 r d) * v (ix2 d j)) := by
  pointwise [k0_pay2]

theorem payN_apply (y : Vec Ideal S32x2048 .f32) (n : Vec Ideal S1x2048 .f32) (s t : Vec Ideal S32x2048 .f32) (r : Fin 32) (j : Fin 2048) :
    k0_pay1 (k0_pay3 y n) s t (ix2 r j)
      = normed (fun d => y (ix2 r d)) (fun d => n (ix2 0 d)) (fun d => s (ix2 r d)) (fun d => t (ix2 r d)) j := by
  pointwise [k0_pay1, k0_pay3, normed, rms]

/-! ## What each point leaves -/

/-- The first half of the weights' rows. -/
theorem lo (W : Vec Ideal S2048x2048 .bf16) (d : Fin 1024) (j : Fin 2048) :
    View.ld W (Rect.unit ![0, 0] ![1024, 2048] inb_S2048x2048_S1024x2048_0_0) (ix2 d j) = W (ix2 ⟨d.val, by omega⟩ j) := by
  refine (View.ld_apply W _ _).trans (congrArg W ?_)
  funext a; apply Fin.ext
  match a with
  | ⟨0, _⟩ => show 0 + 1 * d.val = d.val; omega
  | ⟨1, _⟩ => show 0 + 1 * j.val = j.val; omega

/-- The second half. -/
theorem hi (W : Vec Ideal S2048x2048 .bf16) (d : Fin 1024) (j : Fin 2048) :
    View.ld W (Rect.unit ![1024, 0] ![1024, 2048] inb_S2048x2048_S1024x2048_1024_0) (ix2 d j) = W (ix2 ⟨1024 + d.val, by omega⟩ j) := by
  refine (View.ld_apply W _ _).trans (congrArg W ?_)
  funext a; apply Fin.ext
  match a with
  | ⟨0, _⟩ => show 1024 + 1 * d.val = 1024 + d.val; omega
  | ⟨1, _⟩ => show 0 + 1 * j.val = j.val; omega

/-- The residual rows a point forms. -/
def res (c : Dev nD) (t : Fin cfg0.N) : FVec Ideal S32x2048 .f32 :=
  k0_pay2 (iblk m c 0 t) (View.ld (iblk m c 2 t) (Rect.unit ![0, 0] ![1024, 2048] inb_S2048x2048_S1024x2048_0_0))
    (iblk m c 1 t) (View.ld (iblk m c 2 t) (Rect.unit ![1024, 0] ![1024, 2048] inb_S2048x2048_S1024x2048_1024_0))
    (iblk m c 3 t) (iblk m c 4 t)

theorem res_apply (c : Dev nD) (t : Fin cfg0.N) (r : Fin 32) (j : Fin 2048) :
    res m c t (ix2 r j) = mid (a m c) (b m c) (w m c) (x m c) (gate m c) r j := by
  unfold res
  refine (pay2_apply ..).trans ?_
  unfold mid both
  refine congrArg₂ (· + ·) (blk3 m c t r j) (congrArg₂ (· * ·) (blk4 m c t r j) (congrArg₂ (· + ·) ?_ ?_))
  · exact Finset.sum_congr rfl fun d _ => congrArg₂ (· * ·) (blk0 m c t r d) ((lo ..).trans (blk2 ..))
  · exact Finset.sum_congr rfl fun d _ => congrArg₂ (· * ·) (blk1 m c t r d) ((hi ..).trans (blk2 ..))

theorem out8_at (c : Dev nD) (t : Fin cfg0.N) (r : Fin 32) (j : Fin 2048) :
    (outsAt0 m c t).1 (ix2 r j) = mid (a m c) (b m c) (w m c) (x m c) (gate m c) r j := by
  refine Eq.trans ?_ (res_apply m c t r j)
  unfold res outsAt0
  dsimp only
  frame_out
  rfl

theorem out9_at (c : Dev nD) (t : Fin cfg0.N) (r : Fin 32) (j : Fin 2048) :
    (outsAt0 m c t).2 (ix2 r j)
      = normed (mid (a m c) (b m c) (w m c) (x m c) (gate m c) r) (gain m c) (scale m c r) (shift m c r) j := by
  refine (show _ = k0_pay1 (k0_pay3 (res m c t) (iblk m c 5 t)) (iblk m c 7 t) (iblk m c 6 t) (ix2 r j) from by
    unfold res outsAt0
    dsimp only
    frame_out
    rfl).trans ((payN_apply ..).trans ?_)
  simp only [res_apply, blk5]
  have es : (fun d => iblk m c 7 t (ix2 r d)) = scale m c r := funext fun d => blk7 m c t r d
  have et : (fun d => iblk m c 6 t (ix2 r d)) = shift m c r := funext fun d => blk6 m c t r d
  rw [es, et]

/-- The residual rows. -/
def Out8 (c : Dev nD) : Buf (Elt Ideal) ((c.tc : Thread nD τ).loc main_v9_0) := fun i =>
  mid (a m c) (b m c) (w m c) (x m c) (gate m c) (i 0) (i 1)

/-- The normalised rows. -/
def Out9 (c : Dev nD) : Buf (Elt Ideal) ((c.tc : Thread nD τ).loc main_v9_1) := fun i =>
  normed (mid (a m c) (b m c) (w m c) (x m c) (gate m c) (i 0)) (gain m c) (scale m c (i 0)) (shift m c (i 0)) (i 1)

theorem arr8 (c : Dev nD) : (dats m 0 c).arrAt 8 cfg0.N = Out8 m c := by
  refine (dats m 0 c).arrAt_eq_of_covers 8 _ (by decide +kernel) fun t hf y => ?_
  blk_simp
  rw [after0_8]
  obtain ⟨e0, e1⟩ := idx8 t
  idx_vars y
  refine (out8_at m c t y0 y1).trans ?_
  refine congrArg₂ (fun (R : Fin 32) (n : Fin 2048) => mid (a m c) (b m c) (w m c) (x m c) (gate m c) R n) (Fin.ext ?_) (Fin.ext ?_)
  · show y0.val = win0_8.index t (0 : Fin 2) * 32 + 1 * y0.val; rw [e0]; omega
  · show y1.val = win0_8.index t (1 : Fin 2) * 2048 + 1 * y1.val; rw [e1]; omega

theorem arr9 (c : Dev nD) : (dats m 0 c).arrAt 9 cfg0.N = Out9 m c := by
  refine (dats m 0 c).arrAt_eq_of_covers 9 _ (by decide +kernel) fun t hf y => ?_
  blk_simp
  rw [after0_9]
  obtain ⟨e0, e1⟩ := idx9 t
  idx_vars y
  refine (out9_at m c t y0 y1).trans ?_
  refine congrArg₂ (fun (R : Fin 32) (n : Fin 2048) =>
    normed (mid (a m c) (b m c) (w m c) (x m c) (gate m c) R) (gain m c) (scale m c R) (shift m c R) n) (Fin.ext ?_) (Fin.ext ?_)
  · show y0.val = win0_9.index t (0 : Fin 2) * 32 + 1 * y0.val; rw [e0]; omega
  · show y1.val = win0_9.index t (1 : Fin 2) * 2048 + 1 * y1.val; rw [e1]; omega

end Cert.Kernel17Ideal.Out

end
-- ==== Proof.OutSampleReference.lean ====
/-
  The reference's output projection (the sample) read at an index.
-/
module

public import proofs.«01_k».proof.Proof.OutSpec
public import proofs.«01_k».proof.Proof.Gen.Reference17Ideal.Read

@[expose] public section

set_option maxRecDepth 16384

noncomputable section

namespace Cert.Reference17Ideal.Out

open Cert.Reference17Ideal Cert.Reference17Ideal.Gen Cert.Reference17Ideal.Read Cert.OutSpec Cert.MlpSpec
open Idealize.ShloMosaic Idealize.ShloMosaic.TcCoe Idealize.SL.Sem

variable (a0 a1 : (⟨S32x1x1024, .f32⟩ : BufTy).Contents (Elt Ideal)) (a2 : (⟨S1x2048x2048, .f32⟩ : BufTy).Contents (Elt Ideal))
  (a3 : (⟨S32x1x2048, .f32⟩ : BufTy).Contents (Elt Ideal)) (a4 : (⟨S32x2048, .f32⟩ : BufTy).Contents (Elt Ideal))
  (a5 : (⟨S1x2048, .f32⟩ : BufTy).Contents (Elt Ideal)) (a6 a7 : (⟨S32x2048, .f32⟩ : BufTy).Contents (Elt Ideal))

/-- The first half of the rows laid side by side. -/
theorem cat_lo (b : Fin 32) (d : Fin 1024) : val_main_v1 (F := Ideal) a0 a1 (ix3 b 0 ⟨d.val, by omega⟩) = a0 (ix3 b 0 d) := by
  pointwise [val_main_v1]

/-- The second half. -/
theorem cat_hi (b : Fin 32) (d : Fin 1024) : val_main_v1 (F := Ideal) a0 a1 (ix3 b 0 ⟨1024 + d.val, by omega⟩) = a1 (ix3 b 0 d) := by
  pointwise [val_main_v1]

/-- The product of the rows laid side by side. -/
theorem dot_apply (b : Fin 32) (j : Fin 2048) :
    val_main_v3 (F := Ideal) a0 a1 a2 (ix3 b 0 j)
      = (∑ d : Fin 1024, a0 (ix3 b 0 d) * a2 (ix3 0 ⟨d.val, by omega⟩ j)) + ∑ d : Fin 1024, a1 (ix3 b 0 d) * a2 (ix3 0 ⟨1024 + d.val, by omega⟩ j) := by
  refine (show _ = ∑ d : Fin 2048, val_main_v1 (F := Ideal) a0 a1 (ix3 b 0 d) * a2 (ix3 0 d j) from by
    unfold val_main_v3; generalize val_main_v1 (F := Ideal) a0 a1 = y; pointwise [val_main_v2]).trans ?_
  rw [sum_halves]
  simp only [cat_lo, cat_hi]

/-- The residual rows at a position. -/
theorem v5_apply (b : Fin 32) (j : Fin 2048) :
    val_main_v5 (F := Ideal) a0 a1 a2 a3 a4 (ix3 b 0 j) = a3 (ix3 b 0 j) + a4 (ix2 b j)
      * ((∑ d : Fin 1024, a0 (ix3 b 0 d) * a2 (ix3 0 ⟨d.val, by omega⟩ j)) + ∑ d : Fin 1024, a1 (ix3 b 0 d) * a2 (ix3 0 ⟨1024 + d.val, by omega⟩ j)) := by
  rw [← dot_apply]
  unfold val_main_v5 val_main_v4
  generalize val_main_v3 (F := Ideal) a0 a1 a2 = y
  pointwise [val_main_v0]

/-- The normalised rows at a position. -/
theorem v25_apply (b : Fin 32) (j : Fin 2048) :
    val_main_v25 (F := Ideal) a0 a1 a2 a3 a4 a5 a6 a7 (ix3 b 0 j)
      = normed (fun d => val_main_v5 (F := Ideal) a0 a1 a2 a3 a4 (ix3 b 0 d)) (fun d => a5 (ix2 0 d)) (fun d => a7 (ix2 b d)) (fun d => a6 (ix2 b d)) j := by
  unfold val_main_v25 val_main_v23 val_main_v19 val_main_v16 val_main_v15 val_main_v14 val_main_v13 val_main_v11 val_main_v9 val_main_v8 val_main_v7
  generalize val_main_v5 (F := Ideal) a0 a1 a2 a3 a4 = y
  pointwise [val_main_v18, val_main_v17, val_main_v6, val_main_v10, val_main_v12, val_main_v22, val_main_v21, val_main_v20, val_main_v24, val_main_cst_2, val_main_cst, val_main_cst_0, val_main_cst_1, normed, rms]

/-- The residual rows: row `R`, feature `j`. -/
theorem ref_apply (R : Fin 32) (j : Fin 2048) :
    val_main_v26 (F := Ideal) a0 a1 a2 a3 a4 (ix2 R j)
      = mid (fun R d => a0 (ix3 R 0 d)) (fun R d => a1 (ix3 R 0 d)) (fun d j => a2 (ix3 0 d j)) (fun R d => a3 (ix3 R 0 d)) (fun R d => a4 (ix2 R d)) R j := by
  unfold val_main_v26
  refine (shapeCast_apply _ shapeCasts_S32x1x2048_S32x2048 _ (ix3 R 0 j) ?_).trans ?_
  · rw [Shape.rowMajor_val_three, Shape.rowMajor_val_two]
    show (R.val * 1 + 0) * 2048 + j.val = R.val * 2048 + j.val
    omega
  · exact v5_apply ..

/-- The normalised rows: row `R`, feature `j`. -/
theorem norm_apply (R : Fin 32) (j : Fin 2048) :
    val_main_v28 (F := Ideal) a0 a1 a2 a3 a4 a5 a6 a7 (ix2 R j)
      = normed (mid (fun R d => a0 (ix3 R 0 d)) (fun R d => a1 (ix3 R 0 d)) (fun d j => a2 (ix3 0 d j)) (fun R d => a3 (ix3 R 0 d)) (fun R d => a4 (ix2 R d)) R) (fun d => a5 (ix2 0 d)) (fun d => a7 (ix2 R d)) (fun d => a6 (ix2 R d)) j := by
  refine (show _ = val_main_v27 (F := Ideal) a0 a1 a2 a3 a4 a5 a6 a7 (ix2 R j) from rfl).trans ?_
  unfold val_main_v27
  refine (shapeCast_apply _ shapeCasts_S32x1x2048_S32x2048 _ (ix3 R 0 j) ?_).trans ?_
  · rw [Shape.rowMajor_val_three, Shape.rowMajor_val_two]
    show (R.val * 1 + 0) * 2048 + j.val = R.val * 2048 + j.val
    omega
  · rw [v25_apply]
    simp only [v5_apply]
    rfl

end Cert.Reference17Ideal.Out

end
-- ==== Proof.MlpSampleKernel.lean ====
/-
  The sample's feed-forward kernel read at an index. The grid runs over 8 tiles of 1024 hidden units; the output block
  accumulates the tiles' shares, and the last one adds the gated sum to the residual and normalises.
-/
module

public import proofs.«01_k».proof.Proof.MlpSpec
public import proofs.«01_k».proof.Proof.Gen.Kernel11Ideal.Value
public import Idealize.ShloMosaic.Lib.Pipeline.ValueKit

@[expose] public section

set_option maxRecDepth 16384

noncomputable section

namespace Cert.Kernel11Ideal.Mlp

open Cert.Kernel11Ideal Cert.Kernel11Ideal.Gen Cert.Kernel11Ideal.Value Cert.MlpSpec
open Idealize.ShloMosaic Idealize.ShloMosaic.TcCoe Idealize.SL.Sem

variable (m : (ℓ : Loc nD τ sig) → Buf (Elt Ideal) ℓ)

/-! ## The arguments by coordinates -/

def h2 (c : Dev nD) (b : Fin 32) (_ : Fin 1) (d : Fin 2048) : EReal := m ((c.tc : Thread nD τ).loc main_arg0) (ix3 b 0 d)
def w1 (c : Dev nD) (d : Fin 2048) (k : Fin 8192) : EReal := m ((c.tc : Thread nD τ).loc main_arg1) (ix3 0 d k)
def w2 (c : Dev nD) (k : Fin 8192) (j : Fin 2048) : EReal := m ((c.tc : Thread nD τ).loc main_arg2) (ix3 0 k j)
def x (c : Dev nD) (b : Fin 32) (d : Fin 2048) : EReal := m ((c.tc : Thread nD τ).loc main_arg3) (ix3 b 0 d)
def gate (c : Dev nD) (b : Fin 32) (d : Fin 2048) : EReal := m ((c.tc : Thread nD τ).loc main_arg4) (ix2 b d)
def gain (c : Dev nD) (d : Fin 2048) : EReal := m ((c.tc : Thread nD τ).loc main_arg5) (ix1 d)

/-! ## The three payloads -/

theorem pay1_apply (r : Fin 32) (j : Fin 2048) : k0_pay1 (F := Ideal) (ix2 r j) = 0 := by
  pointwise [k0_pay1]

theorem pay2_apply (x : Vec Ideal S32x2048 .bf16) (w1 : Vec Ideal S2048x1024 .bf16) (acc : Vec Ideal S32x2048 .f32)
    (w2 : Vec Ideal S1024x2048 .bf16) (r : Fin 32) (j : Fin 2048) :
    k0_pay2 x w1 acc w2 (ix2 r j) = acc (ix2 r j) + ∑ k : Fin 1024,
      reluSq (∑ d : Fin 2048, x (ix2 r d) * w1 (ix2 d k)) * w2 (ix2 k j) := by
  pointwise [k0_pay2, reluSq]

theorem pay3_apply (x : Vec Ideal S32x2048 .f32) (g : Vec Ideal S32x2048 .f32) (acc : Vec Ideal S32x2048 .f32)
    (n : Vec Ideal S1x2048 .f32) (r : Fin 32) (j : Fin 2048) :
    k0_pay3 x g acc n (ix2 r j) = rms (Ideal.ofBits .f32 0x45000000#32) (Ideal.ofBits .f32 0x358637BD#32)
      (fun d => x (ix2 r d) + g (ix2 r d) * acc (ix2 r d)) (fun d => n (ix2 0 d)) j := by
  pointwise [k0_pay3, rms]

/-! ## The blocks -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 8 :=
  (by decide +kernel : ∀ t : Fin grid0.N, _)
theorem idx2 : ∀ t : Fin cfg0.N, win0_2.index t (0 : Fin 2) = t.val % 8 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

theorem blk0 (c : Dev nD) (t : Fin cfg0.N) (r : Fin 32) (d : Fin 2048) :
    iblk m c 0 t (ix2 r d) = h2 m c r 0 d := by
  obtain ⟨e0, e1⟩ := idx0 t
  blk_simp [iblk]
  entry_read
  refine shapeCast_apply _ shapeCasts_S32x1x2048_S32x2048 _ (ix3 r 0 d) ?_
  rw [Shape.rowMajor_val_three, Shape.rowMajor_val_two]
  show (r.val * 1 + 0) * 2048 + d.val
    = (win0_0.index t (0 : Fin 2) * 32 + 1 * r.val) * 2048 + (win0_0.index t (1 : Fin 2) * 2048 + 1 * d.val)
  rw [e0, e1]; omega

theorem blk1 (c : Dev nD) (t : Fin cfg0.N) (d : Fin 2048) (k : Fin 1024) :
    iblk m c 1 t (ix2 d k) = w1 m c d ⟨t.val % 8 * 1024 + k.val, by omega⟩ := by
  obtain ⟨e0, e1⟩ := idx1 t
  blk_simp [iblk]
  entry_read
  refine shapeCast_apply _ shapeCasts_S1x2048x8192_S2048x8192 _ (ix3 0 d ⟨t.val % 8 * 1024 + k.val, by omega⟩) ?_
  rw [Shape.rowMajor_val_three, Shape.rowMajor_val_two]
  show (0 * 2048 + d.val) * 8192 + (t.val % 8 * 1024 + k.val)
    = (win0_1.index t (0 : Fin 2) * 2048 + 1 * d.val) * 8192 + (win0_1.index t (1 : Fin 2) * 1024 + 1 * k.val)
  rw [e0, e1]; omega

theorem blk2 (c : Dev nD) (t : Fin cfg0.N) (k : Fin 1024) (j : Fin 2048) :
    iblk m c 2 t (ix2 k j) = w2 m c ⟨t.val % 8 * 1024 + k.val, by omega⟩ j := by
  obtain ⟨e0, e1⟩ := idx2 t
  blk_simp [iblk]
  entry_read
  refine shapeCast_apply _ shapeCasts_S1x8192x2048_S8192x2048 _ (ix3 0 ⟨t.val % 8 * 1024 + k.val, by omega⟩ j) ?_
  rw [Shape.rowMajor_val_three, Shape.rowMajor_val_two]
  show (0 * 8192 + (t.val % 8 * 1024 + k.val)) * 2048 + j.val
    = (win0_2.index t (0 : Fin 2) * 1024 + 1 * k.val) * 2048 + (win0_2.index t (1 : Fin 2) * 2048 + 1 * j.val)
  rw [e0, e1]; omega

theorem blk3 (c : Dev nD) (t : Fin cfg0.N) (r : Fin 32) (d : Fin 2048) :
    iblk m c 3 t (ix2 r d) = x m c r d := by
  obtain ⟨e0, e1⟩ := idx3 t
  blk_simp [iblk]
  entry_read
  refine shapeCast_apply _ shapeCasts_S32x1x2048_S32x2048 _ (ix3 r 0 d) ?_
  rw [Shape.rowMajor_val_three, Shape.rowMajor_val_two]
  show (r.val * 1 + 0) * 2048 + d.val
    = (win0_3.index t (0 : Fin 2) * 32 + 1 * r.val) * 2048 + (win0_3.index t (1 : Fin 2) * 2048 + 1 * d.val)
  rw [e0, e1]; omega

theorem blk4 (c : Dev nD) (t : Fin cfg0.N) (r : Fin 32) (d : Fin 2048) : iblk m c 4 t (ix2 r d) = gate m c r d := by
  obtain ⟨e0, e1⟩ := idx4 t
  blk_simp [iblk]
  refine (congrFun (V_main_arg4 m c) _).trans (congrArg (m ((c.tc : Thread nD τ).loc main_arg4)) ?_)
  funext a; apply Fin.ext
  match a with
  | ⟨0, _⟩ => show win0_4.index t (0 : Fin 2) * 32 + 1 * r.val = r.val; rw [e0]; omega
  | ⟨1, _⟩ => show win0_4.index t (1 : Fin 2) * 2048 + 1 * d.val = d.val; rw [e1]; omega

theorem blk5 (c : Dev nD) (t : Fin cfg0.N) (d : Fin 2048) : iblk m c 5 t (ix2 0 d) = gain m c d := by
  obtain ⟨e0, e1⟩ := idx5 t
  blk_simp [iblk]
  entry_read
  refine shapeCast_apply _ shapeCasts_S2048_S1x2048 _ (ix1 d) ?_
  rw [Shape.rowMajor_val_one, Shape.rowMajor_val_two]
  show d.val = (win0_5.index t (0 : Fin 2) * 1 + 1 * 0) * 2048 + (win0_5.index t (1 : Fin 2) * 2048 + 1 * d.val)
  rw [e0, e1]; omega

/-! ## The accumulation over the hidden tiles -/

/-- The share of hidden tile `s` of an output entry. -/
def tile (c : Dev nD) (n : ℕ) (i : S32x2048.Idx) : EReal :=
  ∑ k : Fin 1024, unit (h2 m c) (w1 m c) (w2 m c) (i 0) 0 (i 1) ⟨n % 8 * 1024 + k.val, by omega⟩

theorem pay2_blk (c : Dev nD) (t : Fin cfg0.N) (acc : Vec Ideal S32x2048 .f32) (i : S32x2048.Idx) :
    k0_pay2 (iblk m c 0 t) (iblk m c 1 t) acc (iblk m c 2 t) i = acc i + tile m c t.val i := by
  idx_vars i
  rw [pay2_apply]
  refine congrArg _ (Finset.sum_congr rfl fun k _ => ?_)
  rw [blk2]
  simp only [blk0, blk1]
  rfl

theorem fold_apply (c : Dev nD) (j : ℕ) (hj : j ≤ 6) (h : 0 + j < cfg0.N) (i : S32x2048.Idx) :
    Pipeline.accAt (reset6 m c) (step6 m c) 0 j h i = 0 + ∑ s ∈ Finset.range (j + 1), tile m c (0 + s) i := by
  refine Pipeline.accAt_add_apply (reset6 m c) (step6 m c) (fun _ => (0 : EReal)) (tile m c) 0 6 ?_ ?_ j hj h i
  · intro h i
    refine (pay2_blk m c ⟨0, h⟩ _ i).trans ?_
    idx_vars i
    rw [pay1_apply]
  · intro n h acc i h1 h2
    unfold step6
    rw [if_pos (by omega)]
    exact pay2_blk m c ⟨n, h⟩ acc i

/-- The eight hidden tiles' shares make up the feed-forward block. -/
theorem tiles_sum (c : Dev nD) (i : S32x2048.Idx) :
    ∑ s ∈ Finset.range 8, tile m c (0 + s) i = ffn (h2 m c) (w1 m c) (w2 m c) (i 0) 0 (i 1) := by
  unfold ffn
  rw [Fin.sum_univ_tiles 8 1024 rfl, Finset.sum_range]
  refine Finset.sum_congr rfl fun s _ => Finset.sum_congr rfl fun k _ => ?_
  congr 1; apply Fin.ext
  show (0 + s.val) % 8 * 1024 + k.val = s.val * 1024 + k.val
  omega

/-- What the run leaves in the output block. -/
theorem run_apply (c : Dev nD) (h : 0 + 7 < cfg0.N) (r : Fin 32) (j : Fin 2048) :
    Pipeline.accAt (reset6 m c) (step6 m c) 0 7 h (ix2 r j)
      = rms (Ideal.ofBits .f32 0x45000000#32) (Ideal.ofBits .f32 0x358637BD#32)
          (fun d => x m c r d + gate m c r d * ffn (h2 m c) (w1 m c) (w2 m c) r 0 d) (gain m c) j := by
  rw [Pipeline.accAt_succ]
  unfold step6
  rw [if_neg (by omega), if_pos (by omega), pay3_apply]
  have key : ∀ d : Fin 2048, Pipeline.accAt (reset6 m c) (step6 m c) 0 6 (Nat.lt_of_succ_lt h) (ix2 r d)
      + tile m c (0 + (6 + 1)) (ix2 r d) = ffn (h2 m c) (w1 m c) (w2 m c) r 0 d := fun d => by
    rw [fold_apply m c 6 le_rfl, zero_add, ← Finset.sum_range_succ (fun s => tile m c (0 + s) (ix2 r d)) 7, tiles_sum]
    rfl
  have hg : (fun d : Fin 2048 => (iblk m c 5 ⟨0 + (6 + 1), h⟩ : Vec Ideal S1x2048 .f32) (ix2 0 d)) = gain m c :=
    funext fun d => blk5 m c _ d
  refine (congrArg₂ (fun y g => rms _ _ y g j) (funext fun d => ?_) hg)
  exact congrArg₂ (· + ·) (blk3 m c _ r d)
    (congrArg₂ (· * ·) (blk4 m c _ r d) ((pay2_blk m c _ _ (ix2 r d)).trans (key d)))

/-- The result array at row `R`, feature `j`. -/
theorem G6_apply (c : Dev nD) (R : Fin 32) (j : Fin 2048) :
    G6 m c (ix2 R j)
      = rms (Ideal.ofBits .f32 0x45000000#32) (Ideal.ofBits .f32 0x358637BD#32)
          (fun d => x m c R d + gate m c R d * ffn (h2 m c) (w1 m c) (w2 m c) R 0 d) (gain m c) j := by
  have hrun : run6Of (ix2 R j) = 0 := by
    show 1 * (R.val / 32 - 0) + 1 * (j.val / 2048 - 0) = _
    omega
  have hN : cfg0.N = 8 := N_0
  have hl : loc6Of (ix2 R j) = ix2 R j := by
    funext a; apply Fin.ext
    match a with
    | ⟨0, _⟩ => show R.val % 32 = R.val; omega
    | ⟨1, _⟩ => show j.val % 2048 = j.val; omega
  unfold G6
  rw [dif_pos (by rw [hrun]; omega), hl]
  refine Eq.trans ?_ (run_apply m c (by omega) R j)
  have e : ∀ (u v : ℕ) (hu : u + 7 < cfg0.N) (hv : v + 7 < cfg0.N), u = v →
      Pipeline.accAt (reset6 m c) (step6 m c) u 7 hu = Pipeline.accAt (reset6 m c) (step6 m c) v 7 hv := by
    intro u v hu hv huv; subst huv; rfl
  exact congrFun (e _ _ _ _ (by rw [hrun])) _

end Cert.Kernel11Ideal.Mlp

end
-- ==== Proof.MlpSampleReference.lean ====
/-
  The sample's feed-forward reference read at an index.
-/
module

public import proofs.«01_k».proof.Proof.MlpSpec
public import proofs.«01_k».proof.Proof.Gen.Reference11Ideal.Read

@[expose] public section

set_option maxRecDepth 16384

noncomputable section

namespace Cert.Reference11Ideal.Mlp

open Cert.Reference11Ideal Cert.Reference11Ideal.Gen Cert.Reference11Ideal.Read Cert.MlpSpec
open Idealize.ShloMosaic Idealize.ShloMosaic.TcCoe Idealize.SL.Sem

variable (a0 : (⟨S32x1x2048, .f32⟩ : BufTy).Contents (Elt Ideal)) (a1 : (⟨S1x2048x8192, .f32⟩ : BufTy).Contents (Elt Ideal))
  (a2 : (⟨S1x8192x2048, .f32⟩ : BufTy).Contents (Elt Ideal)) (a3 : (⟨S32x1x2048, .f32⟩ : BufTy).Contents (Elt Ideal))
  (a4 : (⟨S32x2048, .f32⟩ : BufTy).Contents (Elt Ideal)) (a5 : (⟨S2048, .f32⟩ : BufTy).Contents (Elt Ideal))

theorem v8_apply (b : Fin 32) (j : Fin 2048) :
    val_main_v8 (F := Ideal) a0 a1 a2 a3 a4 (ix3 b 0 j) = a3 (ix3 b 0 j) + a4 (ix2 b j)
      * ffn (fun b (p : Fin 1) d => a0 (ix3 b p d)) (fun d k => a1 (ix3 0 d k)) (fun k j => a2 (ix3 0 k j)) b 0 j := by
  pointwise [val_main_v8, val_main_v7, val_main_v6, val_main_v5, val_main_v4, val_main_v3, val_main_v2, val_main_v1,
    val_main_v0, val_main_call0_v0, val_main_call0_cst, ffn, unit, reluSq]

theorem v21_apply (b : Fin 32) (j : Fin 2048) :
    val_main_v21 (F := Ideal) a0 a1 a2 a3 a4 a5 (ix3 b 0 j)
      = rms (Ideal.ofBits .f32 0x45000000#32) (Ideal.ofBits .f32 0x358637BD#32)
          (fun d => val_main_v8 (F := Ideal) a0 a1 a2 a3 a4 (ix3 b 0 d)) (fun d => a5 (ix1 d)) j := by
  unfold val_main_v21 val_main_v18 val_main_v17 val_main_v16 val_main_v15 val_main_v13 val_main_v11 val_main_v10 val_main_v9
  generalize val_main_v8 (F := Ideal) a0 a1 a2 a3 a4 = y
  pointwise [val_main_v20, val_main_v19, val_main_v14, val_main_v12, val_main_cst, val_main_cst_0, val_main_cst_1, rms]

/-- The reference's result at row `R`, feature `j`. -/
theorem ref_apply (R : Fin 32) (j : Fin 2048) :
    val_main_v22 (F := Ideal) a0 a1 a2 a3 a4 a5 (ix2 R j)
      = rms (Ideal.ofBits .f32 0x45000000#32) (Ideal.ofBits .f32 0x358637BD#32)
          (fun d => a3 (ix3 R 0 d) + a4 (ix2 R d)
            * ffn (fun b (p : Fin 1) d => a0 (ix3 b p d)) (fun d k => a1 (ix3 0 d k)) (fun k j => a2 (ix3 0 k j)) R 0 d) (fun d => a5 (ix1 d)) j := by
  unfold val_main_v22
  refine (shapeCast_apply _ shapeCasts_S32x1x2048_S32x2048 _ (ix3 R 0 j) ?_).trans ?_
  · rw [Shape.rowMajor_val_three, Shape.rowMajor_val_two]
    show (R.val * 1 + 0) * 2048 + j.val = R.val * 2048 + j.val
    omega
  · rw [v21_apply]
    simp only [v8_apply]

end Cert.Reference11Ideal.Mlp

end
-- ==== Proof.QPromptKernel.lean ====
/-
  The prompt's normalised rows and queries (the norm, the input projection and the rotary embedding) read at an index. The grid runs over 16 tiles of 512 rows; the first stores the transposed weights in
  scratch, and the others find them there. Every tile is written in strips of 128 lanes.
-/
module

public import proofs.«01_k».proof.Proof.ProjSpec
public import proofs.«01_k».proof.Proof.OutSpec
public import proofs.«01_k».proof.Proof.Gen.Kernel8Ideal.Value
public import Idealize.ShloMosaic.Lib.Pipeline.ValueKit
public import Idealize.ShloMosaic.Lib.Pipeline.ReadBack

@[expose] public section

set_option maxRecDepth 16384

noncomputable section

namespace Cert.Kernel8Ideal.Q

open Cert.Kernel8Ideal Cert.Kernel8Ideal.Gen Cert.Kernel8Ideal.Value Cert.ProjSpec Cert.OutSpec Cert.MlpSpec
open Idealize.ShloMosaic Idealize.ShloMosaic.TcCoe Idealize.SL.Sem

variable (m : (ℓ : Loc nD τ sig) → Buf (Elt Ideal) ℓ)

/-! ## The arguments by coordinates, row `R` being position `R % 4096` of batch `R / 4096` -/

def x (c : Dev nD) (R : Fin 8192) (d : Fin 2048) : EReal := m ((c.tc : Thread nD τ).loc main_arg0) (ix3 ⟨R.val / 4096, by omega⟩ ⟨R.val % 4096, by omega⟩ d)
def gain (c : Dev nD) (d : Fin 2048) : EReal := m ((c.tc : Thread nD τ).loc main_arg1) (ix2 0 d)
def shift (c : Dev nD) (R : Fin 8192) (d : Fin 2048) : EReal := m ((c.tc : Thread nD τ).loc main_arg2) (ix3 ⟨R.val / 4096, by omega⟩ 0 d)
def scale (c : Dev nD) (R : Fin 8192) (d : Fin 2048) : EReal := m ((c.tc : Thread nD τ).loc main_arg3) (ix3 ⟨R.val / 4096, by omega⟩ 0 d)
/-- The normalised rows. -/
def h (c : Dev nD) (R : Fin 8192) (d : Fin 2048) : EReal := normed (x m c R) (gain m c) (scale m c R) (shift m c R) d
/-- The input projection's columns. -/
def w (c : Dev nD) (d : Fin 2048) (n : ℕ) : EReal := m ((c.tc : Thread nD τ).loc main_arg4) (ix3 0 d (Fin.ofNat 6224 n))

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = t.val % 16 / 8 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val % 16 / 8 ∧ win0_3.index t (1 : Fin 3) = 0 ∧ win0_3.index t (2 : Fin 3) = 0 :=
  (by decide +kernel : ∀ t : Fin grid0.N, _)
theorem idx7 : ∀ t : Fin cfg0.N, win0_7.index t (0 : Fin 2) = t.val % 16 ∧ win0_7.index t (1 : Fin 2) = 0 :=
  (by decide +kernel : ∀ t : Fin grid0.N, _)
theorem idx4 : ∀ t : Fin cfg0.N, win0_4.index t (0 : Fin 2) = 2 ∧ win0_4.index t (1 : Fin 2) = 0 :=
  (by decide +kernel : ∀ t : Fin grid0.N, _)
theorem idx5 : ∀ t : Fin cfg0.N, win0_5.index t (0 : Fin 2) = t.val % 8 ∧ win0_5.index t (1 : Fin 2) = 0 :=
  (by decide +kernel : ∀ t : Fin grid0.N, _)
theorem idx6 : ∀ t : Fin cfg0.N, win0_6.index t (0 : Fin 2) = t.val % 8 ∧ win0_6.index t (1 : Fin 2) = 0 :=
  (by decide +kernel : ∀ t : Fin grid0.N, _)
theorem idx8 : ∀ t : Fin cfg0.N, win0_8.index t (0 : Fin 2) = t.val % 16 ∧ win0_8.index t (1 : Fin 2) = 0 :=
  (by decide +kernel : ∀ t : Fin grid0.N, _)

/-- One lane of the rotation by the two tables: the partner stands half a head away in the lane's strip of 128. -/
def lane (f : Fin 1024 → EReal) (c s : Fin 128 → EReal) (j : Fin 1024) : EReal :=
  f j * c ⟨j.val % 128, by omega⟩ + f ⟨j.val / 128 * 128 + (j.val % 128 + 128 - 64) % 128, by omega⟩ * s ⟨j.val % 128, by omega⟩

/-- One strip of 128 lanes as the kernel writes it. -/
theorem strip_f32 (P : FVec Ideal S512x1024 .f32) (C S : Vec Ideal S512x128 .f32) (o : ℕ) (hs : S512x1024.Slices ![0, o] S512x128)
    (x : S512x128.Idx) (r : Fin 512) (j : Fin 1024) (h0 : r.val = (x 0).val) (h1 : j.val = o + (x 1).val) (ho : o % 128 = 0) :
    addf (mulf (extractStridedSlice S512x128 ![0, o] P hs) (shapeCast S512x128 C shapeCasts_S512x128_S512x128))
      (mulf (dynamicRotate 1 64#32 none (extractStridedSlice S512x128 ![0, o] P hs) rotates_S512x128_d1)
        (shapeCast S512x128 S shapeCasts_S512x128_S512x128)) x
      = lane (fun j => P (ix2 r j)) (fun l => C (ix2 r l)) (fun l => S (ix2 r l)) j := by
  idx_vars x
  have hb := j.isLt
  have e0 : r = x0 := Fin.ext h0
  have e1 : j.val = o + x1.val := h1
  have hb1 := x1.isLt
  subst e0
  refine (show _ = P (ix2 r ⟨o + x1.val, by omega⟩) * C (ix2 r x1)
    + P (ix2 r ⟨o + (x1.val + 128 - 64) % 128, by omega⟩) * S (ix2 r x1) from by pointwise []).trans ?_
  have el : (⟨j.val % 128, by omega⟩ : Fin 128) = x1 := Fin.ext (by show j.val % 128 = x1.val; omega)
  unfold lane
  rw [el]
  refine congrArg₂ (· + ·) (congrArg₂ (· * ·) (congrArg P (congrArg _ (Fin.ext ?_))) rfl)
    (congrArg₂ (· * ·) (congrArg P (congrArg _ (Fin.ext ?_))) rfl)
  · show o + x1.val = j.val; omega
  · show o + (x1.val + 128 - 64) % 128 = j.val / 128 * 128 + (j.val % 128 + 128 - 64) % 128; omega

/-- The same strip scaled by a constant and stored in the narrow format. -/
theorem strip_bf16 (P : FVec Ideal S512x1024 .f32) (C S : Vec Ideal S512x128 .f32) (o : ℕ) (hs : S512x1024.Slices ![0, o] S512x128)
    (x : S512x128.Idx) (k : BitVec 32) (r : Fin 512) (j : Fin 1024) (h0 : r.val = (x 0).val) (h1 : j.val = o + (x 1).val) (ho : o % 128 = 0) :
    truncf .bf16 (mulf (addf (mulf (extractStridedSlice S512x128 ![0, o] P hs) (shapeCast S512x128 C shapeCasts_S512x128_S512x128))
      (mulf (dynamicRotate 1 64#32 none (extractStridedSlice S512x128 ![0, o] P hs) rotates_S512x128_d1)
        (shapeCast S512x128 S shapeCasts_S512x128_S512x128))) (broadcast S512x128 (Scalar.ofBits .f32 k))) bitsLt_bf16_f32 x
      = lane (fun j => P (ix2 r j)) (fun l => C (ix2 r l)) (fun l => S (ix2 r l)) j * Ideal.ofBits .f32 k :=
  congrArg (· * Ideal.ofBits .f32 k) (strip_f32 P C S o hs x r j h0 h1 ho)

/-- A table of the rotation at position `p` and lane `l`: two halves side by side. -/
theorem table_apply (a b : FVec Ideal S4096x64 .f32) (p : Fin 4096) (l : Fin 128) :
    shapeCast S4096x128 (broadcastInDim S1x4096x1x128 ![0, 1, 2, 3] bcast_S1x4096x1x128_S1x4096x1x128_0_1_2_3 fun i =>
        shapeCast S1x4096x1x128 (concatenate S4096x128 1 [⟨S4096x64, a⟩, ⟨S4096x64, b⟩] concatenates_S4096x64_S4096x64_S4096x128_d1)
          shapeCasts_S4096x128_S1x4096x1x128 i)
      shapeCasts_S1x4096x1x128_S4096x128 (ix2 p l)
      = if h : l.val < 64 then a (ix2 p ⟨l.val, h⟩) else b (ix2 p ⟨l.val - 64, by omega⟩) := by
  refine (shapeCast_apply _ shapeCasts_S1x4096x1x128_S4096x128 _ (ix4 0 p 0 l) ?_).trans ?_
  · rw [Shape.rowMajor_val_four, Shape.rowMajor_val_two]
    show ((0 * 4096 + p.val) * 1 + 0) * 128 + l.val = p.val * 128 + l.val
    omega
  refine (show _ = shapeCast S1x4096x1x128 (concatenate S4096x128 1 [⟨S4096x64, a⟩, ⟨S4096x64, b⟩] concatenates_S4096x64_S4096x64_S4096x128_d1)
          shapeCasts_S4096x128_S1x4096x1x128 (ix4 0 p 0 l) from by pointwise []).trans ?_
  refine (shapeCast_apply _ shapeCasts_S4096x128_S1x4096x1x128 _ (ix2 p l) ?_).trans ?_
  · rw [Shape.rowMajor_val_four, Shape.rowMajor_val_two]
    show p.val * 128 + l.val = ((0 * 4096 + p.val) * 1 + 0) * 128 + l.val
    omega
  pointwise []

theorem cos_at (c : Dev nD) (t : Fin cfg0.N) (r : Fin 512) (l : Fin 128) :
    iblk m c 5 t (ix2 r l)
      = Ideal.cos (angle 0x42800000#32 (BitVec.ofNat 32 (t.val % 8 * 512 + r.val)) (l.val % 64)) := by
  obtain ⟨e0, e1⟩ := idx5 t
  blk_simp [iblk]
  entry_read
  have e : ((View.whole main_v20).slice (win0_5.rect t)).emb (ix2 r l) = ix2 (⟨t.val % 8 * 512 + r.val, by omega⟩ : Fin 4096) l := by
    funext a; apply Fin.ext
    match a with
    | ⟨0, _⟩ => show win0_5.index t (0 : Fin 2) * 512 + 1 * r.val = t.val % 8 * 512 + r.val; rw [e0]; omega
    | ⟨1, _⟩ => show win0_5.index t (1 : Fin 2) * 128 + 1 * l.val = l.val; rw [e1]; omega
  rw [e]
  refine (table_apply _ _ _ l).trans ?_
  by_cases hl : l.val < 64
  · rw [dif_pos hl, Nat.mod_eq_of_lt hl]
    pointwise [angle]
  · rw [dif_neg hl, show l.val % 64 = l.val - 64 by omega]
    pointwise [angle]

theorem sin_at (c : Dev nD) (t : Fin cfg0.N) (r : Fin 512) (l : Fin 128) :
    iblk m c 6 t (ix2 r l)
      = if l.val < 64 then -Ideal.sin (angle 0x42800000#32 (BitVec.ofNat 32 (t.val % 8 * 512 + r.val)) (l.val % 64))
        else Ideal.sin (angle 0x42800000#32 (BitVec.ofNat 32 (t.val % 8 * 512 + r.val)) (l.val % 64)) := by
  obtain ⟨e0, e1⟩ := idx6 t
  blk_simp [iblk]
  entry_read
  have e : ((View.whole main_v25).slice (win0_6.rect t)).emb (ix2 r l) = ix2 (⟨t.val % 8 * 512 + r.val, by omega⟩ : Fin 4096) l := by
    funext a; apply Fin.ext
    match a with
    | ⟨0, _⟩ => show win0_6.index t (0 : Fin 2) * 512 + 1 * r.val = t.val % 8 * 512 + r.val; rw [e0]; omega
    | ⟨1, _⟩ => show win0_6.index t (1 : Fin 2) * 128 + 1 * l.val = l.val; rw [e1]; omega
  rw [e]
  refine (table_apply _ _ _ l).trans ?_
  by_cases hl : l.val < 64
  · rw [dif_pos hl, if_pos hl, Nat.mod_eq_of_lt hl]
    pointwise [angle]
  · rw [dif_neg hl, if_neg hl, show l.val % 64 = l.val - 64 by omega]
    pointwise [angle]

theorem blk0 (c : Dev nD) (t : Fin cfg0.N) (r : Fin 512) (d : Fin 2048) : iblk m c 0 t (ix2 r d) = x m c ⟨t.val % 16 * 512 + r.val, by omega⟩ d := by
  obtain ⟨e0, e1⟩ := idx0 t
  blk_simp [iblk]
  entry_read
  refine shapeCast_apply _ shapeCasts_S2x4096x2048_S8192x2048 _ (ix3 ⟨(t.val % 16 * 512 + r.val) / 4096, by omega⟩ ⟨(t.val % 16 * 512 + r.val) % 4096, by omega⟩ d) ?_
  rw [Shape.rowMajor_val_three, Shape.rowMajor_val_two]
  show ((t.val % 16 * 512 + r.val) / 4096 * 4096 + (t.val % 16 * 512 + r.val) % 4096) * 2048 + d.val
    = (win0_0.index t (0 : Fin 2) * 512 + 1 * r.val) * 2048 + (win0_0.index t (1 : Fin 2) * 2048 + 1 * d.val)
  rw [e0, e1]; omega

theorem blk1 (c : Dev nD) (t : Fin cfg0.N) (d : Fin 2048) : iblk m c 1 t (ix2 0 d) = gain m c d := by
  obtain ⟨e0, e1⟩ := idx1 t
  blk_simp [iblk]
  entry_read
  refine (shapeCast_apply _ shapeCasts_S2048_S1x2048 _ (ix1 d) ?_).trans (shapeCast_apply _ shapeCasts_S1x2048_S2048 _ (ix2 0 d) ?_)
  · rw [Shape.rowMajor_val_one, Shape.rowMajor_val_two]
    show d.val = (win0_1.index t (0 : Fin 2) * 1 + 1 * 0) * 2048 + (win0_1.index t (1 : Fin 2) * 2048 + 1 * d.val)
    rw [e0, e1]; omega
  · rw [Shape.rowMajor_val_one, Shape.rowMajor_val_two]
    show 0 * 2048 + d.val = d.val
    omega

theorem blk2 (c : Dev nD) (t : Fin cfg0.N) (r : Fin 512) (d : Fin 2048) :
    iblk m c 2 t (ix3 0 0 d) = shift m c ⟨t.val % 16 * 512 + r.val, by omega⟩ d := by
  obtain ⟨e0, e1, e2⟩ := idx2 t
  blk_simp [iblk]
  refine (congrFun (V_main_arg2 m c) _).trans (congrArg (m ((c.tc : Thread nD τ).loc main_arg2)) ?_)
  funext a; apply Fin.ext
  match a with
  | ⟨0, _⟩ => show win0_2.index t (0 : Fin 3) * 1 + 1 * 0 = (t.val % 16 * 512 + r.val) / 4096; rw [e0]; omega
  | ⟨1, _⟩ => show win0_2.index t (1 : Fin 3) * 1 + 1 * 0 = 0; rw [e1]
  | ⟨2, _⟩ => show win0_2.index t (2 : Fin 3) * 2048 + 1 * d.val = d.val; rw [e2]; omega

theorem blk3 (c : Dev nD) (t : Fin cfg0.N) (r : Fin 512) (d : Fin 2048) :
    iblk m c 3 t (ix3 0 0 d) = scale m c ⟨t.val % 16 * 512 + r.val, by omega⟩ d := by
  obtain ⟨e0, e1, e2⟩ := idx3 t
  blk_simp [iblk]
  refine (congrFun (V_main_arg3 m c) _).trans (congrArg (m ((c.tc : Thread nD τ).loc main_arg3)) ?_)
  funext a; apply Fin.ext
  match a with
  | ⟨0, _⟩ => show win0_3.index t (0 : Fin 3) * 1 + 1 * 0 = (t.val % 16 * 512 + r.val) / 4096; rw [e0]; omega
  | ⟨1, _⟩ => show win0_3.index t (1 : Fin 3) * 1 + 1 * 0 = 0; rw [e1]
  | ⟨2, _⟩ => show win0_3.index t (2 : Fin 3) * 2048 + 1 * d.val = d.val; rw [e2]; omega

theorem blkW (c : Dev nD) (t : Fin cfg0.N) (k : Fin 1024) (d : Fin 2048) : X0_4 m c t (ix2 k d) = w m c d (2048 + k.val) := by
  obtain ⟨e0, e1⟩ := idx4 t
  unfold X0_4 Pipeline.Window.fill
  rw [dif_pos (moved0_4 t _)]
  blk_simp [iblk]
  entry_read
  refine (transpose_apply _ _ transposes_S2048x6224_S6224x2048_1_0 _ (ix2 d ⟨2048 + k.val, by omega⟩) ?_).trans ?_
  · intro a
    match a with
    | ⟨0, _⟩ => show 2048 + k.val = win0_4.index t (0 : Fin 2) * 1024 + 1 * k.val; rw [e0]; omega
    | ⟨1, _⟩ => show d.val = win0_4.index t (1 : Fin 2) * 2048 + 1 * d.val; rw [e1]; omega
  · refine (shapeCast_apply _ shapeCasts_S1x2048x6224_S2048x6224 _ (ix3 0 d ⟨2048 + k.val, by omega⟩) ?_).trans ?_
    · rw [Shape.rowMajor_val_three, Shape.rowMajor_val_two]
      show (0 * 2048 + d.val) * 6224 + (2048 + k.val) = d.val * 6224 + (2048 + k.val)
      omega
    · exact congrArg (fun i => m ((c.tc : Thread nD τ).loc main_arg4) (ix3 0 d i))
        (Fin.ext (Nat.mod_eq_of_lt (show 2048 + k.val < 6224 by omega)).symm)

theorem payN_apply (y : Vec Ideal S512x2048 .f32) (n : Vec Ideal S1x2048 .f32) (s t : Vec Ideal S1x1x2048 .f32) (r : Fin 512) (d : Fin 2048) :
    k0_pay1 y n s t (ix2 r d)
      = normed (fun d => y (ix2 r d)) (fun d => n (ix2 0 d)) (fun d => s (ix3 0 0 d)) (fun d => t (ix3 0 0 d)) d := by
  pointwise [k0_pay1, normed, rms]

theorem payW_apply (x : Vec Ideal S1024x2048 .f32) (d : Fin 2048) (k : Fin 1024) : k0_pay3 x (ix2 d k) = x (ix2 k d) := by
  pointwise [k0_pay3]

theorem payM_apply (x : Vec Ideal S512x2048 .bf16) (y : Vec Ideal S2048x1024 .bf16) (r : Fin 512) (k : Fin 1024) :
    k0_pay4 (k0_pay2 x) y (constant S512x1024 .f32 0x00000000#32) (ix2 r k) = ∑ d : Fin 2048, x (ix2 r d) * y (ix2 d k) := by
  pointwise [k0_pay4, k0_pay2]

/-- The normalised rows a point forms. -/
def rows (c : Dev nD) (t : Fin cfg0.N) : FVec Ideal S512x2048 .bf16 := k0_pay1 (iblk m c 0 t) (iblk m c 1 t) (iblk m c 3 t) (iblk m c 2 t)

theorem rows_apply (c : Dev nD) (t : Fin cfg0.N) (r : Fin 512) (d : Fin 2048) : rows m c t (ix2 r d) = h m c ⟨t.val % 16 * 512 + r.val, by omega⟩ d := by
  unfold rows
  refine (payN_apply ..).trans ?_
  simp only [blk0, blk1]
  have es : (fun d => iblk m c 3 t (ix3 0 0 d)) = scale m c ⟨t.val % 16 * 512 + r.val, by omega⟩ := funext fun d => blk3 m c t r d
  have et : (fun d => iblk m c 2 t (ix3 0 0 d)) = shift m c ⟨t.val % 16 * 512 + r.val, by omega⟩ := funext fun d => blk2 m c t r d
  rw [es, et]
  rfl

/-! ## What each point leaves -/

theorem first_w (c : Dev nD) (t : Fin cfg0.N) (h0 : t.val % 16 = 0) : (outsAt0 m c t.val t.isLt).2.2 = k0_pay3 (X0_4 m c t) := by
  rw [outsAt0_A m c t h0]
  frame_out

theorem next_w (c : Dev nD) (t : Fin cfg0.N) (h0 : ¬t.val % 16 = 0) :
    (outsAt0 m c t.val t.isLt).2.2 = (outsAt0 m c (t.val - 1) (Nat.lt_of_le_of_lt (Nat.sub_le _ _) t.isLt)).2.2 := by
  rw [outsAt0_B m c t h0]
  rfl

/-- Every point holds the transposed weights in the scratch: the first stores them, the others find them. -/
theorem held (c : Dev nD) : ∀ (n : ℕ) (hn : n < cfg0.N) (d : Fin 2048) (k : Fin 1024),
    (outsAt0 m c n hn).2.2 (ix2 d k) = w m c d (2048 + k.val) := by
  intro n
  induction n with
  | zero => exact fun hn d k => (congrFun (first_w m c ⟨0, hn⟩ rfl) _).trans ((payW_apply ..).trans (blkW ..))
  | succ n ih =>
    intro hn d k
    by_cases h0 : (n + 1) % 16 = 0
    · exact (congrFun (first_w m c ⟨n + 1, hn⟩ h0) _).trans ((payW_apply ..).trans (blkW ..))
    · exact (congrFun (next_w m c ⟨n + 1, hn⟩ h0) _).trans (ih (Nat.lt_of_succ_lt hn) d k)

theorem out7_at (c : Dev nD) (t : Fin cfg0.N) : (outsAt0 m c t.val t.isLt).1 = rows m c t := by
  unfold rows
  by_cases h0 : t.val % 16 = 0
  · rw [outsAt0_A m c t h0]
    frame_out
  · rw [outsAt0_B m c t h0]
    frame_out

/-- The product a point forms: its rows with the segment's columns. -/
def prod (c : Dev nD) (t : Fin cfg0.N) : FVec Ideal S512x1024 .f32 := k0_pay4 (k0_pay2 (rows m c t)) (outsAt0 m c t.val t.isLt).2.2 (constant S512x1024 .f32 0x00000000#32)

theorem prod_apply (c : Dev nD) (t : Fin cfg0.N) (r : Fin 512) (j : Fin 1024) :
    prod m c t (ix2 r j) = row (h m c) (w m c) ⟨t.val % 16 * 512 + r.val, by omega⟩ (2048 + j.val) := by
  unfold prod
  rw [payM_apply]
  exact Finset.sum_congr rfl fun d _ => congrArg₂ (· * ·) (rows_apply m c t r d) (held m c t.val t.isLt d j)

theorem out8_at (c : Dev nD) (t : Fin cfg0.N) (r : Fin 512) (j : Fin 1024) :
    (outsAt0 m c t.val t.isLt).2.1 (ix2 r j)
      = lane (fun j => prod m c t (ix2 r j)) (fun l => iblk m c 5 t (ix2 r l))
          (fun l => iblk m c 6 t (ix2 r l)) j * Ideal.ofBits .f32 0x3DB504F3#32 := by
  unfold prod
  by_cases h0 : t.val % 16 = 0
  · rw [first_w m c t h0, outsAt0_A m c t h0]
    frame_out
    canon_tiles x h
    all_goals open_payloads
    all_goals refine strip_bf16 _ _ _ _ _ x _ r j h0 ?_ (by decide)
    all_goals first | exact h1 | exact h1.trans (Nat.zero_add _).symm
  · rw [next_w m c t h0, outsAt0_B m c t h0]
    frame_out
    simp only [read_unread_whole]
    canon_tiles x h
    all_goals open_payloads
    all_goals refine strip_bf16 _ _ _ _ _ x _ r j h0 ?_ (by decide)
    all_goals first | exact h1 | exact h1.trans (Nat.zero_add _).symm

/-- The lane of the rotation on a point's product is the rotary embedding of the row. -/
theorem lane_apply (c : Dev nD) (t : Fin cfg0.N) (r : Fin 512) (j : Fin 1024) :
    lane (fun j => prod m c t (ix2 r j)) (fun l => iblk m c 5 t (ix2 r l)) (fun l => iblk m c 6 t (ix2 r l)) j
      = rope 64 (fun n => row (h m c) (w m c) ⟨t.val % 16 * 512 + r.val, by omega⟩ (2048 + n)) (angle 0x42800000#32 (BitVec.ofNat 32 ((t.val % 16 * 512 + r.val) % 4096))) j.val := by
  unfold lane
  beta_reduce
  rw [prod_apply, prod_apply, cos_at, sin_at]
  dsimp only
  have e1 : j.val % 128 % 64 = j.val % 64 := by omega
  have e2 : (BitVec.ofNat 32 (t.val % 8 * 512 + r.val)) = ((BitVec.ofNat 32 ((t.val % 16 * 512 + r.val) % 4096))) := congrArg _ (by omega)
  rw [e1, e2]
  exact rope_lane64 (fun n => row (h m c) (w m c) ⟨t.val % 16 * 512 + r.val, by omega⟩ (2048 + n)) _ j.val _ rfl

/-- The queries at row `R`, column `j`. -/
def Out8 (c : Dev nD) : Buf (Elt Ideal) ((c.tc : Thread nD τ).loc main_v29_1) := fun i =>
  rope 64 (fun n => row (h m c) (w m c) (i 0) (2048 + n)) (angle 0x42800000#32 (BitVec.ofNat 32 ((i 0).val % 4096))) (i 1).val * Ideal.ofBits .f32 0x3DB504F3#32

theorem arr8 (c : Dev nD) : (dats m 0 c).arrAt 8 cfg0.N = Out8 m c := by
  refine (dats m 0 c).arrAt_eq_of_covers 8 _ (by decide +kernel) fun t hf y => ?_
  blk_simp
  rw [after0_8]
  obtain ⟨e0, e1⟩ := idx8 t
  idx_vars y
  refine (out8_at m c t y0 y1).trans ((congrArg (· * _) (lane_apply m c t y0 y1)).trans ?_)
  refine congrArg₂ (fun (R : Fin 8192) (n : ℕ) => rope 64 (fun n => row (h m c) (w m c) R (2048 + n)) (angle 0x42800000#32 (BitVec.ofNat 32 (R.val % 4096))) n * Ideal.ofBits .f32 0x3DB504F3#32) (Fin.ext ?_) ?_
  · show t.val % 16 * 512 + y0.val = win0_8.index t (0 : Fin 2) * 512 + 1 * y0.val; rw [e0]; omega
  · show y1.val = win0_8.index t (1 : Fin 2) * 1024 + 1 * y1.val; rw [e1]; omega

/-- The normalised rows. -/
def Out7 (c : Dev nD) : Buf (Elt Ideal) ((c.tc : Thread nD τ).loc main_v29_0) := fun i => h m c (i 0) (i 1)

theorem arr7 (c : Dev nD) : (dats m 0 c).arrAt 7 cfg0.N = Out7 m c := by
  refine (dats m 0 c).arrAt_eq_of_covers 7 _ (by decide +kernel) fun t hf y => ?_
  blk_simp
  rw [after0_7]
  obtain ⟨e0, e1⟩ := idx7 t
  idx_vars y
  refine (congrFun (out7_at m c t) _).trans ((rows_apply m c t y0 y1).trans ?_)
  refine congrArg₂ (fun (R : Fin 8192) (n : Fin 2048) => h m c R n) (Fin.ext ?_) (Fin.ext ?_)
  · show t.val % 16 * 512 + y0.val = win0_7.index t (0 : Fin 2) * 512 + 1 * y0.val; rw [e0]; omega
  · show y1.val = win0_7.index t (1 : Fin 2) * 2048 + 1 * y1.val; rw [e1]; omega

end Cert.Kernel8Ideal.Q

end
-- ==== Proof.QPromptReference.lean ====
/-
  The reference's normalised rows and queries (the prompt) read at an index.
-/
module

public import proofs.«01_k».proof.Proof.ProjSpec
public import proofs.«01_k».proof.Proof.OutSpec
public import proofs.«01_k».proof.Proof.Gen.Reference8Ideal.Read

@[expose] public section

set_option maxRecDepth 16384

noncomputable section

namespace Cert.Reference8Ideal.Q

open Cert.Reference8Ideal Cert.Reference8Ideal.Gen Cert.Reference8Ideal.Read Cert.ProjSpec Cert.OutSpec Cert.MlpSpec
open Idealize.ShloMosaic Idealize.ShloMosaic.TcCoe Idealize.SL.Sem

variable (a0 : (⟨S2x4096x2048, .f32⟩ : BufTy).Contents (Elt Ideal)) (a1 : (⟨S1x2048, .f32⟩ : BufTy).Contents (Elt Ideal))
  (a2 a3 : (⟨S2x1x2048, .f32⟩ : BufTy).Contents (Elt Ideal)) (a4 : (⟨S1x2048x6224, .f32⟩ : BufTy).Contents (Elt Ideal))

/-- The rotary angles. -/
theorem ang_apply (p : Fin 4096) (i : Fin 64) : val_main_v43 (F := Ideal) (ix2 p i) = angle 0x42800000#32 (BitVec.ofNat 32 p.val) i.val := by
  pointwise [val_main_v43, val_main_v42, val_main_v41, val_main_v40, val_main_v39, val_main_v38, val_main_v37, val_main_v36, val_main_v35, val_main_v34, val_main_v33, val_main_v32, val_main_v31, val_main_cst_3, val_main_cst_4, angle]

/-- The normalised rows. -/
def hh (b : Fin 2) (p : Fin 4096) (d : Fin 2048) : EReal :=
  normed (fun d => a0 (ix3 b p d)) (fun d => a1 (ix2 0 d)) (fun d => a3 (ix3 b 0 d)) (fun d => a2 (ix3 b 0 d)) d

theorem hh_apply (b : Fin 2) (p : Fin 4096) (d : Fin 2048) : val_main_v19 (F := Ideal) a0 a1 a2 a3 (ix3 b p d) = hh a0 a1 a2 a3 b p d := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, hh, normed, rms]

/-- A row's feature `n` of the segment. -/
def feat (b : Fin 2) (p : Fin 4096) (n : ℕ) : EReal := ∑ d : Fin 2048, hh a0 a1 a2 a3 b p d * a4 (ix3 0 d (Fin.ofNat 6224 (2048 + n)))

theorem heads_apply (b : Fin 2) (p : Fin 4096) (g : Fin 8) (l : Fin 128) :
    val_main_v30 (F := Ideal) a0 a1 a2 a3 a4 (ix4 b p g l) = feat a0 a1 a2 a3 a4 b p (g.val * 128 + l.val) := by
  unfold val_main_v30 feat
  refine (shapeCast_apply _ shapeCasts_S2x4096x1024_S2x4096x8x128 _ (ix3 b p ⟨g.val * 128 + l.val, by omega⟩) ?_).trans ?_
  · rw [Shape.rowMajor_val_three, Shape.rowMajor_val_four]
    show (b.val * 4096 + p.val) * 1024 + (g.val * 128 + l.val) = ((b.val * 4096 + p.val) * 8 + g.val) * 128 + l.val
    omega
  · refine (show _ = ∑ d : Fin 2048, hh a0 a1 a2 a3 b p d * a4 (ix3 0 d ⟨2048 + (g.val * 128 + l.val), by omega⟩) from by
      simp only [← hh_apply]
      unfold val_main_v24 val_main_v21
      generalize val_main_v19 (F := Ideal) a0 a1 a2 a3 = y
      pointwise [val_main_v20]).trans ?_
    refine Finset.sum_congr rfl fun d _ => congrArg (fun n => hh a0 a1 a2 a3 b p d * a4 (ix3 0 d n)) (Fin.ext ?_)
    exact (Nat.mod_eq_of_lt (show 2048 + (g.val * 128 + l.val) < 6224 by omega)).symm

theorem rope_apply (b : Fin 2) (p : Fin 4096) (g : Fin 8) (l : Fin 128) :
    val_main_v60 (F := Ideal) a0 a1 a2 a3 a4 (ix4 b p g l) = rope 64 (feat a0 a1 a2 a3 a4 b p) (angle 0x42800000#32 (BitVec.ofNat 32 p.val)) (g.val * 128 + l.val) := by
  have hy := heads_apply a0 a1 a2 a3 a4 b p g
  unfold val_main_v60 val_main_v59 val_main_v58 val_main_v56 val_main_v54 val_main_v53 val_main_v51 val_main_v49 val_main_v48
  generalize val_main_v30 (F := Ideal) a0 a1 a2 a3 a4 = y at hy ⊢
  refine (show _ = (if hl : l.val < 64 then
      y (ix4 b p g ⟨l.val, by omega⟩) * Ideal.cos (val_main_v43 (F := Ideal) (ix2 p ⟨l.val, hl⟩))
        - y (ix4 b p g ⟨64 + l.val, by omega⟩) * Ideal.sin (val_main_v43 (F := Ideal) (ix2 p ⟨l.val, hl⟩))
    else y (ix4 b p g ⟨64 + (l.val - 64), by omega⟩) * Ideal.cos (val_main_v43 (F := Ideal) (ix2 p ⟨l.val - 64, by omega⟩))
        + y (ix4 b p g ⟨l.val - 64, by omega⟩) * Ideal.sin (val_main_v43 (F := Ideal) (ix2 p ⟨l.val - 64, by omega⟩)))
    from by pointwise [val_main_v57, val_main_v55, val_main_v52, val_main_v50, val_main_v47, val_main_v46, val_main_v45, val_main_v44]).trans ?_
  have hb := l.isLt
  unfold rope
  have e1 : (g.val * 128 + l.val) % (2 * 64) = l.val := by omega
  by_cases hl : l.val < 64
  · have e2 : (g.val * 128 + l.val) % 64 = l.val := by omega
    rw [dif_pos hl, if_pos (by omega), hy, hy, ang_apply, e2]
    dsimp only
    rw [show g.val * 128 + (64 + l.val) = g.val * 128 + l.val + 64 by omega]
  · have e2 : (g.val * 128 + l.val) % 64 = l.val - 64 := by omega
    rw [dif_neg hl, if_neg (by omega), hy, hy, ang_apply, e2]
    dsimp only
    rw [show g.val * 128 + (64 + (l.val - 64)) = g.val * 128 + l.val by omega,
      show g.val * 128 + (l.val - 64) = g.val * 128 + l.val - 64 by omega]

/-- The normalised rows, row by row. -/
theorem norm_apply (R : Fin 8192) (d : Fin 2048) :
    val_main_v64 (F := Ideal) a0 a1 a2 a3 (ix2 R d)
      = normed (fun d => a0 (ix3 ⟨R.val / 4096, by omega⟩ ⟨R.val % 4096, by omega⟩ d)) (fun d => a1 (ix2 0 d)) (fun d => a3 (ix3 ⟨R.val / 4096, by omega⟩ 0 d)) (fun d => a2 (ix3 ⟨R.val / 4096, by omega⟩ 0 d)) d := by
  refine (show _ = val_main_v63 (F := Ideal) a0 a1 a2 a3 (ix2 R d) from rfl).trans ?_
  unfold val_main_v63
  refine (shapeCast_apply _ shapeCasts_S2x4096x2048_S8192x2048 _ (ix3 ⟨R.val / 4096, by omega⟩ ⟨R.val % 4096, by omega⟩ d) ?_).trans ?_
  · rw [Shape.rowMajor_val_three, Shape.rowMajor_val_two]
    show (R.val / 4096 * 4096 + R.val % 4096) * 2048 + d.val = R.val * 2048 + d.val
    omega
  · exact hh_apply ..

/-- The result at row `R`, column `j`. -/
theorem ref_apply (R : Fin 8192) (j : Fin 1024) :
    val_main_v65 (F := Ideal) a0 a1 a2 a3 a4 (ix2 R j)
      = rope 64 (fun n => row (fun R d => hh a0 a1 a2 a3 ⟨R.val / 4096, by omega⟩ ⟨R.val % 4096, by omega⟩ d) (fun d n => a4 (ix3 0 d (Fin.ofNat 6224 n))) R (2048 + n))
          (angle 0x42800000#32 (BitVec.ofNat 32 (R.val % 4096)))  j.val * Ideal.ofBits .f32 0x3DB504F3#32 := by
  unfold val_main_v65
  refine (shapeCast_apply _ shapeCasts_S2x4096x8x128_S8192x1024 _ (ix4 ⟨R.val / 4096, by omega⟩ ⟨R.val % 4096, by omega⟩ ⟨j.val / 128, by omega⟩ ⟨j.val % 128, by omega⟩) ?_).trans ?_
  · rw [Shape.rowMajor_val_four, Shape.rowMajor_val_two]
    show ((R.val / 4096 * 4096 + R.val % 4096) * 8 + j.val / 128) * 128 + j.val % 128 = R.val * 1024 + j.val
    omega
  · refine (show _ = val_main_v60 (F := Ideal) a0 a1 a2 a3 a4 (ix4 ⟨R.val / 4096, by omega⟩ ⟨R.val % 4096, by omega⟩ ⟨j.val / 128, by omega⟩ ⟨j.val % 128, by omega⟩) * Ideal.ofBits .f32 0x3DB504F3#32 from by
      unfold val_main_v62
      generalize val_main_v60 (F := Ideal) a0 a1 a2 a3 a4 = y
      pointwise [val_main_v61, val_main_cst_5]).trans ?_
    rw [rope_apply]
    show rope 64 _ _ (j.val / 128 * 128 + j.val % 128) * _ = _
    rw [show j.val / 128 * 128 + j.val % 128 = j.val by omega]
    rfl

theorem narrow_apply (R : Fin 8192) (j : Fin 1024) : val_main_v66 (F := Ideal) a0 a1 a2 a3 a4 (ix2 R j) = val_main_v65 (F := Ideal) a0 a1 a2 a3 a4 (ix2 R j) := by
  unfold val_main_v66
  rfl

end Cert.Reference8Ideal.Q

end
-- ==== Proof.QSampleKernel.lean ====
/-
  The samples' normalised rows and queries (the norm, the input projection and the rotary embedding) read at an index. One point of the grid holds the 32 rows. Every tile is written in strips of 128 lanes.
-/
module

public import proofs.«01_k».proof.Proof.ProjSpec
public import proofs.«01_k».proof.Proof.OutSpec
public import proofs.«01_k».proof.Proof.Gen.Kernel16Ideal.Value
public import Idealize.ShloMosaic.Lib.Pipeline.ValueKit
public import Idealize.ShloMosaic.Lib.Pipeline.ReadBack

@[expose] public section

set_option maxRecDepth 16384

noncomputable section

namespace Cert.Kernel16Ideal.Q

open Cert.Kernel16Ideal Cert.Kernel16Ideal.Gen Cert.Kernel16Ideal.Value Cert.ProjSpec Cert.OutSpec Cert.MlpSpec
open Idealize.ShloMosaic Idealize.ShloMosaic.TcCoe Idealize.SL.Sem

variable (m : (ℓ : Loc nD τ sig) → Buf (Elt Ideal) ℓ)

/-! ## The arguments by coordinates -/

def x (c : Dev nD) (R : Fin 32) (d : Fin 2048) : EReal := m ((c.tc : Thread nD τ).loc main_arg0) (ix3 R 0 d)
def gain (c : Dev nD) (d : Fin 2048) : EReal := m ((c.tc : Thread nD τ).loc main_arg1) (ix2 0 d)
def shift (c : Dev nD) (R : Fin 32) (d : Fin 2048) : EReal := m ((c.tc : Thread nD τ).loc main_arg2) (ix2 R d)
def scale (c : Dev nD) (R : Fin 32) (d : Fin 2048) : EReal := m ((c.tc : Thread nD τ).loc main_arg3) (ix2 R d)
/-- The normalised rows. -/
def h (c : Dev nD) (R : Fin 32) (d : Fin 2048) : EReal := normed (x m c R) (gain m c) (scale m c R) (shift m c R) d
/-- The input projection's columns. -/
def w (c : Dev nD) (d : Fin 2048) (n : ℕ) : EReal := m ((c.tc : Thread nD τ).loc main_arg4) (ix3 0 d (Fin.ofNat 6224 n))

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx4 : ∀ t : Fin cfg0.N, win0_4.index t (0 : Fin 2) = 2 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-- One lane of the rotation by the two tables: the partner stands half a head away in the lane's strip of 128. -/
def lane (f : Fin 1024 → EReal) (c s : Fin 128 → EReal) (j : Fin 1024) : EReal :=
  f j * c ⟨j.val % 128, by omega⟩ + f ⟨j.val / 128 * 128 + (j.val % 128 + 128 - 64) % 128, by omega⟩ * s ⟨j.val % 128, by omega⟩

/-- One strip of 128 lanes as the kernel writes it. -/
theorem strip_f32 (P : FVec Ideal S32x1024 .f32) (C S : Vec Ideal S32x128 .f32) (o : ℕ) (hs : S32x1024.Slices ![0, o] S32x128)
    (x : S32x128.Idx) (r : Fin 32) (j : Fin 1024) (h0 : r.val = (x 0).val) (h1 : j.val = o + (x 1).val) (ho : o % 128 = 0) :
    addf (mulf (extractStridedSlice S32x128 ![0, o] P hs) (shapeCast S32x128 C shapeCasts_S32x128_S32x128))
      (mulf (dynamicRotate 1 64#32 none (extractStridedSlice S32x128 ![0, o] P hs) rotates_S32x128_d1)
        (shapeCast S32x128 S shapeCasts_S32x128_S32x128)) x
      = lane (fun j => P (ix2 r j)) (fun l => C (ix2 r l)) (fun l => S (ix2 r l)) j := by
  idx_vars x
  have hb := j.isLt
  have e0 : r = x0 := Fin.ext h0
  have e1 : j.val = o + x1.val := h1
  have hb1 := x1.isLt
  subst e0
  refine (show _ = P (ix2 r ⟨o + x1.val, by omega⟩) * C (ix2 r x1)
    + P (ix2 r ⟨o + (x1.val + 128 - 64) % 128, by omega⟩) * S (ix2 r x1) from by pointwise []).trans ?_
  have el : (⟨j.val % 128, by omega⟩ : Fin 128) = x1 := Fin.ext (by show j.val % 128 = x1.val; omega)
  unfold lane
  rw [el]
  refine congrArg₂ (· + ·) (congrArg₂ (· * ·) (congrArg P (congrArg _ (Fin.ext ?_))) rfl)
    (congrArg₂ (· * ·) (congrArg P (congrArg _ (Fin.ext ?_))) rfl)
  · show o + x1.val = j.val; omega
  · show o + (x1.val + 128 - 64) % 128 = j.val / 128 * 128 + (j.val % 128 + 128 - 64) % 128; omega

/-- The same strip scaled by a constant and stored in the narrow format. -/
theorem strip_bf16 (P : FVec Ideal S32x1024 .f32) (C S : Vec Ideal S32x128 .f32) (o : ℕ) (hs : S32x1024.Slices ![0, o] S32x128)
    (x : S32x128.Idx) (k : BitVec 32) (r : Fin 32) (j : Fin 1024) (h0 : r.val = (x 0).val) (h1 : j.val = o + (x 1).val) (ho : o % 128 = 0) :
    truncf .bf16 (mulf (addf (mulf (extractStridedSlice S32x128 ![0, o] P hs) (shapeCast S32x128 C shapeCasts_S32x128_S32x128))
      (mulf (dynamicRotate 1 64#32 none (extractStridedSlice S32x128 ![0, o] P hs) rotates_S32x128_d1)
        (shapeCast S32x128 S shapeCasts_S32x128_S32x128))) (broadcast S32x128 (Scalar.ofBits .f32 k))) bitsLt_bf16_f32 x
      = lane (fun j => P (ix2 r j)) (fun l => C (ix2 r l)) (fun l => S (ix2 r l)) j * Ideal.ofBits .f32 k :=
  congrArg (· * Ideal.ofBits .f32 k) (strip_f32 P C S o hs x r j h0 h1 ho)

/-- A table of the rotation at position `p` and lane `l`: two halves side by side. -/
theorem table_apply (a b : FVec Ideal S32x64 .f32) (p : Fin 32) (l : Fin 128) :
    shapeCast S32x128 (broadcastInDim S1x32x1x128 ![0, 1, 2, 3] bcast_S1x32x1x128_S1x32x1x128_0_1_2_3 fun i =>
        shapeCast S1x32x1x128 (concatenate S32x128 1 [⟨S32x64, a⟩, ⟨S32x64, b⟩] concatenates_S32x64_S32x64_S32x128_d1)
          shapeCasts_S32x128_S1x32x1x128 i)
      shapeCasts_S1x32x1x128_S32x128 (ix2 p l)
      = if h : l.val < 64 then a (ix2 p ⟨l.val, h⟩) else b (ix2 p ⟨l.val - 64, by omega⟩) := by
  refine (shapeCast_apply _ shapeCasts_S1x32x1x128_S32x128 _ (ix4 0 p 0 l) ?_).trans ?_
  · rw [Shape.rowMajor_val_four, Shape.rowMajor_val_two]
    show ((0 * 32 + p.val) * 1 + 0) * 128 + l.val = p.val * 128 + l.val
    omega
  refine (show _ = shapeCast S1x32x1x128 (concatenate S32x128 1 [⟨S32x64, a⟩, ⟨S32x64, b⟩] concatenates_S32x64_S32x64_S32x128_d1)
          shapeCasts_S32x128_S1x32x1x128 (ix4 0 p 0 l) from by pointwise []).trans ?_
  refine (shapeCast_apply _ shapeCasts_S32x128_S1x32x1x128 _ (ix2 p l) ?_).trans ?_
  · rw [Shape.rowMajor_val_four, Shape.rowMajor_val_two]
    show p.val * 128 + l.val = ((0 * 32 + p.val) * 1 + 0) * 128 + l.val
    omega
  pointwise []

theorem cos_at (c : Dev nD) (t : Fin cfg0.N) (r : Fin 32) (l : Fin 128) :
    iblk m c 5 t (ix2 r l)
      = Ideal.cos (angle 0x42800000#32 8192#32 (l.val % 64)) := by
  obtain ⟨e0, e1⟩ := idx5 t
  blk_simp [iblk]
  entry_read
  have e : ((View.whole main_v20).slice (win0_5.rect t)).emb (ix2 r l) = ix2 r l := by
    funext a; apply Fin.ext
    match a with
    | ⟨0, _⟩ => show win0_5.index t (0 : Fin 2) * 32 + 1 * r.val = r.val; rw [e0]; omega
    | ⟨1, _⟩ => show win0_5.index t (1 : Fin 2) * 128 + 1 * l.val = l.val; rw [e1]; omega
  rw [e]
  refine (table_apply _ _ _ l).trans ?_
  by_cases hl : l.val < 64
  · rw [dif_pos hl, Nat.mod_eq_of_lt hl]
    pointwise [angle]
  · rw [dif_neg hl, show l.val % 64 = l.val - 64 by omega]
    pointwise [angle]

theorem sin_at (c : Dev nD) (t : Fin cfg0.N) (r : Fin 32) (l : Fin 128) :
    iblk m c 6 t (ix2 r l)
      = if l.val < 64 then -Ideal.sin (angle 0x42800000#32 8192#32 (l.val % 64))
        else Ideal.sin (angle 0x42800000#32 8192#32 (l.val % 64)) := by
  obtain ⟨e0, e1⟩ := idx6 t
  blk_simp [iblk]
  entry_read
  have e : ((View.whole main_v25).slice (win0_6.rect t)).emb (ix2 r l) = ix2 r l := by
    funext a; apply Fin.ext
    match a with
    | ⟨0, _⟩ => show win0_6.index t (0 : Fin 2) * 32 + 1 * r.val = r.val; rw [e0]; omega
    | ⟨1, _⟩ => show win0_6.index t (1 : Fin 2) * 128 + 1 * l.val = l.val; rw [e1]; omega
  rw [e]
  refine (table_apply _ _ _ l).trans ?_
  by_cases hl : l.val < 64
  · rw [dif_pos hl, if_pos hl, Nat.mod_eq_of_lt hl]
    pointwise [angle]
  · rw [dif_neg hl, if_neg hl, show l.val % 64 = l.val - 64 by omega]
    pointwise [angle]

theorem blk0 (c : Dev nD) (t : Fin cfg0.N) (r : Fin 32) (d : Fin 2048) : iblk m c 0 t (ix2 r d) = x m c r d := by
  obtain ⟨e0, e1⟩ := idx0 t
  blk_simp [iblk]
  entry_read
  refine shapeCast_apply _ shapeCasts_S32x1x2048_S32x2048 _ (ix3 r 0 d) ?_
  rw [Shape.rowMajor_val_three, Shape.rowMajor_val_two]
  show (r.val * 1 + 0) * 2048 + d.val
    = (win0_0.index t (0 : Fin 2) * 32 + 1 * r.val) * 2048 + (win0_0.index t (1 : Fin 2) * 2048 + 1 * d.val)
  rw [e0, e1]; omega

theorem blk1 (c : Dev nD) (t : Fin cfg0.N) (d : Fin 2048) : iblk m c 1 t (ix2 0 d) = gain m c d := by
  obtain ⟨e0, e1⟩ := idx1 t
  blk_simp [iblk]
  entry_read
  refine (shapeCast_apply _ shapeCasts_S2048_S1x2048 _ (ix1 d) ?_).trans (shapeCast_apply _ shapeCasts_S1x2048_S2048 _ (ix2 0 d) ?_)
  · rw [Shape.rowMajor_val_one, Shape.rowMajor_val_two]
    show d.val = (win0_1.index t (0 : Fin 2) * 1 + 1 * 0) * 2048 + (win0_1.index t (1 : Fin 2) * 2048 + 1 * d.val)
    rw [e0, e1]; omega
  · rw [Shape.rowMajor_val_one, Shape.rowMajor_val_two]
    show 0 * 2048 + d.val = d.val
    omega

theorem blk2 (c : Dev nD) (t : Fin cfg0.N) (r : Fin 32) (d : Fin 2048) : iblk m c 2 t (ix2 r d) = shift m c r d := by
  obtain ⟨e0, e1⟩ := idx2 t
  blk_simp [iblk]
  refine (congrFun (V_main_arg2 m c) _).trans (congrArg (m ((c.tc : Thread nD τ).loc main_arg2)) ?_)
  funext a; apply Fin.ext
  match a with
  | ⟨0, _⟩ => show win0_2.index t (0 : Fin 2) * 32 + 1 * r.val = r.val; rw [e0]; omega
  | ⟨1, _⟩ => show win0_2.index t (1 : Fin 2) * 2048 + 1 * d.val = d.val; rw [e1]; omega

theorem blk3 (c : Dev nD) (t : Fin cfg0.N) (r : Fin 32) (d : Fin 2048) : iblk m c 3 t (ix2 r d) = scale m c r d := by
  obtain ⟨e0, e1⟩ := idx3 t
  blk_simp [iblk]
  refine (congrFun (V_main_arg3 m c) _).trans (congrArg (m ((c.tc : Thread nD τ).loc main_arg3)) ?_)
  funext a; apply Fin.ext
  match a with
  | ⟨0, _⟩ => show win0_3.index t (0 : Fin 2) * 32 + 1 * r.val = r.val; rw [e0]; omega
  | ⟨1, _⟩ => show win0_3.index t (1 : Fin 2) * 2048 + 1 * d.val = d.val; rw [e1]; omega

theorem blkW (c : Dev nD) (t : Fin cfg0.N) (k : Fin 1024) (d : Fin 2048) : X0_4 m c t (ix2 k d) = w m c d (2048 + k.val) := by
  obtain ⟨e0, e1⟩ := idx4 t
  unfold X0_4 Pipeline.Window.fill
  rw [dif_pos (moved0_4 t _)]
  blk_simp [iblk]
  entry_read
  refine (transpose_apply _ _ transposes_S2048x6224_S6224x2048_1_0 _ (ix2 d ⟨2048 + k.val, by omega⟩) ?_).trans ?_
  · intro a
    match a with
    | ⟨0, _⟩ => show 2048 + k.val = win0_4.index t (0 : Fin 2) * 1024 + 1 * k.val; rw [e0]; omega
    | ⟨1, _⟩ => show d.val = win0_4.index t (1 : Fin 2) * 2048 + 1 * d.val; rw [e1]; omega
  · refine (shapeCast_apply _ shapeCasts_S1x2048x6224_S2048x6224 _ (ix3 0 d ⟨2048 + k.val, by omega⟩) ?_).trans ?_
    · rw [Shape.rowMajor_val_three, Shape.rowMajor_val_two]
      show (0 * 2048 + d.val) * 6224 + (2048 + k.val) = d.val * 6224 + (2048 + k.val)
      omega
    · exact congrArg (fun i => m ((c.tc : Thread nD τ).loc main_arg4) (ix3 0 d i))
        (Fin.ext (Nat.mod_eq_of_lt (show 2048 + k.val < 6224 by omega)).symm)

theorem payN_apply (y : Vec Ideal S32x2048 .f32) (n : Vec Ideal S1x2048 .f32) (s t : Vec Ideal S32x2048 .f32) (r : Fin 32) (d : Fin 2048) :
    k0_pay4 y n s t (ix2 r d)
      = normed (fun d => y (ix2 r d)) (fun d => n (ix2 0 d)) (fun d => s (ix2 r d)) (fun d => t (ix2 r d)) d := by
  pointwise [k0_pay4, normed, rms]

theorem payW_apply (x : Vec Ideal S1024x2048 .f32) (d : Fin 2048) (k : Fin 1024) : k0_pay5 x (ix2 d k) = x (ix2 k d) := by
  pointwise [k0_pay5]

theorem payM_apply (x : Vec Ideal S32x2048 .bf16) (y : Vec Ideal S2048x1024 .bf16) (r : Fin 32) (k : Fin 1024) :
    k0_pay6 x y (ix2 r k) = ∑ d : Fin 2048, x (ix2 r d) * y (ix2 d k) := by
  pointwise [k0_pay6]

/-- The normalised rows a point forms. -/
def rows (c : Dev nD) (t : Fin cfg0.N) : FVec Ideal S32x2048 .bf16 := k0_pay4 (iblk m c 0 t) (iblk m c 1 t) (iblk m c 3 t) (iblk m c 2 t)

theorem rows_apply (c : Dev nD) (t : Fin cfg0.N) (r : Fin 32) (d : Fin 2048) : rows m c t (ix2 r d) = h m c r d := by
  unfold rows
  refine (payN_apply ..).trans ?_
  simp only [blk0, blk1]
  have es : (fun d => iblk m c 3 t (ix2 r d)) = scale m c r := funext fun d => blk3 m c t r d
  have et : (fun d => iblk m c 2 t (ix2 r d)) = shift m c r := funext fun d => blk2 m c t r d
  rw [es, et]
  rfl

theorem out7_at (c : Dev nD) (t : Fin cfg0.N) : (outsAt0 m c t).1 = rows m c t := by
  unfold rows outsAt0
  dsimp only
  frame_out

/-- The product a point forms: its rows with the segment's columns. -/
def prod (c : Dev nD) (t : Fin cfg0.N) : FVec Ideal S32x1024 .f32 := k0_pay6 (rows m c t) (k0_pay5 (X0_4 m c t))

theorem prod_apply (c : Dev nD) (t : Fin cfg0.N) (r : Fin 32) (j : Fin 1024) :
    prod m c t (ix2 r j) = row (h m c) (w m c) r (2048 + j.val) := by
  unfold prod
  rw [payM_apply]
  exact Finset.sum_congr rfl fun d _ => congrArg₂ (· * ·) (rows_apply m c t r d) ((payW_apply ..).trans (blkW m c t j d))

theorem out8_at (c : Dev nD) (t : Fin cfg0.N) (r : Fin 32) (j : Fin 1024) :
    (outsAt0 m c t).2 (ix2 r j)
      = lane (fun j => prod m c t (ix2 r j)) (fun l => iblk m c 5 t (ix2 r l))
          (fun l => iblk m c 6 t (ix2 r l)) j * Ideal.ofBits .f32 0x3DB504F3#32 := by
  unfold prod outsAt0
  frame_out
  canon_tiles x h
  all_goals open_payloads
  all_goals refine strip_bf16 _ _ _ _ _ x _ r j h0 ?_ (by decide)
  all_goals first | exact h1 | exact h1.trans (Nat.zero_add _).symm

/-- The lane of the rotation on a point's product is the rotary embedding of the row. -/
theorem lane_apply (c : Dev nD) (t : Fin cfg0.N) (r : Fin 32) (j : Fin 1024) :
    lane (fun j => prod m c t (ix2 r j)) (fun l => iblk m c 5 t (ix2 r l)) (fun l => iblk m c 6 t (ix2 r l)) j
      = rope 64 (fun n => row (h m c) (w m c) r (2048 + n)) (angle 0x42800000#32 8192#32) j.val := by
  unfold lane
  beta_reduce
  rw [prod_apply, prod_apply, cos_at, sin_at]
  dsimp only
  have e1 : j.val % 128 % 64 = j.val % 64 := by omega
  have e2 : (8192#32) = (8192#32) := rfl
  rw [e1, e2]
  exact rope_lane64 (fun n => row (h m c) (w m c) r (2048 + n)) _ j.val _ rfl

/-- The queries at row `R`, column `j`. -/
def Out8 (c : Dev nD) : Buf (Elt Ideal) ((c.tc : Thread nD τ).loc main_v29_1) := fun i =>
  rope 64 (fun n => row (h m c) (w m c) (i 0) (2048 + n)) (angle 0x42800000#32 8192#32) (i 1).val * Ideal.ofBits .f32 0x3DB504F3#32

theorem arr8 (c : Dev nD) : (dats m 0 c).arrAt 8 cfg0.N = Out8 m c := by
  refine (dats m 0 c).arrAt_eq_of_covers 8 _ (by decide +kernel) fun t hf y => ?_
  blk_simp
  rw [after0_8]
  obtain ⟨e0, e1⟩ := idx8 t
  idx_vars y
  refine (out8_at m c t y0 y1).trans ((congrArg (· * _) (lane_apply m c t y0 y1)).trans ?_)
  refine congrArg₂ (fun (R : Fin 32) (n : ℕ) => rope 64 (fun n => row (h m c) (w m c) R (2048 + n)) (angle 0x42800000#32 8192#32) n * Ideal.ofBits .f32 0x3DB504F3#32) (Fin.ext ?_) ?_
  · show y0.val = win0_8.index t (0 : Fin 2) * 32 + 1 * y0.val; rw [e0]; omega
  · show y1.val = win0_8.index t (1 : Fin 2) * 1024 + 1 * y1.val; rw [e1]; omega

/-- The normalised rows. -/
def Out7 (c : Dev nD) : Buf (Elt Ideal) ((c.tc : Thread nD τ).loc main_v29_0) := fun i => h m c (i 0) (i 1)

theorem arr7 (c : Dev nD) : (dats m 0 c).arrAt 7 cfg0.N = Out7 m c := by
  refine (dats m 0 c).arrAt_eq_of_covers 7 _ (by decide +kernel) fun t hf y => ?_
  blk_simp
  rw [after0_7]
  obtain ⟨e0, e1⟩ := idx7 t
  idx_vars y
  refine (congrFun (out7_at m c t) _).trans ((rows_apply m c t y0 y1).trans ?_)
  refine congrArg₂ (fun (R : Fin 32) (n : Fin 2048) => h m c R n) (Fin.ext ?_) (Fin.ext ?_)
  · show y0.val = win0_7.index t (0 : Fin 2) * 32 + 1 * y0.val; rw [e0]; omega
  · show y1.val = win0_7.index t (1 : Fin 2) * 2048 + 1 * y1.val; rw [e1]; omega

end Cert.Kernel16Ideal.Q

end
-- ==== Proof.QSampleReference.lean ====
/-
  The reference's normalised rows and queries (the samples) read at an index.
-/
module

public import proofs.«01_k».proof.Proof.ProjSpec
public import proofs.«01_k».proof.Proof.OutSpec
public import proofs.«01_k».proof.Proof.Gen.Reference16Ideal.Read

@[expose] public section

set_option maxRecDepth 16384

noncomputable section

namespace Cert.Reference16Ideal.Q

open Cert.Reference16Ideal Cert.Reference16Ideal.Gen Cert.Reference16Ideal.Read Cert.ProjSpec Cert.OutSpec Cert.MlpSpec
open Idealize.ShloMosaic Idealize.ShloMosaic.TcCoe Idealize.SL.Sem

variable (a0 : (⟨S32x1x2048, .f32⟩ : BufTy).Contents (Elt Ideal)) (a1 : (⟨S1x2048, .f32⟩ : BufTy).Contents (Elt Ideal))
  (a2 a3 : (⟨S32x2048, .f32⟩ : BufTy).Contents (Elt Ideal)) (a4 : (⟨S1x2048x6224, .f32⟩ : BufTy).Contents (Elt Ideal))

/-- The rotary angles. -/
theorem ang_apply (p : Fin 1) (i : Fin 64) : val_main_v44 (F := Ideal) (ix2 p i) = angle 0x42800000#32 8192#32 i.val := by
  obtain rfl : p = 0 := Subsingleton.elim _ _
  pointwise [val_main_v44, val_main_v43, val_main_v42, val_main_v41, val_main_v40, val_main_v39, val_main_v38, val_main_v37, val_main_v36, val_main_v35, val_main_v34, val_main_v33, val_main_v32, val_main_v31, val_main_cst_3, val_main_cst_4, val_main_c, angle]
  rfl

/-- The normalised rows. -/
def hh (b : Fin 32) (p : Fin 1) (d : Fin 2048) : EReal :=
  normed (fun d => a0 (ix3 b p d)) (fun d => a1 (ix2 0 d)) (fun d => a3 (ix2 b d)) (fun d => a2 (ix2 b d)) d

theorem hh_apply (b : Fin 32) (p : Fin 1) (d : Fin 2048) : val_main_v19 (F := Ideal) a0 a1 a2 a3 (ix3 b p d) = hh a0 a1 a2 a3 b p d := by
  obtain rfl : p = 0 := Subsingleton.elim _ _
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, hh, normed, rms]

/-- A row's feature `n` of the segment. -/
def feat (b : Fin 32) (p : Fin 1) (n : ℕ) : EReal := ∑ d : Fin 2048, hh a0 a1 a2 a3 b p d * a4 (ix3 0 d (Fin.ofNat 6224 (2048 + n)))

theorem heads_apply (b : Fin 32) (p : Fin 1) (g : Fin 8) (l : Fin 128) :
    val_main_v30 (F := Ideal) a0 a1 a2 a3 a4 (ix4 b p g l) = feat a0 a1 a2 a3 a4 b p (g.val * 128 + l.val) := by
  obtain rfl : p = 0 := Subsingleton.elim _ _
  unfold val_main_v30 feat
  refine (shapeCast_apply _ shapeCasts_S32x1x1024_S32x1x8x128 _ (ix3 b 0 ⟨g.val * 128 + l.val, by omega⟩) ?_).trans ?_
  · rw [Shape.rowMajor_val_three, Shape.rowMajor_val_four]
    show (b.val * 1 + 0) * 1024 + (g.val * 128 + l.val) = ((b.val * 1 + 0) * 8 + g.val) * 128 + l.val
    omega
  · refine (show _ = ∑ d : Fin 2048, hh a0 a1 a2 a3 b 0 d * a4 (ix3 0 d ⟨2048 + (g.val * 128 + l.val), by omega⟩) from by
      simp only [← hh_apply]
      unfold val_main_v24 val_main_v21
      generalize val_main_v19 (F := Ideal) a0 a1 a2 a3 = y
      pointwise [val_main_v20]).trans ?_
    refine Finset.sum_congr rfl fun d _ => congrArg (fun n => hh a0 a1 a2 a3 b 0 d * a4 (ix3 0 d n)) (Fin.ext ?_)
    exact (Nat.mod_eq_of_lt (show 2048 + (g.val * 128 + l.val) < 6224 by omega)).symm

theorem rope_apply (b : Fin 32) (p : Fin 1) (g : Fin 8) (l : Fin 128) :
    val_main_v61 (F := Ideal) a0 a1 a2 a3 a4 (ix4 b p g l) = rope 64 (feat a0 a1 a2 a3 a4 b p) (angle 0x42800000#32 8192#32) (g.val * 128 + l.val) := by
  obtain rfl : p = 0 := Subsingleton.elim _ _
  have hy := heads_apply a0 a1 a2 a3 a4 b 0 g
  unfold val_main_v61 val_main_v60 val_main_v59 val_main_v57 val_main_v55 val_main_v54 val_main_v52 val_main_v50 val_main_v49
  generalize val_main_v30 (F := Ideal) a0 a1 a2 a3 a4 = y at hy ⊢
  refine (show _ = (if hl : l.val < 64 then
      y (ix4 b 0 g ⟨l.val, by omega⟩) * Ideal.cos (val_main_v44 (F := Ideal) (ix2 0 ⟨l.val, hl⟩))
        - y (ix4 b 0 g ⟨64 + l.val, by omega⟩) * Ideal.sin (val_main_v44 (F := Ideal) (ix2 0 ⟨l.val, hl⟩))
    else y (ix4 b 0 g ⟨64 + (l.val - 64), by omega⟩) * Ideal.cos (val_main_v44 (F := Ideal) (ix2 0 ⟨l.val - 64, by omega⟩))
        + y (ix4 b 0 g ⟨l.val - 64, by omega⟩) * Ideal.sin (val_main_v44 (F := Ideal) (ix2 0 ⟨l.val - 64, by omega⟩)))
    from by pointwise [val_main_v58, val_main_v56, val_main_v53, val_main_v51, val_main_v48, val_main_v47, val_main_v46, val_main_v45]).trans ?_
  have hb := l.isLt
  unfold rope
  have e1 : (g.val * 128 + l.val) % (2 * 64) = l.val := by omega
  by_cases hl : l.val < 64
  · have e2 : (g.val * 128 + l.val) % 64 = l.val := by omega
    rw [dif_pos hl, if_pos (by omega), hy, hy, ang_apply, e2]
    dsimp only
    rw [show g.val * 128 + (64 + l.val) = g.val * 128 + l.val + 64 by omega]
  · have e2 : (g.val * 128 + l.val) % 64 = l.val - 64 := by omega
    rw [dif_neg hl, if_neg (by omega), hy, hy, ang_apply, e2]
    dsimp only
    rw [show g.val * 128 + (64 + (l.val - 64)) = g.val * 128 + l.val by omega,
      show g.val * 128 + (l.val - 64) = g.val * 128 + l.val - 64 by omega]

/-- The normalised rows, row by row. -/
theorem norm_apply (R : Fin 32) (d : Fin 2048) :
    val_main_v65 (F := Ideal) a0 a1 a2 a3 (ix2 R d)
      = normed (fun d => a0 (ix3 R 0 d)) (fun d => a1 (ix2 0 d)) (fun d => a3 (ix2 R d)) (fun d => a2 (ix2 R d)) d := by
  refine (show _ = val_main_v64 (F := Ideal) a0 a1 a2 a3 (ix2 R d) from rfl).trans ?_
  unfold val_main_v64
  refine (shapeCast_apply _ shapeCasts_S32x1x2048_S32x2048 _ (ix3 R 0 d) ?_).trans ?_
  · rw [Shape.rowMajor_val_three, Shape.rowMajor_val_two]
    show (R.val * 1 + 0) * 2048 + d.val = R.val * 2048 + d.val
    omega
  · exact hh_apply ..

/-- The result at row `R`, column `j`. -/
theorem ref_apply (R : Fin 32) (j : Fin 1024) :
    val_main_v66 (F := Ideal) a0 a1 a2 a3 a4 (ix2 R j)
      = rope 64 (fun n => row (fun R d => hh a0 a1 a2 a3 R 0 d) (fun d n => a4 (ix3 0 d (Fin.ofNat 6224 n))) R (2048 + n))
          (angle 0x42800000#32 8192#32)  j.val * Ideal.ofBits .f32 0x3DB504F3#32 := by
  unfold val_main_v66
  refine (shapeCast_apply _ shapeCasts_S32x1x8x128_S32x1024 _ (ix4 R 0 ⟨j.val / 128, by omega⟩ ⟨j.val % 128, by omega⟩) ?_).trans ?_
  · rw [Shape.rowMajor_val_four, Shape.rowMajor_val_two]
    show ((R.val * 1 + 0) * 8 + j.val / 128) * 128 + j.val % 128 = R.val * 1024 + j.val
    omega
  · refine (show _ = val_main_v61 (F := Ideal) a0 a1 a2 a3 a4 (ix4 R 0 ⟨j.val / 128, by omega⟩ ⟨j.val % 128, by omega⟩) * Ideal.ofBits .f32 0x3DB504F3#32 from by
      unfold val_main_v63
      generalize val_main_v61 (F := Ideal) a0 a1 a2 a3 a4 = y
      pointwise [val_main_v62, val_main_cst_5]).trans ?_
    rw [rope_apply]
    show rope 64 _ _ (j.val / 128 * 128 + j.val % 128) * _ = _
    rw [show j.val / 128 * 128 + j.val % 128 = j.val by omega]
    rfl

theorem narrow_apply (R : Fin 32) (j : Fin 1024) : val_main_v67 (F := Ideal) a0 a1 a2 a3 a4 (ix2 R j) = val_main_v66 (F := Ideal) a0 a1 a2 a3 a4 (ix2 R j) := by
  unfold val_main_v67
  rfl

end Cert.Reference16Ideal.Q

end
-- ==== Proof.ConvSpec.lean ====
/-
  The convolution at one row: a sum of 31 taps and the bias per channel, then the layer norm over the 1024 channels and
  the swish.
-/
module

public import Idealize.ShloMosaic.Lib.Pipeline.ValueKit

@[expose] public section

set_option maxRecDepth 16384

noncomputable section

namespace Cert.ConvSpec

open Idealize.ShloMosaic

/-- The sum of the 31 taps' products. -/
def taps (f : ℕ → EReal) : EReal := ∑ j ∈ Finset.range 31, f j

/-- The products added one by one from the first tap. -/
theorem taps_eq (f : ℕ → EReal) : taps f = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [taps, Finset.sum_range_succ, Finset.sum_range_zero, zero_add]

/-- The bias and the last tap first, then the other taps in order. -/
theorem taps_late (f : ℕ → EReal) (b : EReal) :
    b + f 30 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 = taps f + b := by
  rw [taps_eq]
  generalize f 30 = z
  ac_rfl

/-- The tap `j`'s product: a state row before tap 30, the new row at tap 30. -/
def tap (x0 : Fin 30 → EReal) (x1 : EReal) (x2 : Fin 31 → EReal) (j : ℕ) : EReal :=
  x2 (Fin.ofNat 31 j) * if j = 30 then x1 else x0 (Fin.ofNat 30 j)

/-- Tap `j`'s product at row `t` of a sequence: the row `t + j` of the sequence led by 30 rows of zeros. -/
def ptap (u : Fin 4096 → Fin 1024 → EReal) (w : Fin 31 → Fin 1024 → EReal) (t : ℕ) (d : Fin 1024) (j : ℕ) : EReal :=
  w (Fin.ofNat 31 j) d * if t + j < 30 then 0 else u (Fin.ofNat 4096 (t + j - 30)) d

/-- The layer norm of a row of 1024 channels with gain `g` and shift `b`, at channel `k`. -/
def lnorm (y g b : Fin 1024 → EReal) (k : Fin 1024) : EReal :=
  let mu := Ideal.div (∑ d : Fin 1024, y d) (Ideal.ofBits .f32 0x44800000#32 : EReal)
  let var := Ideal.div (∑ d : Fin 1024, (y d - mu) * (y d - mu)) (Ideal.ofBits .f32 0x44800000#32 : EReal)
  (y k - mu) * Ideal.rsqrt (var + Ideal.ofBits .f32 0x358637BD#32) * g k + b k

/-- The swish of one element. -/
def swish (z : EReal) : EReal := z * Ideal.logistic z

end Cert.ConvSpec

end
-- ==== Proof.ConvSampleKernel.lean ====
/-
  The samples' convolution kernel read at an index. The grid has one point: the whole arrays are its blocks.
-/
module

public import proofs.«01_k».proof.Proof.ConvSpec
public import proofs.«01_k».proof.Proof.Gen.Kernel19Ideal.Frame
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Kernel19Ideal.Conv

open Cert.Kernel19Ideal Cert.Kernel19Ideal.Gen Cert.ConvSpec
open Idealize.ShloMosaic Idealize.ShloMosaic.TcCoe Idealize.SL.Sem

variable (m : (ℓ : Loc nD τ sig) → Buf (Elt Ideal) ℓ)

/-- The arguments: the states, the new rows, the taps' weights, the bias, the gain and the shift. -/
def st (c : Dev nD) (R : Fin 32) (j : Fin 30) (d : Fin 1024) : EReal := m ((c.tc : Thread nD τ).loc main_arg0) (ix4 0 R j d)
def u (c : Dev nD) (R : Fin 32) (d : Fin 1024) : EReal := m ((c.tc : Thread nD τ).loc main_arg1) (ix3 R 0 d)
def w (c : Dev nD) (j : Fin 31) (d : Fin 1024) : EReal := m ((c.tc : Thread nD τ).loc main_arg2) (ix3 0 j d)
def b (c : Dev nD) (d : Fin 1024) : EReal := m ((c.tc : Thread nD τ).loc main_arg3) (ix2 0 d)
def g (c : Dev nD) (d : Fin 1024) : EReal := m ((c.tc : Thread nD τ).loc main_arg4) (ix2 0 d)
def s (c : Dev nD) (d : Fin 1024) : EReal := m ((c.tc : Thread nD τ).loc main_arg5) (ix2 0 d)

theorem pay1_apply (v0 : Vec Ideal S1x1024 .f32) (v2 : Vec Ideal S1x1024 .f32) (v4 : Vec Ideal S32x1024 .f32) (v10 : Vec Ideal S1x1024 .f32) (v12 : Vec Ideal S1x32x1024 .f32) (v17 : Vec Ideal S1x1024 .f32) (v19 : Vec Ideal S1x32x1024 .f32) (v24 : Vec Ideal S1x1024 .f32) (v26 : Vec Ideal S1x32x1024 .f32) (r : Fin 32) (d : Fin 1024) :
    k0_pay1 v0 v2 v4 v10 v12 v17 v19 v24 v26 (ix2 r d) = v0 (ix2 0 d) + v2 (ix2 0 d) * v4 (ix2 r d) + v10 (ix2 0 d) * v12 (ix3 0 r d) + v17 (ix2 0 d) * v19 (ix3 0 r d) + v24 (ix2 0 d) * v26 (ix3 0 r d) := by
  pointwise [k0_pay1]

theorem pay3_apply (v30 : FVec Ideal S32x1024 .f32) (v32 : FVec Ideal S1x1024 .f32) (v33 : Vec Ideal S1x32x1024 .f32) (v38 : Vec Ideal S1x1024 .f32) (v40 : Vec Ideal S1x32x1024 .f32) (v45 : Vec Ideal S1x1024 .f32) (v47 : Vec Ideal S1x32x1024 .f32) (v52 : Vec Ideal S1x1024 .f32) (v54 : Vec Ideal S1x32x1024 .f32) (v59 : Vec Ideal S1x1024 .f32) (v61 : Vec Ideal S1x32x1024 .f32) (r : Fin 32) (d : Fin 1024) :
    k0_pay3 v30 v32 v33 v38 v40 v45 v47 v52 v54 v59 v61 (ix2 r d) = v30 (ix2 r d) + v32 (ix2 0 d) * v33 (ix3 0 r d) + v38 (ix2 0 d) * v40 (ix3 0 r d) + v45 (ix2 0 d) * v47 (ix3 0 r d) + v52 (ix2 0 d) * v54 (ix3 0 r d) + v59 (ix2 0 d) * v61 (ix3 0 r d) := by
  pointwise [k0_pay3]

theorem pay5_apply (v65 : FVec Ideal S32x1024 .f32) (v67 : FVec Ideal S1x1024 .f32) (v68 : Vec Ideal S1x32x1024 .f32) (v73 : Vec Ideal S1x1024 .f32) (v75 : Vec Ideal S1x32x1024 .f32) (v80 : Vec Ideal S1x1024 .f32) (v82 : Vec Ideal S1x32x1024 .f32) (v87 : Vec Ideal S1x1024 .f32) (v89 : Vec Ideal S1x32x1024 .f32) (v94 : Vec Ideal S1x1024 .f32) (v96 : Vec Ideal S1x32x1024 .f32) (r : Fin 32) (d : Fin 1024) :
    k0_pay5 v65 v67 v68 v73 v75 v80 v82 v87 v89 v94 v96 (ix2 r d) = v65 (ix2 r d) + v67 (ix2 0 d) * v68 (ix3 0 r d) + v73 (ix2 0 d) * v75 (ix3 0 r d) + v80 (ix2 0 d) * v82 (ix3 0 r d) + v87 (ix2 0 d) * v89 (ix3 0 r d) + v94 (ix2 0 d) * v96 (ix3 0 r d) := by
  pointwise [k0_pay5]

theorem pay7_apply (v100 : FVec Ideal S32x1024 .f32) (v102 : FVec Ideal S1x1024 .f32) (v103 : Vec Ideal S1x32x1024 .f32) (v108 : Vec Ideal S1x1024 .f32) (v110 : Vec Ideal S1x32x1024 .f32) (v115 : Vec Ideal S1x1024 .f32) (v117 : Vec Ideal S1x32x1024 .f32) (v122 : Vec Ideal S1x1024 .f32) (v124 : Vec Ideal S1x32x1024 .f32) (v129 : Vec Ideal S1x1024 .f32) (v131 : Vec Ideal S1x32x1024 .f32) (r : Fin 32) (d : Fin 1024) :
    k0_pay7 v100 v102 v103 v108 v110 v115 v117 v122 v124 v129 v131 (ix2 r d) = v100 (ix2 r d) + v102 (ix2 0 d) * v103 (ix3 0 r d) + v108 (ix2 0 d) * v110 (ix3 0 r d) + v115 (ix2 0 d) * v117 (ix3 0 r d) + v122 (ix2 0 d) * v124 (ix3 0 r d) + v129 (ix2 0 d) * v131 (ix3 0 r d) := by
  pointwise [k0_pay7]

theorem pay9_apply (v135 : FVec Ideal S32x1024 .f32) (v137 : FVec Ideal S1x1024 .f32) (v138 : Vec Ideal S1x32x1024 .f32) (v143 : Vec Ideal S1x1024 .f32) (v145 : Vec Ideal S1x32x1024 .f32) (v150 : Vec Ideal S1x1024 .f32) (v152 : Vec Ideal S1x32x1024 .f32) (v157 : Vec Ideal S1x1024 .f32) (v159 : Vec Ideal S1x32x1024 .f32) (v164 : Vec Ideal S1x1024 .f32) (v166 : Vec Ideal S1x32x1024 .f32) (r : Fin 32) (d : Fin 1024) :
    k0_pay9 v135 v137 v138 v143 v145 v150 v152 v157 v159 v164 v166 (ix2 r d) = v135 (ix2 r d) + v137 (ix2 0 d) * v138 (ix3 0 r d) + v143 (ix2 0 d) * v145 (ix3 0 r d) + v150 (ix2 0 d) * v152 (ix3 0 r d) + v157 (ix2 0 d) * v159 (ix3 0 r d) + v164 (ix2 0 d) * v166 (ix3 0 r d) := by
  pointwise [k0_pay9]

theorem pay11_apply (v170 : FVec Ideal S32x1024 .f32) (v172 : FVec Ideal S1x1024 .f32) (v173 : Vec Ideal S1x32x1024 .f32) (v178 : Vec Ideal S1x1024 .f32) (v180 : Vec Ideal S1x32x1024 .f32) (v185 : Vec Ideal S1x1024 .f32) (v187 : Vec Ideal S1x32x1024 .f32) (v192 : Vec Ideal S1x1024 .f32) (v194 : Vec Ideal S1x32x1024 .f32) (v199 : Vec Ideal S1x1024 .f32) (v201 : Vec Ideal S1x32x1024 .f32) (r : Fin 32) (d : Fin 1024) :
    k0_pay11 v170 v172 v173 v178 v180 v185 v187 v192 v194 v199 v201 (ix2 r d) = v170 (ix2 r d) + v172 (ix2 0 d) * v173 (ix3 0 r d) + v178 (ix2 0 d) * v180 (ix3 0 r d) + v185 (ix2 0 d) * v187 (ix3 0 r d) + v192 (ix2 0 d) * v194 (ix3 0 r d) + v199 (ix2 0 d) * v201 (ix3 0 r d) := by
  pointwise [k0_pay11]

theorem pay2_apply (v : Vec Ideal S1x1024 .f32) (d : Fin 1024) : k0_pay2 v (ix2 0 d) = v (ix2 0 d) := by
  pointwise [k0_pay2]

theorem pay4_apply (v : Vec Ideal S1x1024 .f32) (d : Fin 1024) : k0_pay4 v (ix2 0 d) = v (ix2 0 d) := by
  pointwise [k0_pay4]

theorem pay6_apply (v : Vec Ideal S1x1024 .f32) (d : Fin 1024) : k0_pay6 v (ix2 0 d) = v (ix2 0 d) := by
  pointwise [k0_pay6]

theorem pay8_apply (v : Vec Ideal S1x1024 .f32) (d : Fin 1024) : k0_pay8 v (ix2 0 d) = v (ix2 0 d) := by
  pointwise [k0_pay8]

theorem pay10_apply (v : Vec Ideal S1x1024 .f32) (d : Fin 1024) : k0_pay10 v (ix2 0 d) = v (ix2 0 d) := by
  pointwise [k0_pay10]

theorem pay12_apply (v : Vec Ideal S1x1024 .f32) (d : Fin 1024) : k0_pay12 v (ix2 0 d) = v (ix2 0 d) := by
  pointwise [k0_pay12]

theorem pay13_apply (v205 : FVec Ideal S32x1024 .f32) (v207 : FVec Ideal S1x1024 .f32) (v208 : Vec Ideal S1x32x1024 .f32) (v213 : Vec Ideal S1x1024 .f32) (v215 : Vec Ideal S1x32x1024 .f32) (v220 : Vec Ideal S1x1024 .f32) (v222 : Vec Ideal S1x1024 .f32) (r : Fin 32) (k : Fin 1024) :
    k0_pay13 v205 v207 v208 v213 v215 v220 v222 (ix2 r k)
      = swish (lnorm (fun d => v205 (ix2 r d) + v207 (ix2 0 d) * v208 (ix3 0 r d) + v213 (ix2 0 d) * v215 (ix3 0 r d))
          (fun d => v220 (ix2 0 d)) (fun d => v222 (ix2 0 d)) k) := by
  pointwise [k0_pay13, swish, lnorm]

theorem ldW (X : Vec Ideal S31x1024 .f32) (n : ℕ) (hn : n < 31) (h) (d : Fin 1024) :
    View.ld X (Rect.unit (s := S31x1024) ![n, 0] S1x1024.size h) (ix2 0 d) = X (ix2 ⟨n, hn⟩ d) := by
  refine (View.ld_apply X _ _).trans (congrArg X ?_)
  funext a
  apply Fin.ext
  match a with
  | ⟨0, _⟩ => show n + 1 * 0 = n; omega
  | ⟨1, _⟩ => show 0 + 1 * d.val = d.val; omega

theorem ldS (X : Vec Ideal S30x32x1024 .f32) (n : ℕ) (hn : n < 30) (h) (r : Fin 32) (d : Fin 1024) :
    View.ld X (Rect.unit (s := S30x32x1024) ![n, 0, 0] S1x32x1024.size h) (ix3 0 r d) = X (ix3 ⟨n, hn⟩ r d) := by
  refine (View.ld_apply X _ _).trans (congrArg X ?_)
  funext a
  apply Fin.ext
  match a with
  | ⟨0, _⟩ => show n + 1 * 0 = n; omega
  | ⟨1, _⟩ => show 0 + 1 * r.val = r.val; omega
  | ⟨2, _⟩ => show 0 + 1 * d.val = d.val; omega

/-- The block the point leaves, as one nest of payloads. -/
def O (x0 : Vec Ideal S30x32x1024 .f32) (x1 : Vec Ideal S32x1024 .f32) (x2 : Vec Ideal S31x1024 .f32)
    (x3 x4 x5 : Vec Ideal S1x1024 .f32) : Vec Ideal S32x1024 .bf16 :=
  k0_pay13 (k0_pay11 (k0_pay9 (k0_pay7 (k0_pay5 (k0_pay3 (k0_pay1 x3 (View.ld x2 r0_1) x1 (View.ld x2 r0_3) (View.ld x0 r0_4) (View.ld x2 r0_5) (View.ld x0 r0_6) (View.ld x2 r0_7) (View.ld x0 r0_8)) (k0_pay2 (View.ld x2 r0_9)) (View.ld x0 r0_10) (View.ld x2 r0_11) (View.ld x0 r0_12) (View.ld x2 r0_13) (View.ld x0 r0_14) (View.ld x2 r0_15) (View.ld x0 r0_16) (View.ld x2 r0_17) (View.ld x0 r0_18)) (k0_pay4 (View.ld x2 r0_19)) (View.ld x0 r0_20) (View.ld x2 r0_21) (View.ld x0 r0_22) (View.ld x2 r0_23) (View.ld x0 r0_24) (View.ld x2 r0_25) (View.ld x0 r0_26) (View.ld x2 r0_27) (View.ld x0 r0_28)) (k0_pay6 (View.ld x2 r0_29)) (View.ld x0 r0_30) (View.ld x2 r0_31) (View.ld x0 r0_32) (View.ld x2 r0_33) (View.ld x0 r0_34) (View.ld x2 r0_35) (View.ld x0 r0_36) (View.ld x2 r0_37) (View.ld x0 r0_38)) (k0_pay8 (View.ld x2 r0_39)) (View.ld x0 r0_40) (View.ld x2 r0_41) (View.ld x0 r0_42) (View.ld x2 r0_43) (View.ld x0 r0_44) (View.ld x2 r0_45) (View.ld x0 r0_46) (View.ld x2 r0_47) (View.ld x0 r0_48)) (k0_pay10 (View.ld x2 r0_49)) (View.ld x0 r0_50) (View.ld x2 r0_51) (View.ld x0 r0_52) (View.ld x2 r0_53) (View.ld x0 r0_54) (View.ld x2 r0_55) (View.ld x0 r0_56) (View.ld x2 r0_57) (View.ld x0 r0_58)) (k0_pay12 (View.ld x2 r0_59)) (View.ld x0 r0_60) (View.ld x2 r0_61) (View.ld x0 r0_62) x4 x5

theorem out_at (x0 : Vec Ideal S30x32x1024 .f32) (x1 : Vec Ideal S32x1024 .f32) (x2 : Vec Ideal S31x1024 .f32)
    (x3 x4 x5 : Vec Ideal S1x1024 .f32) : out0_6 x0 x1 x2 x3 x4 x5 = O x0 x1 x2 x3 x4 x5 := by
  unfold out0_6 O
  frame_out

theorem O_apply (x0 : Vec Ideal S30x32x1024 .f32) (x1 : Vec Ideal S32x1024 .f32) (x2 : Vec Ideal S31x1024 .f32)
    (x3 x4 x5 : Vec Ideal S1x1024 .f32) (r : Fin 32) (k : Fin 1024) :
    O x0 x1 x2 x3 x4 x5 (ix2 r k)
      = swish (lnorm (fun d => taps (tap (fun j => x0 (ix3 j r d)) (x1 (ix2 r d)) (fun j => x2 (ix2 j d))) + x3 (ix2 0 d))
          (fun d => x4 (ix2 0 d)) (fun d => x5 (ix2 0 d)) k) := by
  unfold O
  rw [pay13_apply]
  refine congrArg (fun y => swish (lnorm y _ _ k)) (funext fun d => ?_)
  rw [← taps_late]
  simp only [pay1_apply, pay2_apply, pay3_apply, pay4_apply, pay5_apply, pay6_apply, pay7_apply, pay8_apply, pay9_apply,
    pay10_apply, pay11_apply, pay12_apply]
  rw [ldW x2 30 (by decide), ldW x2 0 (by decide), ldW x2 1 (by decide), ldW x2 2 (by decide), ldW x2 3 (by decide), ldW x2 4 (by decide), ldW x2 5 (by decide), ldW x2 6 (by decide), ldW x2 7 (by decide), ldW x2 8 (by decide), ldW x2 9 (by decide), ldW x2 10 (by decide), ldW x2 11 (by decide), ldW x2 12 (by decide), ldW x2 13 (by decide), ldW x2 14 (by decide), ldW x2 15 (by decide), ldW x2 16 (by decide), ldW x2 17 (by decide), ldW x2 18 (by decide), ldW x2 19 (by decide), ldW x2 20 (by decide), ldW x2 21 (by decide), ldW x2 22 (by decide), ldW x2 23 (by decide), ldW x2 24 (by decide), ldW x2 25 (by decide), ldW x2 26 (by decide), ldW x2 27 (by decide), ldW x2 28 (by decide), ldW x2 29 (by decide),
    ldS x0 0 (by decide), ldS x0 1 (by decide), ldS x0 2 (by decide), ldS x0 3 (by decide), ldS x0 4 (by decide), ldS x0 5 (by decide), ldS x0 6 (by decide), ldS x0 7 (by decide), ldS x0 8 (by decide), ldS x0 9 (by decide), ldS x0 10 (by decide), ldS x0 11 (by decide), ldS x0 12 (by decide), ldS x0 13 (by decide), ldS x0 14 (by decide), ldS x0 15 (by decide), ldS x0 16 (by decide), ldS x0 17 (by decide), ldS x0 18 (by decide), ldS x0 19 (by decide), ldS x0 20 (by decide), ldS x0 21 (by decide), ldS x0 22 (by decide), ldS x0 23 (by decide), ldS x0 24 (by decide), ldS x0 25 (by decide), ldS x0 26 (by decide), ldS x0 27 (by decide), ldS x0 28 (by decide), ldS x0 29 (by decide)]
  rfl

theorem idxs : ∀ t : Fin cfg0.N, (win0_0.index t (0 : Fin 3) = 0 ∧ win0_0.index t (1 : Fin 3) = 0 ∧ win0_0.index t (2 : Fin 3) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0) :=
  (by decide +kernel : ∀ t : Fin grid0.N, _)

theorem blk0 (c : Dev nD) (t : Fin cfg0.N) (j : Fin 30) (r : Fin 32) (d : Fin 1024) : iblk m c 0 t (ix3 j r d) = st m c r j d := by
  obtain ⟨⟨e0, e1, e2⟩, -⟩ := idxs t
  blk_simp [iblk]
  entry_read
  refine (transpose_apply _ _ transposes_S32x30x1024_S30x32x1024_1_0_2 _ (ix3 r j d) ?_).trans ?_
  · intro a
    match a with
    | ⟨0, _⟩ => show j.val = win0_0.index t (0 : Fin 3) * 30 + 1 * j.val; rw [e0]; omega
    | ⟨1, _⟩ => show r.val = win0_0.index t (1 : Fin 3) * 32 + 1 * r.val; rw [e1]; omega
    | ⟨2, _⟩ => show d.val = win0_0.index t (2 : Fin 3) * 1024 + 1 * d.val; rw [e2]; omega
  · refine shapeCast_apply _ shapeCasts_S1x32x30x1024_S32x30x1024 _ (ix4 0 r j d) ?_
    rw [Shape.rowMajor_val_four, Shape.rowMajor_val_three]
    show ((0 * 32 + r.val) * 30 + j.val) * 1024 + d.val = (r.val * 30 + j.val) * 1024 + d.val
    omega

theorem blk1 (c : Dev nD) (t : Fin cfg0.N) (r : Fin 32) (d : Fin 1024) : iblk m c 1 t (ix2 r d) = u m c r d := by
  obtain ⟨-, ⟨e0, e1⟩, -⟩ := idxs t
  blk_simp [iblk]
  entry_read
  refine shapeCast_apply _ shapeCasts_S32x1x1024_S32x1024 _ (ix3 r 0 d) ?_
  rw [Shape.rowMajor_val_three, Shape.rowMajor_val_two]
  show (r.val * 1 + 0) * 1024 + d.val
    = (win0_1.index t (0 : Fin 2) * 32 + 1 * r.val) * 1024 + (win0_1.index t (1 : Fin 2) * 1024 + 1 * d.val)
  rw [e0, e1]; omega

theorem blk2 (c : Dev nD) (t : Fin cfg0.N) (j : Fin 31) (d : Fin 1024) : iblk m c 2 t (ix2 j d) = w m c j d := by
  obtain ⟨-, -, ⟨e0, e1⟩, -⟩ := idxs t
  blk_simp [iblk]
  entry_read
  refine shapeCast_apply _ shapeCasts_S1x31x1024_S31x1024 _ (ix3 0 j d) ?_
  rw [Shape.rowMajor_val_three, Shape.rowMajor_val_two]
  show (0 * 31 + j.val) * 1024 + d.val
    = (win0_2.index t (0 : Fin 2) * 31 + 1 * j.val) * 1024 + (win0_2.index t (1 : Fin 2) * 1024 + 1 * d.val)
  rw [e0, e1]; omega

theorem blk3 (c : Dev nD) (t : Fin cfg0.N) (d : Fin 1024) : iblk m c 3 t (ix2 0 d) = b m c d := by
  obtain ⟨-, -, -, ⟨e0, e1⟩, -⟩ := idxs t
  blk_simp [iblk]
  entry_read
  refine (shapeCast_apply _ shapeCasts_S1024_S1x1024 _ (ix1 d) ?_).trans (shapeCast_apply _ shapeCasts_S1x1024_S1024 _ (ix2 0 d) ?_)
  · rw [Shape.rowMajor_val_one, Shape.rowMajor_val_two]
    show d.val = (win0_3.index t (0 : Fin 2) * 1 + 1 * 0) * 1024 + (win0_3.index t (1 : Fin 2) * 1024 + 1 * d.val)
    rw [e0, e1]; omega
  · rw [Shape.rowMajor_val_one, Shape.rowMajor_val_two]
    show 0 * 1024 + d.val = d.val
    omega

theorem blk4 (c : Dev nD) (t : Fin cfg0.N) (d : Fin 1024) : iblk m c 4 t (ix2 0 d) = g m c d := by
  obtain ⟨-, -, -, -, ⟨e0, e1⟩, -⟩ := idxs t
  blk_simp [iblk]
  entry_read
  refine (shapeCast_apply _ shapeCasts_S1024_S1x1024 _ (ix1 d) ?_).trans (shapeCast_apply _ shapeCasts_S1x1024_S1024 _ (ix2 0 d) ?_)
  · rw [Shape.rowMajor_val_one, Shape.rowMajor_val_two]
    show d.val = (win0_4.index t (0 : Fin 2) * 1 + 1 * 0) * 1024 + (win0_4.index t (1 : Fin 2) * 1024 + 1 * d.val)
    rw [e0, e1]; omega
  · rw [Shape.rowMajor_val_one, Shape.rowMajor_val_two]
    show 0 * 1024 + d.val = d.val
    omega

theorem blk5 (c : Dev nD) (t : Fin cfg0.N) (d : Fin 1024) : iblk m c 5 t (ix2 0 d) = s m c d := by
  obtain ⟨-, -, -, -, -, ⟨e0, e1⟩, -⟩ := idxs t
  blk_simp [iblk]
  entry_read
  refine (shapeCast_apply _ shapeCasts_S1024_S1x1024 _ (ix1 d) ?_).trans (shapeCast_apply _ shapeCasts_S1x1024_S1024 _ (ix2 0 d) ?_)
  · rw [Shape.rowMajor_val_one, Shape.rowMajor_val_two]
    show d.val = (win0_5.index t (0 : Fin 2) * 1 + 1 * 0) * 1024 + (win0_5.index t (1 : Fin 2) * 1024 + 1 * d.val)
    rw [e0, e1]; omega
  · rw [Shape.rowMajor_val_one, Shape.rowMajor_val_two]
    show 0 * 1024 + d.val = d.val
    omega

/-- The result array at row `R`, channel `k`. -/
def G (c : Dev nD) : Buf (Elt Ideal) ((c.tc : Thread nD τ).loc main_v10) := fun i =>
  swish (lnorm (fun d => taps (tap (fun j => st m c (i 0) j d) (u m c (i 0) d) (fun j => w m c j d)) + b m c d) (g m c) (s m c) (i 1))

theorem final (c : Dev nD) : (dats m 0 c).arrAt 6 cfg0.N = G m c := by
  refine (dats m 0 c).arrAt_eq_of_covers 6 _ (by decide +kernel) fun t hf y => ?_
  blk_simp
  rw [after0_6]
  obtain ⟨-, -, -, -, -, -, e0, e1⟩ := idxs t
  idx_vars y
  rw [out_at]
  refine (O_apply _ _ _ _ _ _ y0 y1).trans ?_
  simp only [blk0, blk1, blk2, blk3, blk4, blk5]
  have h0 : y0 = ⟨win0_6.index t (0 : Fin 2) * 32 + 1 * y0.val, by rw [e0]; omega⟩ := Fin.ext (by show y0.val = win0_6.index t (0 : Fin 2) * 32 + 1 * y0.val; omega)
  have h1 : y1 = ⟨win0_6.index t (1 : Fin 2) * 1024 + 1 * y1.val, by rw [e1]; omega⟩ := Fin.ext (by show y1.val = win0_6.index t (1 : Fin 2) * 1024 + 1 * y1.val; omega)
  exact congrArg₂ (fun (R : Fin 32) (k : Fin 1024) => swish (lnorm (fun d => taps (tap (fun j => st m c R j d) (u m c R d) (fun j => w m c j d)) + b m c d) (g m c) (s m c) k)) h0 h1

/-- The frame run with the result array named and the arguments unchanged. -/
theorem blocks_run (ρ : Dev nD → PrngReg) : θ_run defs (onTc (τ := τ) (main (F := Ideal))) ⟨m, fun _ => 0, ρ⟩ fun r => ∀ c : Dev nD,
      r.2.mem ((c : Thread nD τ).loc main_v10) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.Kernel19Ideal.Conv

end
-- ==== Proof.ConvSampleReference.lean ====
/-
  The samples' convolution's reference read at an index.
-/
module

public import proofs.«01_k».proof.Proof.ConvSpec
public import proofs.«01_k».proof.Proof.Gen.Reference19Ideal.Read
public import Idealize.ShloMosaic.Lib.Pipeline.ValueKit
public import Idealize.ShloMosaic.Lib.Pipeline.Value

@[expose] public section

set_option maxRecDepth 16384

noncomputable section

namespace Cert.Reference19Ideal.Conv

open Cert.Reference19Ideal Cert.Reference19Ideal.Gen Cert.Reference19Ideal.Read Cert.ConvSpec
open Idealize.ShloMosaic Idealize.ShloMosaic.TcCoe Idealize.SL.Sem

variable (a0 : (⟨S1x32x30x1024, .f32⟩ : BufTy).Contents (Elt Ideal)) (a1 : (⟨S32x1x1024, .f32⟩ : BufTy).Contents (Elt Ideal))
  (a2 : (⟨S1x31x1024, .f32⟩ : BufTy).Contents (Elt Ideal)) (a3 a4 a5 : (⟨S1x1024, .f32⟩ : BufTy).Contents (Elt Ideal))

/-- The extended rows: the 30 state rows, then the new row. -/
theorem ext_apply (r : Fin 32) (j : Fin 31) (d : Fin 1024) :
    val_main_v1 (F := Ideal) a0 a1 (ix3 r j d) = if j.val = 30 then a1 (ix3 r 0 d) else a0 (ix4 0 r (Fin.ofNat 30 j.val) d) := by
  have h0 : ∀ q : Fin 30, val_main_v0 (F := Ideal) a0 (ix3 r q d) = a0 (ix4 0 r q d) := fun q => by pointwise [val_main_v0]
  unfold val_main_v1
  generalize val_main_v0 (F := Ideal) a0 = y at h0
  by_cases h : j.val = 30
  · rw [if_pos h]
    refine concatenate_pair_apply_right (t := S32x31x1024) (s₁ := S32x30x1024) (s₂ := S32x1x1024) (1 : Fin 3) _ _ _ _ rfl rfl (ix3 r 0 d) ?_ ?_
    · intro b hb
      match b, hb with
      | ⟨0, _⟩, _ => rfl
      | ⟨1, _⟩, hb => exact absurd rfl hb
      | ⟨2, _⟩, _ => rfl
    · show 0 + 30 = j.val; omega
  · rw [if_neg h, ← h0]
    refine concatenate_pair_apply_left (t := S32x31x1024) (s₁ := S32x30x1024) (s₂ := S32x1x1024) (1 : Fin 3) _ _ _ _ rfl _ ?_
    intro b
    match b with
    | ⟨0, _⟩ => rfl
    | ⟨1, _⟩ => exact Nat.mod_eq_of_lt (by omega)
    | ⟨2, _⟩ => rfl

/-- Tap `j`'s product at row `r`. -/
def T (r : Fin 32) (d : Fin 1024) (j : ℕ) : EReal := tap (fun j => a0 (ix4 0 r j d)) (a1 (ix3 r 0 d)) (fun j => a2 (ix3 0 j d)) j

theorem tap0 (r : Fin 32) (d : Fin 1024) : val_main_v9 (F := Ideal) a0 a1 a2 (ix3 r 0 d) = T a0 a1 a2 r d 0 := by
  refine Eq.trans (b := val_main_v1 (F := Ideal) a0 a1 (ix3 r (Fin.ofNat 31 0) d) * a2 (ix3 0 (Fin.ofNat 31 0) d)) ?_ ?_
  · unfold val_main_v9 val_main_v4
    generalize val_main_v1 (F := Ideal) a0 a1 = y
    pointwise [val_main_v8, val_main_v7, val_main_v6, val_main_v5, val_main_v2]
    rfl
  · rw [ext_apply, mul_comm]; rfl

theorem tap1 (r : Fin 32) (d : Fin 1024) : val_main_v17 (F := Ideal) a0 a1 a2 (ix3 r 0 d) = T a0 a1 a2 r d 1 := by
  refine Eq.trans (b := val_main_v1 (F := Ideal) a0 a1 (ix3 r (Fin.ofNat 31 1) d) * a2 (ix3 0 (Fin.ofNat 31 1) d)) ?_ ?_
  · unfold val_main_v17 val_main_v12
    generalize val_main_v1 (F := Ideal) a0 a1 = y
    pointwise [val_main_v16, val_main_v15, val_main_v14, val_main_v13, val_main_v2]
    rfl
  · rw [ext_apply, mul_comm]; rfl

theorem tap2 (r : Fin 32) (d : Fin 1024) : val_main_v24 (F := Ideal) a0 a1 a2 (ix3 r 0 d) = T a0 a1 a2 r d 2 := by
  refine Eq.trans (b := val_main_v1 (F := Ideal) a0 a1 (ix3 r (Fin.ofNat 31 2) d) * a2 (ix3 0 (Fin.ofNat 31 2) d)) ?_ ?_
  · unfold val_main_v24 val_main_v19
    generalize val_main_v1 (F := Ideal) a0 a1 = y
    pointwise [val_main_v23, val_main_v22, val_main_v21, val_main_v20, val_main_v2]
    rfl
  · rw [ext_apply, mul_comm]; rfl

theorem tap3 (r : Fin 32) (d : Fin 1024) : val_main_v31 (F := Ideal) a0 a1 a2 (ix3 r 0 d) = T a0 a1 a2 r d 3 := by
  refine Eq.trans (b := val_main_v1 (F := Ideal) a0 a1 (ix3 r (Fin.ofNat 31 3) d) * a2 (ix3 0 (Fin.ofNat 31 3) d)) ?_ ?_
  · unfold val_main_v31 val_main_v26
    generalize val_main_v1 (F := Ideal) a0 a1 = y
    pointwise [val_main_v30, val_main_v29, val_main_v28, val_main_v27, val_main_v2]
    rfl
  · rw [ext_apply, mul_comm]; rfl

theorem tap4 (r : Fin 32) (d : Fin 1024) : val_main_v38 (F := Ideal) a0 a1 a2 (ix3 r 0 d) = T a0 a1 a2 r d 4 := by
  refine Eq.trans (b := val_main_v1 (F := Ideal) a0 a1 (ix3 r (Fin.ofNat 31 4) d) * a2 (ix3 0 (Fin.ofNat 31 4) d)) ?_ ?_
  · unfold val_main_v38 val_main_v33
    generalize val_main_v1 (F := Ideal) a0 a1 = y
    pointwise [val_main_v37, val_main_v36, val_main_v35, val_main_v34, val_main_v2]
    rfl
  · rw [ext_apply, mul_comm]; rfl

theorem tap5 (r : Fin 32) (d : Fin 1024) : val_main_v45 (F := Ideal) a0 a1 a2 (ix3 r 0 d) = T a0 a1 a2 r d 5 := by
  refine Eq.trans (b := val_main_v1 (F := Ideal) a0 a1 (ix3 r (Fin.ofNat 31 5) d) * a2 (ix3 0 (Fin.ofNat 31 5) d)) ?_ ?_
  · unfold val_main_v45 val_main_v40
    generalize val_main_v1 (F := Ideal) a0 a1 = y
    pointwise [val_main_v44, val_main_v43, val_main_v42, val_main_v41, val_main_v2]
    rfl
  · rw [ext_apply, mul_comm]; rfl

theorem tap6 (r : Fin 32) (d : Fin 1024) : val_main_v52 (F := Ideal) a0 a1 a2 (ix3 r 0 d) = T a0 a1 a2 r d 6 := by
  refine Eq.trans (b := val_main_v1 (F := Ideal) a0 a1 (ix3 r (Fin.ofNat 31 6) d) * a2 (ix3 0 (Fin.ofNat 31 6) d)) ?_ ?_
  · unfold val_main_v52 val_main_v47
    generalize val_main_v1 (F := Ideal) a0 a1 = y
    pointwise [val_main_v51, val_main_v50, val_main_v49, val_main_v48, val_main_v2]
    rfl
  · rw [ext_apply, mul_comm]; rfl

theorem tap7 (r : Fin 32) (d : Fin 1024) : val_main_v59 (F := Ideal) a0 a1 a2 (ix3 r 0 d) = T a0 a1 a2 r d 7 := by
  refine Eq.trans (b := val_main_v1 (F := Ideal) a0 a1 (ix3 r (Fin.ofNat 31 7) d) * a2 (ix3 0 (Fin.ofNat 31 7) d)) ?_ ?_
  · unfold val_main_v59 val_main_v54
    generalize val_main_v1 (F := Ideal) a0 a1 = y
    pointwise [val_main_v58, val_main_v57, val_main_v56, val_main_v55, val_main_v2]
    rfl
  · rw [ext_apply, mul_comm]; rfl

theorem tap8 (r : Fin 32) (d : Fin 1024) : val_main_v66 (F := Ideal) a0 a1 a2 (ix3 r 0 d) = T a0 a1 a2 r d 8 := by
  refine Eq.trans (b := val_main_v1 (F := Ideal) a0 a1 (ix3 r (Fin.ofNat 31 8) d) * a2 (ix3 0 (Fin.ofNat 31 8) d)) ?_ ?_
  · unfold val_main_v66 val_main_v61
    generalize val_main_v1 (F := Ideal) a0 a1 = y
    pointwise [val_main_v65, val_main_v64, val_main_v63, val_main_v62, val_main_v2]
    rfl
  · rw [ext_apply, mul_comm]; rfl

theorem tap9 (r : Fin 32) (d : Fin 1024) : val_main_v73 (F := Ideal) a0 a1 a2 (ix3 r 0 d) = T a0 a1 a2 r d 9 := by
  refine Eq.trans (b := val_main_v1 (F := Ideal) a0 a1 (ix3 r (Fin.ofNat 31 9) d) * a2 (ix3 0 (Fin.ofNat 31 9) d)) ?_ ?_
  · unfold val_main_v73 val_main_v68
    generalize val_main_v1 (F := Ideal) a0 a1 = y
    pointwise [val_main_v72, val_main_v71, val_main_v70, val_main_v69, val_main_v2]
    rfl
  · rw [ext_apply, mul_comm]; rfl

theorem tap10 (r : Fin 32) (d : Fin 1024) : val_main_v80 (F := Ideal) a0 a1 a2 (ix3 r 0 d) = T a0 a1 a2 r d 10 := by
  refine Eq.trans (b := val_main_v1 (F := Ideal) a0 a1 (ix3 r (Fin.ofNat 31 10) d) * a2 (ix3 0 (Fin.ofNat 31 10) d)) ?_ ?_
  · unfold val_main_v80 val_main_v75
    generalize val_main_v1 (F := Ideal) a0 a1 = y
    pointwise [val_main_v79, val_main_v78, val_main_v77, val_main_v76, val_main_v2]
    rfl
  · rw [ext_apply, mul_comm]; rfl

theorem tap11 (r : Fin 32) (d : Fin 1024) : val_main_v87 (F := Ideal) a0 a1 a2 (ix3 r 0 d) = T a0 a1 a2 r d 11 := by
  refine Eq.trans (b := val_main_v1 (F := Ideal) a0 a1 (ix3 r (Fin.ofNat 31 11) d) * a2 (ix3 0 (Fin.ofNat 31 11) d)) ?_ ?_
  · unfold val_main_v87 val_main_v82
    generalize val_main_v1 (F := Ideal) a0 a1 = y
    pointwise [val_main_v86, val_main_v85, val_main_v84, val_main_v83, val_main_v2]
    rfl
  · rw [ext_apply, mul_comm]; rfl

theorem tap12 (r : Fin 32) (d : Fin 1024) : val_main_v94 (F := Ideal) a0 a1 a2 (ix3 r 0 d) = T a0 a1 a2 r d 12 := by
  refine Eq.trans (b := val_main_v1 (F := Ideal) a0 a1 (ix3 r (Fin.ofNat 31 12) d) * a2 (ix3 0 (Fin.ofNat 31 12) d)) ?_ ?_
  · unfold val_main_v94 val_main_v89
    generalize val_main_v1 (F := Ideal) a0 a1 = y
    pointwise [val_main_v93, val_main_v92, val_main_v91, val_main_v90, val_main_v2]
    rfl
  · rw [ext_apply, mul_comm]; rfl

theorem tap13 (r : Fin 32) (d : Fin 1024) : val_main_v101 (F := Ideal) a0 a1 a2 (ix3 r 0 d) = T a0 a1 a2 r d 13 := by
  refine Eq.trans (b := val_main_v1 (F := Ideal) a0 a1 (ix3 r (Fin.ofNat 31 13) d) * a2 (ix3 0 (Fin.ofNat 31 13) d)) ?_ ?_
  · unfold val_main_v101 val_main_v96
    generalize val_main_v1 (F := Ideal) a0 a1 = y
    pointwise [val_main_v100, val_main_v99, val_main_v98, val_main_v97, val_main_v2]
    rfl
  · rw [ext_apply, mul_comm]; rfl

theorem tap14 (r : Fin 32) (d : Fin 1024) : val_main_v108 (F := Ideal) a0 a1 a2 (ix3 r 0 d) = T a0 a1 a2 r d 14 := by
  refine Eq.trans (b := val_main_v1 (F := Ideal) a0 a1 (ix3 r (Fin.ofNat 31 14) d) * a2 (ix3 0 (Fin.ofNat 31 14) d)) ?_ ?_
  · unfold val_main_v108 val_main_v103
    generalize val_main_v1 (F := Ideal) a0 a1 = y
    pointwise [val_main_v107, val_main_v106, val_main_v105, val_main_v104, val_main_v2]
    rfl
  · rw [ext_apply, mul_comm]; rfl

theorem tap15 (r : Fin 32) (d : Fin 1024) : val_main_v115 (F := Ideal) a0 a1 a2 (ix3 r 0 d) = T a0 a1 a2 r d 15 := by
  refine Eq.trans (b := val_main_v1 (F := Ideal) a0 a1 (ix3 r (Fin.ofNat 31 15) d) * a2 (ix3 0 (Fin.ofNat 31 15) d)) ?_ ?_
  · unfold val_main_v115 val_main_v110
    generalize val_main_v1 (F := Ideal) a0 a1 = y
    pointwise [val_main_v114, val_main_v113, val_main_v112, val_main_v111, val_main_v2]
    rfl
  · rw [ext_apply, mul_comm]; rfl

theorem tap16 (r : Fin 32) (d : Fin 1024) : val_main_v122 (F := Ideal) a0 a1 a2 (ix3 r 0 d) = T a0 a1 a2 r d 16 := by
  refine Eq.trans (b := val_main_v1 (F := Ideal) a0 a1 (ix3 r (Fin.ofNat 31 16) d) * a2 (ix3 0 (Fin.ofNat 31 16) d)) ?_ ?_
  · unfold val_main_v122 val_main_v117
    generalize val_main_v1 (F := Ideal) a0 a1 = y
    pointwise [val_main_v121, val_main_v120, val_main_v119, val_main_v118, val_main_v2]
    rfl
  · rw [ext_apply, mul_comm]; rfl

theorem tap17 (r : Fin 32) (d : Fin 1024) : val_main_v129 (F := Ideal) a0 a1 a2 (ix3 r 0 d) = T a0 a1 a2 r d 17 := by
  refine Eq.trans (b := val_main_v1 (F := Ideal) a0 a1 (ix3 r (Fin.ofNat 31 17) d) * a2 (ix3 0 (Fin.ofNat 31 17) d)) ?_ ?_
  · unfold val_main_v129 val_main_v124
    generalize val_main_v1 (F := Ideal) a0 a1 = y
    pointwise [val_main_v128, val_main_v127, val_main_v126, val_main_v125, val_main_v2]
    rfl
  · rw [ext_apply, mul_comm]; rfl

theorem tap18 (r : Fin 32) (d : Fin 1024) : val_main_v136 (F := Ideal) a0 a1 a2 (ix3 r 0 d) = T a0 a1 a2 r d 18 := by
  refine Eq.trans (b := val_main_v1 (F := Ideal) a0 a1 (ix3 r (Fin.ofNat 31 18) d) * a2 (ix3 0 (Fin.ofNat 31 18) d)) ?_ ?_
  · unfold val_main_v136 val_main_v131
    generalize val_main_v1 (F := Ideal) a0 a1 = y
    pointwise [val_main_v135, val_main_v134, val_main_v133, val_main_v132, val_main_v2]
    rfl
  · rw [ext_apply, mul_comm]; rfl

theorem tap19 (r : Fin 32) (d : Fin 1024) : val_main_v143 (F := Ideal) a0 a1 a2 (ix3 r 0 d) = T a0 a1 a2 r d 19 := by
  refine Eq.trans (b := val_main_v1 (F := Ideal) a0 a1 (ix3 r (Fin.ofNat 31 19) d) * a2 (ix3 0 (Fin.ofNat 31 19) d)) ?_ ?_
  · unfold val_main_v143 val_main_v138
    generalize val_main_v1 (F := Ideal) a0 a1 = y
    pointwise [val_main_v142, val_main_v141, val_main_v140, val_main_v139, val_main_v2]
    rfl
  · rw [ext_apply, mul_comm]; rfl

theorem tap20 (r : Fin 32) (d : Fin 1024) : val_main_v150 (F := Ideal) a0 a1 a2 (ix3 r 0 d) = T a0 a1 a2 r d 20 := by
  refine Eq.trans (b := val_main_v1 (F := Ideal) a0 a1 (ix3 r (Fin.ofNat 31 20) d) * a2 (ix3 0 (Fin.ofNat 31 20) d)) ?_ ?_
  · unfold val_main_v150 val_main_v145
    generalize val_main_v1 (F := Ideal) a0 a1 = y
    pointwise [val_main_v149, val_main_v148, val_main_v147, val_main_v146, val_main_v2]
    rfl
  · rw [ext_apply, mul_comm]; rfl

theorem tap21 (r : Fin 32) (d : Fin 1024) : val_main_v157 (F := Ideal) a0 a1 a2 (ix3 r 0 d) = T a0 a1 a2 r d 21 := by
  refine Eq.trans (b := val_main_v1 (F := Ideal) a0 a1 (ix3 r (Fin.ofNat 31 21) d) * a2 (ix3 0 (Fin.ofNat 31 21) d)) ?_ ?_
  · unfold val_main_v157 val_main_v152
    generalize val_main_v1 (F := Ideal) a0 a1 = y
    pointwise [val_main_v156, val_main_v155, val_main_v154, val_main_v153, val_main_v2]
    rfl
  · rw [ext_apply, mul_comm]; rfl

theorem tap22 (r : Fin 32) (d : Fin 1024) : val_main_v164 (F := Ideal) a0 a1 a2 (ix3 r 0 d) = T a0 a1 a2 r d 22 := by
  refine Eq.trans (b := val_main_v1 (F := Ideal) a0 a1 (ix3 r (Fin.ofNat 31 22) d) * a2 (ix3 0 (Fin.ofNat 31 22) d)) ?_ ?_
  · unfold val_main_v164 val_main_v159
    generalize val_main_v1 (F := Ideal) a0 a1 = y
    pointwise [val_main_v163, val_main_v162, val_main_v161, val_main_v160, val_main_v2]
    rfl
  · rw [ext_apply, mul_comm]; rfl

theorem tap23 (r : Fin 32) (d : Fin 1024) : val_main_v171 (F := Ideal) a0 a1 a2 (ix3 r 0 d) = T a0 a1 a2 r d 23 := by
  refine Eq.trans (b := val_main_v1 (F := Ideal) a0 a1 (ix3 r (Fin.ofNat 31 23) d) * a2 (ix3 0 (Fin.ofNat 31 23) d)) ?_ ?_
  · unfold val_main_v171 val_main_v166
    generalize val_main_v1 (F := Ideal) a0 a1 = y
    pointwise [val_main_v170, val_main_v169, val_main_v168, val_main_v167, val_main_v2]
    rfl
  · rw [ext_apply, mul_comm]; rfl

theorem tap24 (r : Fin 32) (d : Fin 1024) : val_main_v178 (F := Ideal) a0 a1 a2 (ix3 r 0 d) = T a0 a1 a2 r d 24 := by
  refine Eq.trans (b := val_main_v1 (F := Ideal) a0 a1 (ix3 r (Fin.ofNat 31 24) d) * a2 (ix3 0 (Fin.ofNat 31 24) d)) ?_ ?_
  · unfold val_main_v178 val_main_v173
    generalize val_main_v1 (F := Ideal) a0 a1 = y
    pointwise [val_main_v177, val_main_v176, val_main_v175, val_main_v174, val_main_v2]
    rfl
  · rw [ext_apply, mul_comm]; rfl

theorem tap25 (r : Fin 32) (d : Fin 1024) : val_main_v185 (F := Ideal) a0 a1 a2 (ix3 r 0 d) = T a0 a1 a2 r d 25 := by
  refine Eq.trans (b := val_main_v1 (F := Ideal) a0 a1 (ix3 r (Fin.ofNat 31 25) d) * a2 (ix3 0 (Fin.ofNat 31 25) d)) ?_ ?_
  · unfold val_main_v185 val_main_v180
    generalize val_main_v1 (F := Ideal) a0 a1 = y
    pointwise [val_main_v184, val_main_v183, val_main_v182, val_main_v181, val_main_v2]
    rfl
  · rw [ext_apply, mul_comm]; rfl

theorem tap26 (r : Fin 32) (d : Fin 1024) : val_main_v192 (F := Ideal) a0 a1 a2 (ix3 r 0 d) = T a0 a1 a2 r d 26 := by
  refine Eq.trans (b := val_main_v1 (F := Ideal) a0 a1 (ix3 r (Fin.ofNat 31 26) d) * a2 (ix3 0 (Fin.ofNat 31 26) d)) ?_ ?_
  · unfold val_main_v192 val_main_v187
    generalize val_main_v1 (F := Ideal) a0 a1 = y
    pointwise [val_main_v191, val_main_v190, val_main_v189, val_main_v188, val_main_v2]
    rfl
  · rw [ext_apply, mul_comm]; rfl

theorem tap27 (r : Fin 32) (d : Fin 1024) : val_main_v199 (F := Ideal) a0 a1 a2 (ix3 r 0 d) = T a0 a1 a2 r d 27 := by
  refine Eq.trans (b := val_main_v1 (F := Ideal) a0 a1 (ix3 r (Fin.ofNat 31 27) d) * a2 (ix3 0 (Fin.ofNat 31 27) d)) ?_ ?_
  · unfold val_main_v199 val_main_v194
    generalize val_main_v1 (F := Ideal) a0 a1 = y
    pointwise [val_main_v198, val_main_v197, val_main_v196, val_main_v195, val_main_v2]
    rfl
  · rw [ext_apply, mul_comm]; rfl

theorem tap28 (r : Fin 32) (d : Fin 1024) : val_main_v206 (F := Ideal) a0 a1 a2 (ix3 r 0 d) = T a0 a1 a2 r d 28 := by
  refine Eq.trans (b := val_main_v1 (F := Ideal) a0 a1 (ix3 r (Fin.ofNat 31 28) d) * a2 (ix3 0 (Fin.ofNat 31 28) d)) ?_ ?_
  · unfold val_main_v206 val_main_v201
    generalize val_main_v1 (F := Ideal) a0 a1 = y
    pointwise [val_main_v205, val_main_v204, val_main_v203, val_main_v202, val_main_v2]
    rfl
  · rw [ext_apply, mul_comm]; rfl

theorem tap29 (r : Fin 32) (d : Fin 1024) : val_main_v213 (F := Ideal) a0 a1 a2 (ix3 r 0 d) = T a0 a1 a2 r d 29 := by
  refine Eq.trans (b := val_main_v1 (F := Ideal) a0 a1 (ix3 r (Fin.ofNat 31 29) d) * a2 (ix3 0 (Fin.ofNat 31 29) d)) ?_ ?_
  · unfold val_main_v213 val_main_v208
    generalize val_main_v1 (F := Ideal) a0 a1 = y
    pointwise [val_main_v212, val_main_v211, val_main_v210, val_main_v209, val_main_v2]
    rfl
  · rw [ext_apply, mul_comm]; rfl

theorem tap30 (r : Fin 32) (d : Fin 1024) : val_main_v220 (F := Ideal) a0 a1 a2 (ix3 r 0 d) = T a0 a1 a2 r d 30 := by
  refine Eq.trans (b := val_main_v1 (F := Ideal) a0 a1 (ix3 r (Fin.ofNat 31 30) d) * a2 (ix3 0 (Fin.ofNat 31 30) d)) ?_ ?_
  · unfold val_main_v220 val_main_v215
    generalize val_main_v1 (F := Ideal) a0 a1 = y
    pointwise [val_main_v219, val_main_v218, val_main_v217, val_main_v216, val_main_v2]
    rfl
  · rw [ext_apply, mul_comm]; rfl

theorem sum_apply (r : Fin 32) (d : Fin 1024) : val_main_v221 (F := Ideal) a0 a1 a2 (ix3 r 0 d) = taps (T a0 a1 a2 r d) := by
  rw [taps_eq]
  have z : val_main_v10 (F := Ideal) (ix3 r 0 d) = 0 := by pointwise [val_main_v10, val_main_cst]
  rw [val_main_v221_apply, tap30, val_main_v214_apply, tap29, val_main_v207_apply, tap28, val_main_v200_apply, tap27, val_main_v193_apply, tap26, val_main_v186_apply, tap25, val_main_v179_apply, tap24, val_main_v172_apply, tap23, val_main_v165_apply, tap22, val_main_v158_apply, tap21, val_main_v151_apply, tap20, val_main_v144_apply, tap19, val_main_v137_apply, tap18, val_main_v130_apply, tap17, val_main_v123_apply, tap16, val_main_v116_apply, tap15, val_main_v109_apply, tap14, val_main_v102_apply, tap13, val_main_v95_apply, tap12, val_main_v88_apply, tap11, val_main_v81_apply, tap10, val_main_v74_apply, tap9, val_main_v67_apply, tap8, val_main_v60_apply, tap7, val_main_v53_apply, tap6, val_main_v46_apply, tap5, val_main_v39_apply, tap4, val_main_v32_apply, tap3, val_main_v25_apply, tap2, val_main_v18_apply, tap1, val_main_v11_apply, tap0, z]
  have ad : ∀ x y : EReal, FloatOps.addf (F := Ideal) (φ := .f32) x y = x + y := fun _ _ => rfl
  simp only [ad, zero_add]

theorem conv_apply (r : Fin 32) (d : Fin 1024) :
    val_main_v224 (F := Ideal) a0 a1 a2 a3 (ix3 r 0 d) = taps (T a0 a1 a2 r d) + a3 (ix2 0 d) := by
  refine Eq.trans (b := val_main_v221 (F := Ideal) a0 a1 a2 (ix3 r 0 d) + a3 (ix2 0 d)) ?_ (by rw [sum_apply])
  unfold val_main_v224
  generalize val_main_v221 (F := Ideal) a0 a1 a2 = y
  pointwise [val_main_v223, val_main_v222, val_main_v3]

theorem v251_apply (r : Fin 32) (k : Fin 1024) :
    val_main_v251 (F := Ideal) a0 a1 a2 a3 a4 a5 (ix3 r 0 k)
      = swish (lnorm (fun d => val_main_v224 (F := Ideal) a0 a1 a2 a3 (ix3 r 0 d)) (fun d => a4 (ix2 0 d)) (fun d => a5 (ix2 0 d)) k) := by
  have hz : ∀ r k, val_main_v250 (F := Ideal) a0 a1 a2 a3 a4 a5 (ix3 r 0 k)
      = lnorm (fun d => val_main_v224 (F := Ideal) a0 a1 a2 a3 (ix3 r 0 d)) (fun d => a4 (ix2 0 d)) (fun d => a5 (ix2 0 d)) k := by
    intro r k
    unfold val_main_v250 val_main_v247 val_main_v244 val_main_v239 val_main_v243 val_main_v242 val_main_v241 val_main_v238 val_main_v237
      val_main_v235 val_main_v234 val_main_v233 val_main_v232 val_main_v231 val_main_v230 val_main_v228 val_main_v227
    generalize val_main_v224 (F := Ideal) a0 a1 a2 a3 = y
    pointwise [val_main_v249, val_main_v248, val_main_v246, val_main_v245, val_main_v240, val_main_v236, val_main_v229,
      val_main_v226, val_main_v225, val_main_cst_0, val_main_cst_1, val_main_cst_2, val_main_cst_3, val_main_cst_4, lnorm]
  rw [← hz r k]
  unfold val_main_v251 val_main_call0_v5 val_main_call0_v3 val_main_call0_v1 val_main_call0_v0
  generalize val_main_v250 (F := Ideal) a0 a1 a2 a3 a4 a5 = z
  pointwise [val_main_call0_v4, val_main_call0_v2, val_main_call0_cst, val_main_call0_cst_0, swish, Ideal.logistic]

theorem ref_apply (r : Fin 32) (k : Fin 1024) :
    val_main_v253 (F := Ideal) a0 a1 a2 a3 a4 a5 (ix2 r k)
      = swish (lnorm (fun d => taps (T a0 a1 a2 r d) + a3 (ix2 0 d)) (fun d => a4 (ix2 0 d)) (fun d => a5 (ix2 0 d)) k) := by
  have e : val_main_v253 (F := Ideal) a0 a1 a2 a3 a4 a5 (ix2 r k) = val_main_v252 (F := Ideal) a0 a1 a2 a3 a4 a5 (ix2 r k) := by
    unfold val_main_v253
    generalize val_main_v252 (F := Ideal) a0 a1 a2 a3 a4 a5 = y
    pointwise []
  rw [e]
  unfold val_main_v252
  refine (shapeCast_apply _ shapeCasts_S32x1x1024_S32x1024 _ (ix3 r 0 k) ?_).trans ?_
  · rw [Shape.rowMajor_val_three, Shape.rowMajor_val_two]
    show (r.val * 1 + 0) * 1024 + k.val = r.val * 1024 + k.val
    omega
  · rw [v251_apply]
    exact congrArg (fun y => swish (lnorm y _ _ k)) (funext fun d => conv_apply a0 a1 a2 a3 r d)

end Cert.Reference19Ideal.Conv

end
-- ==== Proof.ConvPromptTrip.lean ====
/-
  One trip of the prompt's convolution: 128 channels of the two halves of a tile, each a sum of the 31 taps and the bias.
-/
module

public import proofs.«01_k».proof.Proof.ConvSpec
public import proofs.«01_k».proof.Proof.Gen.Kernel20Ideal.Frame
public import Idealize.ShloMosaic.Lib.Pipeline.ValueKit

@[expose] public section

set_option maxRecDepth 16384

noncomputable section

namespace Cert.Kernel20Ideal.Conv

open Cert.Kernel20Ideal Cert.Kernel20Ideal.Gen Cert.ConvSpec
open Idealize.ShloMosaic Idealize.ShloMosaic.TcCoe Idealize.SL.Sem

theorem pay2_apply (v52 : Vec Ideal S1x128 .f32) (v57 : Vec Ideal S1x128 .f32) (v60 : Vec Ideal S144x128 .f32) (v64 : Vec Ideal S1x128 .f32) (v67 : Vec Ideal S144x128 .f32) (v72 : Vec Ideal S1x128 .f32) (v75 : Vec Ideal S144x128 .f32) (v80 : Vec Ideal S1x128 .f32) (v83 : Vec Ideal S144x128 .f32) (r : Fin 128) (l : Fin 128) :
    k0_pay2 v52 v57 v60 v64 v67 v72 v75 v80 v83 (ix2 r l) = v52 (ix2 0 l) + (v57 (ix2 0 l) * v60 (ix2 ⟨r.val + 2, by omega⟩ l) + v64 (ix2 0 l) * v67 (ix2 ⟨r.val + 2, by omega⟩ l) + v72 (ix2 0 l) * v75 (ix2 ⟨r.val + 2, by omega⟩ l) + v80 (ix2 0 l) * v83 (ix2 ⟨r.val + 2, by omega⟩ l)) := by
  pointwise [k0_pay2]
  simp only [show (r.val + 144 - 142) % 144 = r.val + 2 by omega]

theorem pay3_apply (v91 : Vec Ideal S1x128 .f32) (l : Fin 128) :
    k0_pay3 v91 (ix2 0 l) = v91 (ix2 0 l) := by
  pointwise [k0_pay3]

theorem pay4_apply (v89 : Vec Ideal S128x128 .f32) (v92 : Vec Ideal S1x128 .f32) (v94 : Vec Ideal S144x128 .f32) (v98 : Vec Ideal S1x128 .f32) (v101 : Vec Ideal S144x128 .f32) (v106 : Vec Ideal S1x128 .f32) (v109 : Vec Ideal S144x128 .f32) (v114 : Vec Ideal S1x128 .f32) (v117 : Vec Ideal S144x128 .f32) (r : Fin 128) (l : Fin 128) :
    k0_pay4 v89 v92 v94 v98 v101 v106 v109 v114 v117 (ix2 r l) = v89 (ix2 r l) + (v92 (ix2 0 l) * v94 (ix2 ⟨r.val + 3, by omega⟩ l) + v98 (ix2 0 l) * v101 (ix2 ⟨r.val + 3, by omega⟩ l) + v106 (ix2 0 l) * v109 (ix2 ⟨r.val + 3, by omega⟩ l) + v114 (ix2 0 l) * v117 (ix2 ⟨r.val + 3, by omega⟩ l)) := by
  pointwise [k0_pay4]
  simp only [show (r.val + 144 - 141) % 144 = r.val + 3 by omega]

theorem pay5_apply (v125 : Vec Ideal S1x128 .f32) (v128 : Vec Ideal S144x128 .f32) (v132 : Vec Ideal S1x128 .f32) (v135 : Vec Ideal S144x128 .f32) (q : Fin 144) (l : Fin 128) :
    k0_pay5 v125 v128 v132 v135 (ix2 q l) = v125 (ix2 0 l) * v128 (ix2 q l) + v132 (ix2 0 l) * v135 (ix2 q l) := by
  pointwise [k0_pay5]

theorem pay6_apply (v140 : Vec Ideal S1x128 .f32) (l : Fin 128) :
    k0_pay6 v140 (ix2 0 l) = v140 (ix2 0 l) := by
  pointwise [k0_pay6]

theorem pay7_apply (v123 : Vec Ideal S128x128 .f32) (v138 : Vec Ideal S144x128 .f32) (v141 : Vec Ideal S1x128 .f32) (v143 : Vec Ideal S144x128 .f32) (v148 : Vec Ideal S1x128 .f32) (v151 : Vec Ideal S144x128 .f32) (r : Fin 128) (l : Fin 128) :
    k0_pay7 v123 v138 v141 v143 v148 v151 (ix2 r l) = v123 (ix2 r l) + (v138 (ix2 ⟨r.val + 4, by omega⟩ l) + v141 (ix2 0 l) * v143 (ix2 ⟨r.val + 4, by omega⟩ l) + v148 (ix2 0 l) * v151 (ix2 ⟨r.val + 4, by omega⟩ l)) := by
  pointwise [k0_pay7]
  simp only [show (r.val + 144 - 140) % 144 = r.val + 4 by omega]

theorem pay8_apply (v159 : Vec Ideal S1x128 .f32) (v162 : Vec Ideal S144x128 .f32) (v166 : Vec Ideal S1x128 .f32) (v169 : Vec Ideal S144x128 .f32) (v174 : Vec Ideal S1x128 .f32) (v177 : Vec Ideal S144x128 .f32) (v182 : Vec Ideal S1x128 .f32) (v185 : Vec Ideal S144x128 .f32) (r : Fin 128) (l : Fin 128) :
    k0_pay8 v159 v162 v166 v169 v174 v177 v182 v185 (ix2 ⟨r.val, by omega⟩ l) = v159 (ix2 0 l) * v162 (ix2 ⟨r.val + 5, by omega⟩ l) + v166 (ix2 0 l) * v169 (ix2 ⟨r.val + 5, by omega⟩ l) + v174 (ix2 0 l) * v177 (ix2 ⟨r.val + 5, by omega⟩ l) + v182 (ix2 0 l) * v185 (ix2 ⟨r.val + 5, by omega⟩ l) := by
  pointwise [k0_pay8]
  simp only [show (r.val + 144 - 139) % 144 = r.val + 5 by omega]

theorem pay9_apply (v157 : Vec Ideal S128x128 .f32) (v189 : Vec Ideal S144x128 .f32) (v193 : Vec Ideal S1x128 .f32) (v196 : Vec Ideal S144x128 .f32) (v200 : Vec Ideal S1x128 .f32) (v203 : Vec Ideal S144x128 .f32) (v208 : Vec Ideal S1x128 .f32) (v211 : Vec Ideal S144x128 .f32) (v216 : Vec Ideal S1x128 .f32) (v219 : Vec Ideal S144x128 .f32) (r : Fin 128) (l : Fin 128) :
    k0_pay9 v157 v189 v193 v196 v200 v203 v208 v211 v216 v219 (ix2 r l) = v157 (ix2 r l) + v189 (ix2 ⟨r.val, by omega⟩ l) + (v193 (ix2 0 l) * v196 (ix2 ⟨r.val + 6, by omega⟩ l) + v200 (ix2 0 l) * v203 (ix2 ⟨r.val + 6, by omega⟩ l) + v208 (ix2 0 l) * v211 (ix2 ⟨r.val + 6, by omega⟩ l) + v216 (ix2 0 l) * v219 (ix2 ⟨r.val + 6, by omega⟩ l)) := by
  pointwise [k0_pay9]
  simp only [show (r.val + 144 - 138) % 144 = r.val + 6 by omega]

theorem pay10_apply (v227 : Vec Ideal S1x128 .f32) (v230 : Vec Ideal S144x128 .f32) (q : Fin 144) (l : Fin 128) :
    k0_pay10 v227 v230 (ix2 q l) = v227 (ix2 0 l) * v230 (ix2 q l) := by
  pointwise [k0_pay10]

theorem pay11_apply (v234 : Vec Ideal S1x128 .f32) (l : Fin 128) :
    k0_pay11 v234 (ix2 0 l) = v234 (ix2 0 l) := by
  pointwise [k0_pay11]

theorem pay12_apply (v225 : Vec Ideal S128x128 .f32) (v232 : Vec Ideal S144x128 .f32) (v235 : Vec Ideal S1x128 .f32) (v237 : Vec Ideal S144x128 .f32) (v242 : Vec Ideal S1x128 .f32) (v245 : Vec Ideal S144x128 .f32) (v250 : Vec Ideal S1x128 .f32) (v253 : Vec Ideal S144x128 .f32) (r : Fin 128) (l : Fin 128) :
    k0_pay12 v225 v232 v235 v237 v242 v245 v250 v253 (ix2 r l) = v225 (ix2 r l) + (v232 (ix2 ⟨r.val + 7, by omega⟩ l) + v235 (ix2 0 l) * v237 (ix2 ⟨r.val + 7, by omega⟩ l) + v242 (ix2 0 l) * v245 (ix2 ⟨r.val + 7, by omega⟩ l) + v250 (ix2 0 l) * v253 (ix2 ⟨r.val + 7, by omega⟩ l)) := by
  pointwise [k0_pay12]
  simp only [show (r.val + 144 - 137) % 144 = r.val + 7 by omega]

theorem pay13_apply (v261 : Vec Ideal S1x128 .f32) (v264 : Vec Ideal S144x128 .f32) (v268 : Vec Ideal S1x128 .f32) (v271 : Vec Ideal S144x128 .f32) (v276 : Vec Ideal S1x128 .f32) (v279 : Vec Ideal S144x128 .f32) (q : Fin 144) (l : Fin 128) :
    k0_pay13 v261 v264 v268 v271 v276 v279 (ix2 q l) = v261 (ix2 0 l) * v264 (ix2 q l) + v268 (ix2 0 l) * v271 (ix2 q l) + v276 (ix2 0 l) * v279 (ix2 q l) := by
  pointwise [k0_pay13]

theorem pay14_apply (v259 : Vec Ideal S128x128 .f32) (v282 : Vec Ideal S144x128 .f32) (v284 : Vec Ideal S1x128 .f32) (v287 : Vec Ideal S144x128 .f32) (v294 : Vec Ideal S1x128 .f32) (v297 : Vec Ideal S144x128 .f32) (v301 : Vec Ideal S1x128 .f32) (v304 : Vec Ideal S144x128 .f32) (v309 : Vec Ideal S1x128 .f32) (v312 : Vec Ideal S144x128 .f32) (r : Fin 128) (l : Fin 128) :
    k0_pay14 v259 v282 v284 v287 v294 v297 v301 v304 v309 v312 (ix2 r l) = v259 (ix2 r l) + (v282 (ix2 ⟨8 + r.val, by omega⟩ l) + (v284 (ix2 0 l) * v287 (ix2 ⟨8 + r.val, by omega⟩ l))) + (v294 (ix2 0 l) * v297 (ix2 ⟨r.val + 9, by omega⟩ l) + v301 (ix2 0 l) * v304 (ix2 ⟨r.val + 9, by omega⟩ l) + v309 (ix2 0 l) * v312 (ix2 ⟨r.val + 9, by omega⟩ l)) := by
  pointwise [k0_pay14]
  simp only [show (r.val + 144 - 135) % 144 = r.val + 9 by omega]

theorem pay15_apply (v324 : Vec Ideal S1x128 .f32) (r : Fin 128) (l : Fin 128) :
    k0_pay15 v324 (ix2 r l) = v324 (ix2 0 l) := by
  pointwise [k0_pay15]

theorem pay16_apply (v329 : Vec Ideal S1x128 .f32) (l : Fin 128) :
    k0_pay16 v329 (ix2 0 l) = v329 (ix2 0 l) := by
  pointwise [k0_pay16]

theorem pay17_apply (v327 : Vec Ideal S128x128 .f32) (v330 : Vec Ideal S1x128 .f32) (v332 : Vec Ideal S144x128 .f32) (v336 : Vec Ideal S1x128 .f32) (v339 : Vec Ideal S144x128 .f32) (v344 : Vec Ideal S1x128 .f32) (v347 : Vec Ideal S144x128 .f32) (v352 : Vec Ideal S1x128 .f32) (v355 : Vec Ideal S144x128 .f32) (r : Fin 128) (l : Fin 128) :
    k0_pay17 v327 v330 v332 v336 v339 v344 v347 v352 v355 (ix2 r l) = v327 (ix2 r l) + (v330 (ix2 0 l) * v332 (ix2 ⟨r.val + 2, by omega⟩ l) + v336 (ix2 0 l) * v339 (ix2 ⟨r.val + 2, by omega⟩ l) + v344 (ix2 0 l) * v347 (ix2 ⟨r.val + 2, by omega⟩ l) + v352 (ix2 0 l) * v355 (ix2 ⟨r.val + 2, by omega⟩ l)) := by
  pointwise [k0_pay17]
  simp only [show (r.val + 144 - 142) % 144 = r.val + 2 by omega]

theorem pay18_apply (v363 : Vec Ideal S1x128 .f32) (v366 : Vec Ideal S144x128 .f32) (v370 : Vec Ideal S1x128 .f32) (v373 : Vec Ideal S144x128 .f32) (q : Fin 144) (l : Fin 128) :
    k0_pay18 v363 v366 v370 v373 (ix2 q l) = v363 (ix2 0 l) * v366 (ix2 q l) + v370 (ix2 0 l) * v373 (ix2 q l) := by
  pointwise [k0_pay18]

theorem pay19_apply (v378 : Vec Ideal S1x128 .f32) (l : Fin 128) :
    k0_pay19 v378 (ix2 0 l) = v378 (ix2 0 l) := by
  pointwise [k0_pay19]

theorem pay20_apply (v361 : Vec Ideal S128x128 .f32) (v376 : Vec Ideal S144x128 .f32) (v379 : Vec Ideal S1x128 .f32) (v381 : Vec Ideal S144x128 .f32) (v386 : Vec Ideal S1x128 .f32) (v389 : Vec Ideal S144x128 .f32) (r : Fin 128) (l : Fin 128) :
    k0_pay20 v361 v376 v379 v381 v386 v389 (ix2 r l) = v361 (ix2 r l) + (v376 (ix2 ⟨r.val + 3, by omega⟩ l) + v379 (ix2 0 l) * v381 (ix2 ⟨r.val + 3, by omega⟩ l) + v386 (ix2 0 l) * v389 (ix2 ⟨r.val + 3, by omega⟩ l)) := by
  pointwise [k0_pay20]
  simp only [show (r.val + 144 - 141) % 144 = r.val + 3 by omega]

theorem pay21_apply (v397 : Vec Ideal S1x128 .f32) (v400 : Vec Ideal S144x128 .f32) (v404 : Vec Ideal S1x128 .f32) (v407 : Vec Ideal S144x128 .f32) (v412 : Vec Ideal S1x128 .f32) (v415 : Vec Ideal S144x128 .f32) (v420 : Vec Ideal S1x128 .f32) (v423 : Vec Ideal S144x128 .f32) (q : Fin 144) (l : Fin 128) :
    k0_pay21 v397 v400 v404 v407 v412 v415 v420 v423 (ix2 q l) = v397 (ix2 0 l) * v400 (ix2 q l) + v404 (ix2 0 l) * v407 (ix2 q l) + v412 (ix2 0 l) * v415 (ix2 q l) + v420 (ix2 0 l) * v423 (ix2 q l) := by
  pointwise [k0_pay21]

theorem pay22_apply (v395 : Vec Ideal S128x128 .f32) (v426 : Vec Ideal S144x128 .f32) (v431 : Vec Ideal S1x128 .f32) (v434 : Vec Ideal S144x128 .f32) (v438 : Vec Ideal S1x128 .f32) (v441 : Vec Ideal S144x128 .f32) (v446 : Vec Ideal S1x128 .f32) (v449 : Vec Ideal S144x128 .f32) (v454 : Vec Ideal S1x128 .f32) (v457 : Vec Ideal S144x128 .f32) (r : Fin 128) (l : Fin 128) :
    k0_pay22 v395 v426 140#32 v431 v434 v438 v441 v446 v449 v454 v457 (ix2 r l) = v395 (ix2 r l) + v426 (ix2 ⟨r.val + 4, by omega⟩ l) + (v431 (ix2 0 l) * v434 (ix2 ⟨r.val + 5, by omega⟩ l) + v438 (ix2 0 l) * v441 (ix2 ⟨r.val + 5, by omega⟩ l) + v446 (ix2 0 l) * v449 (ix2 ⟨r.val + 5, by omega⟩ l) + v454 (ix2 0 l) * v457 (ix2 ⟨r.val + 5, by omega⟩ l)) := by
  pointwise [k0_pay22]
  simp only [show (r.val + 144 - 140) % 144 = r.val + 4 by omega, show (r.val + 144 - 139) % 144 = r.val + 5 by omega]

theorem pay23_apply (v465 : Vec Ideal S1x128 .f32) (v468 : Vec Ideal S144x128 .f32) (q : Fin 144) (l : Fin 128) :
    k0_pay23 v465 v468 (ix2 q l) = v465 (ix2 0 l) * v468 (ix2 q l) := by
  pointwise [k0_pay23]

theorem pay24_apply (v472 : Vec Ideal S1x128 .f32) (l : Fin 128) :
    k0_pay24 v472 (ix2 0 l) = v472 (ix2 0 l) := by
  pointwise [k0_pay24]

theorem pay25_apply (v463 : Vec Ideal S128x128 .f32) (v470 : Vec Ideal S144x128 .f32) (v473 : Vec Ideal S1x128 .f32) (v475 : Vec Ideal S144x128 .f32) (v480 : Vec Ideal S1x128 .f32) (v483 : Vec Ideal S144x128 .f32) (v488 : Vec Ideal S1x128 .f32) (v491 : Vec Ideal S144x128 .f32) (r : Fin 128) (l : Fin 128) :
    k0_pay25 v463 v470 v473 v475 v480 v483 v488 v491 (ix2 r l) = v463 (ix2 r l) + (v470 (ix2 ⟨r.val + 6, by omega⟩ l) + v473 (ix2 0 l) * v475 (ix2 ⟨r.val + 6, by omega⟩ l) + v480 (ix2 0 l) * v483 (ix2 ⟨r.val + 6, by omega⟩ l) + v488 (ix2 0 l) * v491 (ix2 ⟨r.val + 6, by omega⟩ l)) := by
  pointwise [k0_pay25]
  simp only [show (r.val + 144 - 138) % 144 = r.val + 6 by omega]

theorem pay26_apply (v499 : Vec Ideal S1x128 .f32) (v502 : Vec Ideal S144x128 .f32) (v506 : Vec Ideal S1x128 .f32) (v509 : Vec Ideal S144x128 .f32) (v514 : Vec Ideal S1x128 .f32) (v517 : Vec Ideal S144x128 .f32) (q : Fin 144) (l : Fin 128) :
    k0_pay26 v499 v502 v506 v509 v514 v517 (ix2 q l) = v499 (ix2 0 l) * v502 (ix2 q l) + v506 (ix2 0 l) * v509 (ix2 q l) + v514 (ix2 0 l) * v517 (ix2 q l) := by
  pointwise [k0_pay26]

theorem pay27_apply (v497 : Vec Ideal S128x128 .f32) (v520 : Vec Ideal S144x128 .f32) (v522 : Vec Ideal S1x128 .f32) (v525 : Vec Ideal S144x128 .f32) (v533 : Vec Ideal S1x128 .f32) (v536 : Vec Ideal S144x128 .f32) (v540 : Vec Ideal S1x128 .f32) (v543 : Vec Ideal S144x128 .f32) (v548 : Vec Ideal S1x128 .f32) (v551 : Vec Ideal S144x128 .f32) (v556 : Vec Ideal S1x128 .f32) (v559 : Vec Ideal S144x128 .f32) (r : Fin 128) (l : Fin 128) :
    k0_pay27 v497 v520 v522 v525 v533 v536 v540 v543 v548 v551 v556 v559 (ix2 r l) = v497 (ix2 r l) + (v520 (ix2 ⟨r.val + 7, by omega⟩ l) + v522 (ix2 0 l) * v525 (ix2 ⟨r.val + 7, by omega⟩ l)) + (v533 (ix2 0 l) * v536 (ix2 ⟨8 + r.val, by omega⟩ l) + (v540 (ix2 0 l) * v543 (ix2 ⟨8 + r.val, by omega⟩ l)) + (v548 (ix2 0 l) * v551 (ix2 ⟨8 + r.val, by omega⟩ l)) + (v556 (ix2 0 l) * v559 (ix2 ⟨8 + r.val, by omega⟩ l))) := by
  pointwise [k0_pay27]
  simp only [show (r.val + 144 - 137) % 144 = r.val + 7 by omega]

theorem pay28_apply (v566 : Vec Ideal S1x128 .f32) (l : Fin 128) :
    k0_pay28 v566 (ix2 0 l) = v566 (ix2 0 l) := by
  pointwise [k0_pay28]

theorem pay32_apply (v564 : Vec Ideal S128x128 .f32) (v567 : Vec Ideal S1x128 .f32) (v569 : Vec Ideal S144x128 .f32) (v573 : Vec Ideal S1x128 .f32) (v576 : Vec Ideal S144x128 .f32) (v581 : Vec Ideal S1x128 .f32) (v584 : Vec Ideal S144x128 .f32) (r : Fin 128) (l : Fin 128) :
    k0_pay32 v564 v567 v569 v573 v576 v581 v584 (ix2 r l) = v564 (ix2 r l) + (v567 (ix2 0 l) * v569 (ix2 ⟨r.val + 9, by omega⟩ l) + v573 (ix2 0 l) * v576 (ix2 ⟨r.val + 9, by omega⟩ l) + v581 (ix2 0 l) * v584 (ix2 ⟨r.val + 9, by omega⟩ l)) := by
  pointwise [k0_pay32]
  simp only [show (r.val + 144 - 135) % 144 = r.val + 9 by omega]

end Cert.Kernel20Ideal.Conv

end
-- ==== Proof.ConvPromptPieces.lean ====
/-
  The pieces one trip of the prompt's convolution stores, read at an index: at row `r` and channel `n` of the tile, the taps of
  the rows from `r + 2` of the extended tile and the bias.
-/
module

public import proofs.«01_k».proof.Proof.ConvPromptTrip
public import Idealize.ShloMosaic.Lib.Pipeline.ValueKit

@[expose] public section

set_option maxRecDepth 16384

noncomputable section

namespace Cert.Kernel20Ideal.Conv

open Cert.Kernel20Ideal Cert.Kernel20Ideal.Gen Cert.ConvSpec
open Idealize.ShloMosaic Idealize.ShloMosaic.TcCoe Idealize.SL.Sem

/-- An array of two axes by natural numbers. -/
def at2 {n0 n1 : ℕ} [NeZero n0] [NeZero n1] (x : Vec Ideal ⟨2, ![n0, n1]⟩ .f32) (a b : ℕ) : EReal := x (ix2 (Fin.ofNat n0 a) (Fin.ofNat n1 b))

/-- The convolution's row `r`, channel `n`, from the weights, the bias and the extended tile. -/
def cv (w : Vec Ideal S31x1024 .f32) (b : Vec Ideal S1x1024 .f32) (e : Vec Ideal S296x1024 .f32) (r n : ℕ) : EReal :=
  taps (fun j => at2 w j n * at2 e (r + 2 + j) n) + at2 b 0 n

theorem read2 {n0 n1 s0 s1 : ℕ} [NeZero n0] [NeZero n1] (x : Vec Ideal ⟨2, ![n0, n1]⟩ .f32) (a b : ℕ) (off : Fin 2 → ℕ) (ho : off = ![a, b])
    (h : ∀ d, off d + ![s0, s1] d ≤ (⟨2, ![n0, n1]⟩ : Shape).size d) (r : Fin s0) (l : Fin s1) :
    View.ld x (Rect.unit (s := ⟨2, ![n0, n1]⟩) off ![s0, s1] h) (ix2 r l) = at2 x (a + r.val) (b + l.val) := by
  subst ho
  have h0 : a + s0 ≤ n0 := h 0
  have h1 : b + s1 ≤ n1 := h 1
  have hr := r.isLt
  have hl := l.isLt
  refine (View.ld_apply x _ _).trans (congrArg x ?_)
  funext d
  apply Fin.ext
  match d with
  | ⟨0, _⟩ => show a + 1 * r.val = (a + r.val) % n0; rw [Nat.mod_eq_of_lt (by omega)]; omega
  | ⟨1, _⟩ => show b + 1 * l.val = (b + l.val) % n1; rw [Nat.mod_eq_of_lt (by omega)]; omega

variable (𝒱 : Variants) (c : Dev nD) (bd : Option 𝒱.V) (i : grid0.Coords) (arg2 : Memref sig .tc .vmem S1x256x1024 .f32) (harg2 : arg2.IsWhole) (arg3 : Memref sig .tc .vmem S1x256x1024 .f32) (harg3 : arg3.IsWhole) (arg4 : Memref sig .tc .vmem S31x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x1024 .bf16) (harg8 : arg8.IsWhole) (arg9 : Memref sig .tc .vmem S296x1024 .f32) (harg9 : arg9.IsWhole) (arg10 : Memref sig .tc .vmem S256x1024 .f32) (harg10 : arg10.IsWhole) (X_arg4 : BufTy.Contents (Elt Ideal) arg4.view.ty) (X_arg5 : BufTy.Contents (Elt Ideal) arg5.view.ty) (X_arg9 : BufTy.Contents (Elt Ideal) arg9.view.ty) (k : Fin k0_t1_loop.trips)

omit harg2 harg3 harg4 harg5 harg6 harg7 harg8 harg9 harg10 in
theorem rdB1 (h) (l : Fin 128) :
    View.readAt (Elt Ideal) arg5.view (Rect.unit (s := S1x1024) (k0_off1 k) ![1, 128] h).toLoadRect X_arg5 (ix2 0 l)
      = at2 (arg5.view.read (Elt Ideal) X_arg5) 0 (128 * k.val + l.val) :=
  read2 _ 0 (128 * k.val) _ (k0_off1_eq k) h 0 l

omit harg2 harg3 harg4 harg5 harg6 harg7 harg8 harg9 harg10 in
theorem rdW2 (h) (l : Fin 128) :
    View.readAt (Elt Ideal) arg4.view (Rect.unit (s := S31x1024) (k0_off2 k) ![1, 128] h).toLoadRect X_arg4 (ix2 0 l)
      = at2 (arg4.view.read (Elt Ideal) X_arg4) 0 (128 * k.val + l.val) :=
  read2 _ 0 (128 * k.val) _ (k0_off2_eq k) h 0 l

omit harg2 harg3 harg4 harg5 harg6 harg7 harg8 harg9 harg10 in
theorem rdE3 (h) (q : Fin 144) (l : Fin 128) :
    View.readAt (Elt Ideal) arg9.view (Rect.unit (s := S296x1024) (k0_off3 k) ![144, 128] h).toLoadRect X_arg9 (ix2 q l)
      = at2 (arg9.view.read (Elt Ideal) X_arg9) (0 + q.val) (128 * k.val + l.val) :=
  read2 _ 0 (128 * k.val) _ (k0_off3_eq k) h q l

omit harg2 harg3 harg4 harg5 harg6 harg7 harg8 harg9 harg10 in
theorem rdW4 (h) (l : Fin 128) :
    View.readAt (Elt Ideal) arg4.view (Rect.unit (s := S31x1024) (k0_off4 k) ![1, 128] h).toLoadRect X_arg4 (ix2 0 l)
      = at2 (arg4.view.read (Elt Ideal) X_arg4) 8 (128 * k.val + l.val) :=
  read2 _ 8 (128 * k.val) _ (k0_off4_eq k) h 0 l

omit harg2 harg3 harg4 harg5 harg6 harg7 harg8 harg9 harg10 in
theorem rdE5 (h) (q : Fin 144) (l : Fin 128) :
    View.readAt (Elt Ideal) arg9.view (Rect.unit (s := S296x1024) (k0_off5 k) ![144, 128] h).toLoadRect X_arg9 (ix2 q l)
      = at2 (arg9.view.read (Elt Ideal) X_arg9) (8 + q.val) (128 * k.val + l.val) :=
  read2 _ 8 (128 * k.val) _ (k0_off5_eq k) h q l

omit harg2 harg3 harg4 harg5 harg6 harg7 harg8 harg9 harg10 in
theorem rdW6 (h) (l : Fin 128) :
    View.readAt (Elt Ideal) arg4.view (Rect.unit (s := S31x1024) (k0_off6 k) ![1, 128] h).toLoadRect X_arg4 (ix2 0 l)
      = at2 (arg4.view.read (Elt Ideal) X_arg4) 16 (128 * k.val + l.val) :=
  read2 _ 16 (128 * k.val) _ (k0_off6_eq k) h 0 l

omit harg2 harg3 harg4 harg5 harg6 harg7 harg8 harg9 harg10 in
theorem rdE7 (h) (q : Fin 144) (l : Fin 128) :
    View.readAt (Elt Ideal) arg9.view (Rect.unit (s := S296x1024) (k0_off7 k) ![144, 128] h).toLoadRect X_arg9 (ix2 q l)
      = at2 (arg9.view.read (Elt Ideal) X_arg9) (16 + q.val) (128 * k.val + l.val) :=
  read2 _ 16 (128 * k.val) _ (k0_off7_eq k) h q l

omit harg2 harg3 harg4 harg5 harg6 harg7 harg8 harg9 harg10 in
theorem rdW8 (h) (l : Fin 128) :
    View.readAt (Elt Ideal) arg4.view (Rect.unit (s := S31x1024) (k0_off8 k) ![1, 128] h).toLoadRect X_arg4 (ix2 0 l)
      = at2 (arg4.view.read (Elt Ideal) X_arg4) 24 (128 * k.val + l.val) :=
  read2 _ 24 (128 * k.val) _ (k0_off8_eq k) h 0 l

omit harg2 harg3 harg4 harg5 harg6 harg7 harg8 harg9 harg10 in
theorem rdE9 (h) (q : Fin 144) (l : Fin 128) :
    View.readAt (Elt Ideal) arg9.view (Rect.unit (s := S296x1024) (k0_off9 k) ![144, 128] h).toLoadRect X_arg9 (ix2 q l)
      = at2 (arg9.view.read (Elt Ideal) X_arg9) (24 + q.val) (128 * k.val + l.val) :=
  read2 _ 24 (128 * k.val) _ (k0_off9_eq k) h q l

omit harg2 harg3 harg4 harg5 harg6 harg7 harg8 harg9 harg10 in
theorem rdW10 (h) (l : Fin 128) :
    View.readAt (Elt Ideal) arg4.view (Rect.unit (s := S31x1024) (k0_off10 k) ![1, 128] h).toLoadRect X_arg4 (ix2 0 l)
      = at2 (arg4.view.read (Elt Ideal) X_arg4) 1 (128 * k.val + l.val) :=
  read2 _ 1 (128 * k.val) _ (k0_off10_eq k) h 0 l

omit harg2 harg3 harg4 harg5 harg6 harg7 harg8 harg9 harg10 in
theorem rdW11 (h) (l : Fin 128) :
    View.readAt (Elt Ideal) arg4.view (Rect.unit (s := S31x1024) (k0_off11 k) ![1, 128] h).toLoadRect X_arg4 (ix2 0 l)
      = at2 (arg4.view.read (Elt Ideal) X_arg4) 9 (128 * k.val + l.val) :=
  read2 _ 9 (128 * k.val) _ (k0_off11_eq k) h 0 l

omit harg2 harg3 harg4 harg5 harg6 harg7 harg8 harg9 harg10 in
theorem rdW12 (h) (l : Fin 128) :
    View.readAt (Elt Ideal) arg4.view (Rect.unit (s := S31x1024) (k0_off12 k) ![1, 128] h).toLoadRect X_arg4 (ix2 0 l)
      = at2 (arg4.view.read (Elt Ideal) X_arg4) 17 (128 * k.val + l.val) :=
  read2 _ 17 (128 * k.val) _ (k0_off12_eq k) h 0 l

omit harg2 harg3 harg4 harg5 harg6 harg7 harg8 harg9 harg10 in
theorem rdW13 (h) (l : Fin 128) :
    View.readAt (Elt Ideal) arg4.view (Rect.unit (s := S31x1024) (k0_off13 k) ![1, 128] h).toLoadRect X_arg4 (ix2 0 l)
      = at2 (arg4.view.read (Elt Ideal) X_arg4) 25 (128 * k.val + l.val) :=
  read2 _ 25 (128 * k.val) _ (k0_off13_eq k) h 0 l

omit harg2 harg3 harg4 harg5 harg6 harg7 harg8 harg9 harg10 in
theorem rdW14 (h) (l : Fin 128) :
    View.readAt (Elt Ideal) arg4.view (Rect.unit (s := S31x1024) (k0_off14 k) ![1, 128] h).toLoadRect X_arg4 (ix2 0 l)
      = at2 (arg4.view.read (Elt Ideal) X_arg4) 2 (128 * k.val + l.val) :=
  read2 _ 2 (128 * k.val) _ (k0_off14_eq k) h 0 l

omit harg2 harg3 harg4 harg5 harg6 harg7 harg8 harg9 harg10 in
theorem rdW15 (h) (l : Fin 128) :
    View.readAt (Elt Ideal) arg4.view (Rect.unit (s := S31x1024) (k0_off15 k) ![1, 128] h).toLoadRect X_arg4 (ix2 0 l)
      = at2 (arg4.view.read (Elt Ideal) X_arg4) 10 (128 * k.val + l.val) :=
  read2 _ 10 (128 * k.val) _ (k0_off15_eq k) h 0 l

omit harg2 harg3 harg4 harg5 harg6 harg7 harg8 harg9 harg10 in
theorem rdW16 (h) (l : Fin 128) :
    View.readAt (Elt Ideal) arg4.view (Rect.unit (s := S31x1024) (k0_off16 k) ![1, 128] h).toLoadRect X_arg4 (ix2 0 l)
      = at2 (arg4.view.read (Elt Ideal) X_arg4) 18 (128 * k.val + l.val) :=
  read2 _ 18 (128 * k.val) _ (k0_off16_eq k) h 0 l

omit harg2 harg3 harg4 harg5 harg6 harg7 harg8 harg9 harg10 in
theorem rdW17 (h) (l : Fin 128) :
    View.readAt (Elt Ideal) arg4.view (Rect.unit (s := S31x1024) (k0_off17 k) ![1, 128] h).toLoadRect X_arg4 (ix2 0 l)
      = at2 (arg4.view.read (Elt Ideal) X_arg4) 26 (128 * k.val + l.val) :=
  read2 _ 26 (128 * k.val) _ (k0_off17_eq k) h 0 l

omit harg2 harg3 harg4 harg5 harg6 harg7 harg8 harg9 harg10 in
theorem rdW18 (h) (l : Fin 128) :
    View.readAt (Elt Ideal) arg4.view (Rect.unit (s := S31x1024) (k0_off18 k) ![1, 128] h).toLoadRect X_arg4 (ix2 0 l)
      = at2 (arg4.view.read (Elt Ideal) X_arg4) 3 (128 * k.val + l.val) :=
  read2 _ 3 (128 * k.val) _ (k0_off18_eq k) h 0 l

omit harg2 harg3 harg4 harg5 harg6 harg7 harg8 harg9 harg10 in
theorem rdW19 (h) (l : Fin 128) :
    View.readAt (Elt Ideal) arg4.view (Rect.unit (s := S31x1024) (k0_off19 k) ![1, 128] h).toLoadRect X_arg4 (ix2 0 l)
      = at2 (arg4.view.read (Elt Ideal) X_arg4) 11 (128 * k.val + l.val) :=
  read2 _ 11 (128 * k.val) _ (k0_off19_eq k) h 0 l

omit harg2 harg3 harg4 harg5 harg6 harg7 harg8 harg9 harg10 in
theorem rdW20 (h) (l : Fin 128) :
    View.readAt (Elt Ideal) arg4.view (Rect.unit (s := S31x1024) (k0_off20 k) ![1, 128] h).toLoadRect X_arg4 (ix2 0 l)
      = at2 (arg4.view.read (Elt Ideal) X_arg4) 19 (128 * k.val + l.val) :=
  read2 _ 19 (128 * k.val) _ (k0_off20_eq k) h 0 l

omit harg2 harg3 harg4 harg5 harg6 harg7 harg8 harg9 harg10 in
theorem rdW21 (h) (l : Fin 128) :
    View.readAt (Elt Ideal) arg4.view (Rect.unit (s := S31x1024) (k0_off21 k) ![1, 128] h).toLoadRect X_arg4 (ix2 0 l)
      = at2 (arg4.view.read (Elt Ideal) X_arg4) 27 (128 * k.val + l.val) :=
  read2 _ 27 (128 * k.val) _ (k0_off21_eq k) h 0 l

omit harg2 harg3 harg4 harg5 harg6 harg7 harg8 harg9 harg10 in
theorem rdW22 (h) (l : Fin 128) :
    View.readAt (Elt Ideal) arg4.view (Rect.unit (s := S31x1024) (k0_off22 k) ![1, 128] h).toLoadRect X_arg4 (ix2 0 l)
      = at2 (arg4.view.read (Elt Ideal) X_arg4) 4 (128 * k.val + l.val) :=
  read2 _ 4 (128 * k.val) _ (k0_off22_eq k) h 0 l

omit harg2 harg3 harg4 harg5 harg6 harg7 harg8 harg9 harg10 in
theorem rdW23 (h) (l : Fin 128) :
    View.readAt (Elt Ideal) arg4.view (Rect.unit (s := S31x1024) (k0_off23 k) ![1, 128] h).toLoadRect X_arg4 (ix2 0 l)
      = at2 (arg4.view.read (Elt Ideal) X_arg4) 12 (128 * k.val + l.val) :=
  read2 _ 12 (128 * k.val) _ (k0_off23_eq k) h 0 l

omit harg2 harg3 harg4 harg5 harg6 harg7 harg8 harg9 harg10 in
theorem rdW24 (h) (l : Fin 128) :
    View.readAt (Elt Ideal) arg4.view (Rect.unit (s := S31x1024) (k0_off24 k) ![1, 128] h).toLoadRect X_arg4 (ix2 0 l)
      = at2 (arg4.view.read (Elt Ideal) X_arg4) 20 (128 * k.val + l.val) :=
  read2 _ 20 (128 * k.val) _ (k0_off24_eq k) h 0 l

omit harg2 harg3 harg4 harg5 harg6 harg7 harg8 harg9 harg10 in
theorem rdW25 (h) (l : Fin 128) :
    View.readAt (Elt Ideal) arg4.view (Rect.unit (s := S31x1024) (k0_off25 k) ![1, 128] h).toLoadRect X_arg4 (ix2 0 l)
      = at2 (arg4.view.read (Elt Ideal) X_arg4) 28 (128 * k.val + l.val) :=
  read2 _ 28 (128 * k.val) _ (k0_off25_eq k) h 0 l

omit harg2 harg3 harg4 harg5 harg6 harg7 harg8 harg9 harg10 in
theorem rdW26 (h) (l : Fin 128) :
    View.readAt (Elt Ideal) arg4.view (Rect.unit (s := S31x1024) (k0_off26 k) ![1, 128] h).toLoadRect X_arg4 (ix2 0 l)
      = at2 (arg4.view.read (Elt Ideal) X_arg4) 5 (128 * k.val + l.val) :=
  read2 _ 5 (128 * k.val) _ (k0_off26_eq k) h 0 l

omit harg2 harg3 harg4 harg5 harg6 harg7 harg8 harg9 harg10 in
theorem rdW27 (h) (l : Fin 128) :
    View.readAt (Elt Ideal) arg4.view (Rect.unit (s := S31x1024) (k0_off27 k) ![1, 128] h).toLoadRect X_arg4 (ix2 0 l)
      = at2 (arg4.view.read (Elt Ideal) X_arg4) 13 (128 * k.val + l.val) :=
  read2 _ 13 (128 * k.val) _ (k0_off27_eq k) h 0 l

omit harg2 harg3 harg4 harg5 harg6 harg7 harg8 harg9 harg10 in
theorem rdW28 (h) (l : Fin 128) :
    View.readAt (Elt Ideal) arg4.view (Rect.unit (s := S31x1024) (k0_off28 k) ![1, 128] h).toLoadRect X_arg4 (ix2 0 l)
      = at2 (arg4.view.read (Elt Ideal) X_arg4) 21 (128 * k.val + l.val) :=
  read2 _ 21 (128 * k.val) _ (k0_off28_eq k) h 0 l

omit harg2 harg3 harg4 harg5 harg6 harg7 harg8 harg9 harg10 in
theorem rdW29 (h) (l : Fin 128) :
    View.readAt (Elt Ideal) arg4.view (Rect.unit (s := S31x1024) (k0_off29 k) ![1, 128] h).toLoadRect X_arg4 (ix2 0 l)
      = at2 (arg4.view.read (Elt Ideal) X_arg4) 29 (128 * k.val + l.val) :=
  read2 _ 29 (128 * k.val) _ (k0_off29_eq k) h 0 l

omit harg2 harg3 harg4 harg5 harg6 harg7 harg8 harg9 harg10 in
theorem rdW30 (h) (l : Fin 128) :
    View.readAt (Elt Ideal) arg4.view (Rect.unit (s := S31x1024) (k0_off30 k) ![1, 128] h).toLoadRect X_arg4 (ix2 0 l)
      = at2 (arg4.view.read (Elt Ideal) X_arg4) 6 (128 * k.val + l.val) :=
  read2 _ 6 (128 * k.val) _ (k0_off30_eq k) h 0 l

omit harg2 harg3 harg4 harg5 harg6 harg7 harg8 harg9 harg10 in
theorem rdW31 (h) (l : Fin 128) :
    View.readAt (Elt Ideal) arg4.view (Rect.unit (s := S31x1024) (k0_off31 k) ![1, 128] h).toLoadRect X_arg4 (ix2 0 l)
      = at2 (arg4.view.read (Elt Ideal) X_arg4) 14 (128 * k.val + l.val) :=
  read2 _ 14 (128 * k.val) _ (k0_off31_eq k) h 0 l

omit harg2 harg3 harg4 harg5 harg6 harg7 harg8 harg9 harg10 in
theorem rdW32 (h) (l : Fin 128) :
    View.readAt (Elt Ideal) arg4.view (Rect.unit (s := S31x1024) (k0_off32 k) ![1, 128] h).toLoadRect X_arg4 (ix2 0 l)
      = at2 (arg4.view.read (Elt Ideal) X_arg4) 22 (128 * k.val + l.val) :=
  read2 _ 22 (128 * k.val) _ (k0_off32_eq k) h 0 l

omit harg2 harg3 harg4 harg5 harg6 harg7 harg8 harg9 harg10 in
theorem rdW33 (h) (l : Fin 128) :
    View.readAt (Elt Ideal) arg4.view (Rect.unit (s := S31x1024) (k0_off33 k) ![1, 128] h).toLoadRect X_arg4 (ix2 0 l)
      = at2 (arg4.view.read (Elt Ideal) X_arg4) 30 (128 * k.val + l.val) :=
  read2 _ 30 (128 * k.val) _ (k0_off33_eq k) h 0 l

omit harg2 harg3 harg4 harg5 harg6 harg7 harg8 harg9 harg10 in
theorem rdW34 (h) (l : Fin 128) :
    View.readAt (Elt Ideal) arg4.view (Rect.unit (s := S31x1024) (k0_off34 k) ![1, 128] h).toLoadRect X_arg4 (ix2 0 l)
      = at2 (arg4.view.read (Elt Ideal) X_arg4) 7 (128 * k.val + l.val) :=
  read2 _ 7 (128 * k.val) _ (k0_off34_eq k) h 0 l

omit harg2 harg3 harg4 harg5 harg6 harg7 harg8 harg9 harg10 in
theorem rdW35 (h) (l : Fin 128) :
    View.readAt (Elt Ideal) arg4.view (Rect.unit (s := S31x1024) (k0_off35 k) ![1, 128] h).toLoadRect X_arg4 (ix2 0 l)
      = at2 (arg4.view.read (Elt Ideal) X_arg4) 15 (128 * k.val + l.val) :=
  read2 _ 15 (128 * k.val) _ (k0_off35_eq k) h 0 l

omit harg2 harg3 harg4 harg5 harg6 harg7 harg8 harg9 harg10 in
theorem rdW36 (h) (l : Fin 128) :
    View.readAt (Elt Ideal) arg4.view (Rect.unit (s := S31x1024) (k0_off36 k) ![1, 128] h).toLoadRect X_arg4 (ix2 0 l)
      = at2 (arg4.view.read (Elt Ideal) X_arg4) 23 (128 * k.val + l.val) :=
  read2 _ 23 (128 * k.val) _ (k0_off36_eq k) h 0 l

omit harg2 harg3 harg4 harg5 harg6 harg7 harg8 harg9 harg10 in
theorem rdE38 (h) (q : Fin 144) (l : Fin 128) :
    View.readAt (Elt Ideal) arg9.view (Rect.unit (s := S296x1024) (k0_off38 k) ![144, 128] h).toLoadRect X_arg9 (ix2 q l)
      = at2 (arg9.view.read (Elt Ideal) X_arg9) (128 + q.val) (128 * k.val + l.val) :=
  read2 _ 128 (128 * k.val) _ (k0_off38_eq k) h q l

omit harg2 harg3 harg4 harg5 harg6 harg7 harg8 harg9 harg10 in
theorem rdE39 (h) (q : Fin 144) (l : Fin 128) :
    View.readAt (Elt Ideal) arg9.view (Rect.unit (s := S296x1024) (k0_off39 k) ![144, 128] h).toLoadRect X_arg9 (ix2 q l)
      = at2 (arg9.view.read (Elt Ideal) X_arg9) (136 + q.val) (128 * k.val + l.val) :=
  read2 _ 136 (128 * k.val) _ (k0_off39_eq k) h q l

omit harg2 harg3 harg4 harg5 harg6 harg7 harg8 harg9 harg10 in
theorem rdE40 (h) (q : Fin 144) (l : Fin 128) :
    View.readAt (Elt Ideal) arg9.view (Rect.unit (s := S296x1024) (k0_off40 k) ![144, 128] h).toLoadRect X_arg9 (ix2 q l)
      = at2 (arg9.view.read (Elt Ideal) X_arg9) (144 + q.val) (128 * k.val + l.val) :=
  read2 _ 144 (128 * k.val) _ (k0_off40_eq k) h q l

omit harg2 harg3 harg4 harg5 harg6 harg7 harg8 harg9 harg10 in
theorem rdE41 (h) (q : Fin 144) (l : Fin 128) :
    View.readAt (Elt Ideal) arg9.view (Rect.unit (s := S296x1024) (k0_off41 k) ![144, 128] h).toLoadRect X_arg9 (ix2 q l)
      = at2 (arg9.view.read (Elt Ideal) X_arg9) (152 + q.val) (128 * k.val + l.val) :=
  read2 _ 152 (128 * k.val) _ (k0_off41_eq k) h q l

theorem firstHalf (r l : Fin 128) :
    k0_pay14 (trip_k0_t1.sl.r_11 arg4 arg5 arg9 X_arg4 X_arg5 X_arg9 k) (trip_k0_t1.sl.r_12 arg4 arg9 X_arg4 X_arg9 k) (trip_k0_t1.sl.r_13 arg4 X_arg4 k) (View.readAt (Elt Ideal) arg9.view (Rect.unit (s := S296x1024) (k0_off9 k) ![144, 128] (k0_off9_inb k)).toLoadRect X_arg9) (View.readAt (Elt Ideal) arg4.view (Rect.unit (s := S31x1024) (k0_off34 k) ![1, 128] (k0_off34_inb k)).toLoadRect X_arg4) (View.readAt (Elt Ideal) arg9.view (Rect.unit (s := S296x1024) (k0_off3 k) ![144, 128] (k0_off3_inb k)).toLoadRect X_arg9) (View.readAt (Elt Ideal) arg4.view (Rect.unit (s := S31x1024) (k0_off35 k) ![1, 128] (k0_off35_inb k)).toLoadRect X_arg4) (View.readAt (Elt Ideal) arg9.view (Rect.unit (s := S296x1024) (k0_off5 k) ![144, 128] (k0_off5_inb k)).toLoadRect X_arg9) (View.readAt (Elt Ideal) arg4.view (Rect.unit (s := S31x1024) (k0_off36 k) ![1, 128] (k0_off36_inb k)).toLoadRect X_arg4) (View.readAt (Elt Ideal) arg9.view (Rect.unit (s := S296x1024) (k0_off7 k) ![144, 128] (k0_off7_inb k)).toLoadRect X_arg9) (ix2 r l)
      = cv (arg4.view.read (Elt Ideal) X_arg4) (arg5.view.read (Elt Ideal) X_arg5) (arg9.view.read (Elt Ideal) X_arg9) (0 + r.val) (128 * k.val + l.val) := by
  unfold cv
  rw [taps_eq]
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28]
  simp only [pay2_apply, pay3_apply, pay4_apply, pay5_apply, pay6_apply, pay7_apply, pay8_apply, pay9_apply, pay10_apply, pay11_apply, pay12_apply, pay13_apply, pay14_apply, pay15_apply, pay16_apply, pay17_apply, pay18_apply, pay19_apply, pay20_apply, pay21_apply, pay22_apply, pay23_apply, pay24_apply, pay25_apply, pay26_apply, pay27_apply, pay28_apply, pay32_apply]
  simp only [rdB1, rdW2, rdE3, rdW4, rdE5, rdW6, rdE7, rdW8, rdE9, rdW10, rdW11, rdW12, rdW13, rdW14, rdW15, rdW16, rdW17, rdW18, rdW19, rdW20, rdW21, rdW22, rdW23, rdW24, rdW25, rdW26, rdW27, rdW28, rdW29, rdW30, rdW31, rdW32, rdW33, rdW34, rdW35, rdW36, rdE38, rdE39, rdE40, rdE41]
  simp only [show 0 + (r.val + 2) = 0 + r.val + 2 + 0 by omega, show 0 + (r.val + 3) = 0 + r.val + 2 + 1 by omega, show 0 + (r.val + 4) = 0 + r.val + 2 + 2 by omega, show 0 + (r.val + 5) = 0 + r.val + 2 + 3 by omega, show 0 + (r.val + 6) = 0 + r.val + 2 + 4 by omega, show 0 + (r.val + 7) = 0 + r.val + 2 + 5 by omega, show 0 + (8 + r.val) = 0 + r.val + 2 + 6 by omega, show 0 + (r.val + 9) = 0 + r.val + 2 + 7 by omega, show 8 + (r.val + 2) = 0 + r.val + 2 + 8 by omega, show 8 + (r.val + 3) = 0 + r.val + 2 + 9 by omega, show 8 + (r.val + 4) = 0 + r.val + 2 + 10 by omega, show 8 + (r.val + 5) = 0 + r.val + 2 + 11 by omega, show 8 + (r.val + 6) = 0 + r.val + 2 + 12 by omega, show 8 + (r.val + 7) = 0 + r.val + 2 + 13 by omega, show 8 + (8 + r.val) = 0 + r.val + 2 + 14 by omega, show 8 + (r.val + 9) = 0 + r.val + 2 + 15 by omega, show 16 + (r.val + 2) = 0 + r.val + 2 + 16 by omega, show 16 + (r.val + 3) = 0 + r.val + 2 + 17 by omega, show 16 + (r.val + 4) = 0 + r.val + 2 + 18 by omega, show 16 + (r.val + 5) = 0 + r.val + 2 + 19 by omega, show 16 + (r.val + 6) = 0 + r.val + 2 + 20 by omega, show 16 + (r.val + 7) = 0 + r.val + 2 + 21 by omega, show 16 + (8 + r.val) = 0 + r.val + 2 + 22 by omega, show 16 + (r.val + 9) = 0 + r.val + 2 + 23 by omega, show 24 + (r.val + 2) = 0 + r.val + 2 + 24 by omega, show 24 + (r.val + 3) = 0 + r.val + 2 + 25 by omega, show 24 + (r.val + 4) = 0 + r.val + 2 + 26 by omega, show 24 + (r.val + 5) = 0 + r.val + 2 + 27 by omega, show 24 + (r.val + 6) = 0 + r.val + 2 + 28 by omega, show 24 + (r.val + 7) = 0 + r.val + 2 + 29 by omega, show 24 + (8 + r.val) = 0 + r.val + 2 + 30 by omega]
  generalize at2 (arg4.view.read (Elt Ideal) X_arg4) 0 (128 * k.val + l.val) * at2 (arg9.view.read (Elt Ideal) X_arg9) (0 + r.val + 2 + 0) (128 * k.val + l.val) = p0
  generalize at2 (arg4.view.read (Elt Ideal) X_arg4) 1 (128 * k.val + l.val) * at2 (arg9.view.read (Elt Ideal) X_arg9) (0 + r.val + 2 + 1) (128 * k.val + l.val) = p1
  generalize at2 (arg4.view.read (Elt Ideal) X_arg4) 2 (128 * k.val + l.val) * at2 (arg9.view.read (Elt Ideal) X_arg9) (0 + r.val + 2 + 2) (128 * k.val + l.val) = p2
  generalize at2 (arg4.view.read (Elt Ideal) X_arg4) 3 (128 * k.val + l.val) * at2 (arg9.view.read (Elt Ideal) X_arg9) (0 + r.val + 2 + 3) (128 * k.val + l.val) = p3
  generalize at2 (arg4.view.read (Elt Ideal) X_arg4) 4 (128 * k.val + l.val) * at2 (arg9.view.read (Elt Ideal) X_arg9) (0 + r.val + 2 + 4) (128 * k.val + l.val) = p4
  generalize at2 (arg4.view.read (Elt Ideal) X_arg4) 5 (128 * k.val + l.val) * at2 (arg9.view.read (Elt Ideal) X_arg9) (0 + r.val + 2 + 5) (128 * k.val + l.val) = p5
  generalize at2 (arg4.view.read (Elt Ideal) X_arg4) 6 (128 * k.val + l.val) * at2 (arg9.view.read (Elt Ideal) X_arg9) (0 + r.val + 2 + 6) (128 * k.val + l.val) = p6
  generalize at2 (arg4.view.read (Elt Ideal) X_arg4) 7 (128 * k.val + l.val) * at2 (arg9.view.read (Elt Ideal) X_arg9) (0 + r.val + 2 + 7) (128 * k.val + l.val) = p7
  generalize at2 (arg4.view.read (Elt Ideal) X_arg4) 8 (128 * k.val + l.val) * at2 (arg9.view.read (Elt Ideal) X_arg9) (0 + r.val + 2 + 8) (128 * k.val + l.val) = p8
  generalize at2 (arg4.view.read (Elt Ideal) X_arg4) 9 (128 * k.val + l.val) * at2 (arg9.view.read (Elt Ideal) X_arg9) (0 + r.val + 2 + 9) (128 * k.val + l.val) = p9
  generalize at2 (arg4.view.read (Elt Ideal) X_arg4) 10 (128 * k.val + l.val) * at2 (arg9.view.read (Elt Ideal) X_arg9) (0 + r.val + 2 + 10) (128 * k.val + l.val) = p10
  generalize at2 (arg4.view.read (Elt Ideal) X_arg4) 11 (128 * k.val + l.val) * at2 (arg9.view.read (Elt Ideal) X_arg9) (0 + r.val + 2 + 11) (128 * k.val + l.val) = p11
  generalize at2 (arg4.view.read (Elt Ideal) X_arg4) 12 (128 * k.val + l.val) * at2 (arg9.view.read (Elt Ideal) X_arg9) (0 + r.val + 2 + 12) (128 * k.val + l.val) = p12
  generalize at2 (arg4.view.read (Elt Ideal) X_arg4) 13 (128 * k.val + l.val) * at2 (arg9.view.read (Elt Ideal) X_arg9) (0 + r.val + 2 + 13) (128 * k.val + l.val) = p13
  generalize at2 (arg4.view.read (Elt Ideal) X_arg4) 14 (128 * k.val + l.val) * at2 (arg9.view.read (Elt Ideal) X_arg9) (0 + r.val + 2 + 14) (128 * k.val + l.val) = p14
  generalize at2 (arg4.view.read (Elt Ideal) X_arg4) 15 (128 * k.val + l.val) * at2 (arg9.view.read (Elt Ideal) X_arg9) (0 + r.val + 2 + 15) (128 * k.val + l.val) = p15
  generalize at2 (arg4.view.read (Elt Ideal) X_arg4) 16 (128 * k.val + l.val) * at2 (arg9.view.read (Elt Ideal) X_arg9) (0 + r.val + 2 + 16) (128 * k.val + l.val) = p16
  generalize at2 (arg4.view.read (Elt Ideal) X_arg4) 17 (128 * k.val + l.val) * at2 (arg9.view.read (Elt Ideal) X_arg9) (0 + r.val + 2 + 17) (128 * k.val + l.val) = p17
  generalize at2 (arg4.view.read (Elt Ideal) X_arg4) 18 (128 * k.val + l.val) * at2 (arg9.view.read (Elt Ideal) X_arg9) (0 + r.val + 2 + 18) (128 * k.val + l.val) = p18
  generalize at2 (arg4.view.read (Elt Ideal) X_arg4) 19 (128 * k.val + l.val) * at2 (arg9.view.read (Elt Ideal) X_arg9) (0 + r.val + 2 + 19) (128 * k.val + l.val) = p19
  generalize at2 (arg4.view.read (Elt Ideal) X_arg4) 20 (128 * k.val + l.val) * at2 (arg9.view.read (Elt Ideal) X_arg9) (0 + r.val + 2 + 20) (128 * k.val + l.val) = p20
  generalize at2 (arg4.view.read (Elt Ideal) X_arg4) 21 (128 * k.val + l.val) * at2 (arg9.view.read (Elt Ideal) X_arg9) (0 + r.val + 2 + 21) (128 * k.val + l.val) = p21
  generalize at2 (arg4.view.read (Elt Ideal) X_arg4) 22 (128 * k.val + l.val) * at2 (arg9.view.read (Elt Ideal) X_arg9) (0 + r.val + 2 + 22) (128 * k.val + l.val) = p22
  generalize at2 (arg4.view.read (Elt Ideal) X_arg4) 23 (128 * k.val + l.val) * at2 (arg9.view.read (Elt Ideal) X_arg9) (0 + r.val + 2 + 23) (128 * k.val + l.val) = p23
  generalize at2 (arg4.view.read (Elt Ideal) X_arg4) 24 (128 * k.val + l.val) * at2 (arg9.view.read (Elt Ideal) X_arg9) (0 + r.val + 2 + 24) (128 * k.val + l.val) = p24
  generalize at2 (arg4.view.read (Elt Ideal) X_arg4) 25 (128 * k.val + l.val) * at2 (arg9.view.read (Elt Ideal) X_arg9) (0 + r.val + 2 + 25) (128 * k.val + l.val) = p25
  generalize at2 (arg4.view.read (Elt Ideal) X_arg4) 26 (128 * k.val + l.val) * at2 (arg9.view.read (Elt Ideal) X_arg9) (0 + r.val + 2 + 26) (128 * k.val + l.val) = p26
  generalize at2 (arg4.view.read (Elt Ideal) X_arg4) 27 (128 * k.val + l.val) * at2 (arg9.view.read (Elt Ideal) X_arg9) (0 + r.val + 2 + 27) (128 * k.val + l.val) = p27
  generalize at2 (arg4.view.read (Elt Ideal) X_arg4) 28 (128 * k.val + l.val) * at2 (arg9.view.read (Elt Ideal) X_arg9) (0 + r.val + 2 + 28) (128 * k.val + l.val) = p28
  generalize at2 (arg4.view.read (Elt Ideal) X_arg4) 29 (128 * k.val + l.val) * at2 (arg9.view.read (Elt Ideal) X_arg9) (0 + r.val + 2 + 29) (128 * k.val + l.val) = p29
  generalize at2 (arg4.view.read (Elt Ideal) X_arg4) 30 (128 * k.val + l.val) * at2 (arg9.view.read (Elt Ideal) X_arg9) (0 + r.val + 2 + 30) (128 * k.val + l.val) = p30
  generalize at2 (arg5.view.read (Elt Ideal) X_arg5) 0 (128 * k.val + l.val) = p
  ac_rfl

theorem secondHalf (r l : Fin 128) :
    k0_pay32 (trip_k0_t1.sl.r_26 arg4 arg5 arg9 X_arg4 X_arg5 X_arg9 k) (trip_k0_t1.sl.r_27 arg4 X_arg4 k) (trip_k0_t1.sl.r_28 arg9 X_arg9 k) (View.readAt (Elt Ideal) arg4.view (Rect.unit (s := S31x1024) (k0_off35 k) ![1, 128] (k0_off35_inb k)).toLoadRect X_arg4) (View.readAt (Elt Ideal) arg9.view (Rect.unit (s := S296x1024) (k0_off39 k) ![144, 128] (k0_off39_inb k)).toLoadRect X_arg9) (View.readAt (Elt Ideal) arg4.view (Rect.unit (s := S31x1024) (k0_off36 k) ![1, 128] (k0_off36_inb k)).toLoadRect X_arg4) (View.readAt (Elt Ideal) arg9.view (Rect.unit (s := S296x1024) (k0_off40 k) ![144, 128] (k0_off40_inb k)).toLoadRect X_arg9) (ix2 r l)
      = cv (arg4.view.read (Elt Ideal) X_arg4) (arg5.view.read (Elt Ideal) X_arg5) (arg9.view.read (Elt Ideal) X_arg9) (128 + r.val) (128 * k.val + l.val) := by
  unfold cv
  rw [taps_eq]
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28]
  simp only [pay2_apply, pay3_apply, pay4_apply, pay5_apply, pay6_apply, pay7_apply, pay8_apply, pay9_apply, pay10_apply, pay11_apply, pay12_apply, pay13_apply, pay14_apply, pay15_apply, pay16_apply, pay17_apply, pay18_apply, pay19_apply, pay20_apply, pay21_apply, pay22_apply, pay23_apply, pay24_apply, pay25_apply, pay26_apply, pay27_apply, pay28_apply, pay32_apply]
  simp only [rdB1, rdW2, rdE3, rdW4, rdE5, rdW6, rdE7, rdW8, rdE9, rdW10, rdW11, rdW12, rdW13, rdW14, rdW15, rdW16, rdW17, rdW18, rdW19, rdW20, rdW21, rdW22, rdW23, rdW24, rdW25, rdW26, rdW27, rdW28, rdW29, rdW30, rdW31, rdW32, rdW33, rdW34, rdW35, rdW36, rdE38, rdE39, rdE40, rdE41]
  simp only [show 128 + (r.val + 2) = 128 + r.val + 2 + 0 by omega, show 128 + (r.val + 3) = 128 + r.val + 2 + 1 by omega, show 128 + (r.val + 4) = 128 + r.val + 2 + 2 by omega, show 128 + (r.val + 5) = 128 + r.val + 2 + 3 by omega, show 128 + (r.val + 6) = 128 + r.val + 2 + 4 by omega, show 128 + (r.val + 7) = 128 + r.val + 2 + 5 by omega, show 128 + (8 + r.val) = 128 + r.val + 2 + 6 by omega, show 128 + (r.val + 9) = 128 + r.val + 2 + 7 by omega, show 136 + (r.val + 2) = 128 + r.val + 2 + 8 by omega, show 136 + (r.val + 3) = 128 + r.val + 2 + 9 by omega, show 136 + (r.val + 4) = 128 + r.val + 2 + 10 by omega, show 136 + (r.val + 5) = 128 + r.val + 2 + 11 by omega, show 136 + (r.val + 6) = 128 + r.val + 2 + 12 by omega, show 136 + (r.val + 7) = 128 + r.val + 2 + 13 by omega, show 136 + (8 + r.val) = 128 + r.val + 2 + 14 by omega, show 136 + (r.val + 9) = 128 + r.val + 2 + 15 by omega, show 144 + (r.val + 2) = 128 + r.val + 2 + 16 by omega, show 144 + (r.val + 3) = 128 + r.val + 2 + 17 by omega, show 144 + (r.val + 4) = 128 + r.val + 2 + 18 by omega, show 144 + (r.val + 5) = 128 + r.val + 2 + 19 by omega, show 144 + (r.val + 6) = 128 + r.val + 2 + 20 by omega, show 144 + (r.val + 7) = 128 + r.val + 2 + 21 by omega, show 144 + (8 + r.val) = 128 + r.val + 2 + 22 by omega, show 144 + (r.val + 9) = 128 + r.val + 2 + 23 by omega, show 152 + (r.val + 2) = 128 + r.val + 2 + 24 by omega, show 152 + (r.val + 3) = 128 + r.val + 2 + 25 by omega, show 152 + (r.val + 4) = 128 + r.val + 2 + 26 by omega, show 152 + (r.val + 5) = 128 + r.val + 2 + 27 by omega, show 152 + (r.val + 6) = 128 + r.val + 2 + 28 by omega, show 152 + (r.val + 7) = 128 + r.val + 2 + 29 by omega, show 152 + (8 + r.val) = 128 + r.val + 2 + 30 by omega]
  generalize at2 (arg4.view.read (Elt Ideal) X_arg4) 0 (128 * k.val + l.val) * at2 (arg9.view.read (Elt Ideal) X_arg9) (128 + r.val + 2 + 0) (128 * k.val + l.val) = p0
  generalize at2 (arg4.view.read (Elt Ideal) X_arg4) 1 (128 * k.val + l.val) * at2 (arg9.view.read (Elt Ideal) X_arg9) (128 + r.val + 2 + 1) (128 * k.val + l.val) = p1
  generalize at2 (arg4.view.read (Elt Ideal) X_arg4) 2 (128 * k.val + l.val) * at2 (arg9.view.read (Elt Ideal) X_arg9) (128 + r.val + 2 + 2) (128 * k.val + l.val) = p2
  generalize at2 (arg4.view.read (Elt Ideal) X_arg4) 3 (128 * k.val + l.val) * at2 (arg9.view.read (Elt Ideal) X_arg9) (128 + r.val + 2 + 3) (128 * k.val + l.val) = p3
  generalize at2 (arg4.view.read (Elt Ideal) X_arg4) 4 (128 * k.val + l.val) * at2 (arg9.view.read (Elt Ideal) X_arg9) (128 + r.val + 2 + 4) (128 * k.val + l.val) = p4
  generalize at2 (arg4.view.read (Elt Ideal) X_arg4) 5 (128 * k.val + l.val) * at2 (arg9.view.read (Elt Ideal) X_arg9) (128 + r.val + 2 + 5) (128 * k.val + l.val) = p5
  generalize at2 (arg4.view.read (Elt Ideal) X_arg4) 6 (128 * k.val + l.val) * at2 (arg9.view.read (Elt Ideal) X_arg9) (128 + r.val + 2 + 6) (128 * k.val + l.val) = p6
  generalize at2 (arg4.view.read (Elt Ideal) X_arg4) 7 (128 * k.val + l.val) * at2 (arg9.view.read (Elt Ideal) X_arg9) (128 + r.val + 2 + 7) (128 * k.val + l.val) = p7
  generalize at2 (arg4.view.read (Elt Ideal) X_arg4) 8 (128 * k.val + l.val) * at2 (arg9.view.read (Elt Ideal) X_arg9) (128 + r.val + 2 + 8) (128 * k.val + l.val) = p8
  generalize at2 (arg4.view.read (Elt Ideal) X_arg4) 9 (128 * k.val + l.val) * at2 (arg9.view.read (Elt Ideal) X_arg9) (128 + r.val + 2 + 9) (128 * k.val + l.val) = p9
  generalize at2 (arg4.view.read (Elt Ideal) X_arg4) 10 (128 * k.val + l.val) * at2 (arg9.view.read (Elt Ideal) X_arg9) (128 + r.val + 2 + 10) (128 * k.val + l.val) = p10
  generalize at2 (arg4.view.read (Elt Ideal) X_arg4) 11 (128 * k.val + l.val) * at2 (arg9.view.read (Elt Ideal) X_arg9) (128 + r.val + 2 + 11) (128 * k.val + l.val) = p11
  generalize at2 (arg4.view.read (Elt Ideal) X_arg4) 12 (128 * k.val + l.val) * at2 (arg9.view.read (Elt Ideal) X_arg9) (128 + r.val + 2 + 12) (128 * k.val + l.val) = p12
  generalize at2 (arg4.view.read (Elt Ideal) X_arg4) 13 (128 * k.val + l.val) * at2 (arg9.view.read (Elt Ideal) X_arg9) (128 + r.val + 2 + 13) (128 * k.val + l.val) = p13
  generalize at2 (arg4.view.read (Elt Ideal) X_arg4) 14 (128 * k.val + l.val) * at2 (arg9.view.read (Elt Ideal) X_arg9) (128 + r.val + 2 + 14) (128 * k.val + l.val) = p14
  generalize at2 (arg4.view.read (Elt Ideal) X_arg4) 15 (128 * k.val + l.val) * at2 (arg9.view.read (Elt Ideal) X_arg9) (128 + r.val + 2 + 15) (128 * k.val + l.val) = p15
  generalize at2 (arg4.view.read (Elt Ideal) X_arg4) 16 (128 * k.val + l.val) * at2 (arg9.view.read (Elt Ideal) X_arg9) (128 + r.val + 2 + 16) (128 * k.val + l.val) = p16
  generalize at2 (arg4.view.read (Elt Ideal) X_arg4) 17 (128 * k.val + l.val) * at2 (arg9.view.read (Elt Ideal) X_arg9) (128 + r.val + 2 + 17) (128 * k.val + l.val) = p17
  generalize at2 (arg4.view.read (Elt Ideal) X_arg4) 18 (128 * k.val + l.val) * at2 (arg9.view.read (Elt Ideal) X_arg9) (128 + r.val + 2 + 18) (128 * k.val + l.val) = p18
  generalize at2 (arg4.view.read (Elt Ideal) X_arg4) 19 (128 * k.val + l.val) * at2 (arg9.view.read (Elt Ideal) X_arg9) (128 + r.val + 2 + 19) (128 * k.val + l.val) = p19
  generalize at2 (arg4.view.read (Elt Ideal) X_arg4) 20 (128 * k.val + l.val) * at2 (arg9.view.read (Elt Ideal) X_arg9) (128 + r.val + 2 + 20) (128 * k.val + l.val) = p20
  generalize at2 (arg4.view.read (Elt Ideal) X_arg4) 21 (128 * k.val + l.val) * at2 (arg9.view.read (Elt Ideal) X_arg9) (128 + r.val + 2 + 21) (128 * k.val + l.val) = p21
  generalize at2 (arg4.view.read (Elt Ideal) X_arg4) 22 (128 * k.val + l.val) * at2 (arg9.view.read (Elt Ideal) X_arg9) (128 + r.val + 2 + 22) (128 * k.val + l.val) = p22
  generalize at2 (arg4.view.read (Elt Ideal) X_arg4) 23 (128 * k.val + l.val) * at2 (arg9.view.read (Elt Ideal) X_arg9) (128 + r.val + 2 + 23) (128 * k.val + l.val) = p23
  generalize at2 (arg4.view.read (Elt Ideal) X_arg4) 24 (128 * k.val + l.val) * at2 (arg9.view.read (Elt Ideal) X_arg9) (128 + r.val + 2 + 24) (128 * k.val + l.val) = p24
  generalize at2 (arg4.view.read (Elt Ideal) X_arg4) 25 (128 * k.val + l.val) * at2 (arg9.view.read (Elt Ideal) X_arg9) (128 + r.val + 2 + 25) (128 * k.val + l.val) = p25
  generalize at2 (arg4.view.read (Elt Ideal) X_arg4) 26 (128 * k.val + l.val) * at2 (arg9.view.read (Elt Ideal) X_arg9) (128 + r.val + 2 + 26) (128 * k.val + l.val) = p26
  generalize at2 (arg4.view.read (Elt Ideal) X_arg4) 27 (128 * k.val + l.val) * at2 (arg9.view.read (Elt Ideal) X_arg9) (128 + r.val + 2 + 27) (128 * k.val + l.val) = p27
  generalize at2 (arg4.view.read (Elt Ideal) X_arg4) 28 (128 * k.val + l.val) * at2 (arg9.view.read (Elt Ideal) X_arg9) (128 + r.val + 2 + 28) (128 * k.val + l.val) = p28
  generalize at2 (arg4.view.read (Elt Ideal) X_arg4) 29 (128 * k.val + l.val) * at2 (arg9.view.read (Elt Ideal) X_arg9) (128 + r.val + 2 + 29) (128 * k.val + l.val) = p29
  generalize at2 (arg4.view.read (Elt Ideal) X_arg4) 30 (128 * k.val + l.val) * at2 (arg9.view.read (Elt Ideal) X_arg9) (128 + r.val + 2 + 30) (128 * k.val + l.val) = p30
  generalize at2 (arg5.view.read (Elt Ideal) X_arg5) 0 (128 * k.val + l.val) = p
  ac_rfl

theorem trip_pieces : tripL_k0_t1 (F := Ideal) 𝒱 c bd i arg2 harg2 arg3 harg3 arg4 harg4 arg5 harg5 arg6 harg6 arg7 harg7 arg8 harg8 arg9 harg9 arg10 harg10 X_arg4 X_arg5 X_arg9 k
    = [⟨Rect.unit (k0_off42 k) ![128, 128] (k0_off42_inb k), k0_pay32 (trip_k0_t1.sl.r_26 arg4 arg5 arg9 X_arg4 X_arg5 X_arg9 k) (trip_k0_t1.sl.r_27 arg4 X_arg4 k) (trip_k0_t1.sl.r_28 arg9 X_arg9 k) (View.readAt (Elt Ideal) arg4.view (Rect.unit (s := S31x1024) (k0_off35 k) ![1, 128] (k0_off35_inb k)).toLoadRect X_arg4) (View.readAt (Elt Ideal) arg9.view (Rect.unit (s := S296x1024) (k0_off39 k) ![144, 128] (k0_off39_inb k)).toLoadRect X_arg9) (View.readAt (Elt Ideal) arg4.view (Rect.unit (s := S31x1024) (k0_off36 k) ![1, 128] (k0_off36_inb k)).toLoadRect X_arg4) (View.readAt (Elt Ideal) arg9.view (Rect.unit (s := S296x1024) (k0_off40 k) ![144, 128] (k0_off40_inb k)).toLoadRect X_arg9)⟩,
      ⟨Rect.unit (k0_off37 k) ![128, 128] (k0_off37_inb k), k0_pay14 (trip_k0_t1.sl.r_11 arg4 arg5 arg9 X_arg4 X_arg5 X_arg9 k) (trip_k0_t1.sl.r_12 arg4 arg9 X_arg4 X_arg9 k) (trip_k0_t1.sl.r_13 arg4 X_arg4 k) (View.readAt (Elt Ideal) arg9.view (Rect.unit (s := S296x1024) (k0_off9 k) ![144, 128] (k0_off9_inb k)).toLoadRect X_arg9) (View.readAt (Elt Ideal) arg4.view (Rect.unit (s := S31x1024) (k0_off34 k) ![1, 128] (k0_off34_inb k)).toLoadRect X_arg4) (View.readAt (Elt Ideal) arg9.view (Rect.unit (s := S296x1024) (k0_off3 k) ![144, 128] (k0_off3_inb k)).toLoadRect X_arg9) (View.readAt (Elt Ideal) arg4.view (Rect.unit (s := S31x1024) (k0_off35 k) ![1, 128] (k0_off35_inb k)).toLoadRect X_arg4) (View.readAt (Elt Ideal) arg9.view (Rect.unit (s := S296x1024) (k0_off5 k) ![144, 128] (k0_off5_inb k)).toLoadRect X_arg9) (View.readAt (Elt Ideal) arg4.view (Rect.unit (s := S31x1024) (k0_off36 k) ![1, 128] (k0_off36_inb k)).toLoadRect X_arg4) (View.readAt (Elt Ideal) arg9.view (Rect.unit (s := S296x1024) (k0_off7 k) ![144, 128] (k0_off7_inb k)).toLoadRect X_arg9)⟩] := by
  unfold tripL_k0_t1 trip_k0_t1
  rfl

end Cert.Kernel20Ideal.Conv

end
-- ==== Proof.ConvPromptLoop.lean ====
/-
  What the eight trips of the prompt's convolution leave: every row and channel of the tile.
-/
module

public import proofs.«01_k».proof.Proof.ConvPromptPieces
public import Idealize.ShloMosaic.Lib.Pipeline.ValueKit
public import Idealize.ShloMosaic.Lib.Pipeline.Value

@[expose] public section

set_option maxRecDepth 16384

noncomputable section

namespace Cert.Kernel20Ideal.Conv

open Cert.Kernel20Ideal Cert.Kernel20Ideal.Gen Cert.ConvSpec
open Idealize.ShloMosaic Idealize.ShloMosaic.TcCoe Idealize.SL.Sem

variable (𝒱 : Variants) (c : Dev nD) (bd : Option 𝒱.V) (i : grid0.Coords) (arg2 : Memref sig .tc .vmem S1x256x1024 .f32) (harg2 : arg2.IsWhole) (arg3 : Memref sig .tc .vmem S1x256x1024 .f32) (harg3 : arg3.IsWhole) (arg4 : Memref sig .tc .vmem S31x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x1024 .bf16) (harg8 : arg8.IsWhole) (arg9 : Memref sig .tc .vmem S296x1024 .f32) (harg9 : arg9.IsWhole) (arg10 : Memref sig .tc .vmem S256x1024 .f32) (harg10 : arg10.IsWhole) (X_arg4 : BufTy.Contents (Elt Ideal) arg4.view.ty) (X_arg5 : BufTy.Contents (Elt Ideal) arg5.view.ty) (X_arg9 : BufTy.Contents (Elt Ideal) arg9.view.ty)

/-- Where a piece of a trip holds an index, its value there is the convolution's. -/
theorem trip_at (k : Fin k0_t1_loop.trips) (y : S256x1024.Idx) : View.AllAt (tripL_k0_t1 (F := Ideal) 𝒱 c bd i arg2 harg2 arg3 harg3 arg4 harg4 arg5 harg5 arg6 harg6 arg7 harg7 arg8 harg8 arg9 harg9 arg10 harg10 X_arg4 X_arg5 X_arg9 k) y
    (cv (arg4.view.read (Elt Ideal) X_arg4) (arg5.view.read (Elt Ideal) X_arg5) (arg9.view.read (Elt Ideal) X_arg9) (y 0).val (y 1).val) := by
  rw [trip_pieces]
  refine View.allAt_cons_unit _ _ _ _ _ ?_ (View.allAt_cons_unit _ _ _ _ _ ?_ (View.allAt_nil _ _))
  · intro x hx
    have h0 := hx 0
    have h1 := hx 1
    rw [k0_off42_eq] at h0 h1
    idx_vars x
    have e0 : (y 0).val = 128 + x0.val := h0
    have e1 : (y 1).val = 128 * k.val + x1.val := h1
    rw [e0, e1]
    exact secondHalf arg4 arg5 arg9 X_arg4 X_arg5 X_arg9 k x0 x1
  · intro x hx
    have h0 := hx 0
    have h1 := hx 1
    rw [k0_off37_eq] at h0 h1
    idx_vars x
    have e0 : (y 0).val = 0 + x0.val := h0
    have e1 : (y 1).val = 128 * k.val + x1.val := h1
    rw [e0, e1]
    exact firstHalf arg4 arg5 arg9 X_arg4 X_arg5 X_arg9 k x0 x1

theorem loop_at (y : S256x1024.Idx) : ∀ n : ℕ, n ≤ k0_t1_loop.trips → View.AllAt (pb_k0_t1 (F := Ideal) 𝒱 c bd i arg2 harg2 arg3 harg3 arg4 harg4 arg5 harg5 arg6 harg6 arg7 harg7 arg8 harg8 arg9 harg9 arg10 harg10 X_arg4 X_arg5 X_arg9 n) y
    (cv (arg4.view.read (Elt Ideal) X_arg4) (arg5.view.read (Elt Ideal) X_arg5) (arg9.view.read (Elt Ideal) X_arg9) (y 0).val (y 1).val)
  | 0, _ => by rw [pb_k0_t1.eq_1]; exact View.allAt_nil _ _
  | n + 1, h => by
    rw [pb_k0_t1_succ 𝒱 c bd i arg2 harg2 arg3 harg3 arg4 harg4 arg5 harg5 arg6 harg6 arg7 harg7 arg8 harg8 arg9 harg9 arg10 harg10 X_arg4 X_arg5 X_arg9 ⟨n, h⟩]
    intro p hp
    rcases List.mem_append.mp hp with hp | hp
    · exact trip_at 𝒱 c bd i arg2 harg2 arg3 harg3 arg4 harg4 arg5 harg5 arg6 harg6 arg7 harg7 arg8 harg8 arg9 harg9 arg10 harg10 X_arg4 X_arg5 X_arg9 ⟨n, h⟩ y p hp
    · exact loop_at y n (by omega) p hp

theorem loop_mem (k : Fin k0_t1_loop.trips) : ∀ n : ℕ, n ≤ k0_t1_loop.trips → k.val < n →
    ∀ p ∈ tripL_k0_t1 (F := Ideal) 𝒱 c bd i arg2 harg2 arg3 harg3 arg4 harg4 arg5 harg5 arg6 harg6 arg7 harg7 arg8 harg8 arg9 harg9 arg10 harg10 X_arg4 X_arg5 X_arg9 k, p ∈ pb_k0_t1 (F := Ideal) 𝒱 c bd i arg2 harg2 arg3 harg3 arg4 harg4 arg5 harg5 arg6 harg6 arg7 harg7 arg8 harg8 arg9 harg9 arg10 harg10 X_arg4 X_arg5 X_arg9 n
  | 0, _, h => absurd h (Nat.not_lt_zero _)
  | n + 1, h, hk => by
    intro p hp
    rw [pb_k0_t1_succ 𝒱 c bd i arg2 harg2 arg3 harg3 arg4 harg4 arg5 harg5 arg6 harg6 arg7 harg7 arg8 harg8 arg9 harg9 arg10 harg10 X_arg4 X_arg5 X_arg9 ⟨n, h⟩]
    by_cases e : k.val = n
    · obtain rfl : k = ⟨n, h⟩ := Fin.ext e
      exact List.mem_append.mpr (Or.inl hp)
    · exact List.mem_append.mpr (Or.inr (loop_mem k n (by omega) (by omega) p hp))

theorem trips_eq : k0_t1_loop.trips = 8 := by decide +kernel

/-- The scratch after the trips, at an index. -/
theorem loop_apply (n : ℕ) (hn : n = k0_t1_loop.trips) (r : Fin 256) (l : Fin 1024) :
    View.canon (pb_k0_t1 (F := Ideal) 𝒱 c bd i arg2 harg2 arg3 harg3 arg4 harg4 arg5 harg5 arg6 harg6 arg7 harg7 arg8 harg8 arg9 harg9 arg10 harg10 X_arg4 X_arg5 X_arg9 n) (ix2 r l)
      = cv (arg4.view.read (Elt Ideal) X_arg4) (arg5.view.read (Elt Ideal) X_arg5) (arg9.view.read (Elt Ideal) X_arg9) r.val l.val := by
  subst hn
  refine View.canon_eq_of_allAt _ _ _ ?_ (loop_at 𝒱 c bd i arg2 harg2 arg3 harg3 arg4 harg4 arg5 harg5 arg6 harg6 arg7 harg7 arg8 harg8 arg9 harg9 arg10 harg10 X_arg4 X_arg5 X_arg9 (ix2 r l) _ le_rfl)
  have hl := l.isLt
  have hr := r.isLt
  have hk : l.val / 128 < k0_t1_loop.trips := by rw [trips_eq]; omega
  have sub := loop_mem 𝒱 c bd i arg2 harg2 arg3 harg3 arg4 harg4 arg5 harg5 arg6 harg6 arg7 harg7 arg8 harg8 arg9 harg9 arg10 harg10 X_arg4 X_arg5 X_arg9 ⟨l.val / 128, hk⟩ _ le_rfl hk
  obtain ⟨A, B, e⟩ : ∃ A B, tripL_k0_t1 (F := Ideal) 𝒱 c bd i arg2 harg2 arg3 harg3 arg4 harg4 arg5 harg5 arg6 harg6 arg7 harg7 arg8 harg8 arg9 harg9 arg10 harg10 X_arg4 X_arg5 X_arg9 ⟨l.val / 128, hk⟩
      = [⟨Rect.unit (k0_off42 ⟨l.val / 128, hk⟩) ![128, 128] (k0_off42_inb _), A⟩,
        ⟨Rect.unit (k0_off37 ⟨l.val / 128, hk⟩) ![128, 128] (k0_off37_inb _), B⟩] := ⟨_, _, trip_pieces 𝒱 c bd i arg2 harg2 arg3 harg3 arg4 harg4 arg5 harg5 arg6 harg6 arg7 harg7 arg8 harg8 arg9 harg9 arg10 harg10 X_arg4 X_arg5 X_arg9 ⟨l.val / 128, hk⟩⟩
  rw [e] at sub
  by_cases h : 128 ≤ r.val
  · have hm : (ix2 r l : S256x1024.Idx) ∈ (Rect.unit (s := S256x1024) (k0_off42 ⟨l.val / 128, hk⟩) ![128, 128] (k0_off42_inb _)).set := by
      refine Rect.mem_set_unit.mpr fun a => ?_
      rw [k0_off42_eq]
      match a with
      | ⟨0, _⟩ => show 128 ≤ r.val ∧ r.val < 128 + 128; omega
      | ⟨1, _⟩ => show 128 * (l.val / 128) ≤ l.val ∧ l.val < 128 * (l.val / 128) + 128; omega
    exact ⟨_, sub _ (List.mem_cons_self ..), hm⟩
  · have hm : (ix2 r l : S256x1024.Idx) ∈ (Rect.unit (s := S256x1024) (k0_off37 ⟨l.val / 128, hk⟩) ![128, 128] (k0_off37_inb _)).set := by
      refine Rect.mem_set_unit.mpr fun a => ?_
      rw [k0_off37_eq]
      match a with
      | ⟨0, _⟩ => show 0 ≤ r.val ∧ r.val < 0 + 128; omega
      | ⟨1, _⟩ => show 128 * (l.val / 128) ≤ l.val ∧ l.val < 128 * (l.val / 128) + 128; omega
    exact ⟨_, sub _ (List.mem_cons_of_mem _ (List.mem_cons_self ..)), hm⟩

end Cert.Kernel20Ideal.Conv

end
-- ==== Proof.ConvPromptKernel.lean ====
/-
  The prompt's convolution kernel read at an index: each point works on one tile of 256 rows of a sequence, led by the last 32
  rows of the tile before it, zeros at the first tile.
-/
module

public import proofs.«01_k».proof.Proof.ConvPromptLoop
public import proofs.«01_k».proof.Proof.Gen.Kernel20Ideal.Value
public import Idealize.ShloMosaic.Lib.Pipeline.ValueKit
public import Idealize.ShloMosaic.Lib.Pipeline.Value
public import Idealize.ShloMosaic.Lib.Pipeline.ReadBack

@[expose] public section

set_option maxRecDepth 16384

noncomputable section

namespace Cert.Kernel20Ideal.Conv

open Cert.Kernel20Ideal Cert.Kernel20Ideal.Gen Cert.ConvSpec
open Idealize.ShloMosaic Idealize.ShloMosaic.TcCoe Idealize.SL.Sem

variable (m : (ℓ : Loc nD τ sig) → Buf (Elt Ideal) ℓ)

/-- The arguments: the rows, the taps' weights, the bias, the gain and the shift. -/
def u (c : Dev nD) (B : Fin 2) (t : Fin 4096) (d : Fin 1024) : EReal := m ((c.tc : Thread nD τ).loc main_arg0) (ix3 B t d)
def w (c : Dev nD) (j : Fin 31) (d : Fin 1024) : EReal := m ((c.tc : Thread nD τ).loc main_arg1) (ix3 0 j d)
def b (c : Dev nD) (d : Fin 1024) : EReal := m ((c.tc : Thread nD τ).loc main_arg2) (ix2 0 d)
def g (c : Dev nD) (d : Fin 1024) : EReal := m ((c.tc : Thread nD τ).loc main_arg3) (ix2 0 d)
def s (c : Dev nD) (d : Fin 1024) : EReal := m ((c.tc : Thread nD τ).loc main_arg4) (ix2 0 d)

theorem pay1_apply (v18 : Vec Ideal S256x1024 .f32) (v20 v22 : Vec Ideal S1x1024 .f32) (r : Fin 256) (k : Fin 1024) :
    k0_pay1 v18 v20 v22 (k0_pay35 v18) (ix3 0 r k)
      = swish (lnorm (fun d => v18 (ix2 r d)) (fun d => v20 (ix2 0 d)) (fun d => v22 (ix2 0 d)) k) := by
  pointwise [k0_pay1, k0_pay35, swish, lnorm]

theorem pay33_apply (v : Vec Ideal S1x1024 .f32) (d : Fin 1024) : k0_pay33 v (ix2 0 d) = v (ix2 0 d) := by
  pointwise [k0_pay33]

theorem pay34_apply (v : Vec Ideal S1x1024 .f32) (d : Fin 1024) : k0_pay34 v (ix2 0 d) = v (ix2 0 d) := by
  pointwise [k0_pay34]

theorem pay30_apply (v : Vec Ideal S1x256x1024 .f32) (q : Fin 256) (d : Fin 1024) : k0_pay30 v (ix2 q d) = v (ix3 0 q d) := by
  pointwise [k0_pay30]

theorem first_eq : ∀ n : Fin 16, Scalar.cmpi .eq (BitVec.ofNat 32 n.val) 0#32 = if n.val = 0 then 1#1 else 0#1 := by decide +kernel

theorem pay29_apply (i : grid0.Coords) (v : Vec Ideal S1x32x1024 .f32) (q : Fin 32) (d : Fin 1024) :
    k0_pay29 i v (ix2 q d) = if (i 1).val = 0 then 0 else v (ix3 0 q d) := by
  have e : Scalar.cmpi .eq (BitVec.ofNat 32 (i 1).val) 0#32 = if (i 1).val = 0 then 1#1 else 0#1 := first_eq (i 1)
  unfold k0_pay29
  dsimp only
  rw [e]
  by_cases h : (i 1).val = 0
  · rw [if_pos h, if_pos h]
    unfold Scalar.select
    rw [if_pos (by rfl : (1#1 : BitVec 1) = 1)]
    pointwise []
  · rw [if_neg h, if_neg h]
    unfold Scalar.select
    rw [if_neg (by decide : ¬(0#1 : BitVec 1) = 1)]
    pointwise []

/-- The tile's rows led by the 32 rows before them. -/
def ext (c : Dev nD) (t : Fin cfg0.N) : Vec Ideal S296x1024 .f32 :=
  View.canon (Val := Elt Ideal) (s := S296x1024) (e := .f32) [⟨Rect.unit (s := S296x1024) ![288, 0] ![8, 1024] inb_S296x1024_S8x1024_288_0, k0_pay31 (F := Ideal)⟩,
    ⟨Rect.unit (s := S296x1024) ![32, 0] ![256, 1024] inb_S296x1024_S256x1024_32_0, k0_pay30 (iblk m c 0 t)⟩,
    ⟨Rect.unit (s := S296x1024) ![0, 0] ![32, 1024] inb_S296x1024_S32x1024_0_0, k0_pay29 (grid0.coords t) (View.ld (iblk m c 1 t) (Rect.unit (s := S1x256x1024) ![0, 224, 0] ![1, 32, 1024] inb_S1x256x1024_S1x32x1024_0_224_0))⟩]

theorem out_apply (c : Dev nD) (t : Fin cfg0.N) (r : Fin 256) (k : Fin 1024) :
    outsAt0 m c t (ix3 0 r k)
      = swish (lnorm (fun d => cv (iblk m c 2 t) (iblk m c 3 t) (ext m c t) r.val d.val) (fun d => iblk m c 4 t (ix2 0 d)) (fun d => iblk m c 5 t (ix2 0 d)) k) := by
  unfold outsAt0 out0_A_6
  dsimp only [kernelRun0_A]
  frame_out
  refine (pay1_apply _ _ _ r k).trans ?_
  simp only [pay33_apply, pay34_apply]
  refine congrArg (fun y => swish (lnorm y _ _ k)) (funext fun d => ?_)
  rw [View.readCov_eq_canon']
  have e : (Rect.unit (s := S256x1024) ![0, 0] ![256, 1024] inb_S256x1024_S256x1024_0_0).toLoadRect.idx (ix2 r d) = ix2 r d := by
    funext a
    apply Fin.ext
    match a with
    | ⟨0, _⟩ => show 0 + 1 * r.val = r.val; omega
    | ⟨1, _⟩ => show 0 + 1 * d.val = d.val; omega
  dsimp only
  refine (congrArg _ e).trans ((loop_apply _ _ _ _ _ _ _ _ _ _ _ _ _ _ _ _ _ _ _ _ _ _ _ _ _ _ rfl r d).trans ?_)
  rw [Memref.IsWhole.read_unread, Memref.IsWhole.read_unread]
  exact congrArg (fun e => cv _ _ e r.val d.val) (View.read_writes_junk_eq_canon (View.whole cc0_scratch0) _)

theorem at2_of {n0 n1 : ℕ} [NeZero n0] [NeZero n1] (x : Vec Ideal ⟨2, ![n0, n1]⟩ .f32) (a b : ℕ) (ha : a < n0) (hb : b < n1) :
    at2 x a b = x (ix2 ⟨a, ha⟩ ⟨b, hb⟩) := by
  unfold at2
  refine congrArg x ?_
  funext d
  apply Fin.ext
  match d with
  | ⟨0, _⟩ => exact Nat.mod_eq_of_lt ha
  | ⟨1, _⟩ => exact Nat.mod_eq_of_lt hb

theorem idxs : ∀ t : Fin cfg0.N, (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = t.val % 16 - 1 ∧ win0_1.index t (2 : Fin 3) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 3) = t.val / 16 ∧ win0_6.index t (1 : Fin 3) = t.val % 16 ∧ win0_6.index t (2 : Fin 3) = 0)
    ∧ (grid0.coords t 1).val = t.val % 16 :=
  (by decide +kernel : ∀ t : Fin grid0.N, _)

theorem blk0 (c : Dev nD) (t : Fin cfg0.N) (r : Fin 256) (d : Fin 1024) (B : Fin 2) (p : Fin 4096) (hB : B.val = t.val / 16)
    (hp : p.val = t.val % 16 * 256 + r.val) : iblk m c 0 t (ix3 0 r d) = u m c B p d := by
  obtain ⟨⟨e0, e1, e2⟩, -⟩ := idxs t
  blk_simp [iblk]
  refine (congrFun (V_main_arg0 m c) _).trans (congrArg (m ((c.tc : Thread nD τ).loc main_arg0)) ?_)
  funext a; apply Fin.ext
  match a with
  | ⟨0, _⟩ => show win0_0.index t (0 : Fin 3) * 1 + 1 * 0 = B.val; rw [e0]; omega
  | ⟨1, _⟩ => show win0_0.index t (1 : Fin 3) * 256 + 1 * r.val = p.val; rw [e1]; omega
  | ⟨2, _⟩ => show win0_0.index t (2 : Fin 3) * 1024 + 1 * d.val = d.val; rw [e2]; omega

theorem blk1 (c : Dev nD) (t : Fin cfg0.N) (r : Fin 256) (d : Fin 1024) (B : Fin 2) (p : Fin 4096) (hB : B.val = t.val / 16)
    (hp : p.val = (t.val % 16 - 1) * 256 + r.val) : iblk m c 1 t (ix3 0 r d) = u m c B p d := by
  obtain ⟨-, ⟨e0, e1, e2⟩, -⟩ := idxs t
  blk_simp [iblk]
  refine (congrFun (V_main_arg0 m c) _).trans (congrArg (m ((c.tc : Thread nD τ).loc main_arg0)) ?_)
  funext a; apply Fin.ext
  match a with
  | ⟨0, _⟩ => show win0_1.index t (0 : Fin 3) * 1 + 1 * 0 = B.val; rw [e0]; omega
  | ⟨1, _⟩ => show win0_1.index t (1 : Fin 3) * 256 + 1 * r.val = p.val; rw [e1]; omega
  | ⟨2, _⟩ => show win0_1.index t (2 : Fin 3) * 1024 + 1 * d.val = d.val; rw [e2]; omega

theorem blk2 (c : Dev nD) (t : Fin cfg0.N) (j : Fin 31) (d : Fin 1024) : iblk m c 2 t (ix2 j d) = w m c j d := by
  obtain ⟨-, -, ⟨e0, e1⟩, -⟩ := idxs t
  blk_simp [iblk]
  entry_read
  refine shapeCast_apply _ shapeCasts_S1x31x1024_S31x1024 _ (ix3 0 j d) ?_
  rw [Shape.rowMajor_val_three, Shape.rowMajor_val_two]
  show (0 * 31 + j.val) * 1024 + d.val
    = (win0_2.index t (0 : Fin 2) * 31 + 1 * j.val) * 1024 + (win0_2.index t (1 : Fin 2) * 1024 + 1 * d.val)
  rw [e0, e1]; omega

theorem blk3 (c : Dev nD) (t : Fin cfg0.N) (d : Fin 1024) : iblk m c 3 t (ix2 0 d) = b m c d := by
  obtain ⟨-, -, -, ⟨e0, e1⟩, -⟩ := idxs t
  blk_simp [iblk]
  entry_read
  refine (shapeCast_apply _ shapeCasts_S1024_S1x1024 _ (ix1 d) ?_).trans (shapeCast_apply _ shapeCasts_S1x1024_S1024 _ (ix2 0 d) ?_)
  · rw [Shape.rowMajor_val_one, Shape.rowMajor_val_two]
    show d.val = (win0_3.index t (0 : Fin 2) * 1 + 1 * 0) * 1024 + (win0_3.index t (1 : Fin 2) * 1024 + 1 * d.val)
    rw [e0, e1]; omega
  · rw [Shape.rowMajor_val_one, Shape.rowMajor_val_two]
    show 0 * 1024 + d.val = d.val
    omega

theorem blk4 (c : Dev nD) (t : Fin cfg0.N) (d : Fin 1024) : iblk m c 4 t (ix2 0 d) = g m c d := by
  obtain ⟨-, -, -, -, ⟨e0, e1⟩, -⟩ := idxs t
  blk_simp [iblk]
  entry_read
  refine (shapeCast_apply _ shapeCasts_S1024_S1x1024 _ (ix1 d) ?_).trans (shapeCast_apply _ shapeCasts_S1x1024_S1024 _ (ix2 0 d) ?_)
  · rw [Shape.rowMajor_val_one, Shape.rowMajor_val_two]
    show d.val = (win0_4.index t (0 : Fin 2) * 1 + 1 * 0) * 1024 + (win0_4.index t (1 : Fin 2) * 1024 + 1 * d.val)
    rw [e0, e1]; omega
  · rw [Shape.rowMajor_val_one, Shape.rowMajor_val_two]
    show 0 * 1024 + d.val = d.val
    omega

theorem blk5 (c : Dev nD) (t : Fin cfg0.N) (d : Fin 1024) : iblk m c 5 t (ix2 0 d) = s m c d := by
  obtain ⟨-, -, -, -, -, ⟨e0, e1⟩, -⟩ := idxs t
  blk_simp [iblk]
  entry_read
  refine (shapeCast_apply _ shapeCasts_S1024_S1x1024 _ (ix1 d) ?_).trans (shapeCast_apply _ shapeCasts_S1x1024_S1024 _ (ix2 0 d) ?_)
  · rw [Shape.rowMajor_val_one, Shape.rowMajor_val_two]
    show d.val = (win0_5.index t (0 : Fin 2) * 1 + 1 * 0) * 1024 + (win0_5.index t (1 : Fin 2) * 1024 + 1 * d.val)
    rw [e0, e1]; omega
  · rw [Shape.rowMajor_val_one, Shape.rowMajor_val_two]
    show 0 * 1024 + d.val = d.val
    omega

/-- The extended tile's row `q` is the sequence's row `q - 32` rows from the tile's first, and zero before the sequence. -/
theorem ext_apply (c : Dev nD) (t : Fin cfg0.N) (q : Fin 296) (d : Fin 1024) (hq : q.val < 288) (B : Fin 2) (hB : B.val = t.val / 16) :
    ext m c t (ix2 q d) = if t.val % 16 * 256 + q.val < 32 then 0 else u m c B (Fin.ofNat 4096 (t.val % 16 * 256 + q.val - 32)) d := by
  have ec : (grid0.coords t 1).val = t.val % 16 := (idxs t).2.2.2.2.2.2.2
  unfold Conv.ext
  rw [View.canon_cons_of_not_mem]
  swap
  · intro h
    have h0 : 288 ≤ q.val ∧ q.val < 288 + 8 := (Rect.mem_set_unit (inb := inb_S296x1024_S8x1024_288_0)).mp h 0
    omega
  by_cases h : 32 ≤ q.val
  · have e : (ix2 q d : S296x1024.Idx) = (Rect.unit (s := S296x1024) ![32, 0] ![256, 1024] inb_S296x1024_S256x1024_32_0).emb (ix2 (⟨q.val - 32, by omega⟩ : Fin 256) d) := by
      funext a
      apply Fin.ext
      match a with
      | ⟨0, _⟩ => show q.val = 32 + 1 * (q.val - 32); omega
      | ⟨1, _⟩ => show d.val = 0 + 1 * d.val; omega
    rw [e, View.canon_cons_emb, pay30_apply, if_neg (by omega)]
    refine blk0 m c t _ d B _ hB ?_
    show (t.val % 16 * 256 + q.val - 32) % 4096 = t.val % 16 * 256 + (q.val - 32)
    rw [Nat.mod_eq_of_lt (by omega)]; omega
  · rw [View.canon_cons_of_not_mem]
    swap
    · intro h'
      have h0 : 32 ≤ q.val ∧ q.val < 32 + 256 := (Rect.mem_set_unit (inb := inb_S296x1024_S256x1024_32_0)).mp h' 0
      omega
    have e : (ix2 q d : S296x1024.Idx) = (Rect.unit (s := S296x1024) ![0, 0] ![32, 1024] inb_S296x1024_S32x1024_0_0).emb (ix2 (⟨q.val, by omega⟩ : Fin 32) d) := by
      funext a
      apply Fin.ext
      match a with
      | ⟨0, _⟩ => show q.val = 0 + 1 * q.val; omega
      | ⟨1, _⟩ => show d.val = 0 + 1 * d.val; omega
    rw [e, View.canon_cons_emb, pay29_apply, ec]
    by_cases hi : t.val % 16 = 0
    · rw [if_pos hi, if_pos (by omega)]
    · rw [if_neg hi, if_neg (by omega)]
      refine (View.ld_apply _ _ _).trans ?_
      have e2 : (Rect.unit (s := S1x256x1024) ![0, 224, 0] ![1, 32, 1024] inb_S1x256x1024_S1x32x1024_0_224_0).emb (ix3 0 (⟨q.val, by omega⟩ : Fin 32) d)
          = ix3 0 (⟨224 + q.val, by omega⟩ : Fin 256) d := by
        funext a
        apply Fin.ext
        match a with
        | ⟨0, _⟩ => rfl
        | ⟨1, _⟩ => show 224 + 1 * q.val = 224 + q.val; omega
        | ⟨2, _⟩ => show 0 + 1 * d.val = d.val; omega
      refine (congrArg (iblk m c 1 t) e2).trans (blk1 m c t _ d B _ hB ?_)
      show (t.val % 16 * 256 + q.val - 32) % 4096 = (t.val % 16 - 1) * 256 + (224 + q.val)
      rw [Nat.mod_eq_of_lt (by omega)]; omega

/-- The convolution of the tile is the sequence's. -/
theorem cv_apply (c : Dev nD) (t : Fin cfg0.N) (r : Fin 256) (d : Fin 1024) (B : Fin 2) (hB : B.val = t.val / 16) :
    cv (iblk m c 2 t) (iblk m c 3 t) (ext m c t) r.val d.val
      = taps (ptap (u m c B) (w m c) (t.val % 16 * 256 + r.val) d) + b m c d := by
  unfold cv taps
  have hr := r.isLt
  refine congrArg₂ (· + ·) (Finset.sum_congr rfl fun j hj => ?_) ?_
  · have hj : j < 31 := Finset.mem_range.mp hj
    unfold ptap
    dsimp only
    rw [at2_of _ j d.val hj d.isLt, at2_of _ (r.val + 2 + j) d.val (by omega) d.isLt]
    refine congrArg₂ (· * ·) ?_ ?_
    · refine (blk2 m c t ⟨j, hj⟩ d).trans (congrArg (fun z => w m c z d) (Fin.ext ?_))
      exact (Nat.mod_eq_of_lt hj).symm
    · refine (ext_apply m c t ⟨r.val + 2 + j, by omega⟩ d (by show r.val + 2 + j < 288; omega) B hB).trans ?_
      show (if t.val % 16 * 256 + (r.val + 2 + j) < 32 then 0 else u m c B (Fin.ofNat 4096 (t.val % 16 * 256 + (r.val + 2 + j) - 32)) d) = _
      by_cases h : t.val % 16 * 256 + r.val + j < 30
      · rw [if_pos (by omega), if_pos h]
      · rw [if_neg (by omega), if_neg h]
        exact congrArg (fun z => u m c B (Fin.ofNat 4096 z) d) (by omega)
  · rw [at2_of _ 0 d.val (by decide) d.isLt]
    exact blk3 m c t d

/-- The result array at sequence `B`, row `t`, channel `k`. -/
def G (c : Dev nD) : Buf (Elt Ideal) ((c.tc : Thread nD τ).loc main_v7) := fun i =>
  swish (lnorm (fun d => taps (ptap (u m c (i 0)) (w m c) (i 1).val d) + b m c d) (g m c) (s m c) (i 2))

theorem final (c : Dev nD) : (dats m 0 c).arrAt 6 cfg0.N = G m c := by
  refine (dats m 0 c).arrAt_eq_of_covers 6 _ (by decide +kernel) fun t hf y => ?_
  blk_simp
  rw [after0_6]
  obtain ⟨-, -, -, -, -, -, ⟨e0, e1, e2⟩, -⟩ := idxs t
  have ht : t.val < 32 := t.isLt
  idx_vars y
  obtain rfl : y0 = 0 := Fin.ext (by omega)
  refine (out_apply m c t y1 y2).trans ?_
  have hB : (⟨win0_6.index t (0 : Fin 3) * 1 + 1 * 0, by rw [e0]; omega⟩ : Fin 2).val = t.val / 16 := by show win0_6.index t (0 : Fin 3) * 1 + 1 * 0 = _; omega
  simp only [cv_apply m c t y1 _ _ hB, blk4, blk5]
  have h1 : t.val % 16 * 256 + y1.val = win0_6.index t (1 : Fin 3) * 256 + 1 * y1.val := by omega
  have h2 : y2 = ⟨win0_6.index t (2 : Fin 3) * 1024 + 1 * y2.val, by rw [e2]; omega⟩ := Fin.ext (by show y2.val = win0_6.index t (2 : Fin 3) * 1024 + 1 * y2.val; omega)
  exact congrArg₂ (fun (p : ℕ) (k : Fin 1024) => swish (lnorm (fun d => taps (ptap (u m c ⟨win0_6.index t (0 : Fin 3) * 1 + 1 * 0, by rw [e0]; omega⟩) (w m c) p d) + b m c d) (g m c) (s m c) k)) h1 h2

end Cert.Kernel20Ideal.Conv

end
-- ==== Proof.ConvPromptReference.lean ====
/-
  The prompt's convolution's reference read at an index.
-/
module

public import proofs.«01_k».proof.Proof.ConvSpec
public import proofs.«01_k».proof.Proof.Gen.Reference20Ideal.Read
public import Idealize.ShloMosaic.Lib.Pipeline.ValueKit
public import Idealize.ShloMosaic.Lib.Pipeline.Value

@[expose] public section

set_option maxRecDepth 16384

noncomputable section

namespace Cert.Reference20Ideal.Conv

open Cert.Reference20Ideal Cert.Reference20Ideal.Gen Cert.Reference20Ideal.Read Cert.ConvSpec
open Idealize.ShloMosaic Idealize.ShloMosaic.TcCoe Idealize.SL.Sem

variable (a0 : (⟨S2x4096x1024, .f32⟩ : BufTy).Contents (Elt Ideal)) (a1 : (⟨S1x31x1024, .f32⟩ : BufTy).Contents (Elt Ideal))
  (a2 a3 a4 : (⟨S1x1024, .f32⟩ : BufTy).Contents (Elt Ideal))

/-- The extended rows: 30 rows of zeros, then the sequence. -/
theorem ext_apply (B : Fin 2) (q : Fin 4126) (d : Fin 1024) :
    val_main_v1 (F := Ideal) a0 (ix3 B q d) = if q.val < 30 then 0 else a0 (ix3 B (Fin.ofNat 4096 (q.val - 30)) d) := by
  have h0 : ∀ p : Fin 30, val_main_v0 (F := Ideal) (ix3 B p d) = 0 := fun p => by pointwise [val_main_v0, val_main_cst]
  unfold val_main_v1
  generalize val_main_v0 (F := Ideal) = y at h0
  by_cases h : q.val < 30
  · rw [if_pos h, ← h0 ⟨q.val, h⟩]
    refine concatenate_pair_apply_left (t := S2x4126x1024) (s₁ := S2x30x1024) (s₂ := S2x4096x1024) (1 : Fin 3) _ _ _ _ rfl _ ?_
    intro b
    match b with
    | ⟨0, _⟩ => rfl
    | ⟨1, _⟩ => rfl
    | ⟨2, _⟩ => rfl
  · rw [if_neg h]
    have hq := q.isLt
    refine concatenate_pair_apply_right (t := S2x4126x1024) (s₁ := S2x30x1024) (s₂ := S2x4096x1024) (1 : Fin 3) _ _ _ _ rfl rfl
      (ix3 B (Fin.ofNat 4096 (q.val - 30)) d) ?_ ?_
    · intro b hb
      match b, hb with
      | ⟨0, _⟩, _ => rfl
      | ⟨1, _⟩, hb => exact absurd rfl hb
      | ⟨2, _⟩, _ => rfl
    · show (q.val - 30) % 4096 + 30 = q.val; rw [Nat.mod_eq_of_lt (by omega)]; omega

/-- Tap `j`'s product at row `t` of sequence `B`. -/
def T (B : Fin 2) (t : Fin 4096) (d : Fin 1024) (j : ℕ) : EReal := ptap (fun r d => a0 (ix3 B r d)) (fun j d => a1 (ix3 0 j d)) t.val d j

theorem tap0 (B : Fin 2) (t : Fin 4096) (d : Fin 1024) : val_main_v9 (F := Ideal) a0 a1 (ix3 B t d) = T a0 a1 B t d 0 := by
  refine Eq.trans (b := val_main_v1 (F := Ideal) a0 (ix3 B ⟨t.val + 0, by omega⟩ d) * a1 (ix3 0 (Fin.ofNat 31 0) d)) ?_ ?_
  · rw [val_main_v9_apply, val_main_v4_apply]
    generalize val_main_v1 (F := Ideal) a0 = y
    have e : val_main_v8 (F := Ideal) a1 (ix3 B t d) = a1 (ix3 0 (Fin.ofNat 31 0) d) := by
      pointwise [val_main_v8, val_main_v7, val_main_v6, val_main_v5, val_main_v2]
      rfl
    rw [e]
    refine congrArg (fun z => y z * a1 (ix3 0 (Fin.ofNat 31 0) d)) (funext fun a => Fin.ext ?_)
    match a with
    | ⟨0, _⟩ => first | rfl | exact Nat.zero_add _
    | ⟨1, _⟩ => rfl
    | ⟨2, _⟩ => first | rfl | exact Nat.zero_add _
  · rw [ext_apply, mul_comm]; rfl

theorem tap1 (B : Fin 2) (t : Fin 4096) (d : Fin 1024) : val_main_v17 (F := Ideal) a0 a1 (ix3 B t d) = T a0 a1 B t d 1 := by
  refine Eq.trans (b := val_main_v1 (F := Ideal) a0 (ix3 B ⟨t.val + 1, by omega⟩ d) * a1 (ix3 0 (Fin.ofNat 31 1) d)) ?_ ?_
  · rw [val_main_v17_apply, val_main_v12_apply]
    generalize val_main_v1 (F := Ideal) a0 = y
    have e : val_main_v16 (F := Ideal) a1 (ix3 B t d) = a1 (ix3 0 (Fin.ofNat 31 1) d) := by
      pointwise [val_main_v16, val_main_v15, val_main_v14, val_main_v13, val_main_v2]
      rfl
    rw [e]
    refine congrArg (fun z => y z * a1 (ix3 0 (Fin.ofNat 31 1) d)) (funext fun a => Fin.ext ?_)
    match a with
    | ⟨0, _⟩ => first | rfl | exact Nat.zero_add _
    | ⟨1, _⟩ => show 1 + t.val = t.val + 1; omega
    | ⟨2, _⟩ => first | rfl | exact Nat.zero_add _
  · rw [ext_apply, mul_comm]; rfl

theorem tap2 (B : Fin 2) (t : Fin 4096) (d : Fin 1024) : val_main_v24 (F := Ideal) a0 a1 (ix3 B t d) = T a0 a1 B t d 2 := by
  refine Eq.trans (b := val_main_v1 (F := Ideal) a0 (ix3 B ⟨t.val + 2, by omega⟩ d) * a1 (ix3 0 (Fin.ofNat 31 2) d)) ?_ ?_
  · rw [val_main_v24_apply, val_main_v19_apply]
    generalize val_main_v1 (F := Ideal) a0 = y
    have e : val_main_v23 (F := Ideal) a1 (ix3 B t d) = a1 (ix3 0 (Fin.ofNat 31 2) d) := by
      pointwise [val_main_v23, val_main_v22, val_main_v21, val_main_v20, val_main_v2]
      rfl
    rw [e]
    refine congrArg (fun z => y z * a1 (ix3 0 (Fin.ofNat 31 2) d)) (funext fun a => Fin.ext ?_)
    match a with
    | ⟨0, _⟩ => first | rfl | exact Nat.zero_add _
    | ⟨1, _⟩ => show 2 + t.val = t.val + 2; omega
    | ⟨2, _⟩ => first | rfl | exact Nat.zero_add _
  · rw [ext_apply, mul_comm]; rfl

theorem tap3 (B : Fin 2) (t : Fin 4096) (d : Fin 1024) : val_main_v31 (F := Ideal) a0 a1 (ix3 B t d) = T a0 a1 B t d 3 := by
  refine Eq.trans (b := val_main_v1 (F := Ideal) a0 (ix3 B ⟨t.val + 3, by omega⟩ d) * a1 (ix3 0 (Fin.ofNat 31 3) d)) ?_ ?_
  · rw [val_main_v31_apply, val_main_v26_apply]
    generalize val_main_v1 (F := Ideal) a0 = y
    have e : val_main_v30 (F := Ideal) a1 (ix3 B t d) = a1 (ix3 0 (Fin.ofNat 31 3) d) := by
      pointwise [val_main_v30, val_main_v29, val_main_v28, val_main_v27, val_main_v2]
      rfl
    rw [e]
    refine congrArg (fun z => y z * a1 (ix3 0 (Fin.ofNat 31 3) d)) (funext fun a => Fin.ext ?_)
    match a with
    | ⟨0, _⟩ => first | rfl | exact Nat.zero_add _
    | ⟨1, _⟩ => show 3 + t.val = t.val + 3; omega
    | ⟨2, _⟩ => first | rfl | exact Nat.zero_add _
  · rw [ext_apply, mul_comm]; rfl

theorem tap4 (B : Fin 2) (t : Fin 4096) (d : Fin 1024) : val_main_v38 (F := Ideal) a0 a1 (ix3 B t d) = T a0 a1 B t d 4 := by
  refine Eq.trans (b := val_main_v1 (F := Ideal) a0 (ix3 B ⟨t.val + 4, by omega⟩ d) * a1 (ix3 0 (Fin.ofNat 31 4) d)) ?_ ?_
  · rw [val_main_v38_apply, val_main_v33_apply]
    generalize val_main_v1 (F := Ideal) a0 = y
    have e : val_main_v37 (F := Ideal) a1 (ix3 B t d) = a1 (ix3 0 (Fin.ofNat 31 4) d) := by
      pointwise [val_main_v37, val_main_v36, val_main_v35, val_main_v34, val_main_v2]
      rfl
    rw [e]
    refine congrArg (fun z => y z * a1 (ix3 0 (Fin.ofNat 31 4) d)) (funext fun a => Fin.ext ?_)
    match a with
    | ⟨0, _⟩ => first | rfl | exact Nat.zero_add _
    | ⟨1, _⟩ => show 4 + t.val = t.val + 4; omega
    | ⟨2, _⟩ => first | rfl | exact Nat.zero_add _
  · rw [ext_apply, mul_comm]; rfl

theorem tap5 (B : Fin 2) (t : Fin 4096) (d : Fin 1024) : val_main_v45 (F := Ideal) a0 a1 (ix3 B t d) = T a0 a1 B t d 5 := by
  refine Eq.trans (b := val_main_v1 (F := Ideal) a0 (ix3 B ⟨t.val + 5, by omega⟩ d) * a1 (ix3 0 (Fin.ofNat 31 5) d)) ?_ ?_
  · rw [val_main_v45_apply, val_main_v40_apply]
    generalize val_main_v1 (F := Ideal) a0 = y
    have e : val_main_v44 (F := Ideal) a1 (ix3 B t d) = a1 (ix3 0 (Fin.ofNat 31 5) d) := by
      pointwise [val_main_v44, val_main_v43, val_main_v42, val_main_v41, val_main_v2]
      rfl
    rw [e]
    refine congrArg (fun z => y z * a1 (ix3 0 (Fin.ofNat 31 5) d)) (funext fun a => Fin.ext ?_)
    match a with
    | ⟨0, _⟩ => first | rfl | exact Nat.zero_add _
    | ⟨1, _⟩ => show 5 + t.val = t.val + 5; omega
    | ⟨2, _⟩ => first | rfl | exact Nat.zero_add _
  · rw [ext_apply, mul_comm]; rfl

theorem tap6 (B : Fin 2) (t : Fin 4096) (d : Fin 1024) : val_main_v52 (F := Ideal) a0 a1 (ix3 B t d) = T a0 a1 B t d 6 := by
  refine Eq.trans (b := val_main_v1 (F := Ideal) a0 (ix3 B ⟨t.val + 6, by omega⟩ d) * a1 (ix3 0 (Fin.ofNat 31 6) d)) ?_ ?_
  · rw [val_main_v52_apply, val_main_v47_apply]
    generalize val_main_v1 (F := Ideal) a0 = y
    have e : val_main_v51 (F := Ideal) a1 (ix3 B t d) = a1 (ix3 0 (Fin.ofNat 31 6) d) := by
      pointwise [val_main_v51, val_main_v50, val_main_v49, val_main_v48, val_main_v2]
      rfl
    rw [e]
    refine congrArg (fun z => y z * a1 (ix3 0 (Fin.ofNat 31 6) d)) (funext fun a => Fin.ext ?_)
    match a with
    | ⟨0, _⟩ => first | rfl | exact Nat.zero_add _
    | ⟨1, _⟩ => show 6 + t.val = t.val + 6; omega
    | ⟨2, _⟩ => first | rfl | exact Nat.zero_add _
  · rw [ext_apply, mul_comm]; rfl

theorem tap7 (B : Fin 2) (t : Fin 4096) (d : Fin 1024) : val_main_v59 (F := Ideal) a0 a1 (ix3 B t d) = T a0 a1 B t d 7 := by
  refine Eq.trans (b := val_main_v1 (F := Ideal) a0 (ix3 B ⟨t.val + 7, by omega⟩ d) * a1 (ix3 0 (Fin.ofNat 31 7) d)) ?_ ?_
  · rw [val_main_v59_apply, val_main_v54_apply]
    generalize val_main_v1 (F := Ideal) a0 = y
    have e : val_main_v58 (F := Ideal) a1 (ix3 B t d) = a1 (ix3 0 (Fin.ofNat 31 7) d) := by
      pointwise [val_main_v58, val_main_v57, val_main_v56, val_main_v55, val_main_v2]
      rfl
    rw [e]
    refine congrArg (fun z => y z * a1 (ix3 0 (Fin.ofNat 31 7) d)) (funext fun a => Fin.ext ?_)
    match a with
    | ⟨0, _⟩ => first | rfl | exact Nat.zero_add _
    | ⟨1, _⟩ => show 7 + t.val = t.val + 7; omega
    | ⟨2, _⟩ => first | rfl | exact Nat.zero_add _
  · rw [ext_apply, mul_comm]; rfl

theorem tap8 (B : Fin 2) (t : Fin 4096) (d : Fin 1024) : val_main_v66 (F := Ideal) a0 a1 (ix3 B t d) = T a0 a1 B t d 8 := by
  refine Eq.trans (b := val_main_v1 (F := Ideal) a0 (ix3 B ⟨t.val + 8, by omega⟩ d) * a1 (ix3 0 (Fin.ofNat 31 8) d)) ?_ ?_
  · rw [val_main_v66_apply, val_main_v61_apply]
    generalize val_main_v1 (F := Ideal) a0 = y
    have e : val_main_v65 (F := Ideal) a1 (ix3 B t d) = a1 (ix3 0 (Fin.ofNat 31 8) d) := by
      pointwise [val_main_v65, val_main_v64, val_main_v63, val_main_v62, val_main_v2]
      rfl
    rw [e]
    refine congrArg (fun z => y z * a1 (ix3 0 (Fin.ofNat 31 8) d)) (funext fun a => Fin.ext ?_)
    match a with
    | ⟨0, _⟩ => first | rfl | exact Nat.zero_add _
    | ⟨1, _⟩ => show 8 + t.val = t.val + 8; omega
    | ⟨2, _⟩ => first | rfl | exact Nat.zero_add _
  · rw [ext_apply, mul_comm]; rfl

theorem tap9 (B : Fin 2) (t : Fin 4096) (d : Fin 1024) : val_main_v73 (F := Ideal) a0 a1 (ix3 B t d) = T a0 a1 B t d 9 := by
  refine Eq.trans (b := val_main_v1 (F := Ideal) a0 (ix3 B ⟨t.val + 9, by omega⟩ d) * a1 (ix3 0 (Fin.ofNat 31 9) d)) ?_ ?_
  · rw [val_main_v73_apply, val_main_v68_apply]
    generalize val_main_v1 (F := Ideal) a0 = y
    have e : val_main_v72 (F := Ideal) a1 (ix3 B t d) = a1 (ix3 0 (Fin.ofNat 31 9) d) := by
      pointwise [val_main_v72, val_main_v71, val_main_v70, val_main_v69, val_main_v2]
      rfl
    rw [e]
    refine congrArg (fun z => y z * a1 (ix3 0 (Fin.ofNat 31 9) d)) (funext fun a => Fin.ext ?_)
    match a with
    | ⟨0, _⟩ => first | rfl | exact Nat.zero_add _
    | ⟨1, _⟩ => show 9 + t.val = t.val + 9; omega
    | ⟨2, _⟩ => first | rfl | exact Nat.zero_add _
  · rw [ext_apply, mul_comm]; rfl

theorem tap10 (B : Fin 2) (t : Fin 4096) (d : Fin 1024) : val_main_v80 (F := Ideal) a0 a1 (ix3 B t d) = T a0 a1 B t d 10 := by
  refine Eq.trans (b := val_main_v1 (F := Ideal) a0 (ix3 B ⟨t.val + 10, by omega⟩ d) * a1 (ix3 0 (Fin.ofNat 31 10) d)) ?_ ?_
  · rw [val_main_v80_apply, val_main_v75_apply]
    generalize val_main_v1 (F := Ideal) a0 = y
    have e : val_main_v79 (F := Ideal) a1 (ix3 B t d) = a1 (ix3 0 (Fin.ofNat 31 10) d) := by
      pointwise [val_main_v79, val_main_v78, val_main_v77, val_main_v76, val_main_v2]
      rfl
    rw [e]
    refine congrArg (fun z => y z * a1 (ix3 0 (Fin.ofNat 31 10) d)) (funext fun a => Fin.ext ?_)
    match a with
    | ⟨0, _⟩ => first | rfl | exact Nat.zero_add _
    | ⟨1, _⟩ => show 10 + t.val = t.val + 10; omega
    | ⟨2, _⟩ => first | rfl | exact Nat.zero_add _
  · rw [ext_apply, mul_comm]; rfl

theorem tap11 (B : Fin 2) (t : Fin 4096) (d : Fin 1024) : val_main_v87 (F := Ideal) a0 a1 (ix3 B t d) = T a0 a1 B t d 11 := by
  refine Eq.trans (b := val_main_v1 (F := Ideal) a0 (ix3 B ⟨t.val + 11, by omega⟩ d) * a1 (ix3 0 (Fin.ofNat 31 11) d)) ?_ ?_
  · rw [val_main_v87_apply, val_main_v82_apply]
    generalize val_main_v1 (F := Ideal) a0 = y
    have e : val_main_v86 (F := Ideal) a1 (ix3 B t d) = a1 (ix3 0 (Fin.ofNat 31 11) d) := by
      pointwise [val_main_v86, val_main_v85, val_main_v84, val_main_v83, val_main_v2]
      rfl
    rw [e]
    refine congrArg (fun z => y z * a1 (ix3 0 (Fin.ofNat 31 11) d)) (funext fun a => Fin.ext ?_)
    match a with
    | ⟨0, _⟩ => first | rfl | exact Nat.zero_add _
    | ⟨1, _⟩ => show 11 + t.val = t.val + 11; omega
    | ⟨2, _⟩ => first | rfl | exact Nat.zero_add _
  · rw [ext_apply, mul_comm]; rfl

theorem tap12 (B : Fin 2) (t : Fin 4096) (d : Fin 1024) : val_main_v94 (F := Ideal) a0 a1 (ix3 B t d) = T a0 a1 B t d 12 := by
  refine Eq.trans (b := val_main_v1 (F := Ideal) a0 (ix3 B ⟨t.val + 12, by omega⟩ d) * a1 (ix3 0 (Fin.ofNat 31 12) d)) ?_ ?_
  · rw [val_main_v94_apply, val_main_v89_apply]
    generalize val_main_v1 (F := Ideal) a0 = y
    have e : val_main_v93 (F := Ideal) a1 (ix3 B t d) = a1 (ix3 0 (Fin.ofNat 31 12) d) := by
      pointwise [val_main_v93, val_main_v92, val_main_v91, val_main_v90, val_main_v2]
      rfl
    rw [e]
    refine congrArg (fun z => y z * a1 (ix3 0 (Fin.ofNat 31 12) d)) (funext fun a => Fin.ext ?_)
    match a with
    | ⟨0, _⟩ => first | rfl | exact Nat.zero_add _
    | ⟨1, _⟩ => show 12 + t.val = t.val + 12; omega
    | ⟨2, _⟩ => first | rfl | exact Nat.zero_add _
  · rw [ext_apply, mul_comm]; rfl

theorem tap13 (B : Fin 2) (t : Fin 4096) (d : Fin 1024) : val_main_v101 (F := Ideal) a0 a1 (ix3 B t d) = T a0 a1 B t d 13 := by
  refine Eq.trans (b := val_main_v1 (F := Ideal) a0 (ix3 B ⟨t.val + 13, by omega⟩ d) * a1 (ix3 0 (Fin.ofNat 31 13) d)) ?_ ?_
  · rw [val_main_v101_apply, val_main_v96_apply]
    generalize val_main_v1 (F := Ideal) a0 = y
    have e : val_main_v100 (F := Ideal) a1 (ix3 B t d) = a1 (ix3 0 (Fin.ofNat 31 13) d) := by
      pointwise [val_main_v100, val_main_v99, val_main_v98, val_main_v97, val_main_v2]
      rfl
    rw [e]
    refine congrArg (fun z => y z * a1 (ix3 0 (Fin.ofNat 31 13) d)) (funext fun a => Fin.ext ?_)
    match a with
    | ⟨0, _⟩ => first | rfl | exact Nat.zero_add _
    | ⟨1, _⟩ => show 13 + t.val = t.val + 13; omega
    | ⟨2, _⟩ => first | rfl | exact Nat.zero_add _
  · rw [ext_apply, mul_comm]; rfl

theorem tap14 (B : Fin 2) (t : Fin 4096) (d : Fin 1024) : val_main_v108 (F := Ideal) a0 a1 (ix3 B t d) = T a0 a1 B t d 14 := by
  refine Eq.trans (b := val_main_v1 (F := Ideal) a0 (ix3 B ⟨t.val + 14, by omega⟩ d) * a1 (ix3 0 (Fin.ofNat 31 14) d)) ?_ ?_
  · rw [val_main_v108_apply, val_main_v103_apply]
    generalize val_main_v1 (F := Ideal) a0 = y
    have e : val_main_v107 (F := Ideal) a1 (ix3 B t d) = a1 (ix3 0 (Fin.ofNat 31 14) d) := by
      pointwise [val_main_v107, val_main_v106, val_main_v105, val_main_v104, val_main_v2]
      rfl
    rw [e]
    refine congrArg (fun z => y z * a1 (ix3 0 (Fin.ofNat 31 14) d)) (funext fun a => Fin.ext ?_)
    match a with
    | ⟨0, _⟩ => first | rfl | exact Nat.zero_add _
    | ⟨1, _⟩ => show 14 + t.val = t.val + 14; omega
    | ⟨2, _⟩ => first | rfl | exact Nat.zero_add _
  · rw [ext_apply, mul_comm]; rfl

theorem tap15 (B : Fin 2) (t : Fin 4096) (d : Fin 1024) : val_main_v115 (F := Ideal) a0 a1 (ix3 B t d) = T a0 a1 B t d 15 := by
  refine Eq.trans (b := val_main_v1 (F := Ideal) a0 (ix3 B ⟨t.val + 15, by omega⟩ d) * a1 (ix3 0 (Fin.ofNat 31 15) d)) ?_ ?_
  · rw [val_main_v115_apply, val_main_v110_apply]
    generalize val_main_v1 (F := Ideal) a0 = y
    have e : val_main_v114 (F := Ideal) a1 (ix3 B t d) = a1 (ix3 0 (Fin.ofNat 31 15) d) := by
      pointwise [val_main_v114, val_main_v113, val_main_v112, val_main_v111, val_main_v2]
      rfl
    rw [e]
    refine congrArg (fun z => y z * a1 (ix3 0 (Fin.ofNat 31 15) d)) (funext fun a => Fin.ext ?_)
    match a with
    | ⟨0, _⟩ => first | rfl | exact Nat.zero_add _
    | ⟨1, _⟩ => show 15 + t.val = t.val + 15; omega
    | ⟨2, _⟩ => first | rfl | exact Nat.zero_add _
  · rw [ext_apply, mul_comm]; rfl

theorem tap16 (B : Fin 2) (t : Fin 4096) (d : Fin 1024) : val_main_v122 (F := Ideal) a0 a1 (ix3 B t d) = T a0 a1 B t d 16 := by
  refine Eq.trans (b := val_main_v1 (F := Ideal) a0 (ix3 B ⟨t.val + 16, by omega⟩ d) * a1 (ix3 0 (Fin.ofNat 31 16) d)) ?_ ?_
  · rw [val_main_v122_apply, val_main_v117_apply]
    generalize val_main_v1 (F := Ideal) a0 = y
    have e : val_main_v121 (F := Ideal) a1 (ix3 B t d) = a1 (ix3 0 (Fin.ofNat 31 16) d) := by
      pointwise [val_main_v121, val_main_v120, val_main_v119, val_main_v118, val_main_v2]
      rfl
    rw [e]
    refine congrArg (fun z => y z * a1 (ix3 0 (Fin.ofNat 31 16) d)) (funext fun a => Fin.ext ?_)
    match a with
    | ⟨0, _⟩ => first | rfl | exact Nat.zero_add _
    | ⟨1, _⟩ => show 16 + t.val = t.val + 16; omega
    | ⟨2, _⟩ => first | rfl | exact Nat.zero_add _
  · rw [ext_apply, mul_comm]; rfl

theorem tap17 (B : Fin 2) (t : Fin 4096) (d : Fin 1024) : val_main_v129 (F := Ideal) a0 a1 (ix3 B t d) = T a0 a1 B t d 17 := by
  refine Eq.trans (b := val_main_v1 (F := Ideal) a0 (ix3 B ⟨t.val + 17, by omega⟩ d) * a1 (ix3 0 (Fin.ofNat 31 17) d)) ?_ ?_
  · rw [val_main_v129_apply, val_main_v124_apply]
    generalize val_main_v1 (F := Ideal) a0 = y
    have e : val_main_v128 (F := Ideal) a1 (ix3 B t d) = a1 (ix3 0 (Fin.ofNat 31 17) d) := by
      pointwise [val_main_v128, val_main_v127, val_main_v126, val_main_v125, val_main_v2]
      rfl
    rw [e]
    refine congrArg (fun z => y z * a1 (ix3 0 (Fin.ofNat 31 17) d)) (funext fun a => Fin.ext ?_)
    match a with
    | ⟨0, _⟩ => first | rfl | exact Nat.zero_add _
    | ⟨1, _⟩ => show 17 + t.val = t.val + 17; omega
    | ⟨2, _⟩ => first | rfl | exact Nat.zero_add _
  · rw [ext_apply, mul_comm]; rfl

theorem tap18 (B : Fin 2) (t : Fin 4096) (d : Fin 1024) : val_main_v136 (F := Ideal) a0 a1 (ix3 B t d) = T a0 a1 B t d 18 := by
  refine Eq.trans (b := val_main_v1 (F := Ideal) a0 (ix3 B ⟨t.val + 18, by omega⟩ d) * a1 (ix3 0 (Fin.ofNat 31 18) d)) ?_ ?_
  · rw [val_main_v136_apply, val_main_v131_apply]
    generalize val_main_v1 (F := Ideal) a0 = y
    have e : val_main_v135 (F := Ideal) a1 (ix3 B t d) = a1 (ix3 0 (Fin.ofNat 31 18) d) := by
      pointwise [val_main_v135, val_main_v134, val_main_v133, val_main_v132, val_main_v2]
      rfl
    rw [e]
    refine congrArg (fun z => y z * a1 (ix3 0 (Fin.ofNat 31 18) d)) (funext fun a => Fin.ext ?_)
    match a with
    | ⟨0, _⟩ => first | rfl | exact Nat.zero_add _
    | ⟨1, _⟩ => show 18 + t.val = t.val + 18; omega
    | ⟨2, _⟩ => first | rfl | exact Nat.zero_add _
  · rw [ext_apply, mul_comm]; rfl

theorem tap19 (B : Fin 2) (t : Fin 4096) (d : Fin 1024) : val_main_v143 (F := Ideal) a0 a1 (ix3 B t d) = T a0 a1 B t d 19 := by
  refine Eq.trans (b := val_main_v1 (F := Ideal) a0 (ix3 B ⟨t.val + 19, by omega⟩ d) * a1 (ix3 0 (Fin.ofNat 31 19) d)) ?_ ?_
  · rw [val_main_v143_apply, val_main_v138_apply]
    generalize val_main_v1 (F := Ideal) a0 = y
    have e : val_main_v142 (F := Ideal) a1 (ix3 B t d) = a1 (ix3 0 (Fin.ofNat 31 19) d) := by
      pointwise [val_main_v142, val_main_v141, val_main_v140, val_main_v139, val_main_v2]
      rfl
    rw [e]
    refine congrArg (fun z => y z * a1 (ix3 0 (Fin.ofNat 31 19) d)) (funext fun a => Fin.ext ?_)
    match a with
    | ⟨0, _⟩ => first | rfl | exact Nat.zero_add _
    | ⟨1, _⟩ => show 19 + t.val = t.val + 19; omega
    | ⟨2, _⟩ => first | rfl | exact Nat.zero_add _
  · rw [ext_apply, mul_comm]; rfl

theorem tap20 (B : Fin 2) (t : Fin 4096) (d : Fin 1024) : val_main_v150 (F := Ideal) a0 a1 (ix3 B t d) = T a0 a1 B t d 20 := by
  refine Eq.trans (b := val_main_v1 (F := Ideal) a0 (ix3 B ⟨t.val + 20, by omega⟩ d) * a1 (ix3 0 (Fin.ofNat 31 20) d)) ?_ ?_
  · rw [val_main_v150_apply, val_main_v145_apply]
    generalize val_main_v1 (F := Ideal) a0 = y
    have e : val_main_v149 (F := Ideal) a1 (ix3 B t d) = a1 (ix3 0 (Fin.ofNat 31 20) d) := by
      pointwise [val_main_v149, val_main_v148, val_main_v147, val_main_v146, val_main_v2]
      rfl
    rw [e]
    refine congrArg (fun z => y z * a1 (ix3 0 (Fin.ofNat 31 20) d)) (funext fun a => Fin.ext ?_)
    match a with
    | ⟨0, _⟩ => first | rfl | exact Nat.zero_add _
    | ⟨1, _⟩ => show 20 + t.val = t.val + 20; omega
    | ⟨2, _⟩ => first | rfl | exact Nat.zero_add _
  · rw [ext_apply, mul_comm]; rfl

theorem tap21 (B : Fin 2) (t : Fin 4096) (d : Fin 1024) : val_main_v157 (F := Ideal) a0 a1 (ix3 B t d) = T a0 a1 B t d 21 := by
  refine Eq.trans (b := val_main_v1 (F := Ideal) a0 (ix3 B ⟨t.val + 21, by omega⟩ d) * a1 (ix3 0 (Fin.ofNat 31 21) d)) ?_ ?_
  · rw [val_main_v157_apply, val_main_v152_apply]
    generalize val_main_v1 (F := Ideal) a0 = y
    have e : val_main_v156 (F := Ideal) a1 (ix3 B t d) = a1 (ix3 0 (Fin.ofNat 31 21) d) := by
      pointwise [val_main_v156, val_main_v155, val_main_v154, val_main_v153, val_main_v2]
      rfl
    rw [e]
    refine congrArg (fun z => y z * a1 (ix3 0 (Fin.ofNat 31 21) d)) (funext fun a => Fin.ext ?_)
    match a with
    | ⟨0, _⟩ => first | rfl | exact Nat.zero_add _
    | ⟨1, _⟩ => show 21 + t.val = t.val + 21; omega
    | ⟨2, _⟩ => first | rfl | exact Nat.zero_add _
  · rw [ext_apply, mul_comm]; rfl

theorem tap22 (B : Fin 2) (t : Fin 4096) (d : Fin 1024) : val_main_v164 (F := Ideal) a0 a1 (ix3 B t d) = T a0 a1 B t d 22 := by
  refine Eq.trans (b := val_main_v1 (F := Ideal) a0 (ix3 B ⟨t.val + 22, by omega⟩ d) * a1 (ix3 0 (Fin.ofNat 31 22) d)) ?_ ?_
  · rw [val_main_v164_apply, val_main_v159_apply]
    generalize val_main_v1 (F := Ideal) a0 = y
    have e : val_main_v163 (F := Ideal) a1 (ix3 B t d) = a1 (ix3 0 (Fin.ofNat 31 22) d) := by
      pointwise [val_main_v163, val_main_v162, val_main_v161, val_main_v160, val_main_v2]
      rfl
    rw [e]
    refine congrArg (fun z => y z * a1 (ix3 0 (Fin.ofNat 31 22) d)) (funext fun a => Fin.ext ?_)
    match a with
    | ⟨0, _⟩ => first | rfl | exact Nat.zero_add _
    | ⟨1, _⟩ => show 22 + t.val = t.val + 22; omega
    | ⟨2, _⟩ => first | rfl | exact Nat.zero_add _
  · rw [ext_apply, mul_comm]; rfl

theorem tap23 (B : Fin 2) (t : Fin 4096) (d : Fin 1024) : val_main_v171 (F := Ideal) a0 a1 (ix3 B t d) = T a0 a1 B t d 23 := by
  refine Eq.trans (b := val_main_v1 (F := Ideal) a0 (ix3 B ⟨t.val + 23, by omega⟩ d) * a1 (ix3 0 (Fin.ofNat 31 23) d)) ?_ ?_
  · rw [val_main_v171_apply, val_main_v166_apply]
    generalize val_main_v1 (F := Ideal) a0 = y
    have e : val_main_v170 (F := Ideal) a1 (ix3 B t d) = a1 (ix3 0 (Fin.ofNat 31 23) d) := by
      pointwise [val_main_v170, val_main_v169, val_main_v168, val_main_v167, val_main_v2]
      rfl
    rw [e]
    refine congrArg (fun z => y z * a1 (ix3 0 (Fin.ofNat 31 23) d)) (funext fun a => Fin.ext ?_)
    match a with
    | ⟨0, _⟩ => first | rfl | exact Nat.zero_add _
    | ⟨1, _⟩ => show 23 + t.val = t.val + 23; omega
    | ⟨2, _⟩ => first | rfl | exact Nat.zero_add _
  · rw [ext_apply, mul_comm]; rfl

theorem tap24 (B : Fin 2) (t : Fin 4096) (d : Fin 1024) : val_main_v178 (F := Ideal) a0 a1 (ix3 B t d) = T a0 a1 B t d 24 := by
  refine Eq.trans (b := val_main_v1 (F := Ideal) a0 (ix3 B ⟨t.val + 24, by omega⟩ d) * a1 (ix3 0 (Fin.ofNat 31 24) d)) ?_ ?_
  · rw [val_main_v178_apply, val_main_v173_apply]
    generalize val_main_v1 (F := Ideal) a0 = y
    have e : val_main_v177 (F := Ideal) a1 (ix3 B t d) = a1 (ix3 0 (Fin.ofNat 31 24) d) := by
      pointwise [val_main_v177, val_main_v176, val_main_v175, val_main_v174, val_main_v2]
      rfl
    rw [e]
    refine congrArg (fun z => y z * a1 (ix3 0 (Fin.ofNat 31 24) d)) (funext fun a => Fin.ext ?_)
    match a with
    | ⟨0, _⟩ => first | rfl | exact Nat.zero_add _
    | ⟨1, _⟩ => show 24 + t.val = t.val + 24; omega
    | ⟨2, _⟩ => first | rfl | exact Nat.zero_add _
  · rw [ext_apply, mul_comm]; rfl

theorem tap25 (B : Fin 2) (t : Fin 4096) (d : Fin 1024) : val_main_v185 (F := Ideal) a0 a1 (ix3 B t d) = T a0 a1 B t d 25 := by
  refine Eq.trans (b := val_main_v1 (F := Ideal) a0 (ix3 B ⟨t.val + 25, by omega⟩ d) * a1 (ix3 0 (Fin.ofNat 31 25) d)) ?_ ?_
  · rw [val_main_v185_apply, val_main_v180_apply]
    generalize val_main_v1 (F := Ideal) a0 = y
    have e : val_main_v184 (F := Ideal) a1 (ix3 B t d) = a1 (ix3 0 (Fin.ofNat 31 25) d) := by
      pointwise [val_main_v184, val_main_v183, val_main_v182, val_main_v181, val_main_v2]
      rfl
    rw [e]
    refine congrArg (fun z => y z * a1 (ix3 0 (Fin.ofNat 31 25) d)) (funext fun a => Fin.ext ?_)
    match a with
    | ⟨0, _⟩ => first | rfl | exact Nat.zero_add _
    | ⟨1, _⟩ => show 25 + t.val = t.val + 25; omega
    | ⟨2, _⟩ => first | rfl | exact Nat.zero_add _
  · rw [ext_apply, mul_comm]; rfl

theorem tap26 (B : Fin 2) (t : Fin 4096) (d : Fin 1024) : val_main_v192 (F := Ideal) a0 a1 (ix3 B t d) = T a0 a1 B t d 26 := by
  refine Eq.trans (b := val_main_v1 (F := Ideal) a0 (ix3 B ⟨t.val + 26, by omega⟩ d) * a1 (ix3 0 (Fin.ofNat 31 26) d)) ?_ ?_
  · rw [val_main_v192_apply, val_main_v187_apply]
    generalize val_main_v1 (F := Ideal) a0 = y
    have e : val_main_v191 (F := Ideal) a1 (ix3 B t d) = a1 (ix3 0 (Fin.ofNat 31 26) d) := by
      pointwise [val_main_v191, val_main_v190, val_main_v189, val_main_v188, val_main_v2]
      rfl
    rw [e]
    refine congrArg (fun z => y z * a1 (ix3 0 (Fin.ofNat 31 26) d)) (funext fun a => Fin.ext ?_)
    match a with
    | ⟨0, _⟩ => first | rfl | exact Nat.zero_add _
    | ⟨1, _⟩ => show 26 + t.val = t.val + 26; omega
    | ⟨2, _⟩ => first | rfl | exact Nat.zero_add _
  · rw [ext_apply, mul_comm]; rfl

theorem tap27 (B : Fin 2) (t : Fin 4096) (d : Fin 1024) : val_main_v199 (F := Ideal) a0 a1 (ix3 B t d) = T a0 a1 B t d 27 := by
  refine Eq.trans (b := val_main_v1 (F := Ideal) a0 (ix3 B ⟨t.val + 27, by omega⟩ d) * a1 (ix3 0 (Fin.ofNat 31 27) d)) ?_ ?_
  · rw [val_main_v199_apply, val_main_v194_apply]
    generalize val_main_v1 (F := Ideal) a0 = y
    have e : val_main_v198 (F := Ideal) a1 (ix3 B t d) = a1 (ix3 0 (Fin.ofNat 31 27) d) := by
      pointwise [val_main_v198, val_main_v197, val_main_v196, val_main_v195, val_main_v2]
      rfl
    rw [e]
    refine congrArg (fun z => y z * a1 (ix3 0 (Fin.ofNat 31 27) d)) (funext fun a => Fin.ext ?_)
    match a with
    | ⟨0, _⟩ => first | rfl | exact Nat.zero_add _
    | ⟨1, _⟩ => show 27 + t.val = t.val + 27; omega
    | ⟨2, _⟩ => first | rfl | exact Nat.zero_add _
  · rw [ext_apply, mul_comm]; rfl

theorem tap28 (B : Fin 2) (t : Fin 4096) (d : Fin 1024) : val_main_v206 (F := Ideal) a0 a1 (ix3 B t d) = T a0 a1 B t d 28 := by
  refine Eq.trans (b := val_main_v1 (F := Ideal) a0 (ix3 B ⟨t.val + 28, by omega⟩ d) * a1 (ix3 0 (Fin.ofNat 31 28) d)) ?_ ?_
  · rw [val_main_v206_apply, val_main_v201_apply]
    generalize val_main_v1 (F := Ideal) a0 = y
    have e : val_main_v205 (F := Ideal) a1 (ix3 B t d) = a1 (ix3 0 (Fin.ofNat 31 28) d) := by
      pointwise [val_main_v205, val_main_v204, val_main_v203, val_main_v202, val_main_v2]
      rfl
    rw [e]
    refine congrArg (fun z => y z * a1 (ix3 0 (Fin.ofNat 31 28) d)) (funext fun a => Fin.ext ?_)
    match a with
    | ⟨0, _⟩ => first | rfl | exact Nat.zero_add _
    | ⟨1, _⟩ => show 28 + t.val = t.val + 28; omega
    | ⟨2, _⟩ => first | rfl | exact Nat.zero_add _
  · rw [ext_apply, mul_comm]; rfl

theorem tap29 (B : Fin 2) (t : Fin 4096) (d : Fin 1024) : val_main_v213 (F := Ideal) a0 a1 (ix3 B t d) = T a0 a1 B t d 29 := by
  refine Eq.trans (b := val_main_v1 (F := Ideal) a0 (ix3 B ⟨t.val + 29, by omega⟩ d) * a1 (ix3 0 (Fin.ofNat 31 29) d)) ?_ ?_
  · rw [val_main_v213_apply, val_main_v208_apply]
    generalize val_main_v1 (F := Ideal) a0 = y
    have e : val_main_v212 (F := Ideal) a1 (ix3 B t d) = a1 (ix3 0 (Fin.ofNat 31 29) d) := by
      pointwise [val_main_v212, val_main_v211, val_main_v210, val_main_v209, val_main_v2]
      rfl
    rw [e]
    refine congrArg (fun z => y z * a1 (ix3 0 (Fin.ofNat 31 29) d)) (funext fun a => Fin.ext ?_)
    match a with
    | ⟨0, _⟩ => first | rfl | exact Nat.zero_add _
    | ⟨1, _⟩ => show 29 + t.val = t.val + 29; omega
    | ⟨2, _⟩ => first | rfl | exact Nat.zero_add _
  · rw [ext_apply, mul_comm]; rfl

theorem tap30 (B : Fin 2) (t : Fin 4096) (d : Fin 1024) : val_main_v220 (F := Ideal) a0 a1 (ix3 B t d) = T a0 a1 B t d 30 := by
  refine Eq.trans (b := val_main_v1 (F := Ideal) a0 (ix3 B ⟨t.val + 30, by omega⟩ d) * a1 (ix3 0 (Fin.ofNat 31 30) d)) ?_ ?_
  · rw [val_main_v220_apply, val_main_v215_apply]
    generalize val_main_v1 (F := Ideal) a0 = y
    have e : val_main_v219 (F := Ideal) a1 (ix3 B t d) = a1 (ix3 0 (Fin.ofNat 31 30) d) := by
      pointwise [val_main_v219, val_main_v218, val_main_v217, val_main_v216, val_main_v2]
      rfl
    rw [e]
    refine congrArg (fun z => y z * a1 (ix3 0 (Fin.ofNat 31 30) d)) (funext fun a => Fin.ext ?_)
    match a with
    | ⟨0, _⟩ => first | rfl | exact Nat.zero_add _
    | ⟨1, _⟩ => show 30 + t.val = t.val + 30; omega
    | ⟨2, _⟩ => first | rfl | exact Nat.zero_add _
  · rw [ext_apply, mul_comm]; rfl

theorem sum_apply (B : Fin 2) (t : Fin 4096) (d : Fin 1024) : val_main_v221 (F := Ideal) a0 a1 (ix3 B t d) = taps (T a0 a1 B t d) := by
  rw [taps_eq]
  have z : val_main_v10 (F := Ideal) (ix3 B t d) = 0 := by pointwise [val_main_v10, val_main_cst_0]
  rw [val_main_v221_apply, tap30, val_main_v214_apply, tap29, val_main_v207_apply, tap28, val_main_v200_apply, tap27, val_main_v193_apply, tap26, val_main_v186_apply, tap25, val_main_v179_apply, tap24, val_main_v172_apply, tap23, val_main_v165_apply, tap22, val_main_v158_apply, tap21, val_main_v151_apply, tap20, val_main_v144_apply, tap19, val_main_v137_apply, tap18, val_main_v130_apply, tap17, val_main_v123_apply, tap16, val_main_v116_apply, tap15, val_main_v109_apply, tap14, val_main_v102_apply, tap13, val_main_v95_apply, tap12, val_main_v88_apply, tap11, val_main_v81_apply, tap10, val_main_v74_apply, tap9, val_main_v67_apply, tap8, val_main_v60_apply, tap7, val_main_v53_apply, tap6, val_main_v46_apply, tap5, val_main_v39_apply, tap4, val_main_v32_apply, tap3, val_main_v25_apply, tap2, val_main_v18_apply, tap1, val_main_v11_apply, tap0, z]
  have ad : ∀ x y : EReal, FloatOps.addf (F := Ideal) (φ := .f32) x y = x + y := fun _ _ => rfl
  simp only [ad, zero_add]

theorem conv_apply (B : Fin 2) (t : Fin 4096) (d : Fin 1024) :
    val_main_v224 (F := Ideal) a0 a1 a2 (ix3 B t d) = taps (T a0 a1 B t d) + a2 (ix2 0 d) := by
  refine Eq.trans (b := val_main_v221 (F := Ideal) a0 a1 (ix3 B t d) + a2 (ix2 0 d)) ?_ (by rw [sum_apply])
  unfold val_main_v224
  generalize val_main_v221 (F := Ideal) a0 a1 = y
  pointwise [val_main_v223, val_main_v222, val_main_v3]

theorem v251_apply (B : Fin 2) (t : Fin 4096) (k : Fin 1024) :
    val_main_v251 (F := Ideal) a0 a1 a2 a3 a4 (ix3 B t k)
      = swish (lnorm (fun d => val_main_v224 (F := Ideal) a0 a1 a2 (ix3 B t d)) (fun d => a3 (ix2 0 d)) (fun d => a4 (ix2 0 d)) k) := by
  have hz : ∀ B t k, val_main_v250 (F := Ideal) a0 a1 a2 a3 a4 (ix3 B t k)
      = lnorm (fun d => val_main_v224 (F := Ideal) a0 a1 a2 (ix3 B t d)) (fun d => a3 (ix2 0 d)) (fun d => a4 (ix2 0 d)) k := by
    intro B t k
    unfold val_main_v250 val_main_v247 val_main_v244 val_main_v239 val_main_v243 val_main_v242 val_main_v241 val_main_v238 val_main_v237
      val_main_v235 val_main_v234 val_main_v233 val_main_v232 val_main_v231 val_main_v230 val_main_v228 val_main_v227
    generalize val_main_v224 (F := Ideal) a0 a1 a2 = y
    pointwise [val_main_v249, val_main_v248, val_main_v246, val_main_v245, val_main_v240, val_main_v236, val_main_v229,
      val_main_v226, val_main_v225, val_main_cst_1, val_main_cst_2, val_main_cst_3, val_main_cst_4, val_main_cst_5, lnorm]
  rw [← hz B t k]
  unfold val_main_v251 val_main_call0_v5 val_main_call0_v3 val_main_call0_v1 val_main_call0_v0
  generalize val_main_v250 (F := Ideal) a0 a1 a2 a3 a4 = z
  pointwise [val_main_call0_v4, val_main_call0_v2, val_main_call0_cst, val_main_call0_cst_0, swish, Ideal.logistic]

theorem ref_apply (B : Fin 2) (t : Fin 4096) (k : Fin 1024) :
    val_main_v252 (F := Ideal) a0 a1 a2 a3 a4 (ix3 B t k)
      = swish (lnorm (fun d => taps (T a0 a1 B t d) + a2 (ix2 0 d)) (fun d => a3 (ix2 0 d)) (fun d => a4 (ix2 0 d)) k) := by
  have e : val_main_v252 (F := Ideal) a0 a1 a2 a3 a4 (ix3 B t k) = val_main_v251 (F := Ideal) a0 a1 a2 a3 a4 (ix3 B t k) := by
    unfold val_main_v252
    generalize val_main_v251 (F := Ideal) a0 a1 a2 a3 a4 = y
    pointwise []
  rw [e, v251_apply]
  exact congrArg (fun y => swish (lnorm y _ _ k)) (funext fun d => conv_apply a0 a1 a2 B t d)

end Cert.Reference20Ideal.Conv

end
-- ==== Proof.AdaSpec.lean ====
/-
  The modulation of a row: the swished conditioning row's product with a column, plus the bias.
-/
module

public import Idealize.ShloMosaic.Lib.Pointwise

@[expose] public section

noncomputable section

namespace Cert.AdaSpec

open Idealize.ShloMosaic

/-- The modulation at column `n`, from a conditioning row `x`, the weights `w` and the bias `b`. -/
def ada {D N : ℕ} (x : Fin D → EReal) (w : Fin D → Fin N → EReal) (b : Fin N → EReal) (n : Fin N) : EReal :=
  (∑ d, x d * Ideal.logistic (x d) * w d n) + b n

/-- A row of zeros is modulated to the bias. -/
theorem ada_zero {D N : ℕ} (w : Fin D → Fin N → EReal) (b : Fin N → EReal) (n : Fin N) : ada (fun _ => 0) w b n = b n := by
  simp only [ada, zero_mul, Finset.sum_const_zero, zero_add]

/-- The forty rows: the two prompts' modulation, the 32 samples', and six rows of the bias. -/
def rowsOf {N : ℕ} (x0 : Fin 2 → Fin 2048 → EReal) (x1 : Fin 32 → Fin 2048 → EReal) (w : Fin 2048 → Fin N → EReal) (b : Fin N → EReal)
    (r : ℕ) (n : Fin N) : EReal :=
  if r < 2 then ada (x0 (Fin.ofNat 2 r)) w b n else if r < 34 then ada (x1 (Fin.ofNat 32 (r - 2))) w b n else b n

end Cert.AdaSpec

end
-- ==== Proof.AdaKernel.lean ====
/-
  The modulation's kernel read at an index. A point of the grid holds all rows and 1024 columns.
-/
module

public import proofs.«01_k».proof.Proof.AdaSpec
public import proofs.«01_k».proof.Proof.Gen.Kernel7Ideal.Value
public import Idealize.ShloMosaic.Lib.Pipeline.ValueKit
public import Idealize.ShloMosaic.Lib.Pipeline.ReadBack
public import Idealize.ShloMosaic.Lib.KernelVsHost

@[expose] public section

set_option maxRecDepth 16384

noncomputable section

namespace Cert.Kernel7Ideal.Ada

open Cert.Kernel7Ideal Cert.Kernel7Ideal.Gen Cert.Kernel7Ideal.Value Cert.AdaSpec
open Idealize.ShloMosaic Idealize.ShloMosaic.TcCoe Idealize.SL.Sem Idealize.ShloMosaic.StableHlo

variable (m : (ℓ : Loc nD τ sig) → Buf (Elt Ideal) ℓ)

/-- The padding: zero. -/
def zero : (⟨S_, .f32⟩ : BufTy).Contents (Elt Ideal) := sitofp (F := Ideal) .f32 (constantI S_ 32 0#32)
/-- The conditioning rows of both batches and six rows of padding. -/
def rows (c : Dev nD) : (⟨S40x2048, .f32⟩ : BufTy).Contents (Elt Ideal) :=
  pad S40x2048 ![0, 0] ![6, 0] ![0, 0] (concatenate S34x2048 0 [⟨S2x2048, m ((c.tc : Thread nD τ).loc main_arg0)⟩,
    ⟨S32x2048, m ((c.tc : Thread nD τ).loc main_arg1)⟩] concatenates_S2x2048_S32x2048_S34x2048_d0)
    zero pads_S34x2048_S40x2048_060_000 h_S_
/-- The modulation's weights. -/
def w (c : Dev nD) (d : Fin 2048) (n : Fin 12288) : EReal := m ((c.tc : Thread nD τ).loc main_arg2) (ix3 0 d n)
/-- The modulation's bias. -/
def b (c : Dev nD) (n : Fin 12288) : EReal := m ((c.tc : Thread nD τ).loc main_arg3) (ix2 0 n)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)

/-- The column of the whole matrix at column `k` of point `t`. -/
def col (t : Fin cfg0.N) (k : Fin 1024) : Fin 12288 :=
  ⟨t.val * 1024 + k.val, by have h : t.val < 12 := t.isLt; have := k.isLt; omega⟩

theorem blk0 (c : Dev nD) (t : Fin cfg0.N) (r : Fin 40) (d : Fin 2048) : iblk m c 0 t (ix2 r d) = rows m c (ix2 r d) := by
  obtain ⟨e0, e1⟩ := idx0 t
  blk_simp [iblk]
  entry_read
  refine (show _ = rows m c _ from rfl).trans (congrArg (rows m c) (funext fun a => Fin.ext ?_))
  match a with
  | ⟨0, _⟩ => show win0_0.index t (0 : Fin 2) * 40 + 1 * r.val = r.val; rw [e0]; omega
  | ⟨1, _⟩ => show win0_0.index t (1 : Fin 2) * 2048 + 1 * d.val = d.val; rw [e1]; omega

theorem blk1 (c : Dev nD) (t : Fin cfg0.N) (d : Fin 2048) (k : Fin 1024) : iblk m c 1 t (ix2 d k) = w m c d (col t k) := by
  obtain ⟨e0, e1⟩ := idx1 t
  blk_simp [iblk]
  entry_read
  refine shapeCast_apply _ shapeCasts_S1x2048x12288_S2048x12288 _ (ix3 0 d (col t k)) ?_
  rw [Shape.rowMajor_val_three, Shape.rowMajor_val_two]
  show (0 * 2048 + d.val) * 12288 + (t.val * 1024 + k.val)
    = (win0_1.index t (0 : Fin 2) * 2048 + 1 * d.val) * 12288 + (win0_1.index t (1 : Fin 2) * 1024 + 1 * k.val)
  rw [e0, e1]; omega

theorem blk2 (c : Dev nD) (t : Fin cfg0.N) (k : Fin 1024) : iblk m c 2 t (ix2 0 k) = b m c (col t k) := by
  obtain ⟨e0, e1⟩ := idx2 t
  blk_simp [iblk]
  entry_read
  show shapeCast S1x12288 (shapeCast S12288 (m ((c.tc : Thread nD τ).loc main_arg3)) shapeCasts_S1x12288_S12288) shapeCasts_S12288_S1x12288 _ = _
  refine (shapeCast_apply _ shapeCasts_S12288_S1x12288 _ (ix1 (col t k)) ?_).trans ?_
  · rw [Shape.rowMajor_val_one, Shape.rowMajor_val_two]
    show t.val * 1024 + k.val = (win0_2.index t (0 : Fin 2) * 1 + 1 * 0) * 12288 + (win0_2.index t (1 : Fin 2) * 1024 + 1 * k.val)
    rw [e0, e1]; omega
  · refine shapeCast_apply _ shapeCasts_S1x12288_S12288 _ (ix2 0 (col t k)) ?_
    rw [Shape.rowMajor_val_one, Shape.rowMajor_val_two]
    show 0 * 12288 + (t.val * 1024 + k.val) = t.val * 1024 + k.val
    omega

theorem pay_apply (x : Vec Ideal S40x2048 .f32) (y : Vec Ideal S2048x1024 .f32) (z : Vec Ideal S1x1024 .f32) (r : Fin 40) (k : Fin 1024) :
    k0_pay1 x y z (ix2 r k) = (∑ d : Fin 2048, x (ix2 r d) * Ideal.logistic (x (ix2 r d)) * y (ix2 d k)) + z (ix2 0 k) := by
  pointwise [k0_pay1]

theorem out_at (x0 : Vec Ideal S40x2048 .f32) (x1 : Vec Ideal S2048x1024 .f32) (x2 : Vec Ideal S1x1024 .f32) (r : Fin 40) (k : Fin 1024) :
    out0_3 x0 x1 x2 (ix2 r k) = k0_pay1 x0 x1 x2 (ix2 r k) := by
  frame_out

/-- Row `r` of the padded rows: a prompt's, a sample's or zeros. -/
theorem rows_apply (c : Dev nD) (r : Fin 40) (d : Fin 2048) :
    rows m c (ix2 r d) = if r.val < 2 then m ((c.tc : Thread nD τ).loc main_arg0) (ix2 (Fin.ofNat 2 r.val) d)
      else if r.val < 34 then m ((c.tc : Thread nD τ).loc main_arg1) (ix2 (Fin.ofNat 32 (r.val - 2)) d) else (0 : EReal) := by
  have hr := r.isLt
  unfold rows
  by_cases h' : r.val < 34
  · refine (pad_apply_of_inside _ _ _ _ _ pads_S34x2048_S40x2048_060_000 h_S_ (ix2 r d) (ix2 ⟨r.val, h'⟩ d) ?_).trans ?_
    · intro a
      match a with
      | ⟨0, _⟩ => show r.val = 0 + r.val * (0 + 1); omega
      | ⟨1, _⟩ => show d.val = 0 + d.val * (0 + 1); omega
    by_cases h : r.val < 2
    · rw [if_pos h]
      refine concatenate_pair_apply_left (t := S34x2048) (s₁ := S2x2048) (s₂ := S32x2048) (0 : Fin 2) _ _ _ _ rfl _ ?_
      intro b
      match b with
      | ⟨0, _⟩ => show r.val % 2 = r.val; omega
      | ⟨1, _⟩ => rfl
    · rw [if_neg h, if_pos h']
      refine concatenate_pair_apply_right (t := S34x2048) (s₁ := S2x2048) (s₂ := S32x2048) (0 : Fin 2) _ _ _ _ rfl rfl
        (ix2 (Fin.ofNat 32 (r.val - 2)) d) ?_ ?_
      · intro b hb
        match b, hb with
        | ⟨0, _⟩, hb => exact absurd rfl hb
        | ⟨1, _⟩, _ => rfl
      · show (r.val - 2) % 32 + 2 = r.val; omega
  · rw [if_neg (by omega), if_neg h']
    refine (pad_apply_of_not_inside _ _ _ _ _ pads_S34x2048_S40x2048_060_000 h_S_ (ix2 r d) (0 : Fin 2) ?_).trans ?_
    · show ¬(0 ≤ r.val ∧ (r.val - 0) % (0 + 1) = 0 ∧ (r.val - 0) / (0 + 1) < 34)
      omega
    · show (((0#32).toInt : ℝ) : EReal) = 0
      simp

/-- A row's modulation is the prompts', the samples' or the bias. -/
theorem rows_ada (c : Dev nD) (r : Fin 40) (n : Fin 12288) :
    ada (fun d => rows m c (ix2 r d)) (w m c) (b m c) n
      = rowsOf (fun r d => m ((c.tc : Thread nD τ).loc main_arg0) (ix2 r d)) (fun r d => m ((c.tc : Thread nD τ).loc main_arg1) (ix2 r d))
          (w m c) (b m c) r.val n := by
  unfold rowsOf
  simp only [rows_apply]
  by_cases h : r.val < 2
  · simp only [if_pos h]
  · by_cases h' : r.val < 34
    · simp only [if_neg h, if_pos h']
    · simp only [if_neg h, if_neg h', ada_zero]

/-- The result. -/
def G (c : Dev nD) : Buf (Elt Ideal) ((c.tc : Thread nD τ).loc main_v5) := fun i =>
  rowsOf (fun r d => m ((c.tc : Thread nD τ).loc main_arg0) (ix2 r d)) (fun r d => m ((c.tc : Thread nD τ).loc main_arg1) (ix2 r d))
    (w m c) (b m c) (i 0).val (i 1)

theorem final (c : Dev nD) : (dats m 0 c).arrAt 3 cfg0.N = G m c := by
  refine (dats m 0 c).arrAt_eq_of_covers 3 _ (by decide +kernel) fun t hf y => ?_
  blk_simp
  rw [after0_3]
  obtain ⟨e0, e1⟩ := idx3 t
  idx_vars y
  refine (out_at _ _ _ y0 y1).trans ((pay_apply _ _ _ y0 y1).trans ?_)
  refine (show _ = ada (fun d => rows m c (ix2 y0 d)) (w m c) (b m c) (col t y1) from ?_).trans ?_
  · unfold ada
    refine congrArg₂ (· + ·) (Finset.sum_congr rfl fun d _ => ?_) (blk2 m c t y1)
    rw [blk0, blk1]
  · refine (rows_ada m c y0 (col t y1)).trans (congrArg₂ (rowsOf _ _ _ _) ?_ (Fin.ext ?_))
    · show y0.val = win0_3.index t (0 : Fin 2) * 40 + 1 * y0.val; rw [e0]; omega
    · show t.val * 1024 + y1.val = win0_3.index t (1 : Fin 2) * 1024 + 1 * y1.val; rw [e1]; omega

end Cert.Kernel7Ideal.Ada

end
-- ==== Proof.AdaReference.lean ====
/-
  The reference's modulation read at an index.
-/
module

public import proofs.«01_k».proof.Proof.AdaSpec
public import proofs.«01_k».proof.Proof.Gen.Reference7Ideal.Read

@[expose] public section

set_option maxRecDepth 16384

noncomputable section

namespace Cert.Reference7Ideal.Ada

open Cert.Reference7Ideal Cert.Reference7Ideal.Gen Cert.Reference7Ideal.Read Cert.AdaSpec
open Idealize.ShloMosaic Idealize.ShloMosaic.TcCoe Idealize.SL.Sem

variable (a0 : (⟨S2x2048, .f32⟩ : BufTy).Contents (Elt Ideal)) (a1 : (⟨S32x2048, .f32⟩ : BufTy).Contents (Elt Ideal))
  (a2 : (⟨S1x2048x12288, .f32⟩ : BufTy).Contents (Elt Ideal)) (a3 : (⟨S1x12288, .f32⟩ : BufTy).Contents (Elt Ideal))

/-- A prompt's row's conditioning, swished. -/
theorem v0_apply (r : Fin 2) (d : Fin 2048) :
    val_main_v0 (F := Ideal) a0 (ix2 r d) = a0 (ix2 r d) * Ideal.logistic (a0 (ix2 r d)) := by
  pointwise [val_main_v0, val_main_call0_v5, val_main_call0_v3, val_main_call0_v1, val_main_call0_v0, val_main_call0_v4, val_main_call0_v2,
    val_main_call0_cst, val_main_call0_cst_0, Ideal.logistic]

/-- A prompt's row's modulation. -/
theorem v6_apply (r : Fin 2) (n : Fin 12288) :
    val_main_v6 (F := Ideal) a0 a2 a3 (ix2 r n)
      = ada (fun d => a0 (ix2 r d)) (fun d n => a2 (ix3 0 d n)) (fun n => a3 (ix2 0 n)) n := by
  refine (show _ = (∑ d : Fin 2048, val_main_v0 (F := Ideal) a0 (ix2 r d) * a2 (ix3 0 d n)) + a3 (ix2 0 n) from ?_).trans ?_
  · unfold val_main_v6 val_main_v2
    generalize val_main_v0 (F := Ideal) a0 = y
    pointwise [val_main_v1, val_main_v3, val_main_v4, val_main_v5]
  · unfold ada
    exact congrArg (· + a3 (ix2 0 n)) (Finset.sum_congr rfl fun d _ => congrArg (· * a2 (ix3 0 d n)) (v0_apply a0 r d))

/-- A sample's row's conditioning, swished. -/
theorem v7_apply (r : Fin 32) (d : Fin 2048) :
    val_main_v7 (F := Ideal) a1 (ix2 r d) = a1 (ix2 r d) * Ideal.logistic (a1 (ix2 r d)) := by
  pointwise [val_main_v7, val_main_call1_v5, val_main_call1_v3, val_main_call1_v1, val_main_call1_v0, val_main_call1_v4, val_main_call1_v2,
    val_main_call1_cst, val_main_call1_cst_0, Ideal.logistic]

/-- A sample's row's modulation. -/
theorem v13_apply (r : Fin 32) (n : Fin 12288) :
    val_main_v13 (F := Ideal) a1 a2 a3 (ix2 r n)
      = ada (fun d => a1 (ix2 r d)) (fun d n => a2 (ix3 0 d n)) (fun n => a3 (ix2 0 n)) n := by
  refine (show _ = (∑ d : Fin 2048, val_main_v7 (F := Ideal) a1 (ix2 r d) * a2 (ix3 0 d n)) + a3 (ix2 0 n) from ?_).trans ?_
  · unfold val_main_v13 val_main_v9
    generalize val_main_v7 (F := Ideal) a1 = y
    pointwise [val_main_v8, val_main_v10, val_main_v11, val_main_v12]
  · unfold ada
    exact congrArg (· + a3 (ix2 0 n)) (Finset.sum_congr rfl fun d _ => congrArg (· * a2 (ix3 0 d n)) (v7_apply a1 r d))

theorem v15_apply (r : Fin 6) (n : Fin 12288) : val_main_v15 (F := Ideal) a3 (ix2 r n) = a3 (ix2 0 n) := by
  pointwise [val_main_v15, val_main_v14]

/-- The reference's result at row `r`, column `n`. -/
theorem ref_apply (r : Fin 40) (n : Fin 12288) :
    val_main_v16 (F := Ideal) a0 a1 a2 a3 (ix2 r n)
      = rowsOf (fun r d => a0 (ix2 r d)) (fun r d => a1 (ix2 r d)) (fun d n => a2 (ix3 0 d n)) (fun n => a3 (ix2 0 n)) r.val n := by
  have hr := r.isLt
  unfold val_main_v16 rowsOf
  by_cases h : r.val < 2
  · rw [if_pos h, ← v6_apply]
    refine concatenate_apply_piece (t := S40x12288) (0 : Fin 2) _ _ _ 0 (by simp) S2x12288 _ rfl rfl 0 (by rfl) (ix2 (Fin.ofNat 2 r.val) n) ?_ ?_
    · intro b hb
      match b, hb with
      | ⟨0, _⟩, hb => exact absurd rfl hb
      | ⟨1, _⟩, _ => rfl
    · show 0 + r.val % 2 = r.val; omega
  rw [if_neg h]
  by_cases h' : r.val < 34
  · rw [if_pos h', ← v13_apply]
    refine concatenate_apply_piece (t := S40x12288) (0 : Fin 2) _ _ _ 1 (by simp) S32x12288 _ rfl rfl 2 (by rfl) (ix2 (Fin.ofNat 32 (r.val - 2)) n) ?_ ?_
    · intro b hb
      match b, hb with
      | ⟨0, _⟩, hb => exact absurd rfl hb
      | ⟨1, _⟩, _ => rfl
    · show 2 + (r.val - 2) % 32 = r.val; omega
  · rw [if_neg h']
    show _ = a3 (ix2 0 n)
    rw [← v15_apply a3 (Fin.ofNat 6 (r.val - 34)) n]
    refine concatenate_apply_piece (t := S40x12288) (0 : Fin 2) _ _ _ 2 (by simp) S6x12288 _ rfl rfl 34 (by rfl) (ix2 (Fin.ofNat 6 (r.val - 34)) n) ?_ ?_
    · intro b hb
      match b, hb with
      | ⟨0, _⟩, hb => exact absurd rfl hb
      | ⟨1, _⟩, _ => rfl
    · show 34 + (r.val - 34) % 6 = r.val; omega

end Cert.Reference7Ideal.Ada

end
-- ==== Proof.lean ====
/-
  The claims, assembled: each program's frame as generated, each reference's run with its semaphores at rest, and each value
  claim from the kernel's result arrays and the reference's results read at an index.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.MlpKernel
public import proofs.«01_k».proof.Proof.MlpReference
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.GluPromptKernel
public import proofs.«01_k».proof.Proof.GluPromptReference
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.GluSampleKernel
public import proofs.«01_k».proof.Proof.GluSampleReference
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.KPromptKernel
public import proofs.«01_k».proof.Proof.KPromptReference
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.KSampleKernel
public import proofs.«01_k».proof.Proof.KSampleReference
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.VPromptKernel
public import proofs.«01_k».proof.Proof.VPromptReference
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.VSampleKernel
public import proofs.«01_k».proof.Proof.VSampleReference
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.KiwiPromptKernel
public import proofs.«01_k».proof.Proof.KiwiPromptReference
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.KiwiSampleKernel
public import proofs.«01_k».proof.Proof.KiwiSampleReference
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.QiPromptKernel
public import proofs.«01_k».proof.Proof.QiPromptReference
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.QiSampleKernel
public import proofs.«01_k».proof.Proof.QiSampleReference
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.OutPromptKernel
public import proofs.«01_k».proof.Proof.OutPromptReference
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.OutSampleKernel
public import proofs.«01_k».proof.Proof.OutSampleReference
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.MlpSampleKernel
public import proofs.«01_k».proof.Proof.MlpSampleReference
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.QPromptKernel
public import proofs.«01_k».proof.Proof.QPromptReference
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.QSampleKernel
public import proofs.«01_k».proof.Proof.QSampleReference
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Reference19Ideal.Read
public import proofs.«01_k».proof.Proof.ConvSampleKernel
public import proofs.«01_k».proof.Proof.ConvSampleReference
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.ConvPromptKernel
public import proofs.«01_k».proof.Proof.ConvPromptReference
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.AdaKernel
public import proofs.«01_k».proof.Proof.AdaReference
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  obtain ⟨h0, h1, h2, h3, h4, h5⟩ := hagree c
  rw [h0, h1, h2, h3, h4, h5]
  refine (Cert.Reference2Ideal.Read.val_main_v22_eq _ _ _ _ _ _).trans ?_
  funext i
  idx_vars i
  exact (Cert.Reference2Ideal.Mlp.ref_apply ..).trans (Cert.Kernel2Ideal.Mlp.G6_apply m c _ _ i0 (by dsimp only; omega) i1).symm

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨Cert.Kernel3Ideal.Glu.G m, ?_, ?_⟩
  · exact (θ_run Cert.Kernel3Ideal.defs _ _).mono (fun _ h c => ⟨(h c).1.trans (Cert.Kernel3Ideal.Glu.final m c), (h c).2⟩)
      (Cert.Kernel3Ideal.Value.run_blocks (F := Ideal) m ρ)
  refine (θ_run Cert.Reference3Ideal.defs _ _).mono (fun _ h c => ⟨(h c).1.trans ?_, (h c).2⟩)
    (Cert.Reference3Ideal.Value.run (F := Ideal) m' ρ')
  · obtain ⟨h0, h1⟩ := hagree c
    refine (Cert.Reference3Ideal.Read.val_main_v17_eq ..).trans ?_
    rw [h0, h1]
    funext i
    idx_vars i
    exact (Cert.Reference3Ideal.Glu.ref_apply ..).trans rfl

theorem quiescent_Reference15Ideal : quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic_Kernel15Ideal_Reference15Ideal : algebraic_Kernel15Ideal_Reference15Ideal := by
  intro m ρ m' ρ' _ hagree
  refine ⟨Cert.Kernel15Ideal.Glu.G m, ?_, ?_⟩
  · exact (θ_run Cert.Kernel15Ideal.defs _ _).mono (fun _ h c => ⟨(h c).1.trans (Cert.Kernel15Ideal.Glu.final m c), (h c).2⟩)
      (Cert.Kernel15Ideal.Value.run_blocks (F := Ideal) m ρ)
  refine (θ_run Cert.Reference15Ideal.defs _ _).mono (fun _ h c => ⟨(h c).1.trans ?_, (h c).2⟩)
    (Cert.Reference15Ideal.Value.run (F := Ideal) m' ρ')
  · obtain ⟨h0, h1⟩ := hagree c
    refine (Cert.Reference15Ideal.Read.val_main_v17_eq ..).trans ?_
    rw [h0, h1]
    funext i
    idx_vars i
    exact (Cert.Reference15Ideal.Glu.ref_apply ..).trans rfl

theorem quiescent_Reference4Ideal : quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic_Kernel4Ideal_Reference4Ideal : algebraic_Kernel4Ideal_Reference4Ideal := by
  intro m ρ m' ρ' _ hagree
  refine ⟨Cert.Kernel4Ideal.K.Out4 m, Cert.Kernel4Ideal.K.Out5 m, ?_, ?_⟩
  · exact (θ_run Cert.Kernel4Ideal.defs _ _).mono (fun _ h c => ⟨(h c).1.trans (Cert.Kernel4Ideal.K.arr4 m c), (h c).2.1.trans (Cert.Kernel4Ideal.K.arr5 m c), (h c).2.2⟩)
      (Cert.Kernel4Ideal.Value.run_blocks (F := Ideal) m ρ)
  refine (θ_run Cert.Reference4Ideal.defs _ _).mono (fun _ h c => ⟨(h c).1.trans ?_, (h c).2.1.trans ?_, (h c).2.2⟩)
    (Cert.Reference4Ideal.Value.run (F := Ideal) m' ρ')
  · obtain ⟨h0, h1⟩ := hagree c
    refine (Cert.Reference4Ideal.Read.val_main_v41_eq ..).trans ?_
    rw [h0, h1]
    funext i
    idx_vars i
    exact (Cert.Reference4Ideal.K.ref_apply ..).trans rfl
  · obtain ⟨h0, h1⟩ := hagree c
    refine (Cert.Reference4Ideal.Read.val_main_v42_eq ..).trans ?_
    rw [h0, h1]
    funext i
    idx_vars i
    exact (Cert.Reference4Ideal.K.narrow_apply ..).trans ((Cert.Reference4Ideal.K.ref_apply ..).trans rfl)

theorem quiescent_Reference12Ideal : quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem algebraic_Kernel12Ideal_Reference12Ideal : algebraic_Kernel12Ideal_Reference12Ideal := by
  intro m ρ m' ρ' _ hagree
  refine ⟨Cert.Kernel12Ideal.K.Out4 m, Cert.Kernel12Ideal.K.Out5 m, ?_, ?_⟩
  · exact (θ_run Cert.Kernel12Ideal.defs _ _).mono (fun _ h c => ⟨(h c).1.trans (Cert.Kernel12Ideal.K.arr4 m c), (h c).2.1.trans (Cert.Kernel12Ideal.K.arr5 m c), (h c).2.2⟩)
      (Cert.Kernel12Ideal.Value.run_blocks (F := Ideal) m ρ)
  refine (θ_run Cert.Reference12Ideal.defs _ _).mono (fun _ h c => ⟨(h c).1.trans ?_, (h c).2.1.trans ?_, (h c).2.2⟩)
    (Cert.Reference12Ideal.Value.run (F := Ideal) m' ρ')
  · obtain ⟨h0, h1⟩ := hagree c
    refine (Cert.Reference12Ideal.Read.val_main_v42_eq ..).trans ?_
    rw [h0, h1]
    funext i
    idx_vars i
    exact (Cert.Reference12Ideal.K.ref_apply ..).trans rfl
  · obtain ⟨h0, h1⟩ := hagree c
    refine (Cert.Reference12Ideal.Read.val_main_v43_eq ..).trans ?_
    rw [h0, h1]
    funext i
    idx_vars i
    exact (Cert.Reference12Ideal.K.narrow_apply ..).trans ((Cert.Reference12Ideal.K.ref_apply ..).trans rfl)

theorem quiescent_Reference5Ideal : quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic_Kernel5Ideal_Reference5Ideal : algebraic_Kernel5Ideal_Reference5Ideal := by
  intro m ρ m' ρ' _ hagree
  refine ⟨Cert.Kernel5Ideal.V.Out4 m, Cert.Kernel5Ideal.V.Out5 m, ?_, ?_⟩
  · exact (θ_run Cert.Kernel5Ideal.defs _ _).mono (fun _ h c => ⟨(h c).1.trans (Cert.Kernel5Ideal.V.arr4 m c), (h c).2.1.trans (Cert.Kernel5Ideal.V.arr5 m c), (h c).2.2⟩)
      (Cert.Kernel5Ideal.Value.run_blocks (F := Ideal) m ρ)
  refine (θ_run Cert.Reference5Ideal.defs _ _).mono (fun _ h c => ⟨(h c).1.trans ?_, (h c).2.1.trans ?_, (h c).2.2⟩)
    (Cert.Reference5Ideal.Value.run (F := Ideal) m' ρ')
  · obtain ⟨h0, h1⟩ := hagree c
    refine (Cert.Reference5Ideal.Read.val_main_v10_eq ..).trans ?_
    rw [h0, h1]
    funext i
    idx_vars i
    exact (Cert.Reference5Ideal.V.ref_apply ..).trans rfl
  · obtain ⟨h0, h1⟩ := hagree c
    refine (Cert.Reference5Ideal.Read.val_main_v12_eq ..).trans ?_
    rw [h0, h1]
    funext i
    idx_vars i
    exact (Cert.Reference5Ideal.V.turned_apply ..).trans rfl

theorem quiescent_Reference13Ideal : quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic_Kernel13Ideal_Reference13Ideal : algebraic_Kernel13Ideal_Reference13Ideal := by
  intro m ρ m' ρ' _ hagree
  refine ⟨Cert.Kernel13Ideal.V.Out4 m, ?_, ?_⟩
  · exact (θ_run Cert.Kernel13Ideal.defs _ _).mono (fun _ h c => ⟨(h c).1.trans (Cert.Kernel13Ideal.V.arr4 m c), (h c).2⟩)
      (Cert.Kernel13Ideal.Value.run_blocks (F := Ideal) m ρ)
  refine (θ_run Cert.Reference13Ideal.defs _ _).mono (fun _ h c => ⟨(h c).1.trans ?_, (h c).2⟩)
    (Cert.Reference13Ideal.Value.run (F := Ideal) m' ρ')
  · obtain ⟨h0, h1⟩ := hagree c
    refine (Cert.Reference13Ideal.Read.val_main_v10_eq ..).trans ?_
    rw [h0, h1]
    funext i
    idx_vars i
    exact (Cert.Reference13Ideal.V.ref_apply ..).trans rfl

theorem quiescent_Reference6Ideal : quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem algebraic_Kernel6Ideal_Reference6Ideal : algebraic_Kernel6Ideal_Reference6Ideal := by
  intro m ρ m' ρ' _ hagree
  refine ⟨Cert.Kernel6Ideal.Kiwi.Out4 m, Cert.Kernel6Ideal.Kiwi.Out7 m, ?_, ?_⟩
  · exact (θ_run Cert.Kernel6Ideal.defs _ _).mono (fun _ h c => ⟨(h c).1.trans (Cert.Kernel6Ideal.Kiwi.arr4 m c), (h c).2.2.2.1.trans (Cert.Kernel6Ideal.Kiwi.arr7 m c), (h c).2.2.2.2.2⟩)
      (Cert.Kernel6Ideal.Value.run_blocks (F := Ideal) m ρ)
  refine (θ_run Cert.Reference6Ideal.defs _ _).mono (fun _ h c => ⟨(h c).1.trans ?_, (h c).2.1.trans ?_, (h c).2.2⟩)
    (Cert.Reference6Ideal.Value.run (F := Ideal) m' ρ')
  · obtain ⟨h0, h1⟩ := hagree c
    refine (Cert.Reference6Ideal.Read.val_main_v44_eq ..).trans ?_
    rw [h0, h1]
    funext i
    idx_vars i
    exact (Cert.Reference6Ideal.Kiwi.ref_apply ..).trans rfl
  · obtain ⟨h0, h1⟩ := hagree c
    refine (Cert.Reference6Ideal.Read.val_main_v45_eq ..).trans ?_
    rw [h0, h1]
    funext i
    idx_vars i
    exact (Cert.Reference6Ideal.Kiwi.weight_apply ..).trans rfl

theorem quiescent_Reference14Ideal : quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

theorem algebraic_Kernel14Ideal_Reference14Ideal : algebraic_Kernel14Ideal_Reference14Ideal := by
  intro m ρ m' ρ' _ hagree
  refine ⟨Cert.Kernel14Ideal.Kiwi.Out4 m, Cert.Kernel14Ideal.Kiwi.Out7 m, ?_, ?_⟩
  · exact (θ_run Cert.Kernel14Ideal.defs _ _).mono (fun _ h c => ⟨(h c).1.trans (Cert.Kernel14Ideal.Kiwi.arr4 m c), (h c).2.2.2.1.trans (Cert.Kernel14Ideal.Kiwi.arr7 m c), (h c).2.2.2.2⟩)
      (Cert.Kernel14Ideal.Value.run_blocks (F := Ideal) m ρ)
  refine (θ_run Cert.Reference14Ideal.defs _ _).mono (fun _ h c => ⟨(h c).1.trans ?_, (h c).2.1.trans ?_, (h c).2.2⟩)
    (Cert.Reference14Ideal.Value.run (F := Ideal) m' ρ')
  · obtain ⟨h0, h1⟩ := hagree c
    refine (Cert.Reference14Ideal.Read.val_main_v45_eq ..).trans ?_
    rw [h0, h1]
    funext i
    idx_vars i
    exact (Cert.Reference14Ideal.Kiwi.ref_apply ..).trans rfl
  · obtain ⟨h0, h1⟩ := hagree c
    refine (Cert.Reference14Ideal.Read.val_main_v46_eq ..).trans ?_
    rw [h0, h1]
    funext i
    idx_vars i
    exact (Cert.Reference14Ideal.Kiwi.weight_apply ..).trans rfl

theorem quiescent_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic_Kernel10Ideal_Reference10Ideal : algebraic_Kernel10Ideal_Reference10Ideal := by
  intro m ρ m' ρ' _ hagree
  refine ⟨Cert.Kernel10Ideal.Qi.Out4 m, ?_, ?_⟩
  · exact (θ_run Cert.Kernel10Ideal.defs _ _).mono (fun _ h c => ⟨(h c).1.trans (Cert.Kernel10Ideal.Qi.arr4 m c), (h c).2⟩)
      (Cert.Kernel10Ideal.Value.run_blocks (F := Ideal) m ρ)
  refine (θ_run Cert.Reference10Ideal.defs _ _).mono (fun _ h c => ⟨(h c).1.trans ?_, (h c).2⟩)
    (Cert.Reference10Ideal.Value.run (F := Ideal) m' ρ')
  · obtain ⟨h0, h1⟩ := hagree c
    refine (Cert.Reference10Ideal.Read.val_main_v42_eq ..).trans ?_
    rw [h0, h1]
    funext i
    idx_vars i
    exact (Cert.Reference10Ideal.Qi.narrow_apply ..).trans ((Cert.Reference10Ideal.Qi.ref_apply ..).trans rfl)

theorem quiescent_Reference18Ideal : quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem algebraic_Kernel18Ideal_Reference18Ideal : algebraic_Kernel18Ideal_Reference18Ideal := by
  intro m ρ m' ρ' _ hagree
  refine ⟨Cert.Kernel18Ideal.Qi.Out4 m, ?_, ?_⟩
  · exact (θ_run Cert.Kernel18Ideal.defs _ _).mono (fun _ h c => ⟨(h c).1.trans (Cert.Kernel18Ideal.Qi.arr4 m c), (h c).2⟩)
      (Cert.Kernel18Ideal.Value.run_blocks (F := Ideal) m ρ)
  refine (θ_run Cert.Reference18Ideal.defs _ _).mono (fun _ h c => ⟨(h c).1.trans ?_, (h c).2⟩)
    (Cert.Reference18Ideal.Value.run (F := Ideal) m' ρ')
  · obtain ⟨h0, h1⟩ := hagree c
    refine (Cert.Reference18Ideal.Read.val_main_v43_eq ..).trans ?_
    rw [h0, h1]
    funext i
    idx_vars i
    exact (Cert.Reference18Ideal.Qi.narrow_apply ..).trans ((Cert.Reference18Ideal.Qi.ref_apply ..).trans rfl)

theorem quiescent_Reference9Ideal : quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem algebraic_Kernel9Ideal_Reference9Ideal : algebraic_Kernel9Ideal_Reference9Ideal := by
  intro m ρ m' ρ' _ hagree
  refine ⟨Cert.Kernel9Ideal.Out.Out8 m, Cert.Kernel9Ideal.Out.Out9 m, ?_, ?_⟩
  · exact (θ_run Cert.Kernel9Ideal.defs _ _).mono (fun _ h c => ⟨(h c).1.trans (Cert.Kernel9Ideal.Out.arr8 m c), (h c).2.1.trans (Cert.Kernel9Ideal.Out.arr9 m c), (h c).2.2⟩)
      (Cert.Kernel9Ideal.Value.run_blocks (F := Ideal) m ρ)
  refine (θ_run Cert.Reference9Ideal.defs _ _).mono (fun _ h c => ⟨(h c).1.trans ?_, (h c).2.1.trans ?_, (h c).2.2⟩)
    (Cert.Reference9Ideal.Value.run (F := Ideal) m' ρ')
  · obtain ⟨h0, h1, h2, h3, h4, h5, h6, h7⟩ := hagree c
    refine (Cert.Reference9Ideal.Read.val_main_v26_eq ..).trans ?_
    rw [h0, h1, h2, h3, h4]
    funext i
    idx_vars i
    exact (Cert.Reference9Ideal.Out.ref_apply ..).trans rfl
  · obtain ⟨h0, h1, h2, h3, h4, h5, h6, h7⟩ := hagree c
    refine (Cert.Reference9Ideal.Read.val_main_v28_eq ..).trans ?_
    rw [h0, h1, h2, h3, h4, h5, h6, h7]
    funext i
    idx_vars i
    exact (Cert.Reference9Ideal.Out.norm_apply ..).trans rfl

theorem quiescent_Reference17Ideal : quiescent_Reference17Ideal := fun m ρ _ =>
  (θ_run Cert.Reference17Ideal.defs _ _).mono (fun r h => ⟨fun c => (h c).2.2, sem_eq_zero_of_no_sems (by decide) r.2⟩)
    (Cert.Reference17Ideal.Value.run (F := Ideal) m ρ)

theorem algebraic_Kernel17Ideal_Reference17Ideal : algebraic_Kernel17Ideal_Reference17Ideal := by
  intro m ρ m' ρ' _ hagree
  refine ⟨Cert.Kernel17Ideal.Out.Out8 m, Cert.Kernel17Ideal.Out.Out9 m, ?_, ?_⟩
  · exact (θ_run Cert.Kernel17Ideal.defs _ _).mono (fun _ h c => ⟨(h c).1.trans (Cert.Kernel17Ideal.Out.arr8 m c), (h c).2.1.trans (Cert.Kernel17Ideal.Out.arr9 m c), (h c).2.2⟩)
      (Cert.Kernel17Ideal.Value.run_blocks (F := Ideal) m ρ)
  refine (θ_run Cert.Reference17Ideal.defs _ _).mono (fun _ h c => ⟨(h c).1.trans ?_, (h c).2.1.trans ?_, (h c).2.2⟩)
    (Cert.Reference17Ideal.Value.run (F := Ideal) m' ρ')
  · obtain ⟨h0, h1, h2, h3, h4, h5, h6, h7⟩ := hagree c
    refine (Cert.Reference17Ideal.Read.val_main_v26_eq ..).trans ?_
    rw [h0, h1, h2, h3, h4]
    funext i
    idx_vars i
    exact (Cert.Reference17Ideal.Out.ref_apply ..).trans rfl
  · obtain ⟨h0, h1, h2, h3, h4, h5, h6, h7⟩ := hagree c
    refine (Cert.Reference17Ideal.Read.val_main_v28_eq ..).trans ?_
    rw [h0, h1, h2, h3, h4, h5, h6, h7]
    funext i
    idx_vars i
    exact (Cert.Reference17Ideal.Out.norm_apply ..).trans rfl

theorem quiescent_Reference11Ideal : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic_Kernel11Ideal_Reference11Ideal : algebraic_Kernel11Ideal_Reference11Ideal := by
  intro m ρ m' ρ' _ hagree
  refine ⟨_, Cert.Kernel11Ideal.Value.run (F := Ideal) m ρ, ?_⟩
  refine (θ_run Cert.Reference11Ideal.defs _ _).mono (fun _ h c => ⟨?_, (h c).2⟩) (Cert.Reference11Ideal.Value.run (F := Ideal) m' ρ')
  rw [(h c).1]
  obtain ⟨h0, h1, h2, h3, h4, h5⟩ := hagree c
  rw [h0, h1, h2, h3, h4, h5]
  refine (Cert.Reference11Ideal.Read.val_main_v22_eq _ _ _ _ _ _).trans ?_
  funext i
  idx_vars i
  exact (Cert.Reference11Ideal.Mlp.ref_apply ..).trans (Cert.Kernel11Ideal.Mlp.G6_apply m c i0 i1).symm

theorem quiescent_Reference8Ideal : quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem algebraic_Kernel8Ideal_Reference8Ideal : algebraic_Kernel8Ideal_Reference8Ideal := by
  intro m ρ m' ρ' _ hagree
  refine ⟨Cert.Kernel8Ideal.Q.Out7 m, Cert.Kernel8Ideal.Q.Out8 m, ?_, ?_⟩
  · exact (θ_run Cert.Kernel8Ideal.defs _ _).mono (fun _ h c => ⟨(h c).1.trans (Cert.Kernel8Ideal.Q.arr7 m c), (h c).2.1.trans (Cert.Kernel8Ideal.Q.arr8 m c), (h c).2.2⟩)
      (Cert.Kernel8Ideal.Value.run_blocks (F := Ideal) m ρ)
  refine (θ_run Cert.Reference8Ideal.defs _ _).mono (fun _ h c => ⟨(h c).1.trans ?_, (h c).2.1.trans ?_, (h c).2.2⟩)
    (Cert.Reference8Ideal.Value.run (F := Ideal) m' ρ')
  · obtain ⟨h0, h1, h2, h3, h4⟩ := hagree c
    refine (Cert.Reference8Ideal.Read.val_main_v64_eq ..).trans ?_
    rw [h0, h1, h2, h3]
    funext i
    idx_vars i
    exact (Cert.Reference8Ideal.Q.norm_apply ..).trans rfl
  · obtain ⟨h0, h1, h2, h3, h4⟩ := hagree c
    refine (Cert.Reference8Ideal.Read.val_main_v66_eq ..).trans ?_
    rw [h0, h1, h2, h3, h4]
    funext i
    idx_vars i
    exact (Cert.Reference8Ideal.Q.narrow_apply ..).trans ((Cert.Reference8Ideal.Q.ref_apply ..).trans rfl)

theorem quiescent_Reference16Ideal : quiescent_Reference16Ideal := fun m ρ _ =>
  (θ_run Cert.Reference16Ideal.defs _ _).mono (fun r h => ⟨fun c => (h c).2.2, sem_eq_zero_of_no_sems (by decide) r.2⟩)
    (Cert.Reference16Ideal.Value.run (F := Ideal) m ρ)

theorem algebraic_Kernel16Ideal_Reference16Ideal : algebraic_Kernel16Ideal_Reference16Ideal := by
  intro m ρ m' ρ' _ hagree
  refine ⟨Cert.Kernel16Ideal.Q.Out7 m, Cert.Kernel16Ideal.Q.Out8 m, ?_, ?_⟩
  · exact (θ_run Cert.Kernel16Ideal.defs _ _).mono (fun _ h c => ⟨(h c).1.trans (Cert.Kernel16Ideal.Q.arr7 m c), (h c).2.1.trans (Cert.Kernel16Ideal.Q.arr8 m c), (h c).2.2⟩)
      (Cert.Kernel16Ideal.Value.run_blocks (F := Ideal) m ρ)
  refine (θ_run Cert.Reference16Ideal.defs _ _).mono (fun _ h c => ⟨(h c).1.trans ?_, (h c).2.1.trans ?_, (h c).2.2⟩)
    (Cert.Reference16Ideal.Value.run (F := Ideal) m' ρ')
  · obtain ⟨h0, h1, h2, h3, h4⟩ := hagree c
    refine (Cert.Reference16Ideal.Read.val_main_v65_eq ..).trans ?_
    rw [h0, h1, h2, h3]
    funext i
    idx_vars i
    exact (Cert.Reference16Ideal.Q.norm_apply ..).trans rfl
  · obtain ⟨h0, h1, h2, h3, h4⟩ := hagree c
    refine (Cert.Reference16Ideal.Read.val_main_v67_eq ..).trans ?_
    rw [h0, h1, h2, h3, h4]
    funext i
    idx_vars i
    exact (Cert.Reference16Ideal.Q.narrow_apply ..).trans ((Cert.Reference16Ideal.Q.ref_apply ..).trans rfl)

theorem quiescent_Reference19Ideal : quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem algebraic_Kernel19Ideal_Reference19Ideal : algebraic_Kernel19Ideal_Reference19Ideal := by
  intro m ρ m' ρ' _ hagree
  refine ⟨Cert.Kernel19Ideal.Conv.G m, ?_, ?_⟩
  · exact (θ_run Cert.Kernel19Ideal.defs _ _).mono (fun _ h c => ⟨(h c).1.trans (Cert.Kernel19Ideal.Conv.final m c), (h c).2⟩)
      (Cert.Kernel19Ideal.Conv.blocks_run m ρ)
  refine (θ_run Cert.Reference19Ideal.defs _ _).mono (fun _ h c => ⟨(h c).1.trans ?_, (h c).2⟩)
    (Cert.Reference19Ideal.Value.run (F := Ideal) m' ρ')
  · obtain ⟨h0, h1, h2, h3, h4, h5⟩ := hagree c
    refine (Cert.Reference19Ideal.Read.val_main_v253_eq ..).trans ?_
    show Cert.Reference19Ideal.Read.val_main_v253 (F := Ideal) (m' ((c.tc : Thread _ _).loc Cert.Reference19Ideal.main_arg0)) (m' ((c.tc : Thread _ _).loc Cert.Reference19Ideal.main_arg1)) (m' ((c.tc : Thread _ _).loc Cert.Reference19Ideal.main_arg2)) (m' ((c.tc : Thread _ _).loc Cert.Reference19Ideal.main_arg3)) (m' ((c.tc : Thread _ _).loc Cert.Reference19Ideal.main_arg4)) (m' ((c.tc : Thread _ _).loc Cert.Reference19Ideal.main_arg5)) = _
    rw [h0, h1, h2, h3, h4, h5]
    funext i
    idx_vars i
    exact (Cert.Reference19Ideal.Conv.ref_apply ..).trans rfl

theorem quiescent_Reference20Ideal : quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem algebraic_Kernel20Ideal_Reference20Ideal : algebraic_Kernel20Ideal_Reference20Ideal := by
  intro m ρ m' ρ' _ hagree
  refine ⟨Cert.Kernel20Ideal.Conv.G m, ?_, ?_⟩
  · exact (θ_run Cert.Kernel20Ideal.defs _ _).mono (fun _ h c => ⟨(h c).1.trans (Cert.Kernel20Ideal.Conv.final m c), (h c).2⟩)
      (Cert.Kernel20Ideal.Value.run_blocks (F := Ideal) m ρ)
  refine (θ_run Cert.Reference20Ideal.defs _ _).mono (fun _ h c => ⟨(h c).1.trans ?_, (h c).2⟩)
    (Cert.Reference20Ideal.Value.run (F := Ideal) m' ρ')
  · obtain ⟨h0, h1, h2, h3, h4⟩ := hagree c
    refine (Cert.Reference20Ideal.Read.val_main_v252_eq ..).trans ?_
    show Cert.Reference20Ideal.Read.val_main_v252 (F := Ideal) (m' ((c.tc : Thread _ _).loc Cert.Reference20Ideal.main_arg0)) (m' ((c.tc : Thread _ _).loc Cert.Reference20Ideal.main_arg1)) (m' ((c.tc : Thread _ _).loc Cert.Reference20Ideal.main_arg2)) (m' ((c.tc : Thread _ _).loc Cert.Reference20Ideal.main_arg3)) (m' ((c.tc : Thread _ _).loc Cert.Reference20Ideal.main_arg4)) = _
    rw [h0, h1, h2, h3, h4]
    funext i
    idx_vars i
    exact (Cert.Reference20Ideal.Conv.ref_apply ..).trans rfl

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic_Kernel7Ideal_Reference7Ideal : algebraic_Kernel7Ideal_Reference7Ideal := by
  intro m ρ m' ρ' _ hagree
  refine ⟨Cert.Kernel7Ideal.Ada.G m, ?_, ?_⟩
  · exact (θ_run Cert.Kernel7Ideal.defs _ _).mono (fun _ h c => ⟨(h c).1.trans (Cert.Kernel7Ideal.Ada.final m c), (h c).2⟩)
      (Cert.Kernel7Ideal.Value.run_blocks (F := Ideal) m ρ)
  refine (θ_run Cert.Reference7Ideal.defs _ _).mono (fun _ h c => ⟨(h c).1.trans ?_, (h c).2⟩)
    (Cert.Reference7Ideal.Value.run (F := Ideal) m' ρ')
  · obtain ⟨h0, h1, h2, h3⟩ := hagree c
    refine (Cert.Reference7Ideal.Read.val_main_v16_eq ..).trans ?_
    show Cert.Reference7Ideal.Read.val_main_v16 (F := Ideal) (m' ((c.tc : Thread _ _).loc Cert.Reference7Ideal.main_arg0)) (m' ((c.tc : Thread _ _).loc Cert.Reference7Ideal.main_arg1)) (m' ((c.tc : Thread _ _).loc Cert.Reference7Ideal.main_arg2)) (m' ((c.tc : Thread _ _).loc Cert.Reference7Ideal.main_arg3)) = _
    rw [h0, h1, h2, h3]
    funext i
    idx_vars i
    exact (Cert.Reference7Ideal.Ada.ref_apply ..).trans rfl

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel15.Gen.facts, Cert.Kernel15Ideal.Gen.facts, Cert.Reference15Ideal.Gen.facts, Cert.Kernel4.Gen.facts, Cert.Kernel4Ideal.Gen.facts, Cert.Reference4Ideal.Gen.facts, Cert.Kernel12.Gen.facts, Cert.Kernel12Ideal.Gen.facts, Cert.Reference12Ideal.Gen.facts, Cert.Kernel5.Gen.facts, Cert.Kernel5Ideal.Gen.facts, Cert.Reference5Ideal.Gen.facts, Cert.Kernel13.Gen.facts, Cert.Kernel13Ideal.Gen.facts, Cert.Reference13Ideal.Gen.facts, Cert.Kernel6.Gen.facts, Cert.Kernel6Ideal.Gen.facts, Cert.Reference6Ideal.Gen.facts, Cert.Kernel14.Gen.facts, Cert.Kernel14Ideal.Gen.facts, Cert.Reference14Ideal.Gen.facts, Cert.Kernel10.Gen.facts, Cert.Kernel10Ideal.Gen.facts, Cert.Reference10Ideal.Gen.facts, Cert.Kernel18.Gen.facts, Cert.Kernel18Ideal.Gen.facts, Cert.Reference18Ideal.Gen.facts, Cert.Kernel9.Gen.facts, Cert.Kernel9Ideal.Gen.facts, Cert.Reference9Ideal.Gen.facts, Cert.Kernel17.Gen.facts, Cert.Kernel17Ideal.Gen.facts, Cert.Reference17Ideal.Gen.facts, Cert.Kernel11.Gen.facts, Cert.Kernel11Ideal.Gen.facts, Cert.Reference11Ideal.Gen.facts, Cert.Kernel8.Gen.facts, Cert.Kernel8Ideal.Gen.facts, Cert.Reference8Ideal.Gen.facts, Cert.Kernel16.Gen.facts, Cert.Kernel16Ideal.Gen.facts, Cert.Reference16Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel7.Gen.facts, Cert.Kernel7Ideal.Gen.facts, Cert.Reference7Ideal.Gen.facts,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel15.Gen.frame m ρ, fun m ρ _ => Cert.Kernel15Ideal.Gen.frame m ρ, quiescent_Reference15Ideal,
  fun m ρ _ => Cert.Kernel4.Gen.frame m ρ, fun m ρ _ => Cert.Kernel4Ideal.Gen.frame m ρ, quiescent_Reference4Ideal,
  fun m ρ _ => Cert.Kernel12.Gen.frame m ρ, fun m ρ _ => Cert.Kernel12Ideal.Gen.frame m ρ, quiescent_Reference12Ideal,
  fun m ρ _ => Cert.Kernel5.Gen.frame m ρ, fun m ρ _ => Cert.Kernel5Ideal.Gen.frame m ρ, quiescent_Reference5Ideal,
  fun m ρ _ => Cert.Kernel13.Gen.frame m ρ, fun m ρ _ => Cert.Kernel13Ideal.Gen.frame m ρ, quiescent_Reference13Ideal,
  fun m ρ _ => Cert.Kernel6.Gen.frame m ρ, fun m ρ _ => Cert.Kernel6Ideal.Gen.frame m ρ, quiescent_Reference6Ideal,
  fun m ρ _ => Cert.Kernel14.Gen.frame m ρ, fun m ρ _ => Cert.Kernel14Ideal.Gen.frame m ρ, quiescent_Reference14Ideal,
  fun m ρ _ => Cert.Kernel10.Gen.frame m ρ, fun m ρ _ => Cert.Kernel10Ideal.Gen.frame m ρ, quiescent_Reference10Ideal,
  fun m ρ _ => Cert.Kernel18.Gen.frame m ρ, fun m ρ _ => Cert.Kernel18Ideal.Gen.frame m ρ, quiescent_Reference18Ideal,
  fun m ρ _ => Cert.Kernel9.Gen.frame m ρ, fun m ρ _ => Cert.Kernel9Ideal.Gen.frame m ρ, quiescent_Reference9Ideal,
  fun m ρ _ => Cert.Kernel17.Gen.frame m ρ, fun m ρ _ => Cert.Kernel17Ideal.Gen.frame m ρ, quiescent_Reference17Ideal,
  fun m ρ _ => Cert.Kernel11.Gen.frame m ρ, fun m ρ _ => Cert.Kernel11Ideal.Gen.frame m ρ, quiescent_Reference11Ideal,
  fun m ρ _ => Cert.Kernel8.Gen.frame m ρ, fun m ρ _ => Cert.Kernel8Ideal.Gen.frame m ρ, quiescent_Reference8Ideal,
  fun m ρ _ => Cert.Kernel16.Gen.frame m ρ, fun m ρ _ => Cert.Kernel16Ideal.Gen.frame m ρ, quiescent_Reference16Ideal,
  fun m ρ _ => Cert.Kernel19.Gen.frame m ρ, fun m ρ _ => Cert.Kernel19Ideal.Gen.frame m ρ, quiescent_Reference19Ideal,
  fun m ρ _ => Cert.Kernel20.Gen.frame m ρ, fun m ρ _ => Cert.Kernel20Ideal.Gen.frame m ρ, quiescent_Reference20Ideal,
  fun m ρ _ => Cert.Kernel7.Gen.frame m ρ, fun m ρ _ => Cert.Kernel7Ideal.Gen.frame m ρ, quiescent_Reference7Ideal,
  (trivial : preserves_Kernel2_Kernel2Ideal), algebraic_Kernel2Ideal_Reference2Ideal,
  (trivial : preserves_Kernel3_Kernel3Ideal), algebraic_Kernel3Ideal_Reference3Ideal,
  (trivial : preserves_Kernel15_Kernel15Ideal), algebraic_Kernel15Ideal_Reference15Ideal,
  (trivial : preserves_Kernel4_Kernel4Ideal), algebraic_Kernel4Ideal_Reference4Ideal,
  (trivial : preserves_Kernel12_Kernel12Ideal), algebraic_Kernel12Ideal_Reference12Ideal,
  (trivial : preserves_Kernel5_Kernel5Ideal), algebraic_Kernel5Ideal_Reference5Ideal,
  (trivial : preserves_Kernel13_Kernel13Ideal), algebraic_Kernel13Ideal_Reference13Ideal,
  (trivial : preserves_Kernel6_Kernel6Ideal), algebraic_Kernel6Ideal_Reference6Ideal,
  (trivial : preserves_Kernel14_Kernel14Ideal), algebraic_Kernel14Ideal_Reference14Ideal,
  (trivial : preserves_Kernel10_Kernel10Ideal), algebraic_Kernel10Ideal_Reference10Ideal,
  (trivial : preserves_Kernel18_Kernel18Ideal), algebraic_Kernel18Ideal_Reference18Ideal,
  (trivial : preserves_Kernel9_Kernel9Ideal), algebraic_Kernel9Ideal_Reference9Ideal,
  (trivial : preserves_Kernel17_Kernel17Ideal), algebraic_Kernel17Ideal_Reference17Ideal,
  (trivial : preserves_Kernel11_Kernel11Ideal), algebraic_Kernel11Ideal_Reference11Ideal,
  (trivial : preserves_Kernel8_Kernel8Ideal), algebraic_Kernel8Ideal_Reference8Ideal,
  (trivial : preserves_Kernel16_Kernel16Ideal), algebraic_Kernel16Ideal_Reference16Ideal,
  (trivial : preserves_Kernel19_Kernel19Ideal), algebraic_Kernel19Ideal_Reference19Ideal,
  (trivial : preserves_Kernel20_Kernel20Ideal), algebraic_Kernel20Ideal_Reference20Ideal,
  (trivial : preserves_Kernel7_Kernel7Ideal), algebraic_Kernel7Ideal_Reference7Ideal⟩

end Cert.Proof

end
